-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_COutBwd (m : (ℓ : Loc Cert.COutBwd.nD Cert.COutBwd.τ Cert.COutBwd.sig) → Buf (Elt Bits) ℓ) : Prop :=
  True

def Pre_COutBwdIdeal (m : (ℓ : Loc Cert.COutBwdIdeal.nD Cert.COutBwdIdeal.τ Cert.COutBwdIdeal.sig) → Buf (Elt Ideal) ℓ) : Prop :=
  True

def Pre_COutBwdRefIdeal (m : (ℓ : Loc Cert.COutBwdRefIdeal.nD Cert.COutBwdRefIdeal.τ Cert.COutBwdRefIdeal.sig) → Buf (Elt Ideal) ℓ) : Prop :=
  True

def Pre_CInBwd (m : (ℓ : Loc Cert.CInBwd.nD Cert.CInBwd.τ Cert.CInBwd.sig) → Buf (Elt Bits) ℓ) : Prop :=
  True

def Pre_CInBwdIdeal (m : (ℓ : Loc Cert.CInBwdIdeal.nD Cert.CInBwdIdeal.τ Cert.CInBwdIdeal.sig) → Buf (Elt Ideal) ℓ) : Prop :=
  True

def Pre_CInBwdRefIdeal (m : (ℓ : Loc Cert.CInBwdRefIdeal.nD Cert.CInBwdRefIdeal.τ Cert.CInBwdRefIdeal.sig) → Buf (Elt Ideal) ℓ) : Prop :=
  True

def Pre_BInBwd (m : (ℓ : Loc Cert.BInBwd.nD Cert.BInBwd.τ Cert.BInBwd.sig) → Buf (Elt Bits) ℓ) : Prop :=
  True

def Pre_BInBwdIdeal (m : (ℓ : Loc Cert.BInBwdIdeal.nD Cert.BInBwdIdeal.τ Cert.BInBwdIdeal.sig) → Buf (Elt Ideal) ℓ) : Prop :=
  True

def Pre_BInBwdRefIdeal (m : (ℓ : Loc Cert.BInBwdRefIdeal.nD Cert.BInBwdRefIdeal.τ Cert.BInBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_gmlp_finite [hPre_gmlp_finite : Cert.Pre_gmlp_finite.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6)) (m ((c.tc : Thread Cert.GmlpBwdIdeal.nD Cert.GmlpBwdIdeal.τ).loc Cert.GmlpBwdIdeal.main_arg7))) = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_gmlp_finite [hPre_gmlp_finite : Cert.Pre_gmlp_finite.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6)) (m ((c.tc : Thread Cert.GmlpBwdRefIdeal.nD Cert.GmlpBwdRefIdeal.τ).loc Cert.GmlpBwdRefIdeal.main_arg7))) = (fun _ => 1#1)

def Pre_Pool2Bwd (m : (ℓ : Loc Cert.Pool2Bwd.nD Cert.Pool2Bwd.τ Cert.Pool2Bwd.sig) → Buf (Elt Bits) ℓ) : Prop :=
  True

def Pre_Pool2BwdIdeal (m : (ℓ : Loc Cert.Pool2BwdIdeal.nD Cert.Pool2BwdIdeal.τ Cert.Pool2BwdIdeal.sig) → Buf (Elt Ideal) ℓ) : Prop :=
  True

def Pre_Pool2BwdIdeal_pool_finite [hPre_pool_finite : Cert.Pre_pool_finite.Facts] (m : (ℓ : Loc Cert.Pool2BwdIdeal.nD Cert.Pool2BwdIdeal.τ Cert.Pool2BwdIdeal.sig) → Buf (Elt Ideal) ℓ) : Prop :=
  ∀ c : Dev Cert.Pool2BwdIdeal.nD,
    (Cert.Pre_pool_finite.fn (F := Ideal) (m ((c.tc : Thread Cert.Pool2BwdIdeal.nD Cert.Pool2BwdIdeal.τ).loc Cert.Pool2BwdIdeal.main_arg0)) (m ((c.tc : Thread Cert.Pool2BwdIdeal.nD Cert.Pool2BwdIdeal.τ).loc Cert.Pool2BwdIdeal.main_arg1))) = (fun _ => 1#1)

def Pre_Pool2BwdRefIdeal (m : (ℓ : Loc Cert.Pool2BwdRefIdeal.nD Cert.Pool2BwdRefIdeal.τ Cert.Pool2BwdRefIdeal.sig) → Buf (Elt Ideal) ℓ) : Prop :=
  True

def Pre_Pool2BwdRefIdeal_pool_finite [hPre_pool_finite : Cert.Pre_pool_finite.Facts] (m : (ℓ : Loc Cert.Pool2BwdRefIdeal.nD Cert.Pool2BwdRefIdeal.τ Cert.Pool2BwdRefIdeal.sig) → Buf (Elt Ideal) ℓ) : Prop :=
  ∀ c : Dev Cert.Pool2BwdRefIdeal.nD,
    (Cert.Pre_pool_finite.fn (F := Ideal) (m ((c.tc : Thread Cert.Pool2BwdRefIdeal.nD Cert.Pool2BwdRefIdeal.τ).loc Cert.Pool2BwdRefIdeal.main_arg0)) (m ((c.tc : Thread Cert.Pool2BwdRefIdeal.nD Cert.Pool2BwdRefIdeal.τ).loc Cert.Pool2BwdRefIdeal.main_arg1))) = (fun _ => 1#1)

def Pre_Pool4Bwd (m : (ℓ : Loc Cert.Pool4Bwd.nD Cert.Pool4Bwd.τ Cert.Pool4Bwd.sig) → Buf (Elt Bits) ℓ) : Prop :=
  True

def Pre_Pool4BwdIdeal (m : (ℓ : Loc Cert.Pool4BwdIdeal.nD Cert.Pool4BwdIdeal.τ Cert.Pool4BwdIdeal.sig) → Buf (Elt Ideal) ℓ) : Prop :=
  True

def Pre_Pool4BwdIdeal_pool_finite [hPre_pool_finite : Cert.Pre_pool_finite.Facts] (m : (ℓ : Loc Cert.Pool4BwdIdeal.nD Cert.Pool4BwdIdeal.τ Cert.Pool4BwdIdeal.sig) → Buf (Elt Ideal) ℓ) : Prop :=
  ∀ c : Dev Cert.Pool4BwdIdeal.nD,
    (Cert.Pre_pool_finite.fn (F := Ideal) (m ((c.tc : Thread Cert.Pool4BwdIdeal.nD Cert.Pool4BwdIdeal.τ).loc Cert.Pool4BwdIdeal.main_arg0)) (m ((c.tc : Thread Cert.Pool4BwdIdeal.nD Cert.Pool4BwdIdeal.τ).loc Cert.Pool4BwdIdeal.main_arg1))) = (fun _ => 1#1)

def Pre_Pool4BwdRefIdeal (m : (ℓ : Loc Cert.Pool4BwdRefIdeal.nD Cert.Pool4BwdRefIdeal.τ Cert.Pool4BwdRefIdeal.sig) → Buf (Elt Ideal) ℓ) : Prop :=
  True

def Pre_Pool4BwdRefIdeal_pool_finite [hPre_pool_finite : Cert.Pre_pool_finite.Facts] (m : (ℓ : Loc Cert.Pool4BwdRefIdeal.nD Cert.Pool4BwdRefIdeal.τ Cert.Pool4BwdRefIdeal.sig) → Buf (Elt Ideal) ℓ) : Prop :=
  ∀ c : Dev Cert.Pool4BwdRefIdeal.nD,
    (Cert.Pre_pool_finite.fn (F := Ideal) (m ((c.tc : Thread Cert.Pool4BwdRefIdeal.nD Cert.Pool4BwdRefIdeal.τ).loc Cert.Pool4BwdRefIdeal.main_arg0)) (m ((c.tc : Thread Cert.Pool4BwdRefIdeal.nD Cert.Pool4BwdRefIdeal.τ).loc Cert.Pool4BwdRefIdeal.main_arg1))) = (fun _ => 1#1)

def Pre_Pool8Bwd (m : (ℓ : Loc Cert.Pool8Bwd.nD Cert.Pool8Bwd.τ Cert.Pool8Bwd.sig) → Buf (Elt Bits) ℓ) : Prop :=
  True

def Pre_Pool8BwdIdeal (m : (ℓ : Loc Cert.Pool8BwdIdeal.nD Cert.Pool8BwdIdeal.τ Cert.Pool8BwdIdeal.sig) → Buf (Elt Ideal) ℓ) : Prop :=
  True

def Pre_Pool8BwdIdeal_pool_finite [hPre_pool_finite : Cert.Pre_pool_finite.Facts] (m : (ℓ : Loc Cert.Pool8BwdIdeal.nD Cert.Pool8BwdIdeal.τ Cert.Pool8BwdIdeal.sig) → Buf (Elt Ideal) ℓ) : Prop :=
  ∀ c : Dev Cert.Pool8BwdIdeal.nD,
    (Cert.Pre_pool_finite.fn (F := Ideal) (m ((c.tc : Thread Cert.Pool8BwdIdeal.nD Cert.Pool8BwdIdeal.τ).loc Cert.Pool8BwdIdeal.main_arg0)) (m ((c.tc : Thread Cert.Pool8BwdIdeal.nD Cert.Pool8BwdIdeal.τ).loc Cert.Pool8BwdIdeal.main_arg1))) = (fun _ => 1#1)

def Pre_Pool8BwdRefIdeal (m : (ℓ : Loc Cert.Pool8BwdRefIdeal.nD Cert.Pool8BwdRefIdeal.τ Cert.Pool8BwdRefIdeal.sig) → Buf (Elt Ideal) ℓ) : Prop :=
  True

def Pre_Pool8BwdRefIdeal_pool_finite [hPre_pool_finite : Cert.Pre_pool_finite.Facts] (m : (ℓ : Loc Cert.Pool8BwdRefIdeal.nD Cert.Pool8BwdRefIdeal.τ Cert.Pool8BwdRefIdeal.sig) → Buf (Elt Ideal) ℓ) : Prop :=
  ∀ c : Dev Cert.Pool8BwdRefIdeal.nD,
    (Cert.Pre_pool_finite.fn (F := Ideal) (m ((c.tc : Thread Cert.Pool8BwdRefIdeal.nD Cert.Pool8BwdRefIdeal.τ).loc Cert.Pool8BwdRefIdeal.main_arg0)) (m ((c.tc : Thread Cert.Pool8BwdRefIdeal.nD Cert.Pool8BwdRefIdeal.τ).loc Cert.Pool8BwdRefIdeal.main_arg1))) = (fun _ => 1#1)

def Pre_Pool16Bwd (m : (ℓ : Loc Cert.Pool16Bwd.nD Cert.Pool16Bwd.τ Cert.Pool16Bwd.sig) → Buf (Elt Bits) ℓ) : Prop :=
  True

def Pre_Pool16BwdIdeal (m : (ℓ : Loc Cert.Pool16BwdIdeal.nD Cert.Pool16BwdIdeal.τ Cert.Pool16BwdIdeal.sig) → Buf (Elt Ideal) ℓ) : Prop :=
  True

def Pre_Pool16BwdIdeal_pool_finite [hPre_pool_finite : Cert.Pre_pool_finite.Facts] (m : (ℓ : Loc Cert.Pool16BwdIdeal.nD Cert.Pool16BwdIdeal.τ Cert.Pool16BwdIdeal.sig) → Buf (Elt Ideal) ℓ) : Prop :=
  ∀ c : Dev Cert.Pool16BwdIdeal.nD,
    (Cert.Pre_pool_finite.fn (F := Ideal) (m ((c.tc : Thread Cert.Pool16BwdIdeal.nD Cert.Pool16BwdIdeal.τ).loc Cert.Pool16BwdIdeal.main_arg0)) (m ((c.tc : Thread Cert.Pool16BwdIdeal.nD Cert.Pool16BwdIdeal.τ).loc Cert.Pool16BwdIdeal.main_arg1))) = (fun _ => 1#1)

def Pre_Pool16BwdRefIdeal (m : (ℓ : Loc Cert.Pool16BwdRefIdeal.nD Cert.Pool16BwdRefIdeal.τ Cert.Pool16BwdRefIdeal.sig) → Buf (Elt Ideal) ℓ) : Prop :=
  True

def Pre_Pool16BwdRefIdeal_pool_finite [hPre_pool_finite : Cert.Pre_pool_finite.Facts] (m : (ℓ : Loc Cert.Pool16BwdRefIdeal.nD Cert.Pool16BwdRefIdeal.τ Cert.Pool16BwdRefIdeal.sig) → Buf (Elt Ideal) ℓ) : Prop :=
  ∀ c : Dev Cert.Pool16BwdRefIdeal.nD,
    (Cert.Pre_pool_finite.fn (F := Ideal) (m ((c.tc : Thread Cert.Pool16BwdRefIdeal.nD Cert.Pool16BwdRefIdeal.τ).loc Cert.Pool16BwdRefIdeal.main_arg0)) (m ((c.tc : Thread Cert.Pool16BwdRefIdeal.nD Cert.Pool16BwdRefIdeal.τ).loc Cert.Pool16BwdRefIdeal.main_arg1))) = (fun _ => 1#1)

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_BInFwd (m : (ℓ : Loc Cert.BInFwd.nD Cert.BInFwd.τ Cert.BInFwd.sig) → Buf (Elt Bits) ℓ) : Prop :=
  True

def Pre_BInFwdIdeal (m : (ℓ : Loc Cert.BInFwdIdeal.nD Cert.BInFwdIdeal.τ Cert.BInFwdIdeal.sig) → Buf (Elt Ideal) ℓ) : Prop :=
  True

def Pre_BInFwdRefIdeal (m : (ℓ : Loc Cert.BInFwdRefIdeal.nD Cert.BInFwdRefIdeal.τ Cert.BInFwdRefIdeal.sig) → Buf (Elt Ideal) ℓ) : Prop :=
  True

def Pre_COutFwd (m : (ℓ : Loc Cert.COutFwd.nD Cert.COutFwd.τ Cert.COutFwd.sig) → Buf (Elt Bits) ℓ) : Prop :=
  True

def Pre_COutFwdIdeal (m : (ℓ : Loc Cert.COutFwdIdeal.nD Cert.COutFwdIdeal.τ Cert.COutFwdIdeal.sig) → Buf (Elt Ideal) ℓ) : Prop :=
  True

def Pre_COutFwdRefIdeal (m : (ℓ : Loc Cert.COutFwdRefIdeal.nD Cert.COutFwdRefIdeal.τ Cert.COutFwdRefIdeal.sig) → Buf (Elt Ideal) ℓ) : Prop :=
  True

def Pre_CInFwd (m : (ℓ : Loc Cert.CInFwd.nD Cert.CInFwd.τ Cert.CInFwd.sig) → Buf (Elt Bits) ℓ) : Prop :=
  True

def Pre_CInFwdIdeal (m : (ℓ : Loc Cert.CInFwdIdeal.nD Cert.CInFwdIdeal.τ Cert.CInFwdIdeal.sig) → Buf (Elt Ideal) ℓ) : Prop :=
  True

def Pre_CInFwdRefIdeal (m : (ℓ : Loc Cert.CInFwdRefIdeal.nD Cert.CInFwdRefIdeal.τ Cert.CInFwdRefIdeal.sig) → Buf (Elt Ideal) ℓ) : Prop :=
  True

def Pre_Pool2Fwd (m : (ℓ : Loc Cert.Pool2Fwd.nD Cert.Pool2Fwd.τ Cert.Pool2Fwd.sig) → Buf (Elt Bits) ℓ) : Prop :=
  True

def Pre_Pool2FwdIdeal (m : (ℓ : Loc Cert.Pool2FwdIdeal.nD Cert.Pool2FwdIdeal.τ Cert.Pool2FwdIdeal.sig) → Buf (Elt Ideal) ℓ) : Prop :=
  True

def Pre_Pool2FwdIdeal_pooled_finite [hPre_pooled_finite : Cert.Pre_pooled_finite.Facts] (m : (ℓ : Loc Cert.Pool2FwdIdeal.nD Cert.Pool2FwdIdeal.τ Cert.Pool2FwdIdeal.sig) → Buf (Elt Ideal) ℓ) : Prop :=
  ∀ c : Dev Cert.Pool2FwdIdeal.nD,
    (Cert.Pre_pooled_finite.fn (F := Ideal) (m ((c.tc : Thread Cert.Pool2FwdIdeal.nD Cert.Pool2FwdIdeal.τ).loc Cert.Pool2FwdIdeal.main_arg0))) = (fun _ => 1#1)

def Pre_Pool2FwdRefIdeal (m : (ℓ : Loc Cert.Pool2FwdRefIdeal.nD Cert.Pool2FwdRefIdeal.τ Cert.Pool2FwdRefIdeal.sig) → Buf (Elt Ideal) ℓ) : Prop :=
  True

def Pre_Pool2FwdRefIdeal_pooled_finite [hPre_pooled_finite : Cert.Pre_pooled_finite.Facts] (m : (ℓ : Loc Cert.Pool2FwdRefIdeal.nD Cert.Pool2FwdRefIdeal.τ Cert.Pool2FwdRefIdeal.sig) → Buf (Elt Ideal) ℓ) : Prop :=
  ∀ c : Dev Cert.Pool2FwdRefIdeal.nD,
    (Cert.Pre_pooled_finite.fn (F := Ideal) (m ((c.tc : Thread Cert.Pool2FwdRefIdeal.nD Cert.Pool2FwdRefIdeal.τ).loc Cert.Pool2FwdRefIdeal.main_arg0))) = (fun _ => 1#1)

def Pre_Pool4Fwd (m : (ℓ : Loc Cert.Pool4Fwd.nD Cert.Pool4Fwd.τ Cert.Pool4Fwd.sig) → Buf (Elt Bits) ℓ) : Prop :=
  True

def Pre_Pool4FwdIdeal (m : (ℓ : Loc Cert.Pool4FwdIdeal.nD Cert.Pool4FwdIdeal.τ Cert.Pool4FwdIdeal.sig) → Buf (Elt Ideal) ℓ) : Prop :=
  True

def Pre_Pool4FwdIdeal_pooled_finite [hPre_pooled_finite : Cert.Pre_pooled_finite.Facts] (m : (ℓ : Loc Cert.Pool4FwdIdeal.nD Cert.Pool4FwdIdeal.τ Cert.Pool4FwdIdeal.sig) → Buf (Elt Ideal) ℓ) : Prop :=
  ∀ c : Dev Cert.Pool4FwdIdeal.nD,
    (Cert.Pre_pooled_finite.fn (F := Ideal) (m ((c.tc : Thread Cert.Pool4FwdIdeal.nD Cert.Pool4FwdIdeal.τ).loc Cert.Pool4FwdIdeal.main_arg0))) = (fun _ => 1#1)

def Pre_Pool4FwdRefIdeal (m : (ℓ : Loc Cert.Pool4FwdRefIdeal.nD Cert.Pool4FwdRefIdeal.τ Cert.Pool4FwdRefIdeal.sig) → Buf (Elt Ideal) ℓ) : Prop :=
  True

def Pre_Pool4FwdRefIdeal_pooled_finite [hPre_pooled_finite : Cert.Pre_pooled_finite.Facts] (m : (ℓ : Loc Cert.Pool4FwdRefIdeal.nD Cert.Pool4FwdRefIdeal.τ Cert.Pool4FwdRefIdeal.sig) → Buf (Elt Ideal) ℓ) : Prop :=
  ∀ c : Dev Cert.Pool4FwdRefIdeal.nD,
    (Cert.Pre_pooled_finite.fn (F := Ideal) (m ((c.tc : Thread Cert.Pool4FwdRefIdeal.nD Cert.Pool4FwdRefIdeal.τ).loc Cert.Pool4FwdRefIdeal.main_arg0))) = (fun _ => 1#1)

def Pre_Pool8Fwd (m : (ℓ : Loc Cert.Pool8Fwd.nD Cert.Pool8Fwd.τ Cert.Pool8Fwd.sig) → Buf (Elt Bits) ℓ) : Prop :=
  True

def Pre_Pool8FwdIdeal (m : (ℓ : Loc Cert.Pool8FwdIdeal.nD Cert.Pool8FwdIdeal.τ Cert.Pool8FwdIdeal.sig) → Buf (Elt Ideal) ℓ) : Prop :=
  True

def Pre_Pool8FwdIdeal_pooled_finite [hPre_pooled_finite : Cert.Pre_pooled_finite.Facts] (m : (ℓ : Loc Cert.Pool8FwdIdeal.nD Cert.Pool8FwdIdeal.τ Cert.Pool8FwdIdeal.sig) → Buf (Elt Ideal) ℓ) : Prop :=
  ∀ c : Dev Cert.Pool8FwdIdeal.nD,
    (Cert.Pre_pooled_finite.fn (F := Ideal) (m ((c.tc : Thread Cert.Pool8FwdIdeal.nD Cert.Pool8FwdIdeal.τ).loc Cert.Pool8FwdIdeal.main_arg0))) = (fun _ => 1#1)

def Pre_Pool8FwdRefIdeal (m : (ℓ : Loc Cert.Pool8FwdRefIdeal.nD Cert.Pool8FwdRefIdeal.τ Cert.Pool8FwdRefIdeal.sig) → Buf (Elt Ideal) ℓ) : Prop :=
  True

def Pre_Pool8FwdRefIdeal_pooled_finite [hPre_pooled_finite : Cert.Pre_pooled_finite.Facts] (m : (ℓ : Loc Cert.Pool8FwdRefIdeal.nD Cert.Pool8FwdRefIdeal.τ Cert.Pool8FwdRefIdeal.sig) → Buf (Elt Ideal) ℓ) : Prop :=
  ∀ c : Dev Cert.Pool8FwdRefIdeal.nD,
    (Cert.Pre_pooled_finite.fn (F := Ideal) (m ((c.tc : Thread Cert.Pool8FwdRefIdeal.nD Cert.Pool8FwdRefIdeal.τ).loc Cert.Pool8FwdRefIdeal.main_arg0))) = (fun _ => 1#1)

def Pre_Pool16Fwd (m : (ℓ : Loc Cert.Pool16Fwd.nD Cert.Pool16Fwd.τ Cert.Pool16Fwd.sig) → Buf (Elt Bits) ℓ) : Prop :=
  True

def Pre_Pool16FwdIdeal (m : (ℓ : Loc Cert.Pool16FwdIdeal.nD Cert.Pool16FwdIdeal.τ Cert.Pool16FwdIdeal.sig) → Buf (Elt Ideal) ℓ) : Prop :=
  True

def Pre_Pool16FwdIdeal_pooled_finite [hPre_pooled_finite : Cert.Pre_pooled_finite.Facts] (m : (ℓ : Loc Cert.Pool16FwdIdeal.nD Cert.Pool16FwdIdeal.τ Cert.Pool16FwdIdeal.sig) → Buf (Elt Ideal) ℓ) : Prop :=
  ∀ c : Dev Cert.Pool16FwdIdeal.nD,
    (Cert.Pre_pooled_finite.fn (F := Ideal) (m ((c.tc : Thread Cert.Pool16FwdIdeal.nD Cert.Pool16FwdIdeal.τ).loc Cert.Pool16FwdIdeal.main_arg0))) = (fun _ => 1#1)

def Pre_Pool16FwdRefIdeal (m : (ℓ : Loc Cert.Pool16FwdRefIdeal.nD Cert.Pool16FwdRefIdeal.τ Cert.Pool16FwdRefIdeal.sig) → Buf (Elt Ideal) ℓ) : Prop :=
  True

def Pre_Pool16FwdRefIdeal_pooled_finite [hPre_pooled_finite : Cert.Pre_pooled_finite.Facts] (m : (ℓ : Loc Cert.Pool16FwdRefIdeal.nD Cert.Pool16FwdRefIdeal.τ Cert.Pool16FwdRefIdeal.sig) → Buf (Elt Ideal) ℓ) : Prop :=
  ∀ c : Dev Cert.Pool16FwdRefIdeal.nD,
    (Cert.Pre_pooled_finite.fn (F := Ideal) (m ((c.tc : Thread Cert.Pool16FwdRefIdeal.nD Cert.Pool16FwdRefIdeal.τ).loc Cert.Pool16FwdRefIdeal.main_arg0))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_COutBwd [hCOutBwd : Cert.COutBwd.Facts] : Prop :=
  ∀ (m : (ℓ : Loc Cert.COutBwd.nD Cert.COutBwd.τ Cert.COutBwd.sig) → Buf (Elt Bits) ℓ) (g : Dev Cert.COutBwd.nD → PrngReg), Pre_COutBwd m →
    θ_run (Cert.COutBwd.defs (F := Bits)) (onTc (τ := Cert.COutBwd.τ) (Cert.COutBwd.main (F := Bits))) ⟨m, fun _ => 0, g⟩ (fun r => (∀ c : Dev Cert.COutBwd.nD,
      r.2.mem ((c.tc : Thread Cert.COutBwd.nD Cert.COutBwd.τ).loc Cert.COutBwd.main_arg0) = m ((c.tc : Thread Cert.COutBwd.nD Cert.COutBwd.τ).loc Cert.COutBwd.main_arg0)
      ∧ r.2.mem ((c.tc : Thread Cert.COutBwd.nD Cert.COutBwd.τ).loc Cert.COutBwd.main_arg1) = m ((c.tc : Thread Cert.COutBwd.nD Cert.COutBwd.τ).loc Cert.COutBwd.main_arg1)
      ∧ r.2.mem ((c.tc : Thread Cert.COutBwd.nD Cert.COutBwd.τ).loc Cert.COutBwd.main_arg2) = m ((c.tc : Thread Cert.COutBwd.nD Cert.COutBwd.τ).loc Cert.COutBwd.main_arg2)
      ∧ r.2.mem ((c.tc : Thread Cert.COutBwd.nD Cert.COutBwd.τ).loc Cert.COutBwd.main_arg3) = m ((c.tc : Thread Cert.COutBwd.nD Cert.COutBwd.τ).loc Cert.COutBwd.main_arg3)
      ∧ r.2.mem ((c.tc : Thread Cert.COutBwd.nD Cert.COutBwd.τ).loc Cert.COutBwd.main_arg4) = m ((c.tc : Thread Cert.COutBwd.nD Cert.COutBwd.τ).loc Cert.COutBwd.main_arg4))
      ∧ r.2.sem = fun _ => 0)

def quiescent_COutBwdIdeal [hCOutBwdIdeal : Cert.COutBwdIdeal.Facts] : Prop :=
  ∀ (m : (ℓ : Loc Cert.COutBwdIdeal.nD Cert.COutBwdIdeal.τ Cert.COutBwdIdeal.sig) → Buf (Elt Ideal) ℓ) (g : Dev Cert.COutBwdIdeal.nD → PrngReg), Pre_COutBwdIdeal m →
    θ_run (Cert.COutBwdIdeal.defs (F := Ideal)) (onTc (τ := Cert.COutBwdIdeal.τ) (Cert.COutBwdIdeal.main (F := Ideal))) ⟨m, fun _ => 0, g⟩ (fun r => (∀ c : Dev Cert.COutBwdIdeal.nD,
      r.2.mem ((c.tc : Thread Cert.COutBwdIdeal.nD Cert.COutBwdIdeal.τ).loc Cert.COutBwdIdeal.main_arg0) = m ((c.tc : Thread Cert.COutBwdIdeal.nD Cert.COutBwdIdeal.τ).loc Cert.COutBwdIdeal.main_arg0)
      ∧ r.2.mem ((c.tc : Thread Cert.COutBwdIdeal.nD Cert.COutBwdIdeal.τ).loc Cert.COutBwdIdeal.main_arg1) = m ((c.tc : Thread Cert.COutBwdIdeal.nD Cert.COutBwdIdeal.τ).loc Cert.COutBwdIdeal.main_arg1)
      ∧ r.2.mem ((c.tc : Thread Cert.COutBwdIdeal.nD Cert.COutBwdIdeal.τ).loc Cert.COutBwdIdeal.main_arg2) = m ((c.tc : Thread Cert.COutBwdIdeal.nD Cert.COutBwdIdeal.τ).loc Cert.COutBwdIdeal.main_arg2)
      ∧ r.2.mem ((c.tc : Thread Cert.COutBwdIdeal.nD Cert.COutBwdIdeal.τ).loc Cert.COutBwdIdeal.main_arg3) = m ((c.tc : Thread Cert.COutBwdIdeal.nD Cert.COutBwdIdeal.τ).loc Cert.COutBwdIdeal.main_arg3)
      ∧ r.2.mem ((c.tc : Thread Cert.COutBwdIdeal.nD Cert.COutBwdIdeal.τ).loc Cert.COutBwdIdeal.main_arg4) = m ((c.tc : Thread Cert.COutBwdIdeal.nD Cert.COutBwdIdeal.τ).loc Cert.COutBwdIdeal.main_arg4))
      ∧ r.2.sem = fun _ => 0)

def quiescent_COutBwdRefIdeal [hCOutBwdRefIdeal : Cert.COutBwdRefIdeal.Facts] : Prop :=
  ∀ (m : (ℓ : Loc Cert.COutBwdRefIdeal.nD Cert.COutBwdRefIdeal.τ Cert.COutBwdRefIdeal.sig) → Buf (Elt Ideal) ℓ) (g : Dev Cert.COutBwdRefIdeal.nD → PrngReg), Pre_COutBwdRefIdeal m →
    θ_run (Cert.COutBwdRefIdeal.defs (F := Ideal)) (onTc (τ := Cert.COutBwdRefIdeal.τ) (Cert.COutBwdRefIdeal.main (F := Ideal))) ⟨m, fun _ => 0, g⟩ (fun r => (∀ c : Dev Cert.COutBwdRefIdeal.nD,
      r.2.mem ((c.tc : Thread Cert.COutBwdRefIdeal.nD Cert.COutBwdRefIdeal.τ).loc Cert.COutBwdRefIdeal.main_arg0) = m ((c.tc : Thread Cert.COutBwdRefIdeal.nD Cert.COutBwdRefIdeal.τ).loc Cert.COutBwdRefIdeal.main_arg0)
      ∧ r.2.mem ((c.tc : Thread Cert.COutBwdRefIdeal.nD Cert.COutBwdRefIdeal.τ).loc Cert.COutBwdRefIdeal.main_arg1) = m ((c.tc : Thread Cert.COutBwdRefIdeal.nD Cert.COutBwdRefIdeal.τ).loc Cert.COutBwdRefIdeal.main_arg1)
      ∧ r.2.mem ((c.tc : Thread Cert.COutBwdRefIdeal.nD Cert.COutBwdRefIdeal.τ).loc Cert.COutBwdRefIdeal.main_arg2) = m ((c.tc : Thread Cert.COutBwdRefIdeal.nD Cert.COutBwdRefIdeal.τ).loc Cert.COutBwdRefIdeal.main_arg2)
      ∧ r.2.mem ((c.tc : Thread Cert.COutBwdRefIdeal.nD Cert.COutBwdRefIdeal.τ).loc Cert.COutBwdRefIdeal.main_arg3) = m ((c.tc : Thread Cert.COutBwdRefIdeal.nD Cert.COutBwdRefIdeal.τ).loc Cert.COutBwdRefIdeal.main_arg3)
      ∧ r.2.mem ((c.tc : Thread Cert.COutBwdRefIdeal.nD Cert.COutBwdRefIdeal.τ).loc Cert.COutBwdRefIdeal.main_arg4) = m ((c.tc : Thread Cert.COutBwdRefIdeal.nD Cert.COutBwdRefIdeal.τ).loc Cert.COutBwdRefIdeal.main_arg4))
      ∧ r.2.sem = fun _ => 0)

def quiescent_CInBwd [hCInBwd : Cert.CInBwd.Facts] : Prop :=
  ∀ (m : (ℓ : Loc Cert.CInBwd.nD Cert.CInBwd.τ Cert.CInBwd.sig) → Buf (Elt Bits) ℓ) (g : Dev Cert.CInBwd.nD → PrngReg), Pre_CInBwd m →
    θ_run (Cert.CInBwd.defs (F := Bits)) (onTc (τ := Cert.CInBwd.τ) (Cert.CInBwd.main (F := Bits))) ⟨m, fun _ => 0, g⟩ (fun r => (∀ c : Dev Cert.CInBwd.nD,
      r.2.mem ((c.tc : Thread Cert.CInBwd.nD Cert.CInBwd.τ).loc Cert.CInBwd.main_arg0) = m ((c.tc : Thread Cert.CInBwd.nD Cert.CInBwd.τ).loc Cert.CInBwd.main_arg0)
      ∧ r.2.mem ((c.tc : Thread Cert.CInBwd.nD Cert.CInBwd.τ).loc Cert.CInBwd.main_arg1) = m ((c.tc : Thread Cert.CInBwd.nD Cert.CInBwd.τ).loc Cert.CInBwd.main_arg1)
      ∧ r.2.mem ((c.tc : Thread Cert.CInBwd.nD Cert.CInBwd.τ).loc Cert.CInBwd.main_arg2) = m ((c.tc : Thread Cert.CInBwd.nD Cert.CInBwd.τ).loc Cert.CInBwd.main_arg2)
      ∧ r.2.mem ((c.tc : Thread Cert.CInBwd.nD Cert.CInBwd.τ).loc Cert.CInBwd.main_arg3) = m ((c.tc : Thread Cert.CInBwd.nD Cert.CInBwd.τ).loc Cert.CInBwd.main_arg3)
      ∧ r.2.mem ((c.tc : Thread Cert.CInBwd.nD Cert.CInBwd.τ).loc Cert.CInBwd.main_arg4) = m ((c.tc : Thread Cert.CInBwd.nD Cert.CInBwd.τ).loc Cert.CInBwd.main_arg4))
      ∧ r.2.sem = fun _ => 0)

def quiescent_CInBwdIdeal [hCInBwdIdeal : Cert.CInBwdIdeal.Facts] : Prop :=
  ∀ (m : (ℓ : Loc Cert.CInBwdIdeal.nD Cert.CInBwdIdeal.τ Cert.CInBwdIdeal.sig) → Buf (Elt Ideal) ℓ) (g : Dev Cert.CInBwdIdeal.nD → PrngReg), Pre_CInBwdIdeal m →
    θ_run (Cert.CInBwdIdeal.defs (F := Ideal)) (onTc (τ := Cert.CInBwdIdeal.τ) (Cert.CInBwdIdeal.main (F := Ideal))) ⟨m, fun _ => 0, g⟩ (fun r => (∀ c : Dev Cert.CInBwdIdeal.nD,
      r.2.mem ((c.tc : Thread Cert.CInBwdIdeal.nD Cert.CInBwdIdeal.τ).loc Cert.CInBwdIdeal.main_arg0) = m ((c.tc : Thread Cert.CInBwdIdeal.nD Cert.CInBwdIdeal.τ).loc Cert.CInBwdIdeal.main_arg0)
      ∧ r.2.mem ((c.tc : Thread Cert.CInBwdIdeal.nD Cert.CInBwdIdeal.τ).loc Cert.CInBwdIdeal.main_arg1) = m ((c.tc : Thread Cert.CInBwdIdeal.nD Cert.CInBwdIdeal.τ).loc Cert.CInBwdIdeal.main_arg1)
      ∧ r.2.mem ((c.tc : Thread Cert.CInBwdIdeal.nD Cert.CInBwdIdeal.τ).loc Cert.CInBwdIdeal.main_arg2) = m ((c.tc : Thread Cert.CInBwdIdeal.nD Cert.CInBwdIdeal.τ).loc Cert.CInBwdIdeal.main_arg2)
      ∧ r.2.mem ((c.tc : Thread Cert.CInBwdIdeal.nD Cert.CInBwdIdeal.τ).loc Cert.CInBwdIdeal.main_arg3) = m ((c.tc : Thread Cert.CInBwdIdeal.nD Cert.CInBwdIdeal.τ).loc Cert.CInBwdIdeal.main_arg3)
      ∧ r.2.mem ((c.tc : Thread Cert.CInBwdIdeal.nD Cert.CInBwdIdeal.τ).loc Cert.CInBwdIdeal.main_arg4) = m ((c.tc : Thread Cert.CInBwdIdeal.nD Cert.CInBwdIdeal.τ).loc Cert.CInBwdIdeal.main_arg4))
      ∧ r.2.sem = fun _ => 0)

def quiescent_CInBwdRefIdeal [hCInBwdRefIdeal : Cert.CInBwdRefIdeal.Facts] : Prop :=
  ∀ (m : (ℓ : Loc Cert.CInBwdRefIdeal.nD Cert.CInBwdRefIdeal.τ Cert.CInBwdRefIdeal.sig) → Buf (Elt Ideal) ℓ) (g : Dev Cert.CInBwdRefIdeal.nD → PrngReg), Pre_CInBwdRefIdeal m →
    θ_run (Cert.CInBwdRefIdeal.defs (F := Ideal)) (onTc (τ := Cert.CInBwdRefIdeal.τ) (Cert.CInBwdRefIdeal.main (F := Ideal))) ⟨m, fun _ => 0, g⟩ (fun r => (∀ c : Dev Cert.CInBwdRefIdeal.nD,
      r.2.mem ((c.tc : Thread Cert.CInBwdRefIdeal.nD Cert.CInBwdRefIdeal.τ).loc Cert.CInBwdRefIdeal.main_arg0) = m ((c.tc : Thread Cert.CInBwdRefIdeal.nD Cert.CInBwdRefIdeal.τ).loc Cert.CInBwdRefIdeal.main_arg0)
      ∧ r.2.mem ((c.tc : Thread Cert.CInBwdRefIdeal.nD Cert.CInBwdRefIdeal.τ).loc Cert.CInBwdRefIdeal.main_arg1) = m ((c.tc : Thread Cert.CInBwdRefIdeal.nD Cert.CInBwdRefIdeal.τ).loc Cert.CInBwdRefIdeal.main_arg1)
      ∧ r.2.mem ((c.tc : Thread Cert.CInBwdRefIdeal.nD Cert.CInBwdRefIdeal.τ).loc Cert.CInBwdRefIdeal.main_arg2) = m ((c.tc : Thread Cert.CInBwdRefIdeal.nD Cert.CInBwdRefIdeal.τ).loc Cert.CInBwdRefIdeal.main_arg2)
      ∧ r.2.mem ((c.tc : Thread Cert.CInBwdRefIdeal.nD Cert.CInBwdRefIdeal.τ).loc Cert.CInBwdRefIdeal.main_arg3) = m ((c.tc : Thread Cert.CInBwdRefIdeal.nD Cert.CInBwdRefIdeal.τ).loc Cert.CInBwdRefIdeal.main_arg3)
      ∧ r.2.mem ((c.tc : Thread Cert.CInBwdRefIdeal.nD Cert.CInBwdRefIdeal.τ).loc Cert.CInBwdRefIdeal.main_arg4) = m ((c.tc : Thread Cert.CInBwdRefIdeal.nD Cert.CInBwdRefIdeal.τ).loc Cert.CInBwdRefIdeal.main_arg4))
      ∧ r.2.sem = fun _ => 0)

def quiescent_BInBwd [hBInBwd : Cert.BInBwd.Facts] : Prop :=
  ∀ (m : (ℓ : Loc Cert.BInBwd.nD Cert.BInBwd.τ Cert.BInBwd.sig) → Buf (Elt Bits) ℓ) (g : Dev Cert.BInBwd.nD → PrngReg), Pre_BInBwd m →
    θ_run (Cert.BInBwd.defs (F := Bits)) (onTc (τ := Cert.BInBwd.τ) (Cert.BInBwd.main (F := Bits))) ⟨m, fun _ => 0, g⟩ (fun r => (∀ c : Dev Cert.BInBwd.nD,
      r.2.mem ((c.tc : Thread Cert.BInBwd.nD Cert.BInBwd.τ).loc Cert.BInBwd.main_arg0) = m ((c.tc : Thread Cert.BInBwd.nD Cert.BInBwd.τ).loc Cert.BInBwd.main_arg0)
      ∧ r.2.mem ((c.tc : Thread Cert.BInBwd.nD Cert.BInBwd.τ).loc Cert.BInBwd.main_arg1) = m ((c.tc : Thread Cert.BInBwd.nD Cert.BInBwd.τ).loc Cert.BInBwd.main_arg1)
      ∧ r.2.mem ((c.tc : Thread Cert.BInBwd.nD Cert.BInBwd.τ).loc Cert.BInBwd.main_arg2) = m ((c.tc : Thread Cert.BInBwd.nD Cert.BInBwd.τ).loc Cert.BInBwd.main_arg2)
      ∧ r.2.mem ((c.tc : Thread Cert.BInBwd.nD Cert.BInBwd.τ).loc Cert.BInBwd.main_arg3) = m ((c.tc : Thread Cert.BInBwd.nD Cert.BInBwd.τ).loc Cert.BInBwd.main_arg3)
      ∧ r.2.mem ((c.tc : Thread Cert.BInBwd.nD Cert.BInBwd.τ).loc Cert.BInBwd.main_arg4) = m ((c.tc : Thread Cert.BInBwd.nD Cert.BInBwd.τ).loc Cert.BInBwd.main_arg4))
      ∧ r.2.sem = fun _ => 0)

def quiescent_BInBwdIdeal [hBInBwdIdeal : Cert.BInBwdIdeal.Facts] : Prop :=
  ∀ (m : (ℓ : Loc Cert.BInBwdIdeal.nD Cert.BInBwdIdeal.τ Cert.BInBwdIdeal.sig) → Buf (Elt Ideal) ℓ) (g : Dev Cert.BInBwdIdeal.nD → PrngReg), Pre_BInBwdIdeal m →
    θ_run (Cert.BInBwdIdeal.defs (F := Ideal)) (onTc (τ := Cert.BInBwdIdeal.τ) (Cert.BInBwdIdeal.main (F := Ideal))) ⟨m, fun _ => 0, g⟩ (fun r => (∀ c : Dev Cert.BInBwdIdeal.nD,
      r.2.mem ((c.tc : Thread Cert.BInBwdIdeal.nD Cert.BInBwdIdeal.τ).loc Cert.BInBwdIdeal.main_arg0) = m ((c.tc : Thread Cert.BInBwdIdeal.nD Cert.BInBwdIdeal.τ).loc Cert.BInBwdIdeal.main_arg0)
      ∧ r.2.mem ((c.tc : Thread Cert.BInBwdIdeal.nD Cert.BInBwdIdeal.τ).loc Cert.BInBwdIdeal.main_arg1) = m ((c.tc : Thread Cert.BInBwdIdeal.nD Cert.BInBwdIdeal.τ).loc Cert.BInBwdIdeal.main_arg1)
      ∧ r.2.mem ((c.tc : Thread Cert.BInBwdIdeal.nD Cert.BInBwdIdeal.τ).loc Cert.BInBwdIdeal.main_arg2) = m ((c.tc : Thread Cert.BInBwdIdeal.nD Cert.BInBwdIdeal.τ).loc Cert.BInBwdIdeal.main_arg2)
      ∧ r.2.mem ((c.tc : Thread Cert.BInBwdIdeal.nD Cert.BInBwdIdeal.τ).loc Cert.BInBwdIdeal.main_arg3) = m ((c.tc : Thread Cert.BInBwdIdeal.nD Cert.BInBwdIdeal.τ).loc Cert.BInBwdIdeal.main_arg3)
      ∧ r.2.mem ((c.tc : Thread Cert.BInBwdIdeal.nD Cert.BInBwdIdeal.τ).loc Cert.BInBwdIdeal.main_arg4) = m ((c.tc : Thread Cert.BInBwdIdeal.nD Cert.BInBwdIdeal.τ).loc Cert.BInBwdIdeal.main_arg4))
      ∧ r.2.sem = fun _ => 0)

def quiescent_BInBwdRefIdeal [hBInBwdRefIdeal : Cert.BInBwdRefIdeal.Facts] : Prop :=
  ∀ (m : (ℓ : Loc Cert.BInBwdRefIdeal.nD Cert.BInBwdRefIdeal.τ Cert.BInBwdRefIdeal.sig) → Buf (Elt Ideal) ℓ) (g : Dev Cert.BInBwdRefIdeal.nD → PrngReg), Pre_BInBwdRefIdeal m →
    θ_run (Cert.BInBwdRefIdeal.defs (F := Ideal)) (onTc (τ := Cert.BInBwdRefIdeal.τ) (Cert.BInBwdRefIdeal.main (F := Ideal))) ⟨m, fun _ => 0, g⟩ (fun r => (∀ c : Dev Cert.BInBwdRefIdeal.nD,
      r.2.mem ((c.tc : Thread Cert.BInBwdRefIdeal.nD Cert.BInBwdRefIdeal.τ).loc Cert.BInBwdRefIdeal.main_arg0) = m ((c.tc : Thread Cert.BInBwdRefIdeal.nD Cert.BInBwdRefIdeal.τ).loc Cert.BInBwdRefIdeal.main_arg0)
      ∧ r.2.mem ((c.tc : Thread Cert.BInBwdRefIdeal.nD Cert.BInBwdRefIdeal.τ).loc Cert.BInBwdRefIdeal.main_arg1) = m ((c.tc : Thread Cert.BInBwdRefIdeal.nD Cert.BInBwdRefIdeal.τ).loc Cert.BInBwdRefIdeal.main_arg1)
      ∧ r.2.mem ((c.tc : Thread Cert.BInBwdRefIdeal.nD Cert.BInBwdRefIdeal.τ).loc Cert.BInBwdRefIdeal.main_arg2) = m ((c.tc : Thread Cert.BInBwdRefIdeal.nD Cert.BInBwdRefIdeal.τ).loc Cert.BInBwdRefIdeal.main_arg2)
      ∧ r.2.mem ((c.tc : Thread Cert.BInBwdRefIdeal.nD Cert.BInBwdRefIdeal.τ).loc Cert.BInBwdRefIdeal.main_arg3) = m ((c.tc : Thread Cert.BInBwdRefIdeal.nD Cert.BInBwdRefIdeal.τ).loc Cert.BInBwdRefIdeal.main_arg3)
      ∧ r.2.mem ((c.tc : Thread Cert.BInBwdRefIdeal.nD Cert.BInBwdRefIdeal.τ).loc Cert.BInBwdRefIdeal.main_arg4) = m ((c.tc : Thread Cert.BInBwdRefIdeal.nD Cert.BInBwdRefIdeal.τ).loc Cert.BInBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5)
      ∧ r.2.mem ((c.tc : Thread Cert.GmlpBwd.nD Cert.GmlpBwd.τ).loc Cert.GmlpBwd.main_arg6) = m ((c.tc : Thread Cert.GmlpBwd.nD Cert.GmlpBwd.τ).loc Cert.GmlpBwd.main_arg6)
      ∧ r.2.mem ((c.tc : Thread Cert.GmlpBwd.nD Cert.GmlpBwd.τ).loc Cert.GmlpBwd.main_arg7) = m ((c.tc : Thread Cert.GmlpBwd.nD Cert.GmlpBwd.τ).loc Cert.GmlpBwd.main_arg7))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpBwdIdeal_pre_gmlp_finite [hGmlpBwdIdeal : Cert.GmlpBwdIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_gmlp_finite m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6)
      ∧ r.2.mem ((c.tc : Thread Cert.GmlpBwdRefIdeal.nD Cert.GmlpBwdRefIdeal.τ).loc Cert.GmlpBwdRefIdeal.main_arg7) = m ((c.tc : Thread Cert.GmlpBwdRefIdeal.nD Cert.GmlpBwdRefIdeal.τ).loc Cert.GmlpBwdRefIdeal.main_arg7))
      ∧ r.2.sem = fun _ => 0)

def quiescent_GmlpBwdRefIdeal_pre_gmlp_finite [hGmlpBwdRefIdeal : Cert.GmlpBwdRefIdeal.Facts] [hPre_gmlp_finite : Cert.Pre_gmlp_finite.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_gmlp_finite m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6)
      ∧ r.2.mem ((c.tc : Thread Cert.GmlpBwdRefIdeal.nD Cert.GmlpBwdRefIdeal.τ).loc Cert.GmlpBwdRefIdeal.main_arg7) = m ((c.tc : Thread Cert.GmlpBwdRefIdeal.nD Cert.GmlpBwdRefIdeal.τ).loc Cert.GmlpBwdRefIdeal.main_arg7))
      ∧ r.2.sem = fun _ => 0)

def quiescent_Pool2Bwd [hPool2Bwd : Cert.Pool2Bwd.Facts] : Prop :=
  ∀ (m : (ℓ : Loc Cert.Pool2Bwd.nD Cert.Pool2Bwd.τ Cert.Pool2Bwd.sig) → Buf (Elt Bits) ℓ) (g : Dev Cert.Pool2Bwd.nD → PrngReg), Pre_Pool2Bwd m →
    θ_run (Cert.Pool2Bwd.defs (F := Bits)) (onTc (τ := Cert.Pool2Bwd.τ) (Cert.Pool2Bwd.main (F := Bits))) ⟨m, fun _ => 0, g⟩ (fun r => (∀ c : Dev Cert.Pool2Bwd.nD,
      r.2.mem ((c.tc : Thread Cert.Pool2Bwd.nD Cert.Pool2Bwd.τ).loc Cert.Pool2Bwd.main_arg0) = m ((c.tc : Thread Cert.Pool2Bwd.nD Cert.Pool2Bwd.τ).loc Cert.Pool2Bwd.main_arg0)
      ∧ r.2.mem ((c.tc : Thread Cert.Pool2Bwd.nD Cert.Pool2Bwd.τ).loc Cert.Pool2Bwd.main_arg1) = m ((c.tc : Thread Cert.Pool2Bwd.nD Cert.Pool2Bwd.τ).loc Cert.Pool2Bwd.main_arg1))
      ∧ r.2.sem = fun _ => 0)

def quiescent_Pool2BwdIdeal [hPool2BwdIdeal : Cert.Pool2BwdIdeal.Facts] : Prop :=
  ∀ (m : (ℓ : Loc Cert.Pool2BwdIdeal.nD Cert.Pool2BwdIdeal.τ Cert.Pool2BwdIdeal.sig) → Buf (Elt Ideal) ℓ) (g : Dev Cert.Pool2BwdIdeal.nD → PrngReg), Pre_Pool2BwdIdeal m →
    θ_run (Cert.Pool2BwdIdeal.defs (F := Ideal)) (onTc (τ := Cert.Pool2BwdIdeal.τ) (Cert.Pool2BwdIdeal.main (F := Ideal))) ⟨m, fun _ => 0, g⟩ (fun r => (∀ c : Dev Cert.Pool2BwdIdeal.nD,
      r.2.mem ((c.tc : Thread Cert.Pool2BwdIdeal.nD Cert.Pool2BwdIdeal.τ).loc Cert.Pool2BwdIdeal.main_arg0) = m ((c.tc : Thread Cert.Pool2BwdIdeal.nD Cert.Pool2BwdIdeal.τ).loc Cert.Pool2BwdIdeal.main_arg0)
      ∧ r.2.mem ((c.tc : Thread Cert.Pool2BwdIdeal.nD Cert.Pool2BwdIdeal.τ).loc Cert.Pool2BwdIdeal.main_arg1) = m ((c.tc : Thread Cert.Pool2BwdIdeal.nD Cert.Pool2BwdIdeal.τ).loc Cert.Pool2BwdIdeal.main_arg1))
      ∧ r.2.sem = fun _ => 0)

def quiescent_Pool2BwdIdeal_pre_pool_finite [hPool2BwdIdeal : Cert.Pool2BwdIdeal.Facts] [hPre_pool_finite : Cert.Pre_pool_finite.Facts] : Prop :=
  ∀ (m : (ℓ : Loc Cert.Pool2BwdIdeal.nD Cert.Pool2BwdIdeal.τ Cert.Pool2BwdIdeal.sig) → Buf (Elt Ideal) ℓ) (g : Dev Cert.Pool2BwdIdeal.nD → PrngReg), Pre_Pool2BwdIdeal_pool_finite m →
    θ_run (Cert.Pool2BwdIdeal.defs (F := Ideal)) (onTc (τ := Cert.Pool2BwdIdeal.τ) (Cert.Pool2BwdIdeal.main (F := Ideal))) ⟨m, fun _ => 0, g⟩ (fun r => (∀ c : Dev Cert.Pool2BwdIdeal.nD,
      r.2.mem ((c.tc : Thread Cert.Pool2BwdIdeal.nD Cert.Pool2BwdIdeal.τ).loc Cert.Pool2BwdIdeal.main_arg0) = m ((c.tc : Thread Cert.Pool2BwdIdeal.nD Cert.Pool2BwdIdeal.τ).loc Cert.Pool2BwdIdeal.main_arg0)
      ∧ r.2.mem ((c.tc : Thread Cert.Pool2BwdIdeal.nD Cert.Pool2BwdIdeal.τ).loc Cert.Pool2BwdIdeal.main_arg1) = m ((c.tc : Thread Cert.Pool2BwdIdeal.nD Cert.Pool2BwdIdeal.τ).loc Cert.Pool2BwdIdeal.main_arg1))
      ∧ r.2.sem = fun _ => 0)

def quiescent_Pool2BwdRefIdeal [hPool2BwdRefIdeal : Cert.Pool2BwdRefIdeal.Facts] : Prop :=
  ∀ (m : (ℓ : Loc Cert.Pool2BwdRefIdeal.nD Cert.Pool2BwdRefIdeal.τ Cert.Pool2BwdRefIdeal.sig) → Buf (Elt Ideal) ℓ) (g : Dev Cert.Pool2BwdRefIdeal.nD → PrngReg), Pre_Pool2BwdRefIdeal m →
    θ_run (Cert.Pool2BwdRefIdeal.defs (F := Ideal)) (onTc (τ := Cert.Pool2BwdRefIdeal.τ) (Cert.Pool2BwdRefIdeal.main (F := Ideal))) ⟨m, fun _ => 0, g⟩ (fun r => (∀ c : Dev Cert.Pool2BwdRefIdeal.nD,
      r.2.mem ((c.tc : Thread Cert.Pool2BwdRefIdeal.nD Cert.Pool2BwdRefIdeal.τ).loc Cert.Pool2BwdRefIdeal.main_arg0) = m ((c.tc : Thread Cert.Pool2BwdRefIdeal.nD Cert.Pool2BwdRefIdeal.τ).loc Cert.Pool2BwdRefIdeal.main_arg0)
      ∧ r.2.mem ((c.tc : Thread Cert.Pool2BwdRefIdeal.nD Cert.Pool2BwdRefIdeal.τ).loc Cert.Pool2BwdRefIdeal.main_arg1) = m ((c.tc : Thread Cert.Pool2BwdRefIdeal.nD Cert.Pool2BwdRefIdeal.τ).loc Cert.Pool2BwdRefIdeal.main_arg1))
      ∧ r.2.sem = fun _ => 0)

def quiescent_Pool2BwdRefIdeal_pre_pool_finite [hPool2BwdRefIdeal : Cert.Pool2BwdRefIdeal.Facts] [hPre_pool_finite : Cert.Pre_pool_finite.Facts] : Prop :=
  ∀ (m : (ℓ : Loc Cert.Pool2BwdRefIdeal.nD Cert.Pool2BwdRefIdeal.τ Cert.Pool2BwdRefIdeal.sig) → Buf (Elt Ideal) ℓ) (g : Dev Cert.Pool2BwdRefIdeal.nD → PrngReg), Pre_Pool2BwdRefIdeal_pool_finite m →
    θ_run (Cert.Pool2BwdRefIdeal.defs (F := Ideal)) (onTc (τ := Cert.Pool2BwdRefIdeal.τ) (Cert.Pool2BwdRefIdeal.main (F := Ideal))) ⟨m, fun _ => 0, g⟩ (fun r => (∀ c : Dev Cert.Pool2BwdRefIdeal.nD,
      r.2.mem ((c.tc : Thread Cert.Pool2BwdRefIdeal.nD Cert.Pool2BwdRefIdeal.τ).loc Cert.Pool2BwdRefIdeal.main_arg0) = m ((c.tc : Thread Cert.Pool2BwdRefIdeal.nD Cert.Pool2BwdRefIdeal.τ).loc Cert.Pool2BwdRefIdeal.main_arg0)
      ∧ r.2.mem ((c.tc : Thread Cert.Pool2BwdRefIdeal.nD Cert.Pool2BwdRefIdeal.τ).loc Cert.Pool2BwdRefIdeal.main_arg1) = m ((c.tc : Thread Cert.Pool2BwdRefIdeal.nD Cert.Pool2BwdRefIdeal.τ).loc Cert.Pool2BwdRefIdeal.main_arg1))
      ∧ r.2.sem = fun _ => 0)

def quiescent_Pool4Bwd [hPool4Bwd : Cert.Pool4Bwd.Facts] : Prop :=
  ∀ (m : (ℓ : Loc Cert.Pool4Bwd.nD Cert.Pool4Bwd.τ Cert.Pool4Bwd.sig) → Buf (Elt Bits) ℓ) (g : Dev Cert.Pool4Bwd.nD → PrngReg), Pre_Pool4Bwd m →
    θ_run (Cert.Pool4Bwd.defs (F := Bits)) (onTc (τ := Cert.Pool4Bwd.τ) (Cert.Pool4Bwd.main (F := Bits))) ⟨m, fun _ => 0, g⟩ (fun r => (∀ c : Dev Cert.Pool4Bwd.nD,
      r.2.mem ((c.tc : Thread Cert.Pool4Bwd.nD Cert.Pool4Bwd.τ).loc Cert.Pool4Bwd.main_arg0) = m ((c.tc : Thread Cert.Pool4Bwd.nD Cert.Pool4Bwd.τ).loc Cert.Pool4Bwd.main_arg0)
      ∧ r.2.mem ((c.tc : Thread Cert.Pool4Bwd.nD Cert.Pool4Bwd.τ).loc Cert.Pool4Bwd.main_arg1) = m ((c.tc : Thread Cert.Pool4Bwd.nD Cert.Pool4Bwd.τ).loc Cert.Pool4Bwd.main_arg1))
      ∧ r.2.sem = fun _ => 0)

def quiescent_Pool4BwdIdeal [hPool4BwdIdeal : Cert.Pool4BwdIdeal.Facts] : Prop :=
  ∀ (m : (ℓ : Loc Cert.Pool4BwdIdeal.nD Cert.Pool4BwdIdeal.τ Cert.Pool4BwdIdeal.sig) → Buf (Elt Ideal) ℓ) (g : Dev Cert.Pool4BwdIdeal.nD → PrngReg), Pre_Pool4BwdIdeal m →
    θ_run (Cert.Pool4BwdIdeal.defs (F := Ideal)) (onTc (τ := Cert.Pool4BwdIdeal.τ) (Cert.Pool4BwdIdeal.main (F := Ideal))) ⟨m, fun _ => 0, g⟩ (fun r => (∀ c : Dev Cert.Pool4BwdIdeal.nD,
      r.2.mem ((c.tc : Thread Cert.Pool4BwdIdeal.nD Cert.Pool4BwdIdeal.τ).loc Cert.Pool4BwdIdeal.main_arg0) = m ((c.tc : Thread Cert.Pool4BwdIdeal.nD Cert.Pool4BwdIdeal.τ).loc Cert.Pool4BwdIdeal.main_arg0)
      ∧ r.2.mem ((c.tc : Thread Cert.Pool4BwdIdeal.nD Cert.Pool4BwdIdeal.τ).loc Cert.Pool4BwdIdeal.main_arg1) = m ((c.tc : Thread Cert.Pool4BwdIdeal.nD Cert.Pool4BwdIdeal.τ).loc Cert.Pool4BwdIdeal.main_arg1))
      ∧ r.2.sem = fun _ => 0)

def quiescent_Pool4BwdIdeal_pre_pool_finite [hPool4BwdIdeal : Cert.Pool4BwdIdeal.Facts] [hPre_pool_finite : Cert.Pre_pool_finite.Facts] : Prop :=
  ∀ (m : (ℓ : Loc Cert.Pool4BwdIdeal.nD Cert.Pool4BwdIdeal.τ Cert.Pool4BwdIdeal.sig) → Buf (Elt Ideal) ℓ) (g : Dev Cert.Pool4BwdIdeal.nD → PrngReg), Pre_Pool4BwdIdeal_pool_finite m →
    θ_run (Cert.Pool4BwdIdeal.defs (F := Ideal)) (onTc (τ := Cert.Pool4BwdIdeal.τ) (Cert.Pool4BwdIdeal.main (F := Ideal))) ⟨m, fun _ => 0, g⟩ (fun r => (∀ c : Dev Cert.Pool4BwdIdeal.nD,
      r.2.mem ((c.tc : Thread Cert.Pool4BwdIdeal.nD Cert.Pool4BwdIdeal.τ).loc Cert.Pool4BwdIdeal.main_arg0) = m ((c.tc : Thread Cert.Pool4BwdIdeal.nD Cert.Pool4BwdIdeal.τ).loc Cert.Pool4BwdIdeal.main_arg0)
      ∧ r.2.mem ((c.tc : Thread Cert.Pool4BwdIdeal.nD Cert.Pool4BwdIdeal.τ).loc Cert.Pool4BwdIdeal.main_arg1) = m ((c.tc : Thread Cert.Pool4BwdIdeal.nD Cert.Pool4BwdIdeal.τ).loc Cert.Pool4BwdIdeal.main_arg1))
      ∧ r.2.sem = fun _ => 0)

def quiescent_Pool4BwdRefIdeal [hPool4BwdRefIdeal : Cert.Pool4BwdRefIdeal.Facts] : Prop :=
  ∀ (m : (ℓ : Loc Cert.Pool4BwdRefIdeal.nD Cert.Pool4BwdRefIdeal.τ Cert.Pool4BwdRefIdeal.sig) → Buf (Elt Ideal) ℓ) (g : Dev Cert.Pool4BwdRefIdeal.nD → PrngReg), Pre_Pool4BwdRefIdeal m →
    θ_run (Cert.Pool4BwdRefIdeal.defs (F := Ideal)) (onTc (τ := Cert.Pool4BwdRefIdeal.τ) (Cert.Pool4BwdRefIdeal.main (F := Ideal))) ⟨m, fun _ => 0, g⟩ (fun r => (∀ c : Dev Cert.Pool4BwdRefIdeal.nD,
      r.2.mem ((c.tc : Thread Cert.Pool4BwdRefIdeal.nD Cert.Pool4BwdRefIdeal.τ).loc Cert.Pool4BwdRefIdeal.main_arg0) = m ((c.tc : Thread Cert.Pool4BwdRefIdeal.nD Cert.Pool4BwdRefIdeal.τ).loc Cert.Pool4BwdRefIdeal.main_arg0)
      ∧ r.2.mem ((c.tc : Thread Cert.Pool4BwdRefIdeal.nD Cert.Pool4BwdRefIdeal.τ).loc Cert.Pool4BwdRefIdeal.main_arg1) = m ((c.tc : Thread Cert.Pool4BwdRefIdeal.nD Cert.Pool4BwdRefIdeal.τ).loc Cert.Pool4BwdRefIdeal.main_arg1))
      ∧ r.2.sem = fun _ => 0)

def quiescent_Pool4BwdRefIdeal_pre_pool_finite [hPool4BwdRefIdeal : Cert.Pool4BwdRefIdeal.Facts] [hPre_pool_finite : Cert.Pre_pool_finite.Facts] : Prop :=
  ∀ (m : (ℓ : Loc Cert.Pool4BwdRefIdeal.nD Cert.Pool4BwdRefIdeal.τ Cert.Pool4BwdRefIdeal.sig) → Buf (Elt Ideal) ℓ) (g : Dev Cert.Pool4BwdRefIdeal.nD → PrngReg), Pre_Pool4BwdRefIdeal_pool_finite m →
    θ_run (Cert.Pool4BwdRefIdeal.defs (F := Ideal)) (onTc (τ := Cert.Pool4BwdRefIdeal.τ) (Cert.Pool4BwdRefIdeal.main (F := Ideal))) ⟨m, fun _ => 0, g⟩ (fun r => (∀ c : Dev Cert.Pool4BwdRefIdeal.nD,
      r.2.mem ((c.tc : Thread Cert.Pool4BwdRefIdeal.nD Cert.Pool4BwdRefIdeal.τ).loc Cert.Pool4BwdRefIdeal.main_arg0) = m ((c.tc : Thread Cert.Pool4BwdRefIdeal.nD Cert.Pool4BwdRefIdeal.τ).loc Cert.Pool4BwdRefIdeal.main_arg0)
      ∧ r.2.mem ((c.tc : Thread Cert.Pool4BwdRefIdeal.nD Cert.Pool4BwdRefIdeal.τ).loc Cert.Pool4BwdRefIdeal.main_arg1) = m ((c.tc : Thread Cert.Pool4BwdRefIdeal.nD Cert.Pool4BwdRefIdeal.τ).loc Cert.Pool4BwdRefIdeal.main_arg1))
      ∧ r.2.sem = fun _ => 0)

def quiescent_Pool8Bwd [hPool8Bwd : Cert.Pool8Bwd.Facts] : Prop :=
  ∀ (m : (ℓ : Loc Cert.Pool8Bwd.nD Cert.Pool8Bwd.τ Cert.Pool8Bwd.sig) → Buf (Elt Bits) ℓ) (g : Dev Cert.Pool8Bwd.nD → PrngReg), Pre_Pool8Bwd m →
    θ_run (Cert.Pool8Bwd.defs (F := Bits)) (onTc (τ := Cert.Pool8Bwd.τ) (Cert.Pool8Bwd.main (F := Bits))) ⟨m, fun _ => 0, g⟩ (fun r => (∀ c : Dev Cert.Pool8Bwd.nD,
      r.2.mem ((c.tc : Thread Cert.Pool8Bwd.nD Cert.Pool8Bwd.τ).loc Cert.Pool8Bwd.main_arg0) = m ((c.tc : Thread Cert.Pool8Bwd.nD Cert.Pool8Bwd.τ).loc Cert.Pool8Bwd.main_arg0)
      ∧ r.2.mem ((c.tc : Thread Cert.Pool8Bwd.nD Cert.Pool8Bwd.τ).loc Cert.Pool8Bwd.main_arg1) = m ((c.tc : Thread Cert.Pool8Bwd.nD Cert.Pool8Bwd.τ).loc Cert.Pool8Bwd.main_arg1))
      ∧ r.2.sem = fun _ => 0)

def quiescent_Pool8BwdIdeal [hPool8BwdIdeal : Cert.Pool8BwdIdeal.Facts] : Prop :=
  ∀ (m : (ℓ : Loc Cert.Pool8BwdIdeal.nD Cert.Pool8BwdIdeal.τ Cert.Pool8BwdIdeal.sig) → Buf (Elt Ideal) ℓ) (g : Dev Cert.Pool8BwdIdeal.nD → PrngReg), Pre_Pool8BwdIdeal m →
    θ_run (Cert.Pool8BwdIdeal.defs (F := Ideal)) (onTc (τ := Cert.Pool8BwdIdeal.τ) (Cert.Pool8BwdIdeal.main (F := Ideal))) ⟨m, fun _ => 0, g⟩ (fun r => (∀ c : Dev Cert.Pool8BwdIdeal.nD,
      r.2.mem ((c.tc : Thread Cert.Pool8BwdIdeal.nD Cert.Pool8BwdIdeal.τ).loc Cert.Pool8BwdIdeal.main_arg0) = m ((c.tc : Thread Cert.Pool8BwdIdeal.nD Cert.Pool8BwdIdeal.τ).loc Cert.Pool8BwdIdeal.main_arg0)
      ∧ r.2.mem ((c.tc : Thread Cert.Pool8BwdIdeal.nD Cert.Pool8BwdIdeal.τ).loc Cert.Pool8BwdIdeal.main_arg1) = m ((c.tc : Thread Cert.Pool8BwdIdeal.nD Cert.Pool8BwdIdeal.τ).loc Cert.Pool8BwdIdeal.main_arg1))
      ∧ r.2.sem = fun _ => 0)

def quiescent_Pool8BwdIdeal_pre_pool_finite [hPool8BwdIdeal : Cert.Pool8BwdIdeal.Facts] [hPre_pool_finite : Cert.Pre_pool_finite.Facts] : Prop :=
  ∀ (m : (ℓ : Loc Cert.Pool8BwdIdeal.nD Cert.Pool8BwdIdeal.τ Cert.Pool8BwdIdeal.sig) → Buf (Elt Ideal) ℓ) (g : Dev Cert.Pool8BwdIdeal.nD → PrngReg), Pre_Pool8BwdIdeal_pool_finite m →
    θ_run (Cert.Pool8BwdIdeal.defs (F := Ideal)) (onTc (τ := Cert.Pool8BwdIdeal.τ) (Cert.Pool8BwdIdeal.main (F := Ideal))) ⟨m, fun _ => 0, g⟩ (fun r => (∀ c : Dev Cert.Pool8BwdIdeal.nD,
      r.2.mem ((c.tc : Thread Cert.Pool8BwdIdeal.nD Cert.Pool8BwdIdeal.τ).loc Cert.Pool8BwdIdeal.main_arg0) = m ((c.tc : Thread Cert.Pool8BwdIdeal.nD Cert.Pool8BwdIdeal.τ).loc Cert.Pool8BwdIdeal.main_arg0)
      ∧ r.2.mem ((c.tc : Thread Cert.Pool8BwdIdeal.nD Cert.Pool8BwdIdeal.τ).loc Cert.Pool8BwdIdeal.main_arg1) = m ((c.tc : Thread Cert.Pool8BwdIdeal.nD Cert.Pool8BwdIdeal.τ).loc Cert.Pool8BwdIdeal.main_arg1))
      ∧ r.2.sem = fun _ => 0)

def quiescent_Pool8BwdRefIdeal [hPool8BwdRefIdeal : Cert.Pool8BwdRefIdeal.Facts] : Prop :=
  ∀ (m : (ℓ : Loc Cert.Pool8BwdRefIdeal.nD Cert.Pool8BwdRefIdeal.τ Cert.Pool8BwdRefIdeal.sig) → Buf (Elt Ideal) ℓ) (g : Dev Cert.Pool8BwdRefIdeal.nD → PrngReg), Pre_Pool8BwdRefIdeal m →
    θ_run (Cert.Pool8BwdRefIdeal.defs (F := Ideal)) (onTc (τ := Cert.Pool8BwdRefIdeal.τ) (Cert.Pool8BwdRefIdeal.main (F := Ideal))) ⟨m, fun _ => 0, g⟩ (fun r => (∀ c : Dev Cert.Pool8BwdRefIdeal.nD,
      r.2.mem ((c.tc : Thread Cert.Pool8BwdRefIdeal.nD Cert.Pool8BwdRefIdeal.τ).loc Cert.Pool8BwdRefIdeal.main_arg0) = m ((c.tc : Thread Cert.Pool8BwdRefIdeal.nD Cert.Pool8BwdRefIdeal.τ).loc Cert.Pool8BwdRefIdeal.main_arg0)
      ∧ r.2.mem ((c.tc : Thread Cert.Pool8BwdRefIdeal.nD Cert.Pool8BwdRefIdeal.τ).loc Cert.Pool8BwdRefIdeal.main_arg1) = m ((c.tc : Thread Cert.Pool8BwdRefIdeal.nD Cert.Pool8BwdRefIdeal.τ).loc Cert.Pool8BwdRefIdeal.main_arg1))
      ∧ r.2.sem = fun _ => 0)

def quiescent_Pool8BwdRefIdeal_pre_pool_finite [hPool8BwdRefIdeal : Cert.Pool8BwdRefIdeal.Facts] [hPre_pool_finite : Cert.Pre_pool_finite.Facts] : Prop :=
  ∀ (m : (ℓ : Loc Cert.Pool8BwdRefIdeal.nD Cert.Pool8BwdRefIdeal.τ Cert.Pool8BwdRefIdeal.sig) → Buf (Elt Ideal) ℓ) (g : Dev Cert.Pool8BwdRefIdeal.nD → PrngReg), Pre_Pool8BwdRefIdeal_pool_finite m →
    θ_run (Cert.Pool8BwdRefIdeal.defs (F := Ideal)) (onTc (τ := Cert.Pool8BwdRefIdeal.τ) (Cert.Pool8BwdRefIdeal.main (F := Ideal))) ⟨m, fun _ => 0, g⟩ (fun r => (∀ c : Dev Cert.Pool8BwdRefIdeal.nD,
      r.2.mem ((c.tc : Thread Cert.Pool8BwdRefIdeal.nD Cert.Pool8BwdRefIdeal.τ).loc Cert.Pool8BwdRefIdeal.main_arg0) = m ((c.tc : Thread Cert.Pool8BwdRefIdeal.nD Cert.Pool8BwdRefIdeal.τ).loc Cert.Pool8BwdRefIdeal.main_arg0)
      ∧ r.2.mem ((c.tc : Thread Cert.Pool8BwdRefIdeal.nD Cert.Pool8BwdRefIdeal.τ).loc Cert.Pool8BwdRefIdeal.main_arg1) = m ((c.tc : Thread Cert.Pool8BwdRefIdeal.nD Cert.Pool8BwdRefIdeal.τ).loc Cert.Pool8BwdRefIdeal.main_arg1))
      ∧ r.2.sem = fun _ => 0)

def quiescent_Pool16Bwd [hPool16Bwd : Cert.Pool16Bwd.Facts] : Prop :=
  ∀ (m : (ℓ : Loc Cert.Pool16Bwd.nD Cert.Pool16Bwd.τ Cert.Pool16Bwd.sig) → Buf (Elt Bits) ℓ) (g : Dev Cert.Pool16Bwd.nD → PrngReg), Pre_Pool16Bwd m →
    θ_run (Cert.Pool16Bwd.defs (F := Bits)) (onTc (τ := Cert.Pool16Bwd.τ) (Cert.Pool16Bwd.main (F := Bits))) ⟨m, fun _ => 0, g⟩ (fun r => (∀ c : Dev Cert.Pool16Bwd.nD,
      r.2.mem ((c.tc : Thread Cert.Pool16Bwd.nD Cert.Pool16Bwd.τ).loc Cert.Pool16Bwd.main_arg0) = m ((c.tc : Thread Cert.Pool16Bwd.nD Cert.Pool16Bwd.τ).loc Cert.Pool16Bwd.main_arg0)
      ∧ r.2.mem ((c.tc : Thread Cert.Pool16Bwd.nD Cert.Pool16Bwd.τ).loc Cert.Pool16Bwd.main_arg1) = m ((c.tc : Thread Cert.Pool16Bwd.nD Cert.Pool16Bwd.τ).loc Cert.Pool16Bwd.main_arg1))
      ∧ r.2.sem = fun _ => 0)

def quiescent_Pool16BwdIdeal [hPool16BwdIdeal : Cert.Pool16BwdIdeal.Facts] : Prop :=
  ∀ (m : (ℓ : Loc Cert.Pool16BwdIdeal.nD Cert.Pool16BwdIdeal.τ Cert.Pool16BwdIdeal.sig) → Buf (Elt Ideal) ℓ) (g : Dev Cert.Pool16BwdIdeal.nD → PrngReg), Pre_Pool16BwdIdeal m →
    θ_run (Cert.Pool16BwdIdeal.defs (F := Ideal)) (onTc (τ := Cert.Pool16BwdIdeal.τ) (Cert.Pool16BwdIdeal.main (F := Ideal))) ⟨m, fun _ => 0, g⟩ (fun r => (∀ c : Dev Cert.Pool16BwdIdeal.nD,
      r.2.mem ((c.tc : Thread Cert.Pool16BwdIdeal.nD Cert.Pool16BwdIdeal.τ).loc Cert.Pool16BwdIdeal.main_arg0) = m ((c.tc : Thread Cert.Pool16BwdIdeal.nD Cert.Pool16BwdIdeal.τ).loc Cert.Pool16BwdIdeal.main_arg0)
      ∧ r.2.mem ((c.tc : Thread Cert.Pool16BwdIdeal.nD Cert.Pool16BwdIdeal.τ).loc Cert.Pool16BwdIdeal.main_arg1) = m ((c.tc : Thread Cert.Pool16BwdIdeal.nD Cert.Pool16BwdIdeal.τ).loc Cert.Pool16BwdIdeal.main_arg1))
      ∧ r.2.sem = fun _ => 0)

def quiescent_Pool16BwdIdeal_pre_pool_finite [hPool16BwdIdeal : Cert.Pool16BwdIdeal.Facts] [hPre_pool_finite : Cert.Pre_pool_finite.Facts] : Prop :=
  ∀ (m : (ℓ : Loc Cert.Pool16BwdIdeal.nD Cert.Pool16BwdIdeal.τ Cert.Pool16BwdIdeal.sig) → Buf (Elt Ideal) ℓ) (g : Dev Cert.Pool16BwdIdeal.nD → PrngReg), Pre_Pool16BwdIdeal_pool_finite m →
    θ_run (Cert.Pool16BwdIdeal.defs (F := Ideal)) (onTc (τ := Cert.Pool16BwdIdeal.τ) (Cert.Pool16BwdIdeal.main (F := Ideal))) ⟨m, fun _ => 0, g⟩ (fun r => (∀ c : Dev Cert.Pool16BwdIdeal.nD,
      r.2.mem ((c.tc : Thread Cert.Pool16BwdIdeal.nD Cert.Pool16BwdIdeal.τ).loc Cert.Pool16BwdIdeal.main_arg0) = m ((c.tc : Thread Cert.Pool16BwdIdeal.nD Cert.Pool16BwdIdeal.τ).loc Cert.Pool16BwdIdeal.main_arg0)
      ∧ r.2.mem ((c.tc : Thread Cert.Pool16BwdIdeal.nD Cert.Pool16BwdIdeal.τ).loc Cert.Pool16BwdIdeal.main_arg1) = m ((c.tc : Thread Cert.Pool16BwdIdeal.nD Cert.Pool16BwdIdeal.τ).loc Cert.Pool16BwdIdeal.main_arg1))
      ∧ r.2.sem = fun _ => 0)

def quiescent_Pool16BwdRefIdeal [hPool16BwdRefIdeal : Cert.Pool16BwdRefIdeal.Facts] : Prop :=
  ∀ (m : (ℓ : Loc Cert.Pool16BwdRefIdeal.nD Cert.Pool16BwdRefIdeal.τ Cert.Pool16BwdRefIdeal.sig) → Buf (Elt Ideal) ℓ) (g : Dev Cert.Pool16BwdRefIdeal.nD → PrngReg), Pre_Pool16BwdRefIdeal m →
    θ_run (Cert.Pool16BwdRefIdeal.defs (F := Ideal)) (onTc (τ := Cert.Pool16BwdRefIdeal.τ) (Cert.Pool16BwdRefIdeal.main (F := Ideal))) ⟨m, fun _ => 0, g⟩ (fun r => (∀ c : Dev Cert.Pool16BwdRefIdeal.nD,
      r.2.mem ((c.tc : Thread Cert.Pool16BwdRefIdeal.nD Cert.Pool16BwdRefIdeal.τ).loc Cert.Pool16BwdRefIdeal.main_arg0) = m ((c.tc : Thread Cert.Pool16BwdRefIdeal.nD Cert.Pool16BwdRefIdeal.τ).loc Cert.Pool16BwdRefIdeal.main_arg0)
      ∧ r.2.mem ((c.tc : Thread Cert.Pool16BwdRefIdeal.nD Cert.Pool16BwdRefIdeal.τ).loc Cert.Pool16BwdRefIdeal.main_arg1) = m ((c.tc : Thread Cert.Pool16BwdRefIdeal.nD Cert.Pool16BwdRefIdeal.τ).loc Cert.Pool16BwdRefIdeal.main_arg1))
      ∧ r.2.sem = fun _ => 0)

def quiescent_Pool16BwdRefIdeal_pre_pool_finite [hPool16BwdRefIdeal : Cert.Pool16BwdRefIdeal.Facts] [hPre_pool_finite : Cert.Pre_pool_finite.Facts] : Prop :=
  ∀ (m : (ℓ : Loc Cert.Pool16BwdRefIdeal.nD Cert.Pool16BwdRefIdeal.τ Cert.Pool16BwdRefIdeal.sig) → Buf (Elt Ideal) ℓ) (g : Dev Cert.Pool16BwdRefIdeal.nD → PrngReg), Pre_Pool16BwdRefIdeal_pool_finite m →
    θ_run (Cert.Pool16BwdRefIdeal.defs (F := Ideal)) (onTc (τ := Cert.Pool16BwdRefIdeal.τ) (Cert.Pool16BwdRefIdeal.main (F := Ideal))) ⟨m, fun _ => 0, g⟩ (fun r => (∀ c : Dev Cert.Pool16BwdRefIdeal.nD,
      r.2.mem ((c.tc : Thread Cert.Pool16BwdRefIdeal.nD Cert.Pool16BwdRefIdeal.τ).loc Cert.Pool16BwdRefIdeal.main_arg0) = m ((c.tc : Thread Cert.Pool16BwdRefIdeal.nD Cert.Pool16BwdRefIdeal.τ).loc Cert.Pool16BwdRefIdeal.main_arg0)
      ∧ r.2.mem ((c.tc : Thread Cert.Pool16BwdRefIdeal.nD Cert.Pool16BwdRefIdeal.τ).loc Cert.Pool16BwdRefIdeal.main_arg1) = m ((c.tc : Thread Cert.Pool16BwdRefIdeal.nD Cert.Pool16BwdRefIdeal.τ).loc Cert.Pool16BwdRefIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4)
      ∧ r.2.mem ((c.tc : Thread Cert.GmlpFwd.nD Cert.GmlpFwd.τ).loc Cert.GmlpFwd.main_arg5) = m ((c.tc : Thread Cert.GmlpFwd.nD Cert.GmlpFwd.τ).loc Cert.GmlpFwd.main_arg5)
      ∧ r.2.mem ((c.tc : Thread Cert.GmlpFwd.nD Cert.GmlpFwd.τ).loc Cert.GmlpFwd.main_arg6) = m ((c.tc : Thread Cert.GmlpFwd.nD Cert.GmlpFwd.τ).loc Cert.GmlpFwd.main_arg6))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
      ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5)
      ∧ r.2.mem ((c.tc : Thread Cert.GmlpFwdIdeal.nD Cert.GmlpFwdIdeal.τ).loc Cert.GmlpFwdIdeal.main_arg6) = m ((c.tc : Thread Cert.GmlpFwdIdeal.nD Cert.GmlpFwdIdeal.τ).loc Cert.GmlpFwdIdeal.main_arg6))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4)
      ∧ r.2.mem ((c.tc : Thread Cert.GmlpFwdRefIdeal.nD Cert.GmlpFwdRefIdeal.τ).loc Cert.GmlpFwdRefIdeal.main_arg5) = m ((c.tc : Thread Cert.GmlpFwdRefIdeal.nD Cert.GmlpFwdRefIdeal.τ).loc Cert.GmlpFwdRefIdeal.main_arg5)
      ∧ r.2.mem ((c.tc : Thread Cert.GmlpFwdRefIdeal.nD Cert.GmlpFwdRefIdeal.τ).loc Cert.GmlpFwdRefIdeal.main_arg6) = m ((c.tc : Thread Cert.GmlpFwdRefIdeal.nD Cert.GmlpFwdRefIdeal.τ).loc Cert.GmlpFwdRefIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_BInFwd [hBInFwd : Cert.BInFwd.Facts] : Prop :=
  ∀ (m : (ℓ : Loc Cert.BInFwd.nD Cert.BInFwd.τ Cert.BInFwd.sig) → Buf (Elt Bits) ℓ) (g : Dev Cert.BInFwd.nD → PrngReg), Pre_BInFwd m →
    θ_run (Cert.BInFwd.defs (F := Bits)) (onTc (τ := Cert.BInFwd.τ) (Cert.BInFwd.main (F := Bits))) ⟨m, fun _ => 0, g⟩ (fun r => (∀ c : Dev Cert.BInFwd.nD,
      r.2.mem ((c.tc : Thread Cert.BInFwd.nD Cert.BInFwd.τ).loc Cert.BInFwd.main_arg0) = m ((c.tc : Thread Cert.BInFwd.nD Cert.BInFwd.τ).loc Cert.BInFwd.main_arg0)
      ∧ r.2.mem ((c.tc : Thread Cert.BInFwd.nD Cert.BInFwd.τ).loc Cert.BInFwd.main_arg1) = m ((c.tc : Thread Cert.BInFwd.nD Cert.BInFwd.τ).loc Cert.BInFwd.main_arg1)
      ∧ r.2.mem ((c.tc : Thread Cert.BInFwd.nD Cert.BInFwd.τ).loc Cert.BInFwd.main_arg2) = m ((c.tc : Thread Cert.BInFwd.nD Cert.BInFwd.τ).loc Cert.BInFwd.main_arg2))
      ∧ r.2.sem = fun _ => 0)

def quiescent_BInFwdIdeal [hBInFwdIdeal : Cert.BInFwdIdeal.Facts] : Prop :=
  ∀ (m : (ℓ : Loc Cert.BInFwdIdeal.nD Cert.BInFwdIdeal.τ Cert.BInFwdIdeal.sig) → Buf (Elt Ideal) ℓ) (g : Dev Cert.BInFwdIdeal.nD → PrngReg), Pre_BInFwdIdeal m →
    θ_run (Cert.BInFwdIdeal.defs (F := Ideal)) (onTc (τ := Cert.BInFwdIdeal.τ) (Cert.BInFwdIdeal.main (F := Ideal))) ⟨m, fun _ => 0, g⟩ (fun r => (∀ c : Dev Cert.BInFwdIdeal.nD,
      r.2.mem ((c.tc : Thread Cert.BInFwdIdeal.nD Cert.BInFwdIdeal.τ).loc Cert.BInFwdIdeal.main_arg0) = m ((c.tc : Thread Cert.BInFwdIdeal.nD Cert.BInFwdIdeal.τ).loc Cert.BInFwdIdeal.main_arg0)
      ∧ r.2.mem ((c.tc : Thread Cert.BInFwdIdeal.nD Cert.BInFwdIdeal.τ).loc Cert.BInFwdIdeal.main_arg1) = m ((c.tc : Thread Cert.BInFwdIdeal.nD Cert.BInFwdIdeal.τ).loc Cert.BInFwdIdeal.main_arg1)
      ∧ r.2.mem ((c.tc : Thread Cert.BInFwdIdeal.nD Cert.BInFwdIdeal.τ).loc Cert.BInFwdIdeal.main_arg2) = m ((c.tc : Thread Cert.BInFwdIdeal.nD Cert.BInFwdIdeal.τ).loc Cert.BInFwdIdeal.main_arg2))
      ∧ r.2.sem = fun _ => 0)

def quiescent_BInFwdRefIdeal [hBInFwdRefIdeal : Cert.BInFwdRefIdeal.Facts] : Prop :=
  ∀ (m : (ℓ : Loc Cert.BInFwdRefIdeal.nD Cert.BInFwdRefIdeal.τ Cert.BInFwdRefIdeal.sig) → Buf (Elt Ideal) ℓ) (g : Dev Cert.BInFwdRefIdeal.nD → PrngReg), Pre_BInFwdRefIdeal m →
    θ_run (Cert.BInFwdRefIdeal.defs (F := Ideal)) (onTc (τ := Cert.BInFwdRefIdeal.τ) (Cert.BInFwdRefIdeal.main (F := Ideal))) ⟨m, fun _ => 0, g⟩ (fun r => (∀ c : Dev Cert.BInFwdRefIdeal.nD,
      r.2.mem ((c.tc : Thread Cert.BInFwdRefIdeal.nD Cert.BInFwdRefIdeal.τ).loc Cert.BInFwdRefIdeal.main_arg0) = m ((c.tc : Thread Cert.BInFwdRefIdeal.nD Cert.BInFwdRefIdeal.τ).loc Cert.BInFwdRefIdeal.main_arg0)
      ∧ r.2.mem ((c.tc : Thread Cert.BInFwdRefIdeal.nD Cert.BInFwdRefIdeal.τ).loc Cert.BInFwdRefIdeal.main_arg1) = m ((c.tc : Thread Cert.BInFwdRefIdeal.nD Cert.BInFwdRefIdeal.τ).loc Cert.BInFwdRefIdeal.main_arg1)
      ∧ r.2.mem ((c.tc : Thread Cert.BInFwdRefIdeal.nD Cert.BInFwdRefIdeal.τ).loc Cert.BInFwdRefIdeal.main_arg2) = m ((c.tc : Thread Cert.BInFwdRefIdeal.nD Cert.BInFwdRefIdeal.τ).loc Cert.BInFwdRefIdeal.main_arg2))
      ∧ r.2.sem = fun _ => 0)

def quiescent_COutFwd [hCOutFwd : Cert.COutFwd.Facts] : Prop :=
  ∀ (m : (ℓ : Loc Cert.COutFwd.nD Cert.COutFwd.τ Cert.COutFwd.sig) → Buf (Elt Bits) ℓ) (g : Dev Cert.COutFwd.nD → PrngReg), Pre_COutFwd m →
    θ_run (Cert.COutFwd.defs (F := Bits)) (onTc (τ := Cert.COutFwd.τ) (Cert.COutFwd.main (F := Bits))) ⟨m, fun _ => 0, g⟩ (fun r => (∀ c : Dev Cert.COutFwd.nD,
      r.2.mem ((c.tc : Thread Cert.COutFwd.nD Cert.COutFwd.τ).loc Cert.COutFwd.main_arg0) = m ((c.tc : Thread Cert.COutFwd.nD Cert.COutFwd.τ).loc Cert.COutFwd.main_arg0)
      ∧ r.2.mem ((c.tc : Thread Cert.COutFwd.nD Cert.COutFwd.τ).loc Cert.COutFwd.main_arg1) = m ((c.tc : Thread Cert.COutFwd.nD Cert.COutFwd.τ).loc Cert.COutFwd.main_arg1)
      ∧ r.2.mem ((c.tc : Thread Cert.COutFwd.nD Cert.COutFwd.τ).loc Cert.COutFwd.main_arg2) = m ((c.tc : Thread Cert.COutFwd.nD Cert.COutFwd.τ).loc Cert.COutFwd.main_arg2)
      ∧ r.2.mem ((c.tc : Thread Cert.COutFwd.nD Cert.COutFwd.τ).loc Cert.COutFwd.main_arg3) = m ((c.tc : Thread Cert.COutFwd.nD Cert.COutFwd.τ).loc Cert.COutFwd.main_arg3)
      ∧ r.2.mem ((c.tc : Thread Cert.COutFwd.nD Cert.COutFwd.τ).loc Cert.COutFwd.main_arg4) = m ((c.tc : Thread Cert.COutFwd.nD Cert.COutFwd.τ).loc Cert.COutFwd.main_arg4))
      ∧ r.2.sem = fun _ => 0)

def quiescent_COutFwdIdeal [hCOutFwdIdeal : Cert.COutFwdIdeal.Facts] : Prop :=
  ∀ (m : (ℓ : Loc Cert.COutFwdIdeal.nD Cert.COutFwdIdeal.τ Cert.COutFwdIdeal.sig) → Buf (Elt Ideal) ℓ) (g : Dev Cert.COutFwdIdeal.nD → PrngReg), Pre_COutFwdIdeal m →
    θ_run (Cert.COutFwdIdeal.defs (F := Ideal)) (onTc (τ := Cert.COutFwdIdeal.τ) (Cert.COutFwdIdeal.main (F := Ideal))) ⟨m, fun _ => 0, g⟩ (fun r => (∀ c : Dev Cert.COutFwdIdeal.nD,
      r.2.mem ((c.tc : Thread Cert.COutFwdIdeal.nD Cert.COutFwdIdeal.τ).loc Cert.COutFwdIdeal.main_arg0) = m ((c.tc : Thread Cert.COutFwdIdeal.nD Cert.COutFwdIdeal.τ).loc Cert.COutFwdIdeal.main_arg0)
      ∧ r.2.mem ((c.tc : Thread Cert.COutFwdIdeal.nD Cert.COutFwdIdeal.τ).loc Cert.COutFwdIdeal.main_arg1) = m ((c.tc : Thread Cert.COutFwdIdeal.nD Cert.COutFwdIdeal.τ).loc Cert.COutFwdIdeal.main_arg1)
      ∧ r.2.mem ((c.tc : Thread Cert.COutFwdIdeal.nD Cert.COutFwdIdeal.τ).loc Cert.COutFwdIdeal.main_arg2) = m ((c.tc : Thread Cert.COutFwdIdeal.nD Cert.COutFwdIdeal.τ).loc Cert.COutFwdIdeal.main_arg2)
      ∧ r.2.mem ((c.tc : Thread Cert.COutFwdIdeal.nD Cert.COutFwdIdeal.τ).loc Cert.COutFwdIdeal.main_arg3) = m ((c.tc : Thread Cert.COutFwdIdeal.nD Cert.COutFwdIdeal.τ).loc Cert.COutFwdIdeal.main_arg3)
      ∧ r.2.mem ((c.tc : Thread Cert.COutFwdIdeal.nD Cert.COutFwdIdeal.τ).loc Cert.COutFwdIdeal.main_arg4) = m ((c.tc : Thread Cert.COutFwdIdeal.nD Cert.COutFwdIdeal.τ).loc Cert.COutFwdIdeal.main_arg4))
      ∧ r.2.sem = fun _ => 0)

def quiescent_COutFwdRefIdeal [hCOutFwdRefIdeal : Cert.COutFwdRefIdeal.Facts] : Prop :=
  ∀ (m : (ℓ : Loc Cert.COutFwdRefIdeal.nD Cert.COutFwdRefIdeal.τ Cert.COutFwdRefIdeal.sig) → Buf (Elt Ideal) ℓ) (g : Dev Cert.COutFwdRefIdeal.nD → PrngReg), Pre_COutFwdRefIdeal m →
    θ_run (Cert.COutFwdRefIdeal.defs (F := Ideal)) (onTc (τ := Cert.COutFwdRefIdeal.τ) (Cert.COutFwdRefIdeal.main (F := Ideal))) ⟨m, fun _ => 0, g⟩ (fun r => (∀ c : Dev Cert.COutFwdRefIdeal.nD,
      r.2.mem ((c.tc : Thread Cert.COutFwdRefIdeal.nD Cert.COutFwdRefIdeal.τ).loc Cert.COutFwdRefIdeal.main_arg0) = m ((c.tc : Thread Cert.COutFwdRefIdeal.nD Cert.COutFwdRefIdeal.τ).loc Cert.COutFwdRefIdeal.main_arg0)
      ∧ r.2.mem ((c.tc : Thread Cert.COutFwdRefIdeal.nD Cert.COutFwdRefIdeal.τ).loc Cert.COutFwdRefIdeal.main_arg1) = m ((c.tc : Thread Cert.COutFwdRefIdeal.nD Cert.COutFwdRefIdeal.τ).loc Cert.COutFwdRefIdeal.main_arg1)
      ∧ r.2.mem ((c.tc : Thread Cert.COutFwdRefIdeal.nD Cert.COutFwdRefIdeal.τ).loc Cert.COutFwdRefIdeal.main_arg2) = m ((c.tc : Thread Cert.COutFwdRefIdeal.nD Cert.COutFwdRefIdeal.τ).loc Cert.COutFwdRefIdeal.main_arg2)
      ∧ r.2.mem ((c.tc : Thread Cert.COutFwdRefIdeal.nD Cert.COutFwdRefIdeal.τ).loc Cert.COutFwdRefIdeal.main_arg3) = m ((c.tc : Thread Cert.COutFwdRefIdeal.nD Cert.COutFwdRefIdeal.τ).loc Cert.COutFwdRefIdeal.main_arg3)
      ∧ r.2.mem ((c.tc : Thread Cert.COutFwdRefIdeal.nD Cert.COutFwdRefIdeal.τ).loc Cert.COutFwdRefIdeal.main_arg4) = m ((c.tc : Thread Cert.COutFwdRefIdeal.nD Cert.COutFwdRefIdeal.τ).loc Cert.COutFwdRefIdeal.main_arg4))
      ∧ r.2.sem = fun _ => 0)

def quiescent_CInFwd [hCInFwd : Cert.CInFwd.Facts] : Prop :=
  ∀ (m : (ℓ : Loc Cert.CInFwd.nD Cert.CInFwd.τ Cert.CInFwd.sig) → Buf (Elt Bits) ℓ) (g : Dev Cert.CInFwd.nD → PrngReg), Pre_CInFwd m →
    θ_run (Cert.CInFwd.defs (F := Bits)) (onTc (τ := Cert.CInFwd.τ) (Cert.CInFwd.main (F := Bits))) ⟨m, fun _ => 0, g⟩ (fun r => (∀ c : Dev Cert.CInFwd.nD,
      r.2.mem ((c.tc : Thread Cert.CInFwd.nD Cert.CInFwd.τ).loc Cert.CInFwd.main_arg0) = m ((c.tc : Thread Cert.CInFwd.nD Cert.CInFwd.τ).loc Cert.CInFwd.main_arg0)
      ∧ r.2.mem ((c.tc : Thread Cert.CInFwd.nD Cert.CInFwd.τ).loc Cert.CInFwd.main_arg1) = m ((c.tc : Thread Cert.CInFwd.nD Cert.CInFwd.τ).loc Cert.CInFwd.main_arg1)
      ∧ r.2.mem ((c.tc : Thread Cert.CInFwd.nD Cert.CInFwd.τ).loc Cert.CInFwd.main_arg2) = m ((c.tc : Thread Cert.CInFwd.nD Cert.CInFwd.τ).loc Cert.CInFwd.main_arg2))
      ∧ r.2.sem = fun _ => 0)

def quiescent_CInFwdIdeal [hCInFwdIdeal : Cert.CInFwdIdeal.Facts] : Prop :=
  ∀ (m : (ℓ : Loc Cert.CInFwdIdeal.nD Cert.CInFwdIdeal.τ Cert.CInFwdIdeal.sig) → Buf (Elt Ideal) ℓ) (g : Dev Cert.CInFwdIdeal.nD → PrngReg), Pre_CInFwdIdeal m →
    θ_run (Cert.CInFwdIdeal.defs (F := Ideal)) (onTc (τ := Cert.CInFwdIdeal.τ) (Cert.CInFwdIdeal.main (F := Ideal))) ⟨m, fun _ => 0, g⟩ (fun r => (∀ c : Dev Cert.CInFwdIdeal.nD,
      r.2.mem ((c.tc : Thread Cert.CInFwdIdeal.nD Cert.CInFwdIdeal.τ).loc Cert.CInFwdIdeal.main_arg0) = m ((c.tc : Thread Cert.CInFwdIdeal.nD Cert.CInFwdIdeal.τ).loc Cert.CInFwdIdeal.main_arg0)
      ∧ r.2.mem ((c.tc : Thread Cert.CInFwdIdeal.nD Cert.CInFwdIdeal.τ).loc Cert.CInFwdIdeal.main_arg1) = m ((c.tc : Thread Cert.CInFwdIdeal.nD Cert.CInFwdIdeal.τ).loc Cert.CInFwdIdeal.main_arg1)
      ∧ r.2.mem ((c.tc : Thread Cert.CInFwdIdeal.nD Cert.CInFwdIdeal.τ).loc Cert.CInFwdIdeal.main_arg2) = m ((c.tc : Thread Cert.CInFwdIdeal.nD Cert.CInFwdIdeal.τ).loc Cert.CInFwdIdeal.main_arg2))
      ∧ r.2.sem = fun _ => 0)

def quiescent_CInFwdRefIdeal [hCInFwdRefIdeal : Cert.CInFwdRefIdeal.Facts] : Prop :=
  ∀ (m : (ℓ : Loc Cert.CInFwdRefIdeal.nD Cert.CInFwdRefIdeal.τ Cert.CInFwdRefIdeal.sig) → Buf (Elt Ideal) ℓ) (g : Dev Cert.CInFwdRefIdeal.nD → PrngReg), Pre_CInFwdRefIdeal m →
    θ_run (Cert.CInFwdRefIdeal.defs (F := Ideal)) (onTc (τ := Cert.CInFwdRefIdeal.τ) (Cert.CInFwdRefIdeal.main (F := Ideal))) ⟨m, fun _ => 0, g⟩ (fun r => (∀ c : Dev Cert.CInFwdRefIdeal.nD,
      r.2.mem ((c.tc : Thread Cert.CInFwdRefIdeal.nD Cert.CInFwdRefIdeal.τ).loc Cert.CInFwdRefIdeal.main_arg0) = m ((c.tc : Thread Cert.CInFwdRefIdeal.nD Cert.CInFwdRefIdeal.τ).loc Cert.CInFwdRefIdeal.main_arg0)
      ∧ r.2.mem ((c.tc : Thread Cert.CInFwdRefIdeal.nD Cert.CInFwdRefIdeal.τ).loc Cert.CInFwdRefIdeal.main_arg1) = m ((c.tc : Thread Cert.CInFwdRefIdeal.nD Cert.CInFwdRefIdeal.τ).loc Cert.CInFwdRefIdeal.main_arg1)
      ∧ r.2.mem ((c.tc : Thread Cert.CInFwdRefIdeal.nD Cert.CInFwdRefIdeal.τ).loc Cert.CInFwdRefIdeal.main_arg2) = m ((c.tc : Thread Cert.CInFwdRefIdeal.nD Cert.CInFwdRefIdeal.τ).loc Cert.CInFwdRefIdeal.main_arg2))
      ∧ r.2.sem = fun _ => 0)

def quiescent_Pool2Fwd [hPool2Fwd : Cert.Pool2Fwd.Facts] : Prop :=
  ∀ (m : (ℓ : Loc Cert.Pool2Fwd.nD Cert.Pool2Fwd.τ Cert.Pool2Fwd.sig) → Buf (Elt Bits) ℓ) (g : Dev Cert.Pool2Fwd.nD → PrngReg), Pre_Pool2Fwd m →
    θ_run (Cert.Pool2Fwd.defs (F := Bits)) (onTc (τ := Cert.Pool2Fwd.τ) (Cert.Pool2Fwd.main (F := Bits))) ⟨m, fun _ => 0, g⟩ (fun r => (∀ c : Dev Cert.Pool2Fwd.nD,
      r.2.mem ((c.tc : Thread Cert.Pool2Fwd.nD Cert.Pool2Fwd.τ).loc Cert.Pool2Fwd.main_arg0) = m ((c.tc : Thread Cert.Pool2Fwd.nD Cert.Pool2Fwd.τ).loc Cert.Pool2Fwd.main_arg0))
      ∧ r.2.sem = fun _ => 0)

def quiescent_Pool2FwdIdeal [hPool2FwdIdeal : Cert.Pool2FwdIdeal.Facts] : Prop :=
  ∀ (m : (ℓ : Loc Cert.Pool2FwdIdeal.nD Cert.Pool2FwdIdeal.τ Cert.Pool2FwdIdeal.sig) → Buf (Elt Ideal) ℓ) (g : Dev Cert.Pool2FwdIdeal.nD → PrngReg), Pre_Pool2FwdIdeal m →
    θ_run (Cert.Pool2FwdIdeal.defs (F := Ideal)) (onTc (τ := Cert.Pool2FwdIdeal.τ) (Cert.Pool2FwdIdeal.main (F := Ideal))) ⟨m, fun _ => 0, g⟩ (fun r => (∀ c : Dev Cert.Pool2FwdIdeal.nD,
      r.2.mem ((c.tc : Thread Cert.Pool2FwdIdeal.nD Cert.Pool2FwdIdeal.τ).loc Cert.Pool2FwdIdeal.main_arg0) = m ((c.tc : Thread Cert.Pool2FwdIdeal.nD Cert.Pool2FwdIdeal.τ).loc Cert.Pool2FwdIdeal.main_arg0))
      ∧ r.2.sem = fun _ => 0)

def quiescent_Pool2FwdIdeal_pre_pooled_finite [hPool2FwdIdeal : Cert.Pool2FwdIdeal.Facts] [hPre_pooled_finite : Cert.Pre_pooled_finite.Facts] : Prop :=
  ∀ (m : (ℓ : Loc Cert.Pool2FwdIdeal.nD Cert.Pool2FwdIdeal.τ Cert.Pool2FwdIdeal.sig) → Buf (Elt Ideal) ℓ) (g : Dev Cert.Pool2FwdIdeal.nD → PrngReg), Pre_Pool2FwdIdeal_pooled_finite m →
    θ_run (Cert.Pool2FwdIdeal.defs (F := Ideal)) (onTc (τ := Cert.Pool2FwdIdeal.τ) (Cert.Pool2FwdIdeal.main (F := Ideal))) ⟨m, fun _ => 0, g⟩ (fun r => (∀ c : Dev Cert.Pool2FwdIdeal.nD,
      r.2.mem ((c.tc : Thread Cert.Pool2FwdIdeal.nD Cert.Pool2FwdIdeal.τ).loc Cert.Pool2FwdIdeal.main_arg0) = m ((c.tc : Thread Cert.Pool2FwdIdeal.nD Cert.Pool2FwdIdeal.τ).loc Cert.Pool2FwdIdeal.main_arg0))
      ∧ r.2.sem = fun _ => 0)

def quiescent_Pool2FwdRefIdeal [hPool2FwdRefIdeal : Cert.Pool2FwdRefIdeal.Facts] : Prop :=
  ∀ (m : (ℓ : Loc Cert.Pool2FwdRefIdeal.nD Cert.Pool2FwdRefIdeal.τ Cert.Pool2FwdRefIdeal.sig) → Buf (Elt Ideal) ℓ) (g : Dev Cert.Pool2FwdRefIdeal.nD → PrngReg), Pre_Pool2FwdRefIdeal m →
    θ_run (Cert.Pool2FwdRefIdeal.defs (F := Ideal)) (onTc (τ := Cert.Pool2FwdRefIdeal.τ) (Cert.Pool2FwdRefIdeal.main (F := Ideal))) ⟨m, fun _ => 0, g⟩ (fun r => (∀ c : Dev Cert.Pool2FwdRefIdeal.nD,
      r.2.mem ((c.tc : Thread Cert.Pool2FwdRefIdeal.nD Cert.Pool2FwdRefIdeal.τ).loc Cert.Pool2FwdRefIdeal.main_arg0) = m ((c.tc : Thread Cert.Pool2FwdRefIdeal.nD Cert.Pool2FwdRefIdeal.τ).loc Cert.Pool2FwdRefIdeal.main_arg0))
      ∧ r.2.sem = fun _ => 0)

def quiescent_Pool2FwdRefIdeal_pre_pooled_finite [hPool2FwdRefIdeal : Cert.Pool2FwdRefIdeal.Facts] [hPre_pooled_finite : Cert.Pre_pooled_finite.Facts] : Prop :=
  ∀ (m : (ℓ : Loc Cert.Pool2FwdRefIdeal.nD Cert.Pool2FwdRefIdeal.τ Cert.Pool2FwdRefIdeal.sig) → Buf (Elt Ideal) ℓ) (g : Dev Cert.Pool2FwdRefIdeal.nD → PrngReg), Pre_Pool2FwdRefIdeal_pooled_finite m →
    θ_run (Cert.Pool2FwdRefIdeal.defs (F := Ideal)) (onTc (τ := Cert.Pool2FwdRefIdeal.τ) (Cert.Pool2FwdRefIdeal.main (F := Ideal))) ⟨m, fun _ => 0, g⟩ (fun r => (∀ c : Dev Cert.Pool2FwdRefIdeal.nD,
      r.2.mem ((c.tc : Thread Cert.Pool2FwdRefIdeal.nD Cert.Pool2FwdRefIdeal.τ).loc Cert.Pool2FwdRefIdeal.main_arg0) = m ((c.tc : Thread Cert.Pool2FwdRefIdeal.nD Cert.Pool2FwdRefIdeal.τ).loc Cert.Pool2FwdRefIdeal.main_arg0))
      ∧ r.2.sem = fun _ => 0)

def quiescent_Pool4Fwd [hPool4Fwd : Cert.Pool4Fwd.Facts] : Prop :=
  ∀ (m : (ℓ : Loc Cert.Pool4Fwd.nD Cert.Pool4Fwd.τ Cert.Pool4Fwd.sig) → Buf (Elt Bits) ℓ) (g : Dev Cert.Pool4Fwd.nD → PrngReg), Pre_Pool4Fwd m →
    θ_run (Cert.Pool4Fwd.defs (F := Bits)) (onTc (τ := Cert.Pool4Fwd.τ) (Cert.Pool4Fwd.main (F := Bits))) ⟨m, fun _ => 0, g⟩ (fun r => (∀ c : Dev Cert.Pool4Fwd.nD,
      r.2.mem ((c.tc : Thread Cert.Pool4Fwd.nD Cert.Pool4Fwd.τ).loc Cert.Pool4Fwd.main_arg0) = m ((c.tc : Thread Cert.Pool4Fwd.nD Cert.Pool4Fwd.τ).loc Cert.Pool4Fwd.main_arg0))
      ∧ r.2.sem = fun _ => 0)

def quiescent_Pool4FwdIdeal [hPool4FwdIdeal : Cert.Pool4FwdIdeal.Facts] : Prop :=
  ∀ (m : (ℓ : Loc Cert.Pool4FwdIdeal.nD Cert.Pool4FwdIdeal.τ Cert.Pool4FwdIdeal.sig) → Buf (Elt Ideal) ℓ) (g : Dev Cert.Pool4FwdIdeal.nD → PrngReg), Pre_Pool4FwdIdeal m →
    θ_run (Cert.Pool4FwdIdeal.defs (F := Ideal)) (onTc (τ := Cert.Pool4FwdIdeal.τ) (Cert.Pool4FwdIdeal.main (F := Ideal))) ⟨m, fun _ => 0, g⟩ (fun r => (∀ c : Dev Cert.Pool4FwdIdeal.nD,
      r.2.mem ((c.tc : Thread Cert.Pool4FwdIdeal.nD Cert.Pool4FwdIdeal.τ).loc Cert.Pool4FwdIdeal.main_arg0) = m ((c.tc : Thread Cert.Pool4FwdIdeal.nD Cert.Pool4FwdIdeal.τ).loc Cert.Pool4FwdIdeal.main_arg0))
      ∧ r.2.sem = fun _ => 0)

def quiescent_Pool4FwdIdeal_pre_pooled_finite [hPool4FwdIdeal : Cert.Pool4FwdIdeal.Facts] [hPre_pooled_finite : Cert.Pre_pooled_finite.Facts] : Prop :=
  ∀ (m : (ℓ : Loc Cert.Pool4FwdIdeal.nD Cert.Pool4FwdIdeal.τ Cert.Pool4FwdIdeal.sig) → Buf (Elt Ideal) ℓ) (g : Dev Cert.Pool4FwdIdeal.nD → PrngReg), Pre_Pool4FwdIdeal_pooled_finite m →
    θ_run (Cert.Pool4FwdIdeal.defs (F := Ideal)) (onTc (τ := Cert.Pool4FwdIdeal.τ) (Cert.Pool4FwdIdeal.main (F := Ideal))) ⟨m, fun _ => 0, g⟩ (fun r => (∀ c : Dev Cert.Pool4FwdIdeal.nD,
      r.2.mem ((c.tc : Thread Cert.Pool4FwdIdeal.nD Cert.Pool4FwdIdeal.τ).loc Cert.Pool4FwdIdeal.main_arg0) = m ((c.tc : Thread Cert.Pool4FwdIdeal.nD Cert.Pool4FwdIdeal.τ).loc Cert.Pool4FwdIdeal.main_arg0))
      ∧ r.2.sem = fun _ => 0)

def quiescent_Pool4FwdRefIdeal [hPool4FwdRefIdeal : Cert.Pool4FwdRefIdeal.Facts] : Prop :=
  ∀ (m : (ℓ : Loc Cert.Pool4FwdRefIdeal.nD Cert.Pool4FwdRefIdeal.τ Cert.Pool4FwdRefIdeal.sig) → Buf (Elt Ideal) ℓ) (g : Dev Cert.Pool4FwdRefIdeal.nD → PrngReg), Pre_Pool4FwdRefIdeal m →
    θ_run (Cert.Pool4FwdRefIdeal.defs (F := Ideal)) (onTc (τ := Cert.Pool4FwdRefIdeal.τ) (Cert.Pool4FwdRefIdeal.main (F := Ideal))) ⟨m, fun _ => 0, g⟩ (fun r => (∀ c : Dev Cert.Pool4FwdRefIdeal.nD,
      r.2.mem ((c.tc : Thread Cert.Pool4FwdRefIdeal.nD Cert.Pool4FwdRefIdeal.τ).loc Cert.Pool4FwdRefIdeal.main_arg0) = m ((c.tc : Thread Cert.Pool4FwdRefIdeal.nD Cert.Pool4FwdRefIdeal.τ).loc Cert.Pool4FwdRefIdeal.main_arg0))
      ∧ r.2.sem = fun _ => 0)

def quiescent_Pool4FwdRefIdeal_pre_pooled_finite [hPool4FwdRefIdeal : Cert.Pool4FwdRefIdeal.Facts] [hPre_pooled_finite : Cert.Pre_pooled_finite.Facts] : Prop :=
  ∀ (m : (ℓ : Loc Cert.Pool4FwdRefIdeal.nD Cert.Pool4FwdRefIdeal.τ Cert.Pool4FwdRefIdeal.sig) → Buf (Elt Ideal) ℓ) (g : Dev Cert.Pool4FwdRefIdeal.nD → PrngReg), Pre_Pool4FwdRefIdeal_pooled_finite m →
    θ_run (Cert.Pool4FwdRefIdeal.defs (F := Ideal)) (onTc (τ := Cert.Pool4FwdRefIdeal.τ) (Cert.Pool4FwdRefIdeal.main (F := Ideal))) ⟨m, fun _ => 0, g⟩ (fun r => (∀ c : Dev Cert.Pool4FwdRefIdeal.nD,
      r.2.mem ((c.tc : Thread Cert.Pool4FwdRefIdeal.nD Cert.Pool4FwdRefIdeal.τ).loc Cert.Pool4FwdRefIdeal.main_arg0) = m ((c.tc : Thread Cert.Pool4FwdRefIdeal.nD Cert.Pool4FwdRefIdeal.τ).loc Cert.Pool4FwdRefIdeal.main_arg0))
      ∧ r.2.sem = fun _ => 0)

def quiescent_Pool8Fwd [hPool8Fwd : Cert.Pool8Fwd.Facts] : Prop :=
  ∀ (m : (ℓ : Loc Cert.Pool8Fwd.nD Cert.Pool8Fwd.τ Cert.Pool8Fwd.sig) → Buf (Elt Bits) ℓ) (g : Dev Cert.Pool8Fwd.nD → PrngReg), Pre_Pool8Fwd m →
    θ_run (Cert.Pool8Fwd.defs (F := Bits)) (onTc (τ := Cert.Pool8Fwd.τ) (Cert.Pool8Fwd.main (F := Bits))) ⟨m, fun _ => 0, g⟩ (fun r => (∀ c : Dev Cert.Pool8Fwd.nD,
      r.2.mem ((c.tc : Thread Cert.Pool8Fwd.nD Cert.Pool8Fwd.τ).loc Cert.Pool8Fwd.main_arg0) = m ((c.tc : Thread Cert.Pool8Fwd.nD Cert.Pool8Fwd.τ).loc Cert.Pool8Fwd.main_arg0))
      ∧ r.2.sem = fun _ => 0)

def quiescent_Pool8FwdIdeal [hPool8FwdIdeal : Cert.Pool8FwdIdeal.Facts] : Prop :=
  ∀ (m : (ℓ : Loc Cert.Pool8FwdIdeal.nD Cert.Pool8FwdIdeal.τ Cert.Pool8FwdIdeal.sig) → Buf (Elt Ideal) ℓ) (g : Dev Cert.Pool8FwdIdeal.nD → PrngReg), Pre_Pool8FwdIdeal m →
    θ_run (Cert.Pool8FwdIdeal.defs (F := Ideal)) (onTc (τ := Cert.Pool8FwdIdeal.τ) (Cert.Pool8FwdIdeal.main (F := Ideal))) ⟨m, fun _ => 0, g⟩ (fun r => (∀ c : Dev Cert.Pool8FwdIdeal.nD,
      r.2.mem ((c.tc : Thread Cert.Pool8FwdIdeal.nD Cert.Pool8FwdIdeal.τ).loc Cert.Pool8FwdIdeal.main_arg0) = m ((c.tc : Thread Cert.Pool8FwdIdeal.nD Cert.Pool8FwdIdeal.τ).loc Cert.Pool8FwdIdeal.main_arg0))
      ∧ r.2.sem = fun _ => 0)

def quiescent_Pool8FwdIdeal_pre_pooled_finite [hPool8FwdIdeal : Cert.Pool8FwdIdeal.Facts] [hPre_pooled_finite : Cert.Pre_pooled_finite.Facts] : Prop :=
  ∀ (m : (ℓ : Loc Cert.Pool8FwdIdeal.nD Cert.Pool8FwdIdeal.τ Cert.Pool8FwdIdeal.sig) → Buf (Elt Ideal) ℓ) (g : Dev Cert.Pool8FwdIdeal.nD → PrngReg), Pre_Pool8FwdIdeal_pooled_finite m →
    θ_run (Cert.Pool8FwdIdeal.defs (F := Ideal)) (onTc (τ := Cert.Pool8FwdIdeal.τ) (Cert.Pool8FwdIdeal.main (F := Ideal))) ⟨m, fun _ => 0, g⟩ (fun r => (∀ c : Dev Cert.Pool8FwdIdeal.nD,
      r.2.mem ((c.tc : Thread Cert.Pool8FwdIdeal.nD Cert.Pool8FwdIdeal.τ).loc Cert.Pool8FwdIdeal.main_arg0) = m ((c.tc : Thread Cert.Pool8FwdIdeal.nD Cert.Pool8FwdIdeal.τ).loc Cert.Pool8FwdIdeal.main_arg0))
      ∧ r.2.sem = fun _ => 0)

def quiescent_Pool8FwdRefIdeal [hPool8FwdRefIdeal : Cert.Pool8FwdRefIdeal.Facts] : Prop :=
  ∀ (m : (ℓ : Loc Cert.Pool8FwdRefIdeal.nD Cert.Pool8FwdRefIdeal.τ Cert.Pool8FwdRefIdeal.sig) → Buf (Elt Ideal) ℓ) (g : Dev Cert.Pool8FwdRefIdeal.nD → PrngReg), Pre_Pool8FwdRefIdeal m →
    θ_run (Cert.Pool8FwdRefIdeal.defs (F := Ideal)) (onTc (τ := Cert.Pool8FwdRefIdeal.τ) (Cert.Pool8FwdRefIdeal.main (F := Ideal))) ⟨m, fun _ => 0, g⟩ (fun r => (∀ c : Dev Cert.Pool8FwdRefIdeal.nD,
      r.2.mem ((c.tc : Thread Cert.Pool8FwdRefIdeal.nD Cert.Pool8FwdRefIdeal.τ).loc Cert.Pool8FwdRefIdeal.main_arg0) = m ((c.tc : Thread Cert.Pool8FwdRefIdeal.nD Cert.Pool8FwdRefIdeal.τ).loc Cert.Pool8FwdRefIdeal.main_arg0))
      ∧ r.2.sem = fun _ => 0)

def quiescent_Pool8FwdRefIdeal_pre_pooled_finite [hPool8FwdRefIdeal : Cert.Pool8FwdRefIdeal.Facts] [hPre_pooled_finite : Cert.Pre_pooled_finite.Facts] : Prop :=
  ∀ (m : (ℓ : Loc Cert.Pool8FwdRefIdeal.nD Cert.Pool8FwdRefIdeal.τ Cert.Pool8FwdRefIdeal.sig) → Buf (Elt Ideal) ℓ) (g : Dev Cert.Pool8FwdRefIdeal.nD → PrngReg), Pre_Pool8FwdRefIdeal_pooled_finite m →
    θ_run (Cert.Pool8FwdRefIdeal.defs (F := Ideal)) (onTc (τ := Cert.Pool8FwdRefIdeal.τ) (Cert.Pool8FwdRefIdeal.main (F := Ideal))) ⟨m, fun _ => 0, g⟩ (fun r => (∀ c : Dev Cert.Pool8FwdRefIdeal.nD,
      r.2.mem ((c.tc : Thread Cert.Pool8FwdRefIdeal.nD Cert.Pool8FwdRefIdeal.τ).loc Cert.Pool8FwdRefIdeal.main_arg0) = m ((c.tc : Thread Cert.Pool8FwdRefIdeal.nD Cert.Pool8FwdRefIdeal.τ).loc Cert.Pool8FwdRefIdeal.main_arg0))
      ∧ r.2.sem = fun _ => 0)

def quiescent_Pool16Fwd [hPool16Fwd : Cert.Pool16Fwd.Facts] : Prop :=
  ∀ (m : (ℓ : Loc Cert.Pool16Fwd.nD Cert.Pool16Fwd.τ Cert.Pool16Fwd.sig) → Buf (Elt Bits) ℓ) (g : Dev Cert.Pool16Fwd.nD → PrngReg), Pre_Pool16Fwd m →
    θ_run (Cert.Pool16Fwd.defs (F := Bits)) (onTc (τ := Cert.Pool16Fwd.τ) (Cert.Pool16Fwd.main (F := Bits))) ⟨m, fun _ => 0, g⟩ (fun r => (∀ c : Dev Cert.Pool16Fwd.nD,
      r.2.mem ((c.tc : Thread Cert.Pool16Fwd.nD Cert.Pool16Fwd.τ).loc Cert.Pool16Fwd.main_arg0) = m ((c.tc : Thread Cert.Pool16Fwd.nD Cert.Pool16Fwd.τ).loc Cert.Pool16Fwd.main_arg0))
      ∧ r.2.sem = fun _ => 0)

def quiescent_Pool16FwdIdeal [hPool16FwdIdeal : Cert.Pool16FwdIdeal.Facts] : Prop :=
  ∀ (m : (ℓ : Loc Cert.Pool16FwdIdeal.nD Cert.Pool16FwdIdeal.τ Cert.Pool16FwdIdeal.sig) → Buf (Elt Ideal) ℓ) (g : Dev Cert.Pool16FwdIdeal.nD → PrngReg), Pre_Pool16FwdIdeal m →
    θ_run (Cert.Pool16FwdIdeal.defs (F := Ideal)) (onTc (τ := Cert.Pool16FwdIdeal.τ) (Cert.Pool16FwdIdeal.main (F := Ideal))) ⟨m, fun _ => 0, g⟩ (fun r => (∀ c : Dev Cert.Pool16FwdIdeal.nD,
      r.2.mem ((c.tc : Thread Cert.Pool16FwdIdeal.nD Cert.Pool16FwdIdeal.τ).loc Cert.Pool16FwdIdeal.main_arg0) = m ((c.tc : Thread Cert.Pool16FwdIdeal.nD Cert.Pool16FwdIdeal.τ).loc Cert.Pool16FwdIdeal.main_arg0))
      ∧ r.2.sem = fun _ => 0)

def quiescent_Pool16FwdIdeal_pre_pooled_finite [hPool16FwdIdeal : Cert.Pool16FwdIdeal.Facts] [hPre_pooled_finite : Cert.Pre_pooled_finite.Facts] : Prop :=
  ∀ (m : (ℓ : Loc Cert.Pool16FwdIdeal.nD Cert.Pool16FwdIdeal.τ Cert.Pool16FwdIdeal.sig) → Buf (Elt Ideal) ℓ) (g : Dev Cert.Pool16FwdIdeal.nD → PrngReg), Pre_Pool16FwdIdeal_pooled_finite m →
    θ_run (Cert.Pool16FwdIdeal.defs (F := Ideal)) (onTc (τ := Cert.Pool16FwdIdeal.τ) (Cert.Pool16FwdIdeal.main (F := Ideal))) ⟨m, fun _ => 0, g⟩ (fun r => (∀ c : Dev Cert.Pool16FwdIdeal.nD,
      r.2.mem ((c.tc : Thread Cert.Pool16FwdIdeal.nD Cert.Pool16FwdIdeal.τ).loc Cert.Pool16FwdIdeal.main_arg0) = m ((c.tc : Thread Cert.Pool16FwdIdeal.nD Cert.Pool16FwdIdeal.τ).loc Cert.Pool16FwdIdeal.main_arg0))
      ∧ r.2.sem = fun _ => 0)

def quiescent_Pool16FwdRefIdeal [hPool16FwdRefIdeal : Cert.Pool16FwdRefIdeal.Facts] : Prop :=
  ∀ (m : (ℓ : Loc Cert.Pool16FwdRefIdeal.nD Cert.Pool16FwdRefIdeal.τ Cert.Pool16FwdRefIdeal.sig) → Buf (Elt Ideal) ℓ) (g : Dev Cert.Pool16FwdRefIdeal.nD → PrngReg), Pre_Pool16FwdRefIdeal m →
    θ_run (Cert.Pool16FwdRefIdeal.defs (F := Ideal)) (onTc (τ := Cert.Pool16FwdRefIdeal.τ) (Cert.Pool16FwdRefIdeal.main (F := Ideal))) ⟨m, fun _ => 0, g⟩ (fun r => (∀ c : Dev Cert.Pool16FwdRefIdeal.nD,
      r.2.mem ((c.tc : Thread Cert.Pool16FwdRefIdeal.nD Cert.Pool16FwdRefIdeal.τ).loc Cert.Pool16FwdRefIdeal.main_arg0) = m ((c.tc : Thread Cert.Pool16FwdRefIdeal.nD Cert.Pool16FwdRefIdeal.τ).loc Cert.Pool16FwdRefIdeal.main_arg0))
      ∧ r.2.sem = fun _ => 0)

def quiescent_Pool16FwdRefIdeal_pre_pooled_finite [hPool16FwdRefIdeal : Cert.Pool16FwdRefIdeal.Facts] [hPre_pooled_finite : Cert.Pre_pooled_finite.Facts] : Prop :=
  ∀ (m : (ℓ : Loc Cert.Pool16FwdRefIdeal.nD Cert.Pool16FwdRefIdeal.τ Cert.Pool16FwdRefIdeal.sig) → Buf (Elt Ideal) ℓ) (g : Dev Cert.Pool16FwdRefIdeal.nD → PrngReg), Pre_Pool16FwdRefIdeal_pooled_finite m →
    θ_run (Cert.Pool16FwdRefIdeal.defs (F := Ideal)) (onTc (τ := Cert.Pool16FwdRefIdeal.τ) (Cert.Pool16FwdRefIdeal.main (F := Ideal))) ⟨m, fun _ => 0, g⟩ (fun r => (∀ c : Dev Cert.Pool16FwdRefIdeal.nD,
      r.2.mem ((c.tc : Thread Cert.Pool16FwdRefIdeal.nD Cert.Pool16FwdRefIdeal.τ).loc Cert.Pool16FwdRefIdeal.main_arg0) = m ((c.tc : Thread Cert.Pool16FwdRefIdeal.nD Cert.Pool16FwdRefIdeal.τ).loc Cert.Pool16FwdRefIdeal.main_arg0))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1)
      ∧ r.2.mem ((c.tc : Thread Cert.DownGradRefIdeal.nD Cert.DownGradRefIdeal.τ).loc Cert.DownGradRefIdeal.main_arg2) = m ((c.tc : Thread Cert.DownGradRefIdeal.nD Cert.DownGradRefIdeal.τ).loc Cert.DownGradRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (Cert.Swap.threads (F := Bits)) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (Cert.SwapIdeal.threads (F := Ideal)) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v11_0)) (v1 : (c : Dev Cert.ConvBwdIdeal.nD) → Buf (Elt Ideal) ((c.tc : Thread Cert.ConvBwdIdeal.nD Cert.ConvBwdIdeal.τ).loc Cert.ConvBwdIdeal.main_v11_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v11_0) = v0 c
          ∧ r.2.mem ((c.tc : Thread Cert.ConvBwdIdeal.nD Cert.ConvBwdIdeal.τ).loc Cert.ConvBwdIdeal.main_v11_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v74) = v0 c
          ∧ r.2.mem ((c.tc : Thread Cert.ConvBwdRefIdeal.nD Cert.ConvBwdRefIdeal.τ).loc Cert.ConvBwdRefIdeal.main_v75) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_COutBwd_COutBwdIdeal : Prop :=
  True

def algebraic_COutBwdIdeal_COutBwdRefIdeal [hCOutBwdIdeal : Cert.COutBwdIdeal.Facts] [hCOutBwdRefIdeal : Cert.COutBwdRefIdeal.Facts] : Prop :=
  ∀ (m : (ℓ : Loc Cert.COutBwdIdeal.nD Cert.COutBwdIdeal.τ Cert.COutBwdIdeal.sig) → Buf (Elt Ideal) ℓ) (g : Dev Cert.COutBwdIdeal.nD → PrngReg)
    (m' : (ℓ : Loc Cert.COutBwdRefIdeal.nD Cert.COutBwdRefIdeal.τ Cert.COutBwdRefIdeal.sig) → Buf (Elt Ideal) ℓ) (g' : Dev Cert.COutBwdRefIdeal.nD → PrngReg), Pre_COutBwdIdeal m →
    (∀ c : Dev Cert.COutBwdIdeal.nD,
      m' ((c.tc : Thread Cert.COutBwdRefIdeal.nD Cert.COutBwdRefIdeal.τ).loc Cert.COutBwdRefIdeal.main_arg0) = m ((c.tc : Thread Cert.COutBwdIdeal.nD Cert.COutBwdIdeal.τ).loc Cert.COutBwdIdeal.main_arg0)
      ∧ m' ((c.tc : Thread Cert.COutBwdRefIdeal.nD Cert.COutBwdRefIdeal.τ).loc Cert.COutBwdRefIdeal.main_arg1) = m ((c.tc : Thread Cert.COutBwdIdeal.nD Cert.COutBwdIdeal.τ).loc Cert.COutBwdIdeal.main_arg1)
      ∧ m' ((c.tc : Thread Cert.COutBwdRefIdeal.nD Cert.COutBwdRefIdeal.τ).loc Cert.COutBwdRefIdeal.main_arg2) = m ((c.tc : Thread Cert.COutBwdIdeal.nD Cert.COutBwdIdeal.τ).loc Cert.COutBwdIdeal.main_arg2)
      ∧ m' ((c.tc : Thread Cert.COutBwdRefIdeal.nD Cert.COutBwdRefIdeal.τ).loc Cert.COutBwdRefIdeal.main_arg3) = m ((c.tc : Thread Cert.COutBwdIdeal.nD Cert.COutBwdIdeal.τ).loc Cert.COutBwdIdeal.main_arg3)
      ∧ m' ((c.tc : Thread Cert.COutBwdRefIdeal.nD Cert.COutBwdRefIdeal.τ).loc Cert.COutBwdRefIdeal.main_arg4) = m ((c.tc : Thread Cert.COutBwdIdeal.nD Cert.COutBwdIdeal.τ).loc Cert.COutBwdIdeal.main_arg4)) →
    ∃ (v0 : (c : Dev Cert.COutBwdIdeal.nD) → Buf (Elt Ideal) ((c.tc : Thread Cert.COutBwdIdeal.nD Cert.COutBwdIdeal.τ).loc Cert.COutBwdIdeal.main_v20_0)) (v1 : (c : Dev Cert.COutBwdIdeal.nD) → Buf (Elt Ideal) ((c.tc : Thread Cert.COutBwdIdeal.nD Cert.COutBwdIdeal.τ).loc Cert.COutBwdIdeal.main_v20_1)) (v2 : (c : Dev Cert.COutBwdIdeal.nD) → Buf (Elt Ideal) ((c.tc : Thread Cert.COutBwdIdeal.nD Cert.COutBwdIdeal.τ).loc Cert.COutBwdIdeal.main_v20_2)) (v3 : (c : Dev Cert.COutBwdIdeal.nD) → Buf (Elt Ideal) ((c.tc : Thread Cert.COutBwdIdeal.nD Cert.COutBwdIdeal.τ).loc Cert.COutBwdIdeal.main_v20_3)) (v4 : (c : Dev Cert.COutBwdIdeal.nD) → Buf (Elt Ideal) ((c.tc : Thread Cert.COutBwdIdeal.nD Cert.COutBwdIdeal.τ).loc Cert.COutBwdIdeal.main_v20_4)) (v5 : (c : Dev Cert.COutBwdIdeal.nD) → Buf (Elt Ideal) ((c.tc : Thread Cert.COutBwdIdeal.nD Cert.COutBwdIdeal.τ).loc Cert.COutBwdIdeal.main_v20_5)),
      θ_run (Cert.COutBwdIdeal.defs (F := Ideal)) (onTc (τ := Cert.COutBwdIdeal.τ) (Cert.COutBwdIdeal.main (F := Ideal))) ⟨m, fun _ => 0, g⟩ (fun r => ∀ c : Dev Cert.COutBwdIdeal.nD,
          r.2.mem ((c.tc : Thread Cert.COutBwdIdeal.nD Cert.COutBwdIdeal.τ).loc Cert.COutBwdIdeal.main_v20_0) = v0 c
          ∧ r.2.mem ((c.tc : Thread Cert.COutBwdIdeal.nD Cert.COutBwdIdeal.τ).loc Cert.COutBwdIdeal.main_v20_1) = v1 c
          ∧ r.2.mem ((c.tc : Thread Cert.COutBwdIdeal.nD Cert.COutBwdIdeal.τ).loc Cert.COutBwdIdeal.main_v20_2) = v2 c
          ∧ r.2.mem ((c.tc : Thread Cert.COutBwdIdeal.nD Cert.COutBwdIdeal.τ).loc Cert.COutBwdIdeal.main_v20_3) = v3 c
          ∧ r.2.mem ((c.tc : Thread Cert.COutBwdIdeal.nD Cert.COutBwdIdeal.τ).loc Cert.COutBwdIdeal.main_v20_4) = v4 c
          ∧ r.2.mem ((c.tc : Thread Cert.COutBwdIdeal.nD Cert.COutBwdIdeal.τ).loc Cert.COutBwdIdeal.main_v20_5) = v5 c
          ∧ r.2.mem ((c.tc : Thread Cert.COutBwdIdeal.nD Cert.COutBwdIdeal.τ).loc Cert.COutBwdIdeal.main_arg0) = m ((c.tc : Thread Cert.COutBwdIdeal.nD Cert.COutBwdIdeal.τ).loc Cert.COutBwdIdeal.main_arg0)
          ∧ r.2.mem ((c.tc : Thread Cert.COutBwdIdeal.nD Cert.COutBwdIdeal.τ).loc Cert.COutBwdIdeal.main_arg1) = m ((c.tc : Thread Cert.COutBwdIdeal.nD Cert.COutBwdIdeal.τ).loc Cert.COutBwdIdeal.main_arg1)
          ∧ r.2.mem ((c.tc : Thread Cert.COutBwdIdeal.nD Cert.COutBwdIdeal.τ).loc Cert.COutBwdIdeal.main_arg2) = m ((c.tc : Thread Cert.COutBwdIdeal.nD Cert.COutBwdIdeal.τ).loc Cert.COutBwdIdeal.main_arg2)
          ∧ r.2.mem ((c.tc : Thread Cert.COutBwdIdeal.nD Cert.COutBwdIdeal.τ).loc Cert.COutBwdIdeal.main_arg3) = m ((c.tc : Thread Cert.COutBwdIdeal.nD Cert.COutBwdIdeal.τ).loc Cert.COutBwdIdeal.main_arg3)
          ∧ r.2.mem ((c.tc : Thread Cert.COutBwdIdeal.nD Cert.COutBwdIdeal.τ).loc Cert.COutBwdIdeal.main_arg4) = m ((c.tc : Thread Cert.COutBwdIdeal.nD Cert.COutBwdIdeal.τ).loc Cert.COutBwdIdeal.main_arg4))
      ∧ θ_run (Cert.COutBwdRefIdeal.defs (F := Ideal)) (onTc (τ := Cert.COutBwdRefIdeal.τ) (Cert.COutBwdRefIdeal.main (F := Ideal))) ⟨m', fun _ => 0, g'⟩ (fun r => ∀ c : Dev Cert.COutBwdRefIdeal.nD,
          r.2.mem ((c.tc : Thread Cert.COutBwdRefIdeal.nD Cert.COutBwdRefIdeal.τ).loc Cert.COutBwdRefIdeal.main_v20) = v0 c
          ∧ r.2.mem ((c.tc : Thread Cert.COutBwdRefIdeal.nD Cert.COutBwdRefIdeal.τ).loc Cert.COutBwdRefIdeal.main_v22) = v1 c
          ∧ r.2.mem ((c.tc : Thread Cert.COutBwdRefIdeal.nD Cert.COutBwdRefIdeal.τ).loc Cert.COutBwdRefIdeal.main_v24) = v2 c
          ∧ r.2.mem ((c.tc : Thread Cert.COutBwdRefIdeal.nD Cert.COutBwdRefIdeal.τ).loc Cert.COutBwdRefIdeal.main_v26) = v3 c
          ∧ r.2.mem ((c.tc : Thread Cert.COutBwdRefIdeal.nD Cert.COutBwdRefIdeal.τ).loc Cert.COutBwdRefIdeal.main_v28) = v4 c
          ∧ r.2.mem ((c.tc : Thread Cert.COutBwdRefIdeal.nD Cert.COutBwdRefIdeal.τ).loc Cert.COutBwdRefIdeal.main_v30) = v5 c
          ∧ r.2.mem ((c.tc : Thread Cert.COutBwdRefIdeal.nD Cert.COutBwdRefIdeal.τ).loc Cert.COutBwdRefIdeal.main_arg0) = m' ((c.tc : Thread Cert.COutBwdRefIdeal.nD Cert.COutBwdRefIdeal.τ).loc Cert.COutBwdRefIdeal.main_arg0)
          ∧ r.2.mem ((c.tc : Thread Cert.COutBwdRefIdeal.nD Cert.COutBwdRefIdeal.τ).loc Cert.COutBwdRefIdeal.main_arg1) = m' ((c.tc : Thread Cert.COutBwdRefIdeal.nD Cert.COutBwdRefIdeal.τ).loc Cert.COutBwdRefIdeal.main_arg1)
          ∧ r.2.mem ((c.tc : Thread Cert.COutBwdRefIdeal.nD Cert.COutBwdRefIdeal.τ).loc Cert.COutBwdRefIdeal.main_arg2) = m' ((c.tc : Thread Cert.COutBwdRefIdeal.nD Cert.COutBwdRefIdeal.τ).loc Cert.COutBwdRefIdeal.main_arg2)
          ∧ r.2.mem ((c.tc : Thread Cert.COutBwdRefIdeal.nD Cert.COutBwdRefIdeal.τ).loc Cert.COutBwdRefIdeal.main_arg3) = m' ((c.tc : Thread Cert.COutBwdRefIdeal.nD Cert.COutBwdRefIdeal.τ).loc Cert.COutBwdRefIdeal.main_arg3)
          ∧ r.2.mem ((c.tc : Thread Cert.COutBwdRefIdeal.nD Cert.COutBwdRefIdeal.τ).loc Cert.COutBwdRefIdeal.main_arg4) = m' ((c.tc : Thread Cert.COutBwdRefIdeal.nD Cert.COutBwdRefIdeal.τ).loc Cert.COutBwdRefIdeal.main_arg4))

def preserves_CInBwd_CInBwdIdeal : Prop :=
  True

def algebraic_CInBwdIdeal_CInBwdRefIdeal [hCInBwdIdeal : Cert.CInBwdIdeal.Facts] [hCInBwdRefIdeal : Cert.CInBwdRefIdeal.Facts] : Prop :=
  ∀ (m : (ℓ : Loc Cert.CInBwdIdeal.nD Cert.CInBwdIdeal.τ Cert.CInBwdIdeal.sig) → Buf (Elt Ideal) ℓ) (g : Dev Cert.CInBwdIdeal.nD → PrngReg)
    (m' : (ℓ : Loc Cert.CInBwdRefIdeal.nD Cert.CInBwdRefIdeal.τ Cert.CInBwdRefIdeal.sig) → Buf (Elt Ideal) ℓ) (g' : Dev Cert.CInBwdRefIdeal.nD → PrngReg), Pre_CInBwdIdeal m →
    (∀ c : Dev Cert.CInBwdIdeal.nD,
      m' ((c.tc : Thread Cert.CInBwdRefIdeal.nD Cert.CInBwdRefIdeal.τ).loc Cert.CInBwdRefIdeal.main_arg0) = m ((c.tc : Thread Cert.CInBwdIdeal.nD Cert.CInBwdIdeal.τ).loc Cert.CInBwdIdeal.main_arg0)
      ∧ m' ((c.tc : Thread Cert.CInBwdRefIdeal.nD Cert.CInBwdRefIdeal.τ).loc Cert.CInBwdRefIdeal.main_arg1) = m ((c.tc : Thread Cert.CInBwdIdeal.nD Cert.CInBwdIdeal.τ).loc Cert.CInBwdIdeal.main_arg1)
      ∧ m' ((c.tc : Thread Cert.CInBwdRefIdeal.nD Cert.CInBwdRefIdeal.τ).loc Cert.CInBwdRefIdeal.main_arg2) = m ((c.tc : Thread Cert.CInBwdIdeal.nD Cert.CInBwdIdeal.τ).loc Cert.CInBwdIdeal.main_arg2)
      ∧ m' ((c.tc : Thread Cert.CInBwdRefIdeal.nD Cert.CInBwdRefIdeal.τ).loc Cert.CInBwdRefIdeal.main_arg3) = m ((c.tc : Thread Cert.CInBwdIdeal.nD Cert.CInBwdIdeal.τ).loc Cert.CInBwdIdeal.main_arg3)
      ∧ m' ((c.tc : Thread Cert.CInBwdRefIdeal.nD Cert.CInBwdRefIdeal.τ).loc Cert.CInBwdRefIdeal.main_arg4) = m ((c.tc : Thread Cert.CInBwdIdeal.nD Cert.CInBwdIdeal.τ).loc Cert.CInBwdIdeal.main_arg4)) →
    ∃ (v0 : (c : Dev Cert.CInBwdIdeal.nD) → Buf (Elt Ideal) ((c.tc : Thread Cert.CInBwdIdeal.nD Cert.CInBwdIdeal.τ).loc Cert.CInBwdIdeal.main_v7_0)) (v1 : (c : Dev Cert.CInBwdIdeal.nD) → Buf (Elt Ideal) ((c.tc : Thread Cert.CInBwdIdeal.nD Cert.CInBwdIdeal.τ).loc Cert.CInBwdIdeal.main_v7_1)),
      θ_run (Cert.CInBwdIdeal.defs (F := Ideal)) (onTc (τ := Cert.CInBwdIdeal.τ) (Cert.CInBwdIdeal.main (F := Ideal))) ⟨m, fun _ => 0, g⟩ (fun r => ∀ c : Dev Cert.CInBwdIdeal.nD,
          r.2.mem ((c.tc : Thread Cert.CInBwdIdeal.nD Cert.CInBwdIdeal.τ).loc Cert.CInBwdIdeal.main_v7_0) = v0 c
          ∧ r.2.mem ((c.tc : Thread Cert.CInBwdIdeal.nD Cert.CInBwdIdeal.τ).loc Cert.CInBwdIdeal.main_v7_1) = v1 c
          ∧ r.2.mem ((c.tc : Thread Cert.CInBwdIdeal.nD Cert.CInBwdIdeal.τ).loc Cert.CInBwdIdeal.main_arg0) = m ((c.tc : Thread Cert.CInBwdIdeal.nD Cert.CInBwdIdeal.τ).loc Cert.CInBwdIdeal.main_arg0)
          ∧ r.2.mem ((c.tc : Thread Cert.CInBwdIdeal.nD Cert.CInBwdIdeal.τ).loc Cert.CInBwdIdeal.main_arg1) = m ((c.tc : Thread Cert.CInBwdIdeal.nD Cert.CInBwdIdeal.τ).loc Cert.CInBwdIdeal.main_arg1)
          ∧ r.2.mem ((c.tc : Thread Cert.CInBwdIdeal.nD Cert.CInBwdIdeal.τ).loc Cert.CInBwdIdeal.main_arg2) = m ((c.tc : Thread Cert.CInBwdIdeal.nD Cert.CInBwdIdeal.τ).loc Cert.CInBwdIdeal.main_arg2)
          ∧ r.2.mem ((c.tc : Thread Cert.CInBwdIdeal.nD Cert.CInBwdIdeal.τ).loc Cert.CInBwdIdeal.main_arg3) = m ((c.tc : Thread Cert.CInBwdIdeal.nD Cert.CInBwdIdeal.τ).loc Cert.CInBwdIdeal.main_arg3)
          ∧ r.2.mem ((c.tc : Thread Cert.CInBwdIdeal.nD Cert.CInBwdIdeal.τ).loc Cert.CInBwdIdeal.main_arg4) = m ((c.tc : Thread Cert.CInBwdIdeal.nD Cert.CInBwdIdeal.τ).loc Cert.CInBwdIdeal.main_arg4))
      ∧ θ_run (Cert.CInBwdRefIdeal.defs (F := Ideal)) (onTc (τ := Cert.CInBwdRefIdeal.τ) (Cert.CInBwdRefIdeal.main (F := Ideal))) ⟨m', fun _ => 0, g'⟩ (fun r => ∀ c : Dev Cert.CInBwdRefIdeal.nD,
          r.2.mem ((c.tc : Thread Cert.CInBwdRefIdeal.nD Cert.CInBwdRefIdeal.τ).loc Cert.CInBwdRefIdeal.main_v39) = v0 c
          ∧ r.2.mem ((c.tc : Thread Cert.CInBwdRefIdeal.nD Cert.CInBwdRefIdeal.τ).loc Cert.CInBwdRefIdeal.main_v41) = v1 c
          ∧ r.2.mem ((c.tc : Thread Cert.CInBwdRefIdeal.nD Cert.CInBwdRefIdeal.τ).loc Cert.CInBwdRefIdeal.main_arg0) = m' ((c.tc : Thread Cert.CInBwdRefIdeal.nD Cert.CInBwdRefIdeal.τ).loc Cert.CInBwdRefIdeal.main_arg0)
          ∧ r.2.mem ((c.tc : Thread Cert.CInBwdRefIdeal.nD Cert.CInBwdRefIdeal.τ).loc Cert.CInBwdRefIdeal.main_arg1) = m' ((c.tc : Thread Cert.CInBwdRefIdeal.nD Cert.CInBwdRefIdeal.τ).loc Cert.CInBwdRefIdeal.main_arg1)
          ∧ r.2.mem ((c.tc : Thread Cert.CInBwdRefIdeal.nD Cert.CInBwdRefIdeal.τ).loc Cert.CInBwdRefIdeal.main_arg2) = m' ((c.tc : Thread Cert.CInBwdRefIdeal.nD Cert.CInBwdRefIdeal.τ).loc Cert.CInBwdRefIdeal.main_arg2)
          ∧ r.2.mem ((c.tc : Thread Cert.CInBwdRefIdeal.nD Cert.CInBwdRefIdeal.τ).loc Cert.CInBwdRefIdeal.main_arg3) = m' ((c.tc : Thread Cert.CInBwdRefIdeal.nD Cert.CInBwdRefIdeal.τ).loc Cert.CInBwdRefIdeal.main_arg3)
          ∧ r.2.mem ((c.tc : Thread Cert.CInBwdRefIdeal.nD Cert.CInBwdRefIdeal.τ).loc Cert.CInBwdRefIdeal.main_arg4) = m' ((c.tc : Thread Cert.CInBwdRefIdeal.nD Cert.CInBwdRefIdeal.τ).loc Cert.CInBwdRefIdeal.main_arg4))

def preserves_BInBwd_BInBwdIdeal : Prop :=
  True

def algebraic_BInBwdIdeal_BInBwdRefIdeal [hBInBwdIdeal : Cert.BInBwdIdeal.Facts] [hBInBwdRefIdeal : Cert.BInBwdRefIdeal.Facts] : Prop :=
  ∀ (m : (ℓ : Loc Cert.BInBwdIdeal.nD Cert.BInBwdIdeal.τ Cert.BInBwdIdeal.sig) → Buf (Elt Ideal) ℓ) (g : Dev Cert.BInBwdIdeal.nD → PrngReg)
    (m' : (ℓ : Loc Cert.BInBwdRefIdeal.nD Cert.BInBwdRefIdeal.τ Cert.BInBwdRefIdeal.sig) → Buf (Elt Ideal) ℓ) (g' : Dev Cert.BInBwdRefIdeal.nD → PrngReg), Pre_BInBwdIdeal m →
    (∀ c : Dev Cert.BInBwdIdeal.nD,
      m' ((c.tc : Thread Cert.BInBwdRefIdeal.nD Cert.BInBwdRefIdeal.τ).loc Cert.BInBwdRefIdeal.main_arg0) = m ((c.tc : Thread Cert.BInBwdIdeal.nD Cert.BInBwdIdeal.τ).loc Cert.BInBwdIdeal.main_arg0)
      ∧ m' ((c.tc : Thread Cert.BInBwdRefIdeal.nD Cert.BInBwdRefIdeal.τ).loc Cert.BInBwdRefIdeal.main_arg1) = m ((c.tc : Thread Cert.BInBwdIdeal.nD Cert.BInBwdIdeal.τ).loc Cert.BInBwdIdeal.main_arg1)
      ∧ m' ((c.tc : Thread Cert.BInBwdRefIdeal.nD Cert.BInBwdRefIdeal.τ).loc Cert.BInBwdRefIdeal.main_arg2) = m ((c.tc : Thread Cert.BInBwdIdeal.nD Cert.BInBwdIdeal.τ).loc Cert.BInBwdIdeal.main_arg2)
      ∧ m' ((c.tc : Thread Cert.BInBwdRefIdeal.nD Cert.BInBwdRefIdeal.τ).loc Cert.BInBwdRefIdeal.main_arg3) = m ((c.tc : Thread Cert.BInBwdIdeal.nD Cert.BInBwdIdeal.τ).loc Cert.BInBwdIdeal.main_arg3)
      ∧ m' ((c.tc : Thread Cert.BInBwdRefIdeal.nD Cert.BInBwdRefIdeal.τ).loc Cert.BInBwdRefIdeal.main_arg4) = m ((c.tc : Thread Cert.BInBwdIdeal.nD Cert.BInBwdIdeal.τ).loc Cert.BInBwdIdeal.main_arg4)) →
    ∃ (v0 : (c : Dev Cert.BInBwdIdeal.nD) → Buf (Elt Ideal) ((c.tc : Thread Cert.BInBwdIdeal.nD Cert.BInBwdIdeal.τ).loc Cert.BInBwdIdeal.main_v15_0)) (v1 : (c : Dev Cert.BInBwdIdeal.nD) → Buf (Elt Ideal) ((c.tc : Thread Cert.BInBwdIdeal.nD Cert.BInBwdIdeal.τ).loc Cert.BInBwdIdeal.main_v15_1)),
      θ_run (Cert.BInBwdIdeal.defs (F := Ideal)) (onTc (τ := Cert.BInBwdIdeal.τ) (Cert.BInBwdIdeal.main (F := Ideal))) ⟨m, fun _ => 0, g⟩ (fun r => ∀ c : Dev Cert.BInBwdIdeal.nD,
          r.2.mem ((c.tc : Thread Cert.BInBwdIdeal.nD Cert.BInBwdIdeal.τ).loc Cert.BInBwdIdeal.main_v15_0) = v0 c
          ∧ r.2.mem ((c.tc : Thread Cert.BInBwdIdeal.nD Cert.BInBwdIdeal.τ).loc Cert.BInBwdIdeal.main_v15_1) = v1 c
          ∧ r.2.mem ((c.tc : Thread Cert.BInBwdIdeal.nD Cert.BInBwdIdeal.τ).loc Cert.BInBwdIdeal.main_arg0) = m ((c.tc : Thread Cert.BInBwdIdeal.nD Cert.BInBwdIdeal.τ).loc Cert.BInBwdIdeal.main_arg0)
          ∧ r.2.mem ((c.tc : Thread Cert.BInBwdIdeal.nD Cert.BInBwdIdeal.τ).loc Cert.BInBwdIdeal.main_arg1) = m ((c.tc : Thread Cert.BInBwdIdeal.nD Cert.BInBwdIdeal.τ).loc Cert.BInBwdIdeal.main_arg1)
          ∧ r.2.mem ((c.tc : Thread Cert.BInBwdIdeal.nD Cert.BInBwdIdeal.τ).loc Cert.BInBwdIdeal.main_arg2) = m ((c.tc : Thread Cert.BInBwdIdeal.nD Cert.BInBwdIdeal.τ).loc Cert.BInBwdIdeal.main_arg2)
          ∧ r.2.mem ((c.tc : Thread Cert.BInBwdIdeal.nD Cert.BInBwdIdeal.τ).loc Cert.BInBwdIdeal.main_arg3) = m ((c.tc : Thread Cert.BInBwdIdeal.nD Cert.BInBwdIdeal.τ).loc Cert.BInBwdIdeal.main_arg3)
          ∧ r.2.mem ((c.tc : Thread Cert.BInBwdIdeal.nD Cert.BInBwdIdeal.τ).loc Cert.BInBwdIdeal.main_arg4) = m ((c.tc : Thread Cert.BInBwdIdeal.nD Cert.BInBwdIdeal.τ).loc Cert.BInBwdIdeal.main_arg4))
      ∧ θ_run (Cert.BInBwdRefIdeal.defs (F := Ideal)) (onTc (τ := Cert.BInBwdRefIdeal.τ) (Cert.BInBwdRefIdeal.main (F := Ideal))) ⟨m', fun _ => 0, g'⟩ (fun r => ∀ c : Dev Cert.BInBwdRefIdeal.nD,
          r.2.mem ((c.tc : Thread Cert.BInBwdRefIdeal.nD Cert.BInBwdRefIdeal.τ).loc Cert.BInBwdRefIdeal.main_v39) = v0 c
          ∧ r.2.mem ((c.tc : Thread Cert.BInBwdRefIdeal.nD Cert.BInBwdRefIdeal.τ).loc Cert.BInBwdRefIdeal.main_v41) = v1 c
          ∧ r.2.mem ((c.tc : Thread Cert.BInBwdRefIdeal.nD Cert.BInBwdRefIdeal.τ).loc Cert.BInBwdRefIdeal.main_arg0) = m' ((c.tc : Thread Cert.BInBwdRefIdeal.nD Cert.BInBwdRefIdeal.τ).loc Cert.BInBwdRefIdeal.main_arg0)
          ∧ r.2.mem ((c.tc : Thread Cert.BInBwdRefIdeal.nD Cert.BInBwdRefIdeal.τ).loc Cert.BInBwdRefIdeal.main_arg1) = m' ((c.tc : Thread Cert.BInBwdRefIdeal.nD Cert.BInBwdRefIdeal.τ).loc Cert.BInBwdRefIdeal.main_arg1)
          ∧ r.2.mem ((c.tc : Thread Cert.BInBwdRefIdeal.nD Cert.BInBwdRefIdeal.τ).loc Cert.BInBwdRefIdeal.main_arg2) = m' ((c.tc : Thread Cert.BInBwdRefIdeal.nD Cert.BInBwdRefIdeal.τ).loc Cert.BInBwdRefIdeal.main_arg2)
          ∧ r.2.mem ((c.tc : Thread Cert.BInBwdRefIdeal.nD Cert.BInBwdRefIdeal.τ).loc Cert.BInBwdRefIdeal.main_arg3) = m' ((c.tc : Thread Cert.BInBwdRefIdeal.nD Cert.BInBwdRefIdeal.τ).loc Cert.BInBwdRefIdeal.main_arg3)
          ∧ r.2.mem ((c.tc : Thread Cert.BInBwdRefIdeal.nD Cert.BInBwdRefIdeal.τ).loc Cert.BInBwdRefIdeal.main_arg4) = m' ((c.tc : Thread Cert.BInBwdRefIdeal.nD Cert.BInBwdRefIdeal.τ).loc Cert.BInBwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v43_0)) (v1 : (c : Dev Cert.FfnBwdIdeal.nD) → Buf (Elt Ideal) ((c.tc : Thread Cert.FfnBwdIdeal.nD Cert.FfnBwdIdeal.τ).loc Cert.FfnBwdIdeal.main_v43_1)) (v2 : (c : Dev Cert.FfnBwdIdeal.nD) → Buf (Elt Ideal) ((c.tc : Thread Cert.FfnBwdIdeal.nD Cert.FfnBwdIdeal.τ).loc Cert.FfnBwdIdeal.main_v43_2)) (v3 : (c : Dev Cert.FfnBwdIdeal.nD) → Buf (Elt Ideal) ((c.tc : Thread Cert.FfnBwdIdeal.nD Cert.FfnBwdIdeal.τ).loc Cert.FfnBwdIdeal.main_v43_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v43_0) = v0 c
          ∧ r.2.mem ((c.tc : Thread Cert.FfnBwdIdeal.nD Cert.FfnBwdIdeal.τ).loc Cert.FfnBwdIdeal.main_v43_1) = v1 c
          ∧ r.2.mem ((c.tc : Thread Cert.FfnBwdIdeal.nD Cert.FfnBwdIdeal.τ).loc Cert.FfnBwdIdeal.main_v43_2) = v2 c
          ∧ r.2.mem ((c.tc : Thread Cert.FfnBwdIdeal.nD Cert.FfnBwdIdeal.τ).loc Cert.FfnBwdIdeal.main_v43_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v49) = v0 c
          ∧ r.2.mem ((c.tc : Thread Cert.FfnBwdRefIdeal.nD Cert.FfnBwdRefIdeal.τ).loc Cert.FfnBwdRefIdeal.main_v51) = v1 c
          ∧ r.2.mem ((c.tc : Thread Cert.FfnBwdRefIdeal.nD Cert.FfnBwdRefIdeal.τ).loc Cert.FfnBwdRefIdeal.main_v53) = v2 c
          ∧ r.2.mem ((c.tc : Thread Cert.FfnBwdRefIdeal.nD Cert.FfnBwdRefIdeal.τ).loc Cert.FfnBwdRefIdeal.main_v55) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_GmlpBwd_GmlpBwdIdeal : Prop :=
  IdealRules.named_const.Statement Cert.GmlpBwdIdeal.κ "inv_sqrt2" .f32 0x3F3504F3#32 (((Real.sqrt 2)⁻¹ : ℝ) : EReal)
  ∧ IdealRules.named_const.Statement Cert.GmlpBwdIdeal.κ "inv_sqrt_2pi" .f32 0x3ECC422A#32 (((Real.sqrt (2 * Real.pi))⁻¹ : ℝ) : EReal)

def algebraic_GmlpBwdIdeal_GmlpBwdRefIdeal_pre_gmlp_finite [hGmlpBwdIdeal : Cert.GmlpBwdIdeal.Facts] [hGmlpBwdRefIdeal : Cert.GmlpBwdRefIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_gmlp_finite m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)
      ∧ m' ((c.tc : Thread Cert.GmlpBwdRefIdeal.nD Cert.GmlpBwdRefIdeal.τ).loc Cert.GmlpBwdRefIdeal.main_arg6) = m ((c.tc : Thread Cert.GmlpBwdIdeal.nD Cert.GmlpBwdIdeal.τ).loc Cert.GmlpBwdIdeal.main_arg6)
      ∧ m' ((c.tc : Thread Cert.GmlpBwdRefIdeal.nD Cert.GmlpBwdRefIdeal.τ).loc Cert.GmlpBwdRefIdeal.main_arg7) = m ((c.tc : Thread Cert.GmlpBwdIdeal.nD Cert.GmlpBwdIdeal.τ).loc Cert.GmlpBwdIdeal.main_arg7)) →
    ∃ (v0 : (c : Dev Cert.GmlpBwdIdeal.nD) → Buf (Elt Ideal) ((c.tc : Thread Cert.GmlpBwdIdeal.nD Cert.GmlpBwdIdeal.τ).loc Cert.GmlpBwdIdeal.main_v74_0)) (v1 : (c : Dev Cert.GmlpBwdIdeal.nD) → Buf (Elt Ideal) ((c.tc : Thread Cert.GmlpBwdIdeal.nD Cert.GmlpBwdIdeal.τ).loc Cert.GmlpBwdIdeal.main_v74_1)) (v2 : (c : Dev Cert.GmlpBwdIdeal.nD) → Buf (Elt Ideal) ((c.tc : Thread Cert.GmlpBwdIdeal.nD Cert.GmlpBwdIdeal.τ).loc Cert.GmlpBwdIdeal.main_v74_2)) (v3 : (c : Dev Cert.GmlpBwdIdeal.nD) → Buf (Elt Ideal) ((c.tc : Thread Cert.GmlpBwdIdeal.nD Cert.GmlpBwdIdeal.τ).loc Cert.GmlpBwdIdeal.main_v74_3)) (v4 : (c : Dev Cert.GmlpBwdIdeal.nD) → Buf (Elt Ideal) ((c.tc : Thread Cert.GmlpBwdIdeal.nD Cert.GmlpBwdIdeal.τ).loc Cert.GmlpBwdIdeal.main_v74_4)) (v5 : (c : Dev Cert.GmlpBwdIdeal.nD) → Buf (Elt Ideal) ((c.tc : Thread Cert.GmlpBwdIdeal.nD Cert.GmlpBwdIdeal.τ).loc Cert.GmlpBwdIdeal.main_v74_5)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v74_0) = v0 c
          ∧ r.2.mem ((c.tc : Thread Cert.GmlpBwdIdeal.nD Cert.GmlpBwdIdeal.τ).loc Cert.GmlpBwdIdeal.main_v74_1) = v1 c
          ∧ r.2.mem ((c.tc : Thread Cert.GmlpBwdIdeal.nD Cert.GmlpBwdIdeal.τ).loc Cert.GmlpBwdIdeal.main_v74_2) = v2 c
          ∧ r.2.mem ((c.tc : Thread Cert.GmlpBwdIdeal.nD Cert.GmlpBwdIdeal.τ).loc Cert.GmlpBwdIdeal.main_v74_3) = v3 c
          ∧ r.2.mem ((c.tc : Thread Cert.GmlpBwdIdeal.nD Cert.GmlpBwdIdeal.τ).loc Cert.GmlpBwdIdeal.main_v74_4) = v4 c
          ∧ r.2.mem ((c.tc : Thread Cert.GmlpBwdIdeal.nD Cert.GmlpBwdIdeal.τ).loc Cert.GmlpBwdIdeal.main_v74_5) = v5 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
          ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
          ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v158) = v0 c
          ∧ r.2.mem ((c.tc : Thread Cert.GmlpBwdRefIdeal.nD Cert.GmlpBwdRefIdeal.τ).loc Cert.GmlpBwdRefIdeal.main_v160) = v1 c
          ∧ r.2.mem ((c.tc : Thread Cert.GmlpBwdRefIdeal.nD Cert.GmlpBwdRefIdeal.τ).loc Cert.GmlpBwdRefIdeal.main_v92) = v2 c
          ∧ r.2.mem ((c.tc : Thread Cert.GmlpBwdRefIdeal.nD Cert.GmlpBwdRefIdeal.τ).loc Cert.GmlpBwdRefIdeal.main_v162) = v3 c
          ∧ r.2.mem ((c.tc : Thread Cert.GmlpBwdRefIdeal.nD Cert.GmlpBwdRefIdeal.τ).loc Cert.GmlpBwdRefIdeal.main_v164) = v4 c
          ∧ r.2.mem ((c.tc : Thread Cert.GmlpBwdRefIdeal.nD Cert.GmlpBwdRefIdeal.τ).loc Cert.GmlpBwdRefIdeal.main_v166) = v5 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5)
          ∧ r.2.mem ((c.tc : Thread Cert.GmlpBwdRefIdeal.nD Cert.GmlpBwdRefIdeal.τ).loc Cert.GmlpBwdRefIdeal.main_arg6) = m' ((c.tc : Thread Cert.GmlpBwdRefIdeal.nD Cert.GmlpBwdRefIdeal.τ).loc Cert.GmlpBwdRefIdeal.main_arg6)
          ∧ r.2.mem ((c.tc : Thread Cert.GmlpBwdRefIdeal.nD Cert.GmlpBwdRefIdeal.τ).loc Cert.GmlpBwdRefIdeal.main_arg7) = m' ((c.tc : Thread Cert.GmlpBwdRefIdeal.nD Cert.GmlpBwdRefIdeal.τ).loc Cert.GmlpBwdRefIdeal.main_arg7))

def preserves_Pool2Bwd_Pool2BwdIdeal : Prop :=
  True

def algebraic_Pool2BwdIdeal_Pool2BwdRefIdeal_pre_pool_finite [hPool2BwdIdeal : Cert.Pool2BwdIdeal.Facts] [hPool2BwdRefIdeal : Cert.Pool2BwdRefIdeal.Facts] [hPre_pool_finite : Cert.Pre_pool_finite.Facts] : Prop :=
  ∀ (m : (ℓ : Loc Cert.Pool2BwdIdeal.nD Cert.Pool2BwdIdeal.τ Cert.Pool2BwdIdeal.sig) → Buf (Elt Ideal) ℓ) (g : Dev Cert.Pool2BwdIdeal.nD → PrngReg)
    (m' : (ℓ : Loc Cert.Pool2BwdRefIdeal.nD Cert.Pool2BwdRefIdeal.τ Cert.Pool2BwdRefIdeal.sig) → Buf (Elt Ideal) ℓ) (g' : Dev Cert.Pool2BwdRefIdeal.nD → PrngReg), Pre_Pool2BwdIdeal_pool_finite m →
    (∀ c : Dev Cert.Pool2BwdIdeal.nD,
      m' ((c.tc : Thread Cert.Pool2BwdRefIdeal.nD Cert.Pool2BwdRefIdeal.τ).loc Cert.Pool2BwdRefIdeal.main_arg0) = m ((c.tc : Thread Cert.Pool2BwdIdeal.nD Cert.Pool2BwdIdeal.τ).loc Cert.Pool2BwdIdeal.main_arg0)
      ∧ m' ((c.tc : Thread Cert.Pool2BwdRefIdeal.nD Cert.Pool2BwdRefIdeal.τ).loc Cert.Pool2BwdRefIdeal.main_arg1) = m ((c.tc : Thread Cert.Pool2BwdIdeal.nD Cert.Pool2BwdIdeal.τ).loc Cert.Pool2BwdIdeal.main_arg1)) →
    ∃ (v0 : (c : Dev Cert.Pool2BwdIdeal.nD) → Buf (Elt Ideal) ((c.tc : Thread Cert.Pool2BwdIdeal.nD Cert.Pool2BwdIdeal.τ).loc Cert.Pool2BwdIdeal.main_v1)),
      θ_run (Cert.Pool2BwdIdeal.defs (F := Ideal)) (onTc (τ := Cert.Pool2BwdIdeal.τ) (Cert.Pool2BwdIdeal.main (F := Ideal))) ⟨m, fun _ => 0, g⟩ (fun r => ∀ c : Dev Cert.Pool2BwdIdeal.nD,
          r.2.mem ((c.tc : Thread Cert.Pool2BwdIdeal.nD Cert.Pool2BwdIdeal.τ).loc Cert.Pool2BwdIdeal.main_v1) = v0 c
          ∧ r.2.mem ((c.tc : Thread Cert.Pool2BwdIdeal.nD Cert.Pool2BwdIdeal.τ).loc Cert.Pool2BwdIdeal.main_arg0) = m ((c.tc : Thread Cert.Pool2BwdIdeal.nD Cert.Pool2BwdIdeal.τ).loc Cert.Pool2BwdIdeal.main_arg0)
          ∧ r.2.mem ((c.tc : Thread Cert.Pool2BwdIdeal.nD Cert.Pool2BwdIdeal.τ).loc Cert.Pool2BwdIdeal.main_arg1) = m ((c.tc : Thread Cert.Pool2BwdIdeal.nD Cert.Pool2BwdIdeal.τ).loc Cert.Pool2BwdIdeal.main_arg1))
      ∧ θ_run (Cert.Pool2BwdRefIdeal.defs (F := Ideal)) (onTc (τ := Cert.Pool2BwdRefIdeal.τ) (Cert.Pool2BwdRefIdeal.main (F := Ideal))) ⟨m', fun _ => 0, g'⟩ (fun r => ∀ c : Dev Cert.Pool2BwdRefIdeal.nD,
          r.2.mem ((c.tc : Thread Cert.Pool2BwdRefIdeal.nD Cert.Pool2BwdRefIdeal.τ).loc Cert.Pool2BwdRefIdeal.main_v27) = v0 c
          ∧ r.2.mem ((c.tc : Thread Cert.Pool2BwdRefIdeal.nD Cert.Pool2BwdRefIdeal.τ).loc Cert.Pool2BwdRefIdeal.main_arg0) = m' ((c.tc : Thread Cert.Pool2BwdRefIdeal.nD Cert.Pool2BwdRefIdeal.τ).loc Cert.Pool2BwdRefIdeal.main_arg0)
          ∧ r.2.mem ((c.tc : Thread Cert.Pool2BwdRefIdeal.nD Cert.Pool2BwdRefIdeal.τ).loc Cert.Pool2BwdRefIdeal.main_arg1) = m' ((c.tc : Thread Cert.Pool2BwdRefIdeal.nD Cert.Pool2BwdRefIdeal.τ).loc Cert.Pool2BwdRefIdeal.main_arg1))

def preserves_Pool4Bwd_Pool4BwdIdeal : Prop :=
  True

def algebraic_Pool4BwdIdeal_Pool4BwdRefIdeal_pre_pool_finite [hPool4BwdIdeal : Cert.Pool4BwdIdeal.Facts] [hPool4BwdRefIdeal : Cert.Pool4BwdRefIdeal.Facts] [hPre_pool_finite : Cert.Pre_pool_finite.Facts] : Prop :=
  ∀ (m : (ℓ : Loc Cert.Pool4BwdIdeal.nD Cert.Pool4BwdIdeal.τ Cert.Pool4BwdIdeal.sig) → Buf (Elt Ideal) ℓ) (g : Dev Cert.Pool4BwdIdeal.nD → PrngReg)
    (m' : (ℓ : Loc Cert.Pool4BwdRefIdeal.nD Cert.Pool4BwdRefIdeal.τ Cert.Pool4BwdRefIdeal.sig) → Buf (Elt Ideal) ℓ) (g' : Dev Cert.Pool4BwdRefIdeal.nD → PrngReg), Pre_Pool4BwdIdeal_pool_finite m →
    (∀ c : Dev Cert.Pool4BwdIdeal.nD,
      m' ((c.tc : Thread Cert.Pool4BwdRefIdeal.nD Cert.Pool4BwdRefIdeal.τ).loc Cert.Pool4BwdRefIdeal.main_arg0) = m ((c.tc : Thread Cert.Pool4BwdIdeal.nD Cert.Pool4BwdIdeal.τ).loc Cert.Pool4BwdIdeal.main_arg0)
      ∧ m' ((c.tc : Thread Cert.Pool4BwdRefIdeal.nD Cert.Pool4BwdRefIdeal.τ).loc Cert.Pool4BwdRefIdeal.main_arg1) = m ((c.tc : Thread Cert.Pool4BwdIdeal.nD Cert.Pool4BwdIdeal.τ).loc Cert.Pool4BwdIdeal.main_arg1)) →
    ∃ (v0 : (c : Dev Cert.Pool4BwdIdeal.nD) → Buf (Elt Ideal) ((c.tc : Thread Cert.Pool4BwdIdeal.nD Cert.Pool4BwdIdeal.τ).loc Cert.Pool4BwdIdeal.main_v1)),
      θ_run (Cert.Pool4BwdIdeal.defs (F := Ideal)) (onTc (τ := Cert.Pool4BwdIdeal.τ) (Cert.Pool4BwdIdeal.main (F := Ideal))) ⟨m, fun _ => 0, g⟩ (fun r => ∀ c : Dev Cert.Pool4BwdIdeal.nD,
          r.2.mem ((c.tc : Thread Cert.Pool4BwdIdeal.nD Cert.Pool4BwdIdeal.τ).loc Cert.Pool4BwdIdeal.main_v1) = v0 c
          ∧ r.2.mem ((c.tc : Thread Cert.Pool4BwdIdeal.nD Cert.Pool4BwdIdeal.τ).loc Cert.Pool4BwdIdeal.main_arg0) = m ((c.tc : Thread Cert.Pool4BwdIdeal.nD Cert.Pool4BwdIdeal.τ).loc Cert.Pool4BwdIdeal.main_arg0)
          ∧ r.2.mem ((c.tc : Thread Cert.Pool4BwdIdeal.nD Cert.Pool4BwdIdeal.τ).loc Cert.Pool4BwdIdeal.main_arg1) = m ((c.tc : Thread Cert.Pool4BwdIdeal.nD Cert.Pool4BwdIdeal.τ).loc Cert.Pool4BwdIdeal.main_arg1))
      ∧ θ_run (Cert.Pool4BwdRefIdeal.defs (F := Ideal)) (onTc (τ := Cert.Pool4BwdRefIdeal.τ) (Cert.Pool4BwdRefIdeal.main (F := Ideal))) ⟨m', fun _ => 0, g'⟩ (fun r => ∀ c : Dev Cert.Pool4BwdRefIdeal.nD,
          r.2.mem ((c.tc : Thread Cert.Pool4BwdRefIdeal.nD Cert.Pool4BwdRefIdeal.τ).loc Cert.Pool4BwdRefIdeal.main_v27) = v0 c
          ∧ r.2.mem ((c.tc : Thread Cert.Pool4BwdRefIdeal.nD Cert.Pool4BwdRefIdeal.τ).loc Cert.Pool4BwdRefIdeal.main_arg0) = m' ((c.tc : Thread Cert.Pool4BwdRefIdeal.nD Cert.Pool4BwdRefIdeal.τ).loc Cert.Pool4BwdRefIdeal.main_arg0)
          ∧ r.2.mem ((c.tc : Thread Cert.Pool4BwdRefIdeal.nD Cert.Pool4BwdRefIdeal.τ).loc Cert.Pool4BwdRefIdeal.main_arg1) = m' ((c.tc : Thread Cert.Pool4BwdRefIdeal.nD Cert.Pool4BwdRefIdeal.τ).loc Cert.Pool4BwdRefIdeal.main_arg1))

def preserves_Pool8Bwd_Pool8BwdIdeal : Prop :=
  True

def algebraic_Pool8BwdIdeal_Pool8BwdRefIdeal_pre_pool_finite [hPool8BwdIdeal : Cert.Pool8BwdIdeal.Facts] [hPool8BwdRefIdeal : Cert.Pool8BwdRefIdeal.Facts] [hPre_pool_finite : Cert.Pre_pool_finite.Facts] : Prop :=
  ∀ (m : (ℓ : Loc Cert.Pool8BwdIdeal.nD Cert.Pool8BwdIdeal.τ Cert.Pool8BwdIdeal.sig) → Buf (Elt Ideal) ℓ) (g : Dev Cert.Pool8BwdIdeal.nD → PrngReg)
    (m' : (ℓ : Loc Cert.Pool8BwdRefIdeal.nD Cert.Pool8BwdRefIdeal.τ Cert.Pool8BwdRefIdeal.sig) → Buf (Elt Ideal) ℓ) (g' : Dev Cert.Pool8BwdRefIdeal.nD → PrngReg), Pre_Pool8BwdIdeal_pool_finite m →
    (∀ c : Dev Cert.Pool8BwdIdeal.nD,
      m' ((c.tc : Thread Cert.Pool8BwdRefIdeal.nD Cert.Pool8BwdRefIdeal.τ).loc Cert.Pool8BwdRefIdeal.main_arg0) = m ((c.tc : Thread Cert.Pool8BwdIdeal.nD Cert.Pool8BwdIdeal.τ).loc Cert.Pool8BwdIdeal.main_arg0)
      ∧ m' ((c.tc : Thread Cert.Pool8BwdRefIdeal.nD Cert.Pool8BwdRefIdeal.τ).loc Cert.Pool8BwdRefIdeal.main_arg1) = m ((c.tc : Thread Cert.Pool8BwdIdeal.nD Cert.Pool8BwdIdeal.τ).loc Cert.Pool8BwdIdeal.main_arg1)) →
    ∃ (v0 : (c : Dev Cert.Pool8BwdIdeal.nD) → Buf (Elt Ideal) ((c.tc : Thread Cert.Pool8BwdIdeal.nD Cert.Pool8BwdIdeal.τ).loc Cert.Pool8BwdIdeal.main_v1)),
      θ_run (Cert.Pool8BwdIdeal.defs (F := Ideal)) (onTc (τ := Cert.Pool8BwdIdeal.τ) (Cert.Pool8BwdIdeal.main (F := Ideal))) ⟨m, fun _ => 0, g⟩ (fun r => ∀ c : Dev Cert.Pool8BwdIdeal.nD,
          r.2.mem ((c.tc : Thread Cert.Pool8BwdIdeal.nD Cert.Pool8BwdIdeal.τ).loc Cert.Pool8BwdIdeal.main_v1) = v0 c
          ∧ r.2.mem ((c.tc : Thread Cert.Pool8BwdIdeal.nD Cert.Pool8BwdIdeal.τ).loc Cert.Pool8BwdIdeal.main_arg0) = m ((c.tc : Thread Cert.Pool8BwdIdeal.nD Cert.Pool8BwdIdeal.τ).loc Cert.Pool8BwdIdeal.main_arg0)
          ∧ r.2.mem ((c.tc : Thread Cert.Pool8BwdIdeal.nD Cert.Pool8BwdIdeal.τ).loc Cert.Pool8BwdIdeal.main_arg1) = m ((c.tc : Thread Cert.Pool8BwdIdeal.nD Cert.Pool8BwdIdeal.τ).loc Cert.Pool8BwdIdeal.main_arg1))
      ∧ θ_run (Cert.Pool8BwdRefIdeal.defs (F := Ideal)) (onTc (τ := Cert.Pool8BwdRefIdeal.τ) (Cert.Pool8BwdRefIdeal.main (F := Ideal))) ⟨m', fun _ => 0, g'⟩ (fun r => ∀ c : Dev Cert.Pool8BwdRefIdeal.nD,
          r.2.mem ((c.tc : Thread Cert.Pool8BwdRefIdeal.nD Cert.Pool8BwdRefIdeal.τ).loc Cert.Pool8BwdRefIdeal.main_v27) = v0 c
          ∧ r.2.mem ((c.tc : Thread Cert.Pool8BwdRefIdeal.nD Cert.Pool8BwdRefIdeal.τ).loc Cert.Pool8BwdRefIdeal.main_arg0) = m' ((c.tc : Thread Cert.Pool8BwdRefIdeal.nD Cert.Pool8BwdRefIdeal.τ).loc Cert.Pool8BwdRefIdeal.main_arg0)
          ∧ r.2.mem ((c.tc : Thread Cert.Pool8BwdRefIdeal.nD Cert.Pool8BwdRefIdeal.τ).loc Cert.Pool8BwdRefIdeal.main_arg1) = m' ((c.tc : Thread Cert.Pool8BwdRefIdeal.nD Cert.Pool8BwdRefIdeal.τ).loc Cert.Pool8BwdRefIdeal.main_arg1))

def preserves_Pool16Bwd_Pool16BwdIdeal : Prop :=
  True

def algebraic_Pool16BwdIdeal_Pool16BwdRefIdeal_pre_pool_finite [hPool16BwdIdeal : Cert.Pool16BwdIdeal.Facts] [hPool16BwdRefIdeal : Cert.Pool16BwdRefIdeal.Facts] [hPre_pool_finite : Cert.Pre_pool_finite.Facts] : Prop :=
  ∀ (m : (ℓ : Loc Cert.Pool16BwdIdeal.nD Cert.Pool16BwdIdeal.τ Cert.Pool16BwdIdeal.sig) → Buf (Elt Ideal) ℓ) (g : Dev Cert.Pool16BwdIdeal.nD → PrngReg)
    (m' : (ℓ : Loc Cert.Pool16BwdRefIdeal.nD Cert.Pool16BwdRefIdeal.τ Cert.Pool16BwdRefIdeal.sig) → Buf (Elt Ideal) ℓ) (g' : Dev Cert.Pool16BwdRefIdeal.nD → PrngReg), Pre_Pool16BwdIdeal_pool_finite m →
    (∀ c : Dev Cert.Pool16BwdIdeal.nD,
      m' ((c.tc : Thread Cert.Pool16BwdRefIdeal.nD Cert.Pool16BwdRefIdeal.τ).loc Cert.Pool16BwdRefIdeal.main_arg0) = m ((c.tc : Thread Cert.Pool16BwdIdeal.nD Cert.Pool16BwdIdeal.τ).loc Cert.Pool16BwdIdeal.main_arg0)
      ∧ m' ((c.tc : Thread Cert.Pool16BwdRefIdeal.nD Cert.Pool16BwdRefIdeal.τ).loc Cert.Pool16BwdRefIdeal.main_arg1) = m ((c.tc : Thread Cert.Pool16BwdIdeal.nD Cert.Pool16BwdIdeal.τ).loc Cert.Pool16BwdIdeal.main_arg1)) →
    ∃ (v0 : (c : Dev Cert.Pool16BwdIdeal.nD) → Buf (Elt Ideal) ((c.tc : Thread Cert.Pool16BwdIdeal.nD Cert.Pool16BwdIdeal.τ).loc Cert.Pool16BwdIdeal.main_v1)),
      θ_run (Cert.Pool16BwdIdeal.defs (F := Ideal)) (onTc (τ := Cert.Pool16BwdIdeal.τ) (Cert.Pool16BwdIdeal.main (F := Ideal))) ⟨m, fun _ => 0, g⟩ (fun r => ∀ c : Dev Cert.Pool16BwdIdeal.nD,
          r.2.mem ((c.tc : Thread Cert.Pool16BwdIdeal.nD Cert.Pool16BwdIdeal.τ).loc Cert.Pool16BwdIdeal.main_v1) = v0 c
          ∧ r.2.mem ((c.tc : Thread Cert.Pool16BwdIdeal.nD Cert.Pool16BwdIdeal.τ).loc Cert.Pool16BwdIdeal.main_arg0) = m ((c.tc : Thread Cert.Pool16BwdIdeal.nD Cert.Pool16BwdIdeal.τ).loc Cert.Pool16BwdIdeal.main_arg0)
          ∧ r.2.mem ((c.tc : Thread Cert.Pool16BwdIdeal.nD Cert.Pool16BwdIdeal.τ).loc Cert.Pool16BwdIdeal.main_arg1) = m ((c.tc : Thread Cert.Pool16BwdIdeal.nD Cert.Pool16BwdIdeal.τ).loc Cert.Pool16BwdIdeal.main_arg1))
      ∧ θ_run (Cert.Pool16BwdRefIdeal.defs (F := Ideal)) (onTc (τ := Cert.Pool16BwdRefIdeal.τ) (Cert.Pool16BwdRefIdeal.main (F := Ideal))) ⟨m', fun _ => 0, g'⟩ (fun r => ∀ c : Dev Cert.Pool16BwdRefIdeal.nD,
          r.2.mem ((c.tc : Thread Cert.Pool16BwdRefIdeal.nD Cert.Pool16BwdRefIdeal.τ).loc Cert.Pool16BwdRefIdeal.main_v27) = v0 c
          ∧ r.2.mem ((c.tc : Thread Cert.Pool16BwdRefIdeal.nD Cert.Pool16BwdRefIdeal.τ).loc Cert.Pool16BwdRefIdeal.main_arg0) = m' ((c.tc : Thread Cert.Pool16BwdRefIdeal.nD Cert.Pool16BwdRefIdeal.τ).loc Cert.Pool16BwdRefIdeal.main_arg0)
          ∧ r.2.mem ((c.tc : Thread Cert.Pool16BwdRefIdeal.nD Cert.Pool16BwdRefIdeal.τ).loc Cert.Pool16BwdRefIdeal.main_arg1) = m' ((c.tc : Thread Cert.Pool16BwdRefIdeal.nD Cert.Pool16BwdRefIdeal.τ).loc Cert.Pool16BwdRefIdeal.main_arg1))

def preserves_GmlpFwd_GmlpFwdIdeal : Prop :=
  IdealRules.named_const.Statement Cert.GmlpFwdIdeal.κ "inv_sqrt2" .f32 0x3F3504F3#32 (((Real.sqrt 2)⁻¹ : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)
      ∧ m' ((c.tc : Thread Cert.GmlpFwdRefIdeal.nD Cert.GmlpFwdRefIdeal.τ).loc Cert.GmlpFwdRefIdeal.main_arg5) = m ((c.tc : Thread Cert.GmlpFwdIdeal.nD Cert.GmlpFwdIdeal.τ).loc Cert.GmlpFwdIdeal.main_arg5)
      ∧ m' ((c.tc : Thread Cert.GmlpFwdRefIdeal.nD Cert.GmlpFwdRefIdeal.τ).loc Cert.GmlpFwdRefIdeal.main_arg6) = m ((c.tc : Thread Cert.GmlpFwdIdeal.nD Cert.GmlpFwdIdeal.τ).loc Cert.GmlpFwdIdeal.main_arg6)) →
    ∃ (v0 : (c : Dev Cert.GmlpFwdIdeal.nD) → Buf (Elt Ideal) ((c.tc : Thread Cert.GmlpFwdIdeal.nD Cert.GmlpFwdIdeal.τ).loc Cert.GmlpFwdIdeal.main_v21_0)) (v1 : (c : Dev Cert.GmlpFwdIdeal.nD) → Buf (Elt Ideal) ((c.tc : Thread Cert.GmlpFwdIdeal.nD Cert.GmlpFwdIdeal.τ).loc Cert.GmlpFwdIdeal.main_v21_1)) (v2 : (c : Dev Cert.GmlpFwdIdeal.nD) → Buf (Elt Ideal) ((c.tc : Thread Cert.GmlpFwdIdeal.nD Cert.GmlpFwdIdeal.τ).loc Cert.GmlpFwdIdeal.main_v21_2)) (v3 : (c : Dev Cert.GmlpFwdIdeal.nD) → Buf (Elt Ideal) ((c.tc : Thread Cert.GmlpFwdIdeal.nD Cert.GmlpFwdIdeal.τ).loc Cert.GmlpFwdIdeal.main_v21_3)) (v4 : (c : Dev Cert.GmlpFwdIdeal.nD) → Buf (Elt Ideal) ((c.tc : Thread Cert.GmlpFwdIdeal.nD Cert.GmlpFwdIdeal.τ).loc Cert.GmlpFwdIdeal.main_v21_4)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v21_0) = v0 c
          ∧ r.2.mem ((c.tc : Thread Cert.GmlpFwdIdeal.nD Cert.GmlpFwdIdeal.τ).loc Cert.GmlpFwdIdeal.main_v21_1) = v1 c
          ∧ r.2.mem ((c.tc : Thread Cert.GmlpFwdIdeal.nD Cert.GmlpFwdIdeal.τ).loc Cert.GmlpFwdIdeal.main_v21_2) = v2 c
          ∧ r.2.mem ((c.tc : Thread Cert.GmlpFwdIdeal.nD Cert.GmlpFwdIdeal.τ).loc Cert.GmlpFwdIdeal.main_v21_3) = v3 c
          ∧ r.2.mem ((c.tc : Thread Cert.GmlpFwdIdeal.nD Cert.GmlpFwdIdeal.τ).loc Cert.GmlpFwdIdeal.main_v21_4) = v4 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
          ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5)
          ∧ r.2.mem ((c.tc : Thread Cert.GmlpFwdIdeal.nD Cert.GmlpFwdIdeal.τ).loc Cert.GmlpFwdIdeal.main_arg6) = m ((c.tc : Thread Cert.GmlpFwdIdeal.nD Cert.GmlpFwdIdeal.τ).loc Cert.GmlpFwdIdeal.main_arg6))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v66) = v0 c
          ∧ r.2.mem ((c.tc : Thread Cert.GmlpFwdRefIdeal.nD Cert.GmlpFwdRefIdeal.τ).loc Cert.GmlpFwdRefIdeal.main_v68) = v1 c
          ∧ r.2.mem ((c.tc : Thread Cert.GmlpFwdRefIdeal.nD Cert.GmlpFwdRefIdeal.τ).loc Cert.GmlpFwdRefIdeal.main_v70) = v2 c
          ∧ r.2.mem ((c.tc : Thread Cert.GmlpFwdRefIdeal.nD Cert.GmlpFwdRefIdeal.τ).loc Cert.GmlpFwdRefIdeal.main_v72) = v3 c
          ∧ r.2.mem ((c.tc : Thread Cert.GmlpFwdRefIdeal.nD Cert.GmlpFwdRefIdeal.τ).loc Cert.GmlpFwdRefIdeal.main_v75) = v4 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4)
          ∧ r.2.mem ((c.tc : Thread Cert.GmlpFwdRefIdeal.nD Cert.GmlpFwdRefIdeal.τ).loc Cert.GmlpFwdRefIdeal.main_arg5) = m' ((c.tc : Thread Cert.GmlpFwdRefIdeal.nD Cert.GmlpFwdRefIdeal.τ).loc Cert.GmlpFwdRefIdeal.main_arg5)
          ∧ r.2.mem ((c.tc : Thread Cert.GmlpFwdRefIdeal.nD Cert.GmlpFwdRefIdeal.τ).loc Cert.GmlpFwdRefIdeal.main_arg6) = m' ((c.tc : Thread Cert.GmlpFwdRefIdeal.nD Cert.GmlpFwdRefIdeal.τ).loc Cert.GmlpFwdRefIdeal.main_arg6))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)) (v2 : (c : Dev Cert.FfnFwdIdeal.nD) → Buf (Elt Ideal) ((c.tc : Thread Cert.FfnFwdIdeal.nD Cert.FfnFwdIdeal.τ).loc Cert.FfnFwdIdeal.main_v7_2)) (v3 : (c : Dev Cert.FfnFwdIdeal.nD) → Buf (Elt Ideal) ((c.tc : Thread Cert.FfnFwdIdeal.nD Cert.FfnFwdIdeal.τ).loc Cert.FfnFwdIdeal.main_v7_3)) (v4 : (c : Dev Cert.FfnFwdIdeal.nD) → Buf (Elt Ideal) ((c.tc : Thread Cert.FfnFwdIdeal.nD Cert.FfnFwdIdeal.τ).loc Cert.FfnFwdIdeal.main_v7_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_v7_2) = v2 c
          ∧ r.2.mem ((c.tc : Thread Cert.FfnFwdIdeal.nD Cert.FfnFwdIdeal.τ).loc Cert.FfnFwdIdeal.main_v7_3) = v3 c
          ∧ r.2.mem ((c.tc : Thread Cert.FfnFwdIdeal.nD Cert.FfnFwdIdeal.τ).loc Cert.FfnFwdIdeal.main_v7_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v19) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v24) = v2 c
          ∧ r.2.mem ((c.tc : Thread Cert.FfnFwdRefIdeal.nD Cert.FfnFwdRefIdeal.τ).loc Cert.FfnFwdRefIdeal.main_v27) = v3 c
          ∧ r.2.mem ((c.tc : Thread Cert.FfnFwdRefIdeal.nD Cert.FfnFwdRefIdeal.τ).loc Cert.FfnFwdRefIdeal.main_v31) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v9)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v9) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_BInFwd_BInFwdIdeal : Prop :=
  True

def algebraic_BInFwdIdeal_BInFwdRefIdeal [hBInFwdIdeal : Cert.BInFwdIdeal.Facts] [hBInFwdRefIdeal : Cert.BInFwdRefIdeal.Facts] : Prop :=
  ∀ (m : (ℓ : Loc Cert.BInFwdIdeal.nD Cert.BInFwdIdeal.τ Cert.BInFwdIdeal.sig) → Buf (Elt Ideal) ℓ) (g : Dev Cert.BInFwdIdeal.nD → PrngReg)
    (m' : (ℓ : Loc Cert.BInFwdRefIdeal.nD Cert.BInFwdRefIdeal.τ Cert.BInFwdRefIdeal.sig) → Buf (Elt Ideal) ℓ) (g' : Dev Cert.BInFwdRefIdeal.nD → PrngReg), Pre_BInFwdIdeal m →
    (∀ c : Dev Cert.BInFwdIdeal.nD,
      m' ((c.tc : Thread Cert.BInFwdRefIdeal.nD Cert.BInFwdRefIdeal.τ).loc Cert.BInFwdRefIdeal.main_arg0) = m ((c.tc : Thread Cert.BInFwdIdeal.nD Cert.BInFwdIdeal.τ).loc Cert.BInFwdIdeal.main_arg0)
      ∧ m' ((c.tc : Thread Cert.BInFwdRefIdeal.nD Cert.BInFwdRefIdeal.τ).loc Cert.BInFwdRefIdeal.main_arg1) = m ((c.tc : Thread Cert.BInFwdIdeal.nD Cert.BInFwdIdeal.τ).loc Cert.BInFwdIdeal.main_arg1)
      ∧ m' ((c.tc : Thread Cert.BInFwdRefIdeal.nD Cert.BInFwdRefIdeal.τ).loc Cert.BInFwdRefIdeal.main_arg2) = m ((c.tc : Thread Cert.BInFwdIdeal.nD Cert.BInFwdIdeal.τ).loc Cert.BInFwdIdeal.main_arg2)) →
    ∃ (v0 : (c : Dev Cert.BInFwdIdeal.nD) → Buf (Elt Ideal) ((c.tc : Thread Cert.BInFwdIdeal.nD Cert.BInFwdIdeal.τ).loc Cert.BInFwdIdeal.main_v5_0)) (v1 : (c : Dev Cert.BInFwdIdeal.nD) → Buf (Elt Ideal) ((c.tc : Thread Cert.BInFwdIdeal.nD Cert.BInFwdIdeal.τ).loc Cert.BInFwdIdeal.main_v5_1)),
      θ_run (Cert.BInFwdIdeal.defs (F := Ideal)) (onTc (τ := Cert.BInFwdIdeal.τ) (Cert.BInFwdIdeal.main (F := Ideal))) ⟨m, fun _ => 0, g⟩ (fun r => ∀ c : Dev Cert.BInFwdIdeal.nD,
          r.2.mem ((c.tc : Thread Cert.BInFwdIdeal.nD Cert.BInFwdIdeal.τ).loc Cert.BInFwdIdeal.main_v5_0) = v0 c
          ∧ r.2.mem ((c.tc : Thread Cert.BInFwdIdeal.nD Cert.BInFwdIdeal.τ).loc Cert.BInFwdIdeal.main_v5_1) = v1 c
          ∧ r.2.mem ((c.tc : Thread Cert.BInFwdIdeal.nD Cert.BInFwdIdeal.τ).loc Cert.BInFwdIdeal.main_arg0) = m ((c.tc : Thread Cert.BInFwdIdeal.nD Cert.BInFwdIdeal.τ).loc Cert.BInFwdIdeal.main_arg0)
          ∧ r.2.mem ((c.tc : Thread Cert.BInFwdIdeal.nD Cert.BInFwdIdeal.τ).loc Cert.BInFwdIdeal.main_arg1) = m ((c.tc : Thread Cert.BInFwdIdeal.nD Cert.BInFwdIdeal.τ).loc Cert.BInFwdIdeal.main_arg1)
          ∧ r.2.mem ((c.tc : Thread Cert.BInFwdIdeal.nD Cert.BInFwdIdeal.τ).loc Cert.BInFwdIdeal.main_arg2) = m ((c.tc : Thread Cert.BInFwdIdeal.nD Cert.BInFwdIdeal.τ).loc Cert.BInFwdIdeal.main_arg2))
      ∧ θ_run (Cert.BInFwdRefIdeal.defs (F := Ideal)) (onTc (τ := Cert.BInFwdRefIdeal.τ) (Cert.BInFwdRefIdeal.main (F := Ideal))) ⟨m', fun _ => 0, g'⟩ (fun r => ∀ c : Dev Cert.BInFwdRefIdeal.nD,
          r.2.mem ((c.tc : Thread Cert.BInFwdRefIdeal.nD Cert.BInFwdRefIdeal.τ).loc Cert.BInFwdRefIdeal.main_v14) = v0 c
          ∧ r.2.mem ((c.tc : Thread Cert.BInFwdRefIdeal.nD Cert.BInFwdRefIdeal.τ).loc Cert.BInFwdRefIdeal.main_v24) = v1 c
          ∧ r.2.mem ((c.tc : Thread Cert.BInFwdRefIdeal.nD Cert.BInFwdRefIdeal.τ).loc Cert.BInFwdRefIdeal.main_arg0) = m' ((c.tc : Thread Cert.BInFwdRefIdeal.nD Cert.BInFwdRefIdeal.τ).loc Cert.BInFwdRefIdeal.main_arg0)
          ∧ r.2.mem ((c.tc : Thread Cert.BInFwdRefIdeal.nD Cert.BInFwdRefIdeal.τ).loc Cert.BInFwdRefIdeal.main_arg1) = m' ((c.tc : Thread Cert.BInFwdRefIdeal.nD Cert.BInFwdRefIdeal.τ).loc Cert.BInFwdRefIdeal.main_arg1)
          ∧ r.2.mem ((c.tc : Thread Cert.BInFwdRefIdeal.nD Cert.BInFwdRefIdeal.τ).loc Cert.BInFwdRefIdeal.main_arg2) = m' ((c.tc : Thread Cert.BInFwdRefIdeal.nD Cert.BInFwdRefIdeal.τ).loc Cert.BInFwdRefIdeal.main_arg2))

def preserves_COutFwd_COutFwdIdeal : Prop :=
  True

def algebraic_COutFwdIdeal_COutFwdRefIdeal [hCOutFwdIdeal : Cert.COutFwdIdeal.Facts] [hCOutFwdRefIdeal : Cert.COutFwdRefIdeal.Facts] : Prop :=
  ∀ (m : (ℓ : Loc Cert.COutFwdIdeal.nD Cert.COutFwdIdeal.τ Cert.COutFwdIdeal.sig) → Buf (Elt Ideal) ℓ) (g : Dev Cert.COutFwdIdeal.nD → PrngReg)
    (m' : (ℓ : Loc Cert.COutFwdRefIdeal.nD Cert.COutFwdRefIdeal.τ Cert.COutFwdRefIdeal.sig) → Buf (Elt Ideal) ℓ) (g' : Dev Cert.COutFwdRefIdeal.nD → PrngReg), Pre_COutFwdIdeal m →
    (∀ c : Dev Cert.COutFwdIdeal.nD,
      m' ((c.tc : Thread Cert.COutFwdRefIdeal.nD Cert.COutFwdRefIdeal.τ).loc Cert.COutFwdRefIdeal.main_arg0) = m ((c.tc : Thread Cert.COutFwdIdeal.nD Cert.COutFwdIdeal.τ).loc Cert.COutFwdIdeal.main_arg0)
      ∧ m' ((c.tc : Thread Cert.COutFwdRefIdeal.nD Cert.COutFwdRefIdeal.τ).loc Cert.COutFwdRefIdeal.main_arg1) = m ((c.tc : Thread Cert.COutFwdIdeal.nD Cert.COutFwdIdeal.τ).loc Cert.COutFwdIdeal.main_arg1)
      ∧ m' ((c.tc : Thread Cert.COutFwdRefIdeal.nD Cert.COutFwdRefIdeal.τ).loc Cert.COutFwdRefIdeal.main_arg2) = m ((c.tc : Thread Cert.COutFwdIdeal.nD Cert.COutFwdIdeal.τ).loc Cert.COutFwdIdeal.main_arg2)
      ∧ m' ((c.tc : Thread Cert.COutFwdRefIdeal.nD Cert.COutFwdRefIdeal.τ).loc Cert.COutFwdRefIdeal.main_arg3) = m ((c.tc : Thread Cert.COutFwdIdeal.nD Cert.COutFwdIdeal.τ).loc Cert.COutFwdIdeal.main_arg3)
      ∧ m' ((c.tc : Thread Cert.COutFwdRefIdeal.nD Cert.COutFwdRefIdeal.τ).loc Cert.COutFwdRefIdeal.main_arg4) = m ((c.tc : Thread Cert.COutFwdIdeal.nD Cert.COutFwdIdeal.τ).loc Cert.COutFwdIdeal.main_arg4)) →
    ∃ (v0 : (c : Dev Cert.COutFwdIdeal.nD) → Buf (Elt Ideal) ((c.tc : Thread Cert.COutFwdIdeal.nD Cert.COutFwdIdeal.τ).loc Cert.COutFwdIdeal.main_v20_0)) (v1 : (c : Dev Cert.COutFwdIdeal.nD) → Buf (Elt Ideal) ((c.tc : Thread Cert.COutFwdIdeal.nD Cert.COutFwdIdeal.τ).loc Cert.COutFwdIdeal.main_v20_1)),
      θ_run (Cert.COutFwdIdeal.defs (F := Ideal)) (onTc (τ := Cert.COutFwdIdeal.τ) (Cert.COutFwdIdeal.main (F := Ideal))) ⟨m, fun _ => 0, g⟩ (fun r => ∀ c : Dev Cert.COutFwdIdeal.nD,
          r.2.mem ((c.tc : Thread Cert.COutFwdIdeal.nD Cert.COutFwdIdeal.τ).loc Cert.COutFwdIdeal.main_v20_0) = v0 c
          ∧ r.2.mem ((c.tc : Thread Cert.COutFwdIdeal.nD Cert.COutFwdIdeal.τ).loc Cert.COutFwdIdeal.main_v20_1) = v1 c
          ∧ r.2.mem ((c.tc : Thread Cert.COutFwdIdeal.nD Cert.COutFwdIdeal.τ).loc Cert.COutFwdIdeal.main_arg0) = m ((c.tc : Thread Cert.COutFwdIdeal.nD Cert.COutFwdIdeal.τ).loc Cert.COutFwdIdeal.main_arg0)
          ∧ r.2.mem ((c.tc : Thread Cert.COutFwdIdeal.nD Cert.COutFwdIdeal.τ).loc Cert.COutFwdIdeal.main_arg1) = m ((c.tc : Thread Cert.COutFwdIdeal.nD Cert.COutFwdIdeal.τ).loc Cert.COutFwdIdeal.main_arg1)
          ∧ r.2.mem ((c.tc : Thread Cert.COutFwdIdeal.nD Cert.COutFwdIdeal.τ).loc Cert.COutFwdIdeal.main_arg2) = m ((c.tc : Thread Cert.COutFwdIdeal.nD Cert.COutFwdIdeal.τ).loc Cert.COutFwdIdeal.main_arg2)
          ∧ r.2.mem ((c.tc : Thread Cert.COutFwdIdeal.nD Cert.COutFwdIdeal.τ).loc Cert.COutFwdIdeal.main_arg3) = m ((c.tc : Thread Cert.COutFwdIdeal.nD Cert.COutFwdIdeal.τ).loc Cert.COutFwdIdeal.main_arg3)
          ∧ r.2.mem ((c.tc : Thread Cert.COutFwdIdeal.nD Cert.COutFwdIdeal.τ).loc Cert.COutFwdIdeal.main_arg4) = m ((c.tc : Thread Cert.COutFwdIdeal.nD Cert.COutFwdIdeal.τ).loc Cert.COutFwdIdeal.main_arg4))
      ∧ θ_run (Cert.COutFwdRefIdeal.defs (F := Ideal)) (onTc (τ := Cert.COutFwdRefIdeal.τ) (Cert.COutFwdRefIdeal.main (F := Ideal))) ⟨m', fun _ => 0, g'⟩ (fun r => ∀ c : Dev Cert.COutFwdRefIdeal.nD,
          r.2.mem ((c.tc : Thread Cert.COutFwdRefIdeal.nD Cert.COutFwdRefIdeal.τ).loc Cert.COutFwdRefIdeal.main_v7) = v0 c
          ∧ r.2.mem ((c.tc : Thread Cert.COutFwdRefIdeal.nD Cert.COutFwdRefIdeal.τ).loc Cert.COutFwdRefIdeal.main_v10) = v1 c
          ∧ r.2.mem ((c.tc : Thread Cert.COutFwdRefIdeal.nD Cert.COutFwdRefIdeal.τ).loc Cert.COutFwdRefIdeal.main_arg0) = m' ((c.tc : Thread Cert.COutFwdRefIdeal.nD Cert.COutFwdRefIdeal.τ).loc Cert.COutFwdRefIdeal.main_arg0)
          ∧ r.2.mem ((c.tc : Thread Cert.COutFwdRefIdeal.nD Cert.COutFwdRefIdeal.τ).loc Cert.COutFwdRefIdeal.main_arg1) = m' ((c.tc : Thread Cert.COutFwdRefIdeal.nD Cert.COutFwdRefIdeal.τ).loc Cert.COutFwdRefIdeal.main_arg1)
          ∧ r.2.mem ((c.tc : Thread Cert.COutFwdRefIdeal.nD Cert.COutFwdRefIdeal.τ).loc Cert.COutFwdRefIdeal.main_arg2) = m' ((c.tc : Thread Cert.COutFwdRefIdeal.nD Cert.COutFwdRefIdeal.τ).loc Cert.COutFwdRefIdeal.main_arg2)
          ∧ r.2.mem ((c.tc : Thread Cert.COutFwdRefIdeal.nD Cert.COutFwdRefIdeal.τ).loc Cert.COutFwdRefIdeal.main_arg3) = m' ((c.tc : Thread Cert.COutFwdRefIdeal.nD Cert.COutFwdRefIdeal.τ).loc Cert.COutFwdRefIdeal.main_arg3)
          ∧ r.2.mem ((c.tc : Thread Cert.COutFwdRefIdeal.nD Cert.COutFwdRefIdeal.τ).loc Cert.COutFwdRefIdeal.main_arg4) = m' ((c.tc : Thread Cert.COutFwdRefIdeal.nD Cert.COutFwdRefIdeal.τ).loc Cert.COutFwdRefIdeal.main_arg4))

def preserves_CInFwd_CInFwdIdeal : Prop :=
  True

def algebraic_CInFwdIdeal_CInFwdRefIdeal [hCInFwdIdeal : Cert.CInFwdIdeal.Facts] [hCInFwdRefIdeal : Cert.CInFwdRefIdeal.Facts] : Prop :=
  ∀ (m : (ℓ : Loc Cert.CInFwdIdeal.nD Cert.CInFwdIdeal.τ Cert.CInFwdIdeal.sig) → Buf (Elt Ideal) ℓ) (g : Dev Cert.CInFwdIdeal.nD → PrngReg)
    (m' : (ℓ : Loc Cert.CInFwdRefIdeal.nD Cert.CInFwdRefIdeal.τ Cert.CInFwdRefIdeal.sig) → Buf (Elt Ideal) ℓ) (g' : Dev Cert.CInFwdRefIdeal.nD → PrngReg), Pre_CInFwdIdeal m →
    (∀ c : Dev Cert.CInFwdIdeal.nD,
      m' ((c.tc : Thread Cert.CInFwdRefIdeal.nD Cert.CInFwdRefIdeal.τ).loc Cert.CInFwdRefIdeal.main_arg0) = m ((c.tc : Thread Cert.CInFwdIdeal.nD Cert.CInFwdIdeal.τ).loc Cert.CInFwdIdeal.main_arg0)
      ∧ m' ((c.tc : Thread Cert.CInFwdRefIdeal.nD Cert.CInFwdRefIdeal.τ).loc Cert.CInFwdRefIdeal.main_arg1) = m ((c.tc : Thread Cert.CInFwdIdeal.nD Cert.CInFwdIdeal.τ).loc Cert.CInFwdIdeal.main_arg1)
      ∧ m' ((c.tc : Thread Cert.CInFwdRefIdeal.nD Cert.CInFwdRefIdeal.τ).loc Cert.CInFwdRefIdeal.main_arg2) = m ((c.tc : Thread Cert.CInFwdIdeal.nD Cert.CInFwdIdeal.τ).loc Cert.CInFwdIdeal.main_arg2)) →
    ∃ (v0 : (c : Dev Cert.CInFwdIdeal.nD) → Buf (Elt Ideal) ((c.tc : Thread Cert.CInFwdIdeal.nD Cert.CInFwdIdeal.τ).loc Cert.CInFwdIdeal.main_v4_0)) (v1 : (c : Dev Cert.CInFwdIdeal.nD) → Buf (Elt Ideal) ((c.tc : Thread Cert.CInFwdIdeal.nD Cert.CInFwdIdeal.τ).loc Cert.CInFwdIdeal.main_v4_1)),
      θ_run (Cert.CInFwdIdeal.defs (F := Ideal)) (onTc (τ := Cert.CInFwdIdeal.τ) (Cert.CInFwdIdeal.main (F := Ideal))) ⟨m, fun _ => 0, g⟩ (fun r => ∀ c : Dev Cert.CInFwdIdeal.nD,
          r.2.mem ((c.tc : Thread Cert.CInFwdIdeal.nD Cert.CInFwdIdeal.τ).loc Cert.CInFwdIdeal.main_v4_0) = v0 c
          ∧ r.2.mem ((c.tc : Thread Cert.CInFwdIdeal.nD Cert.CInFwdIdeal.τ).loc Cert.CInFwdIdeal.main_v4_1) = v1 c
          ∧ r.2.mem ((c.tc : Thread Cert.CInFwdIdeal.nD Cert.CInFwdIdeal.τ).loc Cert.CInFwdIdeal.main_arg0) = m ((c.tc : Thread Cert.CInFwdIdeal.nD Cert.CInFwdIdeal.τ).loc Cert.CInFwdIdeal.main_arg0)
          ∧ r.2.mem ((c.tc : Thread Cert.CInFwdIdeal.nD Cert.CInFwdIdeal.τ).loc Cert.CInFwdIdeal.main_arg1) = m ((c.tc : Thread Cert.CInFwdIdeal.nD Cert.CInFwdIdeal.τ).loc Cert.CInFwdIdeal.main_arg1)
          ∧ r.2.mem ((c.tc : Thread Cert.CInFwdIdeal.nD Cert.CInFwdIdeal.τ).loc Cert.CInFwdIdeal.main_arg2) = m ((c.tc : Thread Cert.CInFwdIdeal.nD Cert.CInFwdIdeal.τ).loc Cert.CInFwdIdeal.main_arg2))
      ∧ θ_run (Cert.CInFwdRefIdeal.defs (F := Ideal)) (onTc (τ := Cert.CInFwdRefIdeal.τ) (Cert.CInFwdRefIdeal.main (F := Ideal))) ⟨m', fun _ => 0, g'⟩ (fun r => ∀ c : Dev Cert.CInFwdRefIdeal.nD,
          r.2.mem ((c.tc : Thread Cert.CInFwdRefIdeal.nD Cert.CInFwdRefIdeal.τ).loc Cert.CInFwdRefIdeal.main_v14) = v0 c
          ∧ r.2.mem ((c.tc : Thread Cert.CInFwdRefIdeal.nD Cert.CInFwdRefIdeal.τ).loc Cert.CInFwdRefIdeal.main_v17) = v1 c
          ∧ r.2.mem ((c.tc : Thread Cert.CInFwdRefIdeal.nD Cert.CInFwdRefIdeal.τ).loc Cert.CInFwdRefIdeal.main_arg0) = m' ((c.tc : Thread Cert.CInFwdRefIdeal.nD Cert.CInFwdRefIdeal.τ).loc Cert.CInFwdRefIdeal.main_arg0)
          ∧ r.2.mem ((c.tc : Thread Cert.CInFwdRefIdeal.nD Cert.CInFwdRefIdeal.τ).loc Cert.CInFwdRefIdeal.main_arg1) = m' ((c.tc : Thread Cert.CInFwdRefIdeal.nD Cert.CInFwdRefIdeal.τ).loc Cert.CInFwdRefIdeal.main_arg1)
          ∧ r.2.mem ((c.tc : Thread Cert.CInFwdRefIdeal.nD Cert.CInFwdRefIdeal.τ).loc Cert.CInFwdRefIdeal.main_arg2) = m' ((c.tc : Thread Cert.CInFwdRefIdeal.nD Cert.CInFwdRefIdeal.τ).loc Cert.CInFwdRefIdeal.main_arg2))

def preserves_Pool2Fwd_Pool2FwdIdeal : Prop :=
  True

def algebraic_Pool2FwdIdeal_Pool2FwdRefIdeal_pre_pooled_finite [hPool2FwdIdeal : Cert.Pool2FwdIdeal.Facts] [hPool2FwdRefIdeal : Cert.Pool2FwdRefIdeal.Facts] [hPre_pooled_finite : Cert.Pre_pooled_finite.Facts] : Prop :=
  ∀ (m : (ℓ : Loc Cert.Pool2FwdIdeal.nD Cert.Pool2FwdIdeal.τ Cert.Pool2FwdIdeal.sig) → Buf (Elt Ideal) ℓ) (g : Dev Cert.Pool2FwdIdeal.nD → PrngReg)
    (m' : (ℓ : Loc Cert.Pool2FwdRefIdeal.nD Cert.Pool2FwdRefIdeal.τ Cert.Pool2FwdRefIdeal.sig) → Buf (Elt Ideal) ℓ) (g' : Dev Cert.Pool2FwdRefIdeal.nD → PrngReg), Pre_Pool2FwdIdeal_pooled_finite m →
    (∀ c : Dev Cert.Pool2FwdIdeal.nD,
      m' ((c.tc : Thread Cert.Pool2FwdRefIdeal.nD Cert.Pool2FwdRefIdeal.τ).loc Cert.Pool2FwdRefIdeal.main_arg0) = m ((c.tc : Thread Cert.Pool2FwdIdeal.nD Cert.Pool2FwdIdeal.τ).loc Cert.Pool2FwdIdeal.main_arg0)) →
    ∃ (v0 : (c : Dev Cert.Pool2FwdIdeal.nD) → Buf (Elt Ideal) ((c.tc : Thread Cert.Pool2FwdIdeal.nD Cert.Pool2FwdIdeal.τ).loc Cert.Pool2FwdIdeal.main_v2)),
      θ_run (Cert.Pool2FwdIdeal.defs (F := Ideal)) (onTc (τ := Cert.Pool2FwdIdeal.τ) (Cert.Pool2FwdIdeal.main (F := Ideal))) ⟨m, fun _ => 0, g⟩ (fun r => ∀ c : Dev Cert.Pool2FwdIdeal.nD,
          r.2.mem ((c.tc : Thread Cert.Pool2FwdIdeal.nD Cert.Pool2FwdIdeal.τ).loc Cert.Pool2FwdIdeal.main_v2) = v0 c
          ∧ r.2.mem ((c.tc : Thread Cert.Pool2FwdIdeal.nD Cert.Pool2FwdIdeal.τ).loc Cert.Pool2FwdIdeal.main_arg0) = m ((c.tc : Thread Cert.Pool2FwdIdeal.nD Cert.Pool2FwdIdeal.τ).loc Cert.Pool2FwdIdeal.main_arg0))
      ∧ θ_run (Cert.Pool2FwdRefIdeal.defs (F := Ideal)) (onTc (τ := Cert.Pool2FwdRefIdeal.τ) (Cert.Pool2FwdRefIdeal.main (F := Ideal))) ⟨m', fun _ => 0, g'⟩ (fun r => ∀ c : Dev Cert.Pool2FwdRefIdeal.nD,
          r.2.mem ((c.tc : Thread Cert.Pool2FwdRefIdeal.nD Cert.Pool2FwdRefIdeal.τ).loc Cert.Pool2FwdRefIdeal.main_v16) = v0 c
          ∧ r.2.mem ((c.tc : Thread Cert.Pool2FwdRefIdeal.nD Cert.Pool2FwdRefIdeal.τ).loc Cert.Pool2FwdRefIdeal.main_arg0) = m' ((c.tc : Thread Cert.Pool2FwdRefIdeal.nD Cert.Pool2FwdRefIdeal.τ).loc Cert.Pool2FwdRefIdeal.main_arg0))

def preserves_Pool4Fwd_Pool4FwdIdeal : Prop :=
  True

def algebraic_Pool4FwdIdeal_Pool4FwdRefIdeal_pre_pooled_finite [hPool4FwdIdeal : Cert.Pool4FwdIdeal.Facts] [hPool4FwdRefIdeal : Cert.Pool4FwdRefIdeal.Facts] [hPre_pooled_finite : Cert.Pre_pooled_finite.Facts] : Prop :=
  ∀ (m : (ℓ : Loc Cert.Pool4FwdIdeal.nD Cert.Pool4FwdIdeal.τ Cert.Pool4FwdIdeal.sig) → Buf (Elt Ideal) ℓ) (g : Dev Cert.Pool4FwdIdeal.nD → PrngReg)
    (m' : (ℓ : Loc Cert.Pool4FwdRefIdeal.nD Cert.Pool4FwdRefIdeal.τ Cert.Pool4FwdRefIdeal.sig) → Buf (Elt Ideal) ℓ) (g' : Dev Cert.Pool4FwdRefIdeal.nD → PrngReg), Pre_Pool4FwdIdeal_pooled_finite m →
    (∀ c : Dev Cert.Pool4FwdIdeal.nD,
      m' ((c.tc : Thread Cert.Pool4FwdRefIdeal.nD Cert.Pool4FwdRefIdeal.τ).loc Cert.Pool4FwdRefIdeal.main_arg0) = m ((c.tc : Thread Cert.Pool4FwdIdeal.nD Cert.Pool4FwdIdeal.τ).loc Cert.Pool4FwdIdeal.main_arg0)) →
    ∃ (v0 : (c : Dev Cert.Pool4FwdIdeal.nD) → Buf (Elt Ideal) ((c.tc : Thread Cert.Pool4FwdIdeal.nD Cert.Pool4FwdIdeal.τ).loc Cert.Pool4FwdIdeal.main_v2)),
      θ_run (Cert.Pool4FwdIdeal.defs (F := Ideal)) (onTc (τ := Cert.Pool4FwdIdeal.τ) (Cert.Pool4FwdIdeal.main (F := Ideal))) ⟨m, fun _ => 0, g⟩ (fun r => ∀ c : Dev Cert.Pool4FwdIdeal.nD,
          r.2.mem ((c.tc : Thread Cert.Pool4FwdIdeal.nD Cert.Pool4FwdIdeal.τ).loc Cert.Pool4FwdIdeal.main_v2) = v0 c
          ∧ r.2.mem ((c.tc : Thread Cert.Pool4FwdIdeal.nD Cert.Pool4FwdIdeal.τ).loc Cert.Pool4FwdIdeal.main_arg0) = m ((c.tc : Thread Cert.Pool4FwdIdeal.nD Cert.Pool4FwdIdeal.τ).loc Cert.Pool4FwdIdeal.main_arg0))
      ∧ θ_run (Cert.Pool4FwdRefIdeal.defs (F := Ideal)) (onTc (τ := Cert.Pool4FwdRefIdeal.τ) (Cert.Pool4FwdRefIdeal.main (F := Ideal))) ⟨m', fun _ => 0, g'⟩ (fun r => ∀ c : Dev Cert.Pool4FwdRefIdeal.nD,
          r.2.mem ((c.tc : Thread Cert.Pool4FwdRefIdeal.nD Cert.Pool4FwdRefIdeal.τ).loc Cert.Pool4FwdRefIdeal.main_v16) = v0 c
          ∧ r.2.mem ((c.tc : Thread Cert.Pool4FwdRefIdeal.nD Cert.Pool4FwdRefIdeal.τ).loc Cert.Pool4FwdRefIdeal.main_arg0) = m' ((c.tc : Thread Cert.Pool4FwdRefIdeal.nD Cert.Pool4FwdRefIdeal.τ).loc Cert.Pool4FwdRefIdeal.main_arg0))

def preserves_Pool8Fwd_Pool8FwdIdeal : Prop :=
  True

def algebraic_Pool8FwdIdeal_Pool8FwdRefIdeal_pre_pooled_finite [hPool8FwdIdeal : Cert.Pool8FwdIdeal.Facts] [hPool8FwdRefIdeal : Cert.Pool8FwdRefIdeal.Facts] [hPre_pooled_finite : Cert.Pre_pooled_finite.Facts] : Prop :=
  ∀ (m : (ℓ : Loc Cert.Pool8FwdIdeal.nD Cert.Pool8FwdIdeal.τ Cert.Pool8FwdIdeal.sig) → Buf (Elt Ideal) ℓ) (g : Dev Cert.Pool8FwdIdeal.nD → PrngReg)
    (m' : (ℓ : Loc Cert.Pool8FwdRefIdeal.nD Cert.Pool8FwdRefIdeal.τ Cert.Pool8FwdRefIdeal.sig) → Buf (Elt Ideal) ℓ) (g' : Dev Cert.Pool8FwdRefIdeal.nD → PrngReg), Pre_Pool8FwdIdeal_pooled_finite m →
    (∀ c : Dev Cert.Pool8FwdIdeal.nD,
      m' ((c.tc : Thread Cert.Pool8FwdRefIdeal.nD Cert.Pool8FwdRefIdeal.τ).loc Cert.Pool8FwdRefIdeal.main_arg0) = m ((c.tc : Thread Cert.Pool8FwdIdeal.nD Cert.Pool8FwdIdeal.τ).loc Cert.Pool8FwdIdeal.main_arg0)) →
    ∃ (v0 : (c : Dev Cert.Pool8FwdIdeal.nD) → Buf (Elt Ideal) ((c.tc : Thread Cert.Pool8FwdIdeal.nD Cert.Pool8FwdIdeal.τ).loc Cert.Pool8FwdIdeal.main_v2)),
      θ_run (Cert.Pool8FwdIdeal.defs (F := Ideal)) (onTc (τ := Cert.Pool8FwdIdeal.τ) (Cert.Pool8FwdIdeal.main (F := Ideal))) ⟨m, fun _ => 0, g⟩ (fun r => ∀ c : Dev Cert.Pool8FwdIdeal.nD,
          r.2.mem ((c.tc : Thread Cert.Pool8FwdIdeal.nD Cert.Pool8FwdIdeal.τ).loc Cert.Pool8FwdIdeal.main_v2) = v0 c
          ∧ r.2.mem ((c.tc : Thread Cert.Pool8FwdIdeal.nD Cert.Pool8FwdIdeal.τ).loc Cert.Pool8FwdIdeal.main_arg0) = m ((c.tc : Thread Cert.Pool8FwdIdeal.nD Cert.Pool8FwdIdeal.τ).loc Cert.Pool8FwdIdeal.main_arg0))
      ∧ θ_run (Cert.Pool8FwdRefIdeal.defs (F := Ideal)) (onTc (τ := Cert.Pool8FwdRefIdeal.τ) (Cert.Pool8FwdRefIdeal.main (F := Ideal))) ⟨m', fun _ => 0, g'⟩ (fun r => ∀ c : Dev Cert.Pool8FwdRefIdeal.nD,
          r.2.mem ((c.tc : Thread Cert.Pool8FwdRefIdeal.nD Cert.Pool8FwdRefIdeal.τ).loc Cert.Pool8FwdRefIdeal.main_v16) = v0 c
          ∧ r.2.mem ((c.tc : Thread Cert.Pool8FwdRefIdeal.nD Cert.Pool8FwdRefIdeal.τ).loc Cert.Pool8FwdRefIdeal.main_arg0) = m' ((c.tc : Thread Cert.Pool8FwdRefIdeal.nD Cert.Pool8FwdRefIdeal.τ).loc Cert.Pool8FwdRefIdeal.main_arg0))

def preserves_Pool16Fwd_Pool16FwdIdeal : Prop :=
  True

def algebraic_Pool16FwdIdeal_Pool16FwdRefIdeal_pre_pooled_finite [hPool16FwdIdeal : Cert.Pool16FwdIdeal.Facts] [hPool16FwdRefIdeal : Cert.Pool16FwdRefIdeal.Facts] [hPre_pooled_finite : Cert.Pre_pooled_finite.Facts] : Prop :=
  ∀ (m : (ℓ : Loc Cert.Pool16FwdIdeal.nD Cert.Pool16FwdIdeal.τ Cert.Pool16FwdIdeal.sig) → Buf (Elt Ideal) ℓ) (g : Dev Cert.Pool16FwdIdeal.nD → PrngReg)
    (m' : (ℓ : Loc Cert.Pool16FwdRefIdeal.nD Cert.Pool16FwdRefIdeal.τ Cert.Pool16FwdRefIdeal.sig) → Buf (Elt Ideal) ℓ) (g' : Dev Cert.Pool16FwdRefIdeal.nD → PrngReg), Pre_Pool16FwdIdeal_pooled_finite m →
    (∀ c : Dev Cert.Pool16FwdIdeal.nD,
      m' ((c.tc : Thread Cert.Pool16FwdRefIdeal.nD Cert.Pool16FwdRefIdeal.τ).loc Cert.Pool16FwdRefIdeal.main_arg0) = m ((c.tc : Thread Cert.Pool16FwdIdeal.nD Cert.Pool16FwdIdeal.τ).loc Cert.Pool16FwdIdeal.main_arg0)) →
    ∃ (v0 : (c : Dev Cert.Pool16FwdIdeal.nD) → Buf (Elt Ideal) ((c.tc : Thread Cert.Pool16FwdIdeal.nD Cert.Pool16FwdIdeal.τ).loc Cert.Pool16FwdIdeal.main_v2)),
      θ_run (Cert.Pool16FwdIdeal.defs (F := Ideal)) (onTc (τ := Cert.Pool16FwdIdeal.τ) (Cert.Pool16FwdIdeal.main (F := Ideal))) ⟨m, fun _ => 0, g⟩ (fun r => ∀ c : Dev Cert.Pool16FwdIdeal.nD,
          r.2.mem ((c.tc : Thread Cert.Pool16FwdIdeal.nD Cert.Pool16FwdIdeal.τ).loc Cert.Pool16FwdIdeal.main_v2) = v0 c
          ∧ r.2.mem ((c.tc : Thread Cert.Pool16FwdIdeal.nD Cert.Pool16FwdIdeal.τ).loc Cert.Pool16FwdIdeal.main_arg0) = m ((c.tc : Thread Cert.Pool16FwdIdeal.nD Cert.Pool16FwdIdeal.τ).loc Cert.Pool16FwdIdeal.main_arg0))
      ∧ θ_run (Cert.Pool16FwdRefIdeal.defs (F := Ideal)) (onTc (τ := Cert.Pool16FwdRefIdeal.τ) (Cert.Pool16FwdRefIdeal.main (F := Ideal))) ⟨m', fun _ => 0, g'⟩ (fun r => ∀ c : Dev Cert.Pool16FwdRefIdeal.nD,
          r.2.mem ((c.tc : Thread Cert.Pool16FwdRefIdeal.nD Cert.Pool16FwdRefIdeal.τ).loc Cert.Pool16FwdRefIdeal.main_v16) = v0 c
          ∧ r.2.mem ((c.tc : Thread Cert.Pool16FwdRefIdeal.nD Cert.Pool16FwdRefIdeal.τ).loc Cert.Pool16FwdRefIdeal.main_arg0) = m' ((c.tc : Thread Cert.Pool16FwdRefIdeal.nD Cert.Pool16FwdRefIdeal.τ).loc Cert.Pool16FwdRefIdeal.main_arg0))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v3) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)
      ∧ m' ((c.tc : Thread Cert.DownGradRefIdeal.nD Cert.DownGradRefIdeal.τ).loc Cert.DownGradRefIdeal.main_arg2) = m ((c.tc : Thread Cert.DownGradIdeal.nD Cert.DownGradIdeal.τ).loc Cert.DownGradIdeal.main_arg2)) →
    ∃ (v0 : (c : Dev Cert.DownGradIdeal.nD) → Buf (Elt Ideal) ((c.tc : Thread Cert.DownGradIdeal.nD Cert.DownGradIdeal.τ).loc Cert.DownGradIdeal.main_v5)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v5) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v4) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1)
          ∧ r.2.mem ((c.tc : Thread Cert.DownGradRefIdeal.nD Cert.DownGradRefIdeal.τ).loc Cert.DownGradRefIdeal.main_arg2) = m' ((c.tc : Thread Cert.DownGradRefIdeal.nD Cert.DownGradRefIdeal.τ).loc Cert.DownGradRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v24) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v26) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨2, ![352, 1024]⟩ ⟨2, ![704, 1024]⟩ 0 2 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨2, ![352, 1024]⟩ ⟨2, ![704, 1024]⟩ 0 2 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨2, ![352, 1024]⟩ ⟨2, ![704, 1024]⟩ 0 2 c (m' (((0 : Dev Cert.SwapRefIdeal.nD).tc : Thread Cert.SwapRefIdeal.nD Cert.SwapRefIdeal.τ).loc Cert.SwapRefIdeal.main_arg2))) →
    ∃ (v0 : Buf (Elt Ideal) (((0 : Dev Cert.SwapRefIdeal.nD).tc : Thread Cert.SwapRefIdeal.nD Cert.SwapRefIdeal.τ).loc Cert.SwapRefIdeal.main_v2)) (v1 : Buf (Elt Ideal) (((0 : Dev Cert.SwapRefIdeal.nD).tc : Thread Cert.SwapRefIdeal.nD Cert.SwapRefIdeal.τ).loc Cert.SwapRefIdeal.main_v5)) (v2 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (Cert.SwapIdeal.threads (F := Ideal)) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨2, ![352, 1024]⟩ ⟨2, ![704, 1024]⟩ 0 2 c v0
          ∧ r.2.mem ((c.tc : Thread Cert.SwapIdeal.nD Cert.SwapIdeal.τ).loc Cert.SwapIdeal.main_v1_1) = Layout.block ⟨2, ![352, 1024]⟩ ⟨2, ![704, 1024]⟩ 0 2 c v1
          ∧ r.2.mem ((c.tc : Thread Cert.SwapIdeal.nD Cert.SwapIdeal.τ).loc Cert.SwapIdeal.main_v1_2) = Layout.block ⟨2, ![352, 1024]⟩ ⟨2, ![704, 1024]⟩ 0 2 c v2
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v2) = v0
          ∧ r.2.mem (((0 : Dev Cert.SwapRefIdeal.nD).tc : Thread Cert.SwapRefIdeal.nD Cert.SwapRefIdeal.τ).loc Cert.SwapRefIdeal.main_v5) = v1
          ∧ r.2.mem (((0 : Dev Cert.SwapRefIdeal.nD).tc : Thread Cert.SwapRefIdeal.nD Cert.SwapRefIdeal.τ).loc Cert.SwapRefIdeal.main_v8) = v2
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2))

def Claim : Prop :=
  ∃ (hConvBwd : Cert.ConvBwd.Facts) (hConvBwdIdeal : Cert.ConvBwdIdeal.Facts) (hConvBwdRefIdeal : Cert.ConvBwdRefIdeal.Facts) (hCOutBwd : Cert.COutBwd.Facts) (hCOutBwdIdeal : Cert.COutBwdIdeal.Facts) (hCOutBwdRefIdeal : Cert.COutBwdRefIdeal.Facts) (hCInBwd : Cert.CInBwd.Facts) (hCInBwdIdeal : Cert.CInBwdIdeal.Facts) (hCInBwdRefIdeal : Cert.CInBwdRefIdeal.Facts) (hBInBwd : Cert.BInBwd.Facts) (hBInBwdIdeal : Cert.BInBwdIdeal.Facts) (hBInBwdRefIdeal : Cert.BInBwdRefIdeal.Facts) (hLossHead : Cert.LossHead.Facts) (hLossHeadIdeal : Cert.LossHeadIdeal.Facts) (hLossHeadRefIdeal : Cert.LossHeadRefIdeal.Facts) (hFfnBwd : Cert.FfnBwd.Facts) (hFfnBwdIdeal : Cert.FfnBwdIdeal.Facts) (hFfnBwdRefIdeal : Cert.FfnBwdRefIdeal.Facts) (hGmlpBwd : Cert.GmlpBwd.Facts) (hGmlpBwdIdeal : Cert.GmlpBwdIdeal.Facts) (hGmlpBwdRefIdeal : Cert.GmlpBwdRefIdeal.Facts) (hPool2Bwd : Cert.Pool2Bwd.Facts) (hPool2BwdIdeal : Cert.Pool2BwdIdeal.Facts) (hPool2BwdRefIdeal : Cert.Pool2BwdRefIdeal.Facts) (hPool4Bwd : Cert.Pool4Bwd.Facts) (hPool4BwdIdeal : Cert.Pool4BwdIdeal.Facts) (hPool4BwdRefIdeal : Cert.Pool4BwdRefIdeal.Facts) (hPool8Bwd : Cert.Pool8Bwd.Facts) (hPool8BwdIdeal : Cert.Pool8BwdIdeal.Facts) (hPool8BwdRefIdeal : Cert.Pool8BwdRefIdeal.Facts) (hPool16Bwd : Cert.Pool16Bwd.Facts) (hPool16BwdIdeal : Cert.Pool16BwdIdeal.Facts) (hPool16BwdRefIdeal : Cert.Pool16BwdRefIdeal.Facts) (hGmlpFwd : Cert.GmlpFwd.Facts) (hGmlpFwdIdeal : Cert.GmlpFwdIdeal.Facts) (hGmlpFwdRefIdeal : Cert.GmlpFwdRefIdeal.Facts) (hFfnFwd : Cert.FfnFwd.Facts) (hFfnFwdIdeal : Cert.FfnFwdIdeal.Facts) (hFfnFwdRefIdeal : Cert.FfnFwdRefIdeal.Facts) (hConvFwd : Cert.ConvFwd.Facts) (hConvFwdIdeal : Cert.ConvFwdIdeal.Facts) (hConvFwdRefIdeal : Cert.ConvFwdRefIdeal.Facts) (hBInFwd : Cert.BInFwd.Facts) (hBInFwdIdeal : Cert.BInFwdIdeal.Facts) (hBInFwdRefIdeal : Cert.BInFwdRefIdeal.Facts) (hCOutFwd : Cert.COutFwd.Facts) (hCOutFwdIdeal : Cert.COutFwdIdeal.Facts) (hCOutFwdRefIdeal : Cert.COutFwdRefIdeal.Facts) (hCInFwd : Cert.CInFwd.Facts) (hCInFwdIdeal : Cert.CInFwdIdeal.Facts) (hCInFwdRefIdeal : Cert.CInFwdRefIdeal.Facts) (hPool2Fwd : Cert.Pool2Fwd.Facts) (hPool2FwdIdeal : Cert.Pool2FwdIdeal.Facts) (hPool2FwdRefIdeal : Cert.Pool2FwdRefIdeal.Facts) (hPool4Fwd : Cert.Pool4Fwd.Facts) (hPool4FwdIdeal : Cert.Pool4FwdIdeal.Facts) (hPool4FwdRefIdeal : Cert.Pool4FwdRefIdeal.Facts) (hPool8Fwd : Cert.Pool8Fwd.Facts) (hPool8FwdIdeal : Cert.Pool8FwdIdeal.Facts) (hPool8FwdRefIdeal : Cert.Pool8FwdRefIdeal.Facts) (hPool16Fwd : Cert.Pool16Fwd.Facts) (hPool16FwdIdeal : Cert.Pool16FwdIdeal.Facts) (hPool16FwdRefIdeal : Cert.Pool16FwdRefIdeal.Facts) (hOutProj : Cert.OutProj.Facts) (hOutProjIdeal : Cert.OutProjIdeal.Facts) (hOutProjRefIdeal : Cert.OutProjRefIdeal.Facts) (hOutGrad : Cert.OutGrad.Facts) (hOutGradIdeal : Cert.OutGradIdeal.Facts) (hOutGradRefIdeal : Cert.OutGradRefIdeal.Facts) (hDownGrad : Cert.DownGrad.Facts) (hDownGradIdeal : Cert.DownGradIdeal.Facts) (hDownGradRefIdeal : Cert.DownGradRefIdeal.Facts) (hAdamW : Cert.AdamW.Facts) (hAdamWIdeal : Cert.AdamWIdeal.Facts) (hAdamWRefIdeal : Cert.AdamWRefIdeal.Facts) (hSwap : Cert.Swap.Facts) (hSwapIdeal : Cert.SwapIdeal.Facts) (hSwapRefIdeal : Cert.SwapRefIdeal.Facts) (hPre_ffn_finite : Cert.Pre_ffn_finite.Facts) (hPre_gmlp_finite : Cert.Pre_gmlp_finite.Facts) (hPre_pool_finite : Cert.Pre_pool_finite.Facts) (hPre_pooled_finite : Cert.Pre_pooled_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_COutBwd (hCOutBwd := hCOutBwd)
    ∧ quiescent_COutBwdIdeal (hCOutBwdIdeal := hCOutBwdIdeal)
    ∧ quiescent_COutBwdRefIdeal (hCOutBwdRefIdeal := hCOutBwdRefIdeal)
    ∧ quiescent_CInBwd (hCInBwd := hCInBwd)
    ∧ quiescent_CInBwdIdeal (hCInBwdIdeal := hCInBwdIdeal)
    ∧ quiescent_CInBwdRefIdeal (hCInBwdRefIdeal := hCInBwdRefIdeal)
    ∧ quiescent_BInBwd (hBInBwd := hBInBwd)
    ∧ quiescent_BInBwdIdeal (hBInBwdIdeal := hBInBwdIdeal)
    ∧ quiescent_BInBwdRefIdeal (hBInBwdRefIdeal := hBInBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_GmlpBwd (hGmlpBwd := hGmlpBwd)
    ∧ quiescent_GmlpBwdIdeal (hGmlpBwdIdeal := hGmlpBwdIdeal)
    ∧ quiescent_GmlpBwdIdeal_pre_gmlp_finite (hGmlpBwdIdeal := hGmlpBwdIdeal) (hPre_gmlp_finite := hPre_gmlp_finite)
    ∧ quiescent_GmlpBwdRefIdeal (hGmlpBwdRefIdeal := hGmlpBwdRefIdeal)
    ∧ quiescent_GmlpBwdRefIdeal_pre_gmlp_finite (hGmlpBwdRefIdeal := hGmlpBwdRefIdeal) (hPre_gmlp_finite := hPre_gmlp_finite)
    ∧ quiescent_Pool2Bwd (hPool2Bwd := hPool2Bwd)
    ∧ quiescent_Pool2BwdIdeal (hPool2BwdIdeal := hPool2BwdIdeal)
    ∧ quiescent_Pool2BwdIdeal_pre_pool_finite (hPool2BwdIdeal := hPool2BwdIdeal) (hPre_pool_finite := hPre_pool_finite)
    ∧ quiescent_Pool2BwdRefIdeal (hPool2BwdRefIdeal := hPool2BwdRefIdeal)
    ∧ quiescent_Pool2BwdRefIdeal_pre_pool_finite (hPool2BwdRefIdeal := hPool2BwdRefIdeal) (hPre_pool_finite := hPre_pool_finite)
    ∧ quiescent_Pool4Bwd (hPool4Bwd := hPool4Bwd)
    ∧ quiescent_Pool4BwdIdeal (hPool4BwdIdeal := hPool4BwdIdeal)
    ∧ quiescent_Pool4BwdIdeal_pre_pool_finite (hPool4BwdIdeal := hPool4BwdIdeal) (hPre_pool_finite := hPre_pool_finite)
    ∧ quiescent_Pool4BwdRefIdeal (hPool4BwdRefIdeal := hPool4BwdRefIdeal)
    ∧ quiescent_Pool4BwdRefIdeal_pre_pool_finite (hPool4BwdRefIdeal := hPool4BwdRefIdeal) (hPre_pool_finite := hPre_pool_finite)
    ∧ quiescent_Pool8Bwd (hPool8Bwd := hPool8Bwd)
    ∧ quiescent_Pool8BwdIdeal (hPool8BwdIdeal := hPool8BwdIdeal)
    ∧ quiescent_Pool8BwdIdeal_pre_pool_finite (hPool8BwdIdeal := hPool8BwdIdeal) (hPre_pool_finite := hPre_pool_finite)
    ∧ quiescent_Pool8BwdRefIdeal (hPool8BwdRefIdeal := hPool8BwdRefIdeal)
    ∧ quiescent_Pool8BwdRefIdeal_pre_pool_finite (hPool8BwdRefIdeal := hPool8BwdRefIdeal) (hPre_pool_finite := hPre_pool_finite)
    ∧ quiescent_Pool16Bwd (hPool16Bwd := hPool16Bwd)
    ∧ quiescent_Pool16BwdIdeal (hPool16BwdIdeal := hPool16BwdIdeal)
    ∧ quiescent_Pool16BwdIdeal_pre_pool_finite (hPool16BwdIdeal := hPool16BwdIdeal) (hPre_pool_finite := hPre_pool_finite)
    ∧ quiescent_Pool16BwdRefIdeal (hPool16BwdRefIdeal := hPool16BwdRefIdeal)
    ∧ quiescent_Pool16BwdRefIdeal_pre_pool_finite (hPool16BwdRefIdeal := hPool16BwdRefIdeal) (hPre_pool_finite := hPre_pool_finite)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_BInFwd (hBInFwd := hBInFwd)
    ∧ quiescent_BInFwdIdeal (hBInFwdIdeal := hBInFwdIdeal)
    ∧ quiescent_BInFwdRefIdeal (hBInFwdRefIdeal := hBInFwdRefIdeal)
    ∧ quiescent_COutFwd (hCOutFwd := hCOutFwd)
    ∧ quiescent_COutFwdIdeal (hCOutFwdIdeal := hCOutFwdIdeal)
    ∧ quiescent_COutFwdRefIdeal (hCOutFwdRefIdeal := hCOutFwdRefIdeal)
    ∧ quiescent_CInFwd (hCInFwd := hCInFwd)
    ∧ quiescent_CInFwdIdeal (hCInFwdIdeal := hCInFwdIdeal)
    ∧ quiescent_CInFwdRefIdeal (hCInFwdRefIdeal := hCInFwdRefIdeal)
    ∧ quiescent_Pool2Fwd (hPool2Fwd := hPool2Fwd)
    ∧ quiescent_Pool2FwdIdeal (hPool2FwdIdeal := hPool2FwdIdeal)
    ∧ quiescent_Pool2FwdIdeal_pre_pooled_finite (hPool2FwdIdeal := hPool2FwdIdeal) (hPre_pooled_finite := hPre_pooled_finite)
    ∧ quiescent_Pool2FwdRefIdeal (hPool2FwdRefIdeal := hPool2FwdRefIdeal)
    ∧ quiescent_Pool2FwdRefIdeal_pre_pooled_finite (hPool2FwdRefIdeal := hPool2FwdRefIdeal) (hPre_pooled_finite := hPre_pooled_finite)
    ∧ quiescent_Pool4Fwd (hPool4Fwd := hPool4Fwd)
    ∧ quiescent_Pool4FwdIdeal (hPool4FwdIdeal := hPool4FwdIdeal)
    ∧ quiescent_Pool4FwdIdeal_pre_pooled_finite (hPool4FwdIdeal := hPool4FwdIdeal) (hPre_pooled_finite := hPre_pooled_finite)
    ∧ quiescent_Pool4FwdRefIdeal (hPool4FwdRefIdeal := hPool4FwdRefIdeal)
    ∧ quiescent_Pool4FwdRefIdeal_pre_pooled_finite (hPool4FwdRefIdeal := hPool4FwdRefIdeal) (hPre_pooled_finite := hPre_pooled_finite)
    ∧ quiescent_Pool8Fwd (hPool8Fwd := hPool8Fwd)
    ∧ quiescent_Pool8FwdIdeal (hPool8FwdIdeal := hPool8FwdIdeal)
    ∧ quiescent_Pool8FwdIdeal_pre_pooled_finite (hPool8FwdIdeal := hPool8FwdIdeal) (hPre_pooled_finite := hPre_pooled_finite)
    ∧ quiescent_Pool8FwdRefIdeal (hPool8FwdRefIdeal := hPool8FwdRefIdeal)
    ∧ quiescent_Pool8FwdRefIdeal_pre_pooled_finite (hPool8FwdRefIdeal := hPool8FwdRefIdeal) (hPre_pooled_finite := hPre_pooled_finite)
    ∧ quiescent_Pool16Fwd (hPool16Fwd := hPool16Fwd)
    ∧ quiescent_Pool16FwdIdeal (hPool16FwdIdeal := hPool16FwdIdeal)
    ∧ quiescent_Pool16FwdIdeal_pre_pooled_finite (hPool16FwdIdeal := hPool16FwdIdeal) (hPre_pooled_finite := hPre_pooled_finite)
    ∧ quiescent_Pool16FwdRefIdeal (hPool16FwdRefIdeal := hPool16FwdRefIdeal)
    ∧ quiescent_Pool16FwdRefIdeal_pre_pooled_finite (hPool16FwdRefIdeal := hPool16FwdRefIdeal) (hPre_pooled_finite := hPre_pooled_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_Swap (hSwap := hSwap)
    ∧ quiescent_SwapIdeal (hSwapIdeal := hSwapIdeal)
    ∧ quiescent_SwapRefIdeal (hSwapRefIdeal := hSwapRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_COutBwd_COutBwdIdeal
    ∧ algebraic_COutBwdIdeal_COutBwdRefIdeal (hCOutBwdIdeal := hCOutBwdIdeal) (hCOutBwdRefIdeal := hCOutBwdRefIdeal)
    ∧ preserves_CInBwd_CInBwdIdeal
    ∧ algebraic_CInBwdIdeal_CInBwdRefIdeal (hCInBwdIdeal := hCInBwdIdeal) (hCInBwdRefIdeal := hCInBwdRefIdeal)
    ∧ preserves_BInBwd_BInBwdIdeal
    ∧ algebraic_BInBwdIdeal_BInBwdRefIdeal (hBInBwdIdeal := hBInBwdIdeal) (hBInBwdRefIdeal := hBInBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_GmlpBwd_GmlpBwdIdeal
    ∧ algebraic_GmlpBwdIdeal_GmlpBwdRefIdeal_pre_gmlp_finite (hGmlpBwdIdeal := hGmlpBwdIdeal) (hGmlpBwdRefIdeal := hGmlpBwdRefIdeal) (hPre_gmlp_finite := hPre_gmlp_finite)
    ∧ preserves_Pool2Bwd_Pool2BwdIdeal
    ∧ algebraic_Pool2BwdIdeal_Pool2BwdRefIdeal_pre_pool_finite (hPool2BwdIdeal := hPool2BwdIdeal) (hPool2BwdRefIdeal := hPool2BwdRefIdeal) (hPre_pool_finite := hPre_pool_finite)
    ∧ preserves_Pool4Bwd_Pool4BwdIdeal
    ∧ algebraic_Pool4BwdIdeal_Pool4BwdRefIdeal_pre_pool_finite (hPool4BwdIdeal := hPool4BwdIdeal) (hPool4BwdRefIdeal := hPool4BwdRefIdeal) (hPre_pool_finite := hPre_pool_finite)
    ∧ preserves_Pool8Bwd_Pool8BwdIdeal
    ∧ algebraic_Pool8BwdIdeal_Pool8BwdRefIdeal_pre_pool_finite (hPool8BwdIdeal := hPool8BwdIdeal) (hPool8BwdRefIdeal := hPool8BwdRefIdeal) (hPre_pool_finite := hPre_pool_finite)
    ∧ preserves_Pool16Bwd_Pool16BwdIdeal
    ∧ algebraic_Pool16BwdIdeal_Pool16BwdRefIdeal_pre_pool_finite (hPool16BwdIdeal := hPool16BwdIdeal) (hPool16BwdRefIdeal := hPool16BwdRefIdeal) (hPre_pool_finite := hPre_pool_finite)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_BInFwd_BInFwdIdeal
    ∧ algebraic_BInFwdIdeal_BInFwdRefIdeal (hBInFwdIdeal := hBInFwdIdeal) (hBInFwdRefIdeal := hBInFwdRefIdeal)
    ∧ preserves_COutFwd_COutFwdIdeal
    ∧ algebraic_COutFwdIdeal_COutFwdRefIdeal (hCOutFwdIdeal := hCOutFwdIdeal) (hCOutFwdRefIdeal := hCOutFwdRefIdeal)
    ∧ preserves_CInFwd_CInFwdIdeal
    ∧ algebraic_CInFwdIdeal_CInFwdRefIdeal (hCInFwdIdeal := hCInFwdIdeal) (hCInFwdRefIdeal := hCInFwdRefIdeal)
    ∧ preserves_Pool2Fwd_Pool2FwdIdeal
    ∧ algebraic_Pool2FwdIdeal_Pool2FwdRefIdeal_pre_pooled_finite (hPool2FwdIdeal := hPool2FwdIdeal) (hPool2FwdRefIdeal := hPool2FwdRefIdeal) (hPre_pooled_finite := hPre_pooled_finite)
    ∧ preserves_Pool4Fwd_Pool4FwdIdeal
    ∧ algebraic_Pool4FwdIdeal_Pool4FwdRefIdeal_pre_pooled_finite (hPool4FwdIdeal := hPool4FwdIdeal) (hPool4FwdRefIdeal := hPool4FwdRefIdeal) (hPre_pooled_finite := hPre_pooled_finite)
    ∧ preserves_Pool8Fwd_Pool8FwdIdeal
    ∧ algebraic_Pool8FwdIdeal_Pool8FwdRefIdeal_pre_pooled_finite (hPool8FwdIdeal := hPool8FwdIdeal) (hPool8FwdRefIdeal := hPool8FwdRefIdeal) (hPre_pooled_finite := hPre_pooled_finite)
    ∧ preserves_Pool16Fwd_Pool16FwdIdeal
    ∧ algebraic_Pool16FwdIdeal_Pool16FwdRefIdeal_pre_pooled_finite (hPool16FwdIdeal := hPool16FwdIdeal) (hPool16FwdRefIdeal := hPool16FwdRefIdeal) (hPre_pooled_finite := hPre_pooled_finite)
    ∧ preserves_OutProj_OutProjIdeal
    ∧ algebraic_OutProjIdeal_OutProjRefIdeal (hOutProjIdeal := hOutProjIdeal) (hOutProjRefIdeal := hOutProjRefIdeal)
    ∧ preserves_OutGrad_OutGradIdeal
    ∧ algebraic_OutGradIdeal_OutGradRefIdeal (hOutGradIdeal := hOutGradIdeal) (hOutGradRefIdeal := hOutGradRefIdeal)
    ∧ preserves_DownGrad_DownGradIdeal
    ∧ algebraic_DownGradIdeal_DownGradRefIdeal (hDownGradIdeal := hDownGradIdeal) (hDownGradRefIdeal := hDownGradRefIdeal)
    ∧ preserves_AdamW_AdamWIdeal
    ∧ algebraic_AdamWIdeal_AdamWRefIdeal (hAdamWIdeal := hAdamWIdeal) (hAdamWRefIdeal := hAdamWRefIdeal)
    ∧ preserves_Swap_SwapIdeal
    ∧ algebraic_SwapIdeal_SwapRefIdeal (hSwapIdeal := hSwapIdeal) (hSwapRefIdeal := hSwapRefIdeal)
-- ==== Pre_ffn_finite.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  main_v18

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2x2048x1024 .f32 := Host.absf main_arg5
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_v13 main_v16
-- ==== Pre_gmlp_finite.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg5 : FVec F S8x128 .f32) (main_arg6 : FVec F S1024x1024 .f32) (main_arg7 : FVec F S2x2048x1024 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S2x2048x1024 .f32 := Host.absf main_arg7
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  main_v33

def fn {F : FTy → Type} [FloatOps F] (main_arg0 : FVec F S2x2048x1024 .f32) (main_arg1 : FVec F S1024 .f32) (main_arg2 : FVec F S1024x2048 .f32) (main_arg3 : FVec F S1024 .f32) (main_arg4 : FVec F S8x128x128 .f32) (main_arg5 : FVec F S8x128 .f32) (main_arg6 : FVec F S1024x1024 .f32) (main_arg7 : FVec F S2x2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_arg6 main_arg7 main_v13 main_v16
-- ==== Pre_pool_finite.lean ====
abbrev S2x2048x256 : Shape := ⟨3, ![2, 2048, 256]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel

variable [Facts]

def fn {F : FTy → Type} [FloatOps F] (main_arg0 : FVec F S2x2048x256 .f32) (main_arg1 : FVec F S2x2048x256 .f32) : IVec S_ 1 :=
  let main_v0 : FVec F S2x2048x256 .f32 := Host.absf main_arg1
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  main_v3
-- ==== Pre_pooled_finite.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== ConvBwd.lean ====
abbrev S2x2048x3072 : Shape := ⟨3, ![2, 2048, 3072]⟩
abbrev S3x1024 : Shape := ⟨2, ![3, 1024]⟩
abbrev S2x2048x1024 : Shape := ⟨3, ![2, 2048, 1024]⟩
abbrev S4096x3072 : Shape := ⟨2, ![4096, 3072]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S8x1024 : Shape := ⟨2, ![8, 1024]⟩
abbrev S2048x256 : Shape := ⟨2, ![2048, 256]⟩
abbrev S3x2048x256 : Shape := ⟨3, ![3, 2048, 256]⟩
abbrev S3x256 : Shape := ⟨2, ![3, 256]⟩
abbrev S8x256 : Shape := ⟨2, ![8, 256]⟩
abbrev S1x2048x256 : Shape := ⟨3, ![1, 2048, 256]⟩
abbrev S1x256 : Shape := ⟨2, ![1, 256]⟩
abbrev S256 : Shape := ⟨1, ![256]⟩

abbrev nBuf : Space → Nat
  | .hbm => 16
  | .vmem => 10
  | .smem => 0
  | _ => 0

abbrev bufTy : (tb : Table) → Fin (tcTables nBuf tb) → BufTy
  | .hbm, ⟨0, _⟩ => ⟨S2x2048x3072, .f32⟩
  | .hbm, ⟨1, _⟩ => ⟨S3x1024, .f32⟩
  | .hbm, ⟨2, _⟩ => ⟨S2x2048x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S3x4096x1024, .f32⟩
  | .hbm, ⟨11, _⟩ => ⟨S3x4096x1024, .bf16⟩
  | .hbm, ⟨12, _⟩ => ⟨S4096x1024, .f32⟩
  | .hbm, ⟨13, _⟩ => ⟨S4096x1024, .bf16⟩
  | .hbm, ⟨14, _⟩ => ⟨S3x4096x1024, .bf16⟩
  | .hbm, ⟨15, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S3x2048x256, .bf16⟩
  | .local _ .vmem, ⟨3, _⟩ => ⟨S3x2048x256, .bf16⟩
  | .local _ .vmem, ⟨4, _⟩ => ⟨S3x256, .f32⟩
  | .local _ .vmem, ⟨5, _⟩ => ⟨S3x256, .f32⟩
  | .local _ .vmem, ⟨6, _⟩ => ⟨S3x2048x256, .bf16⟩
  | .local _ .vmem, ⟨7, _⟩ => ⟨S3x2048x256, .bf16⟩
  | .local _ .vmem, ⟨8, _⟩ => ⟨S8x256, .f32⟩
  | .local _ .vmem, ⟨9, _⟩ => ⟨S8x256, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvBwdRefIdeal.lean ====
abbrev S2x2048x3072 : Shape := ⟨3, ![2, 2048, 3072]⟩
abbrev S3x1024 : Shape := ⟨2, ![3, 1024]⟩
abbrev S2x2048x1024 : Shape := ⟨3, ![2, 2048, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x3072 : Shape := ⟨2, ![4096, 3072]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S3x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2x1024, .f32⟩
  | .hbm, ⟨8, _⟩ => ⟨S2x2048x1024, .f32⟩
  | .hbm, ⟨9, _⟩ => ⟨S2x2050x1024, .f32⟩
  | .hbm, ⟨10, _⟩ => ⟨S_, .f32⟩
  | .hbm, ⟨11, _⟩ => ⟨S2x2x1024, .f32⟩
  | .hbm, ⟨12, _⟩ => ⟨S1x1024, .f32⟩
  | .hbm, ⟨13, _⟩ => ⟨S1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S1x1024, .f32⟩
  | .hbm, ⟨19, _⟩ => ⟨S1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S1x1024, .f32⟩
  | .hbm, ⟨26, _⟩ => ⟨S1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S1x1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S2x2050x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S2x2050x1024, .f32⟩
  | .hbm, ⟨58, _⟩ => ⟨S2x2050x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S2x2050x1024, .f32⟩
  | .hbm, ⟨73, _⟩ => ⟨S2x2050x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x2x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x3072, .f32⟩
  | .hbm, ⟨83, _⟩ => ⟨S4096x3072, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x4096x1024, .f32⟩
  | .hbm, ⟨88, _⟩ => ⟨S1x4096x1024, .f32⟩
  | .hbm, ⟨89, _⟩ => ⟨S1x4096x1024, .f32⟩
  | .hbm, ⟨90, _⟩ => ⟨S3x4096x1024, .f32⟩
  | .hbm, ⟨91, _⟩ => ⟨S3x4096x1024, .bf16⟩
  | .hbm, ⟨92, _⟩ => ⟨S_, .i32⟩
  | .hbm, ⟨93, _⟩ => ⟨S_, .f32⟩
  | .hbm, ⟨94, _⟩ => ⟨S8x1024, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c : Ref sig .tc := ⟨.hbm, 92, rfl⟩
abbrev main_call0_v0 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== COutBwd.lean ====
abbrev S2x2048x4x256 : Shape := ⟨4, ![2, 2048, 4, 256]⟩
abbrev S4x256x256 : Shape := ⟨3, ![4, 256, 256]⟩
abbrev S1024 : Shape := ⟨1, ![1024]⟩
abbrev S1024x1024 : Shape := ⟨2, ![1024, 1024]⟩
abbrev S2x2048x1024 : Shape := ⟨3, ![2, 2048, 1024]⟩
abbrev S4096x4x256 : Shape := ⟨3, ![4096, 4, 256]⟩
abbrev S4096x1x256 : Shape := ⟨3, ![4096, 1, 256]⟩
abbrev S4096x256 : Shape := ⟨2, ![4096, 256]⟩
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 31
  | .vmem => 24
  | .smem => 0
  | _ => 0

abbrev bufTy : (tb : Table) → Fin (tcTables nBuf tb) → BufTy
  | .hbm, ⟨0, _⟩ => ⟨S2x2048x4x256, .f32⟩
  | .hbm, ⟨1, _⟩ => ⟨S4x256x256, .f32⟩
  | .hbm, ⟨2, _⟩ => ⟨S1024, .f32⟩
  | .hbm, ⟨3, _⟩ => ⟨S1024x1024, .f32⟩
  | .hbm, ⟨4, _⟩ => ⟨S2x2048x1024, .f32⟩
  | .hbm, ⟨5, _⟩ => ⟨S4096x4x256, .f32⟩
  | .hbm, ⟨6, _⟩ => ⟨S4096x1x256, .f32⟩
  | .hbm, ⟨7, _⟩ => ⟨S4096x256, .f32⟩
  | .hbm, ⟨8, _⟩ => ⟨S4096x256, .bf16⟩
  | .hbm, ⟨9, _⟩ => ⟨S4096x4x256, .f32⟩
  | .hbm, ⟨10, _⟩ => ⟨S4096x1x256, .f32⟩
  | .hbm, ⟨11, _⟩ => ⟨S4096x256, .f32⟩
  | .hbm, ⟨12, _⟩ => ⟨S4096x256, .bf16⟩
  | .hbm, ⟨13, _⟩ => ⟨S4096x4x256, .f32⟩
  | .hbm, ⟨14, _⟩ => ⟨S4096x1x256, .f32⟩
  | .hbm, ⟨15, _⟩ => ⟨S4096x256, .f32⟩
  | .hbm, ⟨16, _⟩ => ⟨S4096x256, .bf16⟩
  | .hbm, ⟨17, _⟩ => ⟨S4096x4x256, .f32⟩
  | .hbm, ⟨18, _⟩ => ⟨S4096x1x256, .f32⟩
  | .hbm, ⟨19, _⟩ => ⟨S4096x256, .f32⟩
  | .hbm, ⟨20, _⟩ => ⟨S4096x256, .bf16⟩
  | .hbm, ⟨21, _⟩ => ⟨S4096x1024, .f32⟩
  | .hbm, ⟨22, _⟩ => ⟨S4x256x256, .bf16⟩
  | .hbm, ⟨23, _⟩ => ⟨S1x1024, .f32⟩
  | .hbm, ⟨24, _⟩ => ⟨S1024x1024, .bf16⟩
  | .hbm, ⟨25, _⟩ => ⟨S4096x1024, .bf16⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S4x256x256, .bf16⟩
  | .local _ .vmem, ⟨11, _⟩ => ⟨S1x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S8x1024, .f32⟩
  | _, _ => ⟨S2x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev main_v20_4 : Ref sig .tc := ⟨.hbm, 29, rfl⟩
abbrev main_v20_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== COutBwdRefIdeal.lean ====
abbrev S2x2048x4x256 : Shape := ⟨4, ![2, 2048, 4, 256]⟩
abbrev S4x256x256 : Shape := ⟨3, ![4, 256, 256]⟩
abbrev S1024 : Shape := ⟨1, ![1024]⟩
abbrev S1024x1024 : Shape := ⟨2, ![1024, 1024]⟩
abbrev S2x2048x1024 : Shape := ⟨3, ![2, 2048, 1024]⟩
abbrev S4x256x2x2048 : Shape := ⟨4, ![4, 256, 2, 2048]⟩
abbrev S1x1x1024 : Shape := ⟨3, ![1, 1, 1024]⟩
abbrev S_ : Shape := ⟨0, ![]⟩
abbrev S4x2x2048x256 : Shape := ⟨4, ![4, 2, 2048, 256]⟩
abbrev S4096x4x256 : Shape := ⟨3, ![4096, 4, 256]⟩
abbrev S4096x1024 : Shape := ⟨2, ![4096, 1024]⟩
abbrev S4096x1x256 : Shape := ⟨3, ![4096, 1, 256]⟩
abbrev S4096x256 : Shape := ⟨2, ![4096, 256]⟩
abbrev S1x1024 : Shape := ⟨2, ![1, 1024]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x4x256, .f32⟩
  | .hbm, ⟨1, _⟩ => ⟨S4x256x256, .f32⟩
  | .hbm, ⟨2, _⟩ => ⟨S1024, .f32⟩
  | .hbm, ⟨3, _⟩ => ⟨S1024x1024, .f32⟩
  | .hbm, ⟨4, _⟩ => ⟨S2x2048x1024, .f32⟩
  | .hbm, ⟨5, _⟩ => ⟨S4x256x2x2048, .f32⟩
  | .hbm, ⟨6, _⟩ => ⟨S2x2048x4x256, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S1024, .f32⟩
  | .hbm, ⟨21, _⟩ => ⟨S2x2048x4x256, .f32⟩
  | .hbm, ⟨22, _⟩ => ⟨S4x256x2x2048, .f32⟩
  | .hbm, ⟨23, _⟩ => ⟨S4x2x2048x256, .f32⟩
  | .hbm, ⟨24, _⟩ => ⟨S2x2048x4x256, .f32⟩
  | .hbm, ⟨25, _⟩ => ⟨S4096x4x256, .f32⟩
  | .hbm, ⟨26, _⟩ => ⟨S4096x1024, .f32⟩
  | .hbm, ⟨27, _⟩ => ⟨S4096x1024, .bf16⟩
  | .hbm, ⟨28, _⟩ => ⟨S4096x1x256, .f32⟩
  | .hbm, ⟨29, _⟩ => ⟨S4096x256, .f32⟩
  | .hbm, ⟨30, _⟩ => ⟨S4096x1x256, .f32⟩
  | .hbm, ⟨31, _⟩ => ⟨S4096x256, .f32⟩
  | .hbm, ⟨32, _⟩ => ⟨S4096x1x256, .f32⟩
  | .hbm, ⟨33, _⟩ => ⟨S4096x256, .f32⟩
  | .hbm, ⟨34, _⟩ => ⟨S4096x1x256, .f32⟩
  | .hbm, ⟨35, _⟩ => ⟨S4096x256, .f32⟩
  | .hbm, ⟨36, _⟩ => ⟨S1x1024, .f32⟩
  | .hbm, ⟨37, _⟩ => ⟨S_, .i32⟩
  | .hbm, ⟨38, _⟩ => ⟨S_, .f32⟩
  | .hbm, ⟨39, _⟩ => ⟨S8x1024, .f32⟩
  | _, _ => ⟨S2x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== CInBwd.lean ====
abbrev S2x2048x1024 : Shape := ⟨3, ![2, 2048, 1024]⟩
abbrev S1024 : Shape := ⟨1, ![1024]⟩
abbrev S1024x1024 : Shape := ⟨2, ![1024, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1x1024 : Shape := ⟨2, ![1, 1024]⟩
abbrev S8x1024 : Shape := ⟨2, ![8, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S1x4096x1024, .f32⟩
  | .hbm, ⟨6, _⟩ => ⟨S1x4096x1024, .bf16⟩
  | .hbm, ⟨7, _⟩ => ⟨S1024x1024, .bf16⟩
  | .hbm, ⟨8, _⟩ => ⟨S1x1024x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CInBwdRefIdeal.lean ====
abbrev S2x2048x1024 : Shape := ⟨3, ![2, 2048, 1024]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== BInBwd.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S4096x3072 : Shape := ⟨2, ![4096, 3072]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S1024x4x768 : Shape := ⟨3, ![1024, 4, 768]⟩
abbrev S4x1024x768 : Shape := ⟨3, ![4, 1024, 768]⟩
abbrev S1x1024 : Shape := ⟨2, ![1, 1024]⟩
abbrev S8x1024 : Shape := ⟨2, ![8, 1024]⟩
abbrev S3x512x1024 : Shape := ⟨3, ![3, 512, 1024]⟩
abbrev S512x1024 : Shape := ⟨2, ![512, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 22
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S3x4096x1024, .f32⟩
  | .hbm, ⟨13, _⟩ => ⟨S3x4096x1024, .bf16⟩
  | .hbm, ⟨14, _⟩ => ⟨S1024x4x768, .f32⟩
  | .hbm, ⟨15, _⟩ => ⟨S4x1024x768, .f32⟩
  | .hbm, ⟨16, _⟩ => ⟨S4x1024x768, .bf16⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BInBwdRefIdeal.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3072, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== LossHead.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x1024, .f32⟩
  | .hbm, ⟨73, _⟩ => ⟨S_, .i32⟩
  | .hbm, ⟨74, _⟩ => ⟨S_, .f32⟩
  | .hbm, ⟨75, _⟩ => ⟨S8x1024, .f32⟩
  | .hbm, ⟨76, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== FfnBwd.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x2816 : Shape := ⟨2, ![4096, 2816]⟩
abbrev S1x1024 : Shape := ⟨2, ![1, 1024]⟩
abbrev S8x1024 : Shape := ⟨2, ![8, 1024]⟩
abbrev S256x1024 : Shape := ⟨2, ![256, 1024]⟩
abbrev S256x2816 : Shape := ⟨2, ![256, 2816]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩

abbrev nBuf : Space → Nat
  | .hbm => 60
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S4096x1024, .f32⟩
  | .hbm, ⟨23, _⟩ => ⟨S4096x1024, .bf16⟩
  | .hbm, ⟨24, _⟩ => ⟨S1024x2816, .bf16⟩
  | .hbm, ⟨25, _⟩ => ⟨S4096x2816, .f32⟩
  | .hbm, ⟨26, _⟩ => ⟨S1024x2816, .bf16⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S2816x1024, .f32⟩
  | .hbm, ⟨52, _⟩ => ⟨S2816x1024, .bf16⟩
  | .hbm, ⟨53, _⟩ => ⟨S2816x1024, .f32⟩
  | .hbm, ⟨54, _⟩ => ⟨S2816x1024, .bf16⟩
  | .hbm, ⟨55, _⟩ => ⟨S2816x1024, .bf16⟩
  | .hbm, ⟨56, _⟩ => ⟨S4096x1024, .f32⟩
  | .hbm, ⟨57, _⟩ => ⟨S4096x2816, .bf16⟩
  | .hbm, ⟨58, _⟩ => ⟨S4096x2816, .bf16⟩
  | .hbm, ⟨59, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v43_3 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnBwdRefIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩
abbrev S1x1024 : Shape := ⟨2, ![1, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x1024, .f32⟩
  | .hbm, ⟨80, _⟩ => ⟨S4096x2816, .f32⟩
  | .hbm, ⟨81, _⟩ => ⟨S4096x2816, .bf16⟩
  | .hbm, ⟨82, _⟩ => ⟨S4096x2816, .f32⟩
  | .hbm, ⟨83, _⟩ => ⟨S4096x2816, .bf16⟩
  | .hbm, ⟨84, _⟩ => ⟨S1x1024, .f32⟩
  | .hbm, ⟨85, _⟩ => ⟨S_, .i32⟩
  | .hbm, ⟨86, _⟩ => ⟨S_, .f32⟩
  | .hbm, ⟨87, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c : Ref sig .tc := ⟨.hbm, 85, rfl⟩
abbrev main_call2_v0 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== GmlpBwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S1024x4x512 : Shape := ⟨3, ![1024, 4, 512]⟩
abbrev S4x1024x512 : Shape := ⟨3, ![4, 1024, 512]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x2048 : Shape := ⟨2, ![4096, 2048]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 137
  | .vmem => 25
  | .smem => 0
  | _ => 0

abbrev hbmTy0_0 (i : Nat) : BufTy := match i % 128 with
  | 0 => ⟨S2x2048x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S1024x1024, .f32⟩
  | 7 => ⟨S2x2048x1024, .f32⟩
  | 8 => ⟨S128, .i32⟩
  | 9 => ⟨S1x128, .i32⟩
  | 10 => ⟨S_, .i32⟩
  | 11 => ⟨S_, .i32⟩
  | 12 => ⟨S1x128, .i32⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i32⟩
  | 19 => ⟨S1x128, .i32⟩
  | 20 => ⟨S_, .i32⟩
  | 21 => ⟨S1x128, .i32⟩
  | 22 => ⟨S1x128, .i1⟩
  | 23 => ⟨S1x128, .i1⟩
  | 24 => ⟨S_, .i32⟩
  | 25 => ⟨S1x128, .i32⟩
  | 26 => ⟨S1x128, .i32⟩
  | 27 => ⟨S1x128, .i32⟩
  | 28 => ⟨S128, .i32⟩
  | 29 => ⟨S128x1, .i32⟩
  | 30 => ⟨S_, .i32⟩
  | 31 => ⟨S_, .i32⟩
  | 32 => ⟨S128x1, .i32⟩
  | 33 => ⟨S128x1, .i32⟩
  | 34 => ⟨S128x1, .i32⟩
  | 35 => ⟨S_, .i32⟩
  | 36 => ⟨S128x1, .i32⟩
  | 37 => ⟨S128x1, .i1⟩
  | 38 => ⟨S128x1, .i32⟩
  | 39 => ⟨S128x1, .i32⟩
  | 40 => ⟨S_, .i32⟩
  | 41 => ⟨S128x1, .i32⟩
  | 42 => ⟨S128x1, .i1⟩
  | 43 => ⟨S128x1, .i1⟩
  | 44 => ⟨S_, .i32⟩
  | 45 => ⟨S128x1, .i32⟩
  | 46 => ⟨S128x1, .i32⟩
  | 47 => ⟨S128x1, .i32⟩
  | 48 => ⟨S128x128, .i32⟩
  | 49 => ⟨S128x128, .i32⟩
  | 50 => ⟨S128x128, .i1⟩
  | 51 => ⟨S1x128x128, .i1⟩
  | 52 => ⟨S_, .f32⟩
  | 53 => ⟨S_, .f32⟩
  | 54 => ⟨S8x128x128, .i1⟩
  | 55 => ⟨S8x128x128, .f32⟩
  | 56 => ⟨S8x128x128, .f32⟩
  | 57 => ⟨S8x128x128, .bf16⟩
  | 58 => ⟨S8x128x128, .f32⟩
  | 59 => ⟨S8x128x128, .bf16⟩
  | 60 => ⟨S8x128x1, .f32⟩
  | 61 => ⟨S8x128x128, .f32⟩
  | 62 => ⟨S1024x4x512, .f32⟩
  | 63 => ⟨S4x1024x512, .f32⟩
  | 64 => ⟨S4x1024x512, .bf16⟩
  | 65 => ⟨S2x2048x1024, .f32⟩
  | 66 => ⟨S_, .f32⟩
  | 67 => ⟨S2x2048, .f32⟩
  | 68 => ⟨S2x2048x1, .f32⟩
  | 69 => ⟨S_, .f32⟩
  | 70 => ⟨S2x2048x1, .f32⟩
  | 71 => ⟨S2x2048x1, .f32⟩
  | 72 => ⟨S_, .f32⟩
  | 73 => ⟨S2x2048x1, .f32⟩
  | 74 => ⟨S2x2048x1, .f32⟩
  | 75 => ⟨S2x2048x1, .f32⟩
  | 76 => ⟨S2x2048x1024, .f32⟩
  | 77 => ⟨S2x2048x1024, .f32⟩
  | 78 => ⟨S1x1x1024, .f32⟩
  | 79 => ⟨S2x2048x1024, .f32⟩
  | 80 => ⟨S2x2048x1024, .f32⟩
  | 81 => ⟨S4096x1024, .f32⟩
  | 82 => ⟨S4096x1024, .bf16⟩
  | 83 => ⟨S1024x2048, .bf16⟩
  | 84 => ⟨S4096x2048, .f32⟩
  | 85 => ⟨S4096x2048, .bf16⟩
  | 86 => ⟨S4096x2048, .f32⟩
  | 87 => ⟨S4096x1024, .f32⟩
  | 88 => ⟨S_, .f32⟩
  | 89 => ⟨S4096x1024, .f32⟩
  | 90 => ⟨S4096x1024, .f32⟩
  | 91 => ⟨S_, .f32⟩
  | 92 => ⟨S_, .f32⟩
  | 93 => ⟨S_, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096x1, .f32⟩
  | 118 => ⟨S4096x1, .f32⟩
  | 119 => ⟨S4096x1, .f32⟩
  | 120 => ⟨S4096x1024, .f32⟩
  | 121 => ⟨S4096x1024, .f32⟩
  | 122 => ⟨S1x1024, .f32⟩
  | 123 => ⟨S4096x1024, .f32⟩
  | 124 => ⟨S4096x1024, .f32⟩
  | 125 => ⟨S4096x1024, .bf16⟩
  | 126 => ⟨S4096x1024, .f32⟩
  | 127 => ⟨S4096x1024, .f32⟩
  | _ => ⟨S2x2048x1024, .f32⟩

abbrev hbmTy0_1 (i : Nat) : BufTy := match i % 128 with
  | 0 => ⟨S1x1024, .f32⟩
  | 1 => ⟨S1x1024, .f32⟩
  | 2 => ⟨S1024x1024, .bf16⟩
  | 3 => ⟨S4096x1024, .f32⟩
  | 4 => ⟨S4096x2048, .bf16⟩
  | 5 => ⟨S8x128x128, .f32⟩
  | 6 => ⟨S8x128x128, .f32⟩
  | 7 => ⟨S8x1024, .f32⟩
  | 8 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S8x128x128, .f32⟩
  | .local _ .vmem, ⟨13, _⟩ => ⟨S1024x1024, .bf16⟩
  | .local _ .vmem, ⟨14, _⟩ => ⟨S4x1024x512, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S8x128x128, .f32⟩
  | .local _ .vmem, ⟨20, _⟩ => ⟨S8x128x128, .f32⟩
  | .local _ .vmem, ⟨21, _⟩ => ⟨S8x1024, .f32⟩
  | .local _ .vmem, ⟨22, _⟩ => ⟨S8x1024, .f32⟩
  | .local _ .vmem, ⟨23, _⟩ => ⟨S512x1024, .f32⟩
  | .local _ .vmem, ⟨24, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst_1 : Ref sig .tc := ⟨.hbm, 66, rfl⟩
abbrev main_v20 : Ref sig .tc := ⟨.hbm, 67, rfl⟩
abbrev main_v21 : Ref sig .tc := ⟨.hbm, 68, rfl⟩
abbrev main_cst_2 : Ref sig .tc := ⟨.hbm, 69, rfl⟩
abbrev main_v22 : Ref sig .tc := ⟨.hbm, 70, rfl⟩
abbrev main_v23 : Ref sig .tc := ⟨.hbm, 71, rfl⟩
abbrev main_cst_3 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_4 : Ref sig .tc := ⟨.hbm, 88, rfl⟩
abbrev main_v39 : Ref sig .tc := ⟨.hbm, 89, rfl⟩
abbrev main_v40 : Ref sig .tc := ⟨.hbm, 90, rfl⟩
abbrev main_cst_5 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_6 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_7 : Ref sig .tc := ⟨.hbm, 101, rfl⟩
abbrev main_v49 : Ref sig .tc := ⟨.hbm, 102, rfl⟩
abbrev main_v50 : Ref sig .tc := ⟨.hbm, 103, rfl⟩
abbrev main_cst_8 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_v57 : Ref sig .tc := ⟨.hbm, 112, rfl⟩
abbrev main_cst_10 : Ref sig .tc := ⟨.hbm, 113, rfl⟩
abbrev main_v58 : Ref sig .tc := ⟨.hbm, 114, rfl⟩
abbrev main_v59 : Ref sig .tc := ⟨.hbm, 115, rfl⟩
abbrev main_cst_11 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74_0 : Ref sig .tc := ⟨.hbm, 131, rfl⟩
abbrev main_v74_1 : Ref sig .tc := ⟨.hbm, 132, rfl⟩
abbrev main_v74_2 : Ref sig .tc := ⟨.hbm, 133, rfl⟩
abbrev main_v74_3 : Ref sig .tc := ⟨.hbm, 134, rfl⟩
abbrev main_v74_4 : Ref sig .tc := ⟨.hbm, 135, rfl⟩
abbrev main_v74_5 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== GmlpBwdIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== GmlpBwdRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S2x16x128x8x128 : Shape := ⟨5, ![2, 16, 128, 8, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S4096x1024 : Shape := ⟨2, ![4096, 1024]⟩
abbrev S4096x2048 : Shape := ⟨2, ![4096, 2048]⟩
abbrev S8x128x1 : Shape := ⟨3, ![8, 128, 1]⟩
abbrev S1x1024 : Shape := ⟨2, ![1, 1024]⟩
abbrev S8x1024 : Shape := ⟨2, ![8, 1024]⟩

abbrev nBuf : Space → Nat
  | .hbm => 250
  | .vmem => 0
  | .smem => 0
  | _ => 0

abbrev hbmTy0_0 (i : Nat) : BufTy := match i % 128 with
  | 0 => ⟨S2x2048x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S1024x1024, .f32⟩
  | 7 => ⟨S2x2048x1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x2048, .f32⟩
  | 29 => ⟨S128, .i32⟩
  | 30 => ⟨S1x128, .i32⟩
  | 31 => ⟨S_, .i32⟩
  | 32 => ⟨S_, .i32⟩
  | 33 => ⟨S1x128, .i32⟩
  | 34 => ⟨S1x128, .i32⟩
  | 35 => ⟨S1x128, .i32⟩
  | 36 => ⟨S_, .i32⟩
  | 37 => ⟨S1x128, .i32⟩
  | 38 => ⟨S1x128, .i1⟩
  | 39 => ⟨S1x128, .i32⟩
  | 40 => ⟨S1x128, .i32⟩
  | 41 => ⟨S_, .i32⟩
  | 42 => ⟨S1x128, .i32⟩
  | 43 => ⟨S1x128, .i1⟩
  | 44 => ⟨S1x128, .i1⟩
  | 45 => ⟨S_, .i32⟩
  | 46 => ⟨S1x128, .i32⟩
  | 47 => ⟨S1x128, .i32⟩
  | 48 => ⟨S1x128, .i32⟩
  | 49 => ⟨S128x1, .i32⟩
  | 50 => ⟨S_, .i32⟩
  | 51 => ⟨S_, .i32⟩
  | 52 => ⟨S128x1, .i32⟩
  | 53 => ⟨S128x1, .i32⟩
  | 54 => ⟨S128x1, .i32⟩
  | 55 => ⟨S_, .i32⟩
  | 56 => ⟨S128x1, .i32⟩
  | 57 => ⟨S128x1, .i1⟩
  | 58 => ⟨S128x1, .i32⟩
  | 59 => ⟨S128x1, .i32⟩
  | 60 => ⟨S_, .i32⟩
  | 61 => ⟨S128x1, .i32⟩
  | 62 => ⟨S128x1, .i1⟩
  | 63 => ⟨S128x1, .i1⟩
  | 64 => ⟨S_, .i32⟩
  | 65 => ⟨S128x1, .i32⟩
  | 66 => ⟨S128x1, .i32⟩
  | 67 => ⟨S128x1, .i32⟩
  | 68 => ⟨S128x128, .i32⟩
  | 69 => ⟨S128x128, .i32⟩
  | 70 => ⟨S128x128, .i1⟩
  | 71 => ⟨S1x128x128, .i1⟩
  | 72 => ⟨S_, .i32⟩
  | 73 => ⟨S_, .f32⟩
  | 74 => ⟨S8x128x128, .i1⟩
  | 75 => ⟨S8x128x128, .f32⟩
  | 76 => ⟨S8x128x128, .f32⟩
  | 77 => ⟨S_, .f32⟩
  | 78 => ⟨S2x2048x2048, .f32⟩
  | 79 => ⟨S2x2048x2048, .f32⟩
  | 80 => ⟨S2x2048x2048, .f32⟩
  | 81 => ⟨S_, .f32⟩
  | 82 => ⟨S_, .f32⟩
  | 83 => ⟨S_, .f32⟩
  | 84 => ⟨S2x2048x2048, .f32⟩
  | 85 => ⟨S2x2048x2048, .f32⟩
  | 86 => ⟨S2x2048x2048, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S2x2048x2048, .f32⟩
  | 94 => ⟨S2x2048x2048, .f32⟩
  | 95 => ⟨S2x2048x2048, .f32⟩
  | 96 => ⟨S_, .f32⟩
  | 97 => ⟨S2x2048x2048, .f32⟩
  | 98 => ⟨S2x2048x2048, .f32⟩
  | 99 => ⟨S2x2048x2048, .f32⟩
  | 100 => ⟨S2x2048x1024, .f32⟩
  | 101 => ⟨S2x2048x1024, .f32⟩
  | 102 => ⟨S_, .f32⟩
  | 103 => ⟨S2x2048, .f32⟩
  | 104 => ⟨S2x2048x1, .f32⟩
  | 105 => ⟨S_, .f32⟩
  | 106 => ⟨S2x2048x1, .f32⟩
  | 107 => ⟨S2x2048x1, .f32⟩
  | 108 => ⟨S2x2048x1024, .f32⟩
  | 109 => ⟨S2x2048x1024, .f32⟩
  | 110 => ⟨S2x2048x1024, .f32⟩
  | 111 => ⟨S_, .f32⟩
  | 112 => ⟨S2x2048x1024, .f32⟩
  | 113 => ⟨S2x2048x1024, .f32⟩
  | 114 => ⟨S_, .f32⟩
  | 115 => ⟨S2x2048, .f32⟩
  | 116 => ⟨S2x2048x1, .f32⟩
  | 117 => ⟨S_, .f32⟩
  | 118 => ⟨S2x2048x1, .f32⟩
  | 119 => ⟨S2x2048x1, .f32⟩
  | 120 => ⟨S2x2048x1024, .f32⟩
  | 121 => ⟨S2x2048x1024, .f32⟩
  | 122 => ⟨S_, .f32⟩
  | 123 => ⟨S2x2048x1, .f32⟩
  | 124 => ⟨S2x2048x1, .f32⟩
  | 125 => ⟨S2x2048x1, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048x1, .f32⟩
  | 1 => ⟨S2x2048x1, .f32⟩
  | 2 => ⟨S2x2048x1024, .f32⟩
  | 3 => ⟨S2x2048x1024, .f32⟩
  | 4 => ⟨S1x1x1024, .f32⟩
  | 5 => ⟨S2x2048x1024, .f32⟩
  | 6 => ⟨S2x2048x1024, .f32⟩
  | 7 => ⟨S2x16x128x8x128, .f32⟩
  | 8 => ⟨S8x2x16x128x128, .f32⟩
  | 9 => ⟨S2x16x128x8x128, .f32⟩
  | 10 => ⟨S128x8, .f32⟩
  | 11 => ⟨S1x1x128x8x1, .f32⟩
  | 12 => ⟨S2x16x128x8x128, .f32⟩
  | 13 => ⟨S2x16x128x8x128, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S2x16x128x8x128, .f32⟩
  | 21 => ⟨S_, .f32⟩
  | 22 => ⟨S128x8, .f32⟩
  | 23 => ⟨S1x1x128x8x1, .f32⟩
  | 24 => ⟨S_, .f32⟩
  | 25 => ⟨S128x8, .f32⟩
  | 26 => ⟨S8x128, .f32⟩
  | 27 => ⟨S8x2x16x128x128, .f32⟩
  | 28 => ⟨S8x128x128, .f32⟩
  | 29 => ⟨S8x2x16x128x128, .f32⟩
  | 30 => ⟨S2x16x128x8x128, .f32⟩
  | 31 => ⟨S2x2048x1024, .f32⟩
  | 32 => ⟨S2x2048x1024, .f32⟩
  | 33 => ⟨S_, .f32⟩
  | 34 => ⟨S1024, .f32⟩
  | 35 => ⟨S1x1x1024, .f32⟩
  | 36 => ⟨S2x2048x1024, .f32⟩
  | 37 => ⟨S2x2048x1024, .f32⟩
  | 38 => ⟨S_, .f32⟩
  | 39 => ⟨S1024, .f32⟩
  | 40 => ⟨S2x2048x1024, .f32⟩
  | 41 => ⟨S_, .f32⟩
  | 42 => ⟨S2x2048, .f32⟩
  | 43 => ⟨S2x2048x1, .f32⟩
  | 44 => ⟨S2x2048x1024, .f32⟩
  | 45 => ⟨S2x2048x1024, .f32⟩
  | 46 => ⟨S2x2048x1, .f32⟩
  | 47 => ⟨S2x2048x1024, .f32⟩
  | 48 => ⟨S_, .f32⟩
  | 49 => ⟨S2x2048, .f32⟩
  | 50 => ⟨S2x2048x1, .f32⟩
  | 51 => ⟨S_, .f32⟩
  | 52 => ⟨S2x2048x1, .f32⟩
  | 53 => ⟨S2x2048x1, .f32⟩
  | 54 => ⟨S_, .f32⟩
  | 55 => ⟨S2x2048, .f32⟩
  | 56 => ⟨S2x2048x1024, .f32⟩
  | 57 => ⟨S2x2048x1024, .f32⟩
  | 58 => ⟨S2x2048x1024, .f32⟩
  | 59 => ⟨S_, .f32⟩
  | 60 => ⟨S2x2048, .f32⟩
  | 61 => ⟨S2x2048x1, .f32⟩
  | 62 => ⟨S2x2048x1024, .f32⟩
  | 63 => ⟨S2x2048x1, .f32⟩
  | 64 => ⟨S_, .f32⟩
  | 65 => ⟨S2x2048x1, .f32⟩
  | 66 => ⟨S2x2048x1, .f32⟩
  | 67 => ⟨S_, .f32⟩
  | 68 => ⟨S2x2048, .f32⟩
  | 69 => ⟨S2x2048x1024, .f32⟩
  | 70 => ⟨S2x2048x1024, .f32⟩
  | 71 => ⟨S2x2048x2048, .f32⟩
  | 72 => ⟨S2x2048x2048, .f32⟩
  | 73 => ⟨S2x2048x2048, .f32⟩
  | 74 => ⟨S2x2048x2048, .f32⟩
  | 75 => ⟨S2x2048x2048, .f32⟩
  | 76 => ⟨S2x2048x2048, .f32⟩
  | 77 => ⟨S2x2048x2048, .f32⟩
  | 78 => ⟨S_, .f32⟩
  | 79 => ⟨S2x2048x2048, .f32⟩
  | 80 => ⟨S2x2048x2048, .f32⟩
  | 81 => ⟨S2x2048x2048, .f32⟩
  | 82 => ⟨S2x2048x1024, .f32⟩
  | 83 => ⟨S2x2048x1024, .f32⟩
  | 84 => ⟨S_, .f32⟩
  | 85 => ⟨S1024, .f32⟩
  | 86 => ⟨S1x1x1024, .f32⟩
  | 87 => ⟨S2x2048x1024, .f32⟩
  | 88 => ⟨S2x2048x1024, .f32⟩
  | 89 => ⟨S_, .f32⟩
  | 90 => ⟨S1024, .f32⟩
  | 91 => ⟨S2x2048x1024, .f32⟩
  | 92 => ⟨S_, .f32⟩
  | 93 => ⟨S2x2048, .f32⟩
  | 94 => ⟨S2x2048x1, .f32⟩
  | 95 => ⟨S2x2048x1024, .f32⟩
  | 96 => ⟨S2x2048x1024, .f32⟩
  | 97 => ⟨S2x2048x1, .f32⟩
  | 98 => ⟨S_, .f32⟩
  | 99 => ⟨S2x2048x1, .f32⟩
  | 100 => ⟨S2x2048x1, .f32⟩
  | 101 => ⟨S_, .f32⟩
  | 102 => ⟨S2x2048, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S4096x1024, .f32⟩
  | 110 => ⟨S4096x2048, .f32⟩
  | 111 => ⟨S4096x2048, .bf16⟩
  | 112 => ⟨S8x128x1, .f32⟩
  | 113 => ⟨S8x128x128, .f32⟩
  | 114 => ⟨S1x1024, .f32⟩
  | 115 => ⟨S_, .i32⟩
  | 116 => ⟨S_, .f32⟩
  | 117 => ⟨S8x1024, .f32⟩
  | 118 => ⟨S1x1024, .f32⟩
  | 119 => ⟨S_, .i32⟩
  | 120 => ⟨S_, .f32⟩
  | 121 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_c_4 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v26 : Ref sig .tc := ⟨.hbm, 76, rfl⟩
abbrev main_cst_5 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_6 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_7 : Ref sig .tc := ⟨.hbm, 87, rfl⟩
abbrev main_cst_8 : Ref sig .tc := ⟨.hbm, 88, rfl⟩
abbrev main_v35 : Ref sig .tc := ⟨.hbm, 89, rfl⟩
abbrev main_v36 : Ref sig .tc := ⟨.hbm, 90, rfl⟩
abbrev main_cst_9 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_10 : Ref sig .tc := ⟨.hbm, 102, rfl⟩
abbrev main_v47 : Ref sig .tc := ⟨.hbm, 103, rfl⟩
abbrev main_v48 : Ref sig .tc := ⟨.hbm, 104, rfl⟩
abbrev main_cst_11 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_12 : Ref sig .tc := ⟨.hbm, 111, rfl⟩
abbrev main_v54 : Ref sig .tc := ⟨.hbm, 112, rfl⟩
abbrev main_v55 : Ref sig .tc := ⟨.hbm, 113, rfl⟩
abbrev main_cst_13 : Ref sig .tc := ⟨.hbm, 114, rfl⟩
abbrev main_v56 : Ref sig .tc := ⟨.hbm, 115, rfl⟩
abbrev main_v57 : Ref sig .tc := ⟨.hbm, 116, rfl⟩
abbrev main_cst_14 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_15 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_16 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_17 : Ref sig .tc := ⟨.hbm, 149, rfl⟩
abbrev main_v87 : Ref sig .tc := ⟨.hbm, 150, rfl⟩
abbrev main_v88 : Ref sig .tc := ⟨.hbm, 151, rfl⟩
abbrev main_cst_18 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_19 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_20 : Ref sig .tc := ⟨.hbm, 166, rfl⟩
abbrev main_v101 : Ref sig .tc := ⟨.hbm, 167, rfl⟩
abbrev main_v102 : Ref sig .tc := ⟨.hbm, 168, rfl⟩
abbrev main_cst_21 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_22 : Ref sig .tc := ⟨.hbm, 176, rfl⟩
abbrev main_v109 : Ref sig .tc := ⟨.hbm, 177, rfl⟩
abbrev main_v110 : Ref sig .tc := ⟨.hbm, 178, rfl⟩
abbrev main_cst_23 : Ref sig .tc := ⟨.hbm, 179, rfl⟩
abbrev main_v111 : Ref sig .tc := ⟨.hbm, 180, rfl⟩
abbrev main_v112 : Ref sig .tc := ⟨.hbm, 181, rfl⟩
abbrev main_cst_24 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_25 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_26 : Ref sig .tc := ⟨.hbm, 192, rfl⟩
abbrev main_v121 : Ref sig .tc := ⟨.hbm, 193, rfl⟩
abbrev main_v122 : Ref sig .tc := ⟨.hbm, 194, rfl⟩
abbrev main_cst_27 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_28 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_29 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_cst_30 : Ref sig .tc := ⟨.hbm, 217, rfl⟩
abbrev main_v142 : Ref sig .tc := ⟨.hbm, 218, rfl⟩
abbrev main_v143 : Ref sig .tc := ⟨.hbm, 219, rfl⟩
abbrev main_cst_31 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_32 : Ref sig .tc := ⟨.hbm, 226, rfl⟩
abbrev main_v149 : Ref sig .tc := ⟨.hbm, 227, rfl⟩
abbrev main_v150 : Ref sig .tc := ⟨.hbm, 228, rfl⟩
abbrev main_cst_33 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_c_34 : Ref sig .tc := ⟨.hbm, 243, rfl⟩
abbrev main_call3_v0 : Ref sig .tc := ⟨.hbm, 244, rfl⟩
abbrev main_v164 : Ref sig .tc := ⟨.hbm, 245, rfl⟩
abbrev main_v165 : Ref sig .tc := ⟨.hbm, 246, rfl⟩
abbrev main_c_35 : Ref sig .tc := ⟨.hbm, 247, rfl⟩
abbrev main_call4_v0 : Ref sig .tc := ⟨.hbm, 248, rfl⟩
abbrev main_v166 : Ref sig .tc := ⟨.hbm, 249, rfl⟩

abbrev nD : Nat := 1
abbrev τ : Topo := Topo.v7x

variable {F : FTy → Type} [FloatOps F]
-- ==== Pool2Bwd.lean ====
abbrev S2x2048x256 : Shape := ⟨3, ![2, 2048, 256]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S4096x256, .f32⟩
  | .hbm, ⟨3, _⟩ => ⟨S4096x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool2BwdRefIdeal.lean ====
abbrev S2x2048x256 : Shape := ⟨3, ![2, 2048, 256]⟩
abbrev S_ : Shape := ⟨0, ![]⟩
abbrev S2048 : Shape := ⟨1, ![2048]⟩
abbrev S2x2x256 : Shape := ⟨3, ![2, 2, 256]⟩
abbrev S2x2046x256 : Shape := ⟨3, ![2, 2046, 256]⟩
abbrev S1x2048x1 : Shape := ⟨3, ![1, 2048, 1]⟩
abbrev S4096x256 : Shape := ⟨2, ![4096, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x2x256, .f32⟩
  | .hbm, ⟨11, _⟩ => ⟨S2x2046x256, .f32⟩
  | .hbm, ⟨12, _⟩ => ⟨S2x2048x256, .f32⟩
  | .hbm, ⟨13, _⟩ => ⟨S_, .f32⟩
  | .hbm, ⟨14, _⟩ => ⟨S2x2x256, .f32⟩
  | .hbm, ⟨15, _⟩ => ⟨S2x2048x256, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048x1, .f32⟩
  | .hbm, ⟨20, _⟩ => ⟨S2x2048x256, .f32⟩
  | .hbm, ⟨21, _⟩ => ⟨S2x2048x256, .f32⟩
  | .hbm, ⟨22, _⟩ => ⟨S2x2048x256, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S2x2x256, .f32⟩
  | .hbm, ⟨29, _⟩ => ⟨S2x2046x256, .f32⟩
  | .hbm, ⟨30, _⟩ => ⟨S_, .f32⟩
  | .hbm, ⟨31, _⟩ => ⟨S2x2048x256, .f32⟩
  | .hbm, ⟨32, _⟩ => ⟨S2x2048x256, .f32⟩
  | .hbm, ⟨33, _⟩ => ⟨S_, .f32⟩
  | .hbm, ⟨34, _⟩ => ⟨S_, .f32⟩
  | .hbm, ⟨35, _⟩ => ⟨S2x2048x256, .f32⟩
  | .hbm, ⟨36, _⟩ => ⟨S2x2048x256, .f32⟩
  | .hbm, ⟨37, _⟩ => ⟨S4096x256, .f32⟩
  | .hbm, ⟨38, _⟩ => ⟨S4096x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_call1_call0_cst : Ref sig .tc := ⟨.hbm, 33, rfl⟩
abbrev main_call1_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Pool4Bwd.lean ====
abbrev S2x2048x256 : Shape := ⟨3, ![2, 2048, 256]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S4096x256, .f32⟩
  | .hbm, ⟨3, _⟩ => ⟨S4096x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool4BwdRefIdeal.lean ====
abbrev S2x2048x256 : Shape := ⟨3, ![2, 2048, 256]⟩
abbrev S_ : Shape := ⟨0, ![]⟩
abbrev S2048 : Shape := ⟨1, ![2048]⟩
abbrev S2x4x256 : Shape := ⟨3, ![2, 4, 256]⟩
abbrev S2x2044x256 : Shape := ⟨3, ![2, 2044, 256]⟩
abbrev S1x2048x1 : Shape := ⟨3, ![1, 2048, 1]⟩
abbrev S4096x256 : Shape := ⟨2, ![4096, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x4x256, .f32⟩
  | .hbm, ⟨11, _⟩ => ⟨S2x2044x256, .f32⟩
  | .hbm, ⟨12, _⟩ => ⟨S2x2048x256, .f32⟩
  | .hbm, ⟨13, _⟩ => ⟨S_, .f32⟩
  | .hbm, ⟨14, _⟩ => ⟨S2x4x256, .f32⟩
  | .hbm, ⟨15, _⟩ => ⟨S2x2048x256, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048x1, .f32⟩
  | .hbm, ⟨20, _⟩ => ⟨S2x2048x256, .f32⟩
  | .hbm, ⟨21, _⟩ => ⟨S2x2048x256, .f32⟩
  | .hbm, ⟨22, _⟩ => ⟨S2x2048x256, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S2x4x256, .f32⟩
  | .hbm, ⟨29, _⟩ => ⟨S2x2044x256, .f32⟩
  | .hbm, ⟨30, _⟩ => ⟨S_, .f32⟩
  | .hbm, ⟨31, _⟩ => ⟨S2x2048x256, .f32⟩
  | .hbm, ⟨32, _⟩ => ⟨S2x2048x256, .f32⟩
  | .hbm, ⟨33, _⟩ => ⟨S_, .f32⟩
  | .hbm, ⟨34, _⟩ => ⟨S_, .f32⟩
  | .hbm, ⟨35, _⟩ => ⟨S2x2048x256, .f32⟩
  | .hbm, ⟨36, _⟩ => ⟨S2x2048x256, .f32⟩
  | .hbm, ⟨37, _⟩ => ⟨S4096x256, .f32⟩
  | .hbm, ⟨38, _⟩ => ⟨S4096x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_call1_call0_cst : Ref sig .tc := ⟨.hbm, 33, rfl⟩
abbrev main_call1_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Pool8Bwd.lean ====
abbrev S2x2048x256 : Shape := ⟨3, ![2, 2048, 256]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S4096x256, .f32⟩
  | .hbm, ⟨3, _⟩ => ⟨S4096x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool8BwdRefIdeal.lean ====
abbrev S2x2048x256 : Shape := ⟨3, ![2, 2048, 256]⟩
abbrev S_ : Shape := ⟨0, ![]⟩
abbrev S2048 : Shape := ⟨1, ![2048]⟩
abbrev S2x8x256 : Shape := ⟨3, ![2, 8, 256]⟩
abbrev S2x2040x256 : Shape := ⟨3, ![2, 2040, 256]⟩
abbrev S1x2048x1 : Shape := ⟨3, ![1, 2048, 1]⟩
abbrev S4096x256 : Shape := ⟨2, ![4096, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x8x256, .f32⟩
  | .hbm, ⟨11, _⟩ => ⟨S2x2040x256, .f32⟩
  | .hbm, ⟨12, _⟩ => ⟨S2x2048x256, .f32⟩
  | .hbm, ⟨13, _⟩ => ⟨S_, .f32⟩
  | .hbm, ⟨14, _⟩ => ⟨S2x8x256, .f32⟩
  | .hbm, ⟨15, _⟩ => ⟨S2x2048x256, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048x1, .f32⟩
  | .hbm, ⟨20, _⟩ => ⟨S2x2048x256, .f32⟩
  | .hbm, ⟨21, _⟩ => ⟨S2x2048x256, .f32⟩
  | .hbm, ⟨22, _⟩ => ⟨S2x2048x256, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S2x8x256, .f32⟩
  | .hbm, ⟨29, _⟩ => ⟨S2x2040x256, .f32⟩
  | .hbm, ⟨30, _⟩ => ⟨S_, .f32⟩
  | .hbm, ⟨31, _⟩ => ⟨S2x2048x256, .f32⟩
  | .hbm, ⟨32, _⟩ => ⟨S2x2048x256, .f32⟩
  | .hbm, ⟨33, _⟩ => ⟨S_, .f32⟩
  | .hbm, ⟨34, _⟩ => ⟨S_, .f32⟩
  | .hbm, ⟨35, _⟩ => ⟨S2x2048x256, .f32⟩
  | .hbm, ⟨36, _⟩ => ⟨S2x2048x256, .f32⟩
  | .hbm, ⟨37, _⟩ => ⟨S4096x256, .f32⟩
  | .hbm, ⟨38, _⟩ => ⟨S4096x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_call1_call0_cst : Ref sig .tc := ⟨.hbm, 33, rfl⟩
abbrev main_call1_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Pool16Bwd.lean ====
abbrev S2x2048x256 : Shape := ⟨3, ![2, 2048, 256]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S4096x256, .f32⟩
  | .hbm, ⟨3, _⟩ => ⟨S4096x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool16BwdRefIdeal.lean ====
abbrev S2x2048x256 : Shape := ⟨3, ![2, 2048, 256]⟩
abbrev S_ : Shape := ⟨0, ![]⟩
abbrev S2048 : Shape := ⟨1, ![2048]⟩
abbrev S2x16x256 : Shape := ⟨3, ![2, 16, 256]⟩
abbrev S2x2032x256 : Shape := ⟨3, ![2, 2032, 256]⟩
abbrev S1x2048x1 : Shape := ⟨3, ![1, 2048, 1]⟩
abbrev S4096x256 : Shape := ⟨2, ![4096, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x16x256, .f32⟩
  | .hbm, ⟨11, _⟩ => ⟨S2x2032x256, .f32⟩
  | .hbm, ⟨12, _⟩ => ⟨S2x2048x256, .f32⟩
  | .hbm, ⟨13, _⟩ => ⟨S_, .f32⟩
  | .hbm, ⟨14, _⟩ => ⟨S2x16x256, .f32⟩
  | .hbm, ⟨15, _⟩ => ⟨S2x2048x256, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048x1, .f32⟩
  | .hbm, ⟨20, _⟩ => ⟨S2x2048x256, .f32⟩
  | .hbm, ⟨21, _⟩ => ⟨S2x2048x256, .f32⟩
  | .hbm, ⟨22, _⟩ => ⟨S2x2048x256, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S2x16x256, .f32⟩
  | .hbm, ⟨29, _⟩ => ⟨S2x2032x256, .f32⟩
  | .hbm, ⟨30, _⟩ => ⟨S_, .f32⟩
  | .hbm, ⟨31, _⟩ => ⟨S2x2048x256, .f32⟩
  | .hbm, ⟨32, _⟩ => ⟨S2x2048x256, .f32⟩
  | .hbm, ⟨33, _⟩ => ⟨S_, .f32⟩
  | .hbm, ⟨34, _⟩ => ⟨S_, .f32⟩
  | .hbm, ⟨35, _⟩ => ⟨S2x2048x256, .f32⟩
  | .hbm, ⟨36, _⟩ => ⟨S2x2048x256, .f32⟩
  | .hbm, ⟨37, _⟩ => ⟨S4096x256, .f32⟩
  | .hbm, ⟨38, _⟩ => ⟨S4096x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_call1_call0_cst : Ref sig .tc := ⟨.hbm, 33, rfl⟩
abbrev main_call1_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== GmlpFwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S1024x4x512 : Shape := ⟨3, ![1024, 4, 512]⟩
abbrev S4x1024x512 : Shape := ⟨3, ![4, 1024, 512]⟩
abbrev S4096x1024 : Shape := ⟨2, ![4096, 1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 71
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S128, .i32⟩
  | .hbm, ⟨8, _⟩ => ⟨S1x128, .i32⟩
  | .hbm, ⟨9, _⟩ => ⟨S_, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S1x128, .i32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x128x128, .bf16⟩
  | .hbm, ⟨57, _⟩ => ⟨S8x128x1, .f32⟩
  | .hbm, ⟨58, _⟩ => ⟨S8x128x128, .f32⟩
  | .hbm, ⟨59, _⟩ => ⟨S1024x4x512, .f32⟩
  | .hbm, ⟨60, _⟩ => ⟨S4x1024x512, .f32⟩
  | .hbm, ⟨61, _⟩ => ⟨S4x1024x512, .bf16⟩
  | .hbm, ⟨62, _⟩ => ⟨S4096x1024, .f32⟩
  | .hbm, ⟨63, _⟩ => ⟨S1x1024, .f32⟩
  | .hbm, ⟨64, _⟩ => ⟨S1x1024, .f32⟩
  | .hbm, ⟨65, _⟩ => ⟨S1024x1024, .bf16⟩
  | .hbm, ⟨66, _⟩ => ⟨S4096x1024, .bf16⟩
  | .hbm, ⟨67, _⟩ => ⟨S4096x2048, .bf16⟩
  | .hbm, ⟨68, _⟩ => ⟨S4096x1024, .bf16⟩
  | .hbm, ⟨69, _⟩ => ⟨S4096x1024, .bf16⟩
  | .hbm, ⟨70, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x1024, .f32⟩
  | .local _ .vmem, ⟨5, _⟩ => ⟨S8x128x128, .bf16⟩
  | .local _ .vmem, ⟨6, _⟩ => ⟨S8x128x128, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21_0 : Ref sig .tc := ⟨.hbm, 66, rfl⟩
abbrev main_v21_1 : Ref sig .tc := ⟨.hbm, 67, rfl⟩
abbrev main_v21_2 : Ref sig .tc := ⟨.hbm, 68, rfl⟩
abbrev main_v21_3 : Ref sig .tc := ⟨.hbm, 69, rfl⟩
abbrev main_v21_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GmlpFwdIdeal.lean ====
variable {F : FTy → Type} [FloatOps F] [Named F]
def κ : String → Option EReal := fun
  | "inv_sqrt2" => some (((Real.sqrt 2)⁻¹ : ℝ) : EReal)
  | _ => none
-- ==== GmlpFwdRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S2x16x128x8x128 : Shape := ⟨5, ![2, 16, 128, 8, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S4096x1024 : Shape := ⟨2, ![4096, 1024]⟩
abbrev S4096x2048 : Shape := ⟨2, ![4096, 2048]⟩

abbrev nBuf : Space → Nat
  | .hbm => 131
  | .vmem => 0
  | .smem => 0
  | _ => 0

abbrev hbmTy0_0 (i : Nat) : BufTy := match i % 128 with
  | 0 => ⟨S2x2048x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S1024x1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x2048, .f32⟩
  | 24 => ⟨S_, .f32⟩
  | 25 => ⟨S2x2048x2048, .f32⟩
  | 26 => ⟨S2x2048x2048, .f32⟩
  | 27 => ⟨S2x2048x2048, .f32⟩
  | 28 => ⟨S_, .f32⟩
  | 29 => ⟨S_, .f32⟩
  | 30 => ⟨S_, .f32⟩
  | 31 => ⟨S2x2048x2048, .f32⟩
  | 32 => ⟨S2x2048x2048, .f32⟩
  | 33 => ⟨S2x2048x2048, .f32⟩
  | 34 => ⟨S2x2048x2048, .f32⟩
  | 35 => ⟨S2x2048x1024, .f32⟩
  | 36 => ⟨S2x2048x1024, .f32⟩
  | 37 => ⟨S_, .f32⟩
  | 38 => ⟨S2x2048, .f32⟩
  | 39 => ⟨S2x2048x1, .f32⟩
  | 40 => ⟨S_, .f32⟩
  | 41 => ⟨S2x2048x1, .f32⟩
  | 42 => ⟨S2x2048x1, .f32⟩
  | 43 => ⟨S2x2048x1024, .f32⟩
  | 44 => ⟨S2x2048x1024, .f32⟩
  | 45 => ⟨S2x2048x1024, .f32⟩
  | 46 => ⟨S_, .f32⟩
  | 47 => ⟨S2x2048, .f32⟩
  | 48 => ⟨S2x2048x1, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S_, .f32⟩
  | 55 => ⟨S2x2048x1, .f32⟩
  | 56 => ⟨S2x2048x1, .f32⟩
  | 57 => ⟨S2x2048x1, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S128, .i32⟩
  | 64 => ⟨S1x128, .i32⟩
  | 65 => ⟨S_, .i32⟩
  | 66 => ⟨S_, .i32⟩
  | 67 => ⟨S1x128, .i32⟩
  | 68 => ⟨S1x128, .i32⟩
  | 69 => ⟨S1x128, .i32⟩
  | 70 => ⟨S_, .i32⟩
  | 71 => ⟨S1x128, .i32⟩
  | 72 => ⟨S1x128, .i1⟩
  | 73 => ⟨S1x128, .i32⟩
  | 74 => ⟨S1x128, .i32⟩
  | 75 => ⟨S_, .i32⟩
  | 76 => ⟨S1x128, .i32⟩
  | 77 => ⟨S1x128, .i1⟩
  | 78 => ⟨S1x128, .i1⟩
  | 79 => ⟨S_, .i32⟩
  | 80 => ⟨S1x128, .i32⟩
  | 81 => ⟨S1x128, .i32⟩
  | 82 => ⟨S1x128, .i32⟩
  | 83 => ⟨S128x1, .i32⟩
  | 84 => ⟨S_, .i32⟩
  | 85 => ⟨S_, .i32⟩
  | 86 => ⟨S128x1, .i32⟩
  | 87 => ⟨S128x1, .i32⟩
  | 88 => ⟨S128x1, .i32⟩
  | 89 => ⟨S_, .i32⟩
  | 90 => ⟨S128x1, .i32⟩
  | 91 => ⟨S128x1, .i1⟩
  | 92 => ⟨S128x1, .i32⟩
  | 93 => ⟨S128x1, .i32⟩
  | 94 => ⟨S_, .i32⟩
  | 95 => ⟨S128x1, .i32⟩
  | 96 => ⟨S128x1, .i1⟩
  | 97 => ⟨S128x1, .i1⟩
  | 98 => ⟨S_, .i32⟩
  | 99 => ⟨S128x1, .i32⟩
  | 100 => ⟨S128x1, .i32⟩
  | 101 => ⟨S128x1, .i32⟩
  | 102 => ⟨S128x128, .i32⟩
  | 103 => ⟨S128x128, .i32⟩
  | 104 => ⟨S128x128, .i1⟩
  | 105 => ⟨S1x128x128, .i1⟩
  | 106 => ⟨S_, .i32⟩
  | 107 => ⟨S_, .f32⟩
  | 108 => ⟨S8x128x128, .i1⟩
  | 109 => ⟨S8x128x128, .f32⟩
  | 110 => ⟨S8x128x128, .f32⟩
  | 111 => ⟨S2x16x128x8x128, .f32⟩
  | 112 => ⟨S8x2x16x128x128, .f32⟩
  | 113 => ⟨S2x16x128x8x128, .f32⟩
  | 114 => ⟨S128x8, .f32⟩
  | 115 => ⟨S1x1x128x8x1, .f32⟩
  | 116 => ⟨S2x16x128x8x128, .f32⟩
  | 117 => ⟨S2x16x128x8x128, .f32⟩
  | 118 => ⟨S2x2048x1024, .f32⟩
  | 119 => ⟨S2x2048x1024, .f32⟩
  | 120 => ⟨S4096x1024, .f32⟩
  | 121 => ⟨S4096x1024, .bf16⟩
  | 122 => ⟨S4096x2048, .f32⟩
  | 123 => ⟨S4096x2048, .bf16⟩
  | 124 => ⟨S4096x1024, .f32⟩
  | 125 => ⟨S4096x1024, .bf16⟩
  | 126 => ⟨S4096x1024, .f32⟩
  | 127 => ⟨S4096x1024, .bf16⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S4096x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_c : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_0 : Ref sig .tc := ⟨.hbm, 79, rfl⟩
abbrev main_call0_v12 : Ref sig .tc := ⟨.hbm, 80, rfl⟩
abbrev main_call0_v13 : Ref sig .tc := ⟨.hbm, 81, rfl⟩
abbrev main_v48 : Ref sig .tc := ⟨.hbm, 82, rfl⟩
abbrev main_v49 : Ref sig .tc := ⟨.hbm, 83, rfl⟩
abbrev main_c_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_10 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩

abbrev nD : Nat := 1
abbrev τ : Topo := Topo.v7x

variable {F : FTy → Type} [FloatOps F]
-- ==== FfnFwd.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .bf16⟩
  | .hbm, ⟨13, _⟩ => ⟨S4096x2816, .bf16⟩
  | .hbm, ⟨14, _⟩ => ⟨S4096x2816, .bf16⟩
  | .hbm, ⟨15, _⟩ => ⟨S4096x2816, .bf16⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | .local _ .vmem, ⟨15, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S4096x1024, .f32⟩
  | .hbm, ⟨43, _⟩ => ⟨S4096x1024, .bf16⟩
  | .hbm, ⟨44, _⟩ => ⟨S2x2048x2816, .f32⟩
  | .hbm, ⟨45, _⟩ => ⟨S4096x2816, .f32⟩
  | .hbm, ⟨46, _⟩ => ⟨S4096x2816, .bf16⟩
  | .hbm, ⟨47, _⟩ => ⟨S4096x2816, .f32⟩
  | .hbm, ⟨48, _⟩ => ⟨S4096x2816, .bf16⟩
  | .hbm, ⟨49, _⟩ => ⟨S2x2048x2816, .f32⟩
  | .hbm, ⟨50, _⟩ => ⟨S4096x2816, .f32⟩
  | .hbm, ⟨51, _⟩ => ⟨S4096x2816, .bf16⟩
  | .hbm, ⟨52, _⟩ => ⟨S2x2048x2816, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_cst_2 : Ref sig .tc := ⟨.hbm, 36, rfl⟩
abbrev main_v16 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== ConvFwd.lean ====
abbrev S2x2048x3072 : Shape := ⟨3, ![2, 2048, 3072]⟩
abbrev S3x1024 : Shape := ⟨2, ![3, 1024]⟩
abbrev S4096x3072 : Shape := ⟨2, ![4096, 3072]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S3x2048x256 : Shape := ⟨3, ![3, 2048, 256]⟩
abbrev S3x256 : Shape := ⟨2, ![3, 256]⟩
abbrev S2048x256 : Shape := ⟨2, ![2048, 256]⟩
abbrev S1x2048x256 : Shape := ⟨3, ![1, 2048, 256]⟩
abbrev S1x256 : Shape := ⟨2, ![1, 256]⟩

abbrev nBuf : Space → Nat
  | .hbm => 12
  | .vmem => 6
  | .smem => 0
  | _ => 0

abbrev bufTy : (tb : Table) → Fin (tcTables nBuf tb) → BufTy
  | .hbm, ⟨0, _⟩ => ⟨S2x2048x3072, .f32⟩
  | .hbm, ⟨1, _⟩ => ⟨S3x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S3x4096x1024, .f32⟩
  | .hbm, ⟨10, _⟩ => ⟨S3x4096x1024, .bf16⟩
  | .hbm, ⟨11, _⟩ => ⟨S4096x1024, .bf16⟩
  | .local _ .vmem, ⟨0, _⟩ => ⟨S3x2048x256, .bf16⟩
  | .local _ .vmem, ⟨1, _⟩ => ⟨S3x2048x256, .bf16⟩
  | .local _ .vmem, ⟨2, _⟩ => ⟨S3x256, .f32⟩
  | .local _ .vmem, ⟨3, _⟩ => ⟨S3x256, .f32⟩
  | .local _ .vmem, ⟨4, _⟩ => ⟨S2048x256, .bf16⟩
  | .local _ .vmem, ⟨5, _⟩ => ⟨S2048x256, .bf16⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdRefIdeal.lean ====
abbrev S2x2048x3072 : Shape := ⟨3, ![2, 2048, 3072]⟩
abbrev S3x1024 : Shape := ⟨2, ![3, 1024]⟩
abbrev S2x2048x1024 : Shape := ⟨3, ![2, 2048, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S3x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x2x1024, .f32⟩
  | .hbm, ⟨7, _⟩ => ⟨S2x2048x1024, .f32⟩
  | .hbm, ⟨8, _⟩ => ⟨S2x2050x1024, .f32⟩
  | .hbm, ⟨9, _⟩ => ⟨S1x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S1x1024, .f32⟩
  | .hbm, ⟨16, _⟩ => ⟨S1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S1x1024, .f32⟩
  | .hbm, ⟨23, _⟩ => ⟨S1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S4096x1024, .f32⟩
  | .hbm, ⟨31, _⟩ => ⟨S4096x1024, .bf16⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== BInFwd.lean ====
abbrev S2x2048x1024 : Shape := ⟨3, ![2, 2048, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x1024 : Shape := ⟨2, ![4096, 1024]⟩
abbrev S1x1024 : Shape := ⟨2, ![1, 1024]⟩
abbrev S3x4096x1024 : Shape := ⟨3, ![3, 4096, 1024]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S512x256 : Shape := ⟨2, ![512, 256]⟩
abbrev S1x512x256 : Shape := ⟨3, ![1, 512, 256]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S1024x4x768, .f32⟩
  | .hbm, ⟨4, _⟩ => ⟨S4x1024x768, .f32⟩
  | .hbm, ⟨5, _⟩ => ⟨S4x1024x768, .bf16⟩
  | .hbm, ⟨6, _⟩ => ⟨S4096x1024, .f32⟩
  | .hbm, ⟨7, _⟩ => ⟨S1x1024, .f32⟩
  | .hbm, ⟨8, _⟩ => ⟨S4096x1024, .bf16⟩
  | .hbm, ⟨9, _⟩ => ⟨S3x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S3x512x1024, .bf16⟩
  | .local _ .vmem, ⟨7, _⟩ => ⟨S3x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BInFwdRefIdeal.lean ====
abbrev S2x2048x1024 : Shape := ⟨3, ![2, 2048, 1024]⟩
abbrev S1024 : Shape := ⟨1, ![1024]⟩
abbrev S1024x3072 : Shape := ⟨2, ![1024, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S2x2048x3072 : Shape := ⟨3, ![2, 2048, 3072]⟩
abbrev S4096x3072 : Shape := ⟨2, ![4096, 3072]⟩
abbrev S1x4096x1024 : Shape := ⟨3, ![1, 4096, 1024]⟩
abbrev S3x4096x1024 : Shape := ⟨3, ![3, 4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | .hbm, ⟨21, _⟩ => ⟨S2x2048x3072, .f32⟩
  | .hbm, ⟨22, _⟩ => ⟨S4096x3072, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S3x4096x1024, .f32⟩
  | .hbm, ⟨30, _⟩ => ⟨S3x4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== COutFwd.lean ====
abbrev S2x2048x4x256 : Shape := ⟨4, ![2, 2048, 4, 256]⟩
abbrev S4x256x256 : Shape := ⟨3, ![4, 256, 256]⟩
abbrev S1024 : Shape := ⟨1, ![1024]⟩
abbrev S1024x1024 : Shape := ⟨2, ![1024, 1024]⟩
abbrev S2x2048x1024 : Shape := ⟨3, ![2, 2048, 1024]⟩
abbrev S4096x4x256 : Shape := ⟨3, ![4096, 4, 256]⟩
abbrev S4096x1x256 : Shape := ⟨3, ![4096, 1, 256]⟩
abbrev S4096x256 : Shape := ⟨2, ![4096, 256]⟩
abbrev S1x1024 : Shape := ⟨2, ![1, 1024]⟩
abbrev S4096x1024 : Shape := ⟨2, ![4096, 1024]⟩
abbrev S512x256 : Shape := ⟨2, ![512, 256]⟩
abbrev S512x1024 : Shape := ⟨2, ![512, 1024]⟩
abbrev S1x256x256 : Shape := ⟨3, ![1, 256, 256]⟩
abbrev S256x256 : Shape := ⟨2, ![256, 256]⟩

abbrev nBuf : Space → Nat
  | .hbm => 27
  | .vmem => 17
  | .smem => 0
  | _ => 0

abbrev bufTy : (tb : Table) → Fin (tcTables nBuf tb) → BufTy
  | .hbm, ⟨0, _⟩ => ⟨S2x2048x4x256, .f32⟩
  | .hbm, ⟨1, _⟩ => ⟨S4x256x256, .f32⟩
  | .hbm, ⟨2, _⟩ => ⟨S1024, .f32⟩
  | .hbm, ⟨3, _⟩ => ⟨S1024x1024, .f32⟩
  | .hbm, ⟨4, _⟩ => ⟨S2x2048x1024, .f32⟩
  | .hbm, ⟨5, _⟩ => ⟨S4096x4x256, .f32⟩
  | .hbm, ⟨6, _⟩ => ⟨S4096x1x256, .f32⟩
  | .hbm, ⟨7, _⟩ => ⟨S4096x256, .f32⟩
  | .hbm, ⟨8, _⟩ => ⟨S4096x256, .bf16⟩
  | .hbm, ⟨9, _⟩ => ⟨S4096x4x256, .f32⟩
  | .hbm, ⟨10, _⟩ => ⟨S4096x1x256, .f32⟩
  | .hbm, ⟨11, _⟩ => ⟨S4096x256, .f32⟩
  | .hbm, ⟨12, _⟩ => ⟨S4096x256, .bf16⟩
  | .hbm, ⟨13, _⟩ => ⟨S4096x4x256, .f32⟩
  | .hbm, ⟨14, _⟩ => ⟨S4096x1x256, .f32⟩
  | .hbm, ⟨15, _⟩ => ⟨S4096x256, .f32⟩
  | .hbm, ⟨16, _⟩ => ⟨S4096x256, .bf16⟩
  | .hbm, ⟨17, _⟩ => ⟨S4096x4x256, .f32⟩
  | .hbm, ⟨18, _⟩ => ⟨S4096x1x256, .f32⟩
  | .hbm, ⟨19, _⟩ => ⟨S4096x256, .f32⟩
  | .hbm, ⟨20, _⟩ => ⟨S4096x256, .bf16⟩
  | .hbm, ⟨21, _⟩ => ⟨S4x256x256, .bf16⟩
  | .hbm, ⟨22, _⟩ => ⟨S1x1024, .f32⟩
  | .hbm, ⟨23, _⟩ => ⟨S1024x1024, .bf16⟩
  | .hbm, ⟨24, _⟩ => ⟨S4096x1024, .f32⟩
  | .hbm, ⟨25, _⟩ => ⟨S4096x1024, .bf16⟩
  | .hbm, ⟨26, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S2x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== COutFwdRefIdeal.lean ====
abbrev S2x2048x4x256 : Shape := ⟨4, ![2, 2048, 4, 256]⟩
abbrev S4x256x256 : Shape := ⟨3, ![4, 256, 256]⟩
abbrev S1024 : Shape := ⟨1, ![1024]⟩
abbrev S1024x1024 : Shape := ⟨2, ![1024, 1024]⟩
abbrev S2x2048x1024 : Shape := ⟨3, ![2, 2048, 1024]⟩
abbrev S4x256x2x2048 : Shape := ⟨4, ![4, 256, 2, 2048]⟩
abbrev S1x1x1024 : Shape := ⟨3, ![1, 1, 1024]⟩
abbrev S4096x1024 : Shape := ⟨2, ![4096, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x4x256, .f32⟩
  | .hbm, ⟨1, _⟩ => ⟨S4x256x256, .f32⟩
  | .hbm, ⟨2, _⟩ => ⟨S1024, .f32⟩
  | .hbm, ⟨3, _⟩ => ⟨S1024x1024, .f32⟩
  | .hbm, ⟨4, _⟩ => ⟨S2x2048x1024, .f32⟩
  | .hbm, ⟨5, _⟩ => ⟨S4x256x2x2048, .f32⟩
  | .hbm, ⟨6, _⟩ => ⟨S2x2048x4x256, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S4096x1024, .f32⟩
  | .hbm, ⟨12, _⟩ => ⟨S4096x1024, .bf16⟩
  | .hbm, ⟨13, _⟩ => ⟨S2x2048x1024, .f32⟩
  | .hbm, ⟨14, _⟩ => ⟨S2x2048x1024, .f32⟩
  | .hbm, ⟨15, _⟩ => ⟨S4096x1024, .f32⟩
  | _, _ => ⟨S2x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== CInFwd.lean ====
abbrev S2x2048x1024 : Shape := ⟨3, ![2, 2048, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1x4096x1024 : Shape := ⟨3, ![1, 4096, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S1x1024x1024, .bf16⟩
  | .hbm, ⟨7, _⟩ => ⟨S4096x1024, .bf16⟩
  | .hbm, ⟨8, _⟩ => ⟨S1x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CInFwdRefIdeal.lean ====
abbrev S2x2048x1024 : Shape := ⟨3, ![2, 2048, 1024]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x4096x1024 : Shape := ⟨3, ![1, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | .hbm, ⟨21, _⟩ => ⟨S2x2048x1024, .f32⟩
  | .hbm, ⟨22, _⟩ => ⟨S1x4096x1024, .f32⟩
  | .hbm, ⟨23, _⟩ => ⟨S1x4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Pool2Fwd.lean ====
abbrev S2x2048x1024 : Shape := ⟨3, ![2, 2048, 1024]⟩
abbrev S4096x1024 : Shape := ⟨2, ![4096, 1024]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x1024, .bf16⟩
  | .hbm, ⟨3, _⟩ => ⟨S4096x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool2FwdRefIdeal.lean ====
abbrev S2x2048x1024 : Shape := ⟨3, ![2, 2048, 1024]⟩
abbrev S2x2048x256 : Shape := ⟨3, ![2, 2048, 256]⟩
abbrev S_ : Shape := ⟨0, ![]⟩
abbrev S2048 : Shape := ⟨1, ![2048]⟩
abbrev S2x2x256 : Shape := ⟨3, ![2, 2, 256]⟩
abbrev S2x2046x256 : Shape := ⟨3, ![2, 2046, 256]⟩
abbrev S1x2048x1 : Shape := ⟨3, ![1, 2048, 1]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x2x256, .f32⟩
  | .hbm, ⟨11, _⟩ => ⟨S2x2046x256, .f32⟩
  | .hbm, ⟨12, _⟩ => ⟨S2x2048x256, .f32⟩
  | .hbm, ⟨13, _⟩ => ⟨S2x2048x256, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048x1, .f32⟩
  | .hbm, ⟨18, _⟩ => ⟨S2x2048x256, .f32⟩
  | .hbm, ⟨19, _⟩ => ⟨S2x2048x256, .f32⟩
  | .hbm, ⟨20, _⟩ => ⟨S2x2048x256, .f32⟩
  | .hbm, ⟨21, _⟩ => ⟨S4096x256, .f32⟩
  | .hbm, ⟨22, _⟩ => ⟨S4096x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Pool4Fwd.lean ====
abbrev S2x2048x1024 : Shape := ⟨3, ![2, 2048, 1024]⟩
abbrev S4096x1024 : Shape := ⟨2, ![4096, 1024]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x1024, .bf16⟩
  | .hbm, ⟨3, _⟩ => ⟨S4096x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool4FwdRefIdeal.lean ====
abbrev S2x2048x1024 : Shape := ⟨3, ![2, 2048, 1024]⟩
abbrev S2x2048x256 : Shape := ⟨3, ![2, 2048, 256]⟩
abbrev S_ : Shape := ⟨0, ![]⟩
abbrev S2048 : Shape := ⟨1, ![2048]⟩
abbrev S2x4x256 : Shape := ⟨3, ![2, 4, 256]⟩
abbrev S2x2044x256 : Shape := ⟨3, ![2, 2044, 256]⟩
abbrev S1x2048x1 : Shape := ⟨3, ![1, 2048, 1]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x4x256, .f32⟩
  | .hbm, ⟨11, _⟩ => ⟨S2x2044x256, .f32⟩
  | .hbm, ⟨12, _⟩ => ⟨S2x2048x256, .f32⟩
  | .hbm, ⟨13, _⟩ => ⟨S2x2048x256, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048x1, .f32⟩
  | .hbm, ⟨18, _⟩ => ⟨S2x2048x256, .f32⟩
  | .hbm, ⟨19, _⟩ => ⟨S2x2048x256, .f32⟩
  | .hbm, ⟨20, _⟩ => ⟨S2x2048x256, .f32⟩
  | .hbm, ⟨21, _⟩ => ⟨S4096x256, .f32⟩
  | .hbm, ⟨22, _⟩ => ⟨S4096x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Pool8Fwd.lean ====
abbrev S2x2048x1024 : Shape := ⟨3, ![2, 2048, 1024]⟩
abbrev S4096x1024 : Shape := ⟨2, ![4096, 1024]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x1024, .bf16⟩
  | .hbm, ⟨3, _⟩ => ⟨S4096x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool8FwdRefIdeal.lean ====
abbrev S2x2048x1024 : Shape := ⟨3, ![2, 2048, 1024]⟩
abbrev S2x2048x256 : Shape := ⟨3, ![2, 2048, 256]⟩
abbrev S_ : Shape := ⟨0, ![]⟩
abbrev S2048 : Shape := ⟨1, ![2048]⟩
abbrev S2x8x256 : Shape := ⟨3, ![2, 8, 256]⟩
abbrev S2x2040x256 : Shape := ⟨3, ![2, 2040, 256]⟩
abbrev S1x2048x1 : Shape := ⟨3, ![1, 2048, 1]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x8x256, .f32⟩
  | .hbm, ⟨11, _⟩ => ⟨S2x2040x256, .f32⟩
  | .hbm, ⟨12, _⟩ => ⟨S2x2048x256, .f32⟩
  | .hbm, ⟨13, _⟩ => ⟨S2x2048x256, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048x1, .f32⟩
  | .hbm, ⟨18, _⟩ => ⟨S2x2048x256, .f32⟩
  | .hbm, ⟨19, _⟩ => ⟨S2x2048x256, .f32⟩
  | .hbm, ⟨20, _⟩ => ⟨S2x2048x256, .f32⟩
  | .hbm, ⟨21, _⟩ => ⟨S4096x256, .f32⟩
  | .hbm, ⟨22, _⟩ => ⟨S4096x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Pool16Fwd.lean ====
abbrev S2x2048x1024 : Shape := ⟨3, ![2, 2048, 1024]⟩
abbrev S4096x1024 : Shape := ⟨2, ![4096, 1024]⟩
abbrev S4096x256 : Shape := ⟨2, ![4096, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x1024, .bf16⟩
  | .hbm, ⟨3, _⟩ => ⟨S4096x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pool16FwdRefIdeal.lean ====
abbrev S2x2048x1024 : Shape := ⟨3, ![2, 2048, 1024]⟩
abbrev S2x2048x256 : Shape := ⟨3, ![2, 2048, 256]⟩
abbrev S_ : Shape := ⟨0, ![]⟩
abbrev S2048 : Shape := ⟨1, ![2048]⟩
abbrev S2x16x256 : Shape := ⟨3, ![2, 16, 256]⟩
abbrev S2x2032x256 : Shape := ⟨3, ![2, 2032, 256]⟩
abbrev S1x2048x1 : Shape := ⟨3, ![1, 2048, 1]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S_, .f32⟩
  | .hbm, ⟨3, _⟩ => ⟨S_, .f32⟩
  | .hbm, ⟨4, _⟩ => ⟨S2x2048x256, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2x16x256, .f32⟩
  | .hbm, ⟨11, _⟩ => ⟨S2x2032x256, .f32⟩
  | .hbm, ⟨12, _⟩ => ⟨S2x2048x256, .f32⟩
  | .hbm, ⟨13, _⟩ => ⟨S2x2048x256, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048x1, .f32⟩
  | .hbm, ⟨18, _⟩ => ⟨S2x2048x256, .f32⟩
  | .hbm, ⟨19, _⟩ => ⟨S2x2048x256, .f32⟩
  | .hbm, ⟨20, _⟩ => ⟨S2x2048x256, .f32⟩
  | .hbm, ⟨21, _⟩ => ⟨S4096x256, .f32⟩
  | .hbm, ⟨22, _⟩ => ⟨S4096x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S2x2048x1024 : Shape := ⟨3, ![2, 2048, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutGrad.lean ====
abbrev S2x2048x1024 : Shape := ⟨3, ![2, 2048, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S1024x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutGradRefIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownGrad.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S4096x2816 : Shape := ⟨2, ![4096, 2816]⟩
abbrev S1x4096x2816 : Shape := ⟨3, ![1, 4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S1x4096x1408 : Shape := ⟨3, ![1, 4096, 1408]⟩
abbrev S1x4096x512 : Shape := ⟨3, ![1, 4096, 512]⟩
abbrev S1x1408x512 : Shape := ⟨3, ![1, 1408, 512]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S4096x2816, .f32⟩
  | .hbm, ⟨4, _⟩ => ⟨S4096x2816, .bf16⟩
  | .hbm, ⟨5, _⟩ => ⟨S1x4096x2816, .bf16⟩
  | .hbm, ⟨6, _⟩ => ⟨S4096x1024, .f32⟩
  | .hbm, ⟨7, _⟩ => ⟨S1x4096x1024, .f32⟩
  | .hbm, ⟨8, _⟩ => ⟨S1x2816x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S1x4096x512, .f32⟩
  | .local _ .vmem, ⟨3, _⟩ => ⟨S1x4096x512, .f32⟩
  | .local _ .vmem, ⟨4, _⟩ => ⟨S1x1408x512, .bf16⟩
  | .local _ .vmem, ⟨5, _⟩ => ⟨S1x1408x512, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi arg0 c2_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi arg0 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c0_i32_11 : BitVec 32 := 0#32
  let c0_i32_12 : BitVec 32 := 0#32
  let c0_i32_13 : BitVec 32 := 0#32
  ![c0_i32_11.toNat, c0_i32_12.toNat, v33.toNat]

def cc0_transform_1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let c0_i32_10 : BitVec 32 := 0#32
  let c0_i32_11 : BitVec 32 := 0#32
  ![c0_i32_9.toNat, c0_i32_10.toNat, v19.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownGradRefIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024x2816 : Shape := ⟨2, ![1024, 2816]⟩
abbrev S1x2816x1024 : Shape := ⟨3, ![1, 2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x2048x1024, .f32⟩
  | .hbm, ⟨4, _⟩ => ⟨S1024x2816, .f32⟩
  | .hbm, ⟨5, _⟩ => ⟨S2816x1024, .f32⟩
  | .hbm, ⟨6, _⟩ => ⟨S1x2816x1024, .f32⟩
  | .hbm, ⟨7, _⟩ => ⟨S1x2816x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamW.lean ====
abbrev S2x8x128x128 : Shape := ⟨4, ![2, 8, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2x8x128x128 : Shape := ⟨4, ![2, 8, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S_, .f32⟩
  | .hbm, ⟨5, _⟩ => ⟨S2x8x128x128, .f32⟩
  | .hbm, ⟨6, _⟩ => ⟨S2x8x128x128, .f32⟩
  | .hbm, ⟨7, _⟩ => ⟨S_, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .f32⟩
  | .hbm, ⟨15, _⟩ => ⟨S_, .f32⟩
  | .hbm, ⟨16, _⟩ => ⟨S2x8x128x128, .f32⟩
  | .hbm, ⟨17, _⟩ => ⟨S2x8x128x128, .f32⟩
  | .hbm, ⟨18, _⟩ => ⟨S2x8x128x128, .f32⟩
  | .hbm, ⟨19, _⟩ => ⟨S_, .f32⟩
  | .hbm, ⟨20, _⟩ => ⟨S2x8x128x128, .f32⟩
  | .hbm, ⟨21, _⟩ => ⟨S2x8x128x128, .f32⟩
  | .hbm, ⟨22, _⟩ => ⟨S_, .f32⟩
  | .hbm, ⟨23, _⟩ => ⟨S2x8x128x128, .f32⟩
  | .hbm, ⟨24, _⟩ => ⟨S2x8x128x128, .f32⟩
  | .hbm, ⟨25, _⟩ => ⟨S2x8x128x128, .f32⟩
  | .hbm, ⟨26, _⟩ => ⟨S_, .f32⟩
  | .hbm, ⟨27, _⟩ => ⟨S2x8x128x128, .f32⟩
  | .hbm, ⟨28, _⟩ => ⟨S2x8x128x128, .f32⟩
  | .hbm, ⟨29, _⟩ => ⟨S2x8x128x128, .f32⟩
  | .hbm, ⟨30, _⟩ => ⟨S_, .f32⟩
  | .hbm, ⟨31, _⟩ => ⟨S2x8x128x128, .f32⟩
  | .hbm, ⟨32, _⟩ => ⟨S2x8x128x128, .f32⟩
  | .hbm, ⟨33, _⟩ => ⟨S2x8x128x128, .f32⟩
  | .hbm, ⟨34, _⟩ => ⟨S_, .f32⟩
  | .hbm, ⟨35, _⟩ => ⟨S2x8x128x128, .f32⟩
  | .hbm, ⟨36, _⟩ => ⟨S2x8x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Swap.lean ====
abbrev S352x1024 : Shape := ⟨2, ![352, 1024]⟩
abbrev S3 : Shape := ⟨1, ![3]⟩
abbrev S_ : Shape := ⟨0, ![]⟩
abbrev S1 : Shape := ⟨1, ![1]⟩

abbrev nBuf : Table → Nat
  | .hbm => 6
  | _ => 0

abbrev bufTy : (tb : Table) → Fin (nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  (ofTables nBuf rfl bufTy 5 6 bufScoped semScoped dmaSemScoped tileCredit tileCredit_eq_zero tileCredit_pos).withBarriers [(2, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_arg0_scs : Ref sig .scScalar := ⟨.hbm, 0, rfl⟩
abbrev main_arg1_scs : Ref sig .scScalar := ⟨.hbm, 1, rfl⟩
abbrev main_arg2_scs : Ref sig .scScalar := ⟨.hbm, 2, rfl⟩
abbrev main_v1_0_scs : Ref sig .scScalar := ⟨.hbm, 3, rfl⟩
abbrev main_v1_1_scs : Ref sig .scScalar := ⟨.hbm, 4, rfl⟩
abbrev main_v1_2_scs : Ref sig .scScalar := ⟨.hbm, 5, rfl⟩
abbrev sc_start : Sem sig := 0
abbrev sc_done : Sem sig := 1
abbrev sc_go : Sem sig := 2
abbrev sc_taskDone : Sem sig := 3
abbrev barrier2 : Sem sig := 4

abbrev nD : Nat := 2
abbrev τ : Topo := Topo.v7x

variable {F : FTy → Type} [FloatOps F]

abbrev grid0 : Pipeline.Grid := ⟨1, ![1], ![false]⟩

def k0_dev1 (d1 : Dev nD) : Nat :=
  let c0_i32 : BitVec 32 := 0#32
  let c1_i32_0 : BitVec 32 := 1#32
  let v1 : BitVec 32 := Dev.word d1
  let c1_i32 : BitVec 32 := 1#32
  let v2 : BitVec 32 := Scalar.divsi v1 c1_i32
  let c2_i32 : BitVec 32 := 2#32
  let v3 : BitVec 32 := Scalar.remsi v2 c2_i32
  let v4 : BitVec 32 := Scalar.subi c1_i32_0 v3
  let c1_i32_2 : BitVec 32 := 1#32
  let v5 : BitVec 32 := Scalar.muli v4 c1_i32_2
  let v6 : BitVec 32 := Scalar.addi c0_i32 v5
  v6.toNat
def k0_dev2 (d1 : Dev nD) : Nat :=
  let c0_i32_10 : BitVec 32 := 0#32
  let c1_i32_6 : BitVec 32 := 1#32
  let v7 : BitVec 32 := Dev.word d1
  let c1_i32_5 : BitVec 32 := 1#32
  let v8 : BitVec 32 := Scalar.divsi v7 c1_i32_5
  let c2_i32_4 : BitVec 32 := 2#32
  let v9 : BitVec 32 := Scalar.remsi v8 c2_i32_4
  let v10 : BitVec 32 := Scalar.subi c1_i32_6 v9
  let c1_i32_9 : BitVec 32 := 1#32
  let v11 : BitVec 32 := Scalar.muli v10 c1_i32_9
  let v12 : BitVec 32 := Scalar.addi c0_i32_10 v11
  v12.toNat
def k0_dev3 (d1 : Dev nD) : Nat :=
  let c0_i32_15 : BitVec 32 := 0#32
  let c1_i32_11 : BitVec 32 := 1#32
  let v7 : BitVec 32 := Dev.word d1
  let c1_i32_5 : BitVec 32 := 1#32
  let v8 : BitVec 32 := Scalar.divsi v7 c1_i32_5
  let c2_i32_4 : BitVec 32 := 2#32
  let v9 : BitVec 32 := Scalar.remsi v8 c2_i32_4
  let v17 : BitVec 32 := Scalar.subi c1_i32_11 v9
  let c1_i32_14 : BitVec 32 := 1#32
  let v18 : BitVec 32 := Scalar.muli v17 c1_i32_14
  let v19 : BitVec 32 := Scalar.addi c0_i32_15 v18
  v19.toNat
def k0_dev4 (d1 : Dev nD) : Nat :=
  let c0_i32_20 : BitVec 32 := 0#32
  let c1_i32_16 : BitVec 32 := 1#32
  let v7 : BitVec 32 := Dev.word d1
  let c1_i32_5 : BitVec 32 := 1#32
  let v8 : BitVec 32 := Scalar.divsi v7 c1_i32_5
  let c2_i32_4 : BitVec 32 := 2#32
  let v9 : BitVec 32 := Scalar.remsi v8 c2_i32_4
  let v24 : BitVec 32 := Scalar.subi c1_i32_16 v9
  let c1_i32_19 : BitVec 32 := 1#32
  let v25 : BitVec 32 := Scalar.muli v24 c1_i32_19
  let v26 : BitVec 32 := Scalar.addi c0_i32_20 v25
  v26.toNat
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== SwapRefIdeal.lean ====
abbrev S704x1024 : Shape := ⟨2, ![704, 1024]⟩
abbrev S352x1024 : Shape := ⟨2, ![352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S352x1024, .f32⟩
  | .hbm, ⟨4, _⟩ => ⟨S352x1024, .f32⟩
  | .hbm, ⟨5, _⟩ => ⟨S704x1024, .f32⟩
  | .hbm, ⟨6, _⟩ => ⟨S352x1024, .f32⟩
  | .hbm, ⟨7, _⟩ => ⟨S352x1024, .f32⟩
  | .hbm, ⟨8, _⟩ => ⟨S704x1024, .f32⟩
  | .hbm, ⟨9, _⟩ => ⟨S352x1024, .f32⟩
  | .hbm, ⟨10, _⟩ => ⟨S352x1024, .f32⟩
  | .hbm, ⟨11, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Common.lean ====
module
public import Idealize.ShloMosaic.Lib.Pipeline.ValueKit
public import Idealize.ShloMosaic.Lib.Pointwise
public import Idealize.ShloMosaic.Lib.Affine
public import Mathlib.Tactic.SplitIfs
public import Mathlib.Tactic.Ring
public import Mathlib.Tactic.FinCases

/-! Facts about sums of extended reals that several of the gradients use. -/

@[expose] public section

set_option maxRecDepth 16384

noncomputable section

open Idealize.ShloMosaic Idealize.ShloMosaic.TcCoe Idealize.SL.Sem

namespace Cert.Common

/-- The host's sum over the first two of three axes, at an index of the third. -/
theorem hostReduceAdd_lead2 {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  unfold Ideal.hostReduceAdd
  refine congrArg (init + ·) ?_
  have key : ∀ i, h.drop i = j ↔ ∃ k : Fin n0 × Fin n1, ix3 k.1 k.2 (j 0) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  rw [Finset.sum_filter_eq_sum_of_fiber _ _ (fun _ _ e => Prod.ext (congrFun e 0) (congrFun e 1)) key v, Fintype.sum_prod_type]
  rfl

/-- The example that a row of the flattened frames belongs to. -/
def ep (r : Fin 4096) : Fin 2 := ⟨r.val / 2048, by omega⟩

/-- The frame, within its example, that a row of the flattened frames holds. -/
def fr (r : Fin 4096) : Fin 2048 := ⟨r.val % 2048, by omega⟩

/-- The row that the `q`-th row of the `t`-th tile of 512 rows is. -/
def row (t : ℕ) (ht : t < 8) (q : Fin 512) : Fin 4096 := ⟨512 * t + q.val, by omega⟩

/-- A sum over the examples and their frames is a sum over the flattened frames. -/
theorem sum_frames (f : Fin 2 → Fin 2048 → EReal) : ∑ e : Fin 2, ∑ s : Fin 2048, f e s = ∑ r : Fin 4096, f (ep r) (fr r) :=
  (Fin.sum_divmod_congr fun _ _ _ => rfl).symm

/-- A sum over the tiles of 512 rows and their rows is a sum over the flattened frames. -/
theorem sum_tiles (f : Fin 4096 → EReal) : ∑ t : Fin 8, ∑ q : Fin 512, f (row t.val t.isLt q) = ∑ r : Fin 4096, f r :=
  Fin.sum_mul_add_congr fun t q h => congrArg f (Fin.ext (by simp only [row]; omega))

/-- The eight points together fill an accumulator's row `0`, and leave zero in the others. -/
theorem sum_row (f : Fin 4096 → EReal) (i : ℕ) :
    ∑ t : Fin 8, (if i = 0 then ∑ q : Fin 512, f (row t.val t.isLt q) else 0) = if i = 0 then ∑ r, f r else 0 := by
  by_cases h : i = 0
  · simp only [if_pos h]
    exact sum_tiles f
  · simp only [if_neg h, Finset.sum_const_zero]

/-- A sum of three terms, read from the other end. -/
theorem add_reverse (a b c : EReal) : a + b + c = c + b + a := by
  rw [add_comm (a + b), add_comm a b, add_assoc]

/-- A small natural number as a signed word reads back as itself. -/
theorem toInt_small (n : ℕ) (hn : n < 2 ^ 31) : (BitVec.ofNat 32 n).toInt = n := by
  rw [BitVec.toInt_eq_toNat_of_lt (by simp; omega)]
  simp; omega

/-- Selecting by a signed comparison of two small numbers. -/
theorem select_slt {α : Type} (s n : ℕ) (hs : s < 2 ^ 31) (hn : n < 2 ^ 31) (a b : α) :
    Scalar.select (IntOp.cmpi .slt (BitVec.ofNat 32 s) (BitVec.ofNat 32 n)) a b = if s < n then a else b := by
  unfold Scalar.select
  split_ifs with h h' h'
  · rfl
  · exact absurd (IntOp.cmpi_slt.mp h) (by rw [toInt_small s hs, toInt_small n hn]; omega)
  · exact absurd (IntOp.cmpi_slt.mpr (by rw [toInt_small s hs, toInt_small n hn]; omega)) h
  · rfl

/-- Choosing by `n ≤ s` on words of small numbers is choosing by `n ≤ s`. -/
theorem select_sge {α : Type} (s n : ℕ) (hs : s < 2 ^ 31) (hn : n < 2 ^ 31) (a b : α) :
    Scalar.select (IntOp.cmpi .sge (BitVec.ofNat 32 s) (BitVec.ofNat 32 n)) a b = if n ≤ s then a else b := by
  unfold Scalar.select
  split_ifs with h h' h'
  · rfl
  · exact absurd (IntOp.cmpi_sge.mp h) (by rw [toInt_small s hs, toInt_small n hn]; omega)
  · exact absurd (IntOp.cmpi_sge.mpr (by rw [toInt_small s hs, toInt_small n hn]; omega)) h
  · rfl

end Cert.Common

end

end
-- ==== Proof.ConvRef.lean ====
module
public import proofs.«01_k».proof.Proof.Gen.ConvBwdRefIdeal.Read
public import proofs.«01_k».proof.Proof.Common

/-! What the reference of the gated convolution's gradient computes, index by index. -/

@[expose] public section

set_option maxRecDepth 16384

noncomputable section

open Idealize.ShloMosaic Idealize.ShloMosaic.TcCoe Idealize.SL.Sem

namespace Cert.Conv
open Cert.ConvBwdRefIdeal Cert.ConvBwdRefIdeal.Gen Cert.ConvBwdRefIdeal.Read Cert.Common

variable (z : FVec Ideal S2x2048x3072 .f32) (w : FVec Ideal S3x1024 .f32) (dy : FVec Ideal S2x2048x1024 .f32)

/-- The gated input of the convolution, the product of the second and third columns of `z`. -/
def gated (e : Fin 2) (s : Fin 2048) (k : Fin 1024) : EReal :=
  z (ix3 e s ⟨1024 + k.val, by omega⟩) * z (ix3 e s ⟨2048 + k.val, by omega⟩)

/-- The gated input `n` steps earlier, zero before the start of the sequence. -/
def past (n : ℕ) (e : Fin 2) (s : Fin 2048) (k : Fin 1024) : EReal :=
  if n ≤ s.val then gated z e ⟨s.val - n, by omega⟩ k else 0

/-- The convolution of the gated input with its three taps. -/
def conv (e : Fin 2) (s : Fin 2048) (k : Fin 1024) : EReal :=
  w (ix2 2 k) * past z 0 e s k + w (ix2 1 k) * past z 1 e s k + w (ix2 0 k) * past z 2 e s k

/-- The cotangent of the convolution's output. -/
def outCot (e : Fin 2) (s : Fin 2048) (k : Fin 1024) : EReal := dy (ix3 e s k) * z (ix3 e s ⟨k.val, by omega⟩)

/-- The cotangent of the convolution's output `n` steps later, zero after the end of the sequence. -/
def ahead (n : ℕ) (e : Fin 2) (s : Fin 2048) (k : Fin 1024) : EReal :=
  if h : s.val + n < 2048 then outCot z dy e ⟨s.val + n, h⟩ k else 0

/-- The cotangent of the gated input. -/
def gatedCot (e : Fin 2) (s : Fin 2048) (k : Fin 1024) : EReal :=
  w (ix2 2 k) * ahead z dy 0 e s k + w (ix2 1 k) * ahead z dy 1 e s k + w (ix2 0 k) * ahead z dy 2 e s k

/-- The three column blocks of the gradient of `z`. -/
def dz (j : Fin 3) (e : Fin 2) (s : Fin 2048) (k : Fin 1024) : EReal :=
  if j.val = 0 then dy (ix3 e s k) * conv z w e s k
  else if j.val = 1 then gatedCot z w dy e s k * z (ix3 e s ⟨2048 + k.val, by omega⟩)
  else gatedCot z w dy e s k * z (ix3 e s ⟨1024 + k.val, by omega⟩)

/-- The gradient of the tap that looks `n` steps back. -/
def dtap (n : ℕ) (k : Fin 1024) : EReal := ∑ e : Fin 2, ∑ s : Fin 2048, outCot z dy e s k * past z n e s k

/-- The gradient of the taps, the last tap in row 2; rows 3 to 7 are zero. -/
def dtaps (r : Fin 8) (k : Fin 1024) : EReal := if r.val < 3 then dtap z dy (2 - r.val) k else 0

/-- The reference's padded input, read `n` frames back. -/
theorem ref_padded (n : ℕ) (e : Fin 2) (s : Fin 2048) (k : Fin 1024) (hn : n ≤ 2) (r : Fin 2050) (hr : r.val = s.val + (2 - n)) :
    val_main_v5 (F := Ideal) z (ix3 e r k) = past z n e s k := by
  pointwise [val_main_v5, val_main_v4, val_main_v3, val_main_v1, val_main_v2, val_main_cst]
  unfold past gated
  obtain ⟨r, hr'⟩ := r
  subst hr
  by_cases h : n ≤ s.val
  · have h' : s.val + (2 - n) - 2 = s.val - n := by omega
    rw [dif_neg (by simp; omega), if_pos h]
    simp only [h']
  · rw [dif_pos (by simp; omega), if_neg h]

/-- The reference's gated input of the same frame. -/
theorem ref_past (e : Fin 2) (s : Fin 2048) (k : Fin 1024) : val_main_v22 (F := Ideal) z (ix3 e s k) = past z 0 e s k
    ∧ val_main_v15 (F := Ideal) z (ix3 e s k) = past z 1 e s k ∧ val_main_v9 (F := Ideal) z (ix3 e s k) = past z 2 e s k := by
  refine ⟨?_, ?_, ?_⟩
  · pointwise [val_main_v22]
    exact ref_padded z 0 e s k (by omega) _ (by simp; omega)
  · pointwise [val_main_v15]
    exact ref_padded z 1 e s k (by omega) _ (by simp; omega)
  · pointwise [val_main_v9]
    exact ref_padded z 2 e s k (by omega) _ (by simp)

/-- The cotangent of the convolution's output in the reference. -/
theorem ref_outCot (e : Fin 2) (s : Fin 2048) (k : Fin 1024) :
    val_main_v28 (F := Ideal) z dy (ix3 e s k) = outCot z dy e s k := by
  pointwise [val_main_v28, val_main_v0, outCot]
  rw [mul_comm]

/-- The reference's convolution. -/
theorem ref_conv (e : Fin 2) (s : Fin 2048) (k : Fin 1024) :
    val_main_v26 (F := Ideal) z w (ix3 e s k) = conv z w e s k := by
  pointwise [val_main_v26, val_main_v19, val_main_v25, val_main_v12, val_main_v18,
    ref_past]
  pointwise [val_main_v11, val_main_v10, val_main_v8, val_main_v7, val_main_v17, val_main_v16, val_main_v14, val_main_v13,
    val_main_v24, val_main_v23, val_main_v21, val_main_v20]
  exact add_reverse _ _ _

/-- The cotangent of the gated input in the reference. -/
theorem ref_gatedCot (e : Fin 2) (s : Fin 2048) (k : Fin 1024) :
    val_main_v62 (F := Ideal) z w dy (ix3 e s k) = gatedCot z w dy e s k := by
  pointwise [val_main_v62, val_main_v57, val_main_v36, val_main_v45, val_main_v56, val_main_v46, val_main_v31, val_main_v40, val_main_v51,
    val_main_cst_3, val_main_cst_7, val_main_cst_11, ref_outCot]
  pointwise [val_main_v30, val_main_v39, val_main_v50, val_main_v10, val_main_v8, val_main_v7, val_main_v16, val_main_v14, val_main_v13,
    val_main_v23, val_main_v21, val_main_v20]
  simp only [gatedCot, ahead]
  have h1 : (1 ≤ 2 + s.val ∧ 2 + s.val - 1 < 2048) ↔ s.val + 1 < 2048 := by omega
  have h2 : 2 + s.val - 1 = s.val + 1 := by omega
  have h3 : 2 + s.val = s.val + 2 := by omega
  split_ifs <;> first | omega | simp [h2, h3]

/-- The reference's first result: the gradients of the three parts of `z`. -/
theorem ref_dz (j : Fin 3) (e : Fin 2) (s : Fin 2048) (r : Fin 4096) (hr : r.val = 2048 * e.val + s.val) (k : Fin 1024) :
    val_main_v74 (F := Ideal) z w dy (ix3 j r k) = dz z w dy j e s k := by
  pointwise [val_main_v74, val_main_v73, val_main_v72, val_main_v71, val_main_v70, val_main_v69, val_main_v68, val_main_v67, val_main_v66]
  pointwise [val_main_v65, val_main_v64, val_main_v63, val_main_v29]
  obtain ⟨r, hr'⟩ := r
  have h1 : r / 2048 = e.val := by simp at hr; omega
  have h2 : r % 2048 = s.val := by simp at hr; omega
  simp only [h1, h2, ref_conv, ref_gatedCot, dz]
  have h3 : ¬ 2048 + k.val < 1024 := by omega
  have h4 : ¬ 2048 + k.val - 1024 < 1024 := by omega
  have h5 : 2048 + k.val - 1024 - 1024 = k.val := by omega
  have h6 : j.val - 1 < 1 ↔ j.val = 0 ∨ j.val = 1 := by omega
  simp only [h3, h4, h5, h6, Nat.lt_one_iff, dif_neg, not_false_eq_true]
  pointwise [val_main_v1, val_main_v2]
  split_ifs <;> first | omega | rfl | exact mul_comm _ _
/-- The reference's second result: the gradients of the taps, below them rows of zeros. -/
theorem ref_dtaps (r : Fin 8) (k : Fin 1024) : val_main_v75 (F := Ideal) z dy (ix2 r k) = dtaps z dy r k := by
  pointwise [val_main_v75, val_main_v60, val_main_v49, val_main_v59, val_main_v38, val_main_v48, val_main_v37, val_main_v47, val_main_v58,
   val_main_v35, val_main_v44, val_main_v55, val_main_v34, val_main_v43, val_main_v54, val_main_v33, val_main_v42, val_main_v53,
   hostReduceAdd_lead2]
  pointwise [val_main_v32, val_main_v41, val_main_v52, ref_outCot, ref_past, val_main_cst_1, val_main_cst_2, val_main_cst_4, val_main_cst_5,
    val_main_cst_6, val_main_cst_8, val_main_cst_9, val_main_cst_10, val_main_cst_12, val_main_call0_v0, val_main_c]
  unfold dtaps dtap
  obtain ⟨r, hr⟩ := r
  match r with
  | 0 => simp
  | 1 => simp
  | 2 => simp
  | n + 3 => simp [FloatOps.sitofp]

end Cert.Conv

end

end
-- ==== Proof.Rows.lean ====
module
public import Idealize.ShloMosaic.Lib.Pipeline.ValueKit
public import Idealize.ShloMosaic.Lib.Pointwise
public import Idealize.ShloMosaic.Lib.WritesUnit

/-! An accumulator of several rows that is updated one row at a time: what a read finds after the newest row was
stored, over a first fill or over kept contents. -/

@[expose] public section

set_option maxRecDepth 16384

noncomputable section

open Idealize.ShloMosaic Idealize.ShloMosaic.TcCoe Idealize.SL.Sem

namespace Cert.Rows

variable {Val : EltTy → Type} {e : EltTy} {m n o : ℕ}

/-- After one row was stored, the read of contents under a list of stores looks at the row first. -/
theorem read_row {sig : RefSig} {κ : Kind} {sp : Space} (v : View sig κ sp (⟨2, ![m, n]⟩ : Shape) e) (f : v.ty.Contents Val)
    (inb : ∀ a, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e)) (y : (⟨2, ![m, n]⟩ : Shape).Idx) :
    v.read Val (v.writes Val f ((⟨Rect.unit (s := ⟨2, ![m, n]⟩) ![o, 0] ![1, n] inb, w⟩ : View.Piece Val (⟨2, ![m, n]⟩ : Shape) e) :: L)) y
      = if (y 0).val = o then w (ix2 0 (y 1)) else v.read Val (v.writes Val f L) y := by
  by_cases h : (y 0).val = o
  · rw [if_pos h]
    exact View.read_writes_cons_rows_of_mem v f inb w L y (ix2 0 (y 1)) rfl (by rw [h]; rfl) rfl
  · rw [if_neg h]
    exact View.read_writes_cons_rows_of_not_mem v f inb w L y rfl (W := 1) rfl (by omega)

/-- The same at an index given by its two coordinates. -/
theorem read_row_at {sig : RefSig} {κ : Kind} {sp : Space} (v : View sig κ sp (⟨2, ![m, n]⟩ : Shape) e) (f : v.ty.Contents Val)
    (inb : ∀ a, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e)) (p : Fin m) (q : Fin n) :
    v.read Val (v.writes Val f ((⟨Rect.unit (s := ⟨2, ![m, n]⟩) ![o, 0] ![1, n] inb, w⟩ : View.Piece Val (⟨2, ![m, n]⟩ : Shape) e) :: L)) (ix2 p q)
      = if p.val = o then w (ix2 0 q) else v.read Val (v.writes Val f L) (ix2 p q) := read_row v f inb w L (ix2 p q)

variable [∀ e, Nonempty (Val e)]

/-- The same over a first fill. -/
theorem canon_row (inb : ∀ a, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e)) (y : (⟨2, ![m, n]⟩ : Shape).Idx) :
    View.canon ((⟨Rect.unit (s := ⟨2, ![m, n]⟩) ![o, 0] ![1, n] inb, w⟩ : View.Piece Val (⟨2, ![m, n]⟩ : Shape) e) :: L) y
      = if (y 0).val = o then w (ix2 0 (y 1)) else View.canon L y := by
  by_cases h : (y 0).val = o
  · rw [if_pos h]
    have hy : (Rect.unit (s := ⟨2, ![m, n]⟩) ![o, 0] ![1, n] inb).emb (ix2 0 (y 1)) = y := by
      funext a; apply Fin.ext
      match a with
      | ⟨0, _⟩ => exact h.symm
      | ⟨1, _⟩ => show 0 + 1 * (y 1).val = (y 1).val; omega
    have := View.canon_cons_emb (Val := Val) (Rect.unit (s := ⟨2, ![m, n]⟩) ![o, 0] ![1, n] inb) w L (ix2 0 (y 1))
    rwa [hy] at this
  · rw [if_neg h]
    refine View.canon_cons_of_not_mem _ L fun hm => h ?_
    obtain ⟨x, hx⟩ := (Rect.unit (s := ⟨2, ![m, n]⟩) ![o, 0] ![1, n] inb).exists_idx_of_mem hm
    have := congrArg Fin.val (congrFun hx 0)
    have h0 : (x 0).val < 1 := (x 0).isLt
    have h1 : o + 1 * (x 0).val = (y 0).val := this
    omega

/-- The same at an index given by its two coordinates. -/
theorem canon_row_at (inb : ∀ a, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e)) (p : Fin m) (q : Fin n) :
    View.canon ((⟨Rect.unit (s := ⟨2, ![m, n]⟩) ![o, 0] ![1, n] inb, w⟩ : View.Piece Val (⟨2, ![m, n]⟩ : Shape) e) :: L) (ix2 p q)
      = if p.val = o then w (ix2 0 q) else View.canon L (ix2 p q) := canon_row inb w L (ix2 p q)

/-- Loading one row after a list of stores. -/
theorem readCov_row {sig : RefSig} {κ : Kind} {sp : Space} (v : View sig κ sp (⟨2, ![m, n]⟩ : Shape) e) (ho : o < m)
    (inb : ∀ a, (![o, 0] : Fin 2 → ℕ) a + (![1, n] : Fin 2 → ℕ) a ≤ (![m, n] : Fin 2 → ℕ) a)
    (L : List (View.Piece Val (⟨2, ![m, n]⟩ : Shape) e)) (x : (⟨2, ![1, n]⟩ : Shape).Idx) :
    v.readCov L (Rect.unit (s := ⟨2, ![m, n]⟩) ![o, 0] ![1, n] inb).toLoadRect x = View.canon L (ix2 ⟨o, ho⟩ (x 1)) := by
  rw [View.readCov_eq_canon']
  refine congrArg (View.canon L) (funext fun a => Fin.ext ?_)
  have h0 : (x 0).val < 1 := (x 0).isLt
  match a with
  | ⟨0, _⟩ => show o + 1 * (x 0).val = o; omega
  | ⟨1, _⟩ => show 0 + 1 * (x 1).val = (x 1).val; omega

/-- The same at a column. -/
theorem readCov_row_at {sig : RefSig} {κ : Kind} {sp : Space} (v : View sig κ sp (⟨2, ![m, n]⟩ : Shape) e) (ho : o < m)
    (inb : ∀ a, (![o, 0] : Fin 2 → ℕ) a + (![1, n] : Fin 2 → ℕ) a ≤ (![m, n] : Fin 2 → ℕ) a)
    (L : List (View.Piece Val (⟨2, ![m, n]⟩ : Shape) e)) (q : Fin n) :
    v.readCov L (Rect.unit (s := ⟨2, ![m, n]⟩) ![o, 0] ![1, n] inb).toLoadRect (ix2 0 q) = View.canon L (ix2 ⟨o, ho⟩ q) :=
  readCov_row v ho inb L (ix2 0 q)

/-- A first fill of the whole accumulator. -/
theorem canon_fill (inb : ∀ a, (![0, 0] : Fin 2 → ℕ) a + (![m, n] : Fin 2 → ℕ) a ≤ (![m, n] : Fin 2 → ℕ) a)
    (w : (⟨2, ![m, n]⟩ : Shape).Idx → Val e) :
    View.canon [(⟨Rect.unit (s := ⟨2, ![m, n]⟩) ![0, 0] ![m, n] inb, w⟩ : View.Piece Val (⟨2, ![m, n]⟩ : Shape) e)] = w :=
  View.canon_unit_zero (S := ⟨2, ![m, n]⟩) (by funext a; fin_cases a <;> rfl) inb w

/-- After a band of columns was stored, an element inside the band is the stored one. -/
theorem canon_band {w : ℕ} (inb : ∀ a, (![0, o] : Fin 2 → ℕ) a + (![m, w] : Fin 2 → ℕ) a ≤ (![m, n] : Fin 2 → ℕ) a)
    (f : (⟨2, ![m, w]⟩ : Shape).Idx → Val e) (L : List (View.Piece Val (⟨2, ![m, n]⟩ : Shape) e)) (p : Fin m) (q : Fin n) (q' : Fin w)
    (h : q.val = o + q'.val) :
    View.canon ((⟨Rect.unit (s := ⟨2, ![m, n]⟩) ![0, o] ![m, w] inb, f⟩ : View.Piece Val (⟨2, ![m, n]⟩ : Shape) e) :: L) (ix2 p q)
      = f (ix2 p q') := by
  have hy : (Rect.unit (s := ⟨2, ![m, n]⟩) ![0, o] ![m, w] inb).emb (ix2 p q') = ix2 p q := by
    funext a; apply Fin.ext
    match a with
    | ⟨0, _⟩ => show 0 + 1 * p.val = p.val; omega
    | ⟨1, _⟩ => show o + 1 * q'.val = q.val; omega
  have := View.canon_cons_emb (Val := Val) (Rect.unit (s := ⟨2, ![m, n]⟩) ![0, o] ![m, w] inb) f L (ix2 p q')
  rwa [hy] at this

/-- An element outside the band is what was there before. -/
theorem canon_off {w : ℕ} (inb : ∀ a, (![0, o] : Fin 2 → ℕ) a + (![m, w] : Fin 2 → ℕ) a ≤ (![m, n] : Fin 2 → ℕ) a)
    (f : (⟨2, ![m, w]⟩ : Shape).Idx → Val e) (L : List (View.Piece Val (⟨2, ![m, n]⟩ : Shape) e)) (p : Fin m) (q : Fin n)
    (h : q.val < o ∨ o + w ≤ q.val) :
    View.canon ((⟨Rect.unit (s := ⟨2, ![m, n]⟩) ![0, o] ![m, w] inb, f⟩ : View.Piece Val (⟨2, ![m, n]⟩ : Shape) e) :: L) (ix2 p q)
      = View.canon L (ix2 p q) := by
  refine View.canon_cons_of_not_mem _ L fun hm => ?_
  obtain ⟨y, hy⟩ := (Rect.unit (s := ⟨2, ![m, n]⟩) ![0, o] ![m, w] inb).exists_idx_of_mem hm
  have h1 : o + 1 * (y 1).val = q.val := congrArg Fin.val (congrFun hy 1)
  have h0 : (y 1).val < w := (y 1).isLt
  omega

/-- No store at all. -/
theorem read_none {sig : RefSig} {κ : Kind} {sp : Space} {s : Memref sig κ sp (⟨2, ![m, n]⟩ : Shape) e} (h : s.IsWhole)
    (X : (⟨2, ![m, n]⟩ : Shape).Idx → Val e) : s.view.read Val (s.view.writes Val (h.unread X) []) = X := by
  rw [View.writes_nil]; exact h.read_unread X

end Cert.Rows

end

end
-- ==== Proof.Conv.lean ====
module
public import proofs.«01_k».proof.Proof.ConvRef
public import proofs.«01_k».proof.Proof.Gen.ConvBwdIdeal.Value
public import proofs.«01_k».proof.Proof.Rows
public import Idealize.ShloMosaic.Lib.StableHlo.RunRead

/-! What the gated convolution's backward kernel leaves in its two result arrays. -/

@[expose] public section

set_option maxRecDepth 16384

noncomputable section

open Idealize.ShloMosaic Idealize.ShloMosaic.TcCoe Idealize.SL.Sem
open Idealize.ShloMosaic.Pipeline (Dat)

namespace Cert.Conv.Kernel
open Cert.ConvBwdIdeal Cert.ConvBwdIdeal.Gen Cert.Common

variable (m : (ℓ : Loc nD τ sig) → Buf (Elt Ideal) ℓ)

/-- Which block each window reads or writes at a grid point: the point runs through the examples first, then through the column blocks. -/
theorem idx_val : ∀ t : Fin cfg0.N, win0_0.index t = ![t.val % 2, t.val / 2]
    ∧ win0_1.index t = ![0, t.val % 2, t.val / 2]
    ∧ win0_2.index t = ![0, t.val / 2]
    ∧ win0_3.index t = ![0, t.val % 2, t.val / 2]
    ∧ win0_4.index t = ![0, t.val / 2] :=
  (by decide +kernel : ∀ t : Fin grid0.N, _)

variable (z : S2x2048x3072.Idx → EReal) (w : S3x1024.Idx → EReal) (dy : S2x2048x1024.Idx → EReal)

/-- The column of the whole array that column `k` of the block is. -/
def col (t : Fin cfg0.N) (k : Fin 256) : Fin 1024 := ⟨256 * (t.val / 2) + k.val, by
  have := lt_of_lt_of_eq t.isLt (show cfg0.N = 8 from N_0); omega⟩

/-- The example whose frames the grid point handles. -/
def ex (t : Fin cfg0.N) : Fin 2 := ⟨t.val % 2, by omega⟩

/-- The cotangent's block holds one example's frames and 256 columns. -/
theorem blk0 (c : Dev nD) (t : Fin cfg0.N) (hdy : m ((c : Thread nD τ).loc main_arg2) = dy) (s : Fin 2048) (k : Fin 256) :
    iblk m c 0 t (ix2 s k) = dy (ix3 (ex t) s (col t k)) := by
  subst hdy
  blk_point [iblk, V, idx_val t] <;> simp only [col, ex] <;> omega

/-- One of the three streams of the forward input, as the host slices it out, with a leading axis of one. -/
def stream (z : FVec Ideal S2x2048x3072 .f32) (o : ℕ) (h : S4096x3072.Slices ![0, o] S4096x1024) : FVec Ideal S1x4096x1024 .f32 :=
  broadcastInDim S1x4096x1024 ![1, 2] bcast_S4096x1024_S1x4096x1024_1_2
    (extractStridedSlice S4096x1024 ![0, o] (shapeCast S4096x3072 z shapeCasts_S2x2048x3072_S4096x3072) h)

/-- The three streams stacked. -/
def streams (z : FVec Ideal S2x2048x3072 .f32) : FVec Ideal S3x4096x1024 .f32 :=
  concatenate S3x4096x1024 0 [⟨S1x4096x1024, stream z 0 slices_S4096x3072_S4096x1024_0_0⟩,
    ⟨S1x4096x1024, stream z 1024 slices_S4096x3072_S4096x1024_0_1024⟩,
    ⟨S1x4096x1024, stream z 2048 slices_S4096x3072_S4096x1024_0_2048⟩]
    concatenates_S1x4096x1024_S1x4096x1024_S1x4096x1024_S3x4096x1024_d0

/-- The kernel's second operand holds the three parts of `z`, one after another. -/
theorem entry_streams (c : Dev nD) (z : FVec Ideal S2x2048x3072 .f32) (hz : m ((c : Thread nD τ).loc main_arg0) = z) :
    V m c main_v8 = (streams z : S3x4096x1024.Idx → EReal) := by
  have h0 : V m c main_v4 = stream z 0 slices_S4096x3072_S4096x1024_0_0 := by
    subst hz; unfold V; unfold hostOps0; after_reads_simp; rfl
  have h1 : V m c main_v5 = stream z 1024 slices_S4096x3072_S4096x1024_0_1024 := by
    subst hz; unfold V; unfold hostOps0; after_reads_simp; rfl
  have h2 : V m c main_v6 = stream z 2048 slices_S4096x3072_S4096x1024_0_2048 := by
    subst hz; unfold V; unfold hostOps0; after_reads_simp; rfl
  unfold streams
  rw [← h0, ← h1, ← h2]
  rfl

/-- An element of the three stacked parts is an element of `z`. -/
theorem streams_apply (z : FVec Ideal S2x2048x3072 .f32) (j : Fin 3) (r : Fin 4096) (k : Fin 1024) :
    streams z (ix3 j r k) = z (ix3 ⟨r.val / 2048, by omega⟩ ⟨r.val % 2048, by omega⟩ ⟨1024 * j.val + k.val, by omega⟩) := by
  pointwise [streams, stream]
  split_ifs with h h'
  all_goals blk_ext
/-- The block of the stacked parts holds, of each part, one example's frames and 256 columns. -/
theorem blk1 (c : Dev nD) (t : Fin cfg0.N) (hz : m ((c : Thread nD τ).loc main_arg0) = z)
    (j : Fin 3) (s : Fin 2048) (k : Fin 256) :
    iblk m c 1 t (ix3 j s k) = z (ix3 (ex t) s ⟨1024 * j.val + (col t k).val, by omega⟩) := by
  have : iblk m c 1 t (ix3 j s k) = V m c main_v8 (ix3 j ⟨2048 * (ex t).val + s.val, by have := (ex t).isLt; omega⟩ (col t k)) := by
    blk_simp [iblk]
    refine congrArg _ ?_
    funext a
    apply Fin.ext
    fin_cases a <;> blk_simp [idx_val t]
    · rfl
    · show t.val % 2 * 2048 + s.val = 2048 * (t.val % 2) + s.val
      omega
    · show t.val / 2 * 256 + k.val = 256 * (t.val / 2) + k.val
      omega
  rw [this, entry_streams m c z hz, streams_apply]
  congr 2 <;> apply Fin.ext <;> simp <;> omega

/-- The block of the taps holds 256 columns. -/
theorem blk2 (c : Dev nD) (t : Fin cfg0.N) (hw : m ((c : Thread nD τ).loc main_arg1) = w) (j : Fin 3) (k : Fin 256) :
    iblk m c 2 t (ix2 j k) = w (ix2 j (col t k)) := by
  subst hw
  blk_point [iblk, V, idx_val t]
  simp only [col]; omega

/-- Choosing zero for the first `n` frames, by the frame's number. -/
theorem select_past (n : ℕ) (hn : n < 2048) (s : Fin 2048) (a : EReal) :
    Scalar.select (IntOp.cmpi .sge (BitVec.ofNat 32 s.val) (BitVec.ofNat 32 n)) a 0 = if n ≤ s.val then a else 0 :=
  select_sge _ _ (by omega) (by omega) _ _

/-- Choosing zero for the last `n` frames, by the frame's number. -/
theorem select_ahead (n : ℕ) (hn : n < 2048) (s : Fin 2048) (a : EReal) :
    Scalar.select (IntOp.cmpi .slt (BitVec.ofNat 32 s.val) (BitVec.ofNat 32 n)) a 0 = if s.val < n then a else 0 :=
  select_slt _ _ (by omega) (by omega) _ _

set_option maxHeartbeats 1600000 in
/-- The block of the gradient of `z` that one grid point leaves. -/
theorem point_3 (c : Dev nD) (hz : m ((c : Thread nD τ).loc main_arg0) = z)
    (hw : m ((c : Thread nD τ).loc main_arg1) = w) (hdy : m ((c : Thread nD τ).loc main_arg2) = dy)
    (t : Fin cfg0.N) (y : S3x2048x256.Idx) :
    (outsAt0 m c t.val t.isLt).1 y = dz z w dy (y 0) (ex t) (y 1) (col t (y 2)) := by
  by_cases hA : t.val % 2 = 0
  case' pos => rw [outsAt0_A m c t hA]
  case' neg => rw [outsAt0_B m c t hA]
  all_goals
    dsimp only
    frame_out
    canon_tiles x h
  all_goals
    obtain ⟨a, s, k, rfl⟩ : ∃ (a : Fin 1) (s : Fin 2048) (k : Fin 256), x = ix3 a s k := ⟨x 0, x 1, x 2, eq_ix3 x⟩
    obtain ⟨j, s', k', rfl⟩ : ∃ (j : Fin 3) (s : Fin 2048) (k : Fin 256), y = ix3 j s k := ⟨y 0, y 1, y 2, eq_ix3 y⟩
    obtain rfl : s' = s := Fin.ext h1
    obtain rfl : k' = k := Fin.ext h2
    open_payloads
    pointwise
    simp only [blk0 m dy c t hdy, blk1 m z c t hz, blk2 m w c t hw, select_past 1 (by omega), select_past 2 (by omega),
      select_ahead 2047 (by omega), select_ahead 2046 (by omega)]
    unfold dz gatedCot ahead outCot conv past gated
    first
      | (have hj : j.val = 2 + a.val := h0
         rw [if_neg (show ¬ j.val = 0 by omega), if_neg (show ¬ j.val = 1 by omega)])
      | (have hj : j.val = 1 + a.val := h0
         rw [if_neg (show ¬ j.val = 0 by omega), if_pos (show j.val = 1 by omega)])
      | (have hj : j.val = a.val := h0
         rw [if_pos (show j.val = 0 by omega)])
    split_ifs <;> first | omega | ((try simp only [mul_zero, add_zero]); blk_point)

/-- What one grid point adds to the gradient of the taps. -/
def part (t : Fin cfg0.N) (r : Fin 8) (k : Fin 256) : EReal :=
  if r.val < 3 then ∑ s : Fin 2048, outCot z dy (ex t) s (col t k) * past z (2 - r) (ex t) s (col t k) else 0

/-- The part of the last tap, from the blocks of `dy` and of the three streams at one column. -/
theorem part_2 (t : Fin cfg0.N) (k : Fin 256) (P : Fin 2048 → EReal) (Q : Fin 3 → Fin 2048 → EReal)
    (hP : ∀ s, P s = dy (ix3 (ex t) s (col t k)))
    (hQ : ∀ j s, Q j s = z (ix3 (ex t) s ⟨1024 * j.val + (col t k).val, by omega⟩)) :
    ∑ x : Fin 2048, P x * Q 0 x * (Q 1 x * Q 2 x) = part z dy t 2 k := by
  simp only [hP, hQ]
  unfold part outCot past gated
  rw [if_pos (by decide)]
  refine Finset.sum_congr rfl fun s _ => ?_
  rw [if_pos (by simp)]
  blk_point

/-- The parts of the two taps that look back, under the kernel's rotation and mask. -/
theorem part_back (t : Fin cfg0.N) (k : Fin 256) (P : Fin 2048 → EReal) (Q : Fin 3 → Fin 2048 → EReal)
    (hP : ∀ s, P s = dy (ix3 (ex t) s (col t k)))
    (hQ : ∀ j s, Q j s = z (ix3 (ex t) s ⟨1024 * j.val + (col t k).val, by omega⟩))
    (n : ℕ) (hn : n ≤ 2) (r : Fin 8) (hr : r.val = 2 - n) :
    ∑ x : Fin 2048, Scalar.select (IntOp.cmpi CmpIPredicate.sge (BitVec.ofNat 32 x.val) (BitVec.ofNat 32 n))
        (P x * Q 0 x * (Q 1 ⟨(x.val + 2048 - n) % 2048, Nat.mod_lt _ (by decide)⟩
            * Q 2 ⟨(x.val + 2048 - n) % 2048, Nat.mod_lt _ (by decide)⟩)) 0
      = part z dy t r k := by
  simp only [hP, hQ, select_past n (by omega)]
  unfold part outCot past gated
  rw [if_pos (by omega)]
  refine Finset.sum_congr rfl fun s _ => ?_
  have e : 2 - r.val = n := by omega
  rw [e]
  split_ifs with h
  · blk_point
  · rw [mul_zero]

/-- Beyond the third row nothing is added. -/
theorem part_rest (t : Fin cfg0.N) (r : Fin 8) (k : Fin 256) (hr : ¬ r.val < 3) : part z dy t r k = 0 := if_neg hr

/-- A row sum of a product added to a row, read at a column. -/
theorem tap_rows (a b : FVec Ideal S2048x256 .f32) (acc : FVec Ideal S1x256 .f32) (k : Fin 256) :
    k0_pay4 a b acc (ix2 0 k) = acc (ix2 0 k) + ∑ s : Fin 2048, b (ix2 s k) * a (ix2 s k)
    ∧ k0_pay3 a b acc (ix2 0 k) = acc (ix2 0 k) + ∑ s : Fin 2048, b (ix2 s k) * a (ix2 s k)
    ∧ k0_pay2 a b acc (ix2 0 k) = acc (ix2 0 k) + ∑ s : Fin 2048, b (ix2 s k) * a (ix2 s k) := by
  refine ⟨?_, ?_, ?_⟩
  · pointwise [k0_pay4]
  · pointwise [k0_pay3]
  · pointwise [k0_pay2]

set_option maxHeartbeats 1600000 in
theorem point_4_A (c : Dev nD) (hz : m ((c : Thread nD τ).loc main_arg0) = z)
    (hdy : m ((c : Thread nD τ).loc main_arg2) = dy)
    (t : Fin cfg0.N) (hA : t.val % 2 = 0) (r : Fin 8) (k : Fin 256) :
    (outsAt0 m c t.val t.isLt).2 (ix2 r k) = 0 + part z dy t r k := by
  rw [zero_add]
  rw [outsAt0_A m c t hA]
  dsimp only
  frame_out
  have hP := blk0 m dy c t hdy
  have hQ := blk1 m z c t hz
  generalize iblk m c 0 t = P at hP ⊢
  generalize iblk m c 1 t = Q at hQ ⊢
  rw [Rows.canon_row_at]
  split_ifs with h2
  · obtain rfl : r = 2 := Fin.ext h2
    rw [(tap_rows _ _ _ k).1, Rows.readCov_row_at _ (by decide), Rows.canon_row_at, if_neg (by decide), Rows.canon_row_at, if_neg (by decide), Rows.canon_fill]
    pointwise [k0_pay5, k0_pay9, k0_pay7, k0_pay8, k0_pay14, k0_pay6, k0_pay12]
    exact part_2 z dy t k _ _ (fun s => hP s k) (fun j s => hQ j s k)
  rw [Rows.canon_row_at]
  split_ifs with h1
  · obtain rfl : r = 1 := Fin.ext h1
    rw [(tap_rows _ _ _ k).2.1, Rows.readCov_row_at _ (by decide), Rows.canon_row_at, if_neg (by decide), Rows.canon_fill]
    pointwise [k0_pay5, k0_pay10, k0_pay9, k0_pay7, k0_pay8, k0_pay14, k0_pay6, k0_pay12]
    exact part_back z dy t k _ _ (fun s => hP s k) (fun j s => hQ j s k) 1 (by omega) 1 rfl
  rw [Rows.canon_row_at]
  split_ifs with h0
  · obtain rfl : r = 0 := Fin.ext h0
    rw [(tap_rows _ _ _ k).2.2, Rows.readCov_row_at _ (by decide), Rows.canon_fill]
    pointwise [k0_pay5, k0_pay11, k0_pay9, k0_pay7, k0_pay8, k0_pay14, k0_pay6, k0_pay12]
    exact part_back z dy t k _ _ (fun s => hP s k) (fun j s => hQ j s k) 2 (by omega) 0 rfl
  · rw [part_rest z dy t r k (by omega), Rows.canon_fill]
    pointwise [k0_pay5]

set_option maxHeartbeats 1600000 in
theorem point_4_B (c : Dev nD) (hz : m ((c : Thread nD τ).loc main_arg0) = z)
    (hdy : m ((c : Thread nD τ).loc main_arg2) = dy)
    (t : Fin cfg0.N) (hB : ¬ t.val % 2 = 0) (r : Fin 8) (k : Fin 256) :
    (outsAt0 m c t.val t.isLt).2 (ix2 r k) = (outsAt0 m c (t.val - 1) (Nat.lt_of_le_of_lt (Nat.sub_le _ _) t.isLt)).2 (ix2 r k) + part z dy t r k := by
  rw [outsAt0_B m c t hB]
  dsimp only
  frame_out
  have hP := blk0 m dy c t hdy
  have hQ := blk1 m z c t hz
  generalize iblk m c 0 t = P at hP ⊢
  generalize iblk m c 1 t = Q at hQ ⊢
  generalize (outsAt0 m c (t.val - 1) _).2 = prev
  rw [Rows.read_row_at]
  split_ifs with h2
  · obtain rfl : r = 2 := Fin.ext h2
    rw [(tap_rows _ _ _ k).1]
    pointwise [k0_pay9, k0_pay7, k0_pay8, k0_pay14, k0_pay6, k0_pay12]
    exact congrArg _ (part_2 z dy t k _ _ (fun s => hP s k) (fun j s => hQ j s k))
  rw [Rows.read_row_at]
  split_ifs with h1
  · obtain rfl : r = 1 := Fin.ext h1
    rw [(tap_rows _ _ _ k).2.1]
    pointwise [k0_pay10, k0_pay9, k0_pay7, k0_pay8, k0_pay14, k0_pay6, k0_pay12]
    exact congrArg _ (part_back z dy t k _ _ (fun s => hP s k) (fun j s => hQ j s k) 1 (by omega) 1 rfl)
  rw [Rows.read_row_at]
  split_ifs with h0
  · obtain rfl : r = 0 := Fin.ext h0
    rw [(tap_rows _ _ _ k).2.2]
    pointwise [k0_pay11, k0_pay9, k0_pay7, k0_pay8, k0_pay14, k0_pay6, k0_pay12]
    exact congrArg _ (part_back z dy t k _ _ (fun s => hP s k) (fun j s => hQ j s k) 2 (by omega) 0 rfl)
  · rw [part_rest z dy t r k (by omega), add_zero, Rows.read_none]

/-- The two points of a column block together add the whole gradient of the taps. -/
theorem sum_part (t : Fin cfg0.N) (ht : t.val < 8) (r : Fin 8) (k : Fin 256)
    (hb : ∀ e : Fin 2, 2 * (t.val / 2) + e.val < cfg0.N) :
    ∑ e : Fin 2, part z dy ⟨2 * (t.val / 2) + e.val, hb e⟩ r k = dtaps z dy r (col t k) := by
  unfold part dtaps dtap
  by_cases h : r.val < 3
  · simp only [if_pos h]
    refine Finset.sum_congr rfl fun e _ => ?_
    have he : ex ⟨2 * (t.val / 2) + e.val, hb e⟩ = e := by
      apply Fin.ext; simp only [ex]; omega
    have hc : col ⟨2 * (t.val / 2) + e.val, hb e⟩ k = col t k := by
      apply Fin.ext; simp only [col]; omega
    rw [he, hc]
  · simp only [if_neg h, Finset.sum_const_zero]

/-- What the kernel leaves in its first result: the gradients of the three parts of `z`. -/
theorem final_3 (c : Dev nD) (hz : m ((c : Thread nD τ).loc main_arg0) = z)
    (hw : m ((c : Thread nD τ).loc main_arg1) = w) (hdy : m ((c : Thread nD τ).loc main_arg2) = dy) :
    (dats m 0 c).arrAt 3 cfg0.N = fun i : S3x4096x1024.Idx =>
      dz z w dy (i 0) ⟨(i 1).val / 2048, by have : (i 1).val < 4096 := (i 1).isLt; omega⟩ ⟨(i 1).val % 2048, by omega⟩ (i 2) := by
  refine (dats m 0 c).arrAt_eq_of_covers 3 _ (by decide +kernel) fun t hf y => ?_
  blk_simp
  rw [after0_3, point_3 m z w dy c hz hw hdy t y]
  have hN : t.val < 8 := lt_of_lt_of_eq t.isLt (show cfg0.N = 8 from N_0)
  have h1 : (y 1).val < 2048 := (y 1).isLt
  congr 1 <;> apply Fin.ext <;> simp only [ex, col] <;> blk_simp [idx_val t] <;> (try simp) <;> omega

/-- What the kernel leaves in its second result: the gradients of the taps, below them rows of zeros. -/
theorem final_4 (c : Dev nD) (hz : m ((c : Thread nD τ).loc main_arg0) = z)
    (hdy : m ((c : Thread nD τ).loc main_arg2) = dy) :
    (dats m 0 c).arrAt 4 cfg0.N = fun i : S8x1024.Idx => dtaps z dy (i 0) (i 1) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0)
    (fun t y => part z dy t (y 0) (y 1))
    (fun t h j => by
      obtain ⟨r, k, rfl⟩ : ∃ (r : Fin 8) (k : Fin 256), j = ix2 r k := ⟨j 0, j 1, eq_ix2 j⟩
      exact point_4_A m z dy c hz hdy t h r k)
    (fun t h j => by
      obtain ⟨r, k, rfl⟩ : ∃ (r : Fin 8) (k : Fin 256), j = ix2 r k := ⟨j 0, j 1, eq_ix2 j⟩
      exact point_4_B m z dy c hz hdy t h r k)
    t ((flush0_4 t).mp hf) _, zero_add]
  have hN : t.val < 8 := lt_of_lt_of_eq t.isLt (show cfg0.N = 8 from N_0)
  have e0 : (win0_4.blk t).view.emb y 0 = (y 0 : Fin 8) := by
    apply Fin.ext; blk_simp [idx_val t]
  have e1 : (win0_4.blk t).view.emb y 1 = (col t (y 1) : Fin 1024) := by
    apply Fin.ext; simp only [col]; blk_simp [idx_val t]; omega
  rw [e0, e1]
  exact sum_part z dy t hN (y 0) (y 1) _

end Cert.Conv.Kernel

end

end
-- ==== Proof.COutRef.lean ====
module
public import proofs.«01_k».proof.Proof.Gen.COutBwdRefIdeal.Read
public import proofs.«01_k».proof.Proof.Common

/-! What the reference of the grouped output map's gradient computes, index by index. -/

@[expose] public section

set_option maxRecDepth 16384

noncomputable section

open Idealize.ShloMosaic Idealize.ShloMosaic.TcCoe Idealize.SL.Sem

namespace Cert.COut
open Cert.COutBwdRefIdeal Cert.COutBwdRefIdeal.Gen Cert.COutBwdRefIdeal.Read Cert.Common

variable (d : S2x2048x4x256.Idx → EReal) (wg : S4x256x256.Idx → EReal) (sc : S1024.Idx → EReal)
  (wo : S1024x1024.Idx → EReal) (dy : S2x2048x1024.Idx → EReal)

/-- The group that a column belongs to. -/
def grp (k : Fin 1024) : Fin 4 := ⟨k.val / 256, by omega⟩

/-- A column's place within its group. -/
def chn (k : Fin 1024) : Fin 256 := ⟨k.val % 256, by omega⟩

/-- The column at a place of a group. -/
def colOf (g : Fin 4) (a : Fin 256) : Fin 1024 := ⟨g.val * 256 + a.val, by omega⟩

/-- The cotangent of the scaled map's result. -/
def outCot (r : Fin 4096) (k : Fin 1024) : EReal := ∑ o : Fin 1024, dy (ix3 (ep r) (fr r) o) * wo (ix2 k o)

/-- The grouped map. -/
def mixed (r : Fin 4096) (k : Fin 1024) : EReal := ∑ a : Fin 256, d (ix4 (ep r) (fr r) (grp k) a) * wg (ix3 (grp k) a (chn k))

/-- The gradient of the grouped map's result. -/
def dmixed (r : Fin 4096) (k : Fin 1024) : EReal := outCot wo dy r k * sc (ix1 k)

/-- The gradient of one group of the map's input. -/
def dd (g : Fin 4) (r : Fin 4096) (a : Fin 256) : EReal :=
  ∑ b : Fin 256, dmixed sc wo dy r (colOf g b) * wg (ix3 g a b)

/-- The gradient of the scale in row 0; the other rows are zero. -/
def dscale (i : Fin 8) (k : Fin 1024) : EReal := if i.val = 0 then ∑ r : Fin 4096, outCot wo dy r k * mixed d wg r k else 0

/-- The reference's first result. -/
theorem ref_dmixed (r : Fin 4096) (k : Fin 1024) :
    val_main_v20 (F := Ideal) sc wo dy (ix2 r k) = dmixed sc wo dy r k := by
  pointwise [val_main_v20, val_main_v19, val_main_v14, val_main_v12, val_main_v7, val_main_v11, val_main_v3]
  unfold dmixed outCot
  rfl

/-- The reference's gradients of the four groups. -/
theorem ref_dd (g : Fin 4) (r : Fin 4096) (a : Fin 256) :
    val_main_v18 (F := Ideal) wg sc wo dy (ix3 r g a) = dd wg sc wo dy g r a := by
  pointwise [val_main_v18, val_main_v17, val_main_v16, val_main_v15, val_main_v14, val_main_v12, val_main_v7, val_main_v11, val_main_v3]
  unfold dd dmixed outCot
  rfl

/-- The first group's gradient as the reference returns it. -/
theorem ref_group_0 (r : Fin 4096) (a : Fin 256) : val_main_v22 (F := Ideal) wg sc wo dy (ix2 r a) = dd wg sc wo dy 0 r a := by
  pointwise [val_main_v22, val_main_v21]
  exact ref_dd wg sc wo dy 0 r a

/-- The second group's gradient as the reference returns it. -/
theorem ref_group_1 (r : Fin 4096) (a : Fin 256) : val_main_v24 (F := Ideal) wg sc wo dy (ix2 r a) = dd wg sc wo dy 1 r a := by
  pointwise [val_main_v24, val_main_v23]
  exact ref_dd wg sc wo dy 1 r a

/-- The third group's gradient as the reference returns it. -/
theorem ref_group_2 (r : Fin 4096) (a : Fin 256) : val_main_v26 (F := Ideal) wg sc wo dy (ix2 r a) = dd wg sc wo dy 2 r a := by
  pointwise [val_main_v26, val_main_v25]
  exact ref_dd wg sc wo dy 2 r a

/-- The fourth group's gradient as the reference returns it. -/
theorem ref_group_3 (r : Fin 4096) (a : Fin 256) : val_main_v28 (F := Ideal) wg sc wo dy (ix2 r a) = dd wg sc wo dy 3 r a := by
  pointwise [val_main_v28, val_main_v27]
  exact ref_dd wg sc wo dy 3 r a

/-- The reference's last result. -/
theorem ref_dscale (i : Fin 8) (k : Fin 1024) :
    val_main_v30 (F := Ideal) d wg wo dy (ix2 i k) = dscale d wg wo dy i k := by
  pointwise [val_main_v30, val_main_v29, val_main_v13, val_main_v10, val_main_v9, hostReduceAdd_lead2, val_main_v8, val_main_v7, val_main_v2, val_main_v1, val_main_v0, val_main_cst, val_main_cst_0, val_main_c, val_main_call0_v0]
  unfold dscale mixed outCot
  split_ifs with h h' h'
  · simp only [Finset.univ_unique, Finset.sum_singleton]
    rw [sum_frames]
    refine Finset.sum_congr rfl fun r _ => ?_
    rw [mul_comm]
    refine congrArg _ (Finset.sum_congr rfl fun a _ => ?_)
    rw [mul_comm]
    rfl
  · omega
  · omega
  · simp [FloatOps.sitofp]

end Cert.COut

end

end
-- ==== Proof.COut.lean ====
module
public import proofs.«01_k».proof.Proof.COutRef
public import proofs.«01_k».proof.Proof.Gen.COutBwdIdeal.Value
public import proofs.«01_k».proof.Proof.Gen.COutBwdRefIdeal.Run
public import proofs.«01_k».proof.Proof.Rows
public import Idealize.ShloMosaic.Lib.StableHlo.RunRead

/-! What the grouped output map's backward kernel leaves in its result arrays. -/

@[expose] public section

set_option maxRecDepth 16384

noncomputable section

open Idealize.ShloMosaic Idealize.ShloMosaic.TcCoe Idealize.SL.Sem
open Idealize.ShloMosaic.Pipeline (Dat)

namespace Cert.COut.Kernel
open Cert.COutBwdIdeal Cert.COutBwdIdeal.Gen Cert.Common

variable (m : (ℓ : Loc nD τ sig) → Buf (Elt Ideal) ℓ)

/-- Which block each window reads or writes at a grid point: 512 rows for the windows over frames, and the whole array for the others. -/
theorem idx_val : ∀ t : Fin cfg0.N, win0_0.index t = ![t.val, 0]
    ∧ win0_1.index t = ![t.val, 0] ∧ win0_2.index t = ![t.val, 0] ∧ win0_3.index t = ![t.val, 0] ∧ win0_4.index t = ![t.val, 0]
    ∧ win0_5.index t = ![0, 0, 0] ∧ win0_6.index t = ![0, 0] ∧ win0_7.index t = ![0, 0]
    ∧ win0_8.index t = ![t.val, 0]
    ∧ win0_9.index t = ![t.val, 0] ∧ win0_10.index t = ![t.val, 0] ∧ win0_11.index t = ![t.val, 0] ∧ win0_12.index t = ![t.val, 0]
    ∧ win0_13.index t = ![0, 0] :=
  (by decide +kernel : ∀ t : Fin grid0.N, _)

variable (d : S2x2048x4x256.Idx → EReal) (wg : S4x256x256.Idx → EReal) (sc : S1024.Idx → EReal)
  (wo : S1024x1024.Idx → EReal) (dy : S2x2048x1024.Idx → EReal)

/-- There are eight grid points. -/
theorem lt8 (t : Fin cfg0.N) : t.val < 8 := lt_of_lt_of_eq t.isLt (show cfg0.N = 8 from N_0)

/-- The row of the whole array that row `q` of the point's block is. -/
def rw_ (t : Fin cfg0.N) (q : Fin 512) : Fin 4096 := row t.val (lt8 t) q

theorem blk0 (c : Dev nD) (t : Fin cfg0.N) (h : m ((c : Thread nD τ).loc main_arg4) = dy) (q : Fin 512) (k : Fin 1024) :
    iblk m c 0 t (ix2 q k) = dy (ix3 (ep (rw_ t q)) (fr (rw_ t q)) k) := by
  subst h
  blk_point [iblk, V, idx_val t] <;> simp only [rw_, row, ep, fr] <;> omega

theorem blk1 (c : Dev nD) (t : Fin cfg0.N) (h : m ((c : Thread nD τ).loc main_arg0) = d) (q : Fin 512) (a : Fin 256) :
    iblk m c 1 t (ix2 q a) = d (ix4 (ep (rw_ t q)) (fr (rw_ t q)) 0 a) := by
  subst h
  blk_point [iblk, V, idx_val t] <;> simp only [rw_, row, ep, fr] <;> omega

theorem blk2 (c : Dev nD) (t : Fin cfg0.N) (h : m ((c : Thread nD τ).loc main_arg0) = d) (q : Fin 512) (a : Fin 256) :
    iblk m c 2 t (ix2 q a) = d (ix4 (ep (rw_ t q)) (fr (rw_ t q)) 1 a) := by
  subst h
  blk_point [iblk, V, idx_val t] <;> simp only [rw_, row, ep, fr] <;> omega

theorem blk3 (c : Dev nD) (t : Fin cfg0.N) (h : m ((c : Thread nD τ).loc main_arg0) = d) (q : Fin 512) (a : Fin 256) :
    iblk m c 3 t (ix2 q a) = d (ix4 (ep (rw_ t q)) (fr (rw_ t q)) 2 a) := by
  subst h
  blk_point [iblk, V, idx_val t] <;> simp only [rw_, row, ep, fr] <;> omega

theorem blk4 (c : Dev nD) (t : Fin cfg0.N) (h : m ((c : Thread nD τ).loc main_arg0) = d) (q : Fin 512) (a : Fin 256) :
    iblk m c 4 t (ix2 q a) = d (ix4 (ep (rw_ t q)) (fr (rw_ t q)) 3 a) := by
  subst h
  blk_point [iblk, V, idx_val t] <;> simp only [rw_, row, ep, fr] <;> omega

theorem blk5 (c : Dev nD) (t : Fin cfg0.N) (h : m ((c : Thread nD τ).loc main_arg1) = wg) (g : Fin 4) (a b : Fin 256) :
    iblk m c 5 t (ix3 g a b) = wg (ix3 g a b) := by
  subst h
  blk_point [iblk, V, idx_val t]

theorem blk6 (c : Dev nD) (t : Fin cfg0.N) (h : m ((c : Thread nD τ).loc main_arg2) = sc) (k : Fin 1024) :
    iblk m c 6 t (ix2 0 k) = sc (ix1 k) := by
  subst h
  blk_point [iblk, V, idx_val t]

theorem blk7 (c : Dev nD) (t : Fin cfg0.N) (h : m ((c : Thread nD τ).loc main_arg3) = wo) (k o : Fin 1024) :
    iblk m c 7 t (ix2 k o) = wo (ix2 k o) := by
  subst h
  blk_point [iblk, V, idx_val t]

/-- The first output's block at a point. -/
theorem point_8 (c : Dev nD) (hsc : m ((c : Thread nD τ).loc main_arg2) = sc)
    (hwo : m ((c : Thread nD τ).loc main_arg3) = wo) (hdy : m ((c : Thread nD τ).loc main_arg4) = dy)
    (t : Fin cfg0.N) (q : Fin 512) (k : Fin 1024) :
    (outsAt0 m c t.val t.isLt).1 (ix2 q k) = dmixed sc wo dy (rw_ t q) k := by
  have h0 := blk0 m dy c t hdy
  have h6 := blk6 m sc c t hsc
  have h7 := blk7 m wo c t hwo
  by_cases hA : t.val % 8 = 0
  case' pos => rw [outsAt0_A m c t hA]
  case' neg => rw [outsAt0_B m c t hA]
  all_goals
    dsimp only
    frame_out
    generalize iblk m c 0 t = P0 at h0 ⊢
    generalize iblk m c 6 t = P6 at h6 ⊢
    generalize iblk m c 7 t = P7 at h7 ⊢
    pointwise [k0_pay10, k0_pay3]
    simp only [h0, h6, h7]
    rfl

/-- A group's tile of the two products, its weights one slice of the group's map. -/
theorem tile (t : Fin cfg0.N) (P0 : S512x1024.Idx → EReal) (P5 : S4x256x256.Idx → EReal) (P6 : S1x1024.Idx → EReal) (P7 : S1024x1024.Idx → EReal)
    (h0 : ∀ q k, P0 (ix2 q k) = dy (ix3 (ep (rw_ t q)) (fr (rw_ t q)) k)) (h5 : ∀ g a b, P5 (ix3 g a b) = wg (ix3 g a b))
    (h6 : ∀ k, P6 (ix2 0 k) = sc (ix1 k)) (h7 : ∀ k o, P7 (ix2 k o) = wo (ix2 k o)) (g : Fin 4) (q : Fin 512) (k : Fin 256) :
    ∑ x, (∑ o, P0 (ix2 q o) * P7 (ix2 (colOf g x) o)) * P6 (ix2 0 (colOf g x)) * P5 (ix3 g k x) = dd wg sc wo dy g (rw_ t q) k := by
  simp only [h0, h5, h6, h7]
  rfl

/-- The gradient of the first group, a block at a point. -/
theorem point_9 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy)
    (t : Fin cfg0.N) (q : Fin 512) (k : Fin 256) :
    (outsAt0 m c t.val t.isLt).2.1 (ix2 q k) = dd wg sc wo dy 0 (rw_ t q) k := by
  by_cases hA : t.val % 8 = 0
  case' pos => rw [outsAt0_A m c t hA]
  case' neg => rw [outsAt0_B m c t hA]
  all_goals
    dsimp only
    frame_out
    rw [← tile wg sc wo dy t _ _ _ _ (blk0 m dy c t hdy) (blk5 m wg c t hwg) (blk6 m sc c t hsc) (blk7 m wo c t hwo) 0 q k]
    generalize iblk m c 0 t = P0
    generalize iblk m c 5 t = P5
    generalize iblk m c 6 t = P6
    generalize iblk m c 7 t = P7
    pointwise [k0_pay11, k0_pay10, k0_pay3]
    simp only [show ∀ b, colOf 0 b = ⟨b.val, by omega⟩ from fun b => Fin.ext (by simp [colOf])]

/-- The gradient of the second group, a block at a point. -/
theorem point_10 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy)
    (t : Fin cfg0.N) (q : Fin 512) (k : Fin 256) :
    (outsAt0 m c t.val t.isLt).2.2.1 (ix2 q k) = dd wg sc wo dy 1 (rw_ t q) k := by
  by_cases hA : t.val % 8 = 0
  case' pos => rw [outsAt0_A m c t hA]
  case' neg => rw [outsAt0_B m c t hA]
  all_goals
    dsimp only
    frame_out
    rw [← tile wg sc wo dy t _ _ _ _ (blk0 m dy c t hdy) (blk5 m wg c t hwg) (blk6 m sc c t hsc) (blk7 m wo c t hwo) 1 q k]
    generalize iblk m c 0 t = P0
    generalize iblk m c 5 t = P5
    generalize iblk m c 6 t = P6
    generalize iblk m c 7 t = P7
    pointwise [k0_pay12, k0_pay10, k0_pay3]
    simp only [show ∀ b, colOf 1 b = ⟨256 + b.val, by omega⟩ from fun b => Fin.ext (by simp [colOf])]

/-- The gradient of the third group, a block at a point. -/
theorem point_11 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy)
    (t : Fin cfg0.N) (q : Fin 512) (k : Fin 256) :
    (outsAt0 m c t.val t.isLt).2.2.2.1 (ix2 q k) = dd wg sc wo dy 2 (rw_ t q) k := by
  by_cases hA : t.val % 8 = 0
  case' pos => rw [outsAt0_A m c t hA]
  case' neg => rw [outsAt0_B m c t hA]
  all_goals
    dsimp only
    frame_out
    rw [← tile wg sc wo dy t _ _ _ _ (blk0 m dy c t hdy) (blk5 m wg c t hwg) (blk6 m sc c t hsc) (blk7 m wo c t hwo) 2 q k]
    generalize iblk m c 0 t = P0
    generalize iblk m c 5 t = P5
    generalize iblk m c 6 t = P6
    generalize iblk m c 7 t = P7
    pointwise [k0_pay13, k0_pay10, k0_pay3]
    simp only [show ∀ b, colOf 2 b = ⟨512 + b.val, by omega⟩ from fun b => Fin.ext (by simp [colOf])]

/-- The gradient of the fourth group, a block at a point. -/
theorem point_12 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy)
    (t : Fin cfg0.N) (q : Fin 512) (k : Fin 256) :
    (outsAt0 m c t.val t.isLt).2.2.2.2.1 (ix2 q k) = dd wg sc wo dy 3 (rw_ t q) k := by
  by_cases hA : t.val % 8 = 0
  case' pos => rw [outsAt0_A m c t hA]
  case' neg => rw [outsAt0_B m c t hA]
  all_goals
    dsimp only
    frame_out
    rw [← tile wg sc wo dy t _ _ _ _ (blk0 m dy c t hdy) (blk5 m wg c t hwg) (blk6 m sc c t hsc) (blk7 m wo c t hwo) 3 q k]
    generalize iblk m c 0 t = P0
    generalize iblk m c 5 t = P5
    generalize iblk m c 6 t = P6
    generalize iblk m c 7 t = P7
    pointwise [k0_pay1, k0_pay10, k0_pay3]
    simp only [show ∀ b, colOf 3 b = ⟨768 + b.val, by omega⟩ from fun b => Fin.ext (by simp [colOf])]

/-- One point's share of the scale's gradient. -/
def part (t : Fin cfg0.N) (k : Fin 1024) : EReal :=
  ∑ q : Fin 512, outCot wo dy (rw_ t q) k * mixed d wg (rw_ t q) k

/-- The scale's row of one point: the kernel adds to its accumulator the sum over the point's rows. -/
theorem scale_row (t : Fin cfg0.N) (X0 : S512x1024.Idx → EReal) (X7 : S1024x1024.Idx → EReal) (D0 D1 D2 D3 : S512x256.Idx → EReal)
    (G0 G1 G2 G3 : S1x256x256.Idx → EReal) (acc : S1x1024.Idx → EReal) (k : Fin 1024)
    (h0 : ∀ q k, X0 (ix2 q k) = dy (ix3 (ep (rw_ t q)) (fr (rw_ t q)) k)) (h7 : ∀ k o, X7 (ix2 k o) = wo (ix2 k o))
    (hD0 : ∀ q a, D0 (ix2 q a) = d (ix4 (ep (rw_ t q)) (fr (rw_ t q)) 0 a)) (hD1 : ∀ q a, D1 (ix2 q a) = d (ix4 (ep (rw_ t q)) (fr (rw_ t q)) 1 a))
    (hD2 : ∀ q a, D2 (ix2 q a) = d (ix4 (ep (rw_ t q)) (fr (rw_ t q)) 2 a)) (hD3 : ∀ q a, D3 (ix2 q a) = d (ix4 (ep (rw_ t q)) (fr (rw_ t q)) 3 a))
    (hG0 : ∀ a b, G0 (ix3 0 a b) = wg (ix3 0 a b)) (hG1 : ∀ a b, G1 (ix3 0 a b) = wg (ix3 1 a b))
    (hG2 : ∀ a b, G2 (ix3 0 a b) = wg (ix3 2 a b)) (hG3 : ∀ a b, G3 (ix3 0 a b) = wg (ix3 3 a b)) :
    k0_pay9 (F := Ideal) (k0_pay3 (F := Ideal) X0 X7) (k0_pay4 (F := Ideal) D0 G0) (k0_pay5 (F := Ideal) D1 G1) (k0_pay6 (F := Ideal) D2 G2)
        (k0_pay7 (F := Ideal) D3) (k0_pay8 (F := Ideal) G3) acc (ix2 0 k)
      = acc (ix2 0 k) + part d wg wo dy t k := by
  pointwise [k0_pay9, k0_pay3, k0_pay4, k0_pay5, k0_pay6, k0_pay7, k0_pay8]
  simp only [h0, h7, hD0, hD1, hD2, hD3, hG0, hG1, hG2, hG3]
  refine congrArg _ (Finset.sum_congr rfl fun q _ => congrArg _ ?_)
  have e : ∀ (g : Fin 4) (b : Fin 256), k.val = 256 * g.val + b.val → grp k = g ∧ chn k = b := fun g b h =>
    ⟨Fin.ext (by simp only [grp]; omega), Fin.ext (by simp only [chn]; omega)⟩
  unfold mixed
  by_cases p0 : k.val < 256
  · have h := e 0 ⟨k.val, p0⟩ (by show k.val = 256 * 0 + k.val; omega)
    rw [dif_pos p0, h.1, h.2]
  rw [dif_neg p0]
  by_cases p1 : k.val - 256 < 256
  · have h := e 1 ⟨k.val - 256, p1⟩ (by show k.val = 256 * 1 + (k.val - 256); omega)
    rw [dif_pos p1, h.1, h.2]
  rw [dif_neg p1]
  by_cases p2 : k.val - 256 - 256 < 256
  · have h := e 2 ⟨k.val - 256 - 256, p2⟩ (by show k.val = 256 * 2 + (k.val - 256 - 256); omega)
    rw [dif_pos p2, h.1, h.2]
  · have hk := k.isLt
    have h := e 3 ⟨k.val - 256 - 256 - 256, by omega⟩ (by show k.val = 256 * 3 + (k.val - 256 - 256 - 256); omega)
    rw [dif_neg p2, h.1, h.2]

/-- The scale's accumulator after the first point. -/
theorem point_13_A (c : Dev nD) (hd : m ((c : Thread nD τ).loc main_arg0) = d) (hwg : m ((c : Thread nD τ).loc main_arg1) = wg)
    (hwo : m ((c : Thread nD τ).loc main_arg3) = wo) (hdy : m ((c : Thread nD τ).loc main_arg4) = dy)
    (t : Fin cfg0.N) (hA : t.val % 8 = 0) (r : Fin 8) (k : Fin 1024) :
    (outsAt0 m c t.val t.isLt).2.2.2.2.2 (ix2 r k) = if r.val = 0 then part d wg wo dy t k else 0 := by
  have h5 := blk5 m wg c t hwg
  rw [outsAt0_A m c t hA]
  dsimp only
  frame_out
  generalize iblk m c 5 t = P5 at h5 ⊢
  rw [Rows.canon_row_at]
  by_cases h : r.val = 0
  · obtain rfl : r = 0 := Fin.ext h
    rw [if_pos (show (0 : Fin 8).val = 0 from rfl), if_pos (show (0 : Fin 8).val = 0 from rfl), scale_row d wg wo dy t (h0 := blk0 m dy c t hdy) (h7 := blk7 m wo c t hwo) (hD0 := blk1 m d c t hd) (hD1 := blk2 m d c t hd)
      (hD2 := blk3 m d c t hd) (hD3 := blk4 m d c t hd)
      (hG0 := fun a b => by pointwise; exact h5 0 a b) (hG1 := fun a b => by pointwise; exact h5 1 a b)
      (hG2 := fun a b => by pointwise; exact h5 2 a b) (hG3 := fun a b => by pointwise; exact h5 3 a b),
      Rows.readCov_row_at _ (by decide), Rows.canon_fill]
    pointwise [k0_pay2]
  · rw [if_neg h, if_neg h, Rows.canon_fill]
    pointwise [k0_pay2]

/-- The scale's accumulator after a later point. -/
theorem point_13_B (c : Dev nD) (hd : m ((c : Thread nD τ).loc main_arg0) = d) (hwg : m ((c : Thread nD τ).loc main_arg1) = wg)
    (hwo : m ((c : Thread nD τ).loc main_arg3) = wo) (hdy : m ((c : Thread nD τ).loc main_arg4) = dy)
    (t : Fin cfg0.N) (hB : ¬ t.val % 8 = 0) (r : Fin 8) (k : Fin 1024) :
    (outsAt0 m c t.val t.isLt).2.2.2.2.2 (ix2 r k)
      = (outsAt0 m c (t.val - 1) (Nat.lt_of_le_of_lt (Nat.sub_le _ _) t.isLt)).2.2.2.2.2 (ix2 r k) + if r.val = 0 then part d wg wo dy t k else 0 := by
  have h5 := blk5 m wg c t hwg
  rw [outsAt0_B m c t hB]
  dsimp only
  frame_out
  generalize iblk m c 5 t = P5 at h5 ⊢
  generalize (outsAt0 m c (t.val - 1) _).2.2.2.2.2 = prev
  rw [Rows.read_row_at]
  by_cases h : r.val = 0
  · obtain rfl : r = 0 := Fin.ext h
    rw [if_pos (show (0 : Fin 8).val = 0 from rfl), if_pos (show (0 : Fin 8).val = 0 from rfl), scale_row d wg wo dy t (h0 := blk0 m dy c t hdy) (h7 := blk7 m wo c t hwo) (hD0 := blk1 m d c t hd) (hD1 := blk2 m d c t hd)
      (hD2 := blk3 m d c t hd) (hD3 := blk4 m d c t hd)
      (hG0 := fun a b => by pointwise; exact h5 0 a b) (hG1 := fun a b => by pointwise; exact h5 1 a b)
      (hG2 := fun a b => by pointwise; exact h5 2 a b) (hG3 := fun a b => by pointwise; exact h5 3 a b)]
    pointwise
  · rw [if_neg h, if_neg h, add_zero, Rows.read_none]

/-- What the kernel leaves in its first result. -/
theorem final_8 (c : Dev nD) (hsc : m ((c : Thread nD τ).loc main_arg2) = sc)
    (hwo : m ((c : Thread nD τ).loc main_arg3) = wo) (hdy : m ((c : Thread nD τ).loc main_arg4) = dy) :
    (dats m 0 c).arrAt 8 cfg0.N = fun i : S4096x1024.Idx => dmixed sc wo dy (i 0) (i 1) := by
  refine (dats m 0 c).arrAt_eq_of_covers 8 _ (by decide +kernel) fun t hf y => ?_
  obtain ⟨q, k, rfl⟩ : ∃ (q : Fin 512) (k : Fin 1024), y = ix2 q k := ⟨y 0, y 1, eq_ix2 y⟩
  blk_simp
  rw [after0_8, point_8 m sc wo dy c hsc hwo hdy t q k]
  congr 1 <;> apply Fin.ext <;> simp only [rw_, row] <;> blk_simp [idx_val t] <;> (try simp) <;> omega

/-- What the kernel leaves in its second result. -/
theorem final_9 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy) :
    (dats m 0 c).arrAt 9 cfg0.N = fun i : S4096x256.Idx => dd wg sc wo dy 0 (i 0) (i 1) := by
  refine (dats m 0 c).arrAt_eq_of_covers 9 _ (by decide +kernel) fun t hf y => ?_
  obtain ⟨q, k, rfl⟩ : ∃ (q : Fin 512) (k : Fin 256), y = ix2 q k := ⟨y 0, y 1, eq_ix2 y⟩
  blk_simp
  rw [after0_9, point_9 m wg sc wo dy c hwg hsc hwo hdy t q k]
  congr 1 <;> apply Fin.ext <;> simp only [rw_, row] <;> blk_simp [idx_val t] <;> (try simp) <;> omega

/-- What the kernel leaves in its third result. -/
theorem final_10 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy) :
    (dats m 0 c).arrAt 10 cfg0.N = fun i : S4096x256.Idx => dd wg sc wo dy 1 (i 0) (i 1) := by
  refine (dats m 0 c).arrAt_eq_of_covers 10 _ (by decide +kernel) fun t hf y => ?_
  obtain ⟨q, k, rfl⟩ : ∃ (q : Fin 512) (k : Fin 256), y = ix2 q k := ⟨y 0, y 1, eq_ix2 y⟩
  blk_simp
  rw [after0_10, point_10 m wg sc wo dy c hwg hsc hwo hdy t q k]
  congr 1 <;> apply Fin.ext <;> simp only [rw_, row] <;> blk_simp [idx_val t] <;> (try simp) <;> omega

/-- What the kernel leaves in its fourth result. -/
theorem final_11 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy) :
    (dats m 0 c).arrAt 11 cfg0.N = fun i : S4096x256.Idx => dd wg sc wo dy 2 (i 0) (i 1) := by
  refine (dats m 0 c).arrAt_eq_of_covers 11 _ (by decide +kernel) fun t hf y => ?_
  obtain ⟨q, k, rfl⟩ : ∃ (q : Fin 512) (k : Fin 256), y = ix2 q k := ⟨y 0, y 1, eq_ix2 y⟩
  blk_simp
  rw [after0_11, point_11 m wg sc wo dy c hwg hsc hwo hdy t q k]
  congr 1 <;> apply Fin.ext <;> simp only [rw_, row] <;> blk_simp [idx_val t] <;> (try simp) <;> omega

/-- What the kernel leaves in its fifth result. -/
theorem final_12 (c : Dev nD) (hwg : m ((c : Thread nD τ).loc main_arg1) = wg) (hsc : m ((c : Thread nD τ).loc main_arg2) = sc)
    (hwo : m ((c : Thread nD τ).loc main_arg3) = wo) (hdy : m ((c : Thread nD τ).loc main_arg4) = dy) :
    (dats m 0 c).arrAt 12 cfg0.N = fun i : S4096x256.Idx => dd wg sc wo dy 3 (i 0) (i 1) := by
  refine (dats m 0 c).arrAt_eq_of_covers 12 _ (by decide +kernel) fun t hf y => ?_
  obtain ⟨q, k, rfl⟩ : ∃ (q : Fin 512) (k : Fin 256), y = ix2 q k := ⟨y 0, y 1, eq_ix2 y⟩
  blk_simp
  rw [after0_12, point_12 m wg sc wo dy c hwg hsc hwo hdy t q k]
  congr 1 <;> apply Fin.ext <;> simp only [rw_, row] <;> blk_simp [idx_val t] <;> (try simp) <;> omega

/-- What the kernel leaves in its last result: the gradient of the scale, below it rows of zeros. -/
theorem final_13 (c : Dev nD) (hd : m ((c : Thread nD τ).loc main_arg0) = d) (hwg : m ((c : Thread nD τ).loc main_arg1) = wg)
    (hwo : m ((c : Thread nD τ).loc main_arg3) = wo) (hdy : m ((c : Thread nD τ).loc main_arg4) = dy) :
    (dats m 0 c).arrAt 13 cfg0.N = fun i : S8x1024.Idx => dscale d wg wo dy (i 0) (i 1) := by
  refine (dats m 0 c).arrAt_eq_of_covers 13 _ (by decide +kernel) fun t hf y => ?_
  obtain ⟨r, k, rfl⟩ : ∃ (r : Fin 8) (k : Fin 1024), y = ix2 r k := ⟨y 0, y 1, eq_ix2 y⟩
  blk_simp
  rw [after0_13, Pipeline.eq_sum_fin_of_reset_step_apply_of_flush (fun n h => (outsAt0 m c n h).2.2.2.2.2) 8 (fun _ => 0)
    (fun t y => if (y 0).val = 0 then part d wg wo dy t (y 1) else 0)
    (fun t h j => by
      obtain ⟨r, k, rfl⟩ : ∃ (r : Fin 8) (k : Fin 1024), j = ix2 r k := ⟨j 0, j 1, eq_ix2 j⟩
      rw [zero_add]
      exact point_13_A m d wg wo dy c hd hwg hwo hdy t h r k)
    (fun t h j => by
      obtain ⟨r, k, rfl⟩ : ∃ (r : Fin 8) (k : Fin 1024), j = ix2 r k := ⟨j 0, j 1, eq_ix2 j⟩
      exact point_13_B m d wg wo dy c hd hwg hwo hdy t h r k)
    t ((flush0_13 t).mp hf) _, zero_add]
  have hN := lt8 t
  have e0 : (win0_13.blk t).view.emb (ix2 r k) 0 = r := by
    apply Fin.ext; blk_simp [idx_val t]
  have e1 : (win0_13.blk t).view.emb (ix2 r k) 1 = k := by
    apply Fin.ext; blk_simp [idx_val t]
  rw [e0, e1]
  show ∑ s : Fin 8, (if r.val = 0 then part d wg wo dy ⟨8 * (t.val / 8) + s.val, _⟩ k else 0) = _
  unfold dscale
  by_cases h : r.val = 0
  · simp only [if_pos h]
    unfold part
    rw [← sum_tiles]
    refine Finset.sum_congr rfl fun s _ => Finset.sum_congr rfl fun q _ => ?_
    rw [show rw_ ⟨8 * (t.val / 8) + s.val, _⟩ q = row s.val s.isLt q from Fin.ext (by simp only [rw_, row]; omega)]
  · simp only [if_neg h, Finset.sum_const_zero]

end Cert.COut.Kernel

end

end
-- ==== Proof.COutPair.lean ====
module
public import proofs.«01_k».proof.Defs
public import proofs.«01_k».proof.Proof.Gen.COutBwd.Frame
public import proofs.«01_k».proof.Proof.Gen.COutBwdIdeal.Frame
public import proofs.«01_k».proof.Proof.Gen.COutBwdRefIdeal
public import proofs.«01_k».proof.Proof.COut
public import Idealize.ShloMosaic.Lib.Claim
public import Idealize.ShloMosaic.Adequacy
public import Idealize.ShloMosaic.Init

/-! The grouped output map's backward kernel beside its reference. -/

@[expose] public section

set_option maxRecDepth 16384

noncomputable section

namespace Cert.COut

open Idealize.ShloMosaic Idealize.ShloMosaic.TcCoe Idealize.SL.Sem

/-- The grouped output map's kernel and its reference leave the same arrays. -/
theorem values : algebraic_COutBwdIdeal_COutBwdRefIdeal (hCOutBwdIdeal := Cert.COutBwdIdeal.Gen.facts)
    (hCOutBwdRefIdeal := Cert.COutBwdRefIdeal.Gen.facts) := by
  pair_intro
  · run_from Cert.COutBwdIdeal.Value.run_blocks m g
  · run_from Cert.COutBwdRefIdeal.Value.run m' g'
    all_goals
      obtain ⟨e0, e1, e2, e3, e4⟩ := hagree c
    · rw [Kernel.final_8 m _ _ _ c rfl rfl rfl]
      refine Eq.trans (Cert.COutBwdRefIdeal.Read.val_main_v20_eq (F := Ideal) _ _ _) ?_
      try rw [e2, e3, e4]
      funext i
      obtain ⟨r, k, rfl⟩ : ∃ r k, i = ValueIdx.ix2 r k := ⟨i 0, i 1, ValueIdx.eq_ix2 i⟩
      exact ref_dmixed _ _ _ r k
    · rw [Kernel.final_9 m _ _ _ _ c rfl rfl rfl rfl]
      refine Eq.trans (Cert.COutBwdRefIdeal.Read.val_main_v22_eq (F := Ideal) _ _ _ _) ?_
      try rw [e1, e2, e3, e4]
      funext i
      obtain ⟨r, a, rfl⟩ : ∃ r a, i = ValueIdx.ix2 r a := ⟨i 0, i 1, ValueIdx.eq_ix2 i⟩
      exact ref_group_0 _ _ _ _ r a
    · rw [Kernel.final_10 m _ _ _ _ c rfl rfl rfl rfl]
      refine Eq.trans (Cert.COutBwdRefIdeal.Read.val_main_v24_eq (F := Ideal) _ _ _ _) ?_
      try rw [e1, e2, e3, e4]
      funext i
      obtain ⟨r, a, rfl⟩ : ∃ r a, i = ValueIdx.ix2 r a := ⟨i 0, i 1, ValueIdx.eq_ix2 i⟩
      exact ref_group_1 _ _ _ _ r a
    · rw [Kernel.final_11 m _ _ _ _ c rfl rfl rfl rfl]
      refine Eq.trans (Cert.COutBwdRefIdeal.Read.val_main_v26_eq (F := Ideal) _ _ _ _) ?_
      try rw [e1, e2, e3, e4]
      funext i
      obtain ⟨r, a, rfl⟩ : ∃ r a, i = ValueIdx.ix2 r a := ⟨i 0, i 1, ValueIdx.eq_ix2 i⟩
      exact ref_group_2 _ _ _ _ r a
    · rw [Kernel.final_12 m _ _ _ _ c rfl rfl rfl rfl]
      refine Eq.trans (Cert.COutBwdRefIdeal.Read.val_main_v28_eq (F := Ideal) _ _ _ _) ?_
      try rw [e1, e2, e3, e4]
      funext i
      obtain ⟨r, a, rfl⟩ : ∃ r a, i = ValueIdx.ix2 r a := ⟨i 0, i 1, ValueIdx.eq_ix2 i⟩
      exact ref_group_3 _ _ _ _ r a
    · rw [Kernel.final_13 m _ _ _ _ c rfl rfl rfl rfl]
      refine Eq.trans (Cert.COutBwdRefIdeal.Read.val_main_v30_eq (F := Ideal) _ _ _ _) ?_
      try rw [e0, e1, e3, e4]
      funext i
      obtain ⟨r, k, rfl⟩ : ∃ r k, i = ValueIdx.ix2 r k := ⟨i 0, i 1, ValueIdx.eq_ix2 i⟩
      exact ref_dscale _ _ _ _ r k

/-- The reference keeps its arguments; it declares no counter. -/
theorem ref_frame : quiescent_COutBwdRefIdeal (hCOutBwdRefIdeal := Cert.COutBwdRefIdeal.Gen.facts) := fun m g _ =>
  (θ_run Cert.COutBwdRefIdeal.defs _ _).mono (fun r h => ⟨fun c => (h c).2.2.2.2.2.2, sem_eq_zero_of_no_sems (by decide) r.2⟩)
    (Cert.COutBwdRefIdeal.Value.run (F := Ideal) m g)

end Cert.COut

end

end
-- ==== Proof.Reals.lean ====
module
public import Idealize.ShloMosaic.Lib.Pointwise
public import Mathlib.Tactic.Ring
public import Mathlib.Tactic.FieldSimp
public import Mathlib.Tactic.NormNum
public import Mathlib.Tactic.Linarith
public import Mathlib.Tactic.Positivity

/-! Finite arrays as arrays of reals, and the gradient of a root-mean-square norm over them. -/

@[expose] public section

set_option maxRecDepth 16384

noncomputable section

open Idealize.ShloMosaic

namespace Cert.Reals

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite number is real. -/
theorem lift {x : EReal} (h : max x (-x) < ⊤) : ∃ r : ℝ, x = r := by
  induction x using EReal.rec with
  | bot => simp at h
  | coe r => exact ⟨r, rfl⟩
  | top => simp at h

/-- A finite array is an array of reals. -/
theorem lift_fun {α : Type} {f : α → EReal} (h : ∀ i, max (f i) (-f i) < ⊤) : ∃ F : α → ℝ, f = fun i => ((F i : ℝ) : EReal) :=
  ⟨fun i => (lift (h i)).choose, funext fun i => (lift (h i)).choose_spec⟩

end Cert.Reals

end

end
-- ==== Proof.Norm.lean ====
module
public import proofs.«01_k».proof.Proof.Reals

/-! The gradient of a root-mean-square norm: the form the kernels compute and the form of the differentiated reference,
equal on finite rows. -/

@[expose] public section

set_option maxRecDepth 16384

noncomputable section

open Idealize.ShloMosaic

namespace Cert.Norm
open Cert.Reals

/-- The row's length, the norm's small constant, and minus one half, as the programs write them. -/
def len : EReal := Ideal.ofBits FTy.f32 1149239296#32
def eps : EReal := Ideal.ofBits FTy.f32 897988541#32
def mhalf : EReal := Ideal.ofBits FTy.f32 3204448256#32

/-- The row's mean square and its reciprocal root. -/
def ms (a : Fin 1024 → EReal) : EReal := Ideal.div (∑ j, a j * a j) len + eps
def rr (a : Fin 1024 → EReal) : EReal := Ideal.rsqrt (ms a)

/-- The gradient of the row in the kernels' form. -/
def kerDx (a dh g : Fin 1024 → EReal) (k : Fin 1024) : EReal :=
  rr a * (dh k * g k - a k * rr a * Ideal.div (∑ j, dh j * g j * (a j * rr a)) len)

/-- The mean square's share of the row's gradient in the reference's form. -/
def refMs (a dh g : Fin 1024 → EReal) : EReal :=
  ∑ _x : Fin 1, Ideal.div ((∑ j, a j * (dh j * g j)) * (mhalf * Ideal.div (rr a) (ms a))) len

/-- The gradient of the row in the reference's form. -/
def refDx (a dh g : Fin 1024 → EReal) (k : Fin 1024) : EReal :=
  dh k * g k * rr a + a k * refMs a dh g + refMs a dh g * a k

theorem len_eq : len = ((1024 : ℝ) : EReal) := by
  unfold len
  simp [Ideal.ofBits, Ideal.ieee, -EReal.coe_mul]
  norm_num

theorem mhalf_eq : mhalf = ((-1 / 2 : ℝ) : EReal) := by
  unfold mhalf
  simp [Ideal.ofBits, Ideal.ieee, -EReal.coe_mul]
  norm_num

theorem eps_eq : ∃ e : ℝ, 0 < e ∧ eps = (e : EReal) := by
  refine ⟨8796093 / 2 ^ 43, by positivity, ?_⟩
  unfold eps
  simp [Ideal.ofBits, Ideal.ieee, -EReal.coe_mul]
  norm_num

/-- A finite row's reciprocal root is real, and its square is the mean square's inverse. -/
theorem rr_real (a : Fin 1024 → ℝ) : ∃ q v : ℝ, 0 ≤ q ∧ v ≠ 0 ∧ 1 / v = q * q ∧ rr (fun k => (a k : EReal)) = q ∧ ms (fun k => (a k : EReal)) = v := by
  obtain ⟨e, he, h⟩ := eps_eq
  have hv : 0 < (∑ j, a j * a j) * (1 / 1024) + e := by
    have : 0 ≤ ∑ j, a j * a j := Finset.sum_nonneg fun j _ => mul_self_nonneg _
    linarith
  have hm : ms (fun k => (a k : EReal)) = (((∑ j, a j * a j) * (1 / 1024) + e : ℝ) : EReal) := by
    unfold ms
    rw [len_eq, h]
    simp only [← EReal.coe_mul, coe_sum, Ideal.div_coe (show (1024 : ℝ) ≠ 0 by norm_num), ← EReal.coe_add]
  refine ⟨(Real.sqrt ((∑ j, a j * a j) * (1 / 1024) + e))⁻¹, _, inv_nonneg.mpr (Real.sqrt_nonneg _), hv.ne', ?_, ?_, hm⟩
  · rw [← mul_inv, Real.mul_self_sqrt hv.le, one_div]
  · unfold rr
    rw [hm, Ideal.rsqrt_coe, if_neg (by linarith), if_neg hv.ne']

/-- A real that is not negative goes inside a sum of extended reals. -/
theorem mul_sum_nonneg {ι : Type} (s : Finset ι) (q : ℝ) (hq : 0 ≤ q) (f : ι → EReal) : (q : EReal) * ∑ i ∈ s, f i = ∑ i ∈ s, (q : EReal) * f i := by
  classical
  induction s using Finset.induction_on with
  | empty => simp
  | insert a s ha ih =>
    rw [Finset.sum_insert ha, Finset.sum_insert ha, ← ih,
      EReal.left_distrib_of_nonneg_of_ne_top (by exact_mod_cast hq) (EReal.coe_ne_top _)]

/-- Twice an extended real. -/
theorem add_self (y : EReal) : y + y = ((2 : ℝ) : EReal) * y := by
  induction y using EReal.rec with
  | bot => rw [EReal.coe_mul_bot_of_pos (by norm_num)]; rfl
  | coe r => rw [← EReal.coe_add, ← EReal.coe_mul]; exact congrArg _ (by ring)
  | top => rw [EReal.coe_mul_top_of_pos (by norm_num)]; rfl

/-- A row with an infinite element has no reciprocal root. -/
theorem rr_inf (a : Fin 1024 → EReal) (j : Fin 1024) (h : ¬ max (a j) (-a j) < ⊤) : ms a = ⊤ ∧ rr a = 0 := by
  have hj : a j * a j = ⊤ := by
    generalize a j = y at h ⊢
    induction y using EReal.rec with
    | bot => exact EReal.bot_mul_bot
    | coe r => exact absurd (by simp [← EReal.coe_neg, EReal.coe_lt_top]) h
    | top => exact EReal.top_mul_top
  have hn : ∀ i ∈ Finset.univ, 0 ≤ a i * a i := fun i _ => by
    generalize a i = y
    induction y using EReal.rec with
    | bot => simp
    | coe r => rw [← EReal.coe_mul]; exact_mod_cast mul_self_nonneg r
    | top => simp
  have hS : ∑ i, a i * a i = ⊤ := by
    refine top_le_iff.mp ?_
    rw [← hj]
    exact Finset.single_le_sum hn (Finset.mem_univ j)
  obtain ⟨e, he, h'⟩ := eps_eq
  have hm : ms a = ⊤ := by
    unfold ms
    rw [hS, len_eq, h', Ideal.div_coe (by norm_num), EReal.top_mul_coe_of_pos (by norm_num)]
    rfl
  exact ⟨hm, by unfold rr; rw [hm]; rfl⟩

/-- The two forms of the row's gradient agree. -/
theorem dx_eq (a dh g : Fin 1024 → EReal) (k : Fin 1024) : refDx a dh g k = kerDx a dh g k := by
  unfold refDx refMs kerDx
  by_cases h : ∀ j, max (a j) (-a j) < ⊤
  · obtain ⟨a, rfl⟩ := lift_fun h
    obtain ⟨q, v, hq0, hv, hq, hr, hm⟩ := rr_real a
    rw [hr, hm, len_eq, mhalf_eq]
    simp only [← EReal.coe_mul, Ideal.div_coe (show (1024 : ℝ) ≠ 0 by norm_num), Ideal.div_coe hv, Finset.univ_unique, Finset.sum_singleton]
    have hS : ∑ j, dh j * g j * ((a j * q : ℝ) : EReal) = q * ∑ j, (a j : EReal) * (dh j * g j) := by
      rw [mul_sum_nonneg _ q hq0]
      exact Finset.sum_congr rfl fun j _ => by rw [EReal.coe_mul, mul_comm, mul_comm (a j : EReal), mul_assoc]
    rw [hS]
    generalize ∑ j, (a j : EReal) * (dh j * g j) = S
    rw [EReal.mul_sub_of_nonneg_of_ne_top (by exact_mod_cast hq0) (EReal.coe_ne_top _), add_assoc, mul_comm _ (a k : EReal), add_self,
      mul_comm _ (q : EReal), sub_eq_add_neg]
    refine congrArg _ ?_
    have e1 : ((2 : ℝ) : EReal) * ((a k : EReal) * (S * ((-1 / 2 * (q * (1 / v)) : ℝ) : EReal) * ((1 / 1024 : ℝ) : EReal)))
        = S * ((-(q * q * q * a k / 1024) : ℝ) : EReal) := by
      rw [show (-(q * q * q * a k / 1024) : ℝ) = 2 * (a k * ((-1 / 2 * (q * (1 / v))) * (1 / 1024))) by rw [hq]; ring]
      simp only [EReal.coe_mul]
      ac_rfl
    have e2 : (q : EReal) * (((a k * q : ℝ) : EReal) * (↑q * S * ((1 / 1024 : ℝ) : EReal))) = S * ((q * q * q * a k / 1024 : ℝ) : EReal) := by
      rw [show (q * q * q * a k / 1024 : ℝ) = q * (a k * q * (q * (1 / 1024))) by ring]
      simp only [EReal.coe_mul]
      ac_rfl
    rw [e1, e2, EReal.coe_neg, mul_neg]
  · obtain ⟨j, hj⟩ := not_forall.mp h
    obtain ⟨hm, hr⟩ := rr_inf a j hj
    rw [hr, hm]
    have h0 : Ideal.div 0 (⊤ : EReal) = 0 := by simp [Ideal.div]
    rw [h0, len_eq]
    simp only [Ideal.div_coe (show (1024 : ℝ) ≠ 0 by norm_num), mul_zero, zero_mul, Finset.sum_const_zero, add_zero]

end Cert.Norm

end

end
-- ==== Proof.InProj.lean ====
module
public import proofs.«01_k».proof.Proof.Common
public import proofs.«01_k».proof.Proof.Norm

/-! The gradients of a normalised input projection, as the programs' results: of the input, added to what the residual
connection carries, and of the norm's gain. -/

@[expose] public section

set_option maxRecDepth 16384

noncomputable section

open Idealize.ShloMosaic Idealize.ShloMosaic.TcCoe

namespace Cert.InProj
open Cert.Common Cert.Norm Cert.Reals

variable {n : ℕ} (x : (⟨3, ![2, 2048, 1024]⟩ : Shape).Idx → EReal) (g : (⟨1, ![1024]⟩ : Shape).Idx → EReal)
  (w : (⟨2, ![1024, n]⟩ : Shape).Idx → EReal) (dz : (⟨3, ![2, 2048, n]⟩ : Shape).Idx → EReal) (dres : (⟨3, ![2, 2048, 1024]⟩ : Shape).Idx → EReal)

/-- One row of an array over frames. -/
def xrow (r : Fin 4096) : Fin 1024 → EReal := fun k => x (ix3 (ep r) (fr r) k)

/-- The gain as a row. -/
def gain : Fin 1024 → EReal := fun k => g (ix1 k)

/-- The gradient that the projection hands to one row of its input. -/
def back (r : Fin 4096) : Fin 1024 → EReal := fun k => ∑ j, dz (ix3 (ep r) (fr r) j) * w (ix2 k j)

/-- The gradient of the input in the kernel's form, and in the reference's. -/
def kerX (r : Fin 4096) (k : Fin 1024) : EReal := dres (ix3 (ep r) (fr r) k) + kerDx (xrow x r) (back w dz r) (gain g) k
def refX (r : Fin 4096) (k : Fin 1024) : EReal := dres (ix3 (ep r) (fr r) k) + refDx (xrow x r) (back w dz r) (gain g) k

/-- The gradient of the gain in the first of eight rows. -/
def dgain (i : Fin 8) (k : Fin 1024) : EReal :=
  if i.val = 0 then ∑ r : Fin 4096, back w dz r k * (xrow x r k * rr (xrow x r)) else 0

/-- The two forms agree. -/
theorem x_eq (r : Fin 4096) (k : Fin 1024) : refX x g w dz dres r k = kerX x g w dz dres r k :=
  congrArg _ (dx_eq _ _ _ k)

end Cert.InProj

end

end
-- ==== Proof.CInRef.lean ====
module
public import proofs.«01_k».proof.Proof.Gen.CInBwdRefIdeal.Read
public import proofs.«01_k».proof.Proof.InProj

/-! What the reference of the normalised input projection of width 1024 returns. -/

@[expose] public section

set_option maxRecDepth 16384

noncomputable section

open Idealize.ShloMosaic Idealize.ShloMosaic.TcCoe Idealize.SL.Sem

namespace Cert.CIn
open Cert.CInBwdRefIdeal Cert.CInBwdRefIdeal.Read Cert.Common Cert.InProj Cert.Norm

variable (x : S2x2048x1024.Idx → EReal) (g : S1024.Idx → EReal) (w : S1024x1024.Idx → EReal) (dz : S2x2048x1024.Idx → EReal) (dres : S2x2048x1024.Idx → EReal)

/-- The reference's first result. -/
theorem ref_dx (r : Fin 4096) (k : Fin 1024) : val_main_v39 (F := Ideal) x g w dz dres (ix2 r k) = refX x g w dz dres r k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_c, val_main_call0_v0, val_main_v41]
  rfl

/-- The reference's second result. -/
theorem ref_dg (i : Fin 8) (k : Fin 1024) : val_main_v41 (F := Ideal) x w dz (ix2 i k) = dgain x w dz i k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_c, val_main_call0_v0, val_main_v41, hostReduceAdd_lead2]
  unfold dgain
  split_ifs with h h' h'
  · simp only [Finset.univ_unique, Finset.sum_singleton]
    rw [sum_frames]
    exact Finset.sum_congr rfl fun r _ => mul_comm _ _
  · omega
  · omega
  · simp [FloatOps.sitofp]

end Cert.CIn

end

end
-- ==== Proof.CIn.lean ====
module
public import proofs.«01_k».proof.Proof.CInRef
public import proofs.«01_k».proof.Proof.Gen.CInBwd.Frame
public import proofs.«01_k».proof.Proof.Gen.CInBwdIdeal.Frame
public import proofs.«01_k».proof.Proof.Gen.CInBwdIdeal.Value
public import proofs.«01_k».proof.Proof.Gen.CInBwdRefIdeal.Run
public import proofs.«01_k».proof.Proof.Rows
public import Idealize.ShloMosaic.Lib.StableHlo.RunRead

/-! What the kernel of the normalised input projection of width 1024 leaves in its result arrays. -/

@[expose] public section

set_option maxRecDepth 16384

noncomputable section

open Idealize.ShloMosaic Idealize.ShloMosaic.TcCoe Idealize.SL.Sem
open Idealize.ShloMosaic.Pipeline (Dat)

namespace Cert.CIn.Kernel
open Cert.CInBwdIdeal Cert.CInBwdIdeal.Gen Cert.Common Cert.InProj Cert.Norm

variable (m : (ℓ : Loc nD τ sig) → Buf (Elt Ideal) ℓ)

/-- Which block each window reads or writes at a grid point. -/
theorem idx_val : ∀ t : Fin cfg0.N, win0_0.index t = ![0, t.val, 0] ∧ win0_1.index t = ![0, 0, 0]
    ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

variable (x : S2x2048x1024.Idx → EReal) (g : S1024.Idx → EReal) (w : S1024x1024.Idx → EReal) (dz : S2x2048x1024.Idx → EReal) (dres : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

theorem blk0 (c : Dev nD) (t : Fin cfg0.N) (h : m ((c : Thread nD τ).loc main_arg3) = dz) (q : Fin 512) (k : Fin 1024) :
    iblk m c 0 t (ix3 0 q k) = dz (ix3 (ep (at_ t q)) (fr (at_ t q)) k) := by
  subst h
  blk_point [iblk, V, idx_val t] <;> simp only [at_, row, ep, fr] <;> omega

theorem blk1 (c : Dev nD) (t : Fin cfg0.N) (h : m ((c : Thread nD τ).loc main_arg2) = w) (k j : Fin 1024) :
    iblk m c 1 t (ix3 0 k j) = w (ix2 k j) := by
  subst h
  blk_point [iblk, V, idx_val t]

theorem blk2 (c : Dev nD) (t : Fin cfg0.N) (h : m ((c : Thread nD τ).loc main_arg0) = x) (q : Fin 512) (k : Fin 1024) :
    iblk m c 2 t (ix2 q k) = x (ix3 (ep (at_ t q)) (fr (at_ t q)) k) := by
  subst h
  blk_point [iblk, V, idx_val t] <;> simp only [at_, row, ep, fr] <;> omega

theorem blk3 (c : Dev nD) (t : Fin cfg0.N) (h : m ((c : Thread nD τ).loc main_arg1) = g) (k : Fin 1024) :
    iblk m c 3 t (ix2 0 k) = g (ix1 k) := by
  subst h
  blk_point [iblk, V, idx_val t]

theorem blk4 (c : Dev nD) (t : Fin cfg0.N) (h : m ((c : Thread nD τ).loc main_arg4) = dres) (q : Fin 512) (k : Fin 1024) :
    iblk m c 4 t (ix2 q k) = dres (ix3 (ep (at_ t q)) (fr (at_ t q)) k) := by
  subst h
  blk_point [iblk, V, idx_val t] <;> simp only [at_, row, ep, fr] <;> omega

/-- The point's product of its rows of the gradient with the weights. -/
theorem product (t : Fin cfg0.N) (P : S1x512x1024.Idx → EReal) (W : S1x1024x1024.Idx → EReal)
    (hP : ∀ q k, P (ix3 0 q k) = dz (ix3 (ep (at_ t q)) (fr (at_ t q)) k)) (hW : ∀ k j, W (ix3 0 k j) = w (ix2 k j)) (q : Fin 512) (k : Fin 1024) :
    k0_pay3 (F := Ideal) P W (ix2 q k) = back w dz (at_ t q) k := by
  pointwise [k0_pay3]
  simp only [hP, hW]
  rfl

/-- The first output's block at a point. -/
theorem point_5 (c : Dev nD) (hx : m ((c : Thread nD τ).loc main_arg0) = x) (hg : m ((c : Thread nD τ).loc main_arg1) = g)
    (hw : m ((c : Thread nD τ).loc main_arg2) = w) (hz : m ((c : Thread nD τ).loc main_arg3) = dz) (hr : m ((c : Thread nD τ).loc main_arg4) = dres)
    (t : Fin cfg0.N) (q : Fin 512) (k : Fin 1024) :
    (outsAt0 m c t.val t.isLt).1 (ix2 q k) = kerX x g w dz dres (at_ t q) k := by
  have hD := product w dz t _ _ (blk0 m dz c t hz) (blk1 m w c t hw)
  have h2 := blk2 m x c t hx
  have h3 := blk3 m g c t hg
  have h4 := blk4 m dres c t hr
  by_cases hA : t.val % 8 = 0
  case' pos => rw [outsAt0_A m c t hA]
  case' neg => rw [outsAt0_B m c t hA]
  all_goals
    dsimp only
    frame_out
    generalize iblk m c 2 t = P2 at h2 ⊢
    generalize iblk m c 3 t = P3 at h3 ⊢
    generalize iblk m c 4 t = P4 at h4 ⊢
    pointwise [k0_pay8, k0_pay6, k0_pay5, k0_pay4]
    simp only [hD, h2, h3, h4]
    rfl

/-- One point's share of the gain's gradient. -/
def part (t : Fin cfg0.N) (i : Fin 8) (k : Fin 1024) : EReal :=
  if i.val = 0 then ∑ q : Fin 512, back w dz (at_ t q) k * (xrow x (at_ t q) k * rr (xrow x (at_ t q))) else 0

/-- The second output's accumulator after the first point. -/
theorem point_6_A (c : Dev nD) (hx : m ((c : Thread nD τ).loc main_arg0) = x) (hw : m ((c : Thread nD τ).loc main_arg2) = w)
    (hz : m ((c : Thread nD τ).loc main_arg3) = dz) (t : Fin cfg0.N) (hA : t.val % 8 = 0) (r : Fin 8) (k : Fin 1024) :
    (outsAt0 m c t.val t.isLt).2 (ix2 r k) = part x w dz t r k := by
  have hD := product w dz t _ _ (blk0 m dz c t hz) (blk1 m w c t hw)
  have h2 := blk2 m x c t hx
  rw [outsAt0_A m c t hA]
  dsimp only
  frame_out
  generalize iblk m c 2 t = P2 at h2 ⊢
  rw [Rows.canon_row_at, Rows.canon_fill]
  unfold part
  by_cases h : r.val = 0
  · obtain rfl : r = 0 := Fin.ext h
    rw [if_pos (show (0 : Fin 8).val = 0 from rfl), if_pos (show (0 : Fin 8).val = 0 from rfl)]
    pointwise [k0_pay2]
    rw [Rows.readCov_row_at _ (by decide), Rows.canon_fill]
    pointwise [k0_pay1, k0_pay7, k0_pay6, k0_pay5, k0_pay4]
    simp only [hD, h2]
    rfl
  · rw [if_neg h, if_neg h]
    pointwise [k0_pay1]

/-- The second output's accumulator after a later point. -/
theorem point_6_B (c : Dev nD) (hx : m ((c : Thread nD τ).loc main_arg0) = x) (hw : m ((c : Thread nD τ).loc main_arg2) = w)
    (hz : m ((c : Thread nD τ).loc main_arg3) = dz) (t : Fin cfg0.N) (hB : ¬ t.val % 8 = 0) (r : Fin 8) (k : Fin 1024) :
    (outsAt0 m c t.val t.isLt).2 (ix2 r k)
      = (outsAt0 m c (t.val - 1) (Nat.lt_of_le_of_lt (Nat.sub_le _ _) t.isLt)).2 (ix2 r k) + part x w dz t r k := by
  have hD := product w dz t _ _ (blk0 m dz c t hz) (blk1 m w c t hw)
  have h2 := blk2 m x c t hx
  rw [outsAt0_B m c t hB]
  dsimp only
  frame_out
  generalize iblk m c 2 t = P2 at h2 ⊢
  generalize (outsAt0 m c (t.val - 1) _).2 = prev
  rw [Rows.read_row_at, Rows.read_none]
  unfold part
  by_cases h : r.val = 0
  · obtain rfl : r = 0 := Fin.ext h
    rw [if_pos (show (0 : Fin 8).val = 0 from rfl), if_pos (show (0 : Fin 8).val = 0 from rfl)]
    pointwise [k0_pay2, k0_pay7, k0_pay6, k0_pay5, k0_pay4]
    simp only [hD, h2]
    rfl
  · rw [if_neg h, if_neg h, add_zero]

/-- What the kernel leaves in its first result. -/
theorem final_5 (c : Dev nD) (hx : m ((c : Thread nD τ).loc main_arg0) = x) (hg : m ((c : Thread nD τ).loc main_arg1) = g)
    (hw : m ((c : Thread nD τ).loc main_arg2) = w) (hz : m ((c : Thread nD τ).loc main_arg3) = dz) (hr : m ((c : Thread nD τ).loc main_arg4) = dres) :
    (dats m 0 c).arrAt 5 cfg0.N = fun i : S4096x1024.Idx => kerX x g w dz dres (i 0) (i 1) := by
  refine (dats m 0 c).arrAt_eq_of_covers 5 _ (by decide +kernel) fun t hf y => ?_
  obtain ⟨q, k, rfl⟩ : ∃ (q : Fin 512) (k : Fin 1024), y = ix2 q k := ⟨y 0, y 1, eq_ix2 y⟩
  blk_simp
  rw [after0_5, point_5 m x g w dz dres c hx hg hw hz hr t q k]
  congr 1 <;> apply Fin.ext <;> simp only [at_, row] <;> blk_simp [idx_val t] <;> (try simp) <;> omega

/-- What the kernel leaves in its second result. -/
theorem final_6 (c : Dev nD) (hx : m ((c : Thread nD τ).loc main_arg0) = x) (hw : m ((c : Thread nD τ).loc main_arg2) = w)
    (hz : m ((c : Thread nD τ).loc main_arg3) = dz) :
    (dats m 0 c).arrAt 6 cfg0.N = fun i : S8x1024.Idx => dgain x w dz (i 0) (i 1) := by
  refine (dats m 0 c).arrAt_eq_of_covers 6 _ (by decide +kernel) fun t hf y => ?_
  obtain ⟨r, k, rfl⟩ : ∃ (r : Fin 8) (k : Fin 1024), y = ix2 r k := ⟨y 0, y 1, eq_ix2 y⟩
  blk_simp
  rw [after0_6, Pipeline.eq_sum_fin_of_reset_step_apply_of_flush (fun n h => (outsAt0 m c n h).2) 8 (fun _ => 0)
    (fun t y => part x w dz t (y 0) (y 1))
    (fun t h j => by
      obtain ⟨r, k, rfl⟩ : ∃ (r : Fin 8) (k : Fin 1024), j = ix2 r k := ⟨j 0, j 1, eq_ix2 j⟩
      rw [zero_add]
      exact point_6_A m x w dz c hx hw hz t h r k)
    (fun t h j => by
      obtain ⟨r, k, rfl⟩ : ∃ (r : Fin 8) (k : Fin 1024), j = ix2 r k := ⟨j 0, j 1, eq_ix2 j⟩
      exact point_6_B m x w dz c hx hw hz t h r k)
    t ((flush0_6 t).mp hf) _, zero_add]
  have hN := lt8 t
  have e0 : (win0_6.blk t).view.emb (ix2 r k) 0 = r := by
    apply Fin.ext; blk_simp [idx_val t]
  have e1 : (win0_6.blk t).view.emb (ix2 r k) 1 = k := by
    apply Fin.ext; blk_simp [idx_val t]
  rw [e0, e1]
  show ∑ s : Fin 8, part x w dz ⟨8 * (t.val / 8) + s.val, _⟩ r k = _
  unfold dgain
  rw [← sum_row (fun r => back w dz r k * (xrow x r k * rr (xrow x r))) r.val]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold part
  simp only [ha]

end Cert.CIn.Kernel

end

end
-- ==== Proof.CInPair.lean ====
module
public import proofs.«01_k».proof.Defs
public import proofs.«01_k».proof.Proof.Gen.CInBwdRefIdeal
public import proofs.«01_k».proof.Proof.CIn
public import Idealize.ShloMosaic.Lib.Claim
public import Idealize.ShloMosaic.Adequacy
public import Idealize.ShloMosaic.Init

/-! The kernel of the normalised input projection of width 1024 beside its reference. -/

@[expose] public section

set_option maxRecDepth 16384

noncomputable section

namespace Cert.CIn

open Idealize.ShloMosaic Idealize.ShloMosaic.TcCoe Idealize.SL.Sem

/-- The kernel and its reference leave the same arrays. -/
theorem values : algebraic_CInBwdIdeal_CInBwdRefIdeal (hCInBwdIdeal := Cert.CInBwdIdeal.Gen.facts)
    (hCInBwdRefIdeal := Cert.CInBwdRefIdeal.Gen.facts) := by
  pair_intro
  · run_from Cert.CInBwdIdeal.Value.run_blocks m g
  · run_from Cert.CInBwdRefIdeal.Value.run m' g'
    all_goals
      obtain ⟨e0, e1, e2, e3, e4⟩ := hagree c
    · rw [Kernel.final_5 m _ _ _ _ _ c rfl rfl rfl rfl rfl]
      refine (Cert.CInBwdRefIdeal.Read.val_main_v39_eq m' c).trans ?_
      rw [e0, e1, e2, e3, e4]
      funext i
      obtain ⟨r, k, rfl⟩ : ∃ r k, i = ValueIdx.ix2 r k := ⟨i 0, i 1, ValueIdx.eq_ix2 i⟩
      exact (ref_dx _ _ _ _ _ r k).trans (InProj.x_eq _ _ _ _ _ r k)
    · rw [Kernel.final_6 m _ _ _ c rfl rfl rfl]
      refine Eq.trans (Cert.CInBwdRefIdeal.Read.val_main_v41_eq (F := Ideal) _ _ _) ?_
      try rw [e0, e2, e3]
      funext i
      obtain ⟨r, k, rfl⟩ : ∃ r k, i = ValueIdx.ix2 r k := ⟨i 0, i 1, ValueIdx.eq_ix2 i⟩
      exact ref_dg _ _ _ r k

/-- The reference keeps its arguments; it declares no counter. -/
theorem ref_frame : quiescent_CInBwdRefIdeal (hCInBwdRefIdeal := Cert.CInBwdRefIdeal.Gen.facts) := fun m g _ =>
  (θ_run Cert.CInBwdRefIdeal.defs _ _).mono (fun r h => ⟨fun c => (h c).2.2, sem_eq_zero_of_no_sems (by decide) r.2⟩)
    (Cert.CInBwdRefIdeal.Value.run (F := Ideal) m g)

end Cert.CIn

end

end
-- ==== Proof.BInRef.lean ====
module
public import proofs.«01_k».proof.Proof.Gen.BInBwdRefIdeal.Read
public import proofs.«01_k».proof.Proof.InProj

/-! What the reference of the normalised input projection of width 3072 returns. -/

@[expose] public section

set_option maxRecDepth 16384

noncomputable section

open Idealize.ShloMosaic Idealize.ShloMosaic.TcCoe Idealize.SL.Sem

namespace Cert.BIn
open Cert.BInBwdRefIdeal Cert.BInBwdRefIdeal.Read Cert.Common Cert.InProj Cert.Norm

variable (x : S2x2048x1024.Idx → EReal) (g : S1024.Idx → EReal) (w : S1024x3072.Idx → EReal) (dz : S2x2048x3072.Idx → EReal) (dres : S2x2048x1024.Idx → EReal)

/-- The reference's first result. -/
theorem ref_dx (r : Fin 4096) (k : Fin 1024) : val_main_v39 (F := Ideal) x g w dz dres (ix2 r k) = refX x g w dz dres r k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_c, val_main_call0_v0, val_main_v41]
  rfl

/-- The reference's second result. -/
theorem ref_dg (i : Fin 8) (k : Fin 1024) : val_main_v41 (F := Ideal) x w dz (ix2 i k) = dgain x w dz i k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_c, val_main_call0_v0, val_main_v41, hostReduceAdd_lead2]
  unfold dgain
  split_ifs with h h' h'
  · simp only [Finset.univ_unique, Finset.sum_singleton]
    rw [sum_frames]
    exact Finset.sum_congr rfl fun r _ => mul_comm _ _
  · omega
  · omega
  · simp [FloatOps.sitofp]

end Cert.BIn

end

end
-- ==== Proof.BIn.lean ====
module
public import proofs.«01_k».proof.Proof.BInRef
public import proofs.«01_k».proof.Proof.Gen.BInBwd.Frame
public import proofs.«01_k».proof.Proof.Gen.BInBwdIdeal.Frame
public import proofs.«01_k».proof.Proof.Gen.BInBwdIdeal.Value
public import proofs.«01_k».proof.Proof.Gen.BInBwdRefIdeal.Run
public import proofs.«01_k».proof.Proof.Rows
public import Idealize.ShloMosaic.Lib.StableHlo.RunRead

/-! What the kernel of the normalised input projection of width 3072 leaves in its result arrays. -/

@[expose] public section

set_option maxRecDepth 16384

noncomputable section

open Idealize.ShloMosaic Idealize.ShloMosaic.TcCoe Idealize.SL.Sem
open Idealize.ShloMosaic.Pipeline (Dat)

namespace Cert.BIn.Kernel
open Cert.BInBwdIdeal Cert.BInBwdIdeal.Gen Cert.Common Cert.InProj Cert.Norm

variable (m : (ℓ : Loc nD τ sig) → Buf (Elt Ideal) ℓ)

/-- Which block each window reads or writes at a grid point. -/
theorem idx_val : ∀ t : Fin cfg0.N, win0_0.index t = ![0, t.val, 0] ∧ win0_1.index t = ![0, 0, 0]
    ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

variable (x : S2x2048x1024.Idx → EReal) (g : S1024.Idx → EReal) (w : S1024x3072.Idx → EReal) (dz : S2x2048x3072.Idx → EReal) (dres : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- One of the three thirds of the gradient, as the host slices it out, with a leading axis of one. -/
def third (o : ℕ) (h : S4096x3072.Slices ![0, o] S4096x1024) : FVec Ideal S1x4096x1024 .f32 :=
  broadcastInDim S1x4096x1024 ![1, 2] bcast_S4096x1024_S1x4096x1024_1_2
    (extractStridedSlice S4096x1024 ![0, o] (shapeCast S4096x3072 dz shapeCasts_S2x2048x3072_S4096x3072) h)

/-- The three thirds stacked. -/
def thirds : FVec Ideal S3x4096x1024 .f32 :=
  concatenate S3x4096x1024 0 [⟨S1x4096x1024, third dz 0 slices_S4096x3072_S4096x1024_0_0⟩,
    ⟨S1x4096x1024, third dz 1024 slices_S4096x3072_S4096x1024_0_1024⟩,
    ⟨S1x4096x1024, third dz 2048 slices_S4096x3072_S4096x1024_0_2048⟩]
    concatenates_S1x4096x1024_S1x4096x1024_S1x4096x1024_S3x4096x1024_d0

/-- The kernel's first operand holds the three thirds of the gradient. -/
theorem entry_thirds (c : Dev nD) (h : m ((c : Thread nD τ).loc main_arg3) = dz) :
    V m c main_v8 = (thirds dz : S3x4096x1024.Idx → EReal) := by
  have h0 : V m c main_v4 = third dz 0 slices_S4096x3072_S4096x1024_0_0 := by
    subst h; unfold V; unfold hostOps0; after_reads_simp; rfl
  have h1 : V m c main_v5 = third dz 1024 slices_S4096x3072_S4096x1024_0_1024 := by
    subst h; unfold V; unfold hostOps0; after_reads_simp; rfl
  have h2 : V m c main_v6 = third dz 2048 slices_S4096x3072_S4096x1024_0_2048 := by
    subst h; unfold V; unfold hostOps0; after_reads_simp; rfl
  unfold thirds
  rw [← h0, ← h1, ← h2]
  rfl

/-- An element of the three stacked thirds is an element of the gradient. -/
theorem thirds_apply (j : Fin 3) (r : Fin 4096) (k : Fin 1024) :
    thirds dz (ix3 j r k) = dz (ix3 (ep r) (fr r) ⟨1024 * j.val + k.val, by omega⟩) := by
  pointwise [thirds, third]
  split_ifs with h h'
  all_goals blk_ext <;> simp only [ep, fr]

/-- The block of the stacked thirds holds, of each third, one point's rows. -/
theorem blk0 (c : Dev nD) (t : Fin cfg0.N) (h : m ((c : Thread nD τ).loc main_arg3) = dz) (a : Fin 3) (q : Fin 512) (k : Fin 1024) :
    iblk m c 0 t (ix3 a q k) = dz (ix3 (ep (at_ t q)) (fr (at_ t q)) ⟨1024 * a.val + k.val, by omega⟩) := by
  have : iblk m c 0 t (ix3 a q k) = V m c main_v8 (ix3 a (at_ t q) k) := by
    blk_simp [iblk]
    refine congrArg _ ?_
    funext b
    apply Fin.ext
    fin_cases b <;> blk_simp [idx_val t] <;> simp only [at_, row] <;> (try simp) <;> (try omega)
  rw [this, entry_thirds m dz c h, thirds_apply]

/-- The block of the weights holds them in four groups of columns. -/
theorem blk1 (c : Dev nD) (t : Fin cfg0.N) (h : m ((c : Thread nD τ).loc main_arg2) = w) (a : Fin 4) (k : Fin 1024) (j : Fin 768) :
    iblk m c 1 t (ix3 a k j) = w (ix2 k ⟨768 * a.val + j.val, by omega⟩) := by
  subst h
  blk_point [iblk, V, idx_val t] <;> omega

theorem blk2 (c : Dev nD) (t : Fin cfg0.N) (h : m ((c : Thread nD τ).loc main_arg0) = x) (q : Fin 512) (k : Fin 1024) :
    iblk m c 2 t (ix2 q k) = x (ix3 (ep (at_ t q)) (fr (at_ t q)) k) := by
  subst h
  blk_point [iblk, V, idx_val t] <;> simp only [at_, row, ep, fr] <;> omega

theorem blk3 (c : Dev nD) (t : Fin cfg0.N) (h : m ((c : Thread nD τ).loc main_arg1) = g) (k : Fin 1024) :
    iblk m c 3 t (ix2 0 k) = g (ix1 k) := by
  subst h
  blk_point [iblk, V, idx_val t]

theorem blk4 (c : Dev nD) (t : Fin cfg0.N) (h : m ((c : Thread nD τ).loc main_arg4) = dres) (q : Fin 512) (k : Fin 1024) :
    iblk m c 4 t (ix2 q k) = dres (ix3 (ep (at_ t q)) (fr (at_ t q)) k) := by
  subst h
  blk_point [iblk, V, idx_val t] <;> simp only [at_, row, ep, fr] <;> omega

/-- The twelve chunks of 256 columns together make the product with the weights. -/
theorem chunks (r : Fin 4096) (k : Fin 1024) :
    (∑ c : Fin 256, dz (ix3 (ep r) (fr r) ⟨1024 * (0 : Fin 3).val + c.val, by omega⟩) * w (ix2 k ⟨768 * (0 : Fin 4).val + c.val, by omega⟩))
    + (∑ c : Fin 256, dz (ix3 (ep r) (fr r) ⟨1024 * (0 : Fin 3).val + (256 + c.val), by omega⟩) * w (ix2 k ⟨768 * (0 : Fin 4).val + (256 + c.val), by omega⟩))
    + (∑ c : Fin 256, dz (ix3 (ep r) (fr r) ⟨1024 * (0 : Fin 3).val + (512 + c.val), by omega⟩) * w (ix2 k ⟨768 * (0 : Fin 4).val + (512 + c.val), by omega⟩))
    + (∑ c : Fin 256, dz (ix3 (ep r) (fr r) ⟨1024 * (0 : Fin 3).val + (768 + c.val), by omega⟩) * w (ix2 k ⟨768 * (1 : Fin 4).val + c.val, by omega⟩))
    + (∑ c : Fin 256, dz (ix3 (ep r) (fr r) ⟨1024 * (1 : Fin 3).val + c.val, by omega⟩) * w (ix2 k ⟨768 * (1 : Fin 4).val + (256 + c.val), by omega⟩))
    + (∑ c : Fin 256, dz (ix3 (ep r) (fr r) ⟨1024 * (1 : Fin 3).val + (256 + c.val), by omega⟩) * w (ix2 k ⟨768 * (1 : Fin 4).val + (512 + c.val), by omega⟩))
    + (∑ c : Fin 256, dz (ix3 (ep r) (fr r) ⟨1024 * (1 : Fin 3).val + (512 + c.val), by omega⟩) * w (ix2 k ⟨768 * (2 : Fin 4).val + c.val, by omega⟩))
    + (∑ c : Fin 256, dz (ix3 (ep r) (fr r) ⟨1024 * (1 : Fin 3).val + (768 + c.val), by omega⟩) * w (ix2 k ⟨768 * (2 : Fin 4).val + (256 + c.val), by omega⟩))
    + (∑ c : Fin 256, dz (ix3 (ep r) (fr r) ⟨1024 * (2 : Fin 3).val + c.val, by omega⟩) * w (ix2 k ⟨768 * (2 : Fin 4).val + (512 + c.val), by omega⟩))
    + (∑ c : Fin 256, dz (ix3 (ep r) (fr r) ⟨1024 * (2 : Fin 3).val + (256 + c.val), by omega⟩) * w (ix2 k ⟨768 * (3 : Fin 4).val + c.val, by omega⟩))
    + (∑ c : Fin 256, dz (ix3 (ep r) (fr r) ⟨1024 * (2 : Fin 3).val + (512 + c.val), by omega⟩) * w (ix2 k ⟨768 * (3 : Fin 4).val + (256 + c.val), by omega⟩))
    + (∑ c : Fin 256, dz (ix3 (ep r) (fr r) ⟨1024 * (2 : Fin 3).val + (768 + c.val), by omega⟩) * w (ix2 k ⟨768 * (3 : Fin 4).val + (512 + c.val), by omega⟩)) = back w dz r k := by
  unfold back
  have h : ∑ a : Fin 12, ∑ c : Fin 256, dz (ix3 (ep r) (fr r) ⟨256 * a.val + c.val, by omega⟩) * w (ix2 k ⟨256 * a.val + c.val, by omega⟩)
      = ∑ j, dz (ix3 (ep r) (fr r) j) * w (ix2 k j) :=
    Fin.sum_mul_add_congr fun a c hl => congrArg (fun j => dz (ix3 (ep r) (fr r) j) * w (ix2 k j)) (Fin.ext (by simp only; omega))
  have e : ∀ f : Fin 12 → EReal, ∑ a, f a = f 0 + f 1 + f 2 + f 3 + f 4 + f 5 + f 6 + f 7 + f 8 + f 9 + f 10 + f 11 := by
    intro f
    simp only [Fin.sum_univ_castSucc, Finset.univ_eq_empty, Finset.sum_empty, zero_add]
    rfl
  refine Eq.trans ?_ ((e _).symm.trans h)
  iterate 11 refine congrArg₂ (· + ·) ?_ (Finset.sum_congr rfl fun c _ => ?_)
  refine Finset.sum_congr rfl fun c _ => ?_
  all_goals
    refine congrArg₂ (· * ·) (congrArg dz (congrArg (ix3 _ _) (Fin.ext ?_))) (congrArg w (congrArg (ix2 _) (Fin.ext ?_))) <;> simp <;> omega

/-- The first output's block at a point. -/
theorem point_5 (c : Dev nD) (hx : m ((c : Thread nD τ).loc main_arg0) = x) (hg : m ((c : Thread nD τ).loc main_arg1) = g)
    (hw : m ((c : Thread nD τ).loc main_arg2) = w) (hz : m ((c : Thread nD τ).loc main_arg3) = dz) (hr : m ((c : Thread nD τ).loc main_arg4) = dres)
    (t : Fin cfg0.N) (q : Fin 512) (k : Fin 1024) :
    (outsAt0 m c t.val t.isLt).1 (ix2 q k) = kerX x g w dz dres (at_ t q) k := by
  have h0 := blk0 m dz c t hz
  have h1 := blk1 m w c t hw
  have h2 := blk2 m x c t hx
  have h3 := blk3 m g c t hg
  have h4 := blk4 m dres c t hr
  by_cases hA : t.val % 8 = 0
  case' pos => rw [outsAt0_A m c t hA]
  case' neg => rw [outsAt0_B m c t hA]
  all_goals
    dsimp only
    frame_out
    generalize iblk m c 0 t = P0 at h0 ⊢
    generalize iblk m c 1 t = P1 at h1 ⊢
    generalize iblk m c 2 t = P2 at h2 ⊢
    generalize iblk m c 3 t = P3 at h3 ⊢
    generalize iblk m c 4 t = P4 at h4 ⊢
    pointwise [k0_pay1, k0_pay8, k0_pay6, k0_pay5, k0_pay4, k0_pay7, k0_pay9, k0_pay10, k0_pay11]
    simp only [h0, h1, h2, h3, h4, chunks]
    rfl

/-- One point's share of the gain's gradient. -/
def part (t : Fin cfg0.N) (i : Fin 8) (k : Fin 1024) : EReal :=
  if i.val = 0 then ∑ q : Fin 512, back w dz (at_ t q) k * (xrow x (at_ t q) k * rr (xrow x (at_ t q))) else 0

/-- The second output's accumulator after the first point. -/
theorem point_6_A (c : Dev nD) (hx : m ((c : Thread nD τ).loc main_arg0) = x) (hw : m ((c : Thread nD τ).loc main_arg2) = w)
    (hz : m ((c : Thread nD τ).loc main_arg3) = dz) (t : Fin cfg0.N) (hA : t.val % 8 = 0) (r : Fin 8) (k : Fin 1024) :
    (outsAt0 m c t.val t.isLt).2 (ix2 r k) = part x w dz t r k := by
  have h0 := blk0 m dz c t hz
  have h1 := blk1 m w c t hw
  have h2 := blk2 m x c t hx
  rw [outsAt0_A m c t hA]
  dsimp only
  frame_out
  generalize iblk m c 0 t = P0 at h0 ⊢
  generalize iblk m c 1 t = P1 at h1 ⊢
  generalize iblk m c 2 t = P2 at h2 ⊢
  rw [Rows.canon_row_at, Rows.canon_fill]
  unfold part
  by_cases h : r.val = 0
  · obtain rfl : r = 0 := Fin.ext h
    rw [if_pos (show (0 : Fin 8).val = 0 from rfl), if_pos (show (0 : Fin 8).val = 0 from rfl)]
    pointwise [k0_pay3]
    rw [Rows.readCov_row_at _ (by decide), Rows.canon_fill]
    pointwise [k0_pay2, k0_pay4, k0_pay5, k0_pay6, k0_pay7, k0_pay8, k0_pay9, k0_pay10, k0_pay11]
    simp only [h0, h1, h2, chunks]
    rfl
  · rw [if_neg h, if_neg h]
    pointwise [k0_pay2]

/-- The second output's accumulator after a later point. -/
theorem point_6_B (c : Dev nD) (hx : m ((c : Thread nD τ).loc main_arg0) = x) (hw : m ((c : Thread nD τ).loc main_arg2) = w)
    (hz : m ((c : Thread nD τ).loc main_arg3) = dz) (t : Fin cfg0.N) (hB : ¬ t.val % 8 = 0) (r : Fin 8) (k : Fin 1024) :
    (outsAt0 m c t.val t.isLt).2 (ix2 r k)
      = (outsAt0 m c (t.val - 1) (Nat.lt_of_le_of_lt (Nat.sub_le _ _) t.isLt)).2 (ix2 r k) + part x w dz t r k := by
  have h0 := blk0 m dz c t hz
  have h1 := blk1 m w c t hw
  have h2 := blk2 m x c t hx
  rw [outsAt0_B m c t hB]
  dsimp only
  frame_out
  generalize iblk m c 0 t = P0 at h0 ⊢
  generalize iblk m c 1 t = P1 at h1 ⊢
  generalize iblk m c 2 t = P2 at h2 ⊢
  generalize (outsAt0 m c (t.val - 1) _).2 = prev
  rw [Rows.read_row_at, Rows.read_none]
  unfold part
  by_cases h : r.val = 0
  · obtain rfl : r = 0 := Fin.ext h
    rw [if_pos (show (0 : Fin 8).val = 0 from rfl), if_pos (show (0 : Fin 8).val = 0 from rfl)]
    pointwise [k0_pay3, k0_pay4, k0_pay5, k0_pay6, k0_pay7, k0_pay8, k0_pay9, k0_pay10, k0_pay11]
    simp only [h0, h1, h2, chunks]
    rfl
  · rw [if_neg h, if_neg h, add_zero]

/-- What the kernel leaves in its first result. -/
theorem final_5 (c : Dev nD) (hx : m ((c : Thread nD τ).loc main_arg0) = x) (hg : m ((c : Thread nD τ).loc main_arg1) = g)
    (hw : m ((c : Thread nD τ).loc main_arg2) = w) (hz : m ((c : Thread nD τ).loc main_arg3) = dz) (hr : m ((c : Thread nD τ).loc main_arg4) = dres) :
    (dats m 0 c).arrAt 5 cfg0.N = fun i : S4096x1024.Idx => kerX x g w dz dres (i 0) (i 1) := by
  refine (dats m 0 c).arrAt_eq_of_covers 5 _ (by decide +kernel) fun t hf y => ?_
  obtain ⟨q, k, rfl⟩ : ∃ (q : Fin 512) (k : Fin 1024), y = ix2 q k := ⟨y 0, y 1, eq_ix2 y⟩
  blk_simp
  rw [after0_5, point_5 m x g w dz dres c hx hg hw hz hr t q k]
  congr 1 <;> apply Fin.ext <;> simp only [at_, row] <;> blk_simp [idx_val t] <;> (try simp) <;> omega

/-- What the kernel leaves in its second result. -/
theorem final_6 (c : Dev nD) (hx : m ((c : Thread nD τ).loc main_arg0) = x) (hw : m ((c : Thread nD τ).loc main_arg2) = w)
    (hz : m ((c : Thread nD τ).loc main_arg3) = dz) :
    (dats m 0 c).arrAt 6 cfg0.N = fun i : S8x1024.Idx => dgain x w dz (i 0) (i 1) := by
  refine (dats m 0 c).arrAt_eq_of_covers 6 _ (by decide +kernel) fun t hf y => ?_
  obtain ⟨r, k, rfl⟩ : ∃ (r : Fin 8) (k : Fin 1024), y = ix2 r k := ⟨y 0, y 1, eq_ix2 y⟩
  blk_simp
  rw [after0_6, Pipeline.eq_sum_fin_of_reset_step_apply_of_flush (fun n h => (outsAt0 m c n h).2) 8 (fun _ => 0)
    (fun t y => part x w dz t (y 0) (y 1))
    (fun t h j => by
      obtain ⟨r, k, rfl⟩ : ∃ (r : Fin 8) (k : Fin 1024), j = ix2 r k := ⟨j 0, j 1, eq_ix2 j⟩
      rw [zero_add]
      exact point_6_A m x w dz c hx hw hz t h r k)
    (fun t h j => by
      obtain ⟨r, k, rfl⟩ : ∃ (r : Fin 8) (k : Fin 1024), j = ix2 r k := ⟨j 0, j 1, eq_ix2 j⟩
      exact point_6_B m x w dz c hx hw hz t h r k)
    t ((flush0_6 t).mp hf) _, zero_add]
  have hN := lt8 t
  have e0 : (win0_6.blk t).view.emb (ix2 r k) 0 = r := by
    apply Fin.ext; blk_simp [idx_val t]
  have e1 : (win0_6.blk t).view.emb (ix2 r k) 1 = k := by
    apply Fin.ext; blk_simp [idx_val t]
  rw [e0, e1]
  show ∑ s : Fin 8, part x w dz ⟨8 * (t.val / 8) + s.val, _⟩ r k = _
  unfold dgain
  rw [← sum_row (fun r => back w dz r k * (xrow x r k * rr (xrow x r))) r.val]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold part
  simp only [ha]

end Cert.BIn.Kernel

end

end
-- ==== Proof.BInPair.lean ====
module
public import proofs.«01_k».proof.Defs
public import proofs.«01_k».proof.Proof.Gen.BInBwdRefIdeal
public import proofs.«01_k».proof.Proof.BIn
public import Idealize.ShloMosaic.Lib.Claim
public import Idealize.ShloMosaic.Adequacy
public import Idealize.ShloMosaic.Init

/-! The kernel of the normalised input projection of width 3072 beside its reference. -/

@[expose] public section

set_option maxRecDepth 16384

noncomputable section

namespace Cert.BIn

open Idealize.ShloMosaic Idealize.ShloMosaic.TcCoe Idealize.SL.Sem

/-- The kernel and its reference leave the same arrays. -/
theorem values : algebraic_BInBwdIdeal_BInBwdRefIdeal (hBInBwdIdeal := Cert.BInBwdIdeal.Gen.facts)
    (hBInBwdRefIdeal := Cert.BInBwdRefIdeal.Gen.facts) := by
  pair_intro
  · run_from Cert.BInBwdIdeal.Value.run_blocks m g
  · run_from Cert.BInBwdRefIdeal.Value.run m' g'
    all_goals
      obtain ⟨e0, e1, e2, e3, e4⟩ := hagree c
    · rw [Kernel.final_5 m _ _ _ _ _ c rfl rfl rfl rfl rfl]
      refine (Cert.BInBwdRefIdeal.Read.val_main_v39_eq m' c).trans ?_
      rw [e0, e1, e2, e3, e4]
      funext i
      obtain ⟨r, k, rfl⟩ : ∃ r k, i = ValueIdx.ix2 r k := ⟨i 0, i 1, ValueIdx.eq_ix2 i⟩
      exact (ref_dx _ _ _ _ _ r k).trans (InProj.x_eq _ _ _ _ _ r k)
    · rw [Kernel.final_6 m _ _ _ c rfl rfl rfl]
      refine Eq.trans (Cert.BInBwdRefIdeal.Read.val_main_v41_eq (F := Ideal) _ _ _) ?_
      try rw [e0, e2, e3]
      funext i
      obtain ⟨r, k, rfl⟩ : ∃ r k, i = ValueIdx.ix2 r k := ⟨i 0, i 1, ValueIdx.eq_ix2 i⟩
      exact ref_dg _ _ _ r k

/-- The reference keeps its arguments; it declares no counter. -/
theorem ref_frame : quiescent_BInBwdRefIdeal (hBInBwdRefIdeal := Cert.BInBwdRefIdeal.Gen.facts) := fun m g _ =>
  (θ_run Cert.BInBwdRefIdeal.defs _ _).mono (fun r h => ⟨fun c => (h c).2.2, sem_eq_zero_of_no_sems (by decide) r.2⟩)
    (Cert.BInBwdRefIdeal.Value.run (F := Ideal) m g)

end Cert.BIn

end

end
-- ==== Proof.LossRef.lean ====
module
public import proofs.«01_k».proof.Proof.Gen.LossHeadRefIdeal.Read
public import proofs.«01_k».proof.Proof.Common
public import proofs.«01_k».proof.Proof.Norm
public import proofs.«01_k».proof.Proof.InProj

/-! What the reference of the final norm and the loss returns. -/

@[expose] public section

set_option maxRecDepth 16384

noncomputable section

open Idealize.ShloMosaic Idealize.ShloMosaic.TcCoe Idealize.SL.Sem

namespace Cert.Loss
open Cert.LossHeadRefIdeal Cert.LossHeadRefIdeal.Read Cert.Common Cert.Norm Cert.InProj

/-- One half, two and the reciprocal of the row's length, as the programs write them. -/
def half : EReal := Ideal.ofBits FTy.f32 0x3F000000#32
def two : EReal := Ideal.ofBits FTy.f32 0x40000000#32
def recip : EReal := Ideal.ofBits FTy.f32 0x3A800000#32

variable (x : S2x2048x1024.Idx → EReal) (y : S2x2048x1024.Idx → EReal) (g : S1024.Idx → EReal)

/-- How far the normalised input lies from the target. -/
def diff (r : Fin 4096) (k : Fin 1024) : EReal := xrow x r k * rr (xrow x r) * g (ix1 k) - y (ix3 (ep r) (fr r) k)

/-- What the loss hands back to the norm, in the kernel's form and in the reference's. -/
def cot (r : Fin 4096) (k : Fin 1024) : EReal := diff x y g r k * recip
def refCot (r : Fin 4096) (k : Fin 1024) : EReal := Ideal.div half len * (two * diff x y g r k)

/-- The gradient of the input, in the kernel's form. -/
def kerX (r : Fin 4096) (k : Fin 1024) : EReal := kerDx (xrow x r) (cot x y g r) (gain g) k

/-- The gradient of the gain in the first of eight rows. -/
def dgain (i : Fin 8) (k : Fin 1024) : EReal :=
  if i.val = 0 then ∑ r : Fin 4096, cot x y g r k * (xrow x r k * rr (xrow x r)) else 0

/-- A row's share of the loss. -/
def err (r : Fin 4096) : EReal := Ideal.div (∑ k, diff x y g r k * diff x y g r k) len

/-- The loss. -/
def loss : EReal := half * ∑ r : Fin 4096, err x y g r

theorem half_eq : half = ((1 / 2 : ℝ) : EReal) := by
  unfold half
  simp [Ideal.ofBits, Ideal.ieee, -EReal.coe_mul]
  norm_num

theorem two_eq : two = ((2 : ℝ) : EReal) := by
  unfold two
  simp [Ideal.ofBits, Ideal.ieee, -EReal.coe_mul]
  norm_num

theorem recip_eq : recip = ((1 / 1024 : ℝ) : EReal) := by
  unfold recip
  simp [Ideal.ofBits, Ideal.ieee, -EReal.coe_mul]
  norm_num

/-- The two forms of what the loss hands back agree. -/
theorem cot_eq (r : Fin 4096) : refCot x y g r = cot x y g r := by
  funext k
  unfold refCot cot
  rw [half_eq, two_eq, recip_eq, len_eq, Ideal.div_coe (show (1024 : ℝ) ≠ 0 by norm_num), ← mul_assoc, mul_comm (diff x y g r k)]
  simp only [← EReal.coe_mul]
  refine congrArg (fun a : ℝ => (a : EReal) * _) ?_
  norm_num

/-- The reference's first result. -/
theorem ref_dx (r : Fin 4096) (k : Fin 1024) : val_main_v51 (F := Ideal) x y g (ix2 r k) = kerX x y g r k := by
  unfold kerX
  rw [← dx_eq, ← cot_eq]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_c, val_main_call0_v0, val_main_v53, val_main_v54]
  rfl

/-- The reference's second result. -/
theorem ref_dg (i : Fin 8) (k : Fin 1024) : val_main_v53 (F := Ideal) x y g (ix2 i k) = dgain x y g i k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_c, val_main_call0_v0, val_main_v53, val_main_v54, hostReduceAdd_lead2]
  unfold dgain
  split_ifs with h h' h'
  · simp only [Finset.univ_unique, Finset.sum_singleton]
    rw [sum_frames]
    simp only [← cot_eq]
    exact Finset.sum_congr rfl fun r _ => mul_comm _ _
  · omega
  · omega
  · simp [FloatOps.sitofp]

/-- The reference's third result. -/
theorem ref_loss (i : Fin 8) (k : Fin 128) : val_main_v54 (F := Ideal) x y g (ix2 i k) = loss x y g := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_c, val_main_call0_v0, val_main_v53, val_main_v54]
  rw [sum_frames]
  rfl

end Cert.Loss

end

end
-- ==== Proof.Loss.lean ====
module
public import proofs.«01_k».proof.Proof.LossRef
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Rows
public import Idealize.ShloMosaic.Lib.StableHlo.RunRead

/-! What the kernel of the final norm and the loss leaves in its result arrays. -/

@[expose] public section

set_option maxRecDepth 16384

noncomputable section

open Idealize.ShloMosaic Idealize.ShloMosaic.TcCoe Idealize.SL.Sem
open Idealize.ShloMosaic.Pipeline (Dat)

namespace Cert.Loss.Kernel
open Cert.LossHeadIdeal Cert.LossHeadIdeal.Gen Cert.Common Cert.InProj Cert.Norm

variable (m : (ℓ : Loc nD τ sig) → Buf (Elt Ideal) ℓ)

/-- Which block each window reads or writes at a grid point. -/
theorem idx_val : ∀ t : Fin cfg0.N, win0_0.index t = ![t.val, 0] ∧ win0_1.index t = ![t.val, 0]
    ∧ win0_2.index t = ![0, 0] ∧ win0_3.index t = ![t.val, 0] ∧ win0_4.index t = ![0, 0] ∧ win0_5.index t = ![0, 0] :=
  (by decide +kernel : ∀ t : Fin grid0.N, _)

variable (x : S2x2048x1024.Idx → EReal) (y : S2x2048x1024.Idx → EReal) (g : S1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

theorem blk0 (c : Dev nD) (t : Fin cfg0.N) (h : m ((c : Thread nD τ).loc main_arg0) = x) (q : Fin 512) (k : Fin 1024) :
    iblk m c 0 t (ix2 q k) = x (ix3 (ep (at_ t q)) (fr (at_ t q)) k) := by
  subst h
  blk_point [iblk, V, idx_val t] <;> simp only [at_, row, ep, fr] <;> omega

theorem blk1 (c : Dev nD) (t : Fin cfg0.N) (h : m ((c : Thread nD τ).loc main_arg1) = y) (q : Fin 512) (k : Fin 1024) :
    iblk m c 1 t (ix2 q k) = y (ix3 (ep (at_ t q)) (fr (at_ t q)) k) := by
  subst h
  blk_point [iblk, V, idx_val t] <;> simp only [at_, row, ep, fr] <;> omega

theorem blk2 (c : Dev nD) (t : Fin cfg0.N) (h : m ((c : Thread nD τ).loc main_arg2) = g) (k : Fin 1024) :
    iblk m c 2 t (ix2 0 k) = g (ix1 k) := by
  subst h
  blk_point [iblk, V, idx_val t]

/-- The first output's block at a point. -/
theorem point_3 (c : Dev nD) (hx : m ((c : Thread nD τ).loc main_arg0) = x) (hy : m ((c : Thread nD τ).loc main_arg1) = y)
    (hg : m ((c : Thread nD τ).loc main_arg2) = g) (t : Fin cfg0.N) (q : Fin 512) (k : Fin 1024) :
    (outsAt0 m c t.val t.isLt).1 (ix2 q k) = kerX x y g (at_ t q) k := by
  have h0 := blk0 m x c t hx
  have h1 := blk1 m y c t hy
  have h2 := blk2 m g c t hg
  by_cases hA : t.val % 8 = 0
  case' pos => rw [outsAt0_A m c t hA]
  case' neg => rw [outsAt0_B m c t hA]
  all_goals
    dsimp only
    frame_out
    generalize iblk m c 0 t = P0 at h0 ⊢
    generalize iblk m c 1 t = P1 at h1 ⊢
    generalize iblk m c 2 t = P2 at h2 ⊢
    pointwise [k0_pay1, k0_pay2, k0_pay3, k0_pay4, k0_pay8, k0_pay9, k0_pay10]
    simp only [h0, h1, h2]
    rfl

/-- One point's share of the gain's gradient, and of the loss. -/
def part (t : Fin cfg0.N) (i : Fin 8) (k : Fin 1024) : EReal :=
  if i.val = 0 then ∑ q : Fin 512, cot x y g (at_ t q) k * (xrow x (at_ t q) k * rr (xrow x (at_ t q))) else 0
def share (t : Fin cfg0.N) : EReal := half * ∑ q : Fin 512, err x y g (at_ t q)

/-- The second output's accumulator after the first point. -/
theorem point_4_A (c : Dev nD) (hx : m ((c : Thread nD τ).loc main_arg0) = x) (hy : m ((c : Thread nD τ).loc main_arg1) = y)
    (hg : m ((c : Thread nD τ).loc main_arg2) = g) (t : Fin cfg0.N) (hA : t.val % 8 = 0) (r : Fin 8) (k : Fin 1024) :
    (outsAt0 m c t.val t.isLt).2.1 (ix2 r k) = part x y g t r k := by
  have h0 := blk0 m x c t hx
  have h1 := blk1 m y c t hy
  have h2 := blk2 m g c t hg
  rw [outsAt0_A m c t hA]
  dsimp only
  frame_out
  generalize iblk m c 0 t = P0 at h0 ⊢
  generalize iblk m c 1 t = P1 at h1 ⊢
  generalize iblk m c 2 t = P2 at h2 ⊢
  rw [Rows.canon_row_at, Rows.canon_fill]
  unfold part
  by_cases h : r.val = 0
  · obtain rfl : r = 0 := Fin.ext h
    rw [if_pos (show (0 : Fin 8).val = 0 from rfl), if_pos (show (0 : Fin 8).val = 0 from rfl)]
    pointwise [k0_pay5]
    rw [Rows.readCov_row_at _ (by decide), Rows.canon_fill]
    pointwise [k0_pay1, k0_pay2, k0_pay3, k0_pay6, k0_pay8, k0_pay9, k0_pay10]
    simp only [h0, h1, h2]
    rfl
  · rw [if_neg h, if_neg h]
    pointwise [k0_pay6]

/-- The second output's accumulator after a later point. -/
theorem point_4_B (c : Dev nD) (hx : m ((c : Thread nD τ).loc main_arg0) = x) (hy : m ((c : Thread nD τ).loc main_arg1) = y)
    (hg : m ((c : Thread nD τ).loc main_arg2) = g) (t : Fin cfg0.N) (hB : ¬ t.val % 8 = 0) (r : Fin 8) (k : Fin 1024) :
    (outsAt0 m c t.val t.isLt).2.1 (ix2 r k)
      = (outsAt0 m c (t.val - 1) (Nat.lt_of_le_of_lt (Nat.sub_le _ _) t.isLt)).2.1 (ix2 r k) + part x y g t r k := by
  have h0 := blk0 m x c t hx
  have h1 := blk1 m y c t hy
  have h2 := blk2 m g c t hg
  rw [outsAt0_B m c t hB]
  dsimp only
  frame_out
  generalize iblk m c 0 t = P0 at h0 ⊢
  generalize iblk m c 1 t = P1 at h1 ⊢
  generalize iblk m c 2 t = P2 at h2 ⊢
  generalize (outsAt0 m c (t.val - 1) _).2.1 = prev
  rw [Rows.read_row_at, Rows.read_none]
  unfold part
  by_cases h : r.val = 0
  · obtain rfl : r = 0 := Fin.ext h
    rw [if_pos (show (0 : Fin 8).val = 0 from rfl), if_pos (show (0 : Fin 8).val = 0 from rfl)]
    pointwise [k0_pay5, k0_pay1, k0_pay2, k0_pay3, k0_pay8, k0_pay9, k0_pay10]
    simp only [h0, h1, h2]
    rfl
  · rw [if_neg h, if_neg h, add_zero]

/-- The third output's accumulator after the first point. -/
theorem point_5_A (c : Dev nD) (hx : m ((c : Thread nD τ).loc main_arg0) = x) (hy : m ((c : Thread nD τ).loc main_arg1) = y)
    (hg : m ((c : Thread nD τ).loc main_arg2) = g) (t : Fin cfg0.N) (hA : t.val % 8 = 0) (r : Fin 8) (k : Fin 128) :
    (outsAt0 m c t.val t.isLt).2.2 (ix2 r k) = share x y g t := by
  have h0 := blk0 m x c t hx
  have h1 := blk1 m y c t hy
  have h2 := blk2 m g c t hg
  rw [outsAt0_A m c t hA]
  dsimp only
  frame_out
  generalize iblk m c 0 t = P0 at h0 ⊢
  generalize iblk m c 1 t = P1 at h1 ⊢
  generalize iblk m c 2 t = P2 at h2 ⊢
  pointwise [k0_pay11, k0_pay7, k0_pay8, k0_pay9, k0_pay10]
  simp only [h0, h1, h2, Finset.univ_unique, Finset.sum_singleton]
  rfl

/-- The third output's accumulator after a later point. -/
theorem point_5_B (c : Dev nD) (hx : m ((c : Thread nD τ).loc main_arg0) = x) (hy : m ((c : Thread nD τ).loc main_arg1) = y)
    (hg : m ((c : Thread nD τ).loc main_arg2) = g) (t : Fin cfg0.N) (hB : ¬ t.val % 8 = 0) (r : Fin 8) (k : Fin 128) :
    (outsAt0 m c t.val t.isLt).2.2 (ix2 r k)
      = (outsAt0 m c (t.val - 1) (Nat.lt_of_le_of_lt (Nat.sub_le _ _) t.isLt)).2.2 (ix2 r k) + share x y g t := by
  have h0 := blk0 m x c t hx
  have h1 := blk1 m y c t hy
  have h2 := blk2 m g c t hg
  rw [outsAt0_B m c t hB]
  dsimp only
  frame_out
  generalize iblk m c 0 t = P0 at h0 ⊢
  generalize iblk m c 1 t = P1 at h1 ⊢
  generalize iblk m c 2 t = P2 at h2 ⊢
  generalize (outsAt0 m c (t.val - 1) _).2.2 = prev
  pointwise [k0_pay11, k0_pay8, k0_pay9, k0_pay10]
  simp only [h0, h1, h2, Finset.univ_unique, Finset.sum_singleton]
  rfl

/-- What the kernel leaves in its first result. -/
theorem final_3 (c : Dev nD) (hx : m ((c : Thread nD τ).loc main_arg0) = x) (hy : m ((c : Thread nD τ).loc main_arg1) = y)
    (hg : m ((c : Thread nD τ).loc main_arg2) = g) :
    (dats m 0 c).arrAt 3 cfg0.N = fun i : S4096x1024.Idx => kerX x y g (i 0) (i 1) := by
  refine (dats m 0 c).arrAt_eq_of_covers 3 _ (by decide +kernel) fun t hf y' => ?_
  obtain ⟨q, k, rfl⟩ : ∃ (q : Fin 512) (k : Fin 1024), y' = ix2 q k := ⟨y' 0, y' 1, eq_ix2 y'⟩
  blk_simp
  rw [after0_3, point_3 m x y g c hx hy hg t q k]
  congr 1 <;> apply Fin.ext <;> simp only [at_, row] <;> blk_simp [idx_val t] <;> (try simp) <;> omega

/-- What the kernel leaves in its second result. -/
theorem final_4 (c : Dev nD) (hx : m ((c : Thread nD τ).loc main_arg0) = x) (hy : m ((c : Thread nD τ).loc main_arg1) = y)
    (hg : m ((c : Thread nD τ).loc main_arg2) = g) :
    (dats m 0 c).arrAt 4 cfg0.N = fun i : S8x1024.Idx => dgain x y g (i 0) (i 1) := by
  refine (dats m 0 c).arrAt_eq_of_covers 4 _ (by decide +kernel) fun t hf y' => ?_
  obtain ⟨r, k, rfl⟩ : ∃ (r : Fin 8) (k : Fin 1024), y' = ix2 r k := ⟨y' 0, y' 1, eq_ix2 y'⟩
  blk_simp
  rw [after0_4, Pipeline.eq_sum_fin_of_reset_step_apply_of_flush (fun n h => (outsAt0 m c n h).2.1) 8 (fun _ => 0)
    (fun t j => part x y g t (j 0) (j 1))
    (fun t h j => by
      obtain ⟨r, k, rfl⟩ : ∃ (r : Fin 8) (k : Fin 1024), j = ix2 r k := ⟨j 0, j 1, eq_ix2 j⟩
      rw [zero_add]
      exact point_4_A m x y g c hx hy hg t h r k)
    (fun t h j => by
      obtain ⟨r, k, rfl⟩ : ∃ (r : Fin 8) (k : Fin 1024), j = ix2 r k := ⟨j 0, j 1, eq_ix2 j⟩
      exact point_4_B m x y g c hx hy hg t h r k)
    t ((flush0_4 t).mp hf) _, zero_add]
  have hN := lt8 t
  have e0 : (win0_4.blk t).view.emb (ix2 r k) 0 = r := by
    apply Fin.ext; blk_simp [idx_val t]
  have e1 : (win0_4.blk t).view.emb (ix2 r k) 1 = k := by
    apply Fin.ext; blk_simp [idx_val t]
  rw [e0, e1]
  show ∑ s : Fin 8, part x y g ⟨8 * (t.val / 8) + s.val, _⟩ r k = _
  unfold dgain
  rw [← sum_row (fun r => cot x y g r k * (xrow x r k * rr (xrow x r))) r.val]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold part
  simp only [ha]

/-- A half of a sum over the eight tiles. -/
theorem half_sum (f : Fin 8 → EReal) : ∑ s, half * f s = half * ∑ s, f s := by
  have h : ∀ a b : EReal, half * (a + b) = half * a + half * b := fun a b => by
    rw [half_eq]
    exact EReal.left_distrib_of_nonneg_of_ne_top (by exact_mod_cast (by norm_num : (0 : ℝ) ≤ 1 / 2)) (EReal.coe_ne_top _) a b
  simp only [Fin.sum_univ_eight, h]

/-- What the kernel leaves in its third result. -/
theorem final_5 (c : Dev nD) (hx : m ((c : Thread nD τ).loc main_arg0) = x) (hy : m ((c : Thread nD τ).loc main_arg1) = y)
    (hg : m ((c : Thread nD τ).loc main_arg2) = g) :
    (dats m 0 c).arrAt 5 cfg0.N = fun _ : S8x128.Idx => loss x y g := by
  refine (dats m 0 c).arrAt_eq_of_covers 5 _ (by decide +kernel) fun t hf y' => ?_
  obtain ⟨r, k, rfl⟩ : ∃ (r : Fin 8) (k : Fin 128), y' = ix2 r k := ⟨y' 0, y' 1, eq_ix2 y'⟩
  blk_simp
  rw [after0_5, Pipeline.eq_sum_fin_of_reset_step_apply_of_flush (fun n h => (outsAt0 m c n h).2.2) 8 (fun _ => 0)
    (fun t _ => share x y g t)
    (fun t h j => by
      obtain ⟨r, k, rfl⟩ : ∃ (r : Fin 8) (k : Fin 128), j = ix2 r k := ⟨j 0, j 1, eq_ix2 j⟩
      rw [zero_add]
      exact point_5_A m x y g c hx hy hg t h r k)
    (fun t h j => by
      obtain ⟨r, k, rfl⟩ : ∃ (r : Fin 8) (k : Fin 128), j = ix2 r k := ⟨j 0, j 1, eq_ix2 j⟩
      exact point_5_B m x y g c hx hy hg t h r k)
    t ((flush0_5 t).mp hf) _, zero_add]
  have hN := lt8 t
  show ∑ s : Fin 8, share x y g ⟨8 * (t.val / 8) + s.val, _⟩ = _
  unfold loss
  rw [← sum_tiles (fun r => err x y g r), ← half_sum]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold share
  simp only [ha]

end Cert.Loss.Kernel

end

end
-- ==== Proof.LossPair.lean ====
module
public import proofs.«01_k».proof.Defs
public import proofs.«01_k».proof.Proof.Gen.LossHeadRefIdeal
public import proofs.«01_k».proof.Proof.Loss
public import Idealize.ShloMosaic.Lib.Claim
public import Idealize.ShloMosaic.Adequacy
public import Idealize.ShloMosaic.Init

/-! The kernel of the final norm and the loss beside its reference. -/

@[expose] public section

set_option maxRecDepth 16384

noncomputable section

namespace Cert.Loss

open Idealize.ShloMosaic Idealize.ShloMosaic.TcCoe Idealize.SL.Sem

/-- The kernel and its reference leave the same arrays. -/
theorem values : algebraic_LossHeadIdeal_LossHeadRefIdeal (hLossHeadIdeal := Cert.LossHeadIdeal.Gen.facts)
    (hLossHeadRefIdeal := Cert.LossHeadRefIdeal.Gen.facts) := by
  pair_intro
  · run_from Cert.LossHeadIdeal.Value.run_blocks m g
  · run_from Cert.LossHeadRefIdeal.Value.run m' g'
    all_goals
      obtain ⟨e0, e1, e2⟩ := hagree c
    · rw [Kernel.final_3 m _ _ _ c rfl rfl rfl]
      refine (Cert.LossHeadRefIdeal.Read.val_main_v51_eq m' c).trans ?_
      rw [e0, e1, e2]
      funext i
      obtain ⟨r, k, rfl⟩ : ∃ r k, i = ValueIdx.ix2 r k := ⟨i 0, i 1, ValueIdx.eq_ix2 i⟩
      exact (ref_dx _ _ _ r k)
    · rw [Kernel.final_4 m _ _ _ c rfl rfl rfl]
      refine Eq.trans (Cert.LossHeadRefIdeal.Read.val_main_v53_eq (F := Ideal) _ _ _) ?_
      try rw [e0, e1, e2]
      funext i
      obtain ⟨r, k, rfl⟩ : ∃ r k, i = ValueIdx.ix2 r k := ⟨i 0, i 1, ValueIdx.eq_ix2 i⟩
      exact ref_dg _ _ _ r k
    · rw [Kernel.final_5 m _ _ _ c rfl rfl rfl]
      refine Eq.trans (Cert.LossHeadRefIdeal.Read.val_main_v54_eq (F := Ideal) _ _ _) ?_
      try rw [e0, e1, e2]
      funext i
      obtain ⟨r, k, rfl⟩ : ∃ r k, i = ValueIdx.ix2 r k := ⟨i 0, i 1, ValueIdx.eq_ix2 i⟩
      exact ref_loss _ _ _ r k

/-- The reference keeps its arguments; it declares no counter. -/
theorem ref_frame : quiescent_LossHeadRefIdeal (hLossHeadRefIdeal := Cert.LossHeadRefIdeal.Gen.facts) := fun m g _ =>
  (θ_run Cert.LossHeadRefIdeal.defs _ _).mono (fun r h => ⟨fun c => (h c).2.2.2, sem_eq_zero_of_no_sems (by decide) r.2⟩)
    (Cert.LossHeadRefIdeal.Value.run (F := Ideal) m g)

end Cert.Loss

end

end
-- ==== Proof.Swiglu.lean ====
module
public import proofs.«01_k».proof.Proof.InProj

/-! The gated feed-forward layer's gradient through its gate, in the kernel's form and in the reference's. -/

@[expose] public section

set_option maxRecDepth 16384

noncomputable section

open Idealize.ShloMosaic Idealize.ShloMosaic.TcCoe

namespace Cert.Swiglu
open Cert.Common Cert.InProj Cert.Norm Cert.Reals

/-- The logistic function as the programs write it. -/
def sg (a : EReal) : EReal := Ideal.div 1 (1 + Ideal.exp (-a))

theorem sg_top : sg ⊤ = 1 := by
  unfold sg
  rw [EReal.neg_top, show Ideal.exp ⊥ = 0 from rfl, add_zero]
  exact (Ideal.div_coe (y := 1) one_ne_zero 1).trans (by simp)

theorem sg_bot : sg ⊥ = 0 := by
  unfold sg
  rw [EReal.neg_bot, show Ideal.exp ⊤ = ⊤ from rfl]
  rw [EReal.add_top_of_ne_bot (by decide)]
  simp [Ideal.div]

theorem sg_real (a : ℝ) : ∃ s : ℝ, sg a = s := by
  refine ⟨1 / (1 + Real.exp (-a)), ?_⟩
  unfold sg
  have h : (1 : EReal) + Ideal.exp (-(a : EReal)) = ((1 + Real.exp (-a) : ℝ) : EReal) := by
    rw [← EReal.coe_neg, Ideal.exp_coe, EReal.coe_add]; rfl
  rw [h, Ideal.div_coe (by positivity), one_mul]

/-- The gradient through the gate, multiplied out in the kernel's order and in the reference's. -/
def kerGate (a b d : EReal) : EReal := d * (b * (sg a * (1 + a * (1 - sg a))))
def refGate (a b d : EReal) : EReal := d * b * sg a + a * (d * b) * (sg a * (1 - sg a))

/-- They agree where the partner and its gradient are finite, whatever the gate holds. -/
theorem gate_eq (a : EReal) (b d : ℝ) : refGate a b d = kerGate a b d := by
  unfold refGate kerGate
  induction a using EReal.rec with
  | bot => simp [sg_bot]
  | top =>
    have h : (1 : EReal) - 1 = 0 := by rw [← EReal.coe_one, ← EReal.coe_sub]; simp
    simp [sg_top, h]
  | coe a =>
    obtain ⟨s, hs⟩ := sg_real a
    rw [hs]
    norm_cast
    ring

variable (x dy : (⟨3, ![2, 2048, 1024]⟩ : Shape).Idx → EReal) (g : (⟨1, ![1024]⟩ : Shape).Idx → EReal)
  (wg wu w : (⟨2, ![1024, 2816]⟩ : Shape).Idx → EReal) (wd : (⟨2, ![2816, 1024]⟩ : Shape).Idx → EReal)

/-- The normalised row. -/
def nrm (r : Fin 4096) (k : Fin 1024) : EReal := xrow x r k * rr (xrow x r) * gain g k

/-- A projection of the normalised row. -/
def proj (r : Fin 4096) (j : Fin 2816) : EReal := ∑ k, nrm x g r k * w (ix2 k j)

/-- The gradient of the gated product. -/
def dsw (r : Fin 4096) (j : Fin 2816) : EReal := ∑ k, dy (ix3 (ep r) (fr r) k) * wd (ix2 j k)

/-- The gradients of the two projections. -/
def kerA (r : Fin 4096) (j : Fin 2816) : EReal := kerGate (proj x g wg r j) (proj x g wu r j) (dsw dy wd r j)
def refA (r : Fin 4096) (j : Fin 2816) : EReal := refGate (proj x g wg r j) (proj x g wu r j) (dsw dy wd r j)
def gradB (r : Fin 4096) (j : Fin 2816) : EReal := dsw dy wd r j * (proj x g wg r j * sg (proj x g wg r j))

/-- The gradient of the normalised row. -/
def backOf (da db : Fin 4096 → Fin 2816 → EReal) (r : Fin 4096) (k : Fin 1024) : EReal :=
  (∑ j, da r j * wg (ix2 k j)) + ∑ j, db r j * wu (ix2 k j)

/-- The gradient of the layer's input, and of the gain in the first of eight rows. -/
def kerX (bk : Fin 4096 → Fin 1024 → EReal) (r : Fin 4096) (k : Fin 1024) : EReal :=
  dy (ix3 (ep r) (fr r) k) + kerDx (xrow x r) (bk r) (gain g) k
def refX (bk : Fin 4096 → Fin 1024 → EReal) (r : Fin 4096) (k : Fin 1024) : EReal :=
  dy (ix3 (ep r) (fr r) k) + refDx (xrow x r) (bk r) (gain g) k
def gradG (bk : Fin 4096 → Fin 1024 → EReal) (i : Fin 8) (k : Fin 1024) : EReal :=
  if i.val = 0 then ∑ r : Fin 4096, bk r k * (xrow x r k * rr (xrow x r)) else 0

/-- A row scaled by its reciprocal root is finite whatever the row holds: one with an infinite element has root zero. -/
theorem scaled_real (a : Fin 1024 → EReal) (k : Fin 1024) : ∃ v : ℝ, a k * rr a = v := by
  by_cases h : ∀ i, max (a i) (-a i) < ⊤
  · obtain ⟨A, rfl⟩ := lift_fun h
    obtain ⟨q, v, -, -, -, hq, -⟩ := rr_real A
    exact ⟨A k * q, by rw [hq, EReal.coe_mul]⟩
  · obtain ⟨i, hi⟩ := not_forall.mp h
    exact ⟨0, by rw [(rr_inf a i hi).2, mul_zero, EReal.coe_zero]⟩

/-- The gradients of the gated projection agree on finite gains, weights of the partner and of the output, and cotangents. -/
theorem a_eq (hg : ∀ i, max (g i) (-g i) < ⊤) (hu : ∀ i, max (wu i) (-wu i) < ⊤) (hd : ∀ i, max (wd i) (-wd i) < ⊤)
    (hy : ∀ i, max (dy i) (-dy i) < ⊤) : refA x dy g wg wu wd = kerA x dy g wg wu wd := by
  funext r j
  obtain ⟨G, rfl⟩ := lift_fun hg
  obtain ⟨U, rfl⟩ := lift_fun hu
  obtain ⟨D, rfl⟩ := lift_fun hd
  obtain ⟨Y, rfl⟩ := lift_fun hy
  have hb : ∃ b : ℝ, proj x (fun i => (G i : EReal)) (fun i => (U i : EReal)) r j = b := by
    choose S hS using scaled_real (xrow x r)
    refine ⟨∑ k, S k * G (ix1 k) * U (ix2 k j), ?_⟩
    unfold proj nrm gain
    simp only [hS, ← EReal.coe_mul]
    exact coe_sum _ _
  have hs : ∃ d : ℝ, dsw (fun i => (Y i : EReal)) (fun i => (D i : EReal)) r j = d := by
    refine ⟨∑ k, Y (ix3 (ep r) (fr r) k) * D (ix2 j k), ?_⟩
    unfold dsw
    simp only [← EReal.coe_mul]
    exact coe_sum _ _
  obtain ⟨b, hb⟩ := hb
  obtain ⟨d, hs⟩ := hs
  unfold refA kerA
  rw [hb, hs]
  exact gate_eq _ b d

end Cert.Swiglu

end

end
-- ==== Proof.FfnRef.lean ====
module
public import proofs.«01_k».proof.Proof.Gen.FfnBwdRefIdeal.Read
public import proofs.«01_k».proof.Proof.Swiglu

/-! What the reference of the gated feed-forward layer with its norm returns. -/

@[expose] public section

set_option maxRecDepth 16384

noncomputable section

open Idealize.ShloMosaic Idealize.ShloMosaic.TcCoe Idealize.SL.Sem

namespace Cert.Ffn
open Cert.FfnBwdRefIdeal Cert.FfnBwdRefIdeal.Read Cert.Common Cert.InProj Cert.Norm Cert.Swiglu

variable (x : S2x2048x1024.Idx → EReal) (g : S1024.Idx → EReal) (wg wu : S1024x2816.Idx → EReal) (wd : S2816x1024.Idx → EReal) (dy : S2x2048x1024.Idx → EReal)

/-- The two projections' gradients, row by row. -/
abbrev rowsA : Fin 4096 → Fin 2816 → EReal := refA x dy g wg wu wd
abbrev rowsB : Fin 4096 → Fin 2816 → EReal := gradB x dy g wg wd

/-- The second projection's gradient inside the reference. -/
theorem mid_b (r : Fin 4096) (j : Fin 2816) : val_main_v22 (F := Ideal) x g wg wd dy (ix3 (ep r) (fr r) j) = rowsB x g wg wd dy r j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_v18_2, val_main_call0_cst_1, val_main_call0_v6, val_main_call0_v7, val_main_v18_1, val_main_v18_0, val_main_v19, val_main_v20, val_main_v21, val_main_v22, val_main_v23, val_main_call1_v0, val_main_call1_v1, val_main_call1_v2, val_main_v24]
  exact mul_comm _ _

/-- The first projection's gradient inside the reference. -/
theorem mid_a (r : Fin 4096) (j : Fin 2816) : val_main_v24 (F := Ideal) x g wg wu wd dy (ix3 (ep r) (fr r) j) = rowsA x g wg wu wd dy r j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_v18_2, val_main_call0_cst_1, val_main_call0_v6, val_main_call0_v7, val_main_v18_1, val_main_v18_0, val_main_v19, val_main_v20, val_main_v21, val_main_v22, val_main_v23, val_main_call1_v0, val_main_call1_v1, val_main_call1_v2, val_main_v24]
  rfl

/-- The normalised row's gradient inside the reference. -/
theorem mid_h (r : Fin 4096) (k : Fin 1024) : val_main_v27 (F := Ideal) x g wg wu wd dy (ix3 (ep r) (fr r) k)
    = backOf wg wu (rowsA x g wg wu wd dy) (rowsB x g wg wd dy) r k := by
  pointwise [val_main_v25, val_main_v26, val_main_v27]
  simp only [mid_a, mid_b]
  exact add_comm _ _

/-- The reference's first result. -/
theorem ref_dx (r : Fin 4096) (k : Fin 1024) : val_main_v49 (F := Ideal) x g wg wu wd dy (ix2 r k)
    = refX x dy g (backOf wg wu (rowsA x g wg wu wd dy) (rowsB x g wg wd dy)) r k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50, val_main_v51, val_main_v52, val_main_v53, val_main_v54, val_main_c, val_main_call2_v0, val_main_v55]
  have hm : ∀ k, val_main_v27 (F := Ideal) x g wg wu wd dy (ix3 ⟨r.val / 2048, by omega⟩ ⟨r.val % 2048, by omega⟩ k)
      = backOf wg wu (rowsA x g wg wu wd dy) (rowsB x g wg wd dy) r k := mid_h x g wg wu wd dy r
  simp only [hm]
  rfl

/-- The reference's second result. -/
theorem ref_da (r : Fin 4096) (j : Fin 2816) : val_main_v51 (F := Ideal) x g wg wu wd dy (ix2 r j) = rowsA x g wg wu wd dy r j := by
  pointwise [val_main_v50, val_main_v51]
  exact mid_a x g wg wu wd dy r j

/-- The reference's third result. -/
theorem ref_db (r : Fin 4096) (j : Fin 2816) : val_main_v53 (F := Ideal) x g wg wd dy (ix2 r j) = rowsB x g wg wd dy r j := by
  pointwise [val_main_v52, val_main_v53]
  exact mid_b x g wg wd dy r j

/-- The reference's fourth result. -/
theorem ref_dg (i : Fin 8) (k : Fin 1024) : val_main_v55 (F := Ideal) x g wg wu wd dy (ix2 i k)
    = gradG x (backOf wg wu (rowsA x g wg wu wd dy) (rowsB x g wg wd dy)) i k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50, val_main_v51, val_main_v52, val_main_v53, val_main_v54, val_main_c, val_main_call2_v0, val_main_v55, hostReduceAdd_lead2]
  unfold gradG
  split_ifs with h h' h'
  · simp only [Finset.univ_unique, Finset.sum_singleton]
    rw [sum_frames]
    simp only [mid_h]
    exact Finset.sum_congr rfl fun r _ => mul_comm _ _
  · omega
  · omega
  · simp [FloatOps.sitofp]

end Cert.Ffn

end

end
-- ==== Proof.Finite.lean ====
module
public import Idealize.ShloMosaic.Lib.ReduceAll
public import Idealize.ShloMosaic.Lib.Affine
public import Idealize.ShloMosaic.Lib.Pointwise

/-! Reading a precondition: an "every element" reduction that is true holds of every element. -/

@[expose] public section

set_option maxRecDepth 16384

noncomputable section

open Idealize.ShloMosaic

namespace Cert.Finite

/-- A conjunction of two flags is true when both are. -/
theorem and_split {s : Shape} {a b : IVec s 1} {i : s.Idx} (h : andi a b i = 1#1) : a i = 1#1 ∧ b i = 1#1 := by
  have h' : IntOp.andi (a i) (b i) = 1#1 := h
  revert h'
  generalize a i = p
  generalize b i = q
  revert p q
  decide

/-- The bits of the largest bound are the top. -/
theorem inf_eq : Ideal.ofBits FTy.f32 0x7F800000#32 = ⊤ := by
  simp [Ideal.ofBits, Ideal.ieee]

/-- When "all absolute values are below infinity" is true of an array, each is. -/
theorem all_finite {s t u : Shape} {axes : List (Fin s.rank)} [Subsingleton t.Idx] {v b : FVec Ideal s .f32}
    {init : IVec u 1} {h : s.ReducesTo axes t} {hu : 0 < u.numel} {j : t.Idx}
    (e : Host.reduce IntOp.andi (cmpf .olt (Host.absf v) b) init h hu j = 1#1) (hb : ∀ i, b i = ⊤) (i : s.Idx) :
    max (v i) (-v i : EReal) < ⊤ := by
  have h1 : Ideal.cmp .olt (max (v i) (-v i : EReal)) (b i) = 1#1 := Host.reduce_andi_all _ init h hu j e i
  rw [hb i] at h1
  by_contra hc
  simp [Ideal.cmp, hc] at h1

end Cert.Finite

end

end
-- ==== Proof.Ffn.lean ====
module
public import proofs.«01_k».proof.Proof.FfnRef
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnBwdRefIdeal.Run
public import proofs.«01_k».proof.Proof.Gen.Pre_ffn_finite
public import proofs.«01_k».proof.Proof.Rows
public import proofs.«01_k».proof.Proof.Finite
public import Idealize.ShloMosaic.Lib.StableHlo.RunRead

/-! What the kernel of the gated feed-forward layer's gradient leaves in its result arrays. -/

@[expose] public section

set_option maxRecDepth 16384

noncomputable section

open Idealize.ShloMosaic Idealize.ShloMosaic.TcCoe Idealize.SL.Sem
open Idealize.ShloMosaic.Pipeline (Dat)

namespace Cert.Ffn.Kernel
open Cert.FfnBwdIdeal Cert.FfnBwdIdeal.Gen Cert.Common Cert.InProj Cert.Norm Cert.Swiglu

variable (m : (ℓ : Loc nD τ sig) → Buf (Elt Ideal) ℓ)

/-- Which block each window reads or writes at a grid point. -/
theorem idx_val : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0] ∧ win0_11.index t = ![0, 0] :=
  (by decide +kernel : ∀ t : Fin grid0.N, _)

variable (x : S2x2048x1024.Idx → EReal) (g : S1024.Idx → EReal) (wg wu : S1024x2816.Idx → EReal) (wd : S2816x1024.Idx → EReal) (dy : S2x2048x1024.Idx → EReal)

/-- There are sixteen grid points. -/
theorem lt16 (t : Fin cfg0.N) : t.val < 16 := lt_of_lt_of_eq t.isLt (show cfg0.N = 16 from N_0)

/-- The row of the whole array that row `q` of the `t`-th tile is. -/
def rowOf (t : ℕ) (ht : t < 16) (q : Fin 256) : Fin 4096 := ⟨256 * t + q.val, by omega⟩

/-- The row of the whole array that row `q` of the point's block is. -/
def at_ (t : Fin cfg0.N) (q : Fin 256) : Fin 4096 := rowOf t.val (lt16 t) q

/-- The cotangent's rows as the kernel finds them. -/
theorem entry_dy (c : Dev nD) (h : m ((c : Thread nD τ).loc main_arg5) = dy) (r : Fin 4096) (k : Fin 1024) :
    (V m c main_v35 : S4096x1024.Idx → EReal) (ix2 r k) = dy (ix3 (ep r) (fr r) k) := by
  have h0 : V m c main_v35 = (shapeCast S4096x1024 dy shapeCasts_S2x2048x1024_S4096x1024 : S4096x1024.Idx → EReal) := by
    subst h; unfold V; unfold hostOps0; after_reads_simp; rfl
  rw [h0]
  pointwise
  rfl

/-- The input's rows as the kernel finds them. -/
theorem entry_x (c : Dev nD) (h : m ((c : Thread nD τ).loc main_arg0) = x) (r : Fin 4096) (k : Fin 1024) :
    (V m c main_v36 : S4096x1024.Idx → EReal) (ix2 r k) = xrow x r k := by
  have h0 : V m c main_v36 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg5) = dy) (q : Fin 256) (k : Fin 1024) :
    iblk m c 0 t (ix2 q k) = dy (ix3 (ep (at_ t q)) (fr (at_ t q)) k) := by
  rw [← entry_dy m dy c h]
  blk_simp [iblk]
  refine congrArg _ ?_
  funext b
  apply Fin.ext
  fin_cases b <;> blk_simp [idx_val t] <;> simp only [at_, rowOf] <;> (try simp) <;> (try omega)

theorem blk3 (c : Dev nD) (t : Fin cfg0.N) (h : m ((c : Thread nD τ).loc main_arg0) = x) (q : Fin 256) (k : Fin 1024) :
    iblk m c 3 t (ix2 q k) = xrow x (at_ t q) k := by
  rw [← entry_x m x c h]
  blk_simp [iblk]
  refine congrArg _ ?_
  funext b
  apply Fin.ext
  fin_cases b <;> blk_simp [idx_val t] <;> simp only [at_, rowOf] <;> (try simp) <;> (try omega)

theorem blk4 (c : Dev nD) (t : Fin cfg0.N) (h : m ((c : Thread nD τ).loc main_arg1) = g) (k : Fin 1024) :
    iblk m c 4 t (ix2 0 k) = gain g k := by
  subst h
  unfold gain
  blk_point [iblk, V, idx_val t]

theorem blk5 (c : Dev nD) (t : Fin cfg0.N) (h : m ((c : Thread nD τ).loc main_arg2) = wg) (j : Fin 2816) (k : Fin 1024) :
    iblk m c 5 t (ix2 j k) = wg (ix2 k j) := by
  subst h
  blk_point [iblk, V, idx_val t]

theorem blk6 (c : Dev nD) (t : Fin cfg0.N) (h : m ((c : Thread nD τ).loc main_arg3) = wu) (j : Fin 2816) (k : Fin 1024) :
    iblk m c 6 t (ix2 j k) = wu (ix2 k j) := by
  subst h
  blk_point [iblk, V, idx_val t]

theorem blk7 (c : Dev nD) (t : Fin cfg0.N) (h : m ((c : Thread nD τ).loc main_arg4) = wd) (j : Fin 2816) (k : Fin 1024) :
    iblk m c 7 t (ix2 j k) = wd (ix2 j k) := by
  subst h
  blk_point [iblk, V, idx_val t]

/-- The normalised rows, as the host lines in front of the kernel compute them. -/
def hostNrm : FVec Ideal S4096x1024 .bf16 :=
  truncf .bf16 (shapeCast S4096x1024
    (mulf (mulf x (broadcastInDim S2x2048x1024 ![0, 1, 2] bcast_S2x2048x1_S2x2048x1024_0_1_2
        (Host.rsqrt (addf
          (Host.divf (broadcastInDim S2x2048x1 ![0, 1] bcast_S2x2048_S2x2048x1_0_1
              (Host.reduceAdd (mulf x x) (constant S_ .f32 0#32) reducesTo_S2x2048x1024_S2x2048_d2 h_S_))
            (broadcastInDim S2x2048x1 ![] bcast_S_S2x2048x1 (constant S_ .f32 1149239296#32)))
          (broadcastInDim S2x2048x1 ![] bcast_S_S2x2048x1 (constant S_ .f32 897988541#32))))))
      (broadcastInDim S2x2048x1024 ![0, 1, 2] bcast_S1x1x1024_S2x2048x1024_0_1_2
        (broadcastInDim S1x1x1024 ![2] bcast_S1024_S1x1x1024_2 g)))
    shapeCasts_S2x2048x1024_S4096x1024) bitsLt_bf16_f32

theorem hostNrm_apply (r : Fin 4096) (k : Fin 1024) : hostNrm x g (ix2 r k) = nrm x g r k := by
  pointwise [hostNrm]
  rfl

/-- A projection of the normalised rows. -/
def hostProj (w : FVec Ideal S1024x2816 .f32) : FVec Ideal S4096x2816 .f32 :=
  Host.dotGeneral dot_S4096x1024_S1024x2816_S4096x2816_1_0_0_1_n_n none (hostNrm x g) (truncf .bf16 w bitsLt_bf16_f32)

theorem hostProj_apply (w : S1024x2816.Idx → EReal) (r : Fin 4096) (j : Fin 2816) : hostProj x g w (ix2 r j) = proj x g w r j := by
  pointwise [hostProj]
  simp only [hostNrm_apply]
  rfl

theorem entry_fa (c : Dev nD) (hx : m ((c : Thread nD τ).loc main_arg0) = x) (hg : m ((c : Thread nD τ).loc main_arg1) = g)
    (hw : m ((c : Thread nD τ).loc main_arg2) = wg) : V m c main_v16 = hostProj x g wg := by
  subst hx; subst hg; subst hw
  unfold V; unfold hostOps0; after_reads_simp
  rfl

/-- The logistic function of a projection, as the host lines write it. -/
def hostSg (a : FVec Ideal S4096x2816 .f32) : FVec Ideal S4096x2816 .f32 :=
  Host.divf (broadcastInDim S4096x2816 ![] bcast_S_S4096x2816 (constant S_ .f32 1065353216#32))
    (addf (broadcastInDim S4096x2816 ![] bcast_S_S4096x2816 (constant S_ .f32 1065353216#32)) (Host.exp (Host.negf a)))

/-- What the forward pass saves for the gate's gradient, and for its partner's. -/
def hostA (a b : FVec Ideal S4096x2816 .f32) : FVec Ideal S4096x2816 .bf16 :=
  truncf .bf16 (mulf b (mulf (hostSg a) (addf (broadcastInDim S4096x2816 ![] bcast_S_S4096x2816 (constant S_ .f32 1065353216#32))
    (mulf a (subf (broadcastInDim S4096x2816 ![] bcast_S_S4096x2816 (constant S_ .f32 1065353216#32)) (hostSg a)))))) bitsLt_bf16_f32
def hostB (a : FVec Ideal S4096x2816 .f32) : FVec Ideal S4096x2816 .bf16 := truncf .bf16 (mulf a (hostSg a)) bitsLt_bf16_f32

theorem entry_a (c : Dev nD) (hx : m ((c : Thread nD τ).loc main_arg0) = x) (hg : m ((c : Thread nD τ).loc main_arg1) = g)
    (hw : m ((c : Thread nD τ).loc main_arg2) = wg) (hu : m ((c : Thread nD τ).loc main_arg3) = wu) :
    V m c main_v33 = hostA (hostProj x g wg) (hostProj x g wu) := by
  subst hx; subst hg; subst hw; subst hu
  unfold V; unfold hostOps0; after_reads_simp
  rfl

theorem entry_b (c : Dev nD) (hx : m ((c : Thread nD τ).loc main_arg0) = x) (hg : m ((c : Thread nD τ).loc main_arg1) = g)
    (hw : m ((c : Thread nD τ).loc main_arg2) = wg) : V m c main_v34 = hostB (hostProj x g wg) := by
  subst hx; subst hg; subst hw
  unfold V; unfold hostOps0; after_reads_simp
  rfl

/-- The saved factors at an index. -/
def facA (r : Fin 4096) (j : Fin 2816) : EReal :=
  proj x g wu r j * (sg (proj x g wg r j) * (1 + proj x g wg r j * (1 - sg (proj x g wg r j))))
def facB (r : Fin 4096) (j : Fin 2816) : EReal := proj x g wg r j * sg (proj x g wg r j)

theorem hostA_apply (r : Fin 4096) (j : Fin 2816) : hostA (hostProj x g wg) (hostProj x g wu) (ix2 r j) = facA x g wg wu r j := by
  pointwise [hostA, hostSg]
  simp only [hostProj_apply]
  rfl

theorem hostB_apply (r : Fin 4096) (j : Fin 2816) : hostB (hostProj x g wg) (ix2 r j) = facB x g wg r j := by
  pointwise [hostB, hostSg]
  simp only [hostProj_apply]
  rfl

theorem blk1 (c : Dev nD) (t : Fin cfg0.N) (hx : m ((c : Thread nD τ).loc main_arg0) = x) (hg : m ((c : Thread nD τ).loc main_arg1) = g)
    (hw : m ((c : Thread nD τ).loc main_arg2) = wg) (hu : m ((c : Thread nD τ).loc main_arg3) = wu) (q : Fin 256) (j : Fin 2816) :
    iblk m c 1 t (ix2 q j) = facA x g wg wu (at_ t q) j := by
  rw [← hostA_apply x g wg wu, ← entry_a m x g wg wu c hx hg hw hu]
  blk_simp [iblk]
  refine congrArg _ ?_
  funext b
  apply Fin.ext
  fin_cases b <;> blk_simp [idx_val t] <;> simp only [at_, rowOf] <;> (try simp) <;> (try omega)

theorem blk2 (c : Dev nD) (t : Fin cfg0.N) (hx : m ((c : Thread nD τ).loc main_arg0) = x) (hg : m ((c : Thread nD τ).loc main_arg1) = g)
    (hw : m ((c : Thread nD τ).loc main_arg2) = wg) (q : Fin 256) (j : Fin 2816) :
    iblk m c 2 t (ix2 q j) = facB x g wg (at_ t q) j := by
  rw [← hostB_apply x g wg, ← entry_b m x g wg c hx hg hw]
  blk_simp [iblk]
  refine congrArg _ ?_
  funext b
  apply Fin.ext
  fin_cases b <;> blk_simp [idx_val t] <;> simp only [at_, rowOf] <;> (try simp) <;> (try omega)

/-- The second output's block at a point. -/
theorem point_9 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy)
    (t : Fin cfg0.N) (q : Fin 256) (j : Fin 2816) : (outsAt0 m c t.val t.isLt).2.1 (ix2 q j) = kerA x dy g wg wu wd (at_ t q) j := by
  have h0 := blk0 m dy c t hy
  have h1 := blk1 m x g wg wu c t hx hg hw hu
  have h7 := blk7 m wd c t hd
  by_cases hA : t.val % 16 = 0
  case' pos => rw [outsAt0_A m c t hA]
  case' neg => rw [outsAt0_B m c t hA]
  all_goals
    dsimp only
    frame_out
    generalize iblk m c 0 t = P0 at h0 ⊢
    generalize iblk m c 1 t = P1 at h1 ⊢
    generalize iblk m c 7 t = P7 at h7 ⊢
    rcases (by omega : j.val < 1024 ∨ (1024 ≤ j.val ∧ j.val < 2048) ∨ 2048 ≤ j.val) with hj | hj | hj
    · obtain ⟨j', hl, rfl⟩ : ∃ (j' : Fin 1024) (hl : 0 + j'.val < 2816), j = ⟨0 + j'.val, hl⟩ := ⟨⟨j.val, by omega⟩, by simp only; omega, Fin.ext (by simp)⟩
      rw [Rows.canon_off _ _ _ q _ (by left; simp; omega), Rows.canon_off _ _ _ q _ (by left; simp), Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl
    · obtain ⟨j', hl, rfl⟩ : ∃ (j' : Fin 1024) (hl : 1024 + j'.val < 2816), j = ⟨1024 + j'.val, hl⟩ := ⟨⟨j.val - 1024, by omega⟩, by simp only; omega, Fin.ext (by simp; omega)⟩
      rw [Rows.canon_off _ _ _ q _ (by left; simp; omega), Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl
    · obtain ⟨j', hl, rfl⟩ : ∃ (j' : Fin 768) (hl : 2048 + j'.val < 2816), j = ⟨2048 + j'.val, hl⟩ := ⟨⟨j.val - 2048, by omega⟩, by simp only; omega, Fin.ext (by simp; omega)⟩
      rw [Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl

/-- The third output's block at a point. -/
theorem point_10 (c : Dev nD) (hx : m ((c : Thread nD τ).loc main_arg0) = x) (hg : m ((c : Thread nD τ).loc main_arg1) = g)
    (hw : m ((c : Thread nD τ).loc main_arg2) = wg)
    (hd : m ((c : Thread nD τ).loc main_arg4) = wd) (hy : m ((c : Thread nD τ).loc main_arg5) = dy)
    (t : Fin cfg0.N) (q : Fin 256) (j : Fin 2816) : (outsAt0 m c t.val t.isLt).2.2.1 (ix2 q j) = gradB x dy g wg wd (at_ t q) j := by
  have h0 := blk0 m dy c t hy
  have h1 := blk2 m x g wg c t hx hg hw
  have h7 := blk7 m wd c t hd
  by_cases hA : t.val % 16 = 0
  case' pos => rw [outsAt0_A m c t hA]
  case' neg => rw [outsAt0_B m c t hA]
  all_goals
    dsimp only
    frame_out
    generalize iblk m c 0 t = P0 at h0 ⊢
    generalize iblk m c 2 t = P1 at h1 ⊢
    generalize iblk m c 7 t = P7 at h7 ⊢
    rcases (by omega : j.val < 1024 ∨ (1024 ≤ j.val ∧ j.val < 2048) ∨ 2048 ≤ j.val) with hj | hj | hj
    · obtain ⟨j', hl, rfl⟩ : ∃ (j' : Fin 1024) (hl : 0 + j'.val < 2816), j = ⟨0 + j'.val, hl⟩ := ⟨⟨j.val, by omega⟩, by simp only; omega, Fin.ext (by simp)⟩
      rw [Rows.canon_off _ _ _ q _ (by left; simp; omega), Rows.canon_off _ _ _ q _ (by left; simp), Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl
    · obtain ⟨j', hl, rfl⟩ : ∃ (j' : Fin 1024) (hl : 1024 + j'.val < 2816), j = ⟨1024 + j'.val, hl⟩ := ⟨⟨j.val - 1024, by omega⟩, by simp only; omega, Fin.ext (by simp; omega)⟩
      rw [Rows.canon_off _ _ _ q _ (by left; simp; omega), Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl
    · obtain ⟨j', hl, rfl⟩ : ∃ (j' : Fin 768) (hl : 2048 + j'.val < 2816), j = ⟨2048 + j'.val, hl⟩ := ⟨⟨j.val - 2048, by omega⟩, by simp only; omega, Fin.ext (by simp; omega)⟩
      rw [Rows.canon_band _ _ _ q _ j' rfl]
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
      simp only [h0, h1, h7]
      rfl

/-- The gradient of the normalised row in the kernel's form. -/
abbrev back : Fin 4096 → Fin 1024 → EReal := backOf wg wu (kerA x dy g wg wu wd) (gradB x dy g wg wd)

/-- Three bands of columns, each a sum of two, make the two whole sums. -/
theorem bands (f h : Fin 2816 → EReal) :
    (∑ c : Fin 1024, f ⟨c.val, by omega⟩) + (∑ c : Fin 1024, h ⟨c.val, by omega⟩)
    + ((∑ c : Fin 1024, f ⟨1024 + c.val, by omega⟩) + ∑ c : Fin 1024, h ⟨1024 + c.val, by omega⟩)
    + ((∑ c : Fin 768, f ⟨2048 + c.val, by omega⟩) + ∑ c : Fin 768, h ⟨2048 + c.val, by omega⟩) = (∑ j, f j) + ∑ j, h j := by
  have e : ∀ f : Fin 2816 → EReal, ∑ j, f j = (∑ c : Fin 1024, f ⟨c.val, by omega⟩) + (∑ c : Fin 1024, f ⟨1024 + c.val, by omega⟩)
      + ∑ c : Fin 768, f ⟨2048 + c.val, by omega⟩ := fun f =>
    (Fin.sum_univ_add (a := 2048) (b := 768) f).trans
      (congrArg (· + _) (Fin.sum_univ_add (a := 1024) (b := 1024) fun j : Fin 2048 => f ⟨j.val, by omega⟩))
  rw [e f, e h]
  abel

/-- The three bands of columns together make the normalised row's gradient. -/
theorem chunks (r : Fin 4096) (k : Fin 1024) :
    (∑ c : Fin 1024, (∑ i, dy (ix3 (ep r) (fr r) i) * wd (ix2 ⟨c.val, by omega⟩ i)) * facA x g wg wu r ⟨c.val, by omega⟩ * wg (ix2 k ⟨c.val, by omega⟩))
      + (∑ c : Fin 1024, (∑ i, dy (ix3 (ep r) (fr r) i) * wd (ix2 ⟨c.val, by omega⟩ i)) * facB x g wg r ⟨c.val, by omega⟩ * wu (ix2 k ⟨c.val, by omega⟩))
    + ((∑ c : Fin 1024, (∑ i, dy (ix3 (ep r) (fr r) i) * wd (ix2 ⟨1024 + c.val, by omega⟩ i)) * facA x g wg wu r ⟨1024 + c.val, by omega⟩ * wg (ix2 k ⟨1024 + c.val, by omega⟩))
      + (∑ c : Fin 1024, (∑ i, dy (ix3 (ep r) (fr r) i) * wd (ix2 ⟨1024 + c.val, by omega⟩ i)) * facB x g wg r ⟨1024 + c.val, by omega⟩ * wu (ix2 k ⟨1024 + c.val, by omega⟩)))
    + ((∑ c : Fin 768, (∑ i, dy (ix3 (ep r) (fr r) i) * wd (ix2 ⟨2048 + c.val, by omega⟩ i)) * facA x g wg wu r ⟨2048 + c.val, by omega⟩ * wg (ix2 k ⟨2048 + c.val, by omega⟩))
      + (∑ c : Fin 768, (∑ i, dy (ix3 (ep r) (fr r) i) * wd (ix2 ⟨2048 + c.val, by omega⟩ i)) * facB x g wg r ⟨2048 + c.val, by omega⟩ * wu (ix2 k ⟨2048 + c.val, by omega⟩))) = back x g wg wu wd dy r k :=
  bands (fun j => dsw dy wd r j * facA x g wg wu r j * wg (ix2 k j)) fun j => dsw dy wd r j * facB x g wg r j * wu (ix2 k j)

/-- The first output's block at a point. -/
theorem point_8 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy)
    (t : Fin cfg0.N) (q : Fin 256) (k : Fin 1024) :
    (outsAt0 m c t.val t.isLt).1 (ix2 q k) = kerX x dy g (back x g wg wu wd dy) (at_ t q) k := by
  have h0 := blk0 m dy c t hy
  have h1 := blk1 m x g wg wu c t hx hg hw hu
  have h2 := blk2 m x g wg c t hx hg hw
  have h3 := blk3 m x c t hx
  have h4 := blk4 m g c t hg
  have h5 := blk5 m wg c t hw
  have h6 := blk6 m wu c t hu
  have h7 := blk7 m wd c t hd
  by_cases hA : t.val % 16 = 0
  case' pos => rw [outsAt0_A m c t hA]
  case' neg => rw [outsAt0_B m c t hA]
  all_goals
    dsimp only
    frame_out
    generalize iblk m c 0 t = P0 at h0 ⊢
    generalize iblk m c 1 t = P1 at h1 ⊢
    generalize iblk m c 2 t = P2 at h2 ⊢
    generalize iblk m c 3 t = P3 at h3 ⊢
    generalize iblk m c 4 t = P4 at h4 ⊢
    generalize iblk m c 5 t = P5 at h5 ⊢
    generalize iblk m c 6 t = P6 at h6 ⊢
    generalize iblk m c 7 t = P7 at h7 ⊢
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [h0, h1, h2, h3, h4, h5, h6, h7, chunks]
    rfl

/-- One point's share of the gain's gradient. -/
def part (t : Fin cfg0.N) (i : Fin 8) (k : Fin 1024) : EReal :=
  if i.val = 0 then ∑ q : Fin 256, back x g wg wu wd dy (at_ t q) k * (xrow x (at_ t q) k * rr (xrow x (at_ t q))) else 0

/-- The fourth output's accumulator after the first point. -/
theorem point_11_A (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy)
    (t : Fin cfg0.N) (hA : t.val % 16 = 0) (r : Fin 8) (k : Fin 1024) :
    (outsAt0 m c t.val t.isLt).2.2.2 (ix2 r k) = part x g wg wu wd dy t r k := by
  have h0 := blk0 m dy c t hy
  have h1 := blk1 m x g wg wu c t hx hg hw hu
  have h2 := blk2 m x g wg c t hx hg hw
  have h3 := blk3 m x c t hx
  have h5 := blk5 m wg c t hw
  have h6 := blk6 m wu c t hu
  have h7 := blk7 m wd c t hd
  rw [outsAt0_A m c t hA]
  dsimp only
  frame_out
  generalize iblk m c 0 t = P0 at h0 ⊢
  generalize iblk m c 1 t = P1 at h1 ⊢
  generalize iblk m c 2 t = P2 at h2 ⊢
  generalize iblk m c 3 t = P3 at h3 ⊢
  generalize iblk m c 5 t = P5 at h5 ⊢
  generalize iblk m c 6 t = P6 at h6 ⊢
  generalize iblk m c 7 t = P7 at h7 ⊢
  rw [Rows.canon_row_at, Rows.canon_fill]
  unfold part
  by_cases h : r.val = 0
  · obtain rfl : r = 0 := Fin.ext h
    rw [if_pos (show (0 : Fin 8).val = 0 from rfl), if_pos (show (0 : Fin 8).val = 0 from rfl)]
    pointwise [k0_pay1]
    rw [Rows.readCov_row_at _ (by decide), Rows.canon_fill]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [h0, h1, h2, h3, h5, h6, h7, chunks]
    rfl
  · rw [if_neg h, if_neg h]
    pointwise [k0_pay2]

/-- The fourth output's accumulator after a later point. -/
theorem point_11_B (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy)
    (t : Fin cfg0.N) (hB : ¬ t.val % 16 = 0) (r : Fin 8) (k : Fin 1024) :
    (outsAt0 m c t.val t.isLt).2.2.2 (ix2 r k)
      = (outsAt0 m c (t.val - 1) (Nat.lt_of_le_of_lt (Nat.sub_le _ _) t.isLt)).2.2.2 (ix2 r k) + part x g wg wu wd dy t r k := by
  have h0 := blk0 m dy c t hy
  have h1 := blk1 m x g wg wu c t hx hg hw hu
  have h2 := blk2 m x g wg c t hx hg hw
  have h3 := blk3 m x c t hx
  have h5 := blk5 m wg c t hw
  have h6 := blk6 m wu c t hu
  have h7 := blk7 m wd c t hd
  rw [outsAt0_B m c t hB]
  dsimp only
  frame_out
  generalize iblk m c 0 t = P0 at h0 ⊢
  generalize iblk m c 1 t = P1 at h1 ⊢
  generalize iblk m c 2 t = P2 at h2 ⊢
  generalize iblk m c 3 t = P3 at h3 ⊢
  generalize iblk m c 5 t = P5 at h5 ⊢
  generalize iblk m c 6 t = P6 at h6 ⊢
  generalize iblk m c 7 t = P7 at h7 ⊢
  generalize (outsAt0 m c (t.val - 1) _).2.2.2 = prev
  rw [Rows.read_row_at, Rows.read_none]
  unfold part
  by_cases h : r.val = 0
  · obtain rfl : r = 0 := Fin.ext h
    rw [if_pos (show (0 : Fin 8).val = 0 from rfl), if_pos (show (0 : Fin 8).val = 0 from rfl)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [h0, h1, h2, h3, h5, h6, h7, chunks]
    rfl
  · rw [if_neg h, if_neg h, add_zero]

/-- What the kernel leaves in its first result. -/
theorem final_8 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy) :
    (dats m 0 c).arrAt 8 cfg0.N = fun i : S4096x1024.Idx => kerX x dy g (back x g wg wu wd dy) (i 0) (i 1) := by
  refine (dats m 0 c).arrAt_eq_of_covers 8 _ (by decide +kernel) fun t hf y => ?_
  obtain ⟨q, k, rfl⟩ : ∃ (q : Fin 256) (k : Fin 1024), y = ix2 q k := ⟨y 0, y 1, eq_ix2 y⟩
  blk_simp
  rw [after0_8, point_8 m x g wg wu wd dy c hx hg hw hu hd hy t q k]
  congr 1 <;> apply Fin.ext <;> simp only [at_, rowOf] <;> blk_simp [idx_val t] <;> (try simp) <;> omega

/-- What the kernel leaves in its second result. -/
theorem final_9 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy) :
    (dats m 0 c).arrAt 9 cfg0.N = fun i : S4096x2816.Idx => kerA x dy g wg wu wd (i 0) (i 1) := by
  refine (dats m 0 c).arrAt_eq_of_covers 9 _ (by decide +kernel) fun t hf y => ?_
  obtain ⟨q, k, rfl⟩ : ∃ (q : Fin 256) (k : Fin 2816), y = ix2 q k := ⟨y 0, y 1, eq_ix2 y⟩
  blk_simp
  rw [after0_9, point_9 m x g wg wu wd dy c hx hg hw hu hd hy t q k]
  congr 1 <;> apply Fin.ext <;> simp only [at_, rowOf] <;> blk_simp [idx_val t] <;> (try simp) <;> omega

/-- What the kernel leaves in its third result. -/
theorem final_10 (c : Dev nD) (hx : m ((c : Thread nD τ).loc main_arg0) = x) (hg : m ((c : Thread nD τ).loc main_arg1) = g)
    (hw : m ((c : Thread nD τ).loc main_arg2) = wg)
    (hd : m ((c : Thread nD τ).loc main_arg4) = wd) (hy : m ((c : Thread nD τ).loc main_arg5) = dy) :
    (dats m 0 c).arrAt 10 cfg0.N = fun i : S4096x2816.Idx => gradB x dy g wg wd (i 0) (i 1) := by
  refine (dats m 0 c).arrAt_eq_of_covers 10 _ (by decide +kernel) fun t hf y => ?_
  obtain ⟨q, k, rfl⟩ : ∃ (q : Fin 256) (k : Fin 2816), y = ix2 q k := ⟨y 0, y 1, eq_ix2 y⟩
  blk_simp
  rw [after0_10, point_10 m x g wg wd dy c hx hg hw hd hy t q k]
  congr 1 <;> apply Fin.ext <;> simp only [at_, rowOf] <;> blk_simp [idx_val t] <;> (try simp) <;> omega

/-- The sixteen points together fill the accumulator's row `0`, and leave zero in the others. -/
theorem sum_row16 (f : Fin 4096 → EReal) (i : ℕ) :
    ∑ t : Fin 16, (if i = 0 then ∑ q : Fin 256, f (rowOf t.val t.isLt q) else 0) = if i = 0 then ∑ r, f r else 0 := by
  by_cases h : i = 0
  · simp only [if_pos h]
    exact Fin.sum_mul_add_congr fun t q h => congrArg f (Fin.ext (by simp only [rowOf]; omega))
  · simp only [if_neg h, Finset.sum_const_zero]

/-- What the kernel leaves in its fourth result. -/
theorem final_11 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (hd : m ((c : Thread nD τ).loc main_arg4) = wd) (hy : m ((c : Thread nD τ).loc main_arg5) = dy) :
    (dats m 0 c).arrAt 11 cfg0.N = fun i : S8x1024.Idx => gradG x (back x g wg wu wd dy) (i 0) (i 1) := by
  refine (dats m 0 c).arrAt_eq_of_covers 11 _ (by decide +kernel) fun t hf y => ?_
  obtain ⟨r, k, rfl⟩ : ∃ (r : Fin 8) (k : Fin 1024), y = ix2 r k := ⟨y 0, y 1, eq_ix2 y⟩
  blk_simp
  rw [after0_11, Pipeline.eq_sum_fin_of_reset_step_apply_of_flush (fun n h => (outsAt0 m c n h).2.2.2) 16 (fun _ => 0)
    (fun t y => part x g wg wu wd dy t (y 0) (y 1))
    (fun t h j => by
      obtain ⟨r, k, rfl⟩ : ∃ (r : Fin 8) (k : Fin 1024), j = ix2 r k := ⟨j 0, j 1, eq_ix2 j⟩
      rw [zero_add]
      exact point_11_A m x g wg wu wd dy c hx hg hw hu hd hy t h r k)
    (fun t h j => by
      obtain ⟨r, k, rfl⟩ : ∃ (r : Fin 8) (k : Fin 1024), j = ix2 r k := ⟨j 0, j 1, eq_ix2 j⟩
      exact point_11_B m x g wg wu wd dy c hx hg hw hu hd hy t h r k)
    t ((flush0_11 t).mp hf) _, zero_add]
  have hN := lt16 t
  have e0 : (win0_11.blk t).view.emb (ix2 r k) 0 = r := by
    apply Fin.ext; blk_simp [idx_val t]
  have e1 : (win0_11.blk t).view.emb (ix2 r k) 1 = k := by
    apply Fin.ext; blk_simp [idx_val t]
  rw [e0, e1]
  show ∑ s : Fin 16, part x g wg wu wd dy ⟨16 * (t.val / 16) + s.val, _⟩ r k = _
  unfold gradG
  rw [← sum_row16 (fun r => back x g wg wu wd dy r k * (xrow x r k * rr (xrow x r))) r.val]
  refine Finset.sum_congr rfl fun s _ => ?_
  have ha : ∀ (h : 16 * (t.val / 16) + s.val < cfg0.N) (q : Fin 256), at_ ⟨16 * (t.val / 16) + s.val, h⟩ q = rowOf s.val s.isLt q :=
    fun h q => Fin.ext (by simp only [at_, rowOf]; omega)
  unfold part
  simp only [ha]

end Cert.Ffn.Kernel

end

end
-- ==== Proof.FfnPair.lean ====
module
public import proofs.«01_k».proof.Defs
public import proofs.«01_k».proof.Proof.Gen.FfnBwdRefIdeal
public import proofs.«01_k».proof.Proof.Ffn
public import Idealize.ShloMosaic.Lib.Claim
public import Idealize.ShloMosaic.Adequacy
public import Idealize.ShloMosaic.Init

/-! The kernel of the gated feed-forward layer's gradient beside its reference. -/

@[expose] public section

set_option maxRecDepth 16384

noncomputable section

namespace Cert.Ffn

open Idealize.ShloMosaic Idealize.ShloMosaic.TcCoe Idealize.SL.Sem Cert.Swiglu

/-- What the precondition says of the four arguments it reads. -/
theorem finite [Cert.Pre_ffn_finite.Facts] {x : FVec Ideal Cert.Pre_ffn_finite.S2x2048x1024 .f32} {g : FVec Ideal Cert.Pre_ffn_finite.S1024 .f32}
    {wg wu : FVec Ideal Cert.Pre_ffn_finite.S1024x2816 .f32} {wd : FVec Ideal Cert.Pre_ffn_finite.S2816x1024 .f32}
    {dy : FVec Ideal Cert.Pre_ffn_finite.S2x2048x1024 .f32}
    (h : Cert.Pre_ffn_finite.fn (F := Ideal) x g wg wu wd dy = fun _ => 1#1) :
    (∀ i, max (g i) (-g i : EReal) < ⊤) ∧ (∀ i, max (wu i) (-wu i : EReal) < ⊤) ∧ (∀ i, max (wd i) (-wd i : EReal) < ⊤)
      ∧ ∀ i, max (dy i) (-dy i : EReal) < ⊤ := by
  have h0 := congrFun h fun a => a.elim0
  obtain ⟨h1, hy⟩ := Finite.and_split h0
  obtain ⟨h2, hd⟩ := Finite.and_split h1
  obtain ⟨hg, hu⟩ := Finite.and_split h2
  haveI : Subsingleton Cert.Pre_ffn_finite.S_.Idx := ⟨fun a b => funext fun i => i.elim0⟩
  refine ⟨Finite.all_finite hg ?_, Finite.all_finite hu ?_, Finite.all_finite hd ?_, Finite.all_finite hy ?_⟩ <;>
    exact fun _ => Finite.inf_eq

section
open Cert.FfnBwdRefIdeal Cert.FfnBwdRefIdeal.Read

variable {x : S2x2048x1024.Idx → EReal} {g : S1024.Idx → EReal} {wg wu : S1024x2816.Idx → EReal} {wd : S2816x1024.Idx → EReal}
  {dy : S2x2048x1024.Idx → EReal} (hg : ∀ i, max (g i) (-g i) < ⊤) (hu : ∀ i, max (wu i) (-wu i) < ⊤)
  (hd : ∀ i, max (wd i) (-wd i) < ⊤) (hy : ∀ i, max (dy i) (-dy i) < ⊤)
include hg hu hd hy

/-- On finite arguments the reference's results are the kernel's: the input's gradient, the gated projection's, the gain's. -/
theorem same_dx (r : Fin 4096) (k : Fin 1024) : val_main_v49 (F := Ideal) x g wg wu wd dy (ValueIdx.ix2 r k)
    = kerX x dy g (Kernel.back x g wg wu wd dy) r k := by
  refine (ref_dx _ _ _ _ _ _ _ _).trans ?_
  unfold rowsA
  rw [a_eq x dy g wg wu wd hg hu hd hy]
  exact congrArg _ (Cert.Norm.dx_eq _ _ _ k)

theorem same_da (r : Fin 4096) (j : Fin 2816) : val_main_v51 (F := Ideal) x g wg wu wd dy (ValueIdx.ix2 r j)
    = kerA x dy g wg wu wd r j := by
  refine (ref_da _ _ _ _ _ _ _ _).trans ?_
  unfold rowsA
  rw [a_eq x dy g wg wu wd hg hu hd hy]

theorem same_dg : val_main_v55 (F := Ideal) x g wg wu wd dy = fun i : S8x1024.Idx => gradG x (Kernel.back x g wg wu wd dy) (i 0) (i 1) := by
  funext i
  obtain ⟨r, k, rfl⟩ : ∃ (r : Fin 8) (k : Fin 1024), i = ValueIdx.ix2 r k := ⟨i 0, i 1, ValueIdx.eq_ix2 i⟩
  refine (ref_dg _ _ _ _ _ _ _ _).trans ?_
  unfold rowsA
  rw [a_eq x dy g wg wu wd hg hu hd hy]

end

set_option maxHeartbeats 1000000 in
/-- The kernel and its reference leave the same arrays. -/
theorem values : algebraic_FfnBwdIdeal_FfnBwdRefIdeal_pre_ffn_finite (hFfnBwdIdeal := Cert.FfnBwdIdeal.Gen.facts)
    (hFfnBwdRefIdeal := Cert.FfnBwdRefIdeal.Gen.facts) (hPre_ffn_finite := Cert.Pre_ffn_finite.Gen.facts) := by
  pair_intro
  · run_from Cert.FfnBwdIdeal.Value.run_blocks m g
  · run_from Cert.FfnBwdRefIdeal.Value.run m' g'
    all_goals
      obtain ⟨e0, e1, e2, e3, e4, e5⟩ := hagree c
      obtain ⟨hg, hu, hd, hy⟩ := finite (hpre c)
    · rw [Kernel.final_8 m _ _ _ _ _ _ c rfl rfl rfl rfl rfl rfl]
      refine (Cert.FfnBwdRefIdeal.Read.val_main_v49_eq m' c).trans ?_
      rw [e0, e1, e2, e3, e4, e5]
      funext i
      obtain ⟨r, k, rfl⟩ : ∃ r k, i = ValueIdx.ix2 r k := ⟨i 0, i 1, ValueIdx.eq_ix2 i⟩
      exact same_dx hg hu hd hy r k
    · rw [Kernel.final_9 m _ _ _ _ _ _ c rfl rfl rfl rfl rfl rfl]
      refine (Cert.FfnBwdRefIdeal.Read.val_main_v51_eq m' c).trans ?_
      rw [e0, e1, e2, e3, e4, e5]
      funext i
      obtain ⟨r, j, rfl⟩ : ∃ r j, i = ValueIdx.ix2 r j := ⟨i 0, i 1, ValueIdx.eq_ix2 i⟩
      exact same_da hg hu hd hy r j
    · rw [Kernel.final_10 m _ _ _ _ _ c rfl rfl rfl rfl rfl]
      refine Eq.trans (Cert.FfnBwdRefIdeal.Read.val_main_v53_eq (F := Ideal) _ _ _ _ _) ?_
      try rw [e0, e1, e2, e4, e5]
      funext i
      obtain ⟨r, j, rfl⟩ : ∃ r j, i = ValueIdx.ix2 r j := ⟨i 0, i 1, ValueIdx.eq_ix2 i⟩
      exact ref_db _ _ _ _ _ r j
    · rw [Kernel.final_11 m _ _ _ _ _ _ c rfl rfl rfl rfl rfl rfl]
      refine (Cert.FfnBwdRefIdeal.Read.val_main_v55_eq m' c).trans ?_
      rw [e0, e1, e2, e3, e4, e5]
      exact same_dg hg hu hd hy

/-- The reference keeps its arguments; it declares no counter. -/
theorem ref_frame : quiescent_FfnBwdRefIdeal (hFfnBwdRefIdeal := Cert.FfnBwdRefIdeal.Gen.facts) := fun m g _ =>
  (θ_run Cert.FfnBwdRefIdeal.defs _ _).mono (fun r h => ⟨fun c => (h c).2.2.2.2, sem_eq_zero_of_no_sems (by decide) r.2⟩)
    (Cert.FfnBwdRefIdeal.Value.run (F := Ideal) m g)

end Cert.Ffn

end

end
-- ==== Proof.Gating.lean ====
module
public import proofs.«01_k».proof.Proof.Swiglu
public import Idealize.ShloMosaic.PureOps.Ideal.Laws

/-! The spatial gating mixer's gradient: the exact gelu and its slope, the gradient of a centred norm, and the block-wise
mixing of rows, in the kernel's form and in the reference's. -/

@[expose] public section

set_option maxRecDepth 16384

noncomputable section

open Idealize.ShloMosaic Idealize.ShloMosaic.TcCoe

namespace Cert.Gating
open Cert.Common Cert.InProj Cert.Norm Cert.Reals Cert.Swiglu

/-- One half, the root of one half, and the slope's constant, one over the root of `2π`. -/
def half : EReal := Ideal.ofBits FTy.f32 1056964608#32
def root : EReal := (((Real.sqrt 2)⁻¹ : ℝ) : EReal)
def coef : EReal := (((Real.sqrt (2 * Real.pi))⁻¹ : ℝ) : EReal)

/-- The exact gelu and its slope in the kernel's form. -/
def gel (z : EReal) : EReal := half * z * (1 + Ideal.erf (z * root))
def slope (z : EReal) : EReal := half * (1 + Ideal.erf (z * root)) + z * Ideal.exp (mhalf * z * z) * coef

/-- The reference's constant in the slope, with `π` as an angle, and its slope times a gradient. -/
def refCoef : EReal := Ideal.div (Ideal.ofBits FTy.f32 3221225472#32) (Ideal.sqrt (Ideal.atan2 (Ideal.ofBits FTy.f32 0#32) (Ideal.ofBits FTy.f32 3212836864#32)))
def refGel (z : EReal) : EReal := half * z * Ideal.erfc (-z * Ideal.sqrt half)
def refSlope (z d : EReal) : EReal :=
  -(refCoef * Ideal.exp (-(-z * Ideal.sqrt half) * (-z * Ideal.sqrt half)) * (half * z * d) * Ideal.sqrt half)
    + half * (d * Ideal.erfc (-z * Ideal.sqrt half))

theorem half_eq : half = ((1 / 2 : ℝ) : EReal) := by
  unfold half
  simp [Ideal.ofBits, Ideal.ieee, -EReal.coe_mul]
  norm_num

theorem sqrt_half : Ideal.sqrt half = root := by
  rw [half_eq, Ideal.sqrt_coe, if_neg (by norm_num)]
  unfold root
  rw [one_div, Real.sqrt_inv]

theorem refCoef_eq : refCoef = ((-2 / Real.sqrt Real.pi : ℝ) : EReal) := by
  have h1 : Ideal.ofBits FTy.f32 3212836864#32 = ((-1 : ℝ) : EReal) := by
    simp [Ideal.ofBits, Ideal.ieee, -EReal.coe_mul]
    norm_num
  have h2 : Ideal.ofBits FTy.f32 3221225472#32 = ((-2 : ℝ) : EReal) := by
    simp [Ideal.ofBits, Ideal.ieee, -EReal.coe_mul]
    norm_num
  have h0 : Ideal.ofBits FTy.f32 0#32 = 0 := by simp [Ideal.ofBits, Ideal.ieee]
  have h3 : Ideal.atan2 0 ((-1 : ℝ) : EReal) = ((Real.pi : ℝ) : EReal) := by
    show (((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ)) : EReal) = _
    rw [if_neg (by norm_num), if_pos (by norm_num), if_pos le_rfl]
    simp
  unfold refCoef
  rw [h0, h1, h2, h3, Ideal.sqrt_coe, if_neg (not_lt.mpr Real.pi_pos.le), Ideal.div_coe (Real.sqrt_pos.mpr Real.pi_pos).ne', ← EReal.coe_mul]
  exact congrArg _ (by ring)

/-- The two forms of gelu agree everywhere. -/
theorem gel_eq (z : EReal) : refGel z = gel z := by
  unfold refGel gel
  rw [sqrt_half, EReal.neg_mul, Ideal.erfc_neg]

theorem erf_real (z : ℝ) : ∃ v : ℝ, Ideal.erf z = v := ⟨_, rfl⟩

theorem gel_real (z : ℝ) : ∃ v : ℝ, gel z = v := by
  obtain ⟨v, hv⟩ := erf_real (z * (Real.sqrt 2)⁻¹)
  refine ⟨1 / 2 * z * (1 + v), ?_⟩
  unfold gel root
  rw [← EReal.coe_mul z, hv, half_eq]
  norm_cast

/-- The two forms of a gradient through gelu agree on reals. -/
theorem slope_eq (z d : ℝ) : refSlope z d = d * slope z := by
  obtain ⟨v, hv⟩ := erf_real (z * (Real.sqrt 2)⁻¹)
  have h2 : Real.sqrt 2 * Real.sqrt 2 = 2 := Real.mul_self_sqrt (by norm_num)
  have hs : (Real.sqrt 2)⁻¹ * (Real.sqrt 2)⁻¹ = 1 / 2 := by rw [← mul_inv, h2, one_div]
  have hp : (Real.sqrt (2 * Real.pi))⁻¹ = (Real.sqrt 2)⁻¹ * (Real.sqrt Real.pi)⁻¹ := by
    rw [Real.sqrt_mul (by norm_num), mul_inv]
  unfold refSlope slope
  rw [sqrt_half, EReal.neg_mul (z : EReal) root, Ideal.erfc_neg, refCoef_eq, half_eq, mhalf_eq]
  unfold root coef
  rw [← EReal.coe_mul z, hv, hp]
  simp only [← EReal.coe_neg, ← EReal.coe_mul, Ideal.exp_coe]
  have he : -(-(z * (Real.sqrt 2)⁻¹)) * -(z * (Real.sqrt 2)⁻¹) = -1 / 2 * z * z := by
    rw [show -(-(z * (Real.sqrt 2)⁻¹)) * -(z * (Real.sqrt 2)⁻¹) = -(z * z * ((Real.sqrt 2)⁻¹ * (Real.sqrt 2)⁻¹)) by ring, hs]
    ring
  rw [he, ← EReal.coe_one]
  simp only [← EReal.coe_neg, ← EReal.coe_mul, ← EReal.coe_add]
  refine congrArg _ ?_
  ring

/-- A row's mean, the row less its mean, and that row divided by its spread. -/
def mean (v : Fin 1024 → EReal) : EReal := Ideal.div (∑ k, v k) len
def cen (v : Fin 1024 → EReal) (k : Fin 1024) : EReal := v k - mean v
def hat (v : Fin 1024 → EReal) (k : Fin 1024) : EReal := cen v k * rr (cen v)

/-- The gradient of the row in the kernel's form. -/
def kerLn (v d : Fin 1024 → EReal) (k : Fin 1024) : EReal :=
  rr (cen v) * (d k - mean d - hat v k * mean fun j => d j * hat v j)

/-- The spread's share of the row's gradient in the reference's form, and the gradient. -/
def refSp (v dn gn : Fin 1024 → EReal) (k : Fin 1024) : EReal := refMs (cen v) dn gn * (Ideal.ofBits FTy.f32 1073741824#32 * cen v k)
def refLn (v dn gn : Fin 1024 → EReal) (k : Fin 1024) : EReal :=
  dn k * gn k * rr (cen v) + refSp v dn gn k
    + ∑ _x : Fin 1, Ideal.div ((∑ j, -(dn j * gn j * rr (cen v))) + ∑ j, -refSp v dn gn j) len

theorem two_eq : Ideal.ofBits FTy.f32 1073741824#32 = ((2 : ℝ) : EReal) := by
  simp [Ideal.ofBits, Ideal.ieee, -EReal.coe_mul]
  try norm_num

/-- A real row less its mean is real and sums to zero. -/
theorem cen_real (v : Fin 1024 → ℝ) : ∃ c : Fin 1024 → ℝ, ∑ k, c k = 0 ∧ cen (fun k => (v k : EReal)) = fun k => (c k : EReal) := by
  refine ⟨fun k => v k - (∑ j, v j) * (1 / 1024), ?_, ?_⟩
  · rw [Finset.sum_sub_distrib, Finset.sum_const, Finset.card_univ, Fintype.card_fin, nsmul_eq_mul]
    push_cast
    ring
  · funext k
    unfold cen mean
    rw [len_eq, Ideal.div_coe (by norm_num), coe_sum, ← EReal.coe_mul, ← EReal.coe_sub]

theorem hat_real (v : Fin 1024 → ℝ) (k : Fin 1024) : ∃ h : ℝ, hat (fun k => (v k : EReal)) k = h := by
  obtain ⟨c, -, hc⟩ := cen_real v
  obtain ⟨q, -, -, -, -, hq, -⟩ := rr_real c
  exact ⟨c k * q, by unfold hat; rw [hc, hq, EReal.coe_mul]⟩

theorem kerLn_real (v d : Fin 1024 → ℝ) (k : Fin 1024) : ∃ h : ℝ, kerLn (fun k => (v k : EReal)) (fun k => (d k : EReal)) k = h := by
  obtain ⟨c, -, hc⟩ := cen_real v
  obtain ⟨q, -, -, -, -, hq, -⟩ := rr_real c
  unfold kerLn mean hat
  rw [hc, hq, len_eq]
  simp only [← EReal.coe_mul, coe_sum, Ideal.div_coe (show (1024 : ℝ) ≠ 0 by norm_num), ← EReal.coe_sub]
  exact ⟨_, rfl⟩

/-- The two forms of the row's gradient agree on reals. -/
theorem ln_eq (v dn gn : Fin 1024 → ℝ) (k : Fin 1024) :
    refLn (fun k => (v k : EReal)) (fun k => (dn k : EReal)) (fun k => (gn k : EReal)) k
      = kerLn (fun k => (v k : EReal)) (fun k => (dn k : EReal) * (gn k : EReal)) k := by
  obtain ⟨c, h0, hc⟩ := cen_real v
  obtain ⟨q, w, -, hw, hq2, hq, hm⟩ := rr_real c
  unfold refLn refSp refMs kerLn mean hat
  rw [hc, hq, hm, len_eq, mhalf_eq, two_eq]
  simp only [← EReal.coe_mul, ← EReal.coe_neg, coe_sum, Ideal.div_coe (show (1024 : ℝ) ≠ 0 by norm_num), Ideal.div_coe hw,
    Finset.univ_unique, Finset.sum_singleton, ← EReal.coe_sub, ← EReal.coe_add]
  refine congrArg _ ?_
  have e1 : ∑ j, c j * (dn j * gn j) = ∑ j, dn j * gn j * c j := Finset.sum_congr rfl fun j _ => mul_comm _ _
  have e2 : ∑ j, dn j * gn j * (c j * q) = (∑ j, dn j * gn j * c j) * q := by
    rw [Finset.sum_mul]; exact Finset.sum_congr rfl fun j _ => by ring
  have e3 : ∑ j, -(dn j * gn j * q) = -((∑ j, dn j * gn j) * q) := by rw [Finset.sum_neg_distrib, Finset.sum_mul]
  have e4 : ∀ M : ℝ, ∑ j, -(M * (2 * c j)) = 0 := fun M => by
    rw [Finset.sum_neg_distrib, ← Finset.mul_sum, ← Finset.mul_sum, h0]; ring
  rw [e1, e2, e3, e4, hq2]
  ring

/-- Row `c` of the block of 128 rows that row `r` lies in, and the place of row `r` in its block. -/
def brow (r : Fin 4096) (c : Fin 128) : Fin 4096 := ⟨r.val / 128 * 128 + c.val, by omega⟩
def pos (r : Fin 4096) : Fin 128 := ⟨r.val % 128, by omega⟩

/-- Row `i` of block `B`, and column `c` of group `p`; the group of a column. -/
def rowAt (B : Fin 32) (i : Fin 128) : Fin 4096 := ⟨128 * B.val + i.val, by omega⟩
def col (p : Fin 8) (c : Fin 128) : Fin 1024 := ⟨p.val * 128 + c.val, by omega⟩
def grp (j : Fin 1024) : Fin 8 := ⟨j.val / 128, by omega⟩

/-- The two halves of the projection's columns. -/
def lo (j : Fin 1024) : Fin 2048 := ⟨j.val, by omega⟩
def hi (j : Fin 1024) : Fin 2048 := ⟨1024 + j.val, by omega⟩

variable (x dy : (⟨3, ![2, 2048, 1024]⟩ : Shape).Idx → EReal) (g gv : (⟨1, ![1024]⟩ : Shape).Idx → EReal)
  (w : (⟨2, ![1024, 2048]⟩ : Shape).Idx → EReal) (W : Fin 8 → Fin 128 → Fin 128 → EReal)
  (bs : (⟨2, ![8, 128]⟩ : Shape).Idx → EReal) (wo : (⟨2, ![1024, 1024]⟩ : Shape).Idx → EReal)

/-- The projection, its gated half, its mixed half, and that half normalised. -/
def zz (r : Fin 4096) (j : Fin 2048) : EReal := ∑ k, nrm x g r k * w (ix2 k j)
def uu (r : Fin 4096) (j : Fin 1024) : EReal := gel (zz x g w r (lo j))
def vv (r : Fin 4096) (j : Fin 1024) : EReal := gel (zz x g w r (hi j))
def vh (r : Fin 4096) (j : Fin 1024) : EReal := hat (vv x g w r) j

/-- The normalised half with its gain, and mixed over the rows of its block. -/
def vn (r : Fin 4096) (j : Fin 1024) : EReal := vh x g w r j * gv (ix1 j)
def mix (r : Fin 4096) (j : Fin 1024) : EReal :=
  (∑ c, W (grp j) (pos r) c * vn x g gv w (brow r c) j) + bs (ix2 (grp j) (pos r))

/-- The gradients of the gated product, of the mixed half, of the normalised half and of the gate. -/
def dyv (r : Fin 4096) (j : Fin 1024) : EReal := ∑ k, dy (ix3 (ep r) (fr r) k) * wo (ix2 j k)
def dsv (r : Fin 4096) (j : Fin 1024) : EReal := dyv dy wo r j * uu x g w r j
def dvn (r : Fin 4096) (j : Fin 1024) : EReal := ∑ c, W (grp j) c (pos r) * dsv x dy g w wo (brow r c) j
def du (r : Fin 4096) (j : Fin 1024) : EReal := dyv dy wo r j * mix x g gv w W bs r j

/-- The gradient of the mixed half before its norm, in the kernel's form and in the reference's. -/
def kerV (r : Fin 4096) (j : Fin 1024) : EReal := kerLn (vv x g w r) (fun j => dvn x dy g w W wo r j * gv (ix1 j)) j
def refV (r : Fin 4096) (j : Fin 1024) : EReal := refLn (vv x g w r) (dvn x dy g w W wo r) (fun j => gv (ix1 j)) j

/-- Two halves of a row side by side. -/
def both (a b : Fin 1024 → EReal) (j : Fin 2048) : EReal :=
  if h : j.val < 1024 then a ⟨j.val, h⟩ else b ⟨j.val - 1024, by omega⟩

/-- The gradient of the projection. -/
def kerZ (r : Fin 4096) (j : Fin 2048) : EReal :=
  both (du x dy g gv w W bs wo r) (kerV x dy g gv w W wo r) j * slope (zz x g w r j)
def refZ (r : Fin 4096) (j : Fin 2048) : EReal :=
  refSlope (zz x g w r j) (both (du x dy g gv w W bs wo r) (refV x dy g gv w W wo r) j)

/-- The gradients of the mixing weights, of their offsets, and of the mixed half's gain in the first of eight rows. -/
def gradW (p : Fin 8) (i j : Fin 128) : EReal :=
  ∑ B : Fin 32, ∑ c : Fin 128, dsv x dy g w wo (rowAt B i) (col p c) * vn x g gv w (rowAt B j) (col p c)
def gradB (p : Fin 8) (i : Fin 128) : EReal := ∑ B : Fin 32, ∑ c : Fin 128, dsv x dy g w wo (rowAt B i) (col p c)
def gradV (i : Fin 8) (k : Fin 1024) : EReal :=
  if i.val = 0 then ∑ r : Fin 4096, dvn x dy g w W wo r k * vh x g w r k else 0

/-- The gradient of the normalised input. -/
def backZ (dz : Fin 4096 → Fin 2048 → EReal) (r : Fin 4096) (k : Fin 1024) : EReal := ∑ j, dz r j * w (ix2 k j)

theorem real_sum {n : ℕ} {f : Fin n → EReal} (h : ∀ k, ∃ v : ℝ, f k = v) : ∃ v : ℝ, ∑ k, f k = v := by
  choose v hv using h
  exact ⟨∑ k, v k, by simp only [hv]; exact coe_sum _ _⟩

theorem real_mul {a b : EReal} (ha : ∃ v : ℝ, a = v) (hb : ∃ v : ℝ, b = v) : ∃ v : ℝ, a * b = v := by
  obtain ⟨v, rfl⟩ := ha
  obtain ⟨u, rfl⟩ := hb
  exact ⟨v * u, (EReal.coe_mul _ _).symm⟩

theorem real_add {a b : EReal} (ha : ∃ v : ℝ, a = v) (hb : ∃ v : ℝ, b = v) : ∃ v : ℝ, a + b = v := by
  obtain ⟨v, rfl⟩ := ha
  obtain ⟨u, rfl⟩ := hb
  exact ⟨v + u, (EReal.coe_add _ _).symm⟩

theorem real_of {a : EReal} (h : max a (-a) < ⊤) : ∃ v : ℝ, a = v := by
  obtain ⟨v, hv⟩ := lift_fun (f := fun _ : Unit => a) fun _ => h
  exact ⟨v (), congrFun hv ()⟩

section
variable (hg : ∀ i, max (g i) (-g i) < ⊤) (hw : ∀ i, max (w i) (-w i) < ⊤)
include hg hw

/-- On finite weights the projection is finite whatever the input holds. -/
theorem zz_real (r : Fin 4096) (j : Fin 2048) : ∃ v : ℝ, zz x g w r j = v :=
  real_sum fun k => real_mul (real_mul (scaled_real (xrow x r) k) (real_of (hg _))) (real_of (hw _))

theorem vv_real (r : Fin 4096) : ∃ v : Fin 1024 → ℝ, vv x g w r = fun k => (v k : EReal) := by
  have h : ∀ k, ∃ v : ℝ, vv x g w r k = v := fun k => by
    obtain ⟨z, hz⟩ := zz_real x g w hg hw r (hi k)
    unfold vv
    rw [hz]
    exact gel_real z
  choose v hv using h
  exact ⟨v, funext hv⟩

theorem vn_real (hgv : ∀ i, max (gv i) (-gv i) < ⊤) (r : Fin 4096) (j : Fin 1024) : ∃ v : ℝ, vn x g gv w r j = v := by
  obtain ⟨v, hv⟩ := vv_real x g w hg hw r
  refine real_mul ?_ (real_of (hgv _))
  unfold vh
  rw [hv]
  exact hat_real v j

theorem dyv_real (hwo : ∀ i, max (wo i) (-wo i) < ⊤) (hy : ∀ i, max (dy i) (-dy i) < ⊤) (r : Fin 4096) (j : Fin 1024) :
    ∃ v : ℝ, dyv dy wo r j = v :=
  real_sum fun k => real_mul (real_of (hy _)) (real_of (hwo _))

theorem dvn_real (hW : ∀ p i j, max (W p i j) (-W p i j) < ⊤) (hwo : ∀ i, max (wo i) (-wo i) < ⊤) (hy : ∀ i, max (dy i) (-dy i) < ⊤)
    (r : Fin 4096) (j : Fin 1024) : ∃ v : ℝ, dvn x dy g w W wo r j = v :=
  real_sum fun c => real_mul (real_of (hW _ _ _)) (real_mul (dyv_real dy g w wo hg hw hwo hy _ _) (by
    obtain ⟨z, hz⟩ := zz_real x g w hg hw (brow r c) (lo j)
    unfold uu
    rw [hz]
    exact gel_real z))

/-- On finite gains, weights and cotangents the projection's gradient is the kernel's, whatever the input holds. -/
theorem z_eq (hgv : ∀ i, max (gv i) (-gv i) < ⊤) (hW : ∀ p i j, max (W p i j) (-W p i j) < ⊤)
    (hbs : ∀ i, max (bs i) (-bs i) < ⊤) (hwo : ∀ i, max (wo i) (-wo i) < ⊤) (hy : ∀ i, max (dy i) (-dy i) < ⊤) :
    refZ x dy g gv w W bs wo = kerZ x dy g gv w W bs wo := by
  funext r j
  obtain ⟨v, hv⟩ := vv_real x g w hg hw r
  have hd := fun j => dvn_real x dy g w W wo hg hw hW hwo hy r j
  choose d hd using hd
  have hn := fun j : Fin 1024 => real_of (hgv (ix1 j))
  choose n hn using hn
  have hv' : refV x dy g gv w W wo r = kerV x dy g gv w W wo r := by
    funext k
    unfold refV kerV
    rw [hv, show dvn x dy g w W wo r = fun j => (d j : EReal) from funext hd]
    simp only [hn]
    exact ln_eq v d n k
  obtain ⟨z, hz⟩ := zz_real x g w hg hw r j
  have hb : ∃ e : ℝ, both (du x dy g gv w W bs wo r) (kerV x dy g gv w W wo r) j = e := by
    unfold both
    split_ifs with h
    · exact real_mul (dyv_real dy g w wo hg hw hwo hy _ _)
        (real_add (real_sum fun c => real_mul (real_of (hW _ _ _)) (vn_real x g gv w hg hw hgv _ _)) (real_of (hbs _)))
    · unfold kerV
      rw [hv]
      simp only [hd, hn, ← EReal.coe_mul]
      exact kerLn_real v (fun j => d j * n j) _
  obtain ⟨e, he⟩ := hb
  unfold refZ kerZ
  rw [hv', hz, he]
  exact slope_eq z e

end

end Cert.Gating

end

end
-- ==== Proof.GmlpRef.lean ====
module
public import proofs.«01_k».proof.Proof.Gen.GmlpBwdRefIdeal.Read
public import proofs.«01_k».proof.Proof.Gating

/-! What the reference of the spatial gating mixer with its norm returns. -/

@[expose] public section

set_option maxRecDepth 16384

noncomputable section

open Idealize.ShloMosaic Idealize.ShloMosaic.TcCoe Idealize.SL.Sem

namespace Cert.Gmlp
open Cert.GmlpBwdRefIdeal Cert.GmlpBwdRefIdeal.Read Cert.Common Cert.InProj Cert.Norm Cert.Gating

/-- Where the contraction over examples, blocks and channels stands. -/
def contrOf (p : Fin 2 × Fin 16 × Fin 128) : dot_S8x2x16x128x128_S2x16x128x8x128_S8x128x128_123_014_4_2_0_3.contr.Idx := fun a =>
  match a with
  | ⟨0, _⟩ => p.1
  | ⟨1, _⟩ => p.2.1
  | ⟨2, _⟩ => p.2.2

theorem contr_bij : Function.Bijective contrOf := by
  refine Function.bijective_iff_has_inverse.mpr ⟨fun q => (q ⟨0, by decide⟩, q ⟨1, by decide⟩, q ⟨2, by decide⟩), fun p => rfl, fun q => ?_⟩
  funext a
  match a with
  | ⟨0, _⟩ => rfl
  | ⟨1, _⟩ => rfl
  | ⟨2, _⟩ => rfl

/-- The contraction over examples, blocks and channels, at an index. -/
theorem contract3 (A : S8x2x16x128x128.Idx → EReal) (B : S2x16x128x8x128.Idx → EReal) (p : Fin 8) (i j : Fin 128) :
    Ideal.matmul dot_S8x2x16x128x128_S2x16x128x8x128_S8x128x128_123_014_4_2_0_3 A B (fun _ => 0) (ix3 p i j)
      = ∑ e : Fin 2, ∑ n : Fin 16, ∑ c : Fin 128, A (ix5 p e n c i) * B (ix5 e n j p c) := by
  unfold Ideal.matmul
  rw [zero_add, ← Function.Bijective.sum_comp contr_bij, Fintype.sum_prod_type]
  refine Finset.sum_congr rfl fun e _ => ?_
  rw [Fintype.sum_prod_type]
  refine Finset.sum_congr rfl fun n _ => Finset.sum_congr rfl fun c _ => ?_
  congr 2
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The host's sum over the first, second and last of five axes, at an index of the two others. -/
theorem reduce3 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (p : Fin n2) (q : Fin n3) :
    Ideal.hostReduceAdd h v init (ix2 p q) = init + ∑ a : Fin n0, ∑ b : Fin n1, ∑ c : Fin n4, v (ix5 a b p q c) := by
  unfold Ideal.hostReduceAdd
  refine congrArg (init + ·) ?_
  have key : ∀ i, h.drop i = ix2 p q ↔ ∃ k : Fin n0 × Fin n1 × Fin n4, ix5 k.1 k.2.1 p q k.2.2 = i := by
    intro i
    constructor
    · intro e
      refine ⟨(i 0, i 1, i 4), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨k, rfl⟩
      funext b; apply Fin.ext
      match b with
      | ⟨0, _⟩ => rfl
      | ⟨1, _⟩ => rfl
  rw [Finset.sum_filter_eq_sum_of_fiber _ _ (fun _ _ e => Prod.ext (congrFun e 0) (Prod.ext (congrFun e 1) (congrFun e 4))) key v, Fintype.sum_prod_type]
  simp only [Fintype.sum_prod_type]

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal) (dy : S2x2048x1024.Idx → EReal)

/-- The masked mixing weights. -/
def msk (p : Fin 8) (i j : Fin 128) : EReal := val_main_v26 (F := Ideal) ws (ix3 p i j)

/-- Masked finite weights are finite. -/
theorem msk_finite (h : ∀ i, max (ws i) (-ws i) < ⊤) (p : Fin 8) (i j : Fin 128) : max (msk ws p i j) (-msk ws p i j) < ⊤ := by
  pointwise [msk, val_main_v26, val_main_call2_v0, val_main_call2_v1, val_main_call2_v2, val_main_c_4]
  unfold Scalar.select
  split_ifs
  · exact h _
  · simp [FloatOps.sitofp]

/-- Indices of a row's place in its example, block and group. -/
theorem at_block (r : Fin 4096) (c : Fin 128) (h : (fr r).val / 128 * 128 + c.val < 2048) (k : Fin 1024) :
    (ix3 (ep r) ⟨(fr r).val / 128 * 128 + c.val, h⟩ k : S2x2048x1024.Idx) = ix3 (ep (brow r c)) (fr (brow r c)) k := by
  have e1 : ep (brow r c) = ep r := Fin.ext (by simp only [ep, brow]; omega)
  have e2 : (⟨(fr r).val / 128 * 128 + c.val, h⟩ : Fin 2048) = fr (brow r c) := Fin.ext (by simp only [fr, brow]; omega)
  rw [e1, e2]

theorem at_pos (r : Fin 4096) (h : (fr r).val % 128 < 128) : (⟨(fr r).val % 128, h⟩ : Fin 128) = pos r :=
  Fin.ext (by simp only [fr, pos]; omega)

/-- The projection inside the reference. -/
theorem mid_z (r : Fin 4096) (j : Fin 2048) : val_main_v16 (F := Ideal) x g w (ix3 (ep r) (fr r) j) = zz x g w r j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16]
  rfl

/-- Its gelu, and the two halves. -/
theorem mid_gelu (r : Fin 4096) (j : Fin 2048) : val_main_v44 (F := Ideal) x g w (ix3 (ep r) (fr r) j) = gel (zz x g w r j) := by
  rw [← gel_eq]
  pointwise [val_main_cst_5, val_main_v27, val_main_v28, val_main_v29, val_main_cst_6, val_main_v30, val_main_v31, val_main_v32, val_main_v33, val_main_v34, val_main_cst_7, val_main_cst_8, val_main_v35, val_main_v36, val_main_cst_9, val_main_v37, val_main_v38, val_main_v39, val_main_v40, val_main_v41, val_main_v42, val_main_v43, val_main_v44]
  simp only [mid_z]
  rfl

theorem mid_u (r : Fin 4096) (j : Fin 1024) : val_main_v45 (F := Ideal) x g w (ix3 (ep r) (fr r) j) = uu x g w r j := by
  pointwise [val_main_v45]
  exact mid_gelu x g w r (lo j)

theorem mid_v (r : Fin 4096) (j : Fin 1024) : val_main_v46 (F := Ideal) x g w (ix3 (ep r) (fr r) j) = vv x g w r j := by
  pointwise [val_main_v46]
  exact mid_gelu x g w r (hi j)

/-- The normalised half inside the reference. -/
theorem mid_hat (r : Fin 4096) (j : Fin 1024) : val_main_v69 (F := Ideal) x g w (ix3 (ep r) (fr r) j) = vh x g w r j := by
  pointwise [val_main_cst_10, val_main_v47, val_main_v48, val_main_cst_11, val_main_v49, val_main_v50, val_main_v51, val_main_v52, val_main_v53, val_main_cst_12, val_main_v54, val_main_v55, val_main_cst_13, val_main_v56, val_main_v57, val_main_cst_14, val_main_v58, val_main_v59, val_main_v60, val_main_v61, val_main_cst_15, val_main_v62, val_main_v63, val_main_v64, val_main_v65, val_main_cst_16, val_main_v66, val_main_v67, val_main_v68, val_main_v69]
  simp only [mid_v]
  rfl

/-- The mixed half inside the reference. -/
theorem mid_mix (r : Fin 4096) (j : Fin 1024) : val_main_v80 (F := Ideal) x g w gv ws bs (ix3 (ep r) (fr r) j) = mix x g gv w (msk ws) bs r j := by
  pointwise [val_main_v70, val_main_v71, val_main_v72, val_main_v73, val_main_v74, val_main_v75, val_main_v76, val_main_v77, val_main_v78, val_main_v79, val_main_v80]
  simp only [at_block, at_pos, mid_hat]
  exact congrArg (· + _) (Finset.sum_congr rfl fun c _ => mul_comm _ _)

/-- The gradient of the gated product inside the reference. -/
theorem mid_dyv (r : Fin 4096) (j : Fin 1024) : val_main_v83 (F := Ideal) wo dy (ix3 (ep r) (fr r) j) = dyv dy wo r j := by
  pointwise [val_main_v83]
  rfl

theorem mid_dsv (r : Fin 4096) (j : Fin 1024) : val_main_v84 (F := Ideal) x g w wo dy (ix3 (ep r) (fr r) j) = dsv x dy g w wo r j := by
  pointwise [val_main_v84]
  rw [mid_u, mid_dyv]
  exact mul_comm _ _

/-- The gradient of the normalised half inside the reference. -/
theorem mid_dvn (r : Fin 4096) (j : Fin 1024) : val_main_v95 (F := Ideal) x g w ws wo dy (ix3 (ep r) (fr r) j)
    = dvn x dy g w (msk ws) wo r j := by
  pointwise [val_main_v85, val_main_v86, val_main_cst_17, val_main_v87, val_main_v88, val_main_cst_18, val_main_v89, val_main_v90, val_main_v91, val_main_v92, val_main_v93, val_main_v94, val_main_v95]
  simp only [at_block, at_pos, mid_dsv]
  exact Finset.sum_congr rfl fun c _ => mul_comm _ _

/-- The gradient of the mixed half before its norm, inside the reference. -/
theorem mid_ref (r : Fin 4096) (j : Fin 1024) : val_main_v125 (F := Ideal) x g w gv ws wo dy (ix3 (ep r) (fr r) j)
    = refV x dy g gv w (msk ws) wo r j := by
  pointwise [val_main_cst_10, val_main_v47, val_main_v48, val_main_cst_11, val_main_v49, val_main_v50, val_main_v51, val_main_v52, val_main_v53, val_main_cst_12, val_main_v54, val_main_v55, val_main_cst_13, val_main_v56, val_main_v57, val_main_cst_14, val_main_v58, val_main_v59, val_main_v60, val_main_v61, val_main_cst_15, val_main_v62, val_main_v63, val_main_v64, val_main_v65, val_main_cst_16, val_main_v66, val_main_v67, val_main_v68, val_main_v69, val_main_v70, val_main_v71, val_main_v96, val_main_cst_19, val_main_v97, val_main_v98, val_main_v99, val_main_v100, val_main_cst_20, val_main_v101, val_main_v102, val_main_cst_21, val_main_v103, val_main_v104, val_main_v105, val_main_v106, val_main_v107, val_main_v108, val_main_cst_22, val_main_v109, val_main_v110, val_main_cst_23, val_main_v111, val_main_v112, val_main_cst_24, val_main_v113, val_main_v114, val_main_v115, val_main_v116, val_main_cst_25, val_main_v117, val_main_v118, val_main_v119, val_main_v120, val_main_cst_26, val_main_v121, val_main_v122, val_main_cst_27, val_main_v123, val_main_v124, val_main_v125]
  simp only [mid_v, mid_dvn]
  rfl

/-- The projection's gradient inside the reference. -/
theorem mid_both (r : Fin 4096) (j : Fin 2048) : val_main_v126 (F := Ideal) x g w gv ws bs wo dy (ix3 (ep r) (fr r) j)
    = both (du x dy g gv w (msk ws) bs wo r) (refV x dy g gv w (msk ws) wo r) j := by
  unfold both
  pointwise [val_main_v126, val_main_v85]
  simp only [mid_dyv, mid_mix, mid_ref]
  rfl

theorem mid_dz (r : Fin 4096) (j : Fin 2048) : val_main_v135 (F := Ideal) x g w gv ws bs wo dy (ix3 (ep r) (fr r) j)
    = refZ x dy g gv w (msk ws) bs wo r j := by
  pointwise [val_main_v127, val_main_v128, val_main_v129, val_main_v130, val_main_v131, val_main_v132, val_main_cst_28, val_main_v133, val_main_v134, val_main_v135, val_main_cst_5, val_main_v27, val_main_v28, val_main_v29, val_main_cst_6, val_main_v30, val_main_v31, val_main_v32, val_main_v33, val_main_v34, val_main_cst_7, val_main_cst_8, val_main_v35, val_main_v36, val_main_cst_9, val_main_v37, val_main_v38, val_main_v39, val_main_v40, val_main_v41, val_main_v42, val_main_v43]
  simp only [mid_z, mid_both]
  rfl

/-- The normalised input's gradient inside the reference. -/
theorem mid_h (r : Fin 4096) (k : Fin 1024) : val_main_v136 (F := Ideal) x g w gv ws bs wo dy (ix3 (ep r) (fr r) k)
    = backZ w (refZ x dy g gv w (msk ws) bs wo) r k := by
  pointwise [val_main_v136]
  simp only [mid_dz]
  rfl

/-- The reference's first result. -/
theorem ref_dx (r : Fin 4096) (k : Fin 1024) : val_main_v158 (F := Ideal) x g w gv ws bs wo dy (ix2 r k)
    = Swiglu.refX x dy g (backZ w (refZ x dy g gv w (msk ws) bs wo)) r k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v137, val_main_cst_29, val_main_v138, val_main_v139, val_main_v140, val_main_v141, val_main_cst_30, val_main_v142, val_main_v143, val_main_cst_31, val_main_v144, val_main_v145, val_main_v146, val_main_v147, val_main_v148, val_main_cst_32, val_main_v149, val_main_v150, val_main_cst_33, val_main_v151, val_main_v152, val_main_v153, val_main_v154, val_main_v155, val_main_v156, val_main_v157, val_main_v158]
  have hm : ∀ k, val_main_v136 (F := Ideal) x g w gv ws bs wo dy (ix3 ⟨r.val / 2048, by omega⟩ ⟨r.val % 2048, by omega⟩ k)
      = backZ w (refZ x dy g gv w (msk ws) bs wo) r k := mid_h x g w gv ws bs wo dy r
  simp only [hm]
  rfl

/-- The reference's second result. -/
theorem ref_dz (r : Fin 4096) (j : Fin 2048) : val_main_v160 (F := Ideal) x g w gv ws bs wo dy (ix2 r j)
    = refZ x dy g gv w (msk ws) bs wo r j := by
  pointwise [val_main_v159, val_main_v160]
  exact mid_dz x g w gv ws bs wo dy r j

/-- Block `n` of example `e` among all blocks. -/
def blockOf (e : Fin 2) (n : Fin 16) : Fin 32 := ⟨e.val * 16 + n.val, by omega⟩

theorem at_row (e : Fin 2) (n : Fin 16) (i : Fin 128) (h : n.val * 128 + i.val < 2048) (p : Fin 8) (c : Fin 128) (h' : p.val * 128 + c.val < 1024) :
    (ix3 e ⟨n.val * 128 + i.val, h⟩ ⟨p.val * 128 + c.val, h'⟩ : S2x2048x1024.Idx)
      = ix3 (ep (rowAt (blockOf e n) i)) (fr (rowAt (blockOf e n) i)) (col p c) := by
  have e1 : e = ep (rowAt (blockOf e n) i) := Fin.ext (by simp only [ep, rowAt, blockOf]; omega)
  have e2 : (⟨n.val * 128 + i.val, h⟩ : Fin 2048) = fr (rowAt (blockOf e n) i) := Fin.ext (by simp only [fr, rowAt, blockOf]; omega)
  have e3 : (⟨p.val * 128 + c.val, h'⟩ : Fin 1024) = col p c := Fin.ext (by simp only [col])
  rw [← e2, ← e1, e3]

/-- The reference's third result. -/
theorem ref_dw (p : Fin 8) (i j : Fin 128) : val_main_v92 (F := Ideal) x g w gv wo dy (ix3 p i j)
    = gradW x dy g gv w wo p i j := by
  pointwise [val_main_v70, val_main_v71, val_main_v72, val_main_v73, val_main_v91, val_main_v92, val_main_v86]
  rw [contract3]
  pointwise
  simp only [at_row, mid_dsv, mid_hat]
  exact Fin.sum_mul_add_congr (f := fun B => ∑ c : Fin 128, dsv x dy g w wo (rowAt B i) (col p c) * vn x g gv w (rowAt B j) (col p c))
    fun e n hl => rfl

/-- The reference's fourth result. -/
theorem ref_db (p : Fin 8) (i j : Fin 128) : val_main_v162 (F := Ideal) x g w wo dy (ix3 p i j) = gradB x dy g w wo p i := by
  pointwise [val_main_v86, val_main_cst_17, val_main_v87, val_main_v88, val_main_cst_18, val_main_v89, val_main_v90, val_main_v161, val_main_v162]
  rw [reduce3]
  pointwise
  simp only [reduce3]
  pointwise
  simp only [at_row, mid_dsv, Finset.univ_unique, Finset.sum_singleton]
  exact Fin.sum_mul_add_congr (f := fun B => ∑ c : Fin 128, dsv x dy g w wo (rowAt B i) (col p c)) fun e n hl => rfl

/-- The reference's fifth result. -/
theorem ref_dgv (i : Fin 8) (k : Fin 1024) : val_main_v164 (F := Ideal) x g w ws wo dy (ix2 i k)
    = gradV x dy g w (msk ws) wo i k := by
  pointwise [val_main_v96, val_main_cst_19, val_main_v97, val_main_v98, val_main_cst_20, val_main_v101, val_main_v163, val_main_c_34, val_main_call3_v0, val_main_v164, val_main_c_34, val_main_call3_v0, hostReduceAdd_lead2]
  unfold gradV
  split_ifs with h h' h'
  · simp only [Finset.univ_unique, Finset.sum_singleton]
    rw [sum_frames]
    simp only [mid_hat, mid_dvn]
    exact Finset.sum_congr rfl fun r _ => mul_comm _ _
  · omega
  · omega
  · simp [FloatOps.sitofp]

/-- The reference's sixth result. -/
theorem ref_dg (i : Fin 8) (k : Fin 1024) : val_main_v166 (F := Ideal) x g w gv ws bs wo dy (ix2 i k)
    = Swiglu.gradG x (backZ w (refZ x dy g gv w (msk ws) bs wo)) i k := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v137, val_main_cst_29, val_main_v138, val_main_v139, val_main_v140, val_main_v141, val_main_cst_30, val_main_v142, val_main_v165, val_main_c_35, val_main_call4_v0, val_main_v166, val_main_c_35, val_main_call4_v0, hostReduceAdd_lead2]
  unfold Swiglu.gradG
  split_ifs with h h' h'
  · simp only [Finset.univ_unique, Finset.sum_singleton]
    rw [sum_frames]
    simp only [mid_h]
    exact Finset.sum_congr rfl fun r _ => mul_comm _ _
  · omega
  · omega
  · simp [FloatOps.sitofp]

end Cert.Gmlp

end

end
-- ==== Proof.GmlpIn.lean ====
module
public import proofs.«01_k».proof.Proof.GmlpRef
public import proofs.«01_k».proof.Proof.Gen.GmlpBwd.Frame
public import proofs.«01_k».proof.Proof.Gen.GmlpBwdIdeal.Frame
public import proofs.«01_k».proof.Proof.Gen.GmlpBwdIdeal.Value
public import proofs.«01_k».proof.Proof.Gen.GmlpBwdRefIdeal.Run
public import Idealize.ShloMosaic.Lib.StableHlo.RunRead

/-! What the kernel of the spatial gating mixer's gradient finds in its operands. -/

@[expose] public section

set_option maxRecDepth 16384

noncomputable section

open Idealize.ShloMosaic Idealize.ShloMosaic.TcCoe Idealize.SL.Sem
open Idealize.ShloMosaic.Pipeline (Dat)

namespace Cert.Gmlp.Kernel
open Cert.GmlpBwdIdeal Cert.GmlpBwdIdeal.Gen Cert.Common Cert.InProj Cert.Norm Cert.Gating

variable (m : (ℓ : Loc nD τ sig) → Buf (Elt Ideal) ℓ)

/-- Which block each window reads or writes at a grid point. -/
theorem idx_val : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0]
    ∧ win0_6.index t = ![0, 0, 0] ∧ win0_7.index t = ![0, 0, 0] ∧ win0_8.index t = ![0, 0, 0] ∧ win0_9.index t = ![0, 0]
    ∧ win0_10.index t = ![0, 0, 0] ∧ win0_11.index t = ![t.val, 0] ∧ win0_12.index t = ![t.val, 0] ∧ win0_13.index t = ![0, 0, 0]
    ∧ win0_14.index t = ![0, 0, 0] ∧ win0_15.index t = ![0, 0] ∧ win0_16.index t = ![0, 0] :=
  (by decide +kernel : ∀ t : Fin grid0.N, _)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal) (dy : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The cotangent's rows, and the input's, as the kernel finds them. -/
theorem entry_dy (c : Dev nD) (h : m ((c : Thread nD τ).loc main_arg7) = dy) (r : Fin 4096) (k : Fin 1024) :
    (V m c main_v69 : S4096x1024.Idx → EReal) (ix2 r k) = dy (ix3 (ep r) (fr r) k) := by
  have h0 : V m c main_v69 = (shapeCast S4096x1024 dy shapeCasts_S2x2048x1024_S4096x1024 : S4096x1024.Idx → EReal) := by
    subst h; unfold V; unfold hostOps0; after_reads_simp; rfl
  rw [h0]
  pointwise
  rfl

theorem entry_x (c : Dev nD) (h : m ((c : Thread nD τ).loc main_arg0) = x) (r : Fin 4096) (k : Fin 1024) :
    (V m c main_v70 : S4096x1024.Idx → EReal) (ix2 r k) = xrow x r k := by
  have h0 : V m c main_v70 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg7) = dy) (q : Fin 512) (k : Fin 1024) :
    iblk m c 0 t (ix2 q k) = dy (ix3 (ep (at_ t q)) (fr (at_ t q)) k) := by
  rw [← entry_dy m dy c h]
  blk_simp [iblk]
  refine congrArg _ ?_
  funext b
  apply Fin.ext
  fin_cases b <;> blk_simp [idx_val t] <;> simp only [at_, row] <;> (try simp) <;> (try omega)

theorem blk1 (c : Dev nD) (t : Fin cfg0.N) (h : m ((c : Thread nD τ).loc main_arg0) = x) (q : Fin 512) (k : Fin 1024) :
    iblk m c 1 t (ix2 q k) = xrow x (at_ t q) k := by
  rw [← entry_x m x c h]
  blk_simp [iblk]
  refine congrArg _ ?_
  funext b
  apply Fin.ext
  fin_cases b <;> blk_simp [idx_val t] <;> simp only [at_, row] <;> (try simp) <;> (try omega)

/-- The two gains, as rows of length one. -/
theorem entry_g (c : Dev nD) (h : m ((c : Thread nD τ).loc main_arg1) = g) (i : Fin 1) (k : Fin 1024) :
    (V m c main_v71 : S1x1024.Idx → EReal) (ix2 i k) = gain g k := by
  have h0 : V m c main_v71 = (broadcastInDim S1x1024 ![1] bcast_S1024_S1x1024_1 g : S1x1024.Idx → EReal) := by
    subst h; unfold V; unfold hostOps0; after_reads_simp
  rw [h0]
  pointwise
  rfl

theorem entry_gv (c : Dev nD) (h : m ((c : Thread nD τ).loc main_arg3) = gv) (i : Fin 1) (k : Fin 1024) :
    (V m c main_v72 : S1x1024.Idx → EReal) (ix2 i k) = gv (ix1 k) := by
  have h0 : V m c main_v72 = (broadcastInDim S1x1024 ![1] bcast_S1024_S1x1024_1 gv : S1x1024.Idx → EReal) := by
    subst h; unfold V; unfold hostOps0; after_reads_simp
  rw [h0]
  pointwise

theorem blk2 (c : Dev nD) (t : Fin cfg0.N) (h : m ((c : Thread nD τ).loc main_arg1) = g) (k : Fin 1024) :
    iblk m c 2 t (ix2 0 k) = gain g k := by
  rw [← entry_g m g c h 0]
  blk_simp [iblk]
  refine congrArg _ ?_
  funext b
  apply Fin.ext
  fin_cases b <;> blk_simp [idx_val t]

theorem blk5 (c : Dev nD) (t : Fin cfg0.N) (h : m ((c : Thread nD τ).loc main_arg3) = gv) (k : Fin 1024) :
    iblk m c 5 t (ix2 0 k) = gv (ix1 k) := by
  rw [← entry_gv m gv c h 0]
  blk_simp [iblk]
  refine congrArg _ ?_
  funext b
  apply Fin.ext
  fin_cases b <;> blk_simp [idx_val t]

/-- The masked mixing weights as the kernel finds them, and their transposes. -/
def hostMsk : FVec Ideal S8x128x128 .f32 :=
  select (Cert.GmlpBwdRefIdeal.Read.val_main_call2_v1 (F := Ideal)) ws
    (broadcastInDim S8x128x128 ![] bcast_S_S8x128x128 (constant (F := Ideal) S_ .f32 0#32))

theorem hostMsk_apply (p : Fin 8) (i j : Fin 128) : hostMsk ws (ix3 p i j) = msk ws p i j := by
  pointwise [hostMsk, msk, Cert.GmlpBwdRefIdeal.Read.val_main_v26, Cert.GmlpBwdRefIdeal.Read.val_main_call2_v2, Cert.GmlpBwdRefIdeal.Read.val_main_call2_v0, Cert.GmlpBwdRefIdeal.Read.val_main_c_4]
  refine congrArg _ ?_
  simp [Ideal.ofBits, Ideal.ieee, FloatOps.sitofp]

theorem entry_w (c : Dev nD) (h : m ((c : Thread nD τ).loc main_arg4) = ws) :
    V m c main_v11 = truncf .bf16 (hostMsk ws) bitsLt_bf16_f32 := by
  subst h; unfold V; unfold hostOps0; after_reads_simp; rfl

theorem entry_wt (c : Dev nD) (h : m ((c : Thread nD τ).loc main_arg4) = ws) :
    V m c main_v13 = truncf .bf16 (transpose S8x128x128 [0, 2, 1] (hostMsk ws) transposes_S8x128x128_S8x128x128_0_2_1) bitsLt_bf16_f32 := by
  subst h; unfold V; unfold hostOps0; after_reads_simp; rfl

theorem blk6 (c : Dev nD) (t : Fin cfg0.N) (h : m ((c : Thread nD τ).loc main_arg4) = ws) (p : Fin 8) (i j : Fin 128) :
    iblk m c 6 t (ix3 p i j) = msk ws p i j := by
  have e : (truncf .bf16 (hostMsk ws) bitsLt_bf16_f32 : FVec Ideal S8x128x128 .bf16) (ix3 p i j) = msk ws p i j := by
    pointwise
    exact hostMsk_apply ws p i j
  rw [← e, ← entry_w m ws c h]
  blk_simp [iblk]
  refine congrArg _ ?_
  funext b
  apply Fin.ext
  fin_cases b <;> blk_simp [idx_val t]

theorem blk7 (c : Dev nD) (t : Fin cfg0.N) (h : m ((c : Thread nD τ).loc main_arg4) = ws) (p : Fin 8) (i j : Fin 128) :
    iblk m c 7 t (ix3 p i j) = msk ws p j i := by
  have e : (truncf .bf16 (transpose S8x128x128 [0, 2, 1] (hostMsk ws) transposes_S8x128x128_S8x128x128_0_2_1) bitsLt_bf16_f32
      : FVec Ideal S8x128x128 .bf16) (ix3 p i j) = msk ws p j i := by
    pointwise
    exact hostMsk_apply ws p j i
  rw [← e, ← entry_wt m ws c h]
  blk_simp [iblk]
  refine congrArg _ ?_
  funext b
  apply Fin.ext
  fin_cases b <;> blk_simp [idx_val t]

/-- The offsets, repeated over the columns of a group. -/
theorem blk8 (c : Dev nD) (t : Fin cfg0.N) (h : m ((c : Thread nD τ).loc main_arg5) = bs) (p : Fin 8) (i j : Fin 128) :
    iblk m c 8 t (ix3 p i j) = bs (ix2 p i) := by
  have h0 : V m c main_v15 = (broadcastInDim S8x128x128 ![0, 1, 2] bcast_S8x128x1_S8x128x128_0_1_2
      (broadcastInDim S8x128x1 ![0, 1] bcast_S8x128_S8x128x1_0_1 bs) : S8x128x128.Idx → EReal) := by
    subst h; unfold V; unfold hostOps0; after_reads_simp
  have e : (broadcastInDim S8x128x128 ![0, 1, 2] bcast_S8x128x1_S8x128x128_0_1_2
      (broadcastInDim S8x128x1 ![0, 1] bcast_S8x128_S8x128x1_0_1 bs) : S8x128x128.Idx → EReal) (ix3 p i j) = bs (ix2 p i) := by
    pointwise
  rw [← e, ← h0]
  blk_simp [iblk]
  refine congrArg _ ?_
  funext b
  apply Fin.ext
  fin_cases b <;> blk_simp [idx_val t]

/-- The output weights, and the projection's by quarters of its columns. -/
theorem blk9 (c : Dev nD) (t : Fin cfg0.N) (h : m ((c : Thread nD τ).loc main_arg6) = wo) (i j : Fin 1024) :
    iblk m c 9 t (ix2 i j) = wo (ix2 i j) := by
  have h0 : V m c main_v73 = (truncf .bf16 (wo : FVec Ideal S1024x1024 .f32) bitsLt_bf16_f32 : FVec Ideal S1024x1024 .bf16) := by
    subst h; unfold V; unfold hostOps0; after_reads_simp
  have e : (truncf .bf16 (wo : FVec Ideal S1024x1024 .f32) bitsLt_bf16_f32 : FVec Ideal S1024x1024 .bf16) (ix2 i j) = wo (ix2 i j) := by
    pointwise
  rw [← e, ← h0]
  blk_simp [iblk]
  refine congrArg _ ?_
  funext b
  apply Fin.ext
  fin_cases b <;> blk_simp [idx_val t]

theorem blk10 (c : Dev nD) (t : Fin cfg0.N) (h : m ((c : Thread nD τ).loc main_arg2) = w) (s : Fin 4) (k : Fin 1024) (j : Fin 512) :
    iblk m c 10 t (ix3 s k j) = w (ix2 k ⟨s.val * 512 + j.val, by omega⟩) := by
  have h0 : V m c main_v18 = (truncf .bf16 (transpose S4x1024x512 [1, 0, 2]
      (shapeCast S1024x4x512 (w : FVec Ideal S1024x2048 .f32) shapeCasts_S1024x2048_S1024x4x512)
      transposes_S1024x4x512_S4x1024x512_1_0_2) bitsLt_bf16_f32 : FVec Ideal S4x1024x512 .bf16) := by
    subst h; unfold V; unfold hostOps0; after_reads_simp; rfl
  have e : (truncf .bf16 (transpose S4x1024x512 [1, 0, 2]
      (shapeCast S1024x4x512 (w : FVec Ideal S1024x2048 .f32) shapeCasts_S1024x2048_S1024x4x512)
      transposes_S1024x4x512_S4x1024x512_1_0_2) bitsLt_bf16_f32 : FVec Ideal S4x1024x512 .bf16) (ix3 s k j)
      = w (ix2 k ⟨s.val * 512 + j.val, by omega⟩) := by
    pointwise
  rw [← e, ← h0]
  blk_simp [iblk]
  refine congrArg _ ?_
  funext b
  apply Fin.ext
  fin_cases b <;> blk_simp [idx_val t]

/-- The projection, as the host lines in front of the kernel compute it. -/
def hostZ : FVec Ideal S4096x2048 .bf16 :=
  truncf .bf16 (Host.dotGeneral dot_S4096x1024_S1024x2048_S4096x2048_1_0_0_1_n_n none (truncf .bf16 (shapeCast S4096x1024
    (mulf (mulf x (broadcastInDim S2x2048x1024 ![0, 1, 2] bcast_S2x2048x1_S2x2048x1024_0_1_2
        (Host.rsqrt (addf
          (Host.divf (broadcastInDim S2x2048x1 ![0, 1] bcast_S2x2048_S2x2048x1_0_1
              (Host.reduceAdd (mulf x x) (constant S_ .f32 0#32) reducesTo_S2x2048x1024_S2x2048_d2 h_S_))
            (broadcastInDim S2x2048x1 ![] bcast_S_S2x2048x1 (constant S_ .f32 1149239296#32)))
          (broadcastInDim S2x2048x1 ![] bcast_S_S2x2048x1 (constant S_ .f32 897988541#32))))))
      (broadcastInDim S2x2048x1024 ![0, 1, 2] bcast_S1x1x1024_S2x2048x1024_0_1_2
        (broadcastInDim S1x1x1024 ![2] bcast_S1024_S1x1x1024_2 g)))
    shapeCasts_S2x2048x1024_S4096x1024) bitsLt_bf16_f32) (truncf .bf16 w bitsLt_bf16_f32)) bitsLt_bf16_f32

theorem hostZ_apply (r : Fin 4096) (j : Fin 2048) : hostZ x g w (ix2 r j) = zz x g w r j := by
  pointwise [hostZ]
  rfl

theorem entry_z (c : Dev nD) (hx : m ((c : Thread nD τ).loc main_arg0) = x) (hg : m ((c : Thread nD τ).loc main_arg1) = g)
    (hw : m ((c : Thread nD τ).loc main_arg2) = w) : V m c main_v36 = hostZ x g w := by
  subst hx; subst hg; subst hw
  unfold V; unfold hostOps0; after_reads_simp
  rfl

theorem blk3 (c : Dev nD) (t : Fin cfg0.N) (hx : m ((c : Thread nD τ).loc main_arg0) = x) (hg : m ((c : Thread nD τ).loc main_arg1) = g)
    (hw : m ((c : Thread nD τ).loc main_arg2) = w) (q : Fin 512) (j : Fin 2048) : iblk m c 3 t (ix2 q j) = zz x g w (at_ t q) j := by
  rw [← hostZ_apply x g w, ← entry_z m x g w c hx hg hw]
  blk_simp [iblk]
  refine congrArg _ ?_
  funext b
  apply Fin.ext
  fin_cases b <;> blk_simp [idx_val t] <;> simp only [at_, row] <;> (try simp) <;> (try omega)

/-- The normalised half with its gain, as the host lines compute it from the projection. -/
def hostV (z : FVec Ideal S4096x2048 .bf16) : FVec Ideal S4096x1024 .f32 :=
  mulf (mulf (broadcastInDim S4096x1024 ![] bcast_S_S4096x1024 (constant S_ .f32 1056964608#32))
      (extractStridedSlice S4096x1024 ![0, 1024] (extf .f32 z bitsLt_bf16_f32) slices_S4096x2048_S4096x1024_0_1024))
    (addf (broadcastInDim S4096x1024 ![] bcast_S_S4096x1024 (constant S_ .f32 1065353216#32))
      (Host.erf (mulf (extractStridedSlice S4096x1024 ![0, 1024] (extf .f32 z bitsLt_bf16_f32) slices_S4096x2048_S4096x1024_0_1024)
        (broadcastInDim S4096x1024 ![] bcast_S_S4096x1024 (id (Host.sqrt (constant S_ .f32 1056964608#32)))))))

def hostCen (v : FVec Ideal S4096x1024 .f32) : FVec Ideal S4096x1024 .f32 :=
  subf v (broadcastInDim S4096x1024 ![0, 1] bcast_S4096x1_S4096x1024_0_1
    (Host.divf (broadcastInDim S4096x1 ![0] bcast_S4096_S4096x1_0
        (Host.reduceAdd v (constant S_ .f32 0#32) reducesTo_S4096x1024_S4096_d1 h_S_))
      (broadcastInDim S4096x1 ![] bcast_S_S4096x1 (constant S_ .f32 1149239296#32))))

def hostN (v : FVec Ideal S4096x1024 .f32) : FVec Ideal S4096x1024 .bf16 :=
  truncf .bf16 (mulf (mulf v (broadcastInDim S4096x1024 ![0, 1] bcast_S4096x1_S4096x1024_0_1
      (Host.rsqrt (addf
        (Host.divf (broadcastInDim S4096x1 ![0] bcast_S4096_S4096x1_0
            (Host.reduceAdd (mulf v v) (constant S_ .f32 0#32) reducesTo_S4096x1024_S4096_d1 h_S_))
          (broadcastInDim S4096x1 ![] bcast_S_S4096x1 (constant S_ .f32 1149239296#32)))
        (broadcastInDim S4096x1 ![] bcast_S_S4096x1 (constant S_ .f32 897988541#32))))))
    (broadcastInDim S4096x1024 ![0, 1] bcast_S1x1024_S4096x1024_0_1 (broadcastInDim S1x1024 ![1] bcast_S1024_S1x1024_1 gv))) bitsLt_bf16_f32

theorem hostV_apply (r : Fin 4096) (j : Fin 1024) : hostV (hostZ x g w) (ix2 r j) = vv x g w r j := by
  pointwise [hostV]
  simp only [hostZ_apply]
  unfold vv gel
  rw [← sqrt_half]
  rfl

theorem hostN_apply (r : Fin 4096) (j : Fin 1024) : hostN gv (hostCen (hostV (hostZ x g w))) (ix2 r j) = vn x g gv w r j := by
  pointwise [hostN, hostCen]
  simp only [hostV_apply]
  rfl

theorem entry_vn (c : Dev nD) (hx : m ((c : Thread nD τ).loc main_arg0) = x) (hg : m ((c : Thread nD τ).loc main_arg1) = g)
    (hw : m ((c : Thread nD τ).loc main_arg2) = w) (hv : m ((c : Thread nD τ).loc main_arg3) = gv) :
    V m c main_v68 = hostN gv (hostCen (hostV (hostZ x g w))) := by
  subst hx; subst hg; subst hw; subst hv
  unfold V; unfold hostOps0; after_reads_simp
  rfl

theorem blk4 (c : Dev nD) (t : Fin cfg0.N) (hx : m ((c : Thread nD τ).loc main_arg0) = x) (hg : m ((c : Thread nD τ).loc main_arg1) = g)
    (hw : m ((c : Thread nD τ).loc main_arg2) = w) (hv : m ((c : Thread nD τ).loc main_arg3) = gv) (q : Fin 512) (j : Fin 1024) :
    iblk m c 4 t (ix2 q j) = vn x g gv w (at_ t q) j := by
  rw [← hostN_apply x g w gv, ← entry_vn m x g w gv c hx hg hw hv]
  blk_simp [iblk]
  refine congrArg _ ?_
  funext b
  apply Fin.ext
  fin_cases b <;> blk_simp [idx_val t] <;> simp only [at_, row] <;> (try simp) <;> (try omega)

end Cert.Gmlp.Kernel

end

end
-- ==== Proof.Tiles.lean ====
module
public import Idealize.ShloMosaic.Lib.Pipeline.ValueKit
public import Idealize.ShloMosaic.Lib.Pipeline.ReadBack
public import Idealize.ShloMosaic.Lib.Pointwise
public import Idealize.ShloMosaic.Lib.WritesUnit

/-! A buffer filled by tiles and read back whole or by bands of columns, and an accumulator of several slabs that is
updated one slab at a time. -/

@[expose] public section

set_option maxRecDepth 16384

noncomputable section

open Idealize.ShloMosaic Idealize.ShloMosaic.TcCoe Idealize.SL.Sem

namespace Cert.Tiles

variable {Val : EltTy → Type} {e : EltTy} {m n k o : ℕ}

/-- A tile whose entries are a function's entries at the tile's place. -/
theorem tile_at (f : Fin m → Fin n → Val e) {o p a b : ℕ} (w : (⟨2, ![a, b]⟩ : Shape).Idx → Val e) (y : (⟨2, ![m, n]⟩ : Shape).Idx)
    (h : ∀ (i : Fin a) (j : Fin b) (hi : o + i.val < m) (hj : p + j.val < n), w (ix2 i j) = f ⟨o + i.val, hi⟩ ⟨p + j.val, hj⟩) :
    View.TileAt (S := ⟨2, ![m, n]⟩) y ![o, p] ![a, b] w (f (y 0) (y 1)) := by
  intro x hx
  have h0 : (y 0).val = o + (x 0).val := hx 0
  have h1 : (y 1).val = p + (x 1).val := hx 1
  have l0 : o + (x 0).val < m := lt_of_le_of_lt (le_of_eq h0.symm) (y 0).isLt
  have l1 : p + (x 1).val < n := lt_of_le_of_lt (le_of_eq h1.symm) (y 1).isLt
  have e0 : y 0 = (⟨o + (x 0).val, l0⟩ : Fin m) := Fin.ext h0
  have e1 : y 1 = (⟨p + (x 1).val, l1⟩ : Fin n) := Fin.ext h1
  have e : f (y 0) (y 1) = f ⟨o + (x 0).val, l0⟩ ⟨p + (x 1).val, l1⟩ := congrArg₂ f e0 e1
  have hx' : x = ix2 (x 0) (x 1) := by funext a; fin_cases a <;> rfl
  rw [e, ← h (x 0) (x 1) l0 l1]
  exact congrArg w hx'

variable [∀ e, Nonempty (Val e)]

/-- The whole of a buffer read after stores that together hold a function's entries. -/
theorem read_all {sig : RefSig} {κ : Kind} {sp : Space} (v : View sig κ sp (⟨2, ![m, n]⟩ : Shape) e)
    (L : List (View.Piece Val (⟨2, ![m, n]⟩ : Shape) e))
    (inb : ∀ a, (![0, 0] : Fin 2 → ℕ) a + (![m, n] : Fin 2 → ℕ) a ≤ (![m, n] : Fin 2 → ℕ) a) (f : Fin m → Fin n → Val e)
    (h : ∀ y, View.canon L y = f (y 0) (y 1)) :
    v.readCov L (Rect.unit (s := ⟨2, ![m, n]⟩) ![0, 0] ![m, n] inb).toLoadRect = fun y => f (y 0) (y 1) := by
  rw [View.readCov_eq_canon']
  funext y
  refine (h _).trans (congrArg₂ f (Fin.ext ?_) (Fin.ext ?_))
  · show 0 + 1 * (y 0).val = (y 0).val; omega
  · show 0 + 1 * (y 1).val = (y 1).val; omega

/-- The same for a band of columns. -/
theorem read_cols {b : ℕ} {sig : RefSig} {κ : Kind} {sp : Space} (v : View sig κ sp (⟨2, ![m, n]⟩ : Shape) e)
    (L : List (View.Piece Val (⟨2, ![m, n]⟩ : Shape) e))
    (inb : ∀ a, (![0, o] : Fin 2 → ℕ) a + (![m, b] : Fin 2 → ℕ) a ≤ (![m, n] : Fin 2 → ℕ) a) (f : Fin m → Fin n → Val e)
    (h : ∀ (p : Fin m) (q : Fin n), View.canon L (ix2 p q) = f p q) :
    v.readCov L (Rect.unit (s := ⟨2, ![m, n]⟩) ![0, o] ![m, b] inb).toLoadRect
      = fun y => f (y 0) ⟨o + (y 1).val, lt_of_lt_of_le (Nat.add_lt_add_left (y 1).isLt o) (inb 1)⟩ := by
  rw [View.readCov_eq_canon']
  funext y
  refine Eq.trans (congrArg (View.canon L) (funext fun a => Fin.ext ?_))
    (h (y 0) ⟨o + (y 1).val, lt_of_lt_of_le (Nat.add_lt_add_left (y 1).isLt o) (inb 1)⟩)
  match a with
  | ⟨0, _⟩ => show 0 + 1 * (y 0).val = (y 0).val; omega
  | ⟨1, _⟩ => show o + 1 * (y 1).val = o + (y 1).val; omega

/-- After one slab was stored, an element inside it is the stored one, and an element outside is what was there. -/
theorem canon_slab (inb : ∀ a, (![o, 0, 0] : Fin 3 → ℕ) a + (![1, m, n] : Fin 3 → ℕ) a ≤ (![k, m, n] : Fin 3 → ℕ) a)
    (w : (⟨3, ![1, m, n]⟩ : Shape).Idx → Val e) (L : List (View.Piece Val (⟨3, ![k, m, n]⟩ : Shape) e)) (p : Fin k) (i : Fin m) (j : Fin n) :
    View.canon ((⟨Rect.unit (s := ⟨3, ![k, m, n]⟩) ![o, 0, 0] ![1, m, n] inb, w⟩ : View.Piece Val (⟨3, ![k, m, n]⟩ : Shape) e) :: L) (ix3 p i j)
      = if p.val = o then w (ix3 0 i j) else View.canon L (ix3 p i j) := by
  by_cases h : p.val = o
  · rw [if_pos h]
    have hy : (Rect.unit (s := ⟨3, ![k, m, n]⟩) ![o, 0, 0] ![1, m, n] inb).emb (ix3 0 i j) = ix3 p i j := by
      funext a; apply Fin.ext
      match a with
      | ⟨0, _⟩ => exact h.symm
      | ⟨1, _⟩ => show 0 + 1 * i.val = i.val; omega
      | ⟨2, _⟩ => show 0 + 1 * j.val = j.val; omega
    have := View.canon_cons_emb (Val := Val) (Rect.unit (s := ⟨3, ![k, m, n]⟩) ![o, 0, 0] ![1, m, n] inb) w L (ix3 0 i j)
    rwa [hy] at this
  · rw [if_neg h]
    refine View.canon_cons_of_not_mem _ L fun hm => h ?_
    obtain ⟨x, hx⟩ := (Rect.unit (s := ⟨3, ![k, m, n]⟩) ![o, 0, 0] ![1, m, n] inb).exists_idx_of_mem hm
    have h0 : (x 0).val < 1 := (x 0).isLt
    have h1 : o + 1 * (x 0).val = p.val := congrArg Fin.val (congrFun hx 0)
    omega

/-- The two cases apart. -/
theorem slab_hit {inb : ∀ a, (![o, 0, 0] : Fin 3 → ℕ) a + (![1, m, n] : Fin 3 → ℕ) a ≤ (![k, m, n] : Fin 3 → ℕ) a}
    {w : (⟨3, ![1, m, n]⟩ : Shape).Idx → Val e} {L : List (View.Piece Val (⟨3, ![k, m, n]⟩ : Shape) e)} {p : Fin k} {i : Fin m} {j : Fin n}
    (h : p.val = o) :
    View.canon ((⟨Rect.unit (s := ⟨3, ![k, m, n]⟩) ![o, 0, 0] ![1, m, n] inb, w⟩ : View.Piece Val (⟨3, ![k, m, n]⟩ : Shape) e) :: L) (ix3 p i j)
      = w (ix3 0 i j) := (canon_slab inb w L p i j).trans (if_pos h)

theorem slab_miss {inb : ∀ a, (![o, 0, 0] : Fin 3 → ℕ) a + (![1, m, n] : Fin 3 → ℕ) a ≤ (![k, m, n] : Fin 3 → ℕ) a}
    {w : (⟨3, ![1, m, n]⟩ : Shape).Idx → Val e} {L : List (View.Piece Val (⟨3, ![k, m, n]⟩ : Shape) e)} {p : Fin k} {i : Fin m} {j : Fin n}
    (h : ¬ p.val = o) :
    View.canon ((⟨Rect.unit (s := ⟨3, ![k, m, n]⟩) ![o, 0, 0] ![1, m, n] inb, w⟩ : View.Piece Val (⟨3, ![k, m, n]⟩ : Shape) e) :: L) (ix3 p i j)
      = View.canon L (ix3 p i j) := (canon_slab inb w L p i j).trans (if_neg h)

/-- Loading one slab after a list of stores. -/
theorem load_slab {sig : RefSig} {κ : Kind} {sp : Space} {v : View sig κ sp (⟨3, ![k, m, n]⟩ : Shape) e}
    {inb : ∀ a, (![o, 0, 0] : Fin 3 → ℕ) a + (![1, m, n] : Fin 3 → ℕ) a ≤ (![k, m, n] : Fin 3 → ℕ) a}
    {L : List (View.Piece Val (⟨3, ![k, m, n]⟩ : Shape) e)} (h : o < k) {i : Fin m} {j : Fin n} :
    v.readCov L (Rect.unit (s := ⟨3, ![k, m, n]⟩) ![o, 0, 0] ![1, m, n] inb).toLoadRect (ix3 0 i j) = View.canon L (ix3 ⟨o, h⟩ i j) := by
  rw [View.readCov_eq_canon']
  refine congrArg (View.canon L) (funext fun a => Fin.ext ?_)
  match a with
  | ⟨0, _⟩ => show o + 1 * 0 = o; omega
  | ⟨1, _⟩ => show 0 + 1 * i.val = i.val; omega
  | ⟨2, _⟩ => show 0 + 1 * j.val = j.val; omega

/-- A slab with a tile added to it. -/
theorem slab_add {M : FVec Ideal (⟨2, ![128, 128]⟩ : Shape) .f32} {X : FVec Ideal (⟨3, ![1, 128, 128]⟩ : Shape) .f32} {h1 h2} {i j : Fin 128} :
    shapeCast (⟨3, ![1, 128, 128]⟩ : Shape) (addf (shapeCast (⟨2, ![128, 128]⟩ : Shape) X h1) M) h2 (ix3 0 i j) = X (ix3 0 i j) + M (ix2 i j) := by
  pointwise

/-- A first fill of every slab. -/
theorem canon_fill (inb : ∀ a, (![0, 0, 0] : Fin 3 → ℕ) a + (![k, m, n] : Fin 3 → ℕ) a ≤ (![k, m, n] : Fin 3 → ℕ) a)
    (w : (⟨3, ![k, m, n]⟩ : Shape).Idx → Val e) :
    View.canon [(⟨Rect.unit (s := ⟨3, ![k, m, n]⟩) ![0, 0, 0] ![k, m, n] inb, w⟩ : View.Piece Val (⟨3, ![k, m, n]⟩ : Shape) e)] = w :=
  View.canon_unit_zero (S := ⟨3, ![k, m, n]⟩) (by funext a; fin_cases a <;> rfl) inb w

/-- No store at all. -/
theorem read_none {sig : RefSig} {κ : Kind} {sp : Space} {s : Memref sig κ sp (⟨3, ![k, m, n]⟩ : Shape) e} (h : s.IsWhole)
    (X : (⟨3, ![k, m, n]⟩ : Shape).Idx → Val e) : s.view.read Val (s.view.writes Val (h.unread X) []) = X := by
  rw [View.writes_nil]; exact h.read_unread X

end Cert.Tiles

end

end
-- ==== Proof.Gmlp.lean ====
module
public import proofs.«01_k».proof.Proof.GmlpIn
public import proofs.«01_k».proof.Proof.Gen.Pre_gmlp_finite
public import proofs.«01_k».proof.Proof.Rows
public import proofs.«01_k».proof.Proof.Tiles
public import proofs.«01_k».proof.Proof.Finite

/-! What the kernel of the spatial gating mixer's gradient leaves in its result arrays. -/

@[expose] public section

set_option maxRecDepth 16384

noncomputable section

open Idealize.ShloMosaic Idealize.ShloMosaic.TcCoe Idealize.SL.Sem
open Idealize.ShloMosaic.Pipeline (Dat)

namespace Cert.Gmlp.Kernel
open Cert.GmlpBwdIdeal Cert.GmlpBwdIdeal.Gen Cert.Common Cert.InProj Cert.Norm Cert.Gating

variable (m : (ℓ : Loc nD τ sig) → Buf (Elt Ideal) ℓ)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal) (dy : S2x2048x1024.Idx → EReal)

/-- A tile of the normalised half's gradient, from the rows of its own block. -/
theorem dvn_tile (t : Fin cfg0.N) {o p : ℕ} (h1 : o % 128 = 0) (h2 : p % 128 = 0) (i j : Fin 128) (hi : o + i.val < 512) (hj : p + j.val < 1024) :
    dvn x dy g w (msk ws) wo (at_ t ⟨o + i.val, hi⟩) ⟨p + j.val, hj⟩
      = ∑ k : Fin 128, msk ws ⟨p / 128, by omega⟩ k i * dsv x dy g w wo (at_ t ⟨o + k.val, by omega⟩) ⟨p + j.val, hj⟩ := by
  have e1 : grp ⟨p + j.val, hj⟩ = ⟨p / 128, by omega⟩ := Fin.ext (by simp only [grp]; omega)
  have e2 : pos (at_ t ⟨o + i.val, hi⟩) = i := Fin.ext (by simp only [pos, at_, row]; omega)
  have e3 : ∀ k : Fin 128, brow (at_ t ⟨o + i.val, hi⟩) k = at_ t ⟨o + k.val, by omega⟩ := fun k => Fin.ext (by simp only [brow, at_, row]; omega)
  unfold dvn
  simp only [e1, e2, e3]

/-- One point's share of the gradient of the mixed half's gain. -/
def partV (t : Fin cfg0.N) (i : Fin 8) (k : Fin 1024) : EReal :=
  if i.val = 0 then ∑ q : Fin 512, dvn x dy g w (msk ws) wo (at_ t q) k * vh x g w (at_ t q) k else 0

set_option maxHeartbeats 4000000 in
/-- The fifth output's accumulator after a point: what it held before, or nothing before the first, with the point's share. -/
theorem point_15 (c : Dev nD) (hx : m ((c : Thread nD τ).loc main_arg0) = x) (hg : m ((c : Thread nD τ).loc main_arg1) = g)
    (hw : m ((c : Thread nD τ).loc main_arg2) = w) (hs : m ((c : Thread nD τ).loc main_arg4) = ws)
    (ho : m ((c : Thread nD τ).loc main_arg6) = wo) (hy : m ((c : Thread nD τ).loc main_arg7) = dy)
    (t : Fin cfg0.N) (r : Fin 8) (k : Fin 1024) :
    (outsAt0 m c t.val t.isLt).2.2.2.2.1 (ix2 r k)
      = (if t.val % 8 = 0 then 0 else (outsAt0 m c (t.val - 1) (Nat.lt_of_le_of_lt (Nat.sub_le _ _) t.isLt)).2.2.2.2.1 (ix2 r k))
        + partV x g w ws wo dy t r k := by
  have h0 := blk0 m dy c t hy
  have h3 := blk3 m x g w c t hx hg hw
  have h7 := blk7 m ws c t hs
  have h9 := blk9 m wo c t ho
  by_cases hA : t.val % 8 = 0
  case' pos => rw [if_pos hA, zero_add, outsAt0_A m c t hA]
  case' neg => rw [if_neg hA, outsAt0_B m c t hA]
  all_goals
    dsimp only
    frame_out
    generalize iblk m c 0 t = P0 at h0 ⊢
    generalize iblk m c 3 t = P3 at h3 ⊢
    generalize iblk m c 7 t = P7 at h7 ⊢
    generalize iblk m c 9 t = P9 at h9 ⊢
    rw [Tiles.read_all _ _ _ (fun q j => dvn x dy g w (msk ws) wo (at_ t q) j) ?_]
    on_goal 2 =>
      intro y
      refine View.canon_eq_of_allAt _ _ _ (View.cover_of_tiled_head _ _ _ rfl _) ?_
      repeat' (refine View.allAt_cons_unit _ _ _ _ _ (Tiles.tile_at (Val := Elt Ideal) (e := .f32) (m := 512) (n := 1024) (a := 128) (b := 128) (fun q j => dvn x dy g w (msk ws) wo (at_ t q) j) _ _ fun i j hi hj => ?_) ?_)
      on_goal 33 => exact View.allAt_nil _ _
      all_goals
        refine Eq.trans ?_ (dvn_tile x g w ws wo dy t (by decide) (by decide) i j hi hj).symm
        pointwise [k0_pay7, k0_pay8, k0_pay9, k0_pay10, k0_pay11, k0_pay12]
        simp only [h0, h3, h7, h9, Nat.zero_add]
        rfl
  case pos =>
    rw [Rows.canon_row_at, Rows.canon_fill]
    unfold partV
    by_cases h : r.val = 0
    · obtain rfl : r = 0 := Fin.ext h
      rw [if_pos (show (0 : Fin 8).val = 0 from rfl), if_pos (show (0 : Fin 8).val = 0 from rfl)]
      pointwise
      rw [Rows.readCov_row_at _ (by decide), Rows.canon_fill]
      pointwise [k0_pay5, k0_pay9, k0_pay10, k0_pay11, k0_pay12, k0_pay13, k0_pay14]
      simp only [h3]
      rfl
    · rw [if_neg h, if_neg h]
      pointwise [k0_pay5]
  case neg =>
    generalize (outsAt0 m c (t.val - 1) _).2.2.2.2.1 = prev
    rw [Rows.read_row_at, Rows.read_none]
    unfold partV
    by_cases h : r.val = 0
    · obtain rfl : r = 0 := Fin.ext h
      rw [if_pos (show (0 : Fin 8).val = 0 from rfl), if_pos (show (0 : Fin 8).val = 0 from rfl)]
      pointwise [k0_pay9, k0_pay10, k0_pay11, k0_pay12, k0_pay13, k0_pay14]
      simp only [h3]
      rfl
    · rw [if_neg h, if_neg h, add_zero]

/-- A tile of the gate's gradient, from the rows of its own block. -/
theorem du_tile (t : Fin cfg0.N) {o p : ℕ} (h1 : o % 128 = 0) (h2 : p % 128 = 0) (i j : Fin 128) (hi : o + i.val < 512) (hj : p + j.val < 1024) :
    du x dy g gv w (msk ws) bs wo (at_ t ⟨o + i.val, hi⟩) ⟨p + j.val, hj⟩
      = dyv dy wo (at_ t ⟨o + i.val, hi⟩) ⟨p + j.val, hj⟩
        * ((∑ k : Fin 128, msk ws ⟨p / 128, by omega⟩ i k * vn x g gv w (at_ t ⟨o + k.val, by omega⟩) ⟨p + j.val, hj⟩)
          + bs (ix2 ⟨p / 128, by omega⟩ i)) := by
  have e1 : grp ⟨p + j.val, hj⟩ = ⟨p / 128, by omega⟩ := Fin.ext (by simp only [grp]; omega)
  have e2 : pos (at_ t ⟨o + i.val, hi⟩) = i := Fin.ext (by simp only [pos, at_, row]; omega)
  have e3 : ∀ k : Fin 128, brow (at_ t ⟨o + i.val, hi⟩) k = at_ t ⟨o + k.val, by omega⟩ := fun k => Fin.ext (by simp only [brow, at_, row]; omega)
  unfold du mix
  simp only [e1, e2, e3]

/-- The two halves of the projection's gradient. -/
theorem ker_lo (r : Fin 4096) (j : Fin 1024) (h : 0 + j.val < 2048) :
    kerZ x dy g gv w (msk ws) bs wo r ⟨0 + j.val, h⟩ = du x dy g gv w (msk ws) bs wo r j * slope (zz x g w r ⟨j.val, by omega⟩) := by
  have e : (⟨0 + j.val, h⟩ : Fin 2048) = ⟨j.val, by omega⟩ := Fin.ext (Nat.zero_add _)
  rw [e]
  unfold kerZ both
  rw [dif_pos j.isLt]

theorem ker_hi (r : Fin 4096) (j : Fin 1024) (h : 1024 + j.val < 2048) :
    kerZ x dy g gv w (msk ws) bs wo r ⟨1024 + j.val, h⟩ = kerV x dy g gv w (msk ws) wo r j * slope (zz x g w r ⟨1024 + j.val, h⟩) := by
  unfold kerZ both
  rw [dif_neg (by simp)]
  congr 2
  exact Fin.ext (by simp)

set_option maxHeartbeats 4000000 in
/-- The second output's block at a point. -/
theorem point_12 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy)
    (t : Fin cfg0.N) (q : Fin 512) (j : Fin 2048) :
    (outsAt0 m c t.val t.isLt).2.1 (ix2 q j) = kerZ x dy g gv w (msk ws) bs wo (at_ t q) j := by
  have h0 := blk0 m dy c t hy
  have h3 := blk3 m x g w c t hx hg hw
  have h4 := blk4 m x g w gv c t hx hg hw hv
  have h5 := blk5 m gv c t hv
  have h6 := blk6 m ws c t hs
  have h7 := blk7 m ws c t hs
  have h8 := blk8 m bs c t hb
  have h9 := blk9 m wo c t ho
  by_cases hA : t.val % 8 = 0
  case' pos => rw [outsAt0_A m c t hA]
  case' neg => rw [outsAt0_B m c t hA]
  all_goals
    dsimp only
    frame_out
    generalize iblk m c 0 t = P0 at h0 ⊢
    generalize iblk m c 3 t = P3 at h3 ⊢
    generalize iblk m c 4 t = P4 at h4 ⊢
    generalize iblk m c 5 t = P5 at h5 ⊢
    generalize iblk m c 6 t = P6 at h6 ⊢
    generalize iblk m c 7 t = P7 at h7 ⊢
    generalize iblk m c 8 t = P8 at h8 ⊢
    generalize iblk m c 9 t = P9 at h9 ⊢
    rcases lt_or_ge j.val 1024 with hj | hj
    · obtain ⟨j', hl, rfl⟩ : ∃ (j' : Fin 1024) (hl : 0 + j'.val < 2048), j = ⟨0 + j'.val, hl⟩ := ⟨⟨j.val, by omega⟩, by simp only; omega, Fin.ext (by simp)⟩
      rw [Rows.canon_off _ _ _ q _ (by left; simp), Rows.canon_band _ _ _ q _ j' rfl,
        Tiles.read_all _ _ _ (fun q j => du x dy g gv w (msk ws) bs wo (at_ t q) j) ?_]
      · rw [ker_lo]
        pointwise [k0_pay270, k0_pay9, k0_pay10]
        simp only [h3]
        rfl
      · intro y
        refine View.canon_eq_of_allAt _ _ _ (View.cover_of_tiled_head _ _ _ rfl _) ?_
        repeat' (refine View.allAt_cons_unit _ _ _ _ _ (Tiles.tile_at (Val := Elt Ideal) (e := .f32) (m := 512) (n := 1024) (a := 128) (b := 128) (fun q j => du x dy g gv w (msk ws) bs wo (at_ t q) j) _ _ fun i j hi hj => ?_) ?_)
        on_goal 33 => exact View.allAt_nil _ _
        all_goals
          refine Eq.trans ?_ (du_tile x g w gv ws bs wo dy t (by decide) (by decide) i j hi hj).symm
          pointwise [k0_pay7, k0_pay8, k0_pay17, k0_pay19, k0_pay20, k0_pay21]
          simp only [h0, h4, h6, h8, h9, Nat.zero_add]
          rfl
    · obtain ⟨j', hl, rfl⟩ : ∃ (j' : Fin 1024) (hl : 1024 + j'.val < 2048), j = ⟨1024 + j'.val, hl⟩ := ⟨⟨j.val - 1024, by omega⟩, by simp only; omega, Fin.ext (by simp; omega)⟩
      rw [Rows.canon_band _ _ _ q _ j' rfl, Tiles.read_all _ _ _ (fun q j => dvn x dy g w (msk ws) wo (at_ t q) j) ?_]
      · rw [ker_hi]
        pointwise [k0_pay9, k0_pay10, k0_pay11, k0_pay12, k0_pay13, k0_pay14, k0_pay15, k0_pay16, k0_pay267, k0_pay268, k0_pay269, k0_pay271, k0_pay272, k0_pay273]
        simp only [h3, h5]
        rfl
      · intro y
        refine View.canon_eq_of_allAt _ _ _ (View.cover_of_tiled_head _ _ _ rfl _) ?_
        repeat' (refine View.allAt_cons_unit _ _ _ _ _ (Tiles.tile_at (Val := Elt Ideal) (e := .f32) (m := 512) (n := 1024) (a := 128) (b := 128) (fun q j => dvn x dy g w (msk ws) wo (at_ t q) j) _ _ fun i j hi hj => ?_) ?_)
        on_goal 33 => exact View.allAt_nil _ _
        all_goals
          refine Eq.trans ?_ (dvn_tile x g w ws wo dy t (by decide) (by decide) i j hi hj).symm
          pointwise [k0_pay7, k0_pay8, k0_pay9, k0_pay10, k0_pay11, k0_pay12]
          simp only [h0, h3, h7, h9, Nat.zero_add]
          rfl

/-- Four quarters of the columns make the whole sum. -/
theorem quarters (f : Fin 2048 → EReal) :
    (∑ c : Fin 512, f ⟨c.val, by omega⟩) + (∑ c : Fin 512, f ⟨512 + c.val, by omega⟩) + (∑ c : Fin 512, f ⟨1024 + c.val, by omega⟩)
      + (∑ c : Fin 512, f ⟨1536 + c.val, by omega⟩) = ∑ j, f j :=
  ((Fin.sum_univ_add (a := 1536) (b := 512) f).trans (congrArg (· + _)
    ((Fin.sum_univ_add (a := 1024) (b := 512) fun j : Fin 1536 => f ⟨j.val, by omega⟩).trans (congrArg (· + _)
      (Fin.sum_univ_add (a := 512) (b := 512) fun j : Fin 1024 => f ⟨j.val, by omega⟩))))).symm

/-- The gradient of the normalised row in the kernel's form. -/
abbrev back : Fin 4096 → Fin 1024 → EReal := backZ w (kerZ x dy g gv w (msk ws) bs wo)

/-- The four quarters together make the normalised row's gradient. -/
theorem chunks (r : Fin 4096) (k : Fin 1024) :
    (∑ c : Fin 512, kerZ x dy g gv w (msk ws) bs wo r ⟨c.val, by omega⟩ * w (ix2 k ⟨(0 : Fin 4).val * 512 + c.val, by omega⟩))
      + (∑ c : Fin 512, kerZ x dy g gv w (msk ws) bs wo r ⟨512 + c.val, by omega⟩ * w (ix2 k ⟨(1 : Fin 4).val * 512 + c.val, by omega⟩))
      + (∑ c : Fin 512, kerZ x dy g gv w (msk ws) bs wo r ⟨1024 + c.val, by omega⟩ * w (ix2 k ⟨(2 : Fin 4).val * 512 + c.val, by omega⟩))
      + (∑ c : Fin 512, kerZ x dy g gv w (msk ws) bs wo r ⟨1536 + c.val, by omega⟩ * w (ix2 k ⟨(3 : Fin 4).val * 512 + c.val, by omega⟩))
      = back x g w gv ws bs wo dy r k := by
  refine Eq.trans ?_ (quarters fun j => kerZ x dy g gv w (msk ws) bs wo r j * w (ix2 k j))
  have e : ∀ c : Fin 512, (⟨(0 : Fin 4).val * 512 + c.val, by omega⟩ : Fin 2048) = ⟨c.val, by omega⟩ := fun c => Fin.ext (by simp)
  simp only [e]
  rfl

set_option maxHeartbeats 4000000 in
/-- The first output's block at a point. -/
theorem point_11 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy)
    (t : Fin cfg0.N) (q : Fin 512) (k : Fin 1024) :
    (outsAt0 m c t.val t.isLt).1 (ix2 q k) = Swiglu.kerX x dy g (back x g w gv ws bs wo dy) (at_ t q) k := by
  have hz := point_12 m x g w gv ws bs wo dy c hx hg hw hv hs hb ho hy t
  have h0 := blk0 m dy c t hy
  have h1 := blk1 m x c t hx
  have h2 := blk2 m g c t hg
  have h10 := blk10 m w c t hw
  by_cases hA : t.val % 8 = 0
  case' pos => rw [outsAt0_A m c t hA]
  case' neg => rw [outsAt0_B m c t hA]
  all_goals
    dsimp only
    frame_out
    rw [Tiles.read_cols _ _ _ (fun q j => kerZ x dy g gv w (msk ws) bs wo (at_ t q) j) ?_,
      Tiles.read_cols _ _ _ (fun q j => kerZ x dy g gv w (msk ws) bs wo (at_ t q) j) ?_,
      Tiles.read_cols _ _ _ (fun q j => kerZ x dy g gv w (msk ws) bs wo (at_ t q) j) ?_,
      Tiles.read_cols _ _ _ (fun q j => kerZ x dy g gv w (msk ws) bs wo (at_ t q) j) ?_]
    on_goal 1 =>
      generalize iblk m c 0 t = P0 at h0 ⊢
      generalize iblk m c 1 t = P1 at h1 ⊢
      generalize iblk m c 2 t = P2 at h2 ⊢
      generalize iblk m c 10 t = P10 at h10 ⊢
      pointwise [k0_pay1, k0_pay7, k0_pay274, k0_pay275, k0_pay276, k0_pay277, k0_pay278, k0_pay279]
      simp only [h0, h1, h2, h10, chunks]
      rfl
    all_goals
      intro q j
      refine Eq.trans ?_ (hz q j)
      first | rw [outsAt0_A m c t hA] | rw [outsAt0_B m c t hA]
      dsimp only
      frame_out

/-- One point's share of the gain's gradient. -/
def partG (t : Fin cfg0.N) (i : Fin 8) (k : Fin 1024) : EReal :=
  if i.val = 0 then ∑ q : Fin 512, back x g w gv ws bs wo dy (at_ t q) k * (xrow x (at_ t q) k * rr (xrow x (at_ t q))) else 0

set_option maxHeartbeats 4000000 in
/-- The sixth output's accumulator after a point. -/
theorem point_16 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy)
    (t : Fin cfg0.N) (r : Fin 8) (k : Fin 1024) :
    (outsAt0 m c t.val t.isLt).2.2.2.2.2 (ix2 r k)
      = (if t.val % 8 = 0 then 0 else (outsAt0 m c (t.val - 1) (Nat.lt_of_le_of_lt (Nat.sub_le _ _) t.isLt)).2.2.2.2.2 (ix2 r k))
        + partG x g w gv ws bs wo dy t r k := by
  have hz := point_12 m x g w gv ws bs wo dy c hx hg hw hv hs hb ho hy t
  have h1 := blk1 m x c t hx
  have h10 := blk10 m w c t hw
  by_cases hA : t.val % 8 = 0
  case' pos => rw [if_pos hA, zero_add, outsAt0_A m c t hA]
  case' neg => rw [if_neg hA, outsAt0_B m c t hA]
  all_goals
    dsimp only
    frame_out
    rw [Tiles.read_cols _ _ _ (fun q j => kerZ x dy g gv w (msk ws) bs wo (at_ t q) j) ?_,
      Tiles.read_cols _ _ _ (fun q j => kerZ x dy g gv w (msk ws) bs wo (at_ t q) j) ?_,
      Tiles.read_cols _ _ _ (fun q j => kerZ x dy g gv w (msk ws) bs wo (at_ t q) j) ?_,
      Tiles.read_cols _ _ _ (fun q j => kerZ x dy g gv w (msk ws) bs wo (at_ t q) j) ?_]
    on_goal 1 =>
      generalize iblk m c 1 t = P1 at h1 ⊢
      generalize iblk m c 10 t = P10 at h10 ⊢
      unfold partG
      first
        | rw [Rows.canon_row_at, Rows.canon_fill]
        | (generalize (outsAt0 m c (t.val - 1) _).2.2.2.2.2 = prev; rw [Rows.read_row_at, Rows.read_none])
      by_cases h : r.val = 0
      · obtain rfl : r = 0 := Fin.ext h
        rw [if_pos (show (0 : Fin 8).val = 0 from rfl), if_pos (show (0 : Fin 8).val = 0 from rfl)]
        pointwise [k0_pay2]
        try rw [Rows.readCov_row_at _ (by decide), Rows.canon_fill]
        pointwise [k0_pay6, k0_pay274, k0_pay275, k0_pay276, k0_pay277]
        simp only [h1, h10, chunks]
        rfl
      · rw [if_neg h, if_neg h]
        first | rw [add_zero] | pointwise [k0_pay6]
    all_goals
      intro q j
      refine Eq.trans ?_ (hz q j)
      first | rw [outsAt0_A m c t hA] | rw [outsAt0_B m c t hA]
      dsimp only
      frame_out

/-- What the kernel leaves in its first result. -/
theorem final_11 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy) :
    (dats m 0 c).arrAt 11 cfg0.N = fun i : S4096x1024.Idx => Swiglu.kerX x dy g (back x g w gv ws bs wo dy) (i 0) (i 1) := by
  refine (dats m 0 c).arrAt_eq_of_covers 11 _ (by decide +kernel) fun t hf y => ?_
  obtain ⟨q, k, rfl⟩ : ∃ (q : Fin 512) (k : Fin 1024), y = ix2 q k := ⟨y 0, y 1, eq_ix2 y⟩
  blk_simp
  rw [after0_11, point_11 m x g w gv ws bs wo dy c hx hg hw hv hs hb ho hy t q k]
  congr 1 <;> apply Fin.ext <;> simp only [at_, row] <;> blk_simp [idx_val t] <;> (try simp) <;> omega

/-- What the kernel leaves in its second result. -/
theorem final_12 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy) :
    (dats m 0 c).arrAt 12 cfg0.N = fun i : S4096x2048.Idx => kerZ x dy g gv w (msk ws) bs wo (i 0) (i 1) := by
  refine (dats m 0 c).arrAt_eq_of_covers 12 _ (by decide +kernel) fun t hf y => ?_
  obtain ⟨q, k, rfl⟩ : ∃ (q : Fin 512) (k : Fin 2048), y = ix2 q k := ⟨y 0, y 1, eq_ix2 y⟩
  blk_simp
  rw [after0_12, point_12 m x g w gv ws bs wo dy c hx hg hw hv hs hb ho hy t q k]
  congr 1 <;> apply Fin.ext <;> simp only [at_, row] <;> blk_simp [idx_val t] <;> (try simp) <;> omega

/-- What the kernel leaves in its fifth result. -/
theorem final_15 (c : Dev nD) (hx : m ((c : Thread nD τ).loc main_arg0) = x) (hg : m ((c : Thread nD τ).loc main_arg1) = g)
    (hw : m ((c : Thread nD τ).loc main_arg2) = w) (hs : m ((c : Thread nD τ).loc main_arg4) = ws)
    (ho : m ((c : Thread nD τ).loc main_arg6) = wo) (hy : m ((c : Thread nD τ).loc main_arg7) = dy) :
    (dats m 0 c).arrAt 15 cfg0.N = fun i : S8x1024.Idx => gradV x dy g w (msk ws) wo (i 0) (i 1) := by
  refine (dats m 0 c).arrAt_eq_of_covers 15 _ (by decide +kernel) fun t hf y => ?_
  obtain ⟨r, k, rfl⟩ : ∃ (r : Fin 8) (k : Fin 1024), y = ix2 r k := ⟨y 0, y 1, eq_ix2 y⟩
  blk_simp
  rw [after0_15, Pipeline.eq_sum_fin_of_reset_step_apply_of_flush (fun n h => (outsAt0 m c n h).2.2.2.2.1) 8 (fun _ => 0)
    (fun t y => partV x g w ws wo dy t (y 0) (y 1))
    (fun t h j => by
      obtain ⟨r, k, rfl⟩ : ∃ (r : Fin 8) (k : Fin 1024), j = ix2 r k := ⟨j 0, j 1, eq_ix2 j⟩
      exact (point_15 m x g w ws wo dy c hx hg hw hs ho hy t r k).trans (congrArg (· + _) (if_pos h)))
    (fun t h j => by
      obtain ⟨r, k, rfl⟩ : ∃ (r : Fin 8) (k : Fin 1024), j = ix2 r k := ⟨j 0, j 1, eq_ix2 j⟩
      exact (point_15 m x g w ws wo dy c hx hg hw hs ho hy t r k).trans (congrArg (· + _) (if_neg h)))
    t ((flush0_15 t).mp hf) _, zero_add]
  have hN := lt8 t
  have e0 : (win0_15.blk t).view.emb (ix2 r k) 0 = r := by
    apply Fin.ext; blk_simp [idx_val t]
  have e1 : (win0_15.blk t).view.emb (ix2 r k) 1 = k := by
    apply Fin.ext; blk_simp [idx_val t]
  rw [e0, e1]
  show ∑ s : Fin 8, partV x g w ws wo dy ⟨8 * (t.val / 8) + s.val, _⟩ r k = _
  unfold gradV
  rw [← sum_row (fun r => dvn x dy g w (msk ws) wo r k * vh x g w r k) r.val]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold partV
  simp only [ha]

/-- What the kernel leaves in its sixth result. -/
theorem final_16 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (ho : m ((c : Thread nD τ).loc main_arg6) = wo) (hy : m ((c : Thread nD τ).loc main_arg7) = dy) :
    (dats m 0 c).arrAt 16 cfg0.N = fun i : S8x1024.Idx => Swiglu.gradG x (back x g w gv ws bs wo dy) (i 0) (i 1) := by
  refine (dats m 0 c).arrAt_eq_of_covers 16 _ (by decide +kernel) fun t hf y => ?_
  obtain ⟨r, k, rfl⟩ : ∃ (r : Fin 8) (k : Fin 1024), y = ix2 r k := ⟨y 0, y 1, eq_ix2 y⟩
  blk_simp
  rw [after0_16, Pipeline.eq_sum_fin_of_reset_step_apply_of_flush (fun n h => (outsAt0 m c n h).2.2.2.2.2) 8 (fun _ => 0)
    (fun t y => partG x g w gv ws bs wo dy t (y 0) (y 1))
    (fun t h j => by
      obtain ⟨r, k, rfl⟩ : ∃ (r : Fin 8) (k : Fin 1024), j = ix2 r k := ⟨j 0, j 1, eq_ix2 j⟩
      exact (point_16 m x g w gv ws bs wo dy c hx hg hw hv hs hb ho hy t r k).trans (congrArg (· + _) (if_pos h)))
    (fun t h j => by
      obtain ⟨r, k, rfl⟩ : ∃ (r : Fin 8) (k : Fin 1024), j = ix2 r k := ⟨j 0, j 1, eq_ix2 j⟩
      exact (point_16 m x g w gv ws bs wo dy c hx hg hw hv hs hb ho hy t r k).trans (congrArg (· + _) (if_neg h)))
    t ((flush0_16 t).mp hf) _, zero_add]
  have hN := lt8 t
  have e0 : (win0_16.blk t).view.emb (ix2 r k) 0 = r := by
    apply Fin.ext; blk_simp [idx_val t]
  have e1 : (win0_16.blk t).view.emb (ix2 r k) 1 = k := by
    apply Fin.ext; blk_simp [idx_val t]
  rw [e0, e1]
  show ∑ s : Fin 8, partG x g w gv ws bs wo dy ⟨8 * (t.val / 8) + s.val, _⟩ r k = _
  unfold Swiglu.gradG
  rw [← sum_row (fun r => back x g w gv ws bs wo dy r k * (xrow x r k * rr (xrow x r))) r.val]
  refine Finset.sum_congr rfl fun s _ => ?_
  have ha : ∀ (h : 8 * (t.val / 8) + s.val < cfg0.N) (q : Fin 512), at_ ⟨8 * (t.val / 8) + s.val, h⟩ q = row s.val s.isLt q :=
    fun h q => Fin.ext (by simp only [at_, row]; omega)
  unfold partG
  simp only [ha]

end Cert.Gmlp.Kernel

end

end
-- ==== Proof.GmlpW.lean ====
module
public import proofs.«01_k».proof.Proof.GmlpIn
public import proofs.«01_k».proof.Proof.Tiles

/-! What the kernel of the spatial gating mixer's gradient leaves in the gradients of the mixing weights and their
offsets. -/

@[expose] public section

set_option maxRecDepth 16384

noncomputable section

open Idealize.ShloMosaic Idealize.ShloMosaic.TcCoe Idealize.SL.Sem
open Idealize.ShloMosaic.Pipeline (Dat)

namespace Cert.Gmlp.Kernel
open Cert.GmlpBwdIdeal Cert.GmlpBwdIdeal.Gen Cert.Common Cert.InProj Cert.Norm Cert.Gating

variable (m : (ℓ : Loc nD τ sig) → Buf (Elt Ideal) ℓ)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal) (dy : S2x2048x1024.Idx → EReal)

/-- One point's share of the mixing weights' gradient: its four blocks of rows. -/
def partW (t : Fin cfg0.N) (p : Fin 8) (i j : Fin 128) : EReal :=
  ∑ n : Fin 4, ∑ c : Fin 128, dsv x dy g w wo (at_ t ⟨n.val * 128 + i.val, by omega⟩) (col p c)
    * vn x g gv w (at_ t ⟨n.val * 128 + j.val, by omega⟩) (col p c)

/-- Four blocks added one after another. -/
theorem four (a : EReal) (f : Fin 4 → EReal) : a + ∑ n, f n = a + f 0 + f 1 + f 2 + f 3 := by
  rw [Fin.sum_univ_four]
  simp only [add_assoc]

/-- The first group's columns. -/
theorem col_zero (c : Fin 128) : col 0 c = ⟨c.val, by omega⟩ := Fin.ext (by simp [col])

/-- The first block's rows. -/
theorem row_zero (t : Fin cfg0.N) (i : Fin 128) : at_ t ⟨(0 : Fin 4).val * 128 + i.val, by omega⟩ = at_ t ⟨i.val, by omega⟩ :=
  congrArg (at_ t) (Fin.ext (by simp))

set_option maxHeartbeats 4000000 in
/-- The third output's accumulator after a point. -/
theorem point_13 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (ho : m ((c : Thread nD τ).loc main_arg6) = wo) (hy : m ((c : Thread nD τ).loc main_arg7) = dy)
    (t : Fin cfg0.N) (p : Fin 8) (i j : Fin 128) :
    (outsAt0 m c t.val t.isLt).2.2.1 (ix3 p i j)
      = (if t.val % 8 = 0 then 0 else (outsAt0 m c (t.val - 1) (Nat.lt_of_le_of_lt (Nat.sub_le _ _) t.isLt)).2.2.1 (ix3 p i j))
        + partW x g w gv wo dy t p i j := by
  have h0 := blk0 m dy c t hy
  have h3 := blk3 m x g w c t hx hg hw
  have h4 := blk4 m x g w gv c t hx hg hw hv
  have h9 := blk9 m wo c t ho
  unfold partW
  rw [four]
  by_cases hA : t.val % 8 = 0
  case' pos => rw [if_pos hA, outsAt0_A m c t hA]
  case' neg => rw [if_neg hA, outsAt0_B m c t hA]
  all_goals
    dsimp only
    frame_out
  case' pos =>
    fin_cases p
    all_goals
      iterate 4
        repeat refine (Tiles.slab_miss (by decide)).trans ?_
        refine ((Tiles.slab_hit (by decide)).trans Tiles.slab_add).trans (congrArg₂ (· + ·) ((Tiles.load_slab (by decide)).trans ?_) ?_)
      on_goal 1 =>
        repeat with_reducible refine (Tiles.slab_miss (by decide)).trans ?_
        rw [Tiles.canon_fill]
        pointwise [k0_pay3]
  case' neg =>
    fin_cases p
    all_goals
      iterate 3
        repeat refine (Tiles.slab_miss (by decide)).trans ?_
        refine ((Tiles.slab_hit (by decide)).trans Tiles.slab_add).trans (congrArg₂ (· + ·) ((Tiles.load_slab (by decide)).trans ?_) ?_)
      repeat refine (Tiles.slab_miss (by decide)).trans ?_
      refine ((Tiles.slab_hit (by decide)).trans Tiles.slab_add).trans (congrArg₂ (· + ·) ?_ ?_)
      on_goal 1 => pointwise
  all_goals
    pointwise [k0_pay7, k0_pay8, k0_pay9, k0_pay10, k0_pay11, k0_pay12]
    simp only [h0, h3, h4, h9, Nat.zero_add, col_zero, row_zero]
    rfl

/-- One point's share of the offsets' gradient. -/
def partB (t : Fin cfg0.N) (p : Fin 8) (i : Fin 128) : EReal :=
  ∑ n : Fin 4, ∑ c : Fin 128, dsv x dy g w wo (at_ t ⟨n.val * 128 + i.val, by omega⟩) (col p c)

set_option maxHeartbeats 4000000 in
/-- The fourth output's accumulator after a point. -/
theorem point_14 (c : Dev nD) (hx : m ((c : Thread nD τ).loc main_arg0) = x) (hg : m ((c : Thread nD τ).loc main_arg1) = g)
    (hw : m ((c : Thread nD τ).loc main_arg2) = w)
    (ho : m ((c : Thread nD τ).loc main_arg6) = wo) (hy : m ((c : Thread nD τ).loc main_arg7) = dy)
    (t : Fin cfg0.N) (p : Fin 8) (i j : Fin 128) :
    (outsAt0 m c t.val t.isLt).2.2.2.1 (ix3 p i j)
      = (if t.val % 8 = 0 then 0 else (outsAt0 m c (t.val - 1) (Nat.lt_of_le_of_lt (Nat.sub_le _ _) t.isLt)).2.2.2.1 (ix3 p i j))
        + partB x g w wo dy t p i := by
  have h0 := blk0 m dy c t hy
  have h3 := blk3 m x g w c t hx hg hw
  have h9 := blk9 m wo c t ho
  unfold partB
  rw [four]
  by_cases hA : t.val % 8 = 0
  case' pos => rw [if_pos hA, outsAt0_A m c t hA]
  case' neg => rw [if_neg hA, outsAt0_B m c t hA]
  all_goals
    dsimp only
    frame_out
  case' pos =>
    fin_cases p
    all_goals
      iterate 4
        repeat refine (Tiles.slab_miss (by decide)).trans ?_
        refine ((Tiles.slab_hit (by decide)).trans Tiles.slab_add).trans (congrArg₂ (· + ·) ((Tiles.load_slab (by decide)).trans ?_) ?_)
      on_goal 1 =>
        repeat with_reducible refine (Tiles.slab_miss (by decide)).trans ?_
        rw [Tiles.canon_fill]
        pointwise [k0_pay4]
  case' neg =>
    fin_cases p
    all_goals
      iterate 3
        repeat refine (Tiles.slab_miss (by decide)).trans ?_
        refine ((Tiles.slab_hit (by decide)).trans Tiles.slab_add).trans (congrArg₂ (· + ·) ((Tiles.load_slab (by decide)).trans ?_) ?_)
      repeat refine (Tiles.slab_miss (by decide)).trans ?_
      refine ((Tiles.slab_hit (by decide)).trans Tiles.slab_add).trans (congrArg₂ (· + ·) ?_ ?_)
      on_goal 1 => pointwise
  all_goals
    pointwise [k0_pay7, k0_pay8, k0_pay9, k0_pay10, k0_pay11, k0_pay12, k0_pay18]
    simp only [h0, h3, h9, Nat.zero_add, col_zero, row_zero]
    rfl

/-- The blocks of the grid's points are the thirty-two blocks of rows. -/
theorem at_block (t : Fin cfg0.N) (s : Fin 8) (h : 8 * (t.val / 8) + s.val < cfg0.N) (n : Fin 4) (i : Fin 128) :
    at_ ⟨8 * (t.val / 8) + s.val, h⟩ ⟨n.val * 128 + i.val, by omega⟩ = rowAt ⟨s.val * 4 + n.val, by omega⟩ i := by
  have := lt8 t
  exact Fin.ext (by simp only [at_, row, rowAt]; omega)

theorem sum_blocks (f : Fin 32 → EReal) : ∑ s : Fin 8, ∑ n : Fin 4, f ⟨s.val * 4 + n.val, by omega⟩ = ∑ B, f B :=
  Fin.sum_mul_add_congr (f := f) fun _ _ _ => rfl

/-- What the kernel leaves in its third result. -/
theorem final_13 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (ho : m ((c : Thread nD τ).loc main_arg6) = wo) (hy : m ((c : Thread nD τ).loc main_arg7) = dy) :
    (dats m 0 c).arrAt 13 cfg0.N = fun i : S8x128x128.Idx => gradW x dy g gv w wo (i 0) (i 1) (i 2) := by
  refine (dats m 0 c).arrAt_eq_of_covers 13 _ (by decide +kernel) fun t hf y => ?_
  obtain ⟨p, i, j, rfl⟩ : ∃ (p : Fin 8) (i j : Fin 128), y = ix3 p i j := ⟨y 0, y 1, y 2, eq_ix3 y⟩
  blk_simp
  rw [after0_13, Pipeline.eq_sum_fin_of_reset_step_apply_of_flush (fun n h => (outsAt0 m c n h).2.2.1) 8 (fun _ => 0)
    (fun t y => partW x g w gv wo dy t (y 0) (y 1) (y 2))
    (fun t h y => by
      obtain ⟨p, i, j, rfl⟩ : ∃ (p : Fin 8) (i j : Fin 128), y = ix3 p i j := ⟨y 0, y 1, y 2, eq_ix3 y⟩
      exact (point_13 m x g w gv wo dy c hx hg hw hv ho hy t p i j).trans (congrArg (· + _) (if_pos h)))
    (fun t h y => by
      obtain ⟨p, i, j, rfl⟩ : ∃ (p : Fin 8) (i j : Fin 128), y = ix3 p i j := ⟨y 0, y 1, y 2, eq_ix3 y⟩
      exact (point_13 m x g w gv wo dy c hx hg hw hv ho hy t p i j).trans (congrArg (· + _) (if_neg h)))
    t ((flush0_13 t).mp hf) _, zero_add]
  have e0 : (win0_13.blk t).view.emb (ix3 p i j) 0 = p := by
    apply Fin.ext; blk_simp [idx_val t]
  have e1 : (win0_13.blk t).view.emb (ix3 p i j) 1 = i := by
    apply Fin.ext; blk_simp [idx_val t]
  have e2 : (win0_13.blk t).view.emb (ix3 p i j) 2 = j := by
    apply Fin.ext; blk_simp [idx_val t]
  rw [e0, e1, e2]
  show ∑ s : Fin 8, partW x g w gv wo dy ⟨8 * (t.val / 8) + s.val, _⟩ p i j = _
  unfold gradW
  rw [← sum_blocks]
  refine Finset.sum_congr rfl fun s _ => ?_
  unfold partW
  simp only [at_block]

/-- What the kernel leaves in its fourth result. -/
theorem final_14 (c : Dev nD) (hx : m ((c : Thread nD τ).loc main_arg0) = x) (hg : m ((c : Thread nD τ).loc main_arg1) = g)
    (hw : m ((c : Thread nD τ).loc main_arg2) = w)
    (ho : m ((c : Thread nD τ).loc main_arg6) = wo) (hy : m ((c : Thread nD τ).loc main_arg7) = dy) :
    (dats m 0 c).arrAt 14 cfg0.N = fun i : S8x128x128.Idx => gradB x dy g w wo (i 0) (i 1) := by
  refine (dats m 0 c).arrAt_eq_of_covers 14 _ (by decide +kernel) fun t hf y => ?_
  obtain ⟨p, i, j, rfl⟩ : ∃ (p : Fin 8) (i j : Fin 128), y = ix3 p i j := ⟨y 0, y 1, y 2, eq_ix3 y⟩
  blk_simp
  rw [after0_14, Pipeline.eq_sum_fin_of_reset_step_apply_of_flush (fun n h => (outsAt0 m c n h).2.2.2.1) 8 (fun _ => 0)
    (fun t y => partB x g w wo dy t (y 0) (y 1))
    (fun t h y => by
      obtain ⟨p, i, j, rfl⟩ : ∃ (p : Fin 8) (i j : Fin 128), y = ix3 p i j := ⟨y 0, y 1, y 2, eq_ix3 y⟩
      exact (point_14 m x g w wo dy c hx hg hw ho hy t p i j).trans (congrArg (· + _) (if_pos h)))
    (fun t h y => by
      obtain ⟨p, i, j, rfl⟩ : ∃ (p : Fin 8) (i j : Fin 128), y = ix3 p i j := ⟨y 0, y 1, y 2, eq_ix3 y⟩
      exact (point_14 m x g w wo dy c hx hg hw ho hy t p i j).trans (congrArg (· + _) (if_neg h)))
    t ((flush0_14 t).mp hf) _, zero_add]
  have e0 : (win0_14.blk t).view.emb (ix3 p i j) 0 = p := by
    apply Fin.ext; blk_simp [idx_val t]
  have e1 : (win0_14.blk t).view.emb (ix3 p i j) 1 = i := by
    apply Fin.ext; blk_simp [idx_val t]
  rw [e0, e1]
  show ∑ s : Fin 8, partB x g w wo dy ⟨8 * (t.val / 8) + s.val, _⟩ p i = _
  unfold gradB
  rw [← sum_blocks]
  refine Finset.sum_congr rfl fun s _ => ?_
  unfold partB
  simp only [at_block]

end Cert.Gmlp.Kernel

end

end
-- ==== Proof.GmlpPair.lean ====
module
public import proofs.«01_k».proof.Defs
public import proofs.«01_k».proof.Proof.Gen.GmlpBwdRefIdeal
public import proofs.«01_k».proof.Proof.Gmlp
public import proofs.«01_k».proof.Proof.GmlpW
public import Idealize.ShloMosaic.Lib.Claim
public import Idealize.ShloMosaic.Adequacy
public import Idealize.ShloMosaic.Init

/-! The kernel of the spatial gating mixer's gradient beside its reference. -/

@[expose] public section

set_option maxRecDepth 16384

noncomputable section

namespace Cert.Gmlp

open Idealize.ShloMosaic Idealize.ShloMosaic.TcCoe Idealize.SL.Sem Idealize.ShloMosaic.StableHlo Cert.Gating

/-- What the precondition says of the seven arguments it reads. -/
theorem finite [Cert.Pre_gmlp_finite.Facts] {x : FVec Ideal Cert.Pre_gmlp_finite.S2x2048x1024 .f32} {g : FVec Ideal Cert.Pre_gmlp_finite.S1024 .f32}
    {w : FVec Ideal Cert.Pre_gmlp_finite.S1024x2048 .f32} {gv : FVec Ideal Cert.Pre_gmlp_finite.S1024 .f32}
    {ws : FVec Ideal Cert.Pre_gmlp_finite.S8x128x128 .f32} {bs : FVec Ideal Cert.Pre_gmlp_finite.S8x128 .f32}
    {wo : FVec Ideal Cert.Pre_gmlp_finite.S1024x1024 .f32} {dy : FVec Ideal Cert.Pre_gmlp_finite.S2x2048x1024 .f32}
    (h : Cert.Pre_gmlp_finite.fn (F := Ideal) x g w gv ws bs wo dy = fun _ => 1#1) :
    (∀ i, max (g i) (-g i : EReal) < ⊤) ∧ (∀ i, max (w i) (-w i : EReal) < ⊤) ∧ (∀ i, max (gv i) (-gv i : EReal) < ⊤)
      ∧ (∀ i, max (ws i) (-ws i : EReal) < ⊤) ∧ (∀ i, max (bs i) (-bs i : EReal) < ⊤) ∧ (∀ i, max (wo i) (-wo i : EReal) < ⊤)
      ∧ ∀ i, max (dy i) (-dy i : EReal) < ⊤ := by
  have h0 := congrFun h fun a => a.elim0
  obtain ⟨h1, hy⟩ := Finite.and_split h0
  obtain ⟨h2, ho⟩ := Finite.and_split h1
  obtain ⟨h3, hb⟩ := Finite.and_split h2
  obtain ⟨h4, hs⟩ := Finite.and_split h3
  obtain ⟨h5, hv⟩ := Finite.and_split h4
  obtain ⟨hg, hw⟩ := Finite.and_split h5
  haveI : Subsingleton Cert.Pre_gmlp_finite.S_.Idx := ⟨fun a b => funext fun i => i.elim0⟩
  refine ⟨Finite.all_finite hg ?_, Finite.all_finite hw ?_, Finite.all_finite hv ?_, Finite.all_finite hs ?_,
    Finite.all_finite hb ?_, Finite.all_finite ho ?_, Finite.all_finite hy ?_⟩ <;> exact fun _ => Finite.inf_eq

section
open Cert.GmlpBwdRefIdeal Cert.GmlpBwdRefIdeal.Read

variable {x : S2x2048x1024.Idx → EReal} {g : S1024.Idx → EReal} {w : S1024x2048.Idx → EReal} {gv : S1024.Idx → EReal}
  {ws : S8x128x128.Idx → EReal} {bs : S8x128.Idx → EReal} {wo : S1024x1024.Idx → EReal}
  {dy : S2x2048x1024.Idx → EReal} (hg : ∀ i, max (g i) (-g i) < ⊤) (hw : ∀ i, max (w i) (-w i) < ⊤)
  (hv : ∀ i, max (gv i) (-gv i) < ⊤) (hs : ∀ i, max (ws i) (-ws i) < ⊤) (hb : ∀ i, max (bs i) (-bs i) < ⊤)
  (ho : ∀ i, max (wo i) (-wo i) < ⊤) (hy : ∀ i, max (dy i) (-dy i) < ⊤)
include hg hw hv hs hb ho hy

theorem same_z : refZ x dy g gv w (msk ws) bs wo = kerZ x dy g gv w (msk ws) bs wo :=
  z_eq x dy g gv w (msk ws) bs wo hg hw hv (msk_finite ws hs) hb ho hy

/-- On finite arguments the reference's results are the kernel's: the input's gradient, the projection's, the gain's. -/
theorem same_dx (r : Fin 4096) (k : Fin 1024) : val_main_v158 (F := Ideal) x g w gv ws bs wo dy (ValueIdx.ix2 r k)
    = Swiglu.kerX x dy g (Kernel.back x g w gv ws bs wo dy) r k := by
  refine (ref_dx _ _ _ _ _ _ _ _ r k).trans ?_
  rw [same_z hg hw hv hs hb ho hy]
  exact congrArg _ (Cert.Norm.dx_eq _ _ _ k)

theorem same_dz (r : Fin 4096) (j : Fin 2048) : val_main_v160 (F := Ideal) x g w gv ws bs wo dy (ValueIdx.ix2 r j)
    = kerZ x dy g gv w (msk ws) bs wo r j := by
  refine (ref_dz _ _ _ _ _ _ _ _ r j).trans ?_
  rw [same_z hg hw hv hs hb ho hy]

theorem same_dg (r : Fin 8) (k : Fin 1024) : val_main_v166 (F := Ideal) x g w gv ws bs wo dy (ValueIdx.ix2 r k)
    = Swiglu.gradG x (Kernel.back x g w gv ws bs wo dy) r k := by
  refine (ref_dg _ _ _ _ _ _ _ _ r k).trans ?_
  rw [same_z hg hw hv hs hb ho hy]

end

set_option maxHeartbeats 1000000 in
/-- The kernel and its reference leave the same arrays. -/
theorem values : algebraic_GmlpBwdIdeal_GmlpBwdRefIdeal_pre_gmlp_finite (hGmlpBwdIdeal := Cert.GmlpBwdIdeal.Gen.facts)
    (hGmlpBwdRefIdeal := Cert.GmlpBwdRefIdeal.Gen.facts) (hPre_gmlp_finite := Cert.Pre_gmlp_finite.Gen.facts) := by
  pair_intro
  · run_from Cert.GmlpBwdIdeal.Value.run_blocks m g
  · run_from Cert.GmlpBwdRefIdeal.Value.run m' g'
    all_goals
      obtain ⟨e0, e1, e2, e3, e4, e5, e6, e7⟩ := hagree c
      obtain ⟨hg, hw, hv, hs, hb, ho, hy⟩ := finite (hpre c)
      change launchContents m' c (Proc.devRef .tc Cert.GmlpBwdRefIdeal.main_arg0) = _ at e0
      change launchContents m' c (Proc.devRef .tc Cert.GmlpBwdRefIdeal.main_arg1) = _ at e1
      change launchContents m' c (Proc.devRef .tc Cert.GmlpBwdRefIdeal.main_arg2) = _ at e2
      change launchContents m' c (Proc.devRef .tc Cert.GmlpBwdRefIdeal.main_arg3) = _ at e3
      change launchContents m' c (Proc.devRef .tc Cert.GmlpBwdRefIdeal.main_arg4) = _ at e4
      change launchContents m' c (Proc.devRef .tc Cert.GmlpBwdRefIdeal.main_arg5) = _ at e5
      change launchContents m' c (Proc.devRef .tc Cert.GmlpBwdRefIdeal.main_arg6) = _ at e6
      change launchContents m' c (Proc.devRef .tc Cert.GmlpBwdRefIdeal.main_arg7) = _ at e7
    · rw [Kernel.final_11 m _ _ _ _ _ _ _ _ c rfl rfl rfl rfl rfl rfl rfl rfl]
      rw [← e0, ← e7]
      refine (Cert.GmlpBwdRefIdeal.Read.val_main_v158_eq (launchContents m' c)).trans ?_
      rw [e0, e1, e2, e3, e4, e5, e6, e7]
      funext i
      obtain ⟨r, k, rfl⟩ : ∃ r k, i = ValueIdx.ix2 r k := ⟨i 0, i 1, ValueIdx.eq_ix2 i⟩
      exact same_dx hg hw hv hs hb ho hy r k
    · rw [Kernel.final_12 m _ _ _ _ _ _ _ _ c rfl rfl rfl rfl rfl rfl rfl rfl]
      refine (Cert.GmlpBwdRefIdeal.Read.val_main_v160_eq (launchContents m' c)).trans ?_
      rw [e0, e1, e2, e3, e4, e5, e6, e7]
      funext i
      obtain ⟨r, j, rfl⟩ : ∃ r j, i = ValueIdx.ix2 r j := ⟨i 0, i 1, ValueIdx.eq_ix2 i⟩
      exact same_dz hg hw hv hs hb ho hy r j
    · rw [Kernel.final_13 m _ _ _ _ _ _ c rfl rfl rfl rfl rfl rfl]
      refine Eq.trans (Cert.GmlpBwdRefIdeal.Read.val_main_v92_eq (launchContents m' c)) ?_
      rw [e0, e1, e2, e3, e6, e7]
      funext i
      obtain ⟨p, a, b, rfl⟩ : ∃ p a b, i = ValueIdx.ix3 p a b := ⟨i 0, i 1, i 2, ValueIdx.eq_ix3 i⟩
      exact ref_dw _ _ _ _ _ _ p a b
    · rw [Kernel.final_14 m _ _ _ _ _ c rfl rfl rfl rfl rfl]
      refine Eq.trans (Cert.GmlpBwdRefIdeal.Read.val_main_v162_eq (launchContents m' c)) ?_
      rw [e0, e1, e2, e6, e7]
      funext i
      obtain ⟨p, a, b, rfl⟩ : ∃ p a b, i = ValueIdx.ix3 p a b := ⟨i 0, i 1, i 2, ValueIdx.eq_ix3 i⟩
      exact ref_db _ _ _ _ _ p a b
    · rw [Kernel.final_15 m _ _ _ _ _ _ c rfl rfl rfl rfl rfl rfl]
      refine Eq.trans (Cert.GmlpBwdRefIdeal.Read.val_main_v164_eq (launchContents m' c)) ?_
      rw [e0, e1, e2, e4, e6, e7]
      funext i
      obtain ⟨r, k, rfl⟩ : ∃ r k, i = ValueIdx.ix2 r k := ⟨i 0, i 1, ValueIdx.eq_ix2 i⟩
      exact ref_dgv _ _ _ _ _ _ r k
    · rw [Kernel.final_16 m _ _ _ _ _ _ _ _ c rfl rfl rfl rfl rfl rfl rfl rfl]
      refine (Cert.GmlpBwdRefIdeal.Read.val_main_v166_eq (launchContents m' c)).trans ?_
      rw [e0, e1, e2, e3, e4, e5, e6, e7]
      funext i
      obtain ⟨r, k, rfl⟩ : ∃ r k, i = ValueIdx.ix2 r k := ⟨i 0, i 1, ValueIdx.eq_ix2 i⟩
      exact same_dg hg hw hv hs hb ho hy r k

/-- The reference keeps its arguments; it declares no counter. -/
theorem ref_frame : quiescent_GmlpBwdRefIdeal (hGmlpBwdRefIdeal := Cert.GmlpBwdRefIdeal.Gen.facts) := fun m g _ =>
  (θ_run Cert.GmlpBwdRefIdeal.defs _ _).mono (fun r h => ⟨fun c => (h c).2.2.2.2.2.2, sem_eq_zero_of_no_sems (by decide) r.2⟩)
    (Cert.GmlpBwdRefIdeal.Value.run (F := Ideal) m g)

end Cert.Gmlp

end

end
-- ==== Proof.Pool.lean ====
module
public import proofs.«01_k».proof.Proof.Common
public import proofs.«01_k».proof.Proof.Reals
public import proofs.«01_k».proof.Proof.Finite
public import proofs.«01_k».proof.Proof.Gen.Pre_pool_finite
public import Idealize.ShloMosaic.Lib.KernelVsHost

/-! Sums over a window of frames: the kernel's, built by doubling, and the reference's, a running sum from the last frame
of differences that cancel but for one window. -/

@[expose] public section

set_option maxRecDepth 16384

noncomputable section

open Idealize.ShloMosaic Idealize.ShloMosaic.TcCoe

namespace Cert.Pool
open Cert.Common Cert.Reals

/-- A frame's value, zero after the last frame. -/
def ext (f : Fin 2048 → EReal) (u : ℕ) : EReal := if h : u < 2048 then f ⟨u, h⟩ else 0

/-- The sum of the `n` frames from frame `t` on. -/
def win (f : Fin 2048 → EReal) (n t : ℕ) : EReal := ∑ i ∈ Finset.range n, ext f (t + i)

theorem win_one (f : Fin 2048 → EReal) (t : Fin 2048) : win f 1 t.val = f t := by
  unfold win ext
  rw [Finset.sum_range_one, dif_pos (by simp)]
  rfl

/-- After the last frame there is nothing to sum. -/
theorem win_past (f : Fin 2048 → EReal) (n t : ℕ) (h : 2048 ≤ t) : win f n t = 0 :=
  Finset.sum_eq_zero fun i _ => dif_neg (by omega)

/-- Two windows side by side are one of twice the length. -/
theorem win_double (f : Fin 2048 → EReal) (n t : ℕ) : win f n t + win f n (t + n) = win f (n + n) t := by
  unfold win
  rw [Finset.sum_range_add]
  simp only [add_assoc]

/-- One of the kernel's steps: what every row holds is added to the row `n` before it, the last `n` rows being left. -/
theorem step {v : FVec Ideal (⟨2, ![2048, 256]⟩ : Shape) .f32} {f : Fin 256 → Fin 2048 → EReal} (n : ℕ) (h0 : 0 < n) (h1 : n < 2048)
    (hv : ∀ t k, v (ix2 t k) = win (f k) n t.val) (c : BitVec 32) (hc : c = BitVec.ofNat 32 (2048 - n)) (z : EReal) (hz : z = 0) (hI) (hR)
    (t : Fin 2048) (k : Fin 256) :
    addf v (select (cmpi .slt (iota .tc (⟨2, ![2048, 256]⟩ : Shape) 32 [0] hI) (broadcast (⟨2, ![2048, 256]⟩ : Shape) c))
      (dynamicRotate 0 c none v hR) (broadcast (⟨2, ![2048, 256]⟩ : Shape) z) : FVec Ideal (⟨2, ![2048, 256]⟩ : Shape) .f32) (ix2 t k)
      = win (f k) (n + n) t.val := by
  subst hc; subst hz
  have hb : (BitVec.ofNat 32 (2048 - n)).toNat = 2048 - n := by simp; omega
  have hr : dynamicRotate 0 (BitVec.ofNat 32 (2048 - n)) none v hR (ix2 t k) = v (ix2 ⟨(t.val + n) % 2048, by omega⟩ k) := by
    refine dynamicRotate_apply _ _ _ _ _ _ fun b => ?_
    rw [hb]
    match b with
    | ⟨0, _⟩ =>
      show (t.val + n) % 2048 = (t.val + 2048 - (2048 - n) % 2048) % 2048
      omega
    | ⟨1, _⟩ => rfl
  have hs : Scalar.select (IntOp.cmpi .slt (BitVec.ofNat 32 (0 * 2048 + t.val)) (BitVec.ofNat 32 (2048 - n)))
      (dynamicRotate 0 (BitVec.ofNat 32 (2048 - n)) none v hR (ix2 t k)) 0 = win (f k) n (t.val + n) := by
    rw [select_slt _ _ (by omega) (by omega), hr, hv]
    split_ifs with h
    · show win (f k) n ((t.val + n) % 2048) = _
      rw [Nat.mod_eq_of_lt (by omega)]
    · rw [win_past _ _ _ (by omega)]
  rw [← win_double, ← hs, ← hv]
  rfl

/-- How many frames a trailing window of `w` frames ending at frame `t` holds. -/
def cnt (w t : ℕ) : EReal := (((min (t + 1) w : ℕ) : ℝ) : EReal)

theorem cnt_pos (w t : ℕ) (hw : 0 < w) : ((min (t + 1) w : ℕ) : ℝ) ≠ 0 := by
  have : min (t + 1) w ≠ 0 := by omega
  exact_mod_cast this

/-- The number of frames as the kernel computes it, with integers. -/
theorem cnt_int (w t : ℕ) (hw : w < 2048) (ht : t < 2048) :
    (FloatOps.sitofp (F := Ideal) .f32 (IntOp.minsi (BitVec.ofNat 32 t + 1#32) (BitVec.ofNat 32 w)) : EReal) = cnt w t := by
  have e : BitVec.ofNat 32 t + 1#32 = BitVec.ofNat 32 (t + 1) := by rw [BitVec.ofNat_add]
  have h : (IntOp.minsi (BitVec.ofNat 32 t + 1#32) (BitVec.ofNat 32 w)).toInt = ((min (t + 1) w : ℕ) : ℤ) := by
    rw [e]
    unfold IntOp.minsi
    simp only [BitVec.slt, toInt_small (t + 1) (by omega), toInt_small w (by omega)]
    split_ifs with hc
    · rw [toInt_small (t + 1) (by omega)]
      simp at hc; omega
    · rw [toInt_small w (by omega)]
      simp at hc; omega
  show (((IntOp.minsi (BitVec.ofNat 32 t + 1#32) (BitVec.ofNat 32 w)).toInt : ℝ) : EReal) = _
  rw [h]
  rfl

/-- The number of frames as the reference computes it, with floats. -/
theorem cnt_float (w t : ℕ) (ht : t < 2048) :
    min ((1 : EReal) + (((BitVec.ofNat 32 t).toInt : ℝ) : EReal)) (((w : ℕ) : ℝ) : EReal) = cnt w t := by
  rw [toInt_small t (by omega)]
  unfold cnt
  rw [← EReal.coe_one, ← EReal.coe_add, ← EReal.coe_strictMono.monotone.map_min]
  refine congrArg _ ?_
  push_cast
  rw [add_comm]

/-- The reference's running sum from the last frame back, at an index. -/
theorem tail_sum (x : FVec Ideal (⟨3, ![2, 2048, 256]⟩ : Shape) .f32) (z : FVec Ideal (⟨0, ![]⟩ : Shape) .f32) (hz : ∀ i, z i = 0)
    (h : (⟨3, ![2, 2048, 256]⟩ : Shape).ReduceWindows (![1, 2048, 1] : Fin 3 → ℕ) ![1, 1, 1] ![0, 0, 0] ![0, 2047, 0] (⟨3, ![2, 2048, 256]⟩ : Shape)) (hu)
    (e : Fin 2) (t : Fin 2048) (k : Fin 256) :
    Host.reduceWindowAdd (F := Ideal) (φ := .f32) ![1, 2048, 1] ![1, 1, 1] ![0, 0, 0] ![0, 2047, 0] x z h hu (ix3 e t k)
      = win (fun u => x (ix3 e u k)) 2048 t.val := by
  unfold Host.reduceWindowAdd
  rw [hz, Ideal.hostReduceWindowAdd_def]
  have fold : ∀ {N : ℕ} (g : Fin N → EReal) (l : List (Fin N)) (r : EReal), l.foldl (fun r n => r + g n) r = r + (l.map g).sum := by
    intro N g l
    induction l with
    | nil => intro r; simp
    | cons a l ih => intro r; rw [List.foldl_cons, ih, List.map_cons, List.sum_cons, add_assoc]
  unfold Ideal.hostReduceWindowAdd Host.reduceWindow
  refine (fold _ _ _).trans ?_
  rw [zero_add, ← List.ofFn_eq_map, List.sum_ofFn, ← Equiv.sum_comp (⟨3, ![1, 2048, 1]⟩ : Shape).rowMajor]
  have key : Function.Bijective fun b : Fin 2048 => (ix3 0 b 0 : (⟨3, ![1, 2048, 1]⟩ : Shape).Idx) := by
    refine Function.bijective_iff_has_inverse.mpr ⟨fun i => i 1, fun b => rfl, fun i => ?_⟩
    funext a
    match a with
    | ⟨0, _⟩ => exact Subsingleton.elim (α := Fin 1) _ _
    | ⟨1, _⟩ => rfl
    | ⟨2, _⟩ => exact Subsingleton.elim (α := Fin 1) _ _
  rw [← Function.Bijective.sum_comp key]
  unfold win
  rw [← Fin.sum_univ_eq_sum_range (fun i => ext (fun u => x (ix3 e u k)) (t.val + i))]
  refine Finset.sum_congr rfl fun b _ => ?_
  simp only [Equiv.symm_apply_apply]
  unfold ext
  by_cases hb : t.val + b.val < 2048
  · rw [dif_pos hb, dif_pos]
    · refine congrArg x (funext fun a => Fin.ext ?_)
      match a with
      | ⟨0, _⟩ => show e.val * 1 + 0 - 0 = e.val; omega
      | ⟨1, _⟩ => show t.val * 1 + b.val - 0 = t.val + b.val; omega
      | ⟨2, _⟩ => show k.val * 1 + 0 - 0 = k.val; omega
    · intro a
      match a with
      | ⟨0, _⟩ => show 0 ≤ e.val * 1 + 0 ∧ e.val * 1 + 0 - 0 < 2; omega
      | ⟨1, _⟩ => show 0 ≤ t.val * 1 + b.val ∧ t.val * 1 + b.val - 0 < 2048; omega
      | ⟨2, _⟩ => show 0 ≤ k.val * 1 + 0 ∧ k.val * 1 + 0 - 0 < 256; omega
  · rw [dif_neg hb, dif_neg]
    intro hin
    have : t.val * 1 + b.val - 0 < 2048 := (hin (1 : Fin 3)).2
    omega

/-- Finite values summed over a window are the sum of the reals they are. -/
theorem win_real (r : Fin 2048 → ℝ) (n t : ℕ) :
    win (fun u => (r u : EReal)) n t = ((∑ i ∈ Finset.range n, (if h : t + i < 2048 then r ⟨t + i, h⟩ else 0) : ℝ) : EReal) := by
  unfold win ext
  rw [← coe_sum]
  refine Finset.sum_congr rfl fun i _ => ?_
  split_ifs <;> simp

/-- Of finite values, each less the value `w` frames later, the sum to the end is the sum over one window. -/
theorem win_diff (r : Fin 2048 → ℝ) (w t : ℕ) :
    win (fun u => (r u : EReal) + if h : u.val + w < 2048 then -(r ⟨u.val + w, h⟩ : EReal) else 0) 2048 t = win (fun u => (r u : EReal)) w t := by
  have e : (fun u : Fin 2048 => (r u : EReal) + if h : u.val + w < 2048 then -(r ⟨u.val + w, h⟩ : EReal) else 0)
      = fun u => ((r u - (if h : u.val + w < 2048 then r ⟨u.val + w, h⟩ else 0) : ℝ) : EReal) := by
    funext u
    split_ifs
    · rw [EReal.coe_sub, sub_eq_add_neg]
    · simp
  rw [e, win_real, win_real]
  refine congrArg _ ?_
  set F : ℕ → ℝ := fun u => if h : u < 2048 then r ⟨u, h⟩ else 0 with hF
  have e1 : ∀ i, (if h : t + i < 2048 then r ⟨t + i, h⟩ - (if h' : t + i + w < 2048 then r ⟨t + i + w, h'⟩ else 0) else 0) = F (t + i) - F (t + (w + i)) := by
    intro i
    simp only [hF]
    by_cases h : t + i < 2048
    · rw [dif_pos h, dif_pos h]
      congr 1
      have e3 : t + i + w = t + (w + i) := by omega
      simp only [e3]
    · rw [dif_neg h, dif_neg h, dif_neg (by omega), sub_zero]
  have e2 : ∑ i ∈ Finset.range 2048, F (t + i) + ∑ i ∈ Finset.range w, F (t + (2048 + i))
      = ∑ i ∈ Finset.range w, F (t + i) + ∑ i ∈ Finset.range 2048, F (t + (w + i)) := by
    rw [← Finset.sum_range_add (fun i => F (t + i)) 2048 w, ← Finset.sum_range_add (fun i => F (t + i)) w 2048, add_comm 2048 w]
  have e3 : ∑ i ∈ Finset.range w, F (t + (2048 + i)) = 0 := Finset.sum_eq_zero fun i _ => dif_neg (by omega)
  simp only [e1]
  rw [Finset.sum_sub_distrib]
  show _ = ∑ i ∈ Finset.range w, F (t + i)
  linarith

/-- A frame's share of the means it enters, and the gradient of the trailing mean less the frame itself. -/
def share (dd : (⟨3, ![2, 2048, 256]⟩ : Shape).Idx → EReal) (w : ℕ) (e : Fin 2) (k : Fin 256) (u : Fin 2048) : EReal :=
  Ideal.div (dd (ix3 e u k)) (cnt w u.val)
def grad (dd : (⟨3, ![2, 2048, 256]⟩ : Shape).Idx → EReal) (w : ℕ) (e : Fin 2) (t : Fin 2048) (k : Fin 256) : EReal :=
  win (share dd w e k) w t.val - dd (ix3 e t k)

/-- On a finite cotangent the reference's running sum is the window's. -/
theorem ref_eq (dd : (⟨3, ![2, 2048, 256]⟩ : Shape).Idx → EReal) (hd : ∀ i, max (dd i) (-dd i) < ⊤) (w : ℕ) (hw : 0 < w)
    (e : Fin 2) (t : Fin 2048) (k : Fin 256) :
    -dd (ix3 e t k) + win (fun u => share dd w e k u + if h : u.val + w < 2048 then -share dd w e k ⟨u.val + w, h⟩ else 0) 2048 t.val
      = grad dd w e t k := by
  obtain ⟨d, rfl⟩ := lift_fun hd
  have hs : share (fun i => (d i : EReal)) w e k = fun u => ((d (ix3 e u k) * (1 / ((min (u.val + 1) w : ℕ) : ℝ)) : ℝ) : EReal) := by
    funext u
    unfold share cnt
    rw [Ideal.div_coe (cnt_pos w u.val hw), ← EReal.coe_mul]
  unfold grad
  rw [hs, win_diff, add_comm, sub_eq_add_neg]

/-- The kernel's first value, a frame over the number of frames in its window, is a window of one. -/
theorem first (w : ℕ) (hw : w < 2048) (v : FVec Ideal (⟨2, ![2048, 256]⟩ : Shape) .f32) (hI) (t : Fin 2048) (k : Fin 256) :
    divf v (sitofp .f32 (minsi (addi (iota .tc (⟨2, ![2048, 256]⟩ : Shape) 32 [0] hI) (broadcast (⟨2, ![2048, 256]⟩ : Shape) 1#32))
      (broadcast (⟨2, ![2048, 256]⟩ : Shape) (BitVec.ofNat 32 w))) : FVec Ideal (⟨2, ![2048, 256]⟩ : Shape) .f32) (ix2 t k)
      = win (fun u => Ideal.div (v (ix2 u k)) (cnt w u.val)) 1 t.val := by
  rw [win_one, ← cnt_int w t.val hw t.isLt]
  show Ideal.div (v (ix2 t k)) (FloatOps.sitofp (F := Ideal) .f32 (IntOp.minsi (BitVec.ofNat 32 (0 * 2048 + t.val) + 1#32) (BitVec.ofNat 32 w))) = _
  rw [Nat.zero_mul, Nat.zero_add]

/-- The reference's shift by `w` frames, zeros entering at the end. -/
theorem shifted (w n : ℕ) (hn : n + w = 2048) (y : (⟨3, ![2, n, 256]⟩ : Shape).Idx → EReal) (z : (⟨0, ![]⟩ : Shape).Idx → EReal) (hP) (hu)
    (e : Fin 2) (u : Fin 2048) (k : Fin 256) :
    pad (⟨3, ![2, 2048, 256]⟩ : Shape) ![0, 0, 0] ![0, w, 0] ![0, 0, 0] y z hP hu (ix3 e u k)
      = if h : u.val + w < 2048 then y (ix3 e ⟨u.val, by omega⟩ k) else z (Shape.Idx.first hu) := by
  split_ifs with h
  · refine pad_apply_of_inside _ _ _ _ _ _ _ _ _ fun a => ?_
    match a with
    | ⟨0, _⟩ => show e.val = 0 + e.val * 1; omega
    | ⟨1, _⟩ => show u.val = 0 + u.val * 1; omega
    | ⟨2, _⟩ => show k.val = 0 + k.val * 1; omega
  · refine pad_apply_of_not_inside _ _ _ _ _ _ _ _ (1 : Fin 3) fun hc => ?_
    have : (u.val - 0) / (0 + 1) < n := hc.2.2
    omega

/-- What the reference sums from the end: each share less the one `w` frames later. -/
theorem ref_diff (dd : (⟨3, ![2, 2048, 256]⟩ : Shape).Idx → EReal) (w n : ℕ) (hn : n + w = 2048) (s : FVec Ideal (⟨3, ![2, 2048, 256]⟩ : Shape) .f32)
    (hs : ∀ e u k, s (ix3 e u k) = share dd w e k u) (z : FVec Ideal (⟨0, ![]⟩ : Shape) .f32) (hz : ∀ i, z i = 0) (hS) (hP) (hu)
    (e : Fin 2) (u : Fin 2048) (k : Fin 256) :
    addf s (pad (⟨3, ![2, 2048, 256]⟩ : Shape) ![0, 0, 0] ![0, w, 0] ![0, 0, 0]
      (extractStridedSlice (⟨3, ![2, n, 256]⟩ : Shape) ![0, w, 0] (Host.negf s) hS) z hP hu) (ix3 e u k)
      = share dd w e k u + if h : u.val + w < 2048 then -share dd w e k ⟨u.val + w, h⟩ else 0 := by
  rw [← hs]
  refine congrArg (s (ix3 e u k) + ·) ((shifted w n hn _ z hP hu e u k).trans (dite_congr rfl (fun h => ?_) fun _ => hz _))
  rw [extractStridedSlice_apply ![0, w, 0] (Host.negf s) hS (ix3 e ⟨u.val, by omega⟩ k) (ix3 e ⟨u.val + w, h⟩ k) (fun a => by
    match a with
    | ⟨0, _⟩ => show e.val = 0 + e.val; omega
    | ⟨1, _⟩ => show u.val + w = w + u.val; omega
    | ⟨2, _⟩ => show k.val = 0 + k.val; omega), ← hs]
  rfl

/-- What the reference returns on a finite cotangent. -/
theorem ref_out (dd : (⟨3, ![2, 2048, 256]⟩ : Shape).Idx → EReal) (hd : ∀ i, max (dd i) (-dd i) < ⊤) (w : ℕ) (hw : 0 < w)
    (x : FVec Ideal (⟨3, ![2, 2048, 256]⟩ : Shape) .f32)
    (hx : ∀ e u k, x (ix3 e u k) = share dd w e k u + if h : u.val + w < 2048 then -share dd w e k ⟨u.val + w, h⟩ else 0)
    (z : FVec Ideal (⟨0, ![]⟩ : Shape) .f32) (hz : ∀ i, z i = 0) (h) (hu) (hc) (r : Fin 4096) (k : Fin 256) :
    shapeCast (⟨2, ![4096, 256]⟩ : Shape) (addf (Host.negf (F := Ideal) (φ := .f32) dd)
      (Host.reduceWindowAdd (F := Ideal) (φ := .f32) ![1, 2048, 1] ![1, 1, 1] ![0, 0, 0] ![0, 2047, 0] x z h hu)) hc (ix2 r k)
      = grad dd w (ep r) (fr r) k := by
  rw [shapeCast_apply _ hc (ix2 r k) (ix3 (ep r) (fr r) k) (by
    rw [Shape.rowMajor_val_three, Shape.rowMajor_val_two]
    show (r.val / 2048 * 2048 + r.val % 2048) * 256 + k.val = r.val * 256 + k.val
    omega), ← ref_eq dd hd w hw]
  refine congrArg (-dd (ix3 (ep r) (fr r) k) + ·) ((tail_sum x z hz h hu (ep r) (fr r) k).trans ?_)
  simp only [hx]

/-- What the precondition says of the cotangent. -/
theorem finite [Cert.Pre_pool_finite.Facts] {p dd : FVec Ideal Cert.Pre_pool_finite.S2x2048x256 .f32}
    (h : Cert.Pre_pool_finite.fn (F := Ideal) p dd = fun _ => 1#1) : ∀ i, max (dd i) (-dd i : EReal) < ⊤ := by
  have h0 := congrFun h fun a : Fin 0 => a.elim0
  unfold Cert.Pre_pool_finite.fn at h0
  dsimp only at h0
  haveI : Subsingleton Cert.Pre_pool_finite.S_.Idx := ⟨fun a b => funext fun i => i.elim0⟩
  refine Finite.all_finite h0 ?_
  exact fun _ => Finite.inf_eq

end Cert.Pool

end

end
-- ==== Proof.Pool2.lean ====
module
public import proofs.«01_k».proof.Defs
public import proofs.«01_k».proof.Proof.Pool
public import proofs.«01_k».proof.Proof.Gen.Pool2Bwd.Frame
public import proofs.«01_k».proof.Proof.Gen.Pool2BwdIdeal.Frame
public import proofs.«01_k».proof.Proof.Gen.Pool2BwdIdeal.Value
public import proofs.«01_k».proof.Proof.Gen.Pool2BwdRefIdeal
public import proofs.«01_k».proof.Proof.Gen.Pool2BwdRefIdeal.Run
public import proofs.«01_k».proof.Proof.Gen.Pool2BwdRefIdeal.Read
public import Idealize.ShloMosaic.Lib.StableHlo.RunRead
public import Idealize.ShloMosaic.Lib.Claim
public import Idealize.ShloMosaic.Adequacy
public import Idealize.ShloMosaic.Init

/-! What the kernel of the group that pools over two frames leaves, beside its reference. -/

@[expose] public section

set_option maxRecDepth 16384

noncomputable section

open Idealize.ShloMosaic Idealize.ShloMosaic.TcCoe Idealize.SL.Sem
open Idealize.ShloMosaic.Pipeline (Dat)

namespace Cert.Pool.Two
open Cert.Common Cert.Pool

section
open Cert.Pool2BwdIdeal Cert.Pool2BwdIdeal.Gen

variable (m : (ℓ : Loc nD τ sig) → Buf (Elt Ideal) ℓ)

/-- Which block each window reads or writes at a grid point. -/
theorem idx_val : ∀ t : Fin cfg0.N, win0_0.index t = ![t.val, 0] ∧ win0_1.index t = ![t.val, 0] :=
  (by decide +kernel : ∀ t : Fin grid0.N, _)

/-- The one step of the doubling, then the frame itself taken away. -/
theorem payload (P : FVec Ideal S2048x256 .f32) (t : Fin 2048) (k : Fin 256) :
    k0_pay1 (F := Ideal) P (ix2 t k) = win (fun u => Ideal.div (P (ix2 u k)) (cnt 2 u.val)) 2 t.val - P (ix2 t k) := by
  have h0 := first 2 (by omega) P iota_S2048x256_d0_w32
  have h1 := step (f := fun k u => Ideal.div (P (ix2 u k)) (cnt 2 u.val)) 1 (by omega) (by omega) h0 2047#32 rfl _ Ideal.ofBits_zero_f32 iota_S2048x256_d0_w32 rotates_S2048x256_d0
  unfold k0_pay1
  rw [shapeCast_self]
  exact congrArg (· - P (ix2 t k)) (h1 t k)

/-- There are two grid points, one for each episode. -/
theorem lt2 (t : Fin cfg0.N) : t.val < 2 := lt_of_lt_of_eq t.isLt (show cfg0.N = 2 from N_0)

theorem blk0 (c : Dev nD) (t : Fin cfg0.N) (dd : S2x2048x256.Idx → EReal) (h : m ((c : Thread nD τ).loc main_arg1) = dd) (u : Fin 2048) (k : Fin 256) :
    iblk m c 0 t (ix2 u k) = dd (ix3 ⟨t.val, lt2 t⟩ u k) := by
  subst h
  blk_point [iblk, V, idx_val t] <;> omega

/-- The block a point leaves. -/
theorem point (c : Dev nD) (t : Fin cfg0.N) (dd : S2x2048x256.Idx → EReal) (h : m ((c : Thread nD τ).loc main_arg1) = dd) (u : Fin 2048) (k : Fin 256) :
    out0_1 (iblk m c 0 t) (ix2 u k) = grad dd 2 ⟨t.val, lt2 t⟩ u k := by
  have hb := blk0 m c t dd h
  generalize iblk m c 0 t = P at hb ⊢
  frame_out
  refine (payload P u k).trans ?_
  simp only [hb]
  rfl

/-- What the kernel leaves. -/
theorem final (c : Dev nD) (dd : S2x2048x256.Idx → EReal) (h : m ((c : Thread nD τ).loc main_arg1) = dd) :
    (dats m 0 c).arrAt 1 cfg0.N = fun i : S4096x256.Idx => grad dd 2 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t dd h]
  congr 1 <;> apply Fin.ext <;> simp only [ep, fr] <;> blk_simp [idx_val t] <;> (try simp) <;> omega

end

section
open Cert.Pool2BwdRefIdeal Cert.Pool2BwdRefIdeal.Read

/-- A frame's share, as the reference computes it. -/
theorem ref_share (dd : S2x2048x256.Idx → EReal) (e : Fin 2) (u : Fin 2048) (k : Fin 256) :
    val_main_v18 (F := Ideal) dd (ix3 e u k) = share dd 2 e k u := by
  have h4 : Ideal.ofBits .f32 0x40000000#32 = (((2 : ℕ) : ℝ) : EReal) := by
    simp [Ideal.ofBits, Ideal.ieee, -EReal.coe_mul]
    norm_num
  unfold share
  rw [← cnt_float 2 u.val u.isLt, ← h4, ← Ideal.ofBits_one_f32, val_main_v18_apply, val_main_v17_apply, val_main_v11_apply, val_main_v10_apply,
    val_main_v3_apply, val_main_v2_apply, val_main_v9_apply]
  unfold val_main_v15
  rw [shapeCast_self]
  rfl

/-- What the reference returns on a finite cotangent. -/
theorem returns (dd : S2x2048x256.Idx → EReal) (hd : ∀ i, max (dd i) (-dd i) < ⊤) (r : Fin 4096) (k : Fin 256) :
    val_main_v27 (F := Ideal) dd (ix2 r k) = grad dd 2 (ep r) (fr r) k :=
  ref_out dd hd 2 (by omega) (val_main_v23 (F := Ideal) dd)
    (ref_diff dd 2 2046 rfl _ (ref_share dd) _ (fun _ => Ideal.ofBits_zero_f32) _ _ _)
    (val_main_call1_call0_v0 (F := Ideal)) (fun i => (val_main_call1_call0_v0_apply i).trans Ideal.ofBits_zero_f32) _ _ _ r k

end

open Idealize.ShloMosaic.StableHlo in
/-- The kernel and its reference leave the same array. -/
theorem values : algebraic_Pool2BwdIdeal_Pool2BwdRefIdeal_pre_pool_finite (hPool2BwdIdeal := Cert.Pool2BwdIdeal.Gen.facts)
    (hPool2BwdRefIdeal := Cert.Pool2BwdRefIdeal.Gen.facts) (hPre_pool_finite := Cert.Pre_pool_finite.Gen.facts) := by
  pair_intro
  · run_from Cert.Pool2BwdIdeal.Value.run_blocks m g
  · run_from Cert.Pool2BwdRefIdeal.Value.run m' g'
    · rw [final m c _ rfl]
      refine Eq.trans (Cert.Pool2BwdRefIdeal.Read.val_main_v27_eq (F := Ideal) _) ?_
      funext i
      obtain ⟨r, k, rfl⟩ : ∃ r k, i = ValueIdx.ix2 r k := ⟨i 0, i 1, ValueIdx.eq_ix2 i⟩
      exact returns _ (finite (hpre c)) r k

/-- The reference keeps its arguments; it declares no counter. -/
theorem ref_frame : quiescent_Pool2BwdRefIdeal (hPool2BwdRefIdeal := Cert.Pool2BwdRefIdeal.Gen.facts) := fun m g _ =>
  (θ_run Cert.Pool2BwdRefIdeal.defs _ _).mono (fun r h => ⟨fun c => (h c).2, sem_eq_zero_of_no_sems (by decide) r.2⟩)
    (Cert.Pool2BwdRefIdeal.Value.run (F := Ideal) m g)

end Cert.Pool.Two

end

end
-- ==== Proof.Pool4.lean ====
module
public import proofs.«01_k».proof.Defs
public import proofs.«01_k».proof.Proof.Pool
public import proofs.«01_k».proof.Proof.Gen.Pool4Bwd.Frame
public import proofs.«01_k».proof.Proof.Gen.Pool4BwdIdeal.Frame
public import proofs.«01_k».proof.Proof.Gen.Pool4BwdIdeal.Value
public import proofs.«01_k».proof.Proof.Gen.Pool4BwdRefIdeal
public import proofs.«01_k».proof.Proof.Gen.Pool4BwdRefIdeal.Run
public import proofs.«01_k».proof.Proof.Gen.Pool4BwdRefIdeal.Read
public import Idealize.ShloMosaic.Lib.StableHlo.RunRead
public import Idealize.ShloMosaic.Lib.Claim
public import Idealize.ShloMosaic.Adequacy
public import Idealize.ShloMosaic.Init

/-! What the kernel of the group that pools over four frames leaves, beside its reference. -/

@[expose] public section

set_option maxRecDepth 16384

noncomputable section

open Idealize.ShloMosaic Idealize.ShloMosaic.TcCoe Idealize.SL.Sem
open Idealize.ShloMosaic.Pipeline (Dat)

namespace Cert.Pool.Four
open Cert.Common Cert.Pool

section
open Cert.Pool4BwdIdeal Cert.Pool4BwdIdeal.Gen

variable (m : (ℓ : Loc nD τ sig) → Buf (Elt Ideal) ℓ)

/-- Which block each window reads or writes at a grid point. -/
theorem idx_val : ∀ t : Fin cfg0.N, win0_0.index t = ![t.val, 0] ∧ win0_1.index t = ![t.val, 0] :=
  (by decide +kernel : ∀ t : Fin grid0.N, _)

/-- The two steps of the doubling, then the frame itself taken away. -/
theorem payload (P : FVec Ideal S2048x256 .f32) (t : Fin 2048) (k : Fin 256) :
    k0_pay1 (F := Ideal) P (ix2 t k) = win (fun u => Ideal.div (P (ix2 u k)) (cnt 4 u.val)) 4 t.val - P (ix2 t k) := by
  have h0 := first 4 (by omega) P iota_S2048x256_d0_w32
  have h1 := step (f := fun k u => Ideal.div (P (ix2 u k)) (cnt 4 u.val)) 1 (by omega) (by omega) h0 2047#32 rfl _ Ideal.ofBits_zero_f32 iota_S2048x256_d0_w32 rotates_S2048x256_d0
  have h2 := step (f := fun k u => Ideal.div (P (ix2 u k)) (cnt 4 u.val)) 2 (by omega) (by omega) h1 2046#32 rfl _ Ideal.ofBits_zero_f32 iota_S2048x256_d0_w32 rotates_S2048x256_d0
  unfold k0_pay1
  rw [shapeCast_self]
  exact congrArg (· - P (ix2 t k)) (h2 t k)

/-- There are two grid points, one for each episode. -/
theorem lt2 (t : Fin cfg0.N) : t.val < 2 := lt_of_lt_of_eq t.isLt (show cfg0.N = 2 from N_0)

theorem blk0 (c : Dev nD) (t : Fin cfg0.N) (dd : S2x2048x256.Idx → EReal) (h : m ((c : Thread nD τ).loc main_arg1) = dd) (u : Fin 2048) (k : Fin 256) :
    iblk m c 0 t (ix2 u k) = dd (ix3 ⟨t.val, lt2 t⟩ u k) := by
  subst h
  blk_point [iblk, V, idx_val t] <;> omega

/-- The block a point leaves. -/
theorem point (c : Dev nD) (t : Fin cfg0.N) (dd : S2x2048x256.Idx → EReal) (h : m ((c : Thread nD τ).loc main_arg1) = dd) (u : Fin 2048) (k : Fin 256) :
    out0_1 (iblk m c 0 t) (ix2 u k) = grad dd 4 ⟨t.val, lt2 t⟩ u k := by
  have hb := blk0 m c t dd h
  generalize iblk m c 0 t = P at hb ⊢
  frame_out
  refine (payload P u k).trans ?_
  simp only [hb]
  rfl

/-- What the kernel leaves. -/
theorem final (c : Dev nD) (dd : S2x2048x256.Idx → EReal) (h : m ((c : Thread nD τ).loc main_arg1) = dd) :
    (dats m 0 c).arrAt 1 cfg0.N = fun i : S4096x256.Idx => grad dd 4 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t dd h]
  congr 1 <;> apply Fin.ext <;> simp only [ep, fr] <;> blk_simp [idx_val t] <;> (try simp) <;> omega

end

section
open Cert.Pool4BwdRefIdeal Cert.Pool4BwdRefIdeal.Read

/-- A frame's share, as the reference computes it. -/
theorem ref_share (dd : S2x2048x256.Idx → EReal) (e : Fin 2) (u : Fin 2048) (k : Fin 256) :
    val_main_v18 (F := Ideal) dd (ix3 e u k) = share dd 4 e k u := by
  have h4 : Ideal.ofBits .f32 0x40800000#32 = (((4 : ℕ) : ℝ) : EReal) := by
    simp [Ideal.ofBits, Ideal.ieee, -EReal.coe_mul]
    norm_num
  unfold share
  rw [← cnt_float 4 u.val u.isLt, ← h4, ← Ideal.ofBits_one_f32, val_main_v18_apply, val_main_v17_apply, val_main_v11_apply, val_main_v10_apply,
    val_main_v3_apply, val_main_v2_apply, val_main_v9_apply]
  unfold val_main_v15
  rw [shapeCast_self]
  rfl

/-- What the reference returns on a finite cotangent. -/
theorem returns (dd : S2x2048x256.Idx → EReal) (hd : ∀ i, max (dd i) (-dd i) < ⊤) (r : Fin 4096) (k : Fin 256) :
    val_main_v27 (F := Ideal) dd (ix2 r k) = grad dd 4 (ep r) (fr r) k :=
  ref_out dd hd 4 (by omega) (val_main_v23 (F := Ideal) dd)
    (ref_diff dd 4 2044 rfl _ (ref_share dd) _ (fun _ => Ideal.ofBits_zero_f32) _ _ _)
    (val_main_call1_call0_v0 (F := Ideal)) (fun i => (val_main_call1_call0_v0_apply i).trans Ideal.ofBits_zero_f32) _ _ _ r k

end

open Idealize.ShloMosaic.StableHlo in
/-- The kernel and its reference leave the same array. -/
theorem values : algebraic_Pool4BwdIdeal_Pool4BwdRefIdeal_pre_pool_finite (hPool4BwdIdeal := Cert.Pool4BwdIdeal.Gen.facts)
    (hPool4BwdRefIdeal := Cert.Pool4BwdRefIdeal.Gen.facts) (hPre_pool_finite := Cert.Pre_pool_finite.Gen.facts) := by
  pair_intro
  · run_from Cert.Pool4BwdIdeal.Value.run_blocks m g
  · run_from Cert.Pool4BwdRefIdeal.Value.run m' g'
    · rw [final m c _ rfl]
      refine Eq.trans (Cert.Pool4BwdRefIdeal.Read.val_main_v27_eq (F := Ideal) _) ?_
      funext i
      obtain ⟨r, k, rfl⟩ : ∃ r k, i = ValueIdx.ix2 r k := ⟨i 0, i 1, ValueIdx.eq_ix2 i⟩
      exact returns _ (finite (hpre c)) r k

/-- The reference keeps its arguments; it declares no counter. -/
theorem ref_frame : quiescent_Pool4BwdRefIdeal (hPool4BwdRefIdeal := Cert.Pool4BwdRefIdeal.Gen.facts) := fun m g _ =>
  (θ_run Cert.Pool4BwdRefIdeal.defs _ _).mono (fun r h => ⟨fun c => (h c).2, sem_eq_zero_of_no_sems (by decide) r.2⟩)
    (Cert.Pool4BwdRefIdeal.Value.run (F := Ideal) m g)

end Cert.Pool.Four

end

end
-- ==== Proof.Pool8.lean ====
module
public import proofs.«01_k».proof.Defs
public import proofs.«01_k».proof.Proof.Pool
public import proofs.«01_k».proof.Proof.Gen.Pool8Bwd.Frame
public import proofs.«01_k».proof.Proof.Gen.Pool8BwdIdeal.Frame
public import proofs.«01_k».proof.Proof.Gen.Pool8BwdIdeal.Value
public import proofs.«01_k».proof.Proof.Gen.Pool8BwdRefIdeal
public import proofs.«01_k».proof.Proof.Gen.Pool8BwdRefIdeal.Run
public import proofs.«01_k».proof.Proof.Gen.Pool8BwdRefIdeal.Read
public import Idealize.ShloMosaic.Lib.StableHlo.RunRead
public import Idealize.ShloMosaic.Lib.Claim
public import Idealize.ShloMosaic.Adequacy
public import Idealize.ShloMosaic.Init

/-! What the kernel of the group that pools over eight frames leaves, beside its reference. -/

@[expose] public section

set_option maxRecDepth 16384

noncomputable section

open Idealize.ShloMosaic Idealize.ShloMosaic.TcCoe Idealize.SL.Sem
open Idealize.ShloMosaic.Pipeline (Dat)

namespace Cert.Pool.Eight
open Cert.Common Cert.Pool

section
open Cert.Pool8BwdIdeal Cert.Pool8BwdIdeal.Gen

variable (m : (ℓ : Loc nD τ sig) → Buf (Elt Ideal) ℓ)

/-- Which block each window reads or writes at a grid point. -/
theorem idx_val : ∀ t : Fin cfg0.N, win0_0.index t = ![t.val, 0] ∧ win0_1.index t = ![t.val, 0] :=
  (by decide +kernel : ∀ t : Fin grid0.N, _)

/-- The three steps of the doubling, then the frame itself taken away. -/
theorem payload (P : FVec Ideal S2048x256 .f32) (t : Fin 2048) (k : Fin 256) :
    k0_pay1 (F := Ideal) P (ix2 t k) = win (fun u => Ideal.div (P (ix2 u k)) (cnt 8 u.val)) 8 t.val - P (ix2 t k) := by
  have h0 := first 8 (by omega) P iota_S2048x256_d0_w32
  have h1 := step (f := fun k u => Ideal.div (P (ix2 u k)) (cnt 8 u.val)) 1 (by omega) (by omega) h0 2047#32 rfl _ Ideal.ofBits_zero_f32 iota_S2048x256_d0_w32 rotates_S2048x256_d0
  have h2 := step (f := fun k u => Ideal.div (P (ix2 u k)) (cnt 8 u.val)) 2 (by omega) (by omega) h1 2046#32 rfl _ Ideal.ofBits_zero_f32 iota_S2048x256_d0_w32 rotates_S2048x256_d0
  have h3 := step (f := fun k u => Ideal.div (P (ix2 u k)) (cnt 8 u.val)) 4 (by omega) (by omega) h2 2044#32 rfl _ Ideal.ofBits_zero_f32 iota_S2048x256_d0_w32 rotates_S2048x256_d0
  unfold k0_pay1
  rw [shapeCast_self]
  exact congrArg (· - P (ix2 t k)) (h3 t k)

/-- There are two grid points, one for each episode. -/
theorem lt2 (t : Fin cfg0.N) : t.val < 2 := lt_of_lt_of_eq t.isLt (show cfg0.N = 2 from N_0)

theorem blk0 (c : Dev nD) (t : Fin cfg0.N) (dd : S2x2048x256.Idx → EReal) (h : m ((c : Thread nD τ).loc main_arg1) = dd) (u : Fin 2048) (k : Fin 256) :
    iblk m c 0 t (ix2 u k) = dd (ix3 ⟨t.val, lt2 t⟩ u k) := by
  subst h
  blk_point [iblk, V, idx_val t] <;> omega

/-- The block a point leaves. -/
theorem point (c : Dev nD) (t : Fin cfg0.N) (dd : S2x2048x256.Idx → EReal) (h : m ((c : Thread nD τ).loc main_arg1) = dd) (u : Fin 2048) (k : Fin 256) :
    out0_1 (iblk m c 0 t) (ix2 u k) = grad dd 8 ⟨t.val, lt2 t⟩ u k := by
  have hb := blk0 m c t dd h
  generalize iblk m c 0 t = P at hb ⊢
  frame_out
  refine (payload P u k).trans ?_
  simp only [hb]
  rfl

/-- What the kernel leaves. -/
theorem final (c : Dev nD) (dd : S2x2048x256.Idx → EReal) (h : m ((c : Thread nD τ).loc main_arg1) = dd) :
    (dats m 0 c).arrAt 1 cfg0.N = fun i : S4096x256.Idx => grad dd 8 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t dd h]
  congr 1 <;> apply Fin.ext <;> simp only [ep, fr] <;> blk_simp [idx_val t] <;> (try simp) <;> omega

end

section
open Cert.Pool8BwdRefIdeal Cert.Pool8BwdRefIdeal.Read

/-- A frame's share, as the reference computes it. -/
theorem ref_share (dd : S2x2048x256.Idx → EReal) (e : Fin 2) (u : Fin 2048) (k : Fin 256) :
    val_main_v18 (F := Ideal) dd (ix3 e u k) = share dd 8 e k u := by
  have h4 : Ideal.ofBits .f32 0x41000000#32 = (((8 : ℕ) : ℝ) : EReal) := by
    simp [Ideal.ofBits, Ideal.ieee, -EReal.coe_mul]
    norm_num
  unfold share
  rw [← cnt_float 8 u.val u.isLt, ← h4, ← Ideal.ofBits_one_f32, val_main_v18_apply, val_main_v17_apply, val_main_v11_apply, val_main_v10_apply,
    val_main_v3_apply, val_main_v2_apply, val_main_v9_apply]
  unfold val_main_v15
  rw [shapeCast_self]
  rfl

/-- What the reference returns on a finite cotangent. -/
theorem returns (dd : S2x2048x256.Idx → EReal) (hd : ∀ i, max (dd i) (-dd i) < ⊤) (r : Fin 4096) (k : Fin 256) :
    val_main_v27 (F := Ideal) dd (ix2 r k) = grad dd 8 (ep r) (fr r) k :=
  ref_out dd hd 8 (by omega) (val_main_v23 (F := Ideal) dd)
    (ref_diff dd 8 2040 rfl _ (ref_share dd) _ (fun _ => Ideal.ofBits_zero_f32) _ _ _)
    (val_main_call1_call0_v0 (F := Ideal)) (fun i => (val_main_call1_call0_v0_apply i).trans Ideal.ofBits_zero_f32) _ _ _ r k

end

open Idealize.ShloMosaic.StableHlo in
/-- The kernel and its reference leave the same array. -/
theorem values : algebraic_Pool8BwdIdeal_Pool8BwdRefIdeal_pre_pool_finite (hPool8BwdIdeal := Cert.Pool8BwdIdeal.Gen.facts)
    (hPool8BwdRefIdeal := Cert.Pool8BwdRefIdeal.Gen.facts) (hPre_pool_finite := Cert.Pre_pool_finite.Gen.facts) := by
  pair_intro
  · run_from Cert.Pool8BwdIdeal.Value.run_blocks m g
  · run_from Cert.Pool8BwdRefIdeal.Value.run m' g'
    · rw [final m c _ rfl]
      refine Eq.trans (Cert.Pool8BwdRefIdeal.Read.val_main_v27_eq (F := Ideal) _) ?_
      funext i
      obtain ⟨r, k, rfl⟩ : ∃ r k, i = ValueIdx.ix2 r k := ⟨i 0, i 1, ValueIdx.eq_ix2 i⟩
      exact returns _ (finite (hpre c)) r k

/-- The reference keeps its arguments; it declares no counter. -/
theorem ref_frame : quiescent_Pool8BwdRefIdeal (hPool8BwdRefIdeal := Cert.Pool8BwdRefIdeal.Gen.facts) := fun m g _ =>
  (θ_run Cert.Pool8BwdRefIdeal.defs _ _).mono (fun r h => ⟨fun c => (h c).2, sem_eq_zero_of_no_sems (by decide) r.2⟩)
    (Cert.Pool8BwdRefIdeal.Value.run (F := Ideal) m g)

end Cert.Pool.Eight

end

end
-- ==== Proof.Pool16.lean ====
module
public import proofs.«01_k».proof.Defs
public import proofs.«01_k».proof.Proof.Pool
public import proofs.«01_k».proof.Proof.Gen.Pool16Bwd.Frame
public import proofs.«01_k».proof.Proof.Gen.Pool16BwdIdeal.Frame
public import proofs.«01_k».proof.Proof.Gen.Pool16BwdIdeal.Value
public import proofs.«01_k».proof.Proof.Gen.Pool16BwdRefIdeal
public import proofs.«01_k».proof.Proof.Gen.Pool16BwdRefIdeal.Run
public import proofs.«01_k».proof.Proof.Gen.Pool16BwdRefIdeal.Read
public import Idealize.ShloMosaic.Lib.StableHlo.RunRead
public import Idealize.ShloMosaic.Lib.Claim
public import Idealize.ShloMosaic.Adequacy
public import Idealize.ShloMosaic.Init

/-! What the kernel of the group that pools over sixteen frames leaves, beside its reference. -/

@[expose] public section

set_option maxRecDepth 16384

noncomputable section

open Idealize.ShloMosaic Idealize.ShloMosaic.TcCoe Idealize.SL.Sem
open Idealize.ShloMosaic.Pipeline (Dat)

namespace Cert.Pool.Sixteen
open Cert.Common Cert.Pool

section
open Cert.Pool16BwdIdeal Cert.Pool16BwdIdeal.Gen

variable (m : (ℓ : Loc nD τ sig) → Buf (Elt Ideal) ℓ)

/-- Which block each window reads or writes at a grid point. -/
theorem idx_val : ∀ t : Fin cfg0.N, win0_0.index t = ![t.val, 0] ∧ win0_1.index t = ![t.val, 0] :=
  (by decide +kernel : ∀ t : Fin grid0.N, _)

/-- The four steps of the doubling, then the frame itself taken away. -/
theorem payload (P : FVec Ideal S2048x256 .f32) (t : Fin 2048) (k : Fin 256) :
    k0_pay1 (F := Ideal) P (ix2 t k) = win (fun u => Ideal.div (P (ix2 u k)) (cnt 16 u.val)) 16 t.val - P (ix2 t k) := by
  have h0 := first 16 (by omega) P iota_S2048x256_d0_w32
  have h1 := step (f := fun k u => Ideal.div (P (ix2 u k)) (cnt 16 u.val)) 1 (by omega) (by omega) h0 2047#32 rfl _ Ideal.ofBits_zero_f32 iota_S2048x256_d0_w32 rotates_S2048x256_d0
  have h2 := step (f := fun k u => Ideal.div (P (ix2 u k)) (cnt 16 u.val)) 2 (by omega) (by omega) h1 2046#32 rfl _ Ideal.ofBits_zero_f32 iota_S2048x256_d0_w32 rotates_S2048x256_d0
  have h3 := step (f := fun k u => Ideal.div (P (ix2 u k)) (cnt 16 u.val)) 4 (by omega) (by omega) h2 2044#32 rfl _ Ideal.ofBits_zero_f32 iota_S2048x256_d0_w32 rotates_S2048x256_d0
  have h4 := step (f := fun k u => Ideal.div (P (ix2 u k)) (cnt 16 u.val)) 8 (by omega) (by omega) h3 2040#32 rfl _ Ideal.ofBits_zero_f32 iota_S2048x256_d0_w32 rotates_S2048x256_d0
  unfold k0_pay1
  rw [shapeCast_self]
  exact congrArg (· - P (ix2 t k)) (h4 t k)

/-- There are two grid points, one for each episode. -/
theorem lt2 (t : Fin cfg0.N) : t.val < 2 := lt_of_lt_of_eq t.isLt (show cfg0.N = 2 from N_0)

theorem blk0 (c : Dev nD) (t : Fin cfg0.N) (dd : S2x2048x256.Idx → EReal) (h : m ((c : Thread nD τ).loc main_arg1) = dd) (u : Fin 2048) (k : Fin 256) :
    iblk m c 0 t (ix2 u k) = dd (ix3 ⟨t.val, lt2 t⟩ u k) := by
  subst h
  blk_point [iblk, V, idx_val t] <;> omega

/-- The block a point leaves. -/
theorem point (c : Dev nD) (t : Fin cfg0.N) (dd : S2x2048x256.Idx → EReal) (h : m ((c : Thread nD τ).loc main_arg1) = dd) (u : Fin 2048) (k : Fin 256) :
    out0_1 (iblk m c 0 t) (ix2 u k) = grad dd 16 ⟨t.val, lt2 t⟩ u k := by
  have hb := blk0 m c t dd h
  generalize iblk m c 0 t = P at hb ⊢
  frame_out
  refine (payload P u k).trans ?_
  simp only [hb]
  rfl

/-- What the kernel leaves. -/
theorem final (c : Dev nD) (dd : S2x2048x256.Idx → EReal) (h : m ((c : Thread nD τ).loc main_arg1) = dd) :
    (dats m 0 c).arrAt 1 cfg0.N = fun i : S4096x256.Idx => grad dd 16 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t dd h]
  congr 1 <;> apply Fin.ext <;> simp only [ep, fr] <;> blk_simp [idx_val t] <;> (try simp) <;> omega

end

section
open Cert.Pool16BwdRefIdeal Cert.Pool16BwdRefIdeal.Read

/-- A frame's share, as the reference computes it. -/
theorem ref_share (dd : S2x2048x256.Idx → EReal) (e : Fin 2) (u : Fin 2048) (k : Fin 256) :
    val_main_v18 (F := Ideal) dd (ix3 e u k) = share dd 16 e k u := by
  have h4 : Ideal.ofBits .f32 0x41800000#32 = (((16 : ℕ) : ℝ) : EReal) := by
    simp [Ideal.ofBits, Ideal.ieee, -EReal.coe_mul]
    norm_num
  unfold share
  rw [← cnt_float 16 u.val u.isLt, ← h4, ← Ideal.ofBits_one_f32, val_main_v18_apply, val_main_v17_apply, val_main_v11_apply, val_main_v10_apply,
    val_main_v3_apply, val_main_v2_apply, val_main_v9_apply]
  unfold val_main_v15
  rw [shapeCast_self]
  rfl

/-- What the reference returns on a finite cotangent. -/
theorem returns (dd : S2x2048x256.Idx → EReal) (hd : ∀ i, max (dd i) (-dd i) < ⊤) (r : Fin 4096) (k : Fin 256) :
    val_main_v27 (F := Ideal) dd (ix2 r k) = grad dd 16 (ep r) (fr r) k :=
  ref_out dd hd 16 (by omega) (val_main_v23 (F := Ideal) dd)
    (ref_diff dd 16 2032 rfl _ (ref_share dd) _ (fun _ => Ideal.ofBits_zero_f32) _ _ _)
    (val_main_call1_call0_v0 (F := Ideal)) (fun i => (val_main_call1_call0_v0_apply i).trans Ideal.ofBits_zero_f32) _ _ _ r k

end

open Idealize.ShloMosaic.StableHlo in
/-- The kernel and its reference leave the same array. -/
theorem values : algebraic_Pool16BwdIdeal_Pool16BwdRefIdeal_pre_pool_finite (hPool16BwdIdeal := Cert.Pool16BwdIdeal.Gen.facts)
    (hPool16BwdRefIdeal := Cert.Pool16BwdRefIdeal.Gen.facts) (hPre_pool_finite := Cert.Pre_pool_finite.Gen.facts) := by
  pair_intro
  · run_from Cert.Pool16BwdIdeal.Value.run_blocks m g
  · run_from Cert.Pool16BwdRefIdeal.Value.run m' g'
    · rw [final m c _ rfl]
      refine Eq.trans (Cert.Pool16BwdRefIdeal.Read.val_main_v27_eq (F := Ideal) _) ?_
      funext i
      obtain ⟨r, k, rfl⟩ : ∃ r k, i = ValueIdx.ix2 r k := ⟨i 0, i 1, ValueIdx.eq_ix2 i⟩
      exact returns _ (finite (hpre c)) r k

/-- The reference keeps its arguments; it declares no counter. -/
theorem ref_frame : quiescent_Pool16BwdRefIdeal (hPool16BwdRefIdeal := Cert.Pool16BwdRefIdeal.Gen.facts) := fun m g _ =>
  (θ_run Cert.Pool16BwdRefIdeal.defs _ _).mono (fun r h => ⟨fun c => (h c).2, sem_eq_zero_of_no_sems (by decide) r.2⟩)
    (Cert.Pool16BwdRefIdeal.Value.run (F := Ideal) m g)

end Cert.Pool.Sixteen

end

end
-- ==== Proof.GmlpFwdRef.lean ====
module
public import proofs.«01_k».proof.Proof.Gen.GmlpFwdRefIdeal.Read
public import proofs.«01_k».proof.Proof.GmlpRef

/-! What the reference of the spatial gating mixer's forward call returns. -/

@[expose] public section

set_option maxRecDepth 16384

noncomputable section

open Idealize.ShloMosaic Idealize.ShloMosaic.TcCoe Idealize.SL.Sem

namespace Cert.GmlpFwd.Ref
open Cert.GmlpFwdRefIdeal Cert.GmlpFwdRefIdeal.Read Cert.Common Cert.InProj Cert.Norm Cert.Gating Cert.Swiglu
open Cert.Gmlp (at_block at_pos)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal)

/-- The masked mixing weights. -/
def msk (p : Fin 8) (i j : Fin 128) : EReal := val_main_v55 (F := Ideal) ws (ix3 p i j)

/-- The normalised input inside the reference. -/
theorem mid_h (r : Fin 4096) (k : Fin 1024) : val_main_v12 (F := Ideal) x g (ix3 (ep r) (fr r) k) = nrm x g r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rfl

/-- The projection inside the reference. -/
theorem mid_z (r : Fin 4096) (j : Fin 2048) : val_main_v13 (F := Ideal) x g w (ix3 (ep r) (fr r) j) = zz x g w r j := by
  pointwise [val_main_v13]
  simp only [mid_h]
  rfl

/-- Its gelu, and the two halves. -/
theorem mid_gelu (r : Fin 4096) (j : Fin 2048) : val_main_v22 (F := Ideal) x g w (ix3 (ep r) (fr r) j) = gel (zz x g w r j) := by
  rw [← gel_eq]
  pointwise [val_main_cst_2, val_main_v14, val_main_v15, val_main_v16, val_main_cst_3, val_main_v17, val_main_v18, val_main_v19, val_main_v20, val_main_v21, val_main_v22]
  simp only [mid_z]
  rfl

theorem mid_u (r : Fin 4096) (j : Fin 1024) : val_main_v23 (F := Ideal) x g w (ix3 (ep r) (fr r) j) = uu x g w r j := by
  pointwise [val_main_v23]
  exact mid_gelu x g w r (lo j)

theorem mid_v (r : Fin 4096) (j : Fin 1024) : val_main_v24 (F := Ideal) x g w (ix3 (ep r) (fr r) j) = vv x g w r j := by
  pointwise [val_main_v24]
  exact mid_gelu x g w r (hi j)

/-- The normalised half with its gain inside the reference. -/
theorem mid_vn (r : Fin 4096) (j : Fin 1024) : val_main_v45 (F := Ideal) x g w gv (ix3 (ep r) (fr r) j) = vn x g gv w r j := by
  pointwise [val_main_cst_4, val_main_v25, val_main_v26, val_main_cst_5, val_main_v27, val_main_v28, val_main_v29, val_main_v30, val_main_v31, val_main_cst_6, val_main_v32, val_main_v33, val_main_cst_7, val_main_v34, val_main_v35, val_main_v36, val_main_v37, val_main_cst_8, val_main_v38, val_main_v39, val_main_v40, val_main_v41, val_main_v42, val_main_v43, val_main_v44, val_main_v45]
  simp only [mid_v]
  rfl

/-- The mixed half inside the reference. -/
theorem mid_mix (r : Fin 4096) (j : Fin 1024) : val_main_v63 (F := Ideal) x g w gv ws bs (ix3 (ep r) (fr r) j) = mix x g gv w (msk ws) bs r j := by
  pointwise [val_main_v56, val_main_v57, val_main_v58, val_main_v59, val_main_v60, val_main_v61, val_main_v62, val_main_v63]
  simp only [at_block, at_pos, mid_vn]
  exact congrArg (· + _) (Finset.sum_congr rfl fun c _ => mul_comm _ _)

/-- The gated product: its value, and the result it is projected to. -/
def yy (W : Fin 8 → Fin 128 → Fin 128 → EReal) (r : Fin 4096) (j : Fin 1024) : EReal := uu x g w r j * mix x g gv w W bs r j
def oo (W : Fin 8 → Fin 128 → Fin 128 → EReal) (r : Fin 4096) (k : Fin 1024) : EReal :=
  xrow x r k + ∑ j, yy x g w gv bs W r j * wo (ix2 j k)

theorem mid_y (r : Fin 4096) (j : Fin 1024) : val_main_v64 (F := Ideal) x g w gv ws bs (ix3 (ep r) (fr r) j) = yy x g w gv bs (msk ws) r j := by
  pointwise [val_main_v64]
  rw [mid_u, mid_mix]
  rfl

/-- The reference's first result. -/
theorem ref_h (r : Fin 4096) (k : Fin 1024) : val_main_v66 (F := Ideal) x g (ix2 r k) = nrm x g r k := by
  pointwise [val_main_v65, val_main_v66]
  exact mid_h x g r k

/-- The reference's second result. -/
theorem ref_z (r : Fin 4096) (j : Fin 2048) : val_main_v68 (F := Ideal) x g w (ix2 r j) = zz x g w r j := by
  pointwise [val_main_v67, val_main_v68]
  exact mid_z x g w r j

/-- The reference's third result. -/
theorem ref_vn (r : Fin 4096) (j : Fin 1024) : val_main_v70 (F := Ideal) x g w gv (ix2 r j) = vn x g gv w r j := by
  pointwise [val_main_v69, val_main_v70]
  exact mid_vn x g w gv r j

/-- The reference's fourth result. -/
theorem ref_y (r : Fin 4096) (j : Fin 1024) : val_main_v72 (F := Ideal) x g w gv ws bs (ix2 r j) = yy x g w gv bs (msk ws) r j := by
  pointwise [val_main_v71, val_main_v72]
  exact mid_y x g w gv ws bs r j

/-- The reference's fifth result. -/
theorem ref_o (r : Fin 4096) (k : Fin 1024) : val_main_v75 (F := Ideal) x g w gv ws bs wo (ix2 r k) = oo x g w gv bs wo (msk ws) r k := by
  pointwise [val_main_v73, val_main_v74, val_main_v75]
  have hm : ∀ j, val_main_v64 (F := Ideal) x g w gv ws bs (ix3 ⟨r.val / 2048, by omega⟩ ⟨r.val % 2048, by omega⟩ j)
      = yy x g w gv bs (msk ws) r j := mid_y x g w gv ws bs r
  simp only [hm]
  rfl

end Cert.GmlpFwd.Ref

end

end
-- ==== Proof.GmlpFwdIn.lean ====
module
public import proofs.«01_k».proof.Proof.GmlpFwdRef
public import proofs.«01_k».proof.Proof.Gen.GmlpFwd.Frame
public import proofs.«01_k».proof.Proof.Gen.GmlpFwdIdeal.Frame
public import proofs.«01_k».proof.Proof.Gen.GmlpFwdIdeal.Value
public import proofs.«01_k».proof.Proof.Gen.GmlpFwdRefIdeal.Run
public import Idealize.ShloMosaic.Lib.StableHlo.RunRead

/-! What the kernel of the spatial gating mixer's forward call finds in its operands. -/

@[expose] public section

set_option maxRecDepth 16384

noncomputable section

open Idealize.ShloMosaic Idealize.ShloMosaic.TcCoe Idealize.SL.Sem
open Idealize.ShloMosaic.Pipeline (Dat)

namespace Cert.GmlpFwd.Kernel
open Cert.GmlpFwdIdeal Cert.GmlpFwdIdeal.Gen Cert.Common Cert.InProj Cert.Norm Cert.Gating Cert.Swiglu Cert.GmlpFwd.Ref

variable (m : (ℓ : Loc nD τ sig) → Buf (Elt Ideal) ℓ)

/-- Which block each window reads or writes at a grid point. -/
theorem idx_val : ∀ t : Fin cfg0.N, GmlpFwdIdeal.win0_0.index t = ![t.val, 0] ∧ GmlpFwdIdeal.win0_1.index t = ![0, 0]
    ∧ GmlpFwdIdeal.win0_2.index t = ![0, 0, 0] ∧ GmlpFwdIdeal.win0_3.index t = ![0, 0] ∧ GmlpFwdIdeal.win0_4.index t = ![0, 0, 0] ∧ GmlpFwdIdeal.win0_5.index t = ![0, 0, 0]
    ∧ GmlpFwdIdeal.win0_6.index t = ![0, 0] ∧ GmlpFwdIdeal.win0_7.index t = ![t.val, 0] ∧ GmlpFwdIdeal.win0_8.index t = ![t.val, 0] ∧ GmlpFwdIdeal.win0_9.index t = ![t.val, 0]
    ∧ GmlpFwdIdeal.win0_10.index t = ![t.val, 0] ∧ GmlpFwdIdeal.win0_11.index t = ![t.val, 0] :=
  (by decide +kernel : ∀ t : Fin grid0.N, _)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The input's rows as the kernel finds them. -/
theorem entry_x (c : Dev nD) (h : m ((c : Thread nD τ).loc main_arg0) = x) (r : Fin 4096) (k : Fin 1024) :
    (V m c main_v17 : S4096x1024.Idx → EReal) (ix2 r k) = xrow x r k := by
  have h0 : V m c main_v17 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg0) = x) (q : Fin 512) (k : Fin 1024) :
    iblk m c 0 t (ix2 q k) = xrow x (at_ t q) k := by
  rw [← entry_x m x c h]
  blk_simp [iblk]
  refine congrArg _ ?_
  funext b
  apply Fin.ext
  fin_cases b <;> blk_simp [idx_val t] <;> simp only [at_, row] <;> (try simp) <;> (try omega)

/-- The two gains, as rows of length one. -/
theorem entry_g (c : Dev nD) (h : m ((c : Thread nD τ).loc main_arg1) = g) (i : Fin 1) (k : Fin 1024) :
    (V m c main_v18 : S1x1024.Idx → EReal) (ix2 i k) = gain g k := by
  have h0 : V m c main_v18 = (broadcastInDim S1x1024 ![1] bcast_S1024_S1x1024_1 g : S1x1024.Idx → EReal) := by
    subst h; unfold V; unfold hostOps0; after_reads_simp
  rw [h0]
  pointwise
  rfl

theorem entry_gv (c : Dev nD) (h : m ((c : Thread nD τ).loc main_arg3) = gv) (i : Fin 1) (k : Fin 1024) :
    (V m c main_v19 : S1x1024.Idx → EReal) (ix2 i k) = gv (ix1 k) := by
  have h0 : V m c main_v19 = (broadcastInDim S1x1024 ![1] bcast_S1024_S1x1024_1 gv : S1x1024.Idx → EReal) := by
    subst h; unfold V; unfold hostOps0; after_reads_simp
  rw [h0]
  pointwise

theorem blk1 (c : Dev nD) (t : Fin cfg0.N) (h : m ((c : Thread nD τ).loc main_arg1) = g) (k : Fin 1024) :
    iblk m c 1 t (ix2 0 k) = gain g k := by
  rw [← entry_g m g c h 0]
  blk_simp [iblk]
  refine congrArg _ ?_
  funext b
  apply Fin.ext
  fin_cases b <;> blk_simp [idx_val t]

theorem blk3 (c : Dev nD) (t : Fin cfg0.N) (h : m ((c : Thread nD τ).loc main_arg3) = gv) (k : Fin 1024) :
    iblk m c 3 t (ix2 0 k) = gv (ix1 k) := by
  rw [← entry_gv m gv c h 0]
  blk_simp [iblk]
  refine congrArg _ ?_
  funext b
  apply Fin.ext
  fin_cases b <;> blk_simp [idx_val t]

/-- The masked mixing weights as the kernel finds them. -/
def hostMsk : FVec Ideal S8x128x128 .f32 :=
  select (Cert.GmlpFwdRefIdeal.Read.val_main_call2_v1 (F := Ideal)) ws
    (broadcastInDim S8x128x128 ![] bcast_S_S8x128x128 (constant (F := Ideal) S_ .f32 0#32))

theorem hostMsk_apply (p : Fin 8) (i j : Fin 128) : hostMsk ws (ix3 p i j) = msk ws p i j := by
  pointwise [hostMsk, msk, Cert.GmlpFwdRefIdeal.Read.val_main_v55, Cert.GmlpFwdRefIdeal.Read.val_main_call2_v2, Cert.GmlpFwdRefIdeal.Read.val_main_call2_v0, Cert.GmlpFwdRefIdeal.Read.val_main_c_10]
  refine congrArg _ ?_
  simp [Ideal.ofBits, Ideal.ieee, FloatOps.sitofp]

theorem entry_w (c : Dev nD) (h : m ((c : Thread nD τ).loc main_arg4) = ws) :
    V m c main_v11 = truncf .bf16 (hostMsk ws) bitsLt_bf16_f32 := by
  subst h; unfold V; unfold hostOps0; after_reads_simp; rfl

theorem blk4 (c : Dev nD) (t : Fin cfg0.N) (h : m ((c : Thread nD τ).loc main_arg4) = ws) (p : Fin 8) (i j : Fin 128) :
    iblk m c 4 t (ix3 p i j) = msk ws p i j := by
  have e : (truncf .bf16 (hostMsk ws) bitsLt_bf16_f32 : FVec Ideal S8x128x128 .bf16) (ix3 p i j) = msk ws p i j := by
    pointwise
    exact hostMsk_apply ws p i j
  rw [← e, ← entry_w m ws c h]
  blk_simp [iblk]
  refine congrArg _ ?_
  funext b
  apply Fin.ext
  fin_cases b <;> blk_simp [idx_val t]

/-- The offsets, repeated over the columns of a group. -/
theorem blk5 (c : Dev nD) (t : Fin cfg0.N) (h : m ((c : Thread nD τ).loc main_arg5) = bs) (p : Fin 8) (i j : Fin 128) :
    iblk m c 5 t (ix3 p i j) = bs (ix2 p i) := by
  have h0 : V m c main_v13 = (broadcastInDim S8x128x128 ![0, 1, 2] bcast_S8x128x1_S8x128x128_0_1_2
      (broadcastInDim S8x128x1 ![0, 1] bcast_S8x128_S8x128x1_0_1 bs) : S8x128x128.Idx → EReal) := by
    subst h; unfold V; unfold hostOps0; after_reads_simp
  have e : (broadcastInDim S8x128x128 ![0, 1, 2] bcast_S8x128x1_S8x128x128_0_1_2
      (broadcastInDim S8x128x1 ![0, 1] bcast_S8x128_S8x128x1_0_1 bs) : S8x128x128.Idx → EReal) (ix3 p i j) = bs (ix2 p i) := by
    pointwise
  rw [← e, ← h0]
  blk_simp [iblk]
  refine congrArg _ ?_
  funext b
  apply Fin.ext
  fin_cases b <;> blk_simp [idx_val t]

/-- The output weights, and the projection's by quarters of its columns. -/
theorem blk6 (c : Dev nD) (t : Fin cfg0.N) (h : m ((c : Thread nD τ).loc main_arg6) = wo) (i j : Fin 1024) :
    iblk m c 6 t (ix2 i j) = wo (ix2 i j) := by
  have h0 : V m c main_v20 = (truncf .bf16 (wo : FVec Ideal S1024x1024 .f32) bitsLt_bf16_f32 : FVec Ideal S1024x1024 .bf16) := by
    subst h; unfold V; unfold hostOps0; after_reads_simp
  have e : (truncf .bf16 (wo : FVec Ideal S1024x1024 .f32) bitsLt_bf16_f32 : FVec Ideal S1024x1024 .bf16) (ix2 i j) = wo (ix2 i j) := by
    pointwise
  rw [← e, ← h0]
  blk_simp [iblk]
  refine congrArg _ ?_
  funext b
  apply Fin.ext
  fin_cases b <;> blk_simp [idx_val t]

theorem blk2 (c : Dev nD) (t : Fin cfg0.N) (h : m ((c : Thread nD τ).loc main_arg2) = w) (s : Fin 4) (k : Fin 1024) (j : Fin 512) :
    iblk m c 2 t (ix3 s k j) = w (ix2 k ⟨s.val * 512 + j.val, by omega⟩) := by
  have h0 : V m c main_v16 = (truncf .bf16 (transpose S4x1024x512 [1, 0, 2]
      (shapeCast S1024x4x512 (w : FVec Ideal S1024x2048 .f32) shapeCasts_S1024x2048_S1024x4x512)
      transposes_S1024x4x512_S4x1024x512_1_0_2) bitsLt_bf16_f32 : FVec Ideal S4x1024x512 .bf16) := by
    subst h; unfold V; unfold hostOps0; after_reads_simp; rfl
  have e : (truncf .bf16 (transpose S4x1024x512 [1, 0, 2]
      (shapeCast S1024x4x512 (w : FVec Ideal S1024x2048 .f32) shapeCasts_S1024x2048_S1024x4x512)
      transposes_S1024x4x512_S4x1024x512_1_0_2) bitsLt_bf16_f32 : FVec Ideal S4x1024x512 .bf16) (ix3 s k j)
      = w (ix2 k ⟨s.val * 512 + j.val, by omega⟩) := by
    pointwise
  rw [← e, ← h0]
  blk_simp [iblk]
  refine congrArg _ ?_
  funext b
  apply Fin.ext
  fin_cases b <;> blk_simp [idx_val t]

end Cert.GmlpFwd.Kernel

end

end
-- ==== Proof.GmlpFwdKer.lean ====
module
public import proofs.«01_k».proof.Proof.GmlpFwdIn
public import proofs.«01_k».proof.Proof.Rows
public import proofs.«01_k».proof.Proof.Tiles

/-! What the kernel of the spatial gating mixer's forward call leaves in its result arrays. -/

@[expose] public section

set_option maxRecDepth 16384

noncomputable section

open Idealize.ShloMosaic Idealize.ShloMosaic.TcCoe Idealize.SL.Sem
open Idealize.ShloMosaic.Pipeline (Dat)

namespace Cert.GmlpFwd.Kernel
open Cert.GmlpFwdIdeal Cert.GmlpFwdIdeal.Gen Cert.Common Cert.InProj Cert.Norm Cert.Gating Cert.Swiglu Cert.GmlpFwd.Ref

variable (m : (ℓ : Loc nD τ sig) → Buf (Elt Ideal) ℓ)

variable (x : S2x2048x1024.Idx → EReal) (g : S1024.Idx → EReal) (w : S1024x2048.Idx → EReal) (gv : S1024.Idx → EReal)
  (ws : S8x128x128.Idx → EReal) (bs : S8x128.Idx → EReal) (wo : S1024x1024.Idx → EReal)

section
variable (t : Fin cfg0.N) {P0 : Vec Ideal S512x1024 .f32} {P1 P3 : Vec Ideal S1x1024 .f32} {A B C D : Vec Ideal S1x1024x512 .bf16}
  (h0 : ∀ q k, P0 (ix2 q k) = xrow x (at_ t q) k) (h1 : ∀ k, P1 (ix2 0 k) = gain g k) (h3 : ∀ k, P3 (ix2 0 k) = gv (ix1 k))
  (hA : ∀ (k : Fin 1024) (j : Fin 512), A (ix3 0 k j) = w (ix2 k ⟨j.val, by omega⟩))
  (hB : ∀ (k : Fin 1024) (j : Fin 512), B (ix3 0 k j) = w (ix2 k ⟨512 + j.val, by omega⟩))
  (hC : ∀ (k : Fin 1024) (j : Fin 512), C (ix3 0 k j) = w (ix2 k ⟨1024 + j.val, by omega⟩))
  (hD : ∀ (k : Fin 1024) (j : Fin 512), D (ix3 0 k j) = w (ix2 k ⟨1536 + j.val, by omega⟩))
include h0 h1

/-- The normalised rows. -/
theorem pay_h (q : Fin 512) (k : Fin 1024) : k0_pay5 P0 P1 (ix2 q k) = nrm x g (at_ t q) k := by
  pointwise [k0_pay4, k0_pay5]
  simp only [h0, h1]
  rfl

include hA in
theorem pay_z0 (q j : Fin 512) : k0_pay6 P0 P1 A (ix2 q j) = zz x g w (at_ t q) ⟨j.val, by omega⟩ := by
  pointwise [k0_pay6]
  simp only [pay_h x g t h0 h1, hA]
  rfl

include hB in
theorem pay_z1 (q j : Fin 512) : k0_pay8 P0 P1 B (ix2 q j) = zz x g w (at_ t q) ⟨512 + j.val, by omega⟩ := by
  pointwise [k0_pay8]
  simp only [pay_h x g t h0 h1, hB]
  rfl

include hC in
theorem pay_z2 (q j : Fin 512) : k0_pay11 (k0_pay5 P0 P1) (k0_pay10 C) (ix2 q j) = zz x g w (at_ t q) ⟨1024 + j.val, by omega⟩ := by
  pointwise [k0_pay10, k0_pay11]
  simp only [pay_h x g t h0 h1, hC]
  rfl

include hD in
theorem pay_z3 (q j : Fin 512) : k0_pay12 (k0_pay5 P0 P1) D (ix2 q j) = zz x g w (at_ t q) ⟨1536 + j.val, by omega⟩ := by
  pointwise [k0_pay12]
  simp only [pay_h x g t h0 h1, hD]
  rfl

include hA hB in
/-- The gated half. -/
theorem pay_u (q : Fin 512) (j : Fin 1024) : k0_pay13 (k0_pay7 P0 P1 A) (k0_pay9 P0 P1 B) (ix2 q j) = uu x g w (at_ t q) j := by
  have hz : (if h : j.val < 512 then zz x g w (at_ t q) ⟨(⟨j.val, h⟩ : Fin 512).val, by omega⟩
      else zz x g w (at_ t q) ⟨512 + (⟨j.val - 512, by omega⟩ : Fin 512).val, by dsimp only; omega⟩) = zz x g w (at_ t q) (lo j) := by
    split
    · rfl
    · exact congrArg _ (Fin.ext (by simp only [lo]; omega))
  pointwise [k0_pay13, k0_pay7, k0_pay9]
  simp only [pay_z0 x g w t h0 h1 hA, pay_z1 x g w t h0 h1 hB]
  rw [hz]
  rfl

include hC hD in
/-- The mixed half's gelu less its mean. -/
theorem pay_c (q : Fin 512) (j : Fin 1024) : k0_pay14 (k0_pay5 P0 P1) (k0_pay10 C) D (ix2 q j) = cen (vv x g w (at_ t q)) j := by
  have hz : (if h : j.val < 512 then zz x g w (at_ t q) ⟨1024 + (⟨j.val, h⟩ : Fin 512).val, by dsimp only; omega⟩
      else zz x g w (at_ t q) ⟨1536 + (⟨j.val - 512, by omega⟩ : Fin 512).val, by dsimp only; omega⟩) = zz x g w (at_ t q) (hi j) := by
    split
    · rfl
    · exact congrArg _ (Fin.ext (by simp only [hi]; omega))
  have hm : mean (vv x g w (at_ t q)) = Ideal.div ((∑ k : Fin 512, gel (zz x g w (at_ t q) ⟨1024 + k.val, by omega⟩))
      + ∑ k : Fin 512, gel (zz x g w (at_ t q) ⟨1536 + k.val, by omega⟩)) len := by
    refine congrArg (Ideal.div · len) ((Fin.sum_univ_add (a := 512) (b := 512) (vv x g w (at_ t q))).trans ?_)
    refine congrArg₂ (· + ·) rfl (Finset.sum_congr rfl fun k _ => ?_)
    exact congrArg (fun i => gel (zz x g w (at_ t q) i)) (Fin.ext (by simp only [hi, Fin.natAdd]; omega))
  pointwise [k0_pay14]
  simp only [pay_z2 x g w t h0 h1 hC, pay_z3 x g w t h0 h1 hD]
  rw [hz, cen, hm]
  rfl

include hC hD h3 in
/-- The mixed half normalised, with its gain. -/
theorem pay_vn (q : Fin 512) (j : Fin 1024) : k0_pay16 (k0_pay14 (k0_pay5 P0 P1) (k0_pay10 C) D) (k0_pay15 (k0_pay5 P0 P1) (k0_pay10 C) D) P3 (ix2 q j)
    = vn x g gv w (at_ t q) j := by
  pointwise [k0_pay16, k0_pay15]
  simp only [pay_c x g w t h0 h1 hC hD, h3]
  rfl

end

/-- The first output's block at a point. -/
theorem point_7 (c : Dev nD) (hx : m ((c : Thread nD τ).loc main_arg0) = x) (hg : m ((c : Thread nD τ).loc main_arg1) = g)
    (t : Fin cfg0.N) (q : Fin 512) (k : Fin 1024) : (outsAt0 m c t).1 (ix2 q k) = nrm x g (at_ t q) k := by
  have h0 := blk0 m x c t hx
  have h1 := blk1 m g c t hg
  unfold outsAt0
  dsimp only
  frame_out
  generalize iblk m c 0 t = P0 at h0 ⊢
  generalize iblk m c 1 t = P1 at h1 ⊢
  exact pay_h x g t h0 h1 q k

/-- The second output's block at a point. -/
theorem point_8 (c : Dev nD) (hx : m ((c : Thread nD τ).loc main_arg0) = x) (hg : m ((c : Thread nD τ).loc main_arg1) = g)
    (hw : m ((c : Thread nD τ).loc main_arg2) = w)
    (t : Fin cfg0.N) (q : Fin 512) (k : Fin 2048) : (outsAt0 m c t).2.1 (ix2 q k) = zz x g w (at_ t q) k := by
  have h0 := blk0 m x c t hx
  have h1 := blk1 m g c t hg
  have h2 := blk2 m w c t hw
  unfold outsAt0
  dsimp only
  frame_out
  generalize iblk m c 0 t = P0 at h0 ⊢
  generalize iblk m c 1 t = P1 at h1 ⊢
  generalize iblk m c 2 t = P2 at h2 ⊢
  rcases lt_or_ge k.val 512 with h | h
  · rw [Rows.canon_off _ _ _ q _ (by left; omega), Rows.canon_off _ _ _ q _ (by left; omega), Rows.canon_off _ _ _ q _ (by left; omega),
      Rows.canon_band _ _ _ q _ (⟨k.val, h⟩ : Fin 512) (by simp)]
    refine pay_z0 x g w t h0 h1 (fun k j => ?_) q ⟨k.val, h⟩
    pointwise
    exact (h2 0 k j).trans (by simp)
  rcases lt_or_ge k.val 1024 with h' | h'
  · rw [Rows.canon_off _ _ _ q _ (by left; omega), Rows.canon_off _ _ _ q _ (by left; omega),
      Rows.canon_band _ _ _ q _ (⟨k.val - 512, by omega⟩ : Fin 512) (by simp only; omega)]
    refine (pay_z1 x g w t h0 h1 (fun k j => ?_) q ⟨k.val - 512, by omega⟩).trans (congrArg _ (Fin.ext (by simp only; omega)))
    pointwise
    exact (h2 1 k j).trans (by simp)
  rcases lt_or_ge k.val 1536 with h'' | h''
  · rw [Rows.canon_off _ _ _ q _ (by left; omega),
      Rows.canon_band _ _ _ q _ (⟨k.val - 1024, by omega⟩ : Fin 512) (by simp only; omega)]
    refine (pay_z2 x g w t h0 h1 (fun k j => ?_) q ⟨k.val - 1024, by omega⟩).trans (congrArg _ (Fin.ext (by simp only; omega)))
    pointwise
    exact h2 2 k j
  · rw [Rows.canon_band _ _ _ q _ (⟨k.val - 1536, by omega⟩ : Fin 512) (by simp only; omega)]
    refine (pay_z3 x g w t h0 h1 (fun k j => ?_) q ⟨k.val - 1536, by omega⟩).trans (congrArg _ (Fin.ext (by simp only; omega)))
    pointwise
    exact h2 3 k j

/-- The third output's block at a point. -/
theorem point_9 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (t : Fin cfg0.N) (q : Fin 512) (k : Fin 1024) : (outsAt0 m c t).2.2.1 (ix2 q k) = vn x g gv w (at_ t q) k := by
  have h0 := blk0 m x c t hx
  have h1 := blk1 m g c t hg
  have h2 := blk2 m w c t hw
  have h3 := blk3 m gv c t hv
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  refine pay_vn x g w gv t h0 h1 h3 ?_ ?_ q k
  · intro k j
    pointwise
    exact h2 2 k j
  · intro k j
    pointwise
    exact h2 3 k j

/-- A tile of the gated product, from the rows of its own block. -/
theorem yy_tile (t : Fin cfg0.N) {o p : ℕ} (h1 : o % 128 = 0) (h2 : p % 128 = 0) (i j : Fin 128) (hi : o + i.val < 512) (hj : p + j.val < 1024) :
    yy x g w gv bs (msk ws) (at_ t ⟨o + i.val, hi⟩) ⟨p + j.val, hj⟩
      = uu x g w (at_ t ⟨o + i.val, hi⟩) ⟨p + j.val, hj⟩
        * ((∑ k : Fin 128, msk ws ⟨p / 128, by omega⟩ i k * vn x g gv w (at_ t ⟨o + k.val, by omega⟩) ⟨p + j.val, hj⟩)
          + bs (ix2 ⟨p / 128, by omega⟩ i)) := by
  have e1 : grp ⟨p + j.val, hj⟩ = ⟨p / 128, by omega⟩ := Fin.ext (by simp only [grp]; omega)
  have e2 : pos (at_ t ⟨o + i.val, hi⟩) = i := Fin.ext (by simp only [pos, at_, row]; omega)
  have e3 : ∀ k : Fin 128, brow (at_ t ⟨o + i.val, hi⟩) k = at_ t ⟨o + k.val, by omega⟩ := fun k => Fin.ext (by simp only [brow, at_, row]; omega)
  unfold yy mix
  simp only [e1, e2, e3]

set_option maxHeartbeats 4000000 in
/-- The fourth output's block at a point. -/
theorem point_10 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs)
    (t : Fin cfg0.N) (q : Fin 512) (k : Fin 1024) : (outsAt0 m c t).2.2.2.1 (ix2 q k) = yy x g w gv bs (msk ws) (at_ t q) k := by
  have h0 := blk0 m x c t hx
  have h1 := blk1 m g c t hg
  have h2 := blk2 m w c t hw
  have h3 := blk3 m gv c t hv
  have h4 := blk4 m ws c t hs
  have h5 := blk5 m bs c t hb
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  generalize iblk m c 4 t = P4 at h4 ⊢
  generalize iblk m c 5 t = P5 at h5 ⊢
  generalize hU : k0_pay13 (F := Ideal) _ _ = U
  generalize hE : k0_pay16 (F := Ideal) _ _ _ = N
  replace hU : ∀ q j, U (ix2 q j) = uu x g w (at_ t q) j := by
    intro q j
    rw [← hU]
    refine pay_u x g w t h0 h1 (fun k j => ?_) (fun k j => ?_) q j
    · pointwise
      exact (h2 0 k j).trans (by simp)
    · pointwise
      exact (h2 1 k j).trans (by simp)
  have hN : ∀ q j, N (ix2 q j) = vn x g gv w (at_ t q) j := by
    intro q j
    rw [← hE]
    refine pay_vn x g w gv t h0 h1 h3 (fun k j => ?_) (fun k j => ?_) q j
    · pointwise
      exact h2 2 k j
    · pointwise
      exact h2 3 k j
  refine Eq.trans (?_ : _ = (fun q j => yy x g w gv bs (msk ws) (at_ t q) j) ((ix2 q k) 0) ((ix2 q k) 1)) rfl
  generalize ix2 q k = y
  refine View.canon_eq_of_allAt _ _ _ (View.cover_of_tiled_head _ _ _ rfl _) ?_
  repeat' (refine View.allAt_cons_unit _ _ _ _ _ (Tiles.tile_at (Val := Elt Ideal) (e := .bf16) (m := 512) (n := 1024) (a := 128) (b := 128) (fun q j => yy x g w gv bs (msk ws) (at_ t q) j) _ _ fun i j hi hj => ?_) ?_)
  on_goal 33 => exact View.allAt_nil _ _
  all_goals
    refine Eq.trans ?_ (yy_tile x g w gv ws bs t (by decide) (by decide) i j hi hj).symm
    pointwise [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
    simp only [hE, hU, hN, h4, h5, Nat.zero_add]

set_option maxHeartbeats 4000000 in
/-- The last output's block at a point. -/
theorem point_11 (c : Dev nD) (hx : m ((c : Thread nD τ).loc main_arg0) = x) (hg : m ((c : Thread nD τ).loc main_arg1) = g)
    (hw : m ((c : Thread nD τ).loc main_arg2) = w) (hv : m ((c : Thread nD τ).loc main_arg3) = gv)
    (hs : m ((c : Thread nD τ).loc main_arg4) = ws) (hb : m ((c : Thread nD τ).loc main_arg5) = bs) (ho : m ((c : Thread nD τ).loc main_arg6) = wo)
    (t : Fin cfg0.N) (q : Fin 512) (k : Fin 1024) : (outsAt0 m c t).2.2.2.2 (ix2 q k) = oo x g w gv bs wo (msk ws) (at_ t q) k := by
  have h0 := blk0 m x c t hx
  have h1 := blk1 m g c t hg
  have h2 := blk2 m w c t hw
  have h3 := blk3 m gv c t hv
  have h4 := blk4 m ws c t hs
  have h5 := blk5 m bs c t hb
  have h6 := blk6 m wo c t ho
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  generalize iblk m c 4 t = P4 at h4 ⊢
  generalize iblk m c 5 t = P5 at h5 ⊢
  generalize iblk m c 6 t = P6 at h6 ⊢
  generalize hU : k0_pay13 (F := Ideal) _ _ = U
  generalize hE : k0_pay16 (F := Ideal) _ _ _ = N
  replace hU : ∀ q j, U (ix2 q j) = uu x g w (at_ t q) j := by
    intro q j
    rw [← hU]
    refine pay_u x g w t h0 h1 (fun k j => ?_) (fun k j => ?_) q j
    · pointwise
      exact (h2 0 k j).trans (by simp)
    · pointwise
      exact (h2 1 k j).trans (by simp)
  have hN : ∀ q j, N (ix2 q j) = vn x g gv w (at_ t q) j := by
    intro q j
    rw [← hE]
    refine pay_vn x g w gv t h0 h1 h3 (fun k j => ?_) (fun k j => ?_) q j
    · pointwise
      exact h2 2 k j
    · pointwise
      exact h2 3 k j
  rw [Tiles.read_all _ _ _ (fun q j => yy x g w gv bs (msk ws) (at_ t q) j) ?_]
  on_goal 2 =>
    intro y
    refine View.canon_eq_of_allAt _ _ _ (View.cover_of_tiled_head _ _ _ rfl _) ?_
    repeat' (refine View.allAt_cons_unit _ _ _ _ _ (Tiles.tile_at (Val := Elt Ideal) (e := .bf16) (m := 512) (n := 1024) (a := 128) (b := 128) (fun q j => yy x g w gv bs (msk ws) (at_ t q) j) _ _ fun i j hi hj => ?_) ?_)
    on_goal 33 => exact View.allAt_nil _ _
    all_goals
      refine Eq.trans ?_ (yy_tile x g w gv ws bs t (by decide) (by decide) i j hi hj).symm
      pointwise [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [hE, hU, hN, h4, h5, Nat.zero_add]
  pointwise [k0_pay3, k0_pay4]
  simp only [h0, h6]
  rfl

/-- The first result array after the run. -/
theorem final_7 (c : Dev nD) (hx : m ((c : Thread nD τ).loc main_arg0) = x) (hg : m ((c : Thread nD τ).loc main_arg1) = g) :
    (dats m 0 c).arrAt 7 cfg0.N = fun y => nrm x g (y 0) (y 1) := by
  refine (dats m 0 c).arrAt_eq_of_covers 7 _ (by decide +kernel) fun t hf y => ?_
  obtain ⟨q, k, rfl⟩ : ∃ (q : Fin 512) (k : Fin 1024), y = ix2 q k := ⟨y 0, y 1, eq_ix2 y⟩
  blk_simp
  rw [after0_7, point_7 m x g c hx hg t q k]
  congr 1 <;> apply Fin.ext <;> simp only [at_, row] <;> blk_simp [idx_val t] <;> (try simp) <;> omega

/-- The second result array after the run. -/
theorem final_8 (c : Dev nD) (hx : m ((c : Thread nD τ).loc main_arg0) = x) (hg : m ((c : Thread nD τ).loc main_arg1) = g) (hw : m ((c : Thread nD τ).loc main_arg2) = w) :
    (dats m 0 c).arrAt 8 cfg0.N = fun y => zz x g w (y 0) (y 1) := by
  refine (dats m 0 c).arrAt_eq_of_covers 8 _ (by decide +kernel) fun t hf y => ?_
  obtain ⟨q, k, rfl⟩ : ∃ (q : Fin 512) (k : Fin 2048), y = ix2 q k := ⟨y 0, y 1, eq_ix2 y⟩
  blk_simp
  rw [after0_8, point_8 m x g w c hx hg hw t q k]
  congr 1 <;> apply Fin.ext <;> simp only [at_, row] <;> blk_simp [idx_val t] <;> (try simp) <;> omega

/-- The third result array after the run. -/
theorem final_9 (c : Dev nD) (hx : m ((c : Thread nD τ).loc main_arg0) = x) (hg : m ((c : Thread nD τ).loc main_arg1) = g) (hw : m ((c : Thread nD τ).loc main_arg2) = w) (hv : m ((c : Thread nD τ).loc main_arg3) = gv) :
    (dats m 0 c).arrAt 9 cfg0.N = fun y => vn x g gv w (y 0) (y 1) := by
  refine (dats m 0 c).arrAt_eq_of_covers 9 _ (by decide +kernel) fun t hf y => ?_
  obtain ⟨q, k, rfl⟩ : ∃ (q : Fin 512) (k : Fin 1024), y = ix2 q k := ⟨y 0, y 1, eq_ix2 y⟩
  blk_simp
  rw [after0_9, point_9 m x g w gv c hx hg hw hv t q k]
  congr 1 <;> apply Fin.ext <;> simp only [at_, row] <;> blk_simp [idx_val t] <;> (try simp) <;> omega

/-- The fourth result array after the run. -/
theorem final_10 (c : Dev nD) (hx : m ((c : Thread nD τ).loc main_arg0) = x) (hg : m ((c : Thread nD τ).loc main_arg1) = g) (hw : m ((c : Thread nD τ).loc main_arg2) = w) (hv : m ((c : Thread nD τ).loc main_arg3) = gv) (hs : m ((c : Thread nD τ).loc main_arg4) = ws) (hb : m ((c : Thread nD τ).loc main_arg5) = bs) :
    (dats m 0 c).arrAt 10 cfg0.N = fun y => yy x g w gv bs (msk ws) (y 0) (y 1) := by
  refine (dats m 0 c).arrAt_eq_of_covers 10 _ (by decide +kernel) fun t hf y => ?_
  obtain ⟨q, k, rfl⟩ : ∃ (q : Fin 512) (k : Fin 1024), y = ix2 q k := ⟨y 0, y 1, eq_ix2 y⟩
  blk_simp
  rw [after0_10, point_10 m x g w gv ws bs c hx hg hw hv hs hb t q k]
  congr 1 <;> apply Fin.ext <;> simp only [at_, row] <;> blk_simp [idx_val t] <;> (try simp) <;> omega

/-- The last result array after the run. -/
theorem final_11 (c : Dev nD) (hx : m ((c : Thread nD τ).loc main_arg0) = x) (hg : m ((c : Thread nD τ).loc main_arg1) = g) (hw : m ((c : Thread nD τ).loc main_arg2) = w) (hv : m ((c : Thread nD τ).loc main_arg3) = gv) (hs : m ((c : Thread nD τ).loc main_arg4) = ws) (hb : m ((c : Thread nD τ).loc main_arg5) = bs) (ho : m ((c : Thread nD τ).loc main_arg6) = wo) :
    (dats m 0 c).arrAt 11 cfg0.N = fun y => oo x g w gv bs wo (msk ws) (y 0) (y 1) := by
  refine (dats m 0 c).arrAt_eq_of_covers 11 _ (by decide +kernel) fun t hf y => ?_
  obtain ⟨q, k, rfl⟩ : ∃ (q : Fin 512) (k : Fin 1024), y = ix2 q k := ⟨y 0, y 1, eq_ix2 y⟩
  blk_simp
  rw [after0_11, point_11 m x g w gv ws bs wo c hx hg hw hv hs hb ho t q k]
  congr 1 <;> apply Fin.ext <;> simp only [at_, row] <;> blk_simp [idx_val t] <;> (try simp) <;> omega

end Cert.GmlpFwd.Kernel

end

end
-- ==== Proof.GmlpFwd.lean ====
module
public import proofs.«01_k».proof.Defs
public import proofs.«01_k».proof.Proof.Gen.GmlpFwdRefIdeal
public import proofs.«01_k».proof.Proof.GmlpFwdKer
public import Idealize.ShloMosaic.Lib.Claim
public import Idealize.ShloMosaic.Adequacy
public import Idealize.ShloMosaic.Init

/-! The kernel of the spatial gating mixer's forward call beside its reference. -/

@[expose] public section

set_option maxRecDepth 16384

noncomputable section

namespace Cert.GmlpFwd

open Idealize.ShloMosaic Idealize.ShloMosaic.TcCoe Idealize.SL.Sem Idealize.ShloMosaic.StableHlo Cert.Gating

set_option maxHeartbeats 1000000 in
/-- The kernel and its reference leave the same arrays. -/
theorem values : algebraic_GmlpFwdIdeal_GmlpFwdRefIdeal (hGmlpFwdIdeal := Cert.GmlpFwdIdeal.Gen.facts)
    (hGmlpFwdRefIdeal := Cert.GmlpFwdRefIdeal.Gen.facts) := by
  pair_intro
  · run_from Cert.GmlpFwdIdeal.Value.run_blocks m g
  · run_from Cert.GmlpFwdRefIdeal.Value.run m' g'
    all_goals
      obtain ⟨e0, e1, e2, e3, e4, e5, e6⟩ := hagree c
    · rw [Kernel.final_7 m _ _ c rfl rfl]
      refine (Cert.GmlpFwdRefIdeal.Read.val_main_v66_eq _ _).trans ?_
      funext i
      obtain ⟨r, k, rfl⟩ : ∃ r k, i = ValueIdx.ix2 r k := ⟨i 0, i 1, ValueIdx.eq_ix2 i⟩
      exact Ref.ref_h _ _ r k
    · rw [Kernel.final_8 m _ _ _ c rfl rfl rfl]
      refine (Cert.GmlpFwdRefIdeal.Read.val_main_v68_eq _ _ _).trans ?_
      funext i
      obtain ⟨r, k, rfl⟩ : ∃ r k, i = ValueIdx.ix2 r k := ⟨i 0, i 1, ValueIdx.eq_ix2 i⟩
      exact Ref.ref_z _ _ _ r k
    · rw [Kernel.final_9 m _ _ _ _ c rfl rfl rfl rfl]
      refine (Cert.GmlpFwdRefIdeal.Read.val_main_v70_eq m' c).trans ?_
      rw [e0, e1, e2, e3]
      funext i
      obtain ⟨r, k, rfl⟩ : ∃ r k, i = ValueIdx.ix2 r k := ⟨i 0, i 1, ValueIdx.eq_ix2 i⟩
      exact Ref.ref_vn _ _ _ _ r k
    · rw [Kernel.final_10 m _ _ _ _ _ _ c rfl rfl rfl rfl rfl rfl]
      refine (Cert.GmlpFwdRefIdeal.Read.val_main_v72_eq m' c).trans ?_
      rw [e0, e1, e2, e3, e4, e5]
      funext i
      obtain ⟨r, k, rfl⟩ : ∃ r k, i = ValueIdx.ix2 r k := ⟨i 0, i 1, ValueIdx.eq_ix2 i⟩
      exact Ref.ref_y _ _ _ _ _ _ r k
    · rw [Kernel.final_11 m _ _ _ _ _ _ _ c rfl rfl rfl rfl rfl rfl rfl]
      refine (Cert.GmlpFwdRefIdeal.Read.val_main_v75_eq m' c).trans ?_
      rw [e0, e1, e2, e3, e4, e5, e6]
      funext i
      obtain ⟨r, k, rfl⟩ : ∃ r k, i = ValueIdx.ix2 r k := ⟨i 0, i 1, ValueIdx.eq_ix2 i⟩
      exact Ref.ref_o _ _ _ _ _ _ _ r k

/-- The reference keeps its arguments; it declares no counter. -/
theorem ref_frame : quiescent_GmlpFwdRefIdeal (hGmlpFwdRefIdeal := Cert.GmlpFwdRefIdeal.Gen.facts) := fun m g _ =>
  (θ_run Cert.GmlpFwdRefIdeal.defs _ _).mono (fun r h => ⟨fun c => (h c).2.2.2.2.2, sem_eq_zero_of_no_sems (by decide) r.2⟩)
    (Cert.GmlpFwdRefIdeal.Value.run (F := Ideal) m g)

end Cert.GmlpFwd

end

end
-- ==== Proof.FfnFwdRef.lean ====
module
public import proofs.«01_k».proof.Proof.Gen.FfnFwdRefIdeal.Read
public import proofs.«01_k».proof.Proof.Swiglu

/-! What the reference of the gated feed-forward layer's forward call returns. -/

@[expose] public section

set_option maxRecDepth 16384

noncomputable section

open Idealize.ShloMosaic Idealize.ShloMosaic.TcCoe Idealize.SL.Sem

namespace Cert.FfnFwd.Ref
open Cert.FfnFwdRefIdeal Cert.FfnFwdRefIdeal.Read Cert.Common Cert.InProj Cert.Norm Cert.Swiglu

variable (x : S2x2048x1024.Idx → EReal) (g : S1024.Idx → EReal) (w wg wu : S1024x2816.Idx → EReal) (wd : S2816x1024.Idx → EReal)

/-- The gate's value, its slope times its partner, and the gated product. -/
def silu (r : Fin 4096) (j : Fin 2816) : EReal := proj x g wg r j * sg (proj x g wg r j)
def slope (r : Fin 4096) (j : Fin 2816) : EReal :=
  proj x g wu r j * (sg (proj x g wg r j) * (1 + proj x g wg r j * (1 - sg (proj x g wg r j))))
def prod (r : Fin 4096) (j : Fin 2816) : EReal := silu x g wg r j * proj x g wu r j

/-- The layer's output with its input added. -/
def out (r : Fin 4096) (k : Fin 1024) : EReal := xrow x r k + ∑ j, prod x g wg wu r j * wd (ix2 j k)

/-- The slope as the derivative rule writes it, and collected. -/
theorem slope_eq (a b : EReal) : (1 * sg a + a * 1 * (sg a * (1 - sg a))) * b = b * (sg a * (1 + a * (1 - sg a))) := by
  have h := gate_eq a 1 1
  unfold refGate kerGate at h
  simp only [EReal.coe_one, one_mul, mul_one] at h ⊢
  rw [h, mul_comm]

/-- The normalised input inside the reference. -/
theorem mid_h (r : Fin 4096) (k : Fin 1024) : val_main_v12 (F := Ideal) x g (ix3 (ep r) (fr r) k) = nrm x g r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rfl

/-- The two projections inside the reference. -/
theorem mid_a (r : Fin 4096) (j : Fin 2816) : val_main_v13 (F := Ideal) x g w (ix3 (ep r) (fr r) j) = proj x g w r j := by
  pointwise [val_main_v13]
  simp only [mid_h]
  rfl

theorem mid_b (r : Fin 4096) (j : Fin 2816) : val_main_v14 (F := Ideal) x g w (ix3 (ep r) (fr r) j) = proj x g w r j := mid_a x g w r j

/-- The gate inside the reference. -/
theorem mid_silu (r : Fin 4096) (j : Fin 2816) : val_main_v15_0 (F := Ideal) x g wg (ix3 (ep r) (fr r) j) = silu x g wg r j := by
  pointwise [val_main_call0_v0, val_main_call0_v1, val_main_call0_cst, val_main_call0_v2, val_main_call0_v3, val_main_call0_cst_0, val_main_call0_v4, val_main_v15_2, val_main_v15_0]
  simp only [mid_a]
  rfl

/-- The reference's first result. -/
theorem ref_h (r : Fin 4096) (k : Fin 1024) : val_main_v19 (F := Ideal) x g (ix2 r k) = nrm x g r k := by
  pointwise [val_main_v18, val_main_v19]
  exact mid_h x g r k

/-- The reference's second result. -/
theorem ref_a (r : Fin 4096) (j : Fin 2816) : val_main_v22 (F := Ideal) x g wg wu (ix2 r j) = slope x g wg wu r j := by
  refine Eq.trans ?_ (slope_eq (proj x g wg r j) (proj x g wu r j))
  have ha := mid_a x g wg r j
  have hb := mid_b x g wu r j
  unfold ep fr at ha hb
  pointwise [val_main_call0_v0, val_main_call0_v1, val_main_call0_cst, val_main_call0_v2, val_main_call0_v3, val_main_call0_cst_0, val_main_call0_v4, val_main_v15_2, val_main_call0_cst_1, val_main_call0_v6, val_main_call0_v7, val_main_v15_1, val_main_cst_2, val_main_v16, val_main_call1_v0, val_main_call1_v1, val_main_call1_v2, val_main_v17, val_main_v20, val_main_v21, val_main_v22]
  simp only [ha, hb]
  rfl

/-- The reference's third result. -/
theorem ref_b (r : Fin 4096) (j : Fin 2816) : val_main_v24 (F := Ideal) x g wg (ix2 r j) = silu x g wg r j := by
  pointwise [val_main_v23, val_main_v24]
  exact mid_silu x g wg r j

/-- The gated product inside the reference, and its fourth result. -/
theorem mid_s (r : Fin 4096) (j : Fin 2816) : val_main_v25 (F := Ideal) x g wg wu (ix3 (ep r) (fr r) j) = prod x g wg wu r j := by
  pointwise [val_main_v25]
  rw [mid_silu, mid_b]
  rfl

theorem ref_s (r : Fin 4096) (j : Fin 2816) : val_main_v27 (F := Ideal) x g wg wu (ix2 r j) = prod x g wg wu r j := by
  pointwise [val_main_v26, val_main_v27]
  exact mid_s x g wg wu r j

/-- The reference's last result. -/
theorem ref_o (r : Fin 4096) (k : Fin 1024) : val_main_v31 (F := Ideal) x g wg wu wd (ix2 r k) = out x g wg wu wd r k := by
  have hs : ∀ j, val_main_v28 (F := Ideal) x g wg wu (ix3 (ep r) (fr r) j) = prod x g wg wu r j := mid_s x g wg wu r
  unfold ep fr at hs
  pointwise [val_main_v29, val_main_v30, val_main_v31]
  simp only [hs]
  rfl

end Cert.FfnFwd.Ref

end

end
-- ==== Proof.FfnFwdKer.lean ====
module
public import proofs.«01_k».proof.Proof.FfnFwdRef
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Rows
public import Idealize.ShloMosaic.Lib.StableHlo.RunRead

/-! What the kernel of the gated feed-forward layer's forward call leaves in its result arrays. -/

@[expose] public section

set_option maxRecDepth 16384

noncomputable section

open Idealize.ShloMosaic Idealize.ShloMosaic.TcCoe Idealize.SL.Sem
open Idealize.ShloMosaic.Pipeline (Dat)

namespace Cert.FfnFwd.Kernel
open Cert.FfnFwdIdeal Cert.FfnFwdIdeal.Gen Cert.Common Cert.InProj Cert.Norm Cert.Swiglu Cert.FfnFwd.Ref

variable (m : (ℓ : Loc nD τ sig) → Buf (Elt Ideal) ℓ)

/-- Which block each window reads or writes at a grid point. -/
theorem idx_val : ∀ t : Fin cfg0.N, FfnFwdIdeal.win0_0.index t = ![t.val, 0] ∧ FfnFwdIdeal.win0_1.index t = ![0, 0]
    ∧ FfnFwdIdeal.win0_2.index t = ![0, 0] ∧ FfnFwdIdeal.win0_3.index t = ![0, 0] ∧ FfnFwdIdeal.win0_4.index t = ![0, 0]
    ∧ FfnFwdIdeal.win0_5.index t = ![t.val, 0] ∧ FfnFwdIdeal.win0_6.index t = ![t.val, 0] ∧ FfnFwdIdeal.win0_7.index t = ![t.val, 0]
    ∧ FfnFwdIdeal.win0_8.index t = ![t.val, 0] ∧ FfnFwdIdeal.win0_9.index t = ![t.val, 0] :=
  (by decide +kernel : ∀ t : Fin grid0.N, _)

variable (x : S2x2048x1024.Idx → EReal) (g : S1024.Idx → EReal) (wg wu : S1024x2816.Idx → EReal) (wd : S2816x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The input's rows as the kernel finds them. -/
theorem entry_x (c : Dev nD) (h : m ((c : Thread nD τ).loc main_arg0) = x) (r : Fin 4096) (k : Fin 1024) :
    (V m c main_v0 : S4096x1024.Idx → EReal) (ix2 r k) = xrow x r k := by
  have h0 : V m c main_v0 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg0) = x) (q : Fin 512) (k : Fin 1024) :
    iblk m c 0 t (ix2 q k) = xrow x (at_ t q) k := by
  rw [← entry_x m x c h]
  blk_simp [iblk]
  refine congrArg _ ?_
  funext b
  apply Fin.ext
  fin_cases b <;> blk_simp [idx_val t] <;> simp only [at_, row] <;> (try simp) <;> (try omega)

/-- The gain and the three weights. -/
theorem blk1 (c : Dev nD) (t : Fin cfg0.N) (h : m ((c : Thread nD τ).loc main_arg1) = g) (k : Fin 1024) :
    iblk m c 1 t (ix2 0 k) = gain g k := by
  subst h
  unfold gain
  blk_point [iblk, V, idx_val t]

theorem blk2 (c : Dev nD) (t : Fin cfg0.N) (h : m ((c : Thread nD τ).loc main_arg2) = wg) (j : Fin 2816) (k : Fin 1024) :
    iblk m c 2 t (ix2 j k) = wg (ix2 k j) := by
  subst h
  blk_point [iblk, V, idx_val t]

theorem blk3 (c : Dev nD) (t : Fin cfg0.N) (h : m ((c : Thread nD τ).loc main_arg3) = wu) (j : Fin 2816) (k : Fin 1024) :
    iblk m c 3 t (ix2 j k) = wu (ix2 k j) := by
  subst h
  blk_point [iblk, V, idx_val t]

theorem blk4 (c : Dev nD) (t : Fin cfg0.N) (h : m ((c : Thread nD τ).loc main_arg4) = wd) (j : Fin 2816) (k : Fin 1024) :
    iblk m c 4 t (ix2 j k) = wd (ix2 j k) := by
  subst h
  blk_point [iblk, V, idx_val t]

/-- The normalised rows of a block. -/
theorem pay_h (t : Fin cfg0.N) {P0 : Vec Ideal S512x1024 .f32} {P1 : Vec Ideal S1x1024 .f32}
    (h0 : ∀ q k, P0 (ix2 q k) = xrow x (at_ t q) k) (h1 : ∀ k, P1 (ix2 0 k) = gain g k) (q : Fin 512) (k : Fin 1024) :
    k0_pay7 P0 P1 (ix2 q k) = nrm x g (at_ t q) k := by
  pointwise [k0_pay6, k0_pay7]
  simp only [h0, h1]
  rfl

/-- The first output's block at a point. -/
theorem point_5 (c : Dev nD) (hx : m ((c : Thread nD τ).loc main_arg0) = x) (hg : m ((c : Thread nD τ).loc main_arg1) = g)
    (t : Fin cfg0.N) (q : Fin 512) (k : Fin 1024) : (outsAt0 m c t).1 (ix2 q k) = nrm x g (at_ t q) k := by
  have h0 := blk0 m x c t hx
  have h1 := blk1 m g c t hg
  unfold outsAt0
  dsimp only
  frame_out
  generalize iblk m c 0 t = P0 at h0 ⊢
  generalize iblk m c 1 t = P1 at h1 ⊢
  exact pay_h x g t h0 h1 q k

/-- An index of a row of four bands lies in one of them. -/
theorem in_band {P : Fin 2816 → Prop} (h0 : ∀ (i : Fin 768) (hl : 0 + i.val < 2816), P ⟨0 + i.val, hl⟩)
    (h1 : ∀ (i : Fin 768) (hl : 768 + i.val < 2816), P ⟨768 + i.val, hl⟩) (h2 : ∀ (i : Fin 768) (hl : 1536 + i.val < 2816), P ⟨1536 + i.val, hl⟩)
    (h3 : ∀ (i : Fin 512) (hl : 2304 + i.val < 2816), P ⟨2304 + i.val, hl⟩) (j : Fin 2816) : P j := by
  rcases (by omega : j.val < 768 ∨ (768 ≤ j.val ∧ j.val < 1536) ∨ (1536 ≤ j.val ∧ j.val < 2304) ∨ 2304 ≤ j.val) with hj | hj | hj | hj
  · rw [show j = ⟨0 + (⟨j.val, hj⟩ : Fin 768).val, by simp only; omega⟩ from Fin.ext (by simp)]; exact h0 _ _
  · rw [show j = ⟨768 + (⟨j.val - 768, by omega⟩ : Fin 768).val, by simp only; omega⟩ from Fin.ext (by simp only; omega)]; exact h1 _ _
  · rw [show j = ⟨1536 + (⟨j.val - 1536, by omega⟩ : Fin 768).val, by simp only; omega⟩ from Fin.ext (by simp only; omega)]; exact h2 _ _
  · rw [show j = ⟨2304 + (⟨j.val - 2304, by omega⟩ : Fin 512).val, by simp only; omega⟩ from Fin.ext (by simp only; omega)]; exact h3 _ _

/-- The second output's block at a point. -/
theorem point_6 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (t : Fin cfg0.N) (q : Fin 512) (j : Fin 2816) : (outsAt0 m c t).2.1 (ix2 q j) = slope x g wg wu (at_ t q) j := by
  have h0 := blk0 m x c t hx
  have h1 := blk1 m g c t hg
  have h2 := blk2 m wg c t hw
  have h3 := blk3 m wu c t hu
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  revert j
  refine in_band ?_ ?_ ?_ ?_ <;> intro j hl
  · rw [Rows.canon_off _ _ _ q _ (by left; simp; omega), Rows.canon_off _ _ _ q _ (by left; simp; omega), Rows.canon_off _ _ _ q _ (by left; simp),
      Rows.canon_band _ _ _ q _ j rfl]
    pointwise [k0_pay8, k0_pay9, k0_pay10, k0_pay13]
    simp only [pay_h x g t h0 h1, h2, h3]
    rfl
  · rw [Rows.canon_off _ _ _ q _ (by left; simp; omega), Rows.canon_off _ _ _ q _ (by left; simp; omega), Rows.canon_band _ _ _ q _ j rfl]
    pointwise [k0_pay16, k0_pay17, k0_pay18, k0_pay21]
    simp only [pay_h x g t h0 h1, h2, h3]
    rfl
  · rw [Rows.canon_off _ _ _ q _ (by left; simp; omega), Rows.canon_band _ _ _ q _ j rfl]
    pointwise [k0_pay24, k0_pay25, k0_pay26, k0_pay29]
    simp only [pay_h x g t h0 h1, h2, h3]
    rfl
  · rw [Rows.canon_band _ _ _ q _ j rfl]
    pointwise [k0_pay32, k0_pay33, k0_pay34, k0_pay3]
    simp only [pay_h x g t h0 h1, h2, h3]
    rfl

/-- The third output's block at a point. -/
theorem point_7 (c : Dev nD) (hx : m ((c : Thread nD τ).loc main_arg0) = x) (hg : m ((c : Thread nD τ).loc main_arg1) = g)
    (hw : m ((c : Thread nD τ).loc main_arg2) = wg)
    (t : Fin cfg0.N) (q : Fin 512) (j : Fin 2816) : (outsAt0 m c t).2.2.1 (ix2 q j) = silu x g wg (at_ t q) j := by
  have h0 := blk0 m x c t hx
  have h1 := blk1 m g c t hg
  have h2 := blk2 m wg c t hw
  unfold outsAt0
  dsimp only
  frame_out
  generalize iblk m c 0 t = P0 at h0 ⊢
  generalize iblk m c 1 t = P1 at h1 ⊢
  generalize iblk m c 2 t = P2 at h2 ⊢
  revert j
  refine in_band ?_ ?_ ?_ ?_ <;> intro j hl
  · rw [Rows.canon_off _ _ _ q _ (by left; simp; omega), Rows.canon_off _ _ _ q _ (by left; simp; omega), Rows.canon_off _ _ _ q _ (by left; simp),
      Rows.canon_band _ _ _ q _ j rfl]
    pointwise [k0_pay8, k0_pay10, k0_pay11, k0_pay14]
    simp only [pay_h x g t h0 h1, h2]
    rfl
  · rw [Rows.canon_off _ _ _ q _ (by left; simp; omega), Rows.canon_off _ _ _ q _ (by left; simp; omega), Rows.canon_band _ _ _ q _ j rfl]
    pointwise [k0_pay16, k0_pay18, k0_pay19, k0_pay22]
    simp only [pay_h x g t h0 h1, h2]
    rfl
  · rw [Rows.canon_off _ _ _ q _ (by left; simp; omega), Rows.canon_band _ _ _ q _ j rfl]
    pointwise [k0_pay24, k0_pay26, k0_pay27, k0_pay30]
    simp only [pay_h x g t h0 h1, h2]
    rfl
  · rw [Rows.canon_band _ _ _ q _ j rfl]
    pointwise [k0_pay32, k0_pay34, k0_pay1, k0_pay4]
    simp only [pay_h x g t h0 h1, h2]
    rfl

/-- The fourth output's block at a point. -/
theorem point_8 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu)
    (t : Fin cfg0.N) (q : Fin 512) (j : Fin 2816) : (outsAt0 m c t).2.2.2.1 (ix2 q j) = prod x g wg wu (at_ t q) j := by
  have h0 := blk0 m x c t hx
  have h1 := blk1 m g c t hg
  have h2 := blk2 m wg c t hw
  have h3 := blk3 m wu c t hu
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  revert j
  refine in_band ?_ ?_ ?_ ?_ <;> intro j hl
  · rw [Rows.canon_off _ _ _ q _ (by left; simp; omega), Rows.canon_off _ _ _ q _ (by left; simp; omega), Rows.canon_off _ _ _ q _ (by left; simp),
      Rows.canon_band _ _ _ q _ j rfl]
    pointwise [k0_pay8, k0_pay9, k0_pay10, k0_pay11, k0_pay12]
    simp only [pay_h x g t h0 h1, h2, h3]
    rfl
  · rw [Rows.canon_off _ _ _ q _ (by left; simp; omega), Rows.canon_off _ _ _ q _ (by left; simp; omega), Rows.canon_band _ _ _ q _ j rfl]
    pointwise [k0_pay16, k0_pay17, k0_pay18, k0_pay19, k0_pay20]
    simp only [pay_h x g t h0 h1, h2, h3]
    rfl
  · rw [Rows.canon_off _ _ _ q _ (by left; simp; omega), Rows.canon_band _ _ _ q _ j rfl]
    pointwise [k0_pay24, k0_pay25, k0_pay26, k0_pay27, k0_pay28]
    simp only [pay_h x g t h0 h1, h2, h3]
    rfl
  · rw [Rows.canon_band _ _ _ q _ j rfl]
    pointwise [k0_pay32, k0_pay33, k0_pay34, k0_pay1, k0_pay2]
    simp only [pay_h x g t h0 h1, h2, h3]
    rfl

/-- Four bands of columns, added one after another, make the whole sum. -/
theorem bands (a : EReal) (f : Fin 2816 → EReal) :
    a + (∑ c : Fin 768, f ⟨c.val, by omega⟩) + (∑ c : Fin 768, f ⟨768 + c.val, by omega⟩) + (∑ c : Fin 768, f ⟨1536 + c.val, by omega⟩)
      + (∑ c : Fin 512, f ⟨2304 + c.val, by omega⟩) = a + ∑ j, f j := by
  have e : ∑ j, f j = (∑ c : Fin 768, f ⟨c.val, by omega⟩) + (∑ c : Fin 768, f ⟨768 + c.val, by omega⟩)
      + (∑ c : Fin 768, f ⟨1536 + c.val, by omega⟩) + ∑ c : Fin 512, f ⟨2304 + c.val, by omega⟩ :=
    (Fin.sum_univ_add (a := 2304) (b := 512) f).trans (congrArg (· + _)
      ((Fin.sum_univ_add (a := 1536) (b := 768) fun j : Fin 2304 => f ⟨j.val, by omega⟩).trans
        (congrArg (· + _) (Fin.sum_univ_add (a := 768) (b := 768) fun j : Fin 1536 => f ⟨j.val, by omega⟩))))
  rw [e]
  simp only [add_assoc]

/-- The last output's block at a point. -/
theorem point_9 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu) (hd : m ((c : Thread nD τ).loc main_arg4) = wd)
    (t : Fin cfg0.N) (q : Fin 512) (k : Fin 1024) : (outsAt0 m c t).2.2.2.2 (ix2 q k) = out x g wg wu wd (at_ t q) k := by
  have h0 := blk0 m x c t hx
  have h1 := blk1 m g c t hg
  have h2 := blk2 m wg c t hw
  have h3 := blk3 m wu c t hu
  have h4 := blk4 m wd c t hd
  unfold outsAt0
  dsimp only
  frame_out
  generalize iblk m c 0 t = P0 at h0 ⊢
  generalize iblk m c 1 t = P1 at h1 ⊢
  generalize iblk m c 2 t = P2 at h2 ⊢
  generalize iblk m c 3 t = P3 at h3 ⊢
  generalize iblk m c 4 t = P4 at h4 ⊢
  refine Eq.trans ?_ (bands (xrow x (at_ t q) k) fun j => prod x g wg wu (at_ t q) j * wd (ix2 j k))
  pointwise [k0_pay1, k0_pay2, k0_pay5, k0_pay6, k0_pay8, k0_pay9, k0_pay10, k0_pay11, k0_pay12, k0_pay15, k0_pay16, k0_pay17, k0_pay18, k0_pay19, k0_pay20, k0_pay23, k0_pay24, k0_pay25, k0_pay26, k0_pay27, k0_pay28, k0_pay31, k0_pay32, k0_pay33, k0_pay34]
  simp only [pay_h x g t h0 h1, h0, h2, h3, h4]
  rfl

/-- The first result array after the run. -/
theorem final_5 (c : Dev nD) (hx : m ((c : Thread nD τ).loc main_arg0) = x) (hg : m ((c : Thread nD τ).loc main_arg1) = g) :
    (dats m 0 c).arrAt 5 cfg0.N = fun y => nrm x g (y 0) (y 1) := by
  refine (dats m 0 c).arrAt_eq_of_covers 5 _ (by decide +kernel) fun t hf y => ?_
  obtain ⟨q, k, rfl⟩ : ∃ (q : Fin 512) (k : Fin 1024), y = ix2 q k := ⟨y 0, y 1, eq_ix2 y⟩
  blk_simp
  rw [after0_5, point_5 m x g c hx hg t q k]
  congr 1 <;> apply Fin.ext <;> simp only [at_, row] <;> blk_simp [idx_val t] <;> (try simp) <;> omega

/-- The second result array after the run. -/
theorem final_6 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu) :
    (dats m 0 c).arrAt 6 cfg0.N = fun y => slope x g wg wu (y 0) (y 1) := by
  refine (dats m 0 c).arrAt_eq_of_covers 6 _ (by decide +kernel) fun t hf y => ?_
  obtain ⟨q, k, rfl⟩ : ∃ (q : Fin 512) (k : Fin 2816), y = ix2 q k := ⟨y 0, y 1, eq_ix2 y⟩
  blk_simp
  rw [after0_6, point_6 m x g wg wu c hx hg hw hu t q k]
  congr 1 <;> apply Fin.ext <;> simp only [at_, row] <;> blk_simp [idx_val t] <;> (try simp) <;> omega

/-- The third result array after the run. -/
theorem final_7 (c : Dev nD) (hx : m ((c : Thread nD τ).loc main_arg0) = x) (hg : m ((c : Thread nD τ).loc main_arg1) = g)
    (hw : m ((c : Thread nD τ).loc main_arg2) = wg) :
    (dats m 0 c).arrAt 7 cfg0.N = fun y => silu x g wg (y 0) (y 1) := by
  refine (dats m 0 c).arrAt_eq_of_covers 7 _ (by decide +kernel) fun t hf y => ?_
  obtain ⟨q, k, rfl⟩ : ∃ (q : Fin 512) (k : Fin 2816), y = ix2 q k := ⟨y 0, y 1, eq_ix2 y⟩
  blk_simp
  rw [after0_7, point_7 m x g wg c hx hg hw t q k]
  congr 1 <;> apply Fin.ext <;> simp only [at_, row] <;> blk_simp [idx_val t] <;> (try simp) <;> omega

/-- The fourth result array after the run. -/
theorem final_8 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu) :
    (dats m 0 c).arrAt 8 cfg0.N = fun y => prod x g wg wu (y 0) (y 1) := by
  refine (dats m 0 c).arrAt_eq_of_covers 8 _ (by decide +kernel) fun t hf y => ?_
  obtain ⟨q, k, rfl⟩ : ∃ (q : Fin 512) (k : Fin 2816), y = ix2 q k := ⟨y 0, y 1, eq_ix2 y⟩
  blk_simp
  rw [after0_8, point_8 m x g wg wu c hx hg hw hu t q k]
  congr 1 <;> apply Fin.ext <;> simp only [at_, row] <;> blk_simp [idx_val t] <;> (try simp) <;> omega

/-- The last result array after the run. -/
theorem final_9 (c : Dev nD) (hx : m ((c : Thread nD τ).loc main_arg0) = x) (hg : m ((c : Thread nD τ).loc main_arg1) = g)
    (hw : m ((c : Thread nD τ).loc main_arg2) = wg) (hu : m ((c : Thread nD τ).loc main_arg3) = wu) (hd : m ((c : Thread nD τ).loc main_arg4) = wd) :
    (dats m 0 c).arrAt 9 cfg0.N = fun y => out x g wg wu wd (y 0) (y 1) := by
  refine (dats m 0 c).arrAt_eq_of_covers 9 _ (by decide +kernel) fun t hf y => ?_
  obtain ⟨q, k, rfl⟩ : ∃ (q : Fin 512) (k : Fin 1024), y = ix2 q k := ⟨y 0, y 1, eq_ix2 y⟩
  blk_simp
  rw [after0_9, point_9 m x g wg wu wd c hx hg hw hu hd t q k]
  congr 1 <;> apply Fin.ext <;> simp only [at_, row] <;> blk_simp [idx_val t] <;> (try simp) <;> omega

end Cert.FfnFwd.Kernel

end

end
-- ==== Proof.FfnFwd.lean ====
module
public import proofs.«01_k».proof.Defs
public import proofs.«01_k».proof.Proof.Gen.FfnFwdRefIdeal
public import proofs.«01_k».proof.Proof.FfnFwdKer
public import Idealize.ShloMosaic.Lib.Claim
public import Idealize.ShloMosaic.Adequacy
public import Idealize.ShloMosaic.Init

/-! The kernel of the gated feed-forward layer's forward call beside its reference. -/

@[expose] public section

set_option maxRecDepth 16384

noncomputable section

namespace Cert.FfnFwd

open Idealize.ShloMosaic Idealize.ShloMosaic.TcCoe Idealize.SL.Sem Idealize.ShloMosaic.StableHlo Cert.Swiglu

set_option maxHeartbeats 1000000 in
/-- The kernel and its reference leave the same arrays. -/
theorem values : algebraic_FfnFwdIdeal_FfnFwdRefIdeal (hFfnFwdIdeal := Cert.FfnFwdIdeal.Gen.facts)
    (hFfnFwdRefIdeal := Cert.FfnFwdRefIdeal.Gen.facts) := by
  pair_intro
  · run_from Cert.FfnFwdIdeal.Value.run_blocks m g
  · run_from Cert.FfnFwdRefIdeal.Value.run m' g'
    all_goals
      obtain ⟨e0, e1, e2, e3, e4⟩ := hagree c
    · rw [Kernel.final_5 m _ _ c rfl rfl]
      refine (Cert.FfnFwdRefIdeal.Read.val_main_v19_eq _ _).trans ?_
      funext i
      obtain ⟨r, k, rfl⟩ : ∃ r k, i = ValueIdx.ix2 r k := ⟨i 0, i 1, ValueIdx.eq_ix2 i⟩
      exact Ref.ref_h _ _ r k
    · rw [Kernel.final_6 m _ _ _ _ c rfl rfl rfl rfl]
      refine (Cert.FfnFwdRefIdeal.Read.val_main_v22_eq m' c).trans ?_
      rw [e0, e1, e2, e3]
      funext i
      obtain ⟨r, k, rfl⟩ : ∃ r k, i = ValueIdx.ix2 r k := ⟨i 0, i 1, ValueIdx.eq_ix2 i⟩
      exact Ref.ref_a _ _ _ _ r k
    · rw [Kernel.final_7 m _ _ _ c rfl rfl rfl]
      refine (Cert.FfnFwdRefIdeal.Read.val_main_v24_eq _ _ _).trans ?_
      funext i
      obtain ⟨r, k, rfl⟩ : ∃ r k, i = ValueIdx.ix2 r k := ⟨i 0, i 1, ValueIdx.eq_ix2 i⟩
      exact Ref.ref_b _ _ _ r k
    · rw [Kernel.final_8 m _ _ _ _ c rfl rfl rfl rfl]
      refine (Cert.FfnFwdRefIdeal.Read.val_main_v27_eq _ _ _ _).trans ?_
      funext i
      obtain ⟨r, k, rfl⟩ : ∃ r k, i = ValueIdx.ix2 r k := ⟨i 0, i 1, ValueIdx.eq_ix2 i⟩
      exact Ref.ref_s _ _ _ _ r k
    · rw [Kernel.final_9 m _ _ _ _ _ c rfl rfl rfl rfl rfl]
      refine (Cert.FfnFwdRefIdeal.Read.val_main_v31_eq _ _ _ _ _).trans ?_
      funext i
      obtain ⟨r, k, rfl⟩ : ∃ r k, i = ValueIdx.ix2 r k := ⟨i 0, i 1, ValueIdx.eq_ix2 i⟩
      exact Ref.ref_o _ _ _ _ _ r k

/-- The reference keeps its arguments; it declares no counter. -/
theorem ref_frame : quiescent_FfnFwdRefIdeal (hFfnFwdRefIdeal := Cert.FfnFwdRefIdeal.Gen.facts) := fun m g _ =>
  (θ_run Cert.FfnFwdRefIdeal.defs _ _).mono (fun r h => ⟨fun c => (h c).2.2.2.2.2, sem_eq_zero_of_no_sems (by decide) r.2⟩)
    (Cert.FfnFwdRefIdeal.Value.run (F := Ideal) m g)

end Cert.FfnFwd

end

end
-- ==== Proof.ConvFwd.lean ====
module
public import proofs.«01_k».proof.Defs
public import proofs.«01_k».proof.Proof.Gen.ConvFwdRefIdeal
public import proofs.«01_k».proof.Proof.Conv
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import Idealize.ShloMosaic.Lib.StableHlo.RunRead
public import Idealize.ShloMosaic.Lib.Claim
public import Idealize.ShloMosaic.Adequacy
public import Idealize.ShloMosaic.Init

/-! The kernel of the gated convolution beside its reference. -/

@[expose] public section

set_option maxRecDepth 16384

noncomputable section

open Idealize.ShloMosaic Idealize.ShloMosaic.TcCoe Idealize.SL.Sem
open Idealize.ShloMosaic.Pipeline (Dat)

namespace Cert.ConvFwd.Ref
open Cert.ConvFwdRefIdeal Cert.ConvFwdRefIdeal.Read Cert.Common
open Cert.Conv (gated past conv)

variable (z : S2x2048x3072.Idx → EReal) (w : S3x1024.Idx → EReal)

/-- The convolution under its gate. -/
def out (e : Fin 2) (s : Fin 2048) (k : Fin 1024) : EReal := z (ix3 e s ⟨k.val, by omega⟩) * conv z w e s k

/-- The reference's padded input, read `n` frames back. -/
theorem ref_padded (n : ℕ) (e : Fin 2) (s : Fin 2048) (k : Fin 1024) (hn : n ≤ 2) (r : Fin 2050) (hr : r.val = s.val + (2 - n)) :
    val_main_v5 (F := Ideal) z (ix3 e r k) = past z n e s k := by
  pointwise [val_main_v5, val_main_v4, val_main_v3, val_main_v1, val_main_v2, val_main_cst]
  unfold past gated
  obtain ⟨r, hr'⟩ := r
  subst hr
  by_cases h : n ≤ s.val
  · have h' : s.val + (2 - n) - 2 = s.val - n := by omega
    rw [dif_neg (by simp; omega), if_pos h]
    simp only [h']
  · rw [dif_pos (by simp; omega), if_neg h]

/-- The reference's gated input of the same frame and of the two before. -/
theorem ref_past (e : Fin 2) (s : Fin 2048) (k : Fin 1024) : val_main_v21 (F := Ideal) z (ix3 e s k) = past z 0 e s k
    ∧ val_main_v14 (F := Ideal) z (ix3 e s k) = past z 1 e s k ∧ val_main_v8 (F := Ideal) z (ix3 e s k) = past z 2 e s k := by
  refine ⟨?_, ?_, ?_⟩
  · pointwise [val_main_v21]
    exact ref_padded z 0 e s k (by omega) _ (by simp; omega)
  · pointwise [val_main_v14]
    exact ref_padded z 1 e s k (by omega) _ (by simp; omega)
  · pointwise [val_main_v8]
    exact ref_padded z 2 e s k (by omega) _ (by simp)

/-- The reference's convolution. -/
theorem ref_conv (e : Fin 2) (s : Fin 2048) (k : Fin 1024) :
    val_main_v25 (F := Ideal) z w (ix3 e s k) = conv z w e s k := by
  pointwise [val_main_v25, val_main_v18, val_main_v24, val_main_v11, val_main_v17, ref_past]
  pointwise [val_main_v10, val_main_v9, val_main_v7, val_main_v6, val_main_v16, val_main_v15, val_main_v13, val_main_v12,
    val_main_v23, val_main_v22, val_main_v20, val_main_v19]
  exact add_reverse _ _ _

/-- The reference's result. -/
theorem ref_out (r : Fin 4096) (k : Fin 1024) : val_main_v28 (F := Ideal) z w (ix2 r k) = out z w (ep r) (fr r) k := by
  pointwise [val_main_v28, val_main_v27, val_main_v26, val_main_v0]
  unfold out
  rw [← ref_conv]
  rfl

end Cert.ConvFwd.Ref

namespace Cert.ConvFwd.Kernel
open Cert.ConvFwdIdeal Cert.ConvFwdIdeal.Gen Cert.Common Cert.ConvFwd.Ref
open Cert.Conv (gated past conv)
open Cert.Conv.Kernel (stream streams streams_apply select_past)

variable (m : (ℓ : Loc nD τ sig) → Buf (Elt Ideal) ℓ)

/-- Which block each window reads or writes at a grid point: the point runs through the column blocks first, then through the examples. -/
theorem idx_val : ∀ t : Fin cfg0.N, ConvFwdIdeal.win0_0.index t = ![0, t.val / 4, t.val % 4]
    ∧ ConvFwdIdeal.win0_1.index t = ![0, t.val % 4] ∧ ConvFwdIdeal.win0_2.index t = ![t.val / 4, t.val % 4] :=
  (by decide +kernel : ∀ t : Fin grid0.N, _)

variable (z : S2x2048x3072.Idx → EReal) (w : S3x1024.Idx → EReal)

/-- There are eight grid points. -/
theorem lt8 (t : Fin cfg0.N) : t.val < 8 := lt_of_lt_of_eq t.isLt (show cfg0.N = 8 from N_0)

/-- The column of the whole array that column `k` of the block is, and the point's example. -/
def col (t : Fin cfg0.N) (k : Fin 256) : Fin 1024 := ⟨256 * (t.val % 4) + k.val, by omega⟩
def ex (t : Fin cfg0.N) : Fin 2 := ⟨t.val / 4, by have := lt8 t; omega⟩

/-- The kernel's first operand holds the three parts of `z`, one after another. -/
theorem entry_streams (c : Dev nD) (hz : m ((c : Thread nD τ).loc main_arg0) = z) :
    V m c main_v8 = (streams z : S3x4096x1024.Idx → EReal) := by
  have h0 : V m c main_v4 = stream z 0 slices_S4096x3072_S4096x1024_0_0 := by
    subst hz; unfold V; unfold hostOps0; after_reads_simp; rfl
  have h1 : V m c main_v5 = stream z 1024 slices_S4096x3072_S4096x1024_0_1024 := by
    subst hz; unfold V; unfold hostOps0; after_reads_simp; rfl
  have h2 : V m c main_v6 = stream z 2048 slices_S4096x3072_S4096x1024_0_2048 := by
    subst hz; unfold V; unfold hostOps0; after_reads_simp; rfl
  unfold streams
  rw [← h0, ← h1, ← h2]
  rfl

/-- The block of the stacked parts holds, of each part, one example's frames and 256 columns. -/
theorem blk0 (c : Dev nD) (t : Fin cfg0.N) (hz : m ((c : Thread nD τ).loc main_arg0) = z) (j : Fin 3) (s : Fin 2048) (k : Fin 256) :
    iblk m c 0 t (ix3 j s k) = z (ix3 (ex t) s ⟨1024 * j.val + (col t k).val, by omega⟩) := by
  have : iblk m c 0 t (ix3 j s k) = V m c main_v8 (ix3 j ⟨2048 * (ex t).val + s.val, by have := (ex t).isLt; omega⟩ (col t k)) := by
    blk_simp [iblk]
    refine congrArg _ ?_
    funext a
    apply Fin.ext
    fin_cases a <;> blk_simp [idx_val t]
    · rfl
    · show t.val / 4 * 2048 + s.val = 2048 * (t.val / 4) + s.val
      omega
    · show t.val % 4 * 256 + k.val = 256 * (t.val % 4) + k.val
      omega
  rw [this, entry_streams m z c hz, streams_apply]
  congr 2 <;> apply Fin.ext <;> simp <;> omega

/-- The block of the taps holds 256 columns. -/
theorem blk1 (c : Dev nD) (t : Fin cfg0.N) (hw : m ((c : Thread nD τ).loc main_arg1) = w) (j : Fin 3) (k : Fin 256) :
    iblk m c 1 t (ix2 j k) = w (ix2 j (col t k)) := by
  subst hw
  blk_point [iblk, V, idx_val t]
  simp only [col]; omega

/-- The block of the result that one grid point leaves. -/
theorem point_2 (c : Dev nD) (hz : m ((c : Thread nD τ).loc main_arg0) = z) (hw : m ((c : Thread nD τ).loc main_arg1) = w)
    (t : Fin cfg0.N) (s : Fin 2048) (k : Fin 256) :
    out0_2 (iblk m c 0 t) (iblk m c 1 t) (ix2 s k) = out z w (ex t) s (col t k) := by
  have h0 := blk0 m z c t hz
  have h1 := blk1 m w c t hw
  frame_out
  generalize iblk m c 0 t = P0 at h0 ⊢
  generalize iblk m c 1 t = P1 at h1 ⊢
  pointwise [k0_pay1]
  simp only [h0, h1, select_past 1 (by omega), select_past 2 (by omega)]
  unfold out conv past gated
  split_ifs <;> first | omega | ((try simp only [mul_zero, add_zero]); blk_point)

/-- The result array after the run. -/
theorem final_2 (c : Dev nD) (hz : m ((c : Thread nD τ).loc main_arg0) = z) (hw : m ((c : Thread nD τ).loc main_arg1) = w) :
    (dats m 0 c).arrAt 2 cfg0.N = fun y => out z w (ep (y 0)) (fr (y 0)) (y 1) := by
  refine (dats m 0 c).arrAt_eq_of_covers 2 _ (by decide +kernel) fun t hf y => ?_
  obtain ⟨s, k, rfl⟩ : ∃ (s : Fin 2048) (k : Fin 256), y = ix2 s k := ⟨y 0, y 1, eq_ix2 y⟩
  blk_simp
  rw [after0_2, point_2 m z w c hz hw t s k]
  have := lt8 t
  congr 1 <;> apply Fin.ext <;> simp only [ex, col, ep, fr] <;> blk_simp [idx_val t] <;> (try simp) <;> omega

end Cert.ConvFwd.Kernel

namespace Cert.ConvFwd

open Idealize.ShloMosaic.StableHlo

/-- The kernel and its reference leave the same array. -/
theorem values : algebraic_ConvFwdIdeal_ConvFwdRefIdeal (hConvFwdIdeal := Cert.ConvFwdIdeal.Gen.facts)
    (hConvFwdRefIdeal := Cert.ConvFwdRefIdeal.Gen.facts) := by
  pair_intro
  · run_from Cert.ConvFwdIdeal.Value.run_blocks m g
  · run_from Cert.ConvFwdRefIdeal.Value.run m' g'
    · obtain ⟨e0, e1⟩ := hagree c
      rw [Kernel.final_2 m _ _ c rfl rfl]
      refine (Cert.ConvFwdRefIdeal.Read.val_main_v28_eq _ _).trans ?_
      funext i
      obtain ⟨r, k, rfl⟩ : ∃ r k, i = ValueIdx.ix2 r k := ⟨i 0, i 1, ValueIdx.eq_ix2 i⟩
      exact Ref.ref_out _ _ r k

/-- The reference keeps its arguments; it declares no counter. -/
theorem ref_frame : quiescent_ConvFwdRefIdeal (hConvFwdRefIdeal := Cert.ConvFwdRefIdeal.Gen.facts) := fun m g _ =>
  (θ_run Cert.ConvFwdRefIdeal.defs _ _).mono (fun r h => ⟨fun c => (h c).2, sem_eq_zero_of_no_sems (by decide) r.2⟩)
    (Cert.ConvFwdRefIdeal.Value.run (F := Ideal) m g)

end Cert.ConvFwd

end

end
-- ==== Proof.BInFwd.lean ====
module
public import proofs.«01_k».proof.Defs
public import proofs.«01_k».proof.Proof.Gen.BInFwdRefIdeal
public import proofs.«01_k».proof.Proof.Swiglu
public import proofs.«01_k».proof.Proof.Gen.BInFwd.Frame
public import proofs.«01_k».proof.Proof.Gen.BInFwdIdeal.Frame
public import proofs.«01_k».proof.Proof.Gen.BInFwdIdeal.Value
public import proofs.«01_k».proof.Proof.Gen.BInFwdRefIdeal.Run
public import proofs.«01_k».proof.Proof.Gen.BInFwdRefIdeal.Read
public import Idealize.ShloMosaic.Lib.StableHlo.RunRead
public import Idealize.ShloMosaic.Lib.Claim
public import Idealize.ShloMosaic.Adequacy
public import Idealize.ShloMosaic.Init

/-! The kernel of the convolution mixer's input norm and projection beside its reference. -/

@[expose] public section

set_option maxRecDepth 16384

noncomputable section

open Idealize.ShloMosaic Idealize.ShloMosaic.TcCoe Idealize.SL.Sem
open Idealize.ShloMosaic.Pipeline (Dat)

namespace Cert.BInFwd.Ref
open Cert.BInFwdRefIdeal Cert.BInFwdRefIdeal.Read Cert.Common Cert.InProj Cert.Norm
open Cert.Swiglu (nrm)

variable (x : S2x2048x1024.Idx → EReal) (g : S1024.Idx → EReal) (w : S1024x3072.Idx → EReal)

/-- The projection of the normalised row. -/
def proj (r : Fin 4096) (j : Fin 3072) : EReal := ∑ k, nrm x g r k * w (ix2 k j)

/-- The projection's sum at a column of the same number. -/
theorem proj_of (r : Fin 4096) (j j' : Fin 3072) (h : j.val = j'.val) : ∑ k, nrm x g r k * w (ix2 k j) = proj x g w r j' := by
  obtain rfl : j = j' := Fin.ext h
  rfl

/-- The normalised input inside the reference. -/
theorem mid_h (r : Fin 4096) (k : Fin 1024) : val_main_v12 (F := Ideal) x g (ix3 (ep r) (fr r) k) = nrm x g r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rfl

/-- The reference's first result. -/
theorem ref_h (r : Fin 4096) (k : Fin 1024) : val_main_v14 (F := Ideal) x g (ix2 r k) = nrm x g r k := by
  pointwise [val_main_v13, val_main_v14]
  exact mid_h x g r k

/-- The reference's second result, in three parts. -/
theorem ref_p (i : Fin 3) (r : Fin 4096) (j : Fin 1024) :
    val_main_v24 (F := Ideal) x g w (ix3 i r j) = proj x g w r ⟨1024 * i.val + j.val, by omega⟩ := by
  have hh := mid_h x g r
  unfold ep fr at hh
  pointwise [val_main_v24, val_main_v23, val_main_v22, val_main_v21, val_main_v20, val_main_v19, val_main_v18, val_main_v17, val_main_v16, val_main_v15]
  simp only [hh]
  split_ifs
  all_goals exact proj_of x g w r _ _ (by simp; omega)

end Cert.BInFwd.Ref

namespace Cert.BInFwd.Kernel
open Cert.BInFwdIdeal Cert.BInFwdIdeal.Gen Cert.Common Cert.InProj Cert.Norm Cert.BInFwd.Ref
open Cert.Swiglu (nrm)

variable (m : (ℓ : Loc nD τ sig) → Buf (Elt Ideal) ℓ)

/-- Which block each window reads or writes at a grid point. -/
theorem idx_val : ∀ t : Fin cfg0.N, BInFwdIdeal.win0_0.index t = ![t.val, 0] ∧ BInFwdIdeal.win0_1.index t = ![0, 0]
    ∧ BInFwdIdeal.win0_2.index t = ![0, 0, 0] ∧ BInFwdIdeal.win0_3.index t = ![t.val, 0] ∧ BInFwdIdeal.win0_4.index t = ![0, t.val, 0] :=
  (by decide +kernel : ∀ t : Fin grid0.N, _)

variable (x : S2x2048x1024.Idx → EReal) (g : S1024.Idx → EReal) (w : S1024x3072.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The input's rows as the kernel finds them. -/
theorem entry_x (c : Dev nD) (h : m ((c : Thread nD τ).loc main_arg0) = x) (r : Fin 4096) (k : Fin 1024) :
    (V m c main_v3 : S4096x1024.Idx → EReal) (ix2 r k) = xrow x r k := by
  have h0 : V m c main_v3 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg0) = x) (q : Fin 512) (k : Fin 1024) :
    iblk m c 0 t (ix2 q k) = xrow x (at_ t q) k := by
  rw [← entry_x m x c h]
  blk_simp [iblk]
  refine congrArg _ ?_
  funext b
  apply Fin.ext
  fin_cases b <;> blk_simp [idx_val t] <;> simp only [at_, row] <;> (try simp) <;> (try omega)

/-- The gain and the weights. -/
theorem blk1 (c : Dev nD) (t : Fin cfg0.N) (h : m ((c : Thread nD τ).loc main_arg1) = g) (k : Fin 1024) :
    iblk m c 1 t (ix2 0 k) = gain g k := by
  subst h
  unfold gain
  blk_point [iblk, V, idx_val t]

theorem blk2 (c : Dev nD) (t : Fin cfg0.N) (h : m ((c : Thread nD τ).loc main_arg2) = w) (s : Fin 4) (k : Fin 1024) (j : Fin 768) :
    iblk m c 2 t (ix3 s k j) = w (ix2 k ⟨s.val * 768 + j.val, by omega⟩) := by
  have h0 : V m c main_v2 = (truncf .bf16 (transpose S4x1024x768 [1, 0, 2]
      (shapeCast S1024x4x768 (w : FVec Ideal S1024x3072 .f32) shapeCasts_S1024x3072_S1024x4x768)
      transposes_S1024x4x768_S4x1024x768_1_0_2) bitsLt_bf16_f32 : FVec Ideal S4x1024x768 .bf16) := by
    subst h; unfold V; unfold hostOps0; after_reads_simp; rfl
  have e : (truncf .bf16 (transpose S4x1024x768 [1, 0, 2]
      (shapeCast S1024x4x768 (w : FVec Ideal S1024x3072 .f32) shapeCasts_S1024x3072_S1024x4x768)
      transposes_S1024x4x768_S4x1024x768_1_0_2) bitsLt_bf16_f32 : FVec Ideal S4x1024x768 .bf16) (ix3 s k j)
      = w (ix2 k ⟨s.val * 768 + j.val, by omega⟩) := by
    pointwise
  rw [← e, ← h0]
  blk_simp [iblk]
  refine congrArg _ ?_
  funext b
  apply Fin.ext
  fin_cases b <;> blk_simp [idx_val t]

/-- The first output's block at a point. -/
theorem point_3 (c : Dev nD) (hx : m ((c : Thread nD τ).loc main_arg0) = x) (hg : m ((c : Thread nD τ).loc main_arg1) = g)
    (t : Fin cfg0.N) (q : Fin 512) (k : Fin 1024) :
    out0_3 (iblk m c 0 t) (iblk m c 1 t) (iblk m c 2 t) (ix2 q k) = nrm x g (at_ t q) k := by
  have h0 := blk0 m x c t hx
  have h1 := blk1 m g c t hg
  frame_out
  generalize iblk m c 0 t = P0 at h0 ⊢
  generalize iblk m c 1 t = P1 at h1 ⊢
  pointwise [k0_pay6]
  simp only [h0, h1]
  rfl

set_option maxHeartbeats 2000000 in
/-- The second output's block at a point: twelve pieces, each 256 columns of one of the four shards' products. -/
theorem point_4 (c : Dev nD) (hx : m ((c : Thread nD τ).loc main_arg0) = x) (hg : m ((c : Thread nD τ).loc main_arg1) = g)
    (hw : m ((c : Thread nD τ).loc main_arg2) = w) (t : Fin cfg0.N) (i : Fin 3) (q : Fin 512) (j : Fin 1024) :
    out0_4 (iblk m c 0 t) (iblk m c 1 t) (iblk m c 2 t) (ix3 i q j)
      = proj x g w (at_ t q) ⟨1024 * i.val + j.val, by omega⟩ := by
  have hy := point_3 m x g c hx hg t
  have hw2 := blk2 m w c t hw
  unfold out0_3 at hy
  rw [View.canon_unit_zero (by funext a; fin_cases a <;> rfl)] at hy
  unfold out0_4 k0_pay19 k0_pay8 k0_pay9 k0_pay10 k0_pay7
  generalize iblk m c 2 t = P2 at hw2 ⊢
  generalize k0_pay6 (F := Ideal) _ _ = N at hy ⊢
  canon_tiles y h
  all_goals
    obtain ⟨a, q', k, rfl⟩ : ∃ (a : Fin 1) (q' : Fin 512) (k : Fin 256), y = ix3 a q' k := ⟨y 0, y 1, y 2, eq_ix3 y⟩
    obtain rfl : q = q' := Fin.ext h1
    first
      | have hi : i.val = 2 + a.val := h0
      | have hi : i.val = 1 + a.val := h0
      | have hi : i.val = a.val := h0
    first
      | have hj : j.val = 768 + k.val := h2
      | have hj : j.val = 512 + k.val := h2
      | have hj : j.val = 256 + k.val := h2
      | have hj : j.val = k.val := h2
    pointwise [k0_pay1, k0_pay2, k0_pay3, k0_pay4, k0_pay5, k0_pay11, k0_pay12, k0_pay13, k0_pay14, k0_pay15, k0_pay16, k0_pay17, k0_pay18]
    simp only [hy, hw2]
    exact proj_of x g w (at_ t q) _ _ (by simp; omega)

/-- The first result array after the run. -/
theorem final_3 (c : Dev nD) (hx : m ((c : Thread nD τ).loc main_arg0) = x) (hg : m ((c : Thread nD τ).loc main_arg1) = g) :
    (dats m 0 c).arrAt 3 cfg0.N = fun y => nrm x g (y 0) (y 1) := by
  refine (dats m 0 c).arrAt_eq_of_covers 3 _ (by decide +kernel) fun t hf y => ?_
  obtain ⟨q, k, rfl⟩ : ∃ (q : Fin 512) (k : Fin 1024), y = ix2 q k := ⟨y 0, y 1, eq_ix2 y⟩
  blk_simp
  rw [after0_3, point_3 m x g c hx hg t q k]
  congr 1 <;> apply Fin.ext <;> simp only [at_, row] <;> blk_simp [idx_val t] <;> (try simp) <;> omega

/-- The second result array after the run. -/
theorem final_4 (c : Dev nD) (hx : m ((c : Thread nD τ).loc main_arg0) = x) (hg : m ((c : Thread nD τ).loc main_arg1) = g)
    (hw : m ((c : Thread nD τ).loc main_arg2) = w) :
    (dats m 0 c).arrAt 4 cfg0.N = fun y => proj x g w (y 1) ⟨1024 * (y 0).val + (y 2).val, by have := (y 0).isLt; have := (y 2).isLt; simp_all; omega⟩ := by
  refine (dats m 0 c).arrAt_eq_of_covers 4 _ (by decide +kernel) fun t hf y => ?_
  obtain ⟨i, q, k, rfl⟩ : ∃ (i : Fin 3) (q : Fin 512) (k : Fin 1024), y = ix3 i q k := ⟨y 0, y 1, y 2, eq_ix3 y⟩
  blk_simp
  rw [after0_4, point_4 m x g w c hx hg hw t i q k]
  congr 1 <;> apply Fin.ext <;> simp only [at_, row] <;> blk_simp [idx_val t] <;> (try simp) <;> omega

end Cert.BInFwd.Kernel

namespace Cert.BInFwd

open Idealize.ShloMosaic.StableHlo Cert.InProj

set_option maxHeartbeats 1000000 in
/-- The kernel and its reference leave the same arrays. -/
theorem values : algebraic_BInFwdIdeal_BInFwdRefIdeal (hBInFwdIdeal := Cert.BInFwdIdeal.Gen.facts)
    (hBInFwdRefIdeal := Cert.BInFwdRefIdeal.Gen.facts) := by
  pair_intro
  · run_from Cert.BInFwdIdeal.Value.run_blocks m g
  · run_from Cert.BInFwdRefIdeal.Value.run m' g'
    all_goals
      obtain ⟨e0, e1, e2⟩ := hagree c
    · rw [Kernel.final_3 m _ _ c rfl rfl]
      refine (Cert.BInFwdRefIdeal.Read.val_main_v14_eq _ _).trans ?_
      funext i
      obtain ⟨r, k, rfl⟩ : ∃ r k, i = ValueIdx.ix2 r k := ⟨i 0, i 1, ValueIdx.eq_ix2 i⟩
      exact Ref.ref_h _ _ r k
    · rw [Kernel.final_4 m _ _ _ c rfl rfl rfl]
      refine (Cert.BInFwdRefIdeal.Read.val_main_v24_eq _ _ _).trans ?_
      funext i
      obtain ⟨a, r, k, rfl⟩ : ∃ a r k, i = ValueIdx.ix3 a r k := ⟨i 0, i 1, i 2, ValueIdx.eq_ix3 i⟩
      refine (Ref.ref_p _ _ _ a r k).trans ?_
      first | rfl | (rw [e2]; rfl)

/-- The reference keeps its arguments; it declares no counter. -/
theorem ref_frame : quiescent_BInFwdRefIdeal (hBInFwdRefIdeal := Cert.BInFwdRefIdeal.Gen.facts) := fun m g _ =>
  (θ_run Cert.BInFwdRefIdeal.defs _ _).mono (fun r h => ⟨fun c => (h c).2.2, sem_eq_zero_of_no_sems (by decide) r.2⟩)
    (Cert.BInFwdRefIdeal.Value.run (F := Ideal) m g)

end Cert.BInFwd

end

end
-- ==== Proof.COutFwd.lean ====
module
public import proofs.«01_k».proof.Defs
public import proofs.«01_k».proof.Proof.Gen.COutFwdRefIdeal
public import proofs.«01_k».proof.Proof.COutRef
public import proofs.«01_k».proof.Proof.Gen.COutFwd.Frame
public import proofs.«01_k».proof.Proof.Gen.COutFwdIdeal.Frame
public import proofs.«01_k».proof.Proof.Gen.COutFwdIdeal.Value
public import proofs.«01_k».proof.Proof.Gen.COutFwdRefIdeal.Run
public import proofs.«01_k».proof.Proof.Gen.COutFwdRefIdeal.Read
public import Idealize.ShloMosaic.Lib.StableHlo.RunRead
public import Idealize.ShloMosaic.Lib.Claim
public import Idealize.ShloMosaic.Adequacy
public import Idealize.ShloMosaic.Init

/-! The kernel of the pooling mixer's output beside its reference. -/

@[expose] public section

set_option maxRecDepth 16384

noncomputable section

open Idealize.ShloMosaic Idealize.ShloMosaic.TcCoe Idealize.SL.Sem
open Idealize.ShloMosaic.Pipeline (Dat)

namespace Cert.COutFwd.Ref
open Cert.COutFwdRefIdeal Cert.COutFwdRefIdeal.Read Cert.Common
open Cert.COut (grp chn colOf mixed)

variable (d : S2x2048x4x256.Idx → EReal) (wg : S4x256x256.Idx → EReal) (sc : S1024.Idx → EReal)
  (wo : S1024x1024.Idx → EReal) (x : S2x2048x1024.Idx → EReal)

/-- The grouped map with its scale, and the output with the input added. -/
def yy (r : Fin 4096) (k : Fin 1024) : EReal := mixed d wg r k * sc (ix1 k)
def oo (r : Fin 4096) (k : Fin 1024) : EReal := x (ix3 (ep r) (fr r) k) + ∑ j, yy d wg sc r j * wo (ix2 j k)

/-- The scaled map inside the reference. -/
theorem mid_y (r : Fin 4096) (k : Fin 1024) : val_main_v5 (F := Ideal) d wg sc (ix3 (ep r) (fr r) k) = yy d wg sc r k := by
  pointwise [val_main_v0, val_main_v1, val_main_v2, val_main_v3, val_main_v4, val_main_v5]
  refine congrArg (· * _) (Finset.sum_congr rfl fun a _ => mul_comm _ _)

/-- The reference's first result. -/
theorem ref_y (r : Fin 4096) (k : Fin 1024) : val_main_v7 (F := Ideal) d wg sc (ix2 r k) = yy d wg sc r k := by
  pointwise [val_main_v6, val_main_v7]
  exact mid_y d wg sc r k

/-- The reference's second result. -/
theorem ref_o (r : Fin 4096) (k : Fin 1024) : val_main_v10 (F := Ideal) d wg sc wo x (ix2 r k) = oo d wg sc wo x r k := by
  have hy := mid_y d wg sc r
  unfold ep fr at hy
  pointwise [val_main_v8, val_main_v9, val_main_v10]
  simp only [hy]
  rfl

end Cert.COutFwd.Ref

namespace Cert.COutFwd.Kernel
open Cert.COutFwdIdeal Cert.COutFwdIdeal.Gen Cert.Common Cert.COutFwd.Ref
open Cert.COut (grp chn colOf mixed)

variable (m : (ℓ : Loc nD τ sig) → Buf (Elt Ideal) ℓ)

/-- Which block each window reads or writes at a grid point. -/
theorem idx_val : ∀ t : Fin cfg0.N, COutFwdIdeal.win0_0.index t = ![t.val, 0] ∧ COutFwdIdeal.win0_1.index t = ![t.val, 0]
    ∧ COutFwdIdeal.win0_2.index t = ![t.val, 0] ∧ COutFwdIdeal.win0_3.index t = ![t.val, 0] ∧ COutFwdIdeal.win0_4.index t = ![0, 0, 0]
    ∧ COutFwdIdeal.win0_5.index t = ![0, 0] ∧ COutFwdIdeal.win0_6.index t = ![0, 0] ∧ COutFwdIdeal.win0_7.index t = ![t.val, 0]
    ∧ COutFwdIdeal.win0_8.index t = ![t.val, 0] ∧ COutFwdIdeal.win0_9.index t = ![t.val, 0] :=
  (by decide +kernel : ∀ t : Fin grid0.N, _)

variable (d : S2x2048x4x256.Idx → EReal) (wg : S4x256x256.Idx → EReal) (sc : S1024.Idx → EReal)
  (wo : S1024x1024.Idx → EReal) (x : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The four groups of the pooled rows, the group maps, the scale, the output weights and the input rows. -/
theorem blk0 (c : Dev nD) (t : Fin cfg0.N) (h : m ((c : Thread nD τ).loc main_arg0) = d) (q : Fin 512) (a : Fin 256) :
    iblk m c 0 t (ix2 q a) = d (ix4 (ep (at_ t q)) (fr (at_ t q)) 0 a) := by
  subst h
  blk_point [iblk, V, idx_val t] <;> simp only [at_, row, ep, fr] <;> omega

theorem blk1 (c : Dev nD) (t : Fin cfg0.N) (h : m ((c : Thread nD τ).loc main_arg0) = d) (q : Fin 512) (a : Fin 256) :
    iblk m c 1 t (ix2 q a) = d (ix4 (ep (at_ t q)) (fr (at_ t q)) 1 a) := by
  subst h
  blk_point [iblk, V, idx_val t] <;> simp only [at_, row, ep, fr] <;> omega

theorem blk2 (c : Dev nD) (t : Fin cfg0.N) (h : m ((c : Thread nD τ).loc main_arg0) = d) (q : Fin 512) (a : Fin 256) :
    iblk m c 2 t (ix2 q a) = d (ix4 (ep (at_ t q)) (fr (at_ t q)) 2 a) := by
  subst h
  blk_point [iblk, V, idx_val t] <;> simp only [at_, row, ep, fr] <;> omega

theorem blk3 (c : Dev nD) (t : Fin cfg0.N) (h : m ((c : Thread nD τ).loc main_arg0) = d) (q : Fin 512) (a : Fin 256) :
    iblk m c 3 t (ix2 q a) = d (ix4 (ep (at_ t q)) (fr (at_ t q)) 3 a) := by
  subst h
  blk_point [iblk, V, idx_val t] <;> simp only [at_, row, ep, fr] <;> omega

theorem blk4 (c : Dev nD) (t : Fin cfg0.N) (h : m ((c : Thread nD τ).loc main_arg1) = wg) (g : Fin 4) (a b : Fin 256) :
    iblk m c 4 t (ix3 g a b) = wg (ix3 g a b) := by
  subst h
  blk_point [iblk, V, idx_val t]

theorem blk5 (c : Dev nD) (t : Fin cfg0.N) (h : m ((c : Thread nD τ).loc main_arg2) = sc) (k : Fin 1024) :
    iblk m c 5 t (ix2 0 k) = sc (ix1 k) := by
  subst h
  blk_point [iblk, V, idx_val t]

theorem blk6 (c : Dev nD) (t : Fin cfg0.N) (h : m ((c : Thread nD τ).loc main_arg3) = wo) (k o : Fin 1024) :
    iblk m c 6 t (ix2 k o) = wo (ix2 k o) := by
  subst h
  blk_point [iblk, V, idx_val t]

theorem blk7 (c : Dev nD) (t : Fin cfg0.N) (h : m ((c : Thread nD τ).loc main_arg4) = x) (q : Fin 512) (k : Fin 1024) :
    iblk m c 7 t (ix2 q k) = x (ix3 (ep (at_ t q)) (fr (at_ t q)) k) := by
  subst h
  blk_point [iblk, V, idx_val t] <;> simp only [at_, row, ep, fr] <;> omega

/-- The four groups' maps side by side. -/
theorem four (r : Fin 4096) (j : Fin 1024) :
    (if h : j.val < 256 then ∑ a, d (ix4 (ep r) (fr r) 0 a) * wg (ix3 0 a ⟨j.val, h⟩)
      else if h' : j.val - 256 < 256 then ∑ a, d (ix4 (ep r) (fr r) 1 a) * wg (ix3 1 a ⟨j.val - 256, h'⟩)
      else if h'' : j.val - 256 - 256 < 256 then ∑ a, d (ix4 (ep r) (fr r) 2 a) * wg (ix3 2 a ⟨j.val - 256 - 256, h''⟩)
      else ∑ a, d (ix4 (ep r) (fr r) 3 a) * wg (ix3 3 a ⟨j.val - 256 - 256 - 256, by omega⟩)) = mixed d wg r j := by
  have key : ∀ (g : Fin 4) (b : Fin 256), j.val = 256 * g.val + b.val →
      (∑ a, d (ix4 (ep r) (fr r) g a) * wg (ix3 g a b)) = mixed d wg r j := by
    intro g b h
    have e1 : grp j = g := Fin.ext (by simp only [grp]; omega)
    have e2 : chn j = b := Fin.ext (by simp only [chn]; omega)
    unfold mixed
    rw [e1, e2]
  split_ifs
  · exact key 0 _ (by simp)
  · exact key 1 _ (by simp; omega)
  · exact key 2 _ (by simp; omega)
  · exact key 3 _ (by simp; omega)

/-- The first output's block at a point. -/
theorem point_8 (c : Dev nD) (hd : m ((c : Thread nD τ).loc main_arg0) = d) (hw : m ((c : Thread nD τ).loc main_arg1) = wg)
    (hs : m ((c : Thread nD τ).loc main_arg2) = sc) (t : Fin cfg0.N) (q : Fin 512) (j : Fin 1024) :
    out0_8 (iblk m c 0 t) (iblk m c 1 t) (iblk m c 2 t) (iblk m c 3 t) (iblk m c 4 t) (iblk m c 5 t) (iblk m c 6 t) (iblk m c 7 t) (ix2 q j)
      = yy d wg sc (at_ t q) j := by
  have h0 := blk0 m d c t hd
  have h1 := blk1 m d c t hd
  have h2 := blk2 m d c t hd
  have h3 := blk3 m d c t hd
  have h4 := blk4 m wg c t hw
  have h5 := blk5 m sc c t hs
  frame_out
  generalize iblk m c 0 t = P0 at h0 ⊢
  generalize iblk m c 1 t = P1 at h1 ⊢
  generalize iblk m c 2 t = P2 at h2 ⊢
  generalize iblk m c 3 t = P3 at h3 ⊢
  generalize iblk m c 4 t = P4 at h4 ⊢
  generalize iblk m c 5 t = P5 at h5 ⊢
  pointwise [k0_pay2]
  simp only [h0, h1, h2, h3, h4, h5]
  exact congrArg (· * _) (four d wg (at_ t q) j)

set_option maxHeartbeats 2000000 in
/-- The second output's block at a point. -/
theorem point_9 (c : Dev nD) (hd : m ((c : Thread nD τ).loc main_arg0) = d) (hw : m ((c : Thread nD τ).loc main_arg1) = wg)
    (hs : m ((c : Thread nD τ).loc main_arg2) = sc) (ho : m ((c : Thread nD τ).loc main_arg3) = wo) (hx : m ((c : Thread nD τ).loc main_arg4) = x)
    (t : Fin cfg0.N) (q : Fin 512) (j : Fin 1024) :
    out0_9 (iblk m c 0 t) (iblk m c 1 t) (iblk m c 2 t) (iblk m c 3 t) (iblk m c 4 t) (iblk m c 5 t) (iblk m c 6 t) (iblk m c 7 t) (ix2 q j)
      = oo d wg sc wo x (at_ t q) j := by
  have hy := point_8 m d wg sc c hd hw hs t
  have h6 := blk6 m wo c t ho
  have h7 := blk7 m x c t hx
  unfold out0_8 at hy
  rw [View.canon_unit_zero (by funext a; fin_cases a <;> rfl)] at hy
  unfold out0_9
  rw [View.canon_unit_zero (by funext a; fin_cases a <;> rfl)]
  generalize k0_pay2 (F := Ideal) _ _ _ _ _ _ _ _ _ = N at hy ⊢
  generalize iblk m c 6 t = P6 at h6 ⊢
  generalize iblk m c 7 t = P7 at h7 ⊢
  pointwise [k0_pay1]
  simp only [hy, h6, h7]
  rfl

/-- The first result array after the run. -/
theorem final_8 (c : Dev nD) (hd : m ((c : Thread nD τ).loc main_arg0) = d) (hw : m ((c : Thread nD τ).loc main_arg1) = wg)
    (hs : m ((c : Thread nD τ).loc main_arg2) = sc) : (dats m 0 c).arrAt 8 cfg0.N = fun y => yy d wg sc (y 0) (y 1) := by
  refine (dats m 0 c).arrAt_eq_of_covers 8 _ (by decide +kernel) fun t hf y => ?_
  obtain ⟨q, k, rfl⟩ : ∃ (q : Fin 512) (k : Fin 1024), y = ix2 q k := ⟨y 0, y 1, eq_ix2 y⟩
  blk_simp
  rw [after0_8, point_8 m d wg sc c hd hw hs t q k]
  congr 1 <;> apply Fin.ext <;> simp only [at_, row] <;> blk_simp [idx_val t] <;> (try simp) <;> omega

/-- The second result array after the run. -/
theorem final_9 (c : Dev nD) (hd : m ((c : Thread nD τ).loc main_arg0) = d) (hw : m ((c : Thread nD τ).loc main_arg1) = wg)
    (hs : m ((c : Thread nD τ).loc main_arg2) = sc) (ho : m ((c : Thread nD τ).loc main_arg3) = wo) (hx : m ((c : Thread nD τ).loc main_arg4) = x) :
    (dats m 0 c).arrAt 9 cfg0.N = fun y => oo d wg sc wo x (y 0) (y 1) := by
  refine (dats m 0 c).arrAt_eq_of_covers 9 _ (by decide +kernel) fun t hf y => ?_
  obtain ⟨q, k, rfl⟩ : ∃ (q : Fin 512) (k : Fin 1024), y = ix2 q k := ⟨y 0, y 1, eq_ix2 y⟩
  blk_simp
  rw [after0_9, point_9 m d wg sc wo x c hd hw hs ho hx t q k]
  congr 1 <;> apply Fin.ext <;> simp only [at_, row] <;> blk_simp [idx_val t] <;> (try simp) <;> omega

end Cert.COutFwd.Kernel

namespace Cert.COutFwd

open Idealize.ShloMosaic.StableHlo

set_option maxHeartbeats 1000000 in
/-- The kernel and its reference leave the same arrays. -/
theorem values : algebraic_COutFwdIdeal_COutFwdRefIdeal (hCOutFwdIdeal := Cert.COutFwdIdeal.Gen.facts)
    (hCOutFwdRefIdeal := Cert.COutFwdRefIdeal.Gen.facts) := by
  pair_intro
  · run_from Cert.COutFwdIdeal.Value.run_blocks m g
  · run_from Cert.COutFwdRefIdeal.Value.run m' g'
    all_goals
      obtain ⟨e0, e1, e2, e3, e4⟩ := hagree c
    · rw [Kernel.final_8 m _ _ _ c rfl rfl rfl]
      refine (Cert.COutFwdRefIdeal.Read.val_main_v7_eq _ _ _).trans ?_
      funext i
      obtain ⟨r, k, rfl⟩ : ∃ r k, i = ValueIdx.ix2 r k := ⟨i 0, i 1, ValueIdx.eq_ix2 i⟩
      exact Ref.ref_y _ _ _ r k
    · rw [Kernel.final_9 m _ _ _ _ _ c rfl rfl rfl rfl rfl]
      refine (Cert.COutFwdRefIdeal.Read.val_main_v10_eq _ _ _ _ _).trans ?_
      funext i
      obtain ⟨r, k, rfl⟩ : ∃ r k, i = ValueIdx.ix2 r k := ⟨i 0, i 1, ValueIdx.eq_ix2 i⟩
      exact Ref.ref_o _ _ _ _ _ r k

/-- The reference keeps its arguments; it declares no counter. -/
theorem ref_frame : quiescent_COutFwdRefIdeal (hCOutFwdRefIdeal := Cert.COutFwdRefIdeal.Gen.facts) := fun m g _ =>
  (θ_run Cert.COutFwdRefIdeal.defs _ _).mono (fun r h => ⟨fun c => (h c).2.2, sem_eq_zero_of_no_sems (by decide) r.2⟩)
    (Cert.COutFwdRefIdeal.Value.run (F := Ideal) m g)

end Cert.COutFwd

end

end
-- ==== Proof.CInFwd.lean ====
module
public import proofs.«01_k».proof.Defs
public import proofs.«01_k».proof.Proof.Gen.CInFwdRefIdeal
public import proofs.«01_k».proof.Proof.Swiglu
public import proofs.«01_k».proof.Proof.Gen.CInFwd.Frame
public import proofs.«01_k».proof.Proof.Gen.CInFwdIdeal.Frame
public import proofs.«01_k».proof.Proof.Gen.CInFwdIdeal.Value
public import proofs.«01_k».proof.Proof.Gen.CInFwdRefIdeal.Run
public import proofs.«01_k».proof.Proof.Gen.CInFwdRefIdeal.Read
public import Idealize.ShloMosaic.Lib.StableHlo.RunRead
public import Idealize.ShloMosaic.Lib.Claim
public import Idealize.ShloMosaic.Adequacy
public import Idealize.ShloMosaic.Init

/-! The kernel of the pooling mixer's input norm and projection beside its reference. -/

@[expose] public section

set_option maxRecDepth 16384

noncomputable section

open Idealize.ShloMosaic Idealize.ShloMosaic.TcCoe Idealize.SL.Sem
open Idealize.ShloMosaic.Pipeline (Dat)

namespace Cert.CInFwd.Ref
open Cert.CInFwdRefIdeal Cert.CInFwdRefIdeal.Read Cert.Common Cert.InProj Cert.Norm
open Cert.Swiglu (nrm)

variable (x : S2x2048x1024.Idx → EReal) (g : S1024.Idx → EReal) (w : S1024x1024.Idx → EReal)

/-- The projection of the normalised row. -/
def proj (r : Fin 4096) (j : Fin 1024) : EReal := ∑ k, nrm x g r k * w (ix2 k j)

/-- The normalised input inside the reference. -/
theorem mid_h (r : Fin 4096) (k : Fin 1024) : val_main_v12 (F := Ideal) x g (ix3 (ep r) (fr r) k) = nrm x g r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rfl

/-- The reference's first result. -/
theorem ref_h (r : Fin 4096) (k : Fin 1024) : val_main_v14 (F := Ideal) x g (ix2 r k) = nrm x g r k := by
  pointwise [val_main_v13, val_main_v14]
  exact mid_h x g r k

/-- The reference's second result. -/
theorem ref_p (i : Fin 1) (r : Fin 4096) (j : Fin 1024) : val_main_v17 (F := Ideal) x g w (ix3 i r j) = proj x g w r j := by
  have hh := mid_h x g r
  unfold ep fr at hh
  pointwise [val_main_v15, val_main_v16, val_main_v17]
  simp only [hh]
  rfl

end Cert.CInFwd.Ref

namespace Cert.CInFwd.Kernel
open Cert.CInFwdIdeal Cert.CInFwdIdeal.Gen Cert.Common Cert.InProj Cert.Norm Cert.CInFwd.Ref
open Cert.Swiglu (nrm)

variable (m : (ℓ : Loc nD τ sig) → Buf (Elt Ideal) ℓ)

/-- Which block each window reads or writes at a grid point. -/
theorem idx_val : ∀ t : Fin cfg0.N, CInFwdIdeal.win0_0.index t = ![t.val, 0] ∧ CInFwdIdeal.win0_1.index t = ![0, 0]
    ∧ CInFwdIdeal.win0_2.index t = ![0, 0, 0] ∧ CInFwdIdeal.win0_3.index t = ![t.val, 0] ∧ CInFwdIdeal.win0_4.index t = ![0, t.val, 0] :=
  (by decide +kernel : ∀ t : Fin grid0.N, _)

variable (x : S2x2048x1024.Idx → EReal) (g : S1024.Idx → EReal) (w : S1024x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

/-- The input's rows as the kernel finds them. -/
theorem entry_x (c : Dev nD) (h : m ((c : Thread nD τ).loc main_arg0) = x) (r : Fin 4096) (k : Fin 1024) :
    (V m c main_v0 : S4096x1024.Idx → EReal) (ix2 r k) = xrow x r k := by
  have h0 : V m c main_v0 = (shapeCast S4096x1024 x shapeCasts_S2x2048x1024_S4096x1024 : S4096x1024.Idx → EReal) := by
    subst h; unfold V; unfold hostOps0; after_reads_simp; rfl
  rw [h0]
  pointwise
  rfl

theorem blk0 (c : Dev nD) (t : Fin cfg0.N) (h : m ((c : Thread nD τ).loc main_arg0) = x) (q : Fin 512) (k : Fin 1024) :
    iblk m c 0 t (ix2 q k) = xrow x (at_ t q) k := by
  rw [← entry_x m x c h]
  blk_simp [iblk]
  refine congrArg _ ?_
  funext b
  apply Fin.ext
  fin_cases b <;> blk_simp [idx_val t] <;> simp only [at_, row] <;> (try simp) <;> (try omega)

/-- The gain and the weights. -/
theorem blk1 (c : Dev nD) (t : Fin cfg0.N) (h : m ((c : Thread nD τ).loc main_arg1) = g) (k : Fin 1024) :
    iblk m c 1 t (ix2 0 k) = gain g k := by
  subst h
  unfold gain
  blk_point [iblk, V, idx_val t]

theorem blk2 (c : Dev nD) (t : Fin cfg0.N) (h : m ((c : Thread nD τ).loc main_arg2) = w) (i : Fin 1) (k j : Fin 1024) :
    iblk m c 2 t (ix3 i k j) = w (ix2 k j) := by
  subst h
  blk_point [iblk, V, idx_val t]

/-- The first output's block at a point. -/
theorem point_3 (c : Dev nD) (hx : m ((c : Thread nD τ).loc main_arg0) = x) (hg : m ((c : Thread nD τ).loc main_arg1) = g)
    (t : Fin cfg0.N) (q : Fin 512) (k : Fin 1024) :
    out0_3 (iblk m c 0 t) (iblk m c 1 t) (iblk m c 2 t) (ix2 q k) = nrm x g (at_ t q) k := by
  have h0 := blk0 m x c t hx
  have h1 := blk1 m g c t hg
  frame_out
  generalize iblk m c 0 t = P0 at h0 ⊢
  generalize iblk m c 1 t = P1 at h1 ⊢
  pointwise [k0_pay1]
  simp only [h0, h1]
  rfl

/-- The second output's block at a point. -/
theorem point_4 (c : Dev nD) (hx : m ((c : Thread nD τ).loc main_arg0) = x) (hg : m ((c : Thread nD τ).loc main_arg1) = g)
    (hw : m ((c : Thread nD τ).loc main_arg2) = w) (t : Fin cfg0.N) (i : Fin 1) (q : Fin 512) (j : Fin 1024) :
    out0_4 (iblk m c 0 t) (iblk m c 1 t) (iblk m c 2 t) (ix3 i q j) = proj x g w (at_ t q) j := by
  have h0 := blk0 m x c t hx
  have h1 := blk1 m g c t hg
  have h2 := blk2 m w c t hw
  frame_out
  generalize iblk m c 0 t = P0 at h0 ⊢
  generalize iblk m c 1 t = P1 at h1 ⊢
  generalize iblk m c 2 t = P2 at h2 ⊢
  pointwise [k0_pay1, k0_pay2]
  simp only [h0, h1, h2]
  rfl

/-- The first result array after the run. -/
theorem final_3 (c : Dev nD) (hx : m ((c : Thread nD τ).loc main_arg0) = x) (hg : m ((c : Thread nD τ).loc main_arg1) = g) :
    (dats m 0 c).arrAt 3 cfg0.N = fun y => nrm x g (y 0) (y 1) := by
  refine (dats m 0 c).arrAt_eq_of_covers 3 _ (by decide +kernel) fun t hf y => ?_
  obtain ⟨q, k, rfl⟩ : ∃ (q : Fin 512) (k : Fin 1024), y = ix2 q k := ⟨y 0, y 1, eq_ix2 y⟩
  blk_simp
  rw [after0_3, point_3 m x g c hx hg t q k]
  congr 1 <;> apply Fin.ext <;> simp only [at_, row] <;> blk_simp [idx_val t] <;> (try simp) <;> omega

/-- The second result array after the run. -/
theorem final_4 (c : Dev nD) (hx : m ((c : Thread nD τ).loc main_arg0) = x) (hg : m ((c : Thread nD τ).loc main_arg1) = g)
    (hw : m ((c : Thread nD τ).loc main_arg2) = w) :
    (dats m 0 c).arrAt 4 cfg0.N = fun y => proj x g w (y 1) (y 2) := by
  refine (dats m 0 c).arrAt_eq_of_covers 4 _ (by decide +kernel) fun t hf y => ?_
  obtain ⟨i, q, k, rfl⟩ : ∃ (i : Fin 1) (q : Fin 512) (k : Fin 1024), y = ix3 i q k := ⟨y 0, y 1, y 2, eq_ix3 y⟩
  blk_simp
  rw [after0_4, point_4 m x g w c hx hg hw t i q k]
  congr 1 <;> apply Fin.ext <;> simp only [at_, row] <;> blk_simp [idx_val t] <;> (try simp) <;> omega

end Cert.CInFwd.Kernel

namespace Cert.CInFwd

open Idealize.ShloMosaic.StableHlo Cert.InProj

set_option maxHeartbeats 1000000 in
/-- The kernel and its reference leave the same arrays. -/
theorem values : algebraic_CInFwdIdeal_CInFwdRefIdeal (hCInFwdIdeal := Cert.CInFwdIdeal.Gen.facts)
    (hCInFwdRefIdeal := Cert.CInFwdRefIdeal.Gen.facts) := by
  pair_intro
  · run_from Cert.CInFwdIdeal.Value.run_blocks m g
  · run_from Cert.CInFwdRefIdeal.Value.run m' g'
    all_goals
      obtain ⟨e0, e1, e2⟩ := hagree c
    · rw [Kernel.final_3 m _ _ c rfl rfl]
      refine (Cert.CInFwdRefIdeal.Read.val_main_v14_eq _ _).trans ?_
      funext i
      obtain ⟨r, k, rfl⟩ : ∃ r k, i = ValueIdx.ix2 r k := ⟨i 0, i 1, ValueIdx.eq_ix2 i⟩
      exact Ref.ref_h _ _ r k
    · rw [Kernel.final_4 m _ _ _ c rfl rfl rfl]
      refine (Cert.CInFwdRefIdeal.Read.val_main_v17_eq _ _ _).trans ?_
      funext i
      obtain ⟨a, r, k, rfl⟩ : ∃ a r k, i = ValueIdx.ix3 a r k := ⟨i 0, i 1, i 2, ValueIdx.eq_ix3 i⟩
      exact Ref.ref_p _ _ _ a r k

/-- The reference keeps its arguments; it declares no counter. -/
theorem ref_frame : quiescent_CInFwdRefIdeal (hCInFwdRefIdeal := Cert.CInFwdRefIdeal.Gen.facts) := fun m g _ =>
  (θ_run Cert.CInFwdRefIdeal.defs _ _).mono (fun r h => ⟨fun c => (h c).2.2, sem_eq_zero_of_no_sems (by decide) r.2⟩)
    (Cert.CInFwdRefIdeal.Value.run (F := Ideal) m g)

end Cert.CInFwd

end

end
-- ==== Proof.AdamW.lean ====
module
public import proofs.«01_k».proof.Defs
public import proofs.«01_k».proof.Proof.Gen.AdamWRefIdeal
public import proofs.«01_k».proof.Proof.InProj
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.StableHlo.RunRead
public import Idealize.ShloMosaic.Lib.Claim
public import Idealize.ShloMosaic.Adequacy
public import Idealize.ShloMosaic.Init

/-! The optimiser's kernel, at the spatial gating weights, beside its reference. -/

@[expose] public section

set_option maxRecDepth 16384

noncomputable section

open Idealize.ShloMosaic Idealize.ShloMosaic.TcCoe Idealize.SL.Sem
open Idealize.ShloMosaic.Pipeline (Dat)

namespace Cert.AdamW
open Cert.Common

/-- An array of rows, as the parameter's own four axes hold it. -/
def flat (x : (⟨4, ![2, 8, 128, 128]⟩ : Shape).Idx → EReal) (r : Fin 2048) (k : Fin 128) : EReal :=
  x (ix4 ⟨r.val / 1024, by omega⟩ ⟨r.val / 128 % 8, by omega⟩ ⟨r.val % 128, by omega⟩ k)

/-- The moments and the step of one entry: decay, bias correction, the quotient and the weight's own decay. -/
def mom (m g : EReal) : EReal := Ideal.ofBits .f32 0x3F666666#32 * m + Ideal.ofBits .f32 0x3DCCCCCD#32 * g
def sq (v g : EReal) : EReal := Ideal.ofBits .f32 0x3F7FBE77#32 * v + Ideal.ofBits .f32 0x3A83126F#32 * (g * g)
def move (w g m v : EReal) : EReal :=
  Ideal.ofBits .f32 0xBA83126F#32 * (Ideal.div (Ideal.div (mom m g) (Ideal.ofBits .f32 0x3F26BD02#32))
    (Ideal.sqrt (Ideal.div (sq v g) (Ideal.ofBits .f32 0x3C231ACC#32)) + Ideal.ofBits .f32 0x322BCC77#32)
    + Ideal.ofBits .f32 0x3C23D70A#32 * w)

end Cert.AdamW

namespace Cert.AdamW.Ref
open Cert.AdamWRefIdeal Cert.AdamWRefIdeal.Read Cert.Common

variable (w g m v : S2x8x128x128.Idx → EReal)

/-- The entry of the four axes that an entry of the rows is. -/
theorem idx_eq (x : S2x8x128x128.Idx → EReal) (r : Fin 2048) (k : Fin 128) : x (idx_main_v24 (ix2 r k)) = flat x r k := by
  unfold flat
  refine congrArg x (funext fun a => Fin.ext ?_)
  match a with
  | ⟨0, _⟩ => show (r.val * 128 + k.val) / 131072 = r.val / 1024; omega
  | ⟨1, _⟩ => show (r.val * 128 + k.val) / 16384 % 8 = r.val / 128 % 8; omega
  | ⟨2, _⟩ => show (r.val * 128 + k.val) / 128 % 128 = r.val % 128; omega
  | ⟨3, _⟩ => show (r.val * 128 + k.val) % 128 = k.val; omega

/-- What the reference returns. -/
theorem ref_m (r : Fin 2048) (k : Fin 128) : val_main_v25 (F := Ideal) g m (ix2 r k) = mom (flat m r k) (flat g r k) := by
  rw [← idx_eq m, ← idx_eq g, val_main_v25_apply]
  rfl

theorem ref_v (r : Fin 2048) (k : Fin 128) : val_main_v26 (F := Ideal) g v (ix2 r k) = sq (flat v r k) (flat g r k) := by
  rw [← idx_eq v, ← idx_eq g, val_main_v26_apply]
  rfl

theorem ref_d (r : Fin 2048) (k : Fin 128) :
    val_main_v24 (F := Ideal) w g m v (ix2 r k) = move (flat w r k) (flat g r k) (flat m r k) (flat v r k) := by
  rw [← idx_eq w, ← idx_eq g, ← idx_eq m, ← idx_eq v, val_main_v24_apply]
  rfl

end Cert.AdamW.Ref

namespace Cert.AdamW.Kernel
open Cert.AdamWIdeal Cert.AdamWIdeal.Gen Cert.Common

variable (m : (ℓ : Loc nD τ sig) → Buf (Elt Ideal) ℓ)

/-- Every window reads or writes the same rows at a grid point. -/
theorem idx_val : ∀ t : Fin cfg0.N, AdamWIdeal.win0_0.index t = ![t.val, 0] ∧ AdamWIdeal.win0_1.index t = ![t.val, 0]
    ∧ AdamWIdeal.win0_2.index t = ![t.val, 0] ∧ AdamWIdeal.win0_3.index t = ![t.val, 0] ∧ AdamWIdeal.win0_4.index t = ![t.val, 0]
    ∧ AdamWIdeal.win0_5.index t = ![t.val, 0] ∧ AdamWIdeal.win0_6.index t = ![t.val, 0] :=
  (by decide +kernel : ∀ t : Fin grid0.N, _)

/-- There are four grid points. -/
theorem lt4 (t : Fin cfg0.N) : t.val < 4 := lt_of_lt_of_eq t.isLt (show cfg0.N = 4 from N_0)

/-- The row of the whole array that row `q` of the point's block is. -/
def at_ (t : Fin cfg0.N) (q : Fin 512) : Fin 2048 := ⟨512 * t.val + q.val, by have := lt4 t; omega⟩

variable (x w g n v : S2x8x128x128.Idx → EReal)

theorem blk0 (c : Dev nD) (t : Fin cfg0.N) (h : m ((c : Thread nD τ).loc main_arg0) = x) (q : Fin 512) (k : Fin 128) :
    iblk m c 0 t (ix2 q k) = flat x (at_ t q) k := by
  subst h
  unfold flat
  blk_point [iblk, V, idx_val t] <;> simp only [at_] <;> omega

theorem blk1 (c : Dev nD) (t : Fin cfg0.N) (h : m ((c : Thread nD τ).loc main_arg1) = x) (q : Fin 512) (k : Fin 128) :
    iblk m c 1 t (ix2 q k) = flat x (at_ t q) k := by
  subst h
  unfold flat
  blk_point [iblk, V, idx_val t] <;> simp only [at_] <;> omega

theorem blk2 (c : Dev nD) (t : Fin cfg0.N) (h : m ((c : Thread nD τ).loc main_arg2) = x) (q : Fin 512) (k : Fin 128) :
    iblk m c 2 t (ix2 q k) = flat x (at_ t q) k := by
  subst h
  unfold flat
  blk_point [iblk, V, idx_val t] <;> simp only [at_] <;> omega

theorem blk3 (c : Dev nD) (t : Fin cfg0.N) (h : m ((c : Thread nD τ).loc main_arg3) = x) (q : Fin 512) (k : Fin 128) :
    iblk m c 3 t (ix2 q k) = flat x (at_ t q) k := by
  subst h
  unfold flat
  blk_point [iblk, V, idx_val t] <;> simp only [at_] <;> omega

/-- The blocks a point leaves. -/
theorem point_4 (c : Dev nD) (hw : m ((c : Thread nD τ).loc main_arg0) = w) (hg : m ((c : Thread nD τ).loc main_arg1) = g)
    (hn : m ((c : Thread nD τ).loc main_arg2) = n) (hv : m ((c : Thread nD τ).loc main_arg3) = v) (t : Fin cfg0.N) (q : Fin 512) (k : Fin 128) :
    out0_4 (iblk m c 0 t) (iblk m c 1 t) (iblk m c 2 t) (iblk m c 3 t) (ix2 q k)
      = move (flat w (at_ t q) k) (flat g (at_ t q) k) (flat n (at_ t q) k) (flat v (at_ t q) k) := by
  rw [← blk0 m w c t hw, ← blk1 m g c t hg, ← blk2 m n c t hn, ← blk3 m v c t hv]
  generalize iblk m c 0 t = P0
  generalize iblk m c 1 t = P1
  generalize iblk m c 2 t = P2
  generalize iblk m c 3 t = P3
  frame_out
  pointwise [k0_pay4, k0_pay3, k0_pay2, k0_pay1]
  rfl

theorem point_5 (c : Dev nD) (hg : m ((c : Thread nD τ).loc main_arg1) = g) (hn : m ((c : Thread nD τ).loc main_arg2) = n)
    (t : Fin cfg0.N) (q : Fin 512) (k : Fin 128) :
    out0_5 (iblk m c 0 t) (iblk m c 1 t) (iblk m c 2 t) (iblk m c 3 t) (ix2 q k) = mom (flat n (at_ t q) k) (flat g (at_ t q) k) := by
  rw [← blk1 m g c t hg, ← blk2 m n c t hn]
  generalize iblk m c 1 t = P1
  generalize iblk m c 2 t = P2
  frame_out
  pointwise [k0_pay2, k0_pay1]
  rfl

theorem point_6 (c : Dev nD) (hg : m ((c : Thread nD τ).loc main_arg1) = g) (hv : m ((c : Thread nD τ).loc main_arg3) = v)
    (t : Fin cfg0.N) (q : Fin 512) (k : Fin 128) :
    out0_6 (iblk m c 0 t) (iblk m c 1 t) (iblk m c 2 t) (iblk m c 3 t) (ix2 q k) = sq (flat v (at_ t q) k) (flat g (at_ t q) k) := by
  rw [← blk1 m g c t hg, ← blk3 m v c t hv]
  generalize iblk m c 1 t = P1
  generalize iblk m c 3 t = P3
  frame_out
  pointwise [k0_pay3, k0_pay1]
  rfl

/-- The result arrays after the run. -/
theorem final_4 (c : Dev nD) (hw : m ((c : Thread nD τ).loc main_arg0) = w) (hg : m ((c : Thread nD τ).loc main_arg1) = g)
    (hn : m ((c : Thread nD τ).loc main_arg2) = n) (hv : m ((c : Thread nD τ).loc main_arg3) = v) :
    (dats m 0 c).arrAt 4 cfg0.N = fun i => move (flat w (i 0) (i 1)) (flat g (i 0) (i 1)) (flat n (i 0) (i 1)) (flat v (i 0) (i 1)) := by
  refine (dats m 0 c).arrAt_eq_of_covers 4 _ (by decide +kernel) fun t hf i => ?_
  obtain ⟨q, k, rfl⟩ : ∃ (q : Fin 512) (k : Fin 128), i = ix2 q k := ⟨i 0, i 1, eq_ix2 i⟩
  blk_simp
  rw [after0_4, point_4 m w g n v c hw hg hn hv t q k]
  congr 2 <;> apply Fin.ext <;> simp only [at_] <;> blk_simp [idx_val t] <;> (try simp) <;> omega

theorem final_5 (c : Dev nD) (hg : m ((c : Thread nD τ).loc main_arg1) = g) (hn : m ((c : Thread nD τ).loc main_arg2) = n) :
    (dats m 0 c).arrAt 5 cfg0.N = fun i => mom (flat n (i 0) (i 1)) (flat g (i 0) (i 1)) := by
  refine (dats m 0 c).arrAt_eq_of_covers 5 _ (by decide +kernel) fun t hf i => ?_
  obtain ⟨q, k, rfl⟩ : ∃ (q : Fin 512) (k : Fin 128), i = ix2 q k := ⟨i 0, i 1, eq_ix2 i⟩
  blk_simp
  rw [after0_5, point_5 m g n c hg hn t q k]
  congr 2 <;> apply Fin.ext <;> simp only [at_] <;> blk_simp [idx_val t] <;> (try simp) <;> omega

theorem final_6 (c : Dev nD) (hg : m ((c : Thread nD τ).loc main_arg1) = g) (hv : m ((c : Thread nD τ).loc main_arg3) = v) :
    (dats m 0 c).arrAt 6 cfg0.N = fun i => sq (flat v (i 0) (i 1)) (flat g (i 0) (i 1)) := by
  refine (dats m 0 c).arrAt_eq_of_covers 6 _ (by decide +kernel) fun t hf i => ?_
  obtain ⟨q, k, rfl⟩ : ∃ (q : Fin 512) (k : Fin 128), i = ix2 q k := ⟨i 0, i 1, eq_ix2 i⟩
  blk_simp
  rw [after0_6, point_6 m g v c hg hv t q k]
  congr 2 <;> apply Fin.ext <;> simp only [at_] <;> blk_simp [idx_val t] <;> (try simp) <;> omega

end Cert.AdamW.Kernel

namespace Cert.AdamW

open Idealize.ShloMosaic.StableHlo

/-- The kernel and its reference leave the same arrays. -/
theorem values : algebraic_AdamWIdeal_AdamWRefIdeal (hAdamWIdeal := Cert.AdamWIdeal.Gen.facts)
    (hAdamWRefIdeal := Cert.AdamWRefIdeal.Gen.facts) := by
  pair_intro
  · run_from Cert.AdamWIdeal.Value.run_blocks m g
  · run_from Cert.AdamWRefIdeal.Value.run m' g'
    all_goals
      obtain ⟨e0, e1, e2, e3⟩ := hagree c
    · rw [Kernel.final_4 m _ _ _ _ c rfl rfl rfl rfl]
      refine (Cert.AdamWRefIdeal.Read.val_main_v24_eq _ _ _ _).trans ?_
      funext i
      obtain ⟨r, k, rfl⟩ : ∃ r k, i = ValueIdx.ix2 r k := ⟨i 0, i 1, ValueIdx.eq_ix2 i⟩
      exact Ref.ref_d _ _ _ _ r k
    · rw [Kernel.final_5 m _ _ c rfl rfl]
      refine (Cert.AdamWRefIdeal.Read.val_main_v25_eq _ _).trans ?_
      funext i
      obtain ⟨r, k, rfl⟩ : ∃ r k, i = ValueIdx.ix2 r k := ⟨i 0, i 1, ValueIdx.eq_ix2 i⟩
      exact Ref.ref_m _ _ r k
    · rw [Kernel.final_6 m _ _ c rfl rfl]
      refine (Cert.AdamWRefIdeal.Read.val_main_v26_eq _ _).trans ?_
      funext i
      obtain ⟨r, k, rfl⟩ : ∃ r k, i = ValueIdx.ix2 r k := ⟨i 0, i 1, ValueIdx.eq_ix2 i⟩
      exact Ref.ref_v _ _ r k

/-- The reference keeps its arguments; it declares no counter. -/
theorem ref_frame : quiescent_AdamWRefIdeal (hAdamWRefIdeal := Cert.AdamWRefIdeal.Gen.facts) := fun m g _ =>
  (θ_run Cert.AdamWRefIdeal.defs _ _).mono (fun r h => ⟨fun c => (h c).2.2.2, sem_eq_zero_of_no_sems (by decide) r.2⟩)
    (Cert.AdamWRefIdeal.Value.run (F := Ideal) m g)

end Cert.AdamW

end

end
-- ==== Proof.Swap.lean ====
/-
  `Swap`: two devices exchange their halves of three arrays (`swap_reduced`, one scalar-subcore kernel a device). Each
  sequencer tells its peer at the barrier semaphore that its results may be written, waits for the peer's word, copies its
  arguments into the peer's results, and waits until its own copies are out and the peer's have landed.

  Seven semaphore cells a device, one duty each (named 0): `snd` gives the sequencer an argument back, `rcv` a result at the
  peer's argument, `bar` the peer's three results to write into. A device owes its peer the unit on `bar` and each copy's
  credit on its `rcv`. The barrier semaphore is not scoped, so it is asked of the launch and handed back, at zero, with the results.
-/
module

public import proofs.«01_k».proof.Defs
public import proofs.«01_k».proof.Proof.Gen.Swap
public import proofs.«01_k».proof.Proof.Gen.SwapIdeal
public import proofs.«01_k».proof.Proof.Gen.SwapIdeal.Skeleton
public import proofs.«01_k».proof.Proof.Gen.SwapRefIdeal.Run
public import proofs.«01_k».proof.Proof.Gen.SwapRefIdeal.Read
public import Idealize.ShloMosaic.Lib.SparseCore.Quiescent
public import Idealize.ShloMosaic.Lib.Pipeline.Value
public import Idealize.ShloMosaic.Lib.StableHlo.Run
public import Idealize.ShloMosaic.Lib.Tactic

@[expose] public section

set_option Elab.async false

noncomputable section

namespace Cert.Proof.Swap

open Cert.SwapIdeal Cert.SwapIdeal.Gen
open Idealize.ShloMosaic
open Idealize.ShloMosaic.SparseCore (S V T)
open Idealize.ShloMosaic.SparseCore.Cfg (HIx Pay ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × UH

local notation "𝕄" => MT nD τ sig (HIx 1) (Elt F) ℕ UU ℕ

/-- The launch handshakes' rounds; -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- the kernel's. -/
def ER : Emb UH (MT nD τ sig (HIx 1) (Elt F) ℕ UU ℕ) :=
  (Emb.inr : Emb UH UU).trans (uEmb (nD := nD) (sig := sig) (Ix := HIx 1) (Val := Elt F) (Name := ℕ) (U := UU) (Lvl := ℕ)).toEmb
instance EH_landsIn : (EH : Emb UH 𝕄).LandsIn (upEmb : UEmb _ 𝕄) := by unfold EH; infer_instance
instance ER_landsIn : (ER : Emb UH 𝕄).LandsIn (upEmb : UEmb _ 𝕄) := by unfold ER; infer_instance

theorem ownU_split (a b : UH) : (ownU (a, b) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem emps {I : Type} (s : Finset I) : (bigSep s fun _ => iprop(emp)) = (iprop(emp) : sProp 𝕄) := bigSep_emp_const s

/-- What may be copied goes to every conjunct. -/
theorem bigSep_with {I : Type} [DecidableEq I] {R : sProp 𝕄} [BI.Persistent R] {Φ Ψ : I → sProp 𝕄} (h : ∀ i, iprop(R ∗ Φ i) ⊢ Ψ i) (s : Finset I) :
    iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

/-! ## The devices, the arrays, the cells -/

/-- The other device. -/
def peer (d : Dev nD) : Dev nD := ⟨1 - d.val, by show 1 - d.val < 2; omega⟩
theorem dev1_eq (d : Dev nD) : (⟨k0_dev1 d, k0_dev1_lt d⟩ : Dev nD) = peer d := Fin.ext (k0_dev1_eq d)
theorem dev2_eq (d : Dev nD) : (⟨k0_dev2 d, k0_dev2_lt d⟩ : Dev nD) = peer d := Fin.ext (k0_dev2_eq d)
theorem dev3_eq (d : Dev nD) : (⟨k0_dev3 d, k0_dev3_lt d⟩ : Dev nD) = peer d := Fin.ext (k0_dev3_eq d)
theorem dev4_eq (d : Dev nD) : (⟨k0_dev4 d, k0_dev4_lt d⟩ : Dev nD) = peer d := Fin.ext (k0_dev4_eq d)
theorem peer_peer (d : Dev nD) : peer (peer d) = d := by revert d; decide
theorem peer_inj : Function.Injective peer := fun a b h => by rw [← peer_peer a, h, peer_peer]
theorem image_peer : (Finset.univ : Finset (Dev nD)).image peer = Finset.univ := by decide
/-- A family over the devices is the same read at the peers. -/
theorem bigSep_peer (Φ : Dev nD → sProp 𝕄) : bigSep Finset.univ Φ = bigSep Finset.univ fun d => Φ (peer d) := by
  conv_lhs => rw [← image_peer]
  exact SparseCore.bigSep_image_of_injOn (fun a _ b _ e => peer_inj e) Φ

abbrev coordsS (c : Fin (grid0.bound 0)) : grid0.Coords := fun | 0 => c | ⟨_ + 1, h⟩ => absurd h (Nat.not_lt.2 (Nat.le_add_left _ _))
abbrev L₀ : grid0.Coords := coordsS ⟨0, by decide⟩
/-- SparseCore 0, as the kernel writes it. -/
abbrev c₀ : Fin τ.nSC := (L₀ 0).castLE hcore0

abbrev x0M : Memref sig .scScalar .hbm S352x1024 .f32 := Memref.whole main_arg0_scs
abbrev x1M : Memref sig .scScalar .hbm S352x1024 .f32 := Memref.whole main_arg1_scs
abbrev x2M : Memref sig .scScalar .hbm S352x1024 .f32 := Memref.whole main_arg2_scs
abbrev o0M : Memref sig .scScalar .hbm S352x1024 .f32 := Memref.whole main_v1_0_scs
abbrev o1M : Memref sig .scScalar .hbm S352x1024 .f32 := Memref.whole main_v1_1_scs
abbrev o2M : Memref sig .scScalar .hbm S352x1024 .f32 := Memref.whole main_v1_2_scs
abbrev x0Loc (d : Dev nD) : Loc nD τ sig := (SparseCore.T d).loc main_arg0
abbrev x1Loc (d : Dev nD) : Loc nD τ sig := (SparseCore.T d).loc main_arg1
abbrev x2Loc (d : Dev nD) : Loc nD τ sig := (SparseCore.T d).loc main_arg2
abbrev o0Loc (d : Dev nD) : Loc nD τ sig := (SparseCore.T d).loc main_v1_0
abbrev o1Loc (d : Dev nD) : Loc nD τ sig := (SparseCore.T d).loc main_v1_1
abbrev o2Loc (d : Dev nD) : Loc nD τ sig := (SparseCore.T d).loc main_v1_2

/-- The credit of one whole copy. -/
@[irreducible] def N : ℕ := (o0M).view.dmaCredit
theorem N_eq0 : N = (o0M).view.dmaCredit := by unfold N; rfl
theorem N_eqx0 : N = (x0M).view.dmaCredit := by unfold N; rfl
theorem N_eq1 : N = (o1M).view.dmaCredit := by unfold N; rfl
theorem N_eqx1 : N = (x1M).view.dmaCredit := by unfold N; rfl
theorem N_eq2 : N = (o2M).view.dmaCredit := by unfold N; rfl
theorem N_eqx2 : N = (x2M).view.dmaCredit := by unfold N; rfl
theorem N_pos : 0 < N := by rw [N_eq0]; exact View.dmaCredit_pos _ (by decide)

abbrev dsem0 (b : DmaSems sig S3) : DmaSem sig := ((b.slice (Rect.unit (s := S3) ![0] S1.size inb_S3_S1_0)).squeeze S_ squeezes_S1_S_).sem
abbrev dsem1 (b : DmaSems sig S3) : DmaSem sig := ((b.slice (Rect.unit (s := S3) ![1] S1.size inb_S3_S1_1)).squeeze S_ squeezes_S1_S_).sem
abbrev dsem2 (b : DmaSems sig S3) : DmaSem sig := ((b.slice (Rect.unit (s := S3) ![2] S1.size inb_S3_S1_2)).squeeze S_ squeezes_S1_S_).sem
/-- A device's semaphores: the copies out, the copies in, the barrier; its cells. -/
abbrev s0 : SemLoc sig := .dma (dsem0 cc0_scratch0)
abbrev s1 : SemLoc sig := .dma (dsem1 cc0_scratch0)
abbrev s2 : SemLoc sig := .dma (dsem2 cc0_scratch0)
abbrev r0 : SemLoc sig := .dma (dsem0 cc0_scratch1)
abbrev r1 : SemLoc sig := .dma (dsem1 cc0_scratch1)
abbrev r2 : SemLoc sig := .dma (dsem2 cc0_scratch1)
abbrev barS : Sem sig := sig.barrier 2 rfl
abbrev b0 : SemLoc sig := .reg barS
abbrev snd0 (d : Dev nD) : GSem nD τ sig := (S d c₀, s0)
abbrev snd1 (d : Dev nD) : GSem nD τ sig := (S d c₀, s1)
abbrev snd2 (d : Dev nD) : GSem nD τ sig := (S d c₀, s2)
abbrev rcv0 (d : Dev nD) : GSem nD τ sig := (S d c₀, r0)
abbrev rcv1 (d : Dev nD) : GSem nD τ sig := (S d c₀, r1)
abbrev rcv2 (d : Dev nD) : GSem nD τ sig := (S d c₀, r2)
abbrev bar (d : Dev nD) : GSem nD τ sig := (S d c₀, b0)
def csem (j : Fin 7) : SemLoc sig := ![s0, s1, s2, r0, r1, r2, b0] j
def cell (x : Dev nD × Fin 7) : GSem nD τ sig := (S x.1 c₀, csem x.2)
theorem csem_inj : Function.Injective csem := by decide +kernel
theorem csem_ne {i j : Fin 7} (h : i ≠ j) : csem i ≠ csem j := fun e => h (csem_inj e)
theorem csem_scoped : ∀ j : Fin 6, (csem j.castSucc).isScoped .scScalar = true := by decide +kernel
theorem cell_inj : Function.Injective cell := fun a b e => by
  obtain ⟨h1, h2⟩ := Prod.mk.inj e
  exact Prod.ext (Prod.mk.inj h1).1 (csem_inj h2)
def cells : Finset (GSem nD τ sig) := Finset.univ.image cell
theorem snd0_mem (d : Dev nD) : snd0 d ∈ cells := Finset.mem_image.mpr ⟨(d, 0), Finset.mem_univ _, rfl⟩
theorem snd1_mem (d : Dev nD) : snd1 d ∈ cells := Finset.mem_image.mpr ⟨(d, 1), Finset.mem_univ _, rfl⟩
theorem snd2_mem (d : Dev nD) : snd2 d ∈ cells := Finset.mem_image.mpr ⟨(d, 2), Finset.mem_univ _, rfl⟩
theorem rcv0_mem (d : Dev nD) : rcv0 d ∈ cells := Finset.mem_image.mpr ⟨(d, 3), Finset.mem_univ _, rfl⟩
theorem rcv1_mem (d : Dev nD) : rcv1 d ∈ cells := Finset.mem_image.mpr ⟨(d, 4), Finset.mem_univ _, rfl⟩
theorem rcv2_mem (d : Dev nD) : rcv2 d ∈ cells := Finset.mem_image.mpr ⟨(d, 5), Finset.mem_univ _, rfl⟩
theorem bar_mem (d : Dev nD) : bar d ∈ cells := Finset.mem_image.mpr ⟨(d, 6), Finset.mem_univ _, rfl⟩
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
theorem cells_eq (Φ : GSem nD τ sig → sProp 𝕄) :
    bigSep cells Φ = bigSep Finset.univ fun d : Dev nD => iprop(Φ (snd0 d) ∗ Φ (snd1 d) ∗ Φ (snd2 d) ∗ Φ (rcv0 d) ∗ Φ (rcv1 d) ∗ Φ (rcv2 d) ∗ Φ (bar d)) := by
  unfold cells
  rw [SparseCore.bigSep_image_of_injOn (fun a _ b _ e => cell_inj e) Φ, bigSep_univ_prod (fun x : Dev nD × Fin 7 => Φ (cell x))]
  exact bigSep_congr fun d _ => bigSep_seven _

/-- The scoped cells, held from the launch; the barrier cells, asked of it. -/
def held : Finset (GSem nD τ sig) := Finset.univ.image fun x : Dev nD × Fin 6 => cell (x.1, x.2.castSucc)
def bars : Finset (GSem nD τ sig) := Finset.univ.image bar

theorem lev_dma (d : Dev nD) (s : DmaSem sig) : (K (F := F)).lev (S d c₀, .dma s) (some 0) = 5 := (K (F := F)).lev_S_dma d c₀ s 0
theorem lev_bar (d : Dev nD) : (K (F := F)).lev (bar d) (some 0) = 3 :=
  (K (F := F)).lev_S_reg d c₀ (s := barS) (show barS ≠ sc_start by decide +kernel) (show barS ≠ sc_taskDone by decide +kernel) 0

variable (m : (ℓ : Loc nD τ sig) → Buf (Elt F) ℓ) (ρ : Dev nD → PrngReg)
variable [FloatOps F] [∀ e, Nonempty (Elt F e)]

/-- What device `d` receives: its peer's arguments. -/
def got0 (d : Dev nD) : Buf (Elt F) (o0Loc d) := (show S352x1024.Idx → Elt F .f32 from m (x0Loc (peer d)))
def got1 (d : Dev nD) : Buf (Elt F) (o1Loc d) := (show S352x1024.Idx → Elt F .f32 from m (x1Loc (peer d)))
def got2 (d : Dev nD) : Buf (Elt F) (o2Loc d) := (show S352x1024.Idx → Elt F .f32 from m (x2Loc (peer d)))
abbrev x0Pts (d : Dev nD) : sProp 𝕄 := x0Loc d ↦{fullShare} m (x0Loc d)
abbrev o0Pts (d : Dev nD) (f : Buf (Elt F) (o0Loc d)) : sProp 𝕄 := o0Loc d ↦{fullShare} f
abbrev x1Pts (d : Dev nD) : sProp 𝕄 := x1Loc d ↦{fullShare} m (x1Loc d)
abbrev o1Pts (d : Dev nD) (f : Buf (Elt F) (o1Loc d)) : sProp 𝕄 := o1Loc d ↦{fullShare} f
abbrev x2Pts (d : Dev nD) : sProp 𝕄 := x2Loc d ↦{fullShare} m (x2Loc d)
abbrev o2Pts (d : Dev nD) (f : Buf (Elt F) (o2Loc d)) : sProp 𝕄 := o2Loc d ↦{fullShare} f
/-- A device's results, at any values. -/
abbrev outs (d : Dev nD) : sProp 𝕄 := iprop((∃ f, o0Pts (F := F) d f) ∗ (∃ f, o1Pts (F := F) d f) ∗ (∃ f, o2Pts (F := F) d f))

/-! ## The schedule -/

/-- What a cell's one duty hands its owner. -/
def pays (d : Dev nD) (s : SemLoc sig) : sProp 𝕄 :=
  if s = s0 then x0Pts m d else if s = s1 then x1Pts m d else if s = s2 then x2Pts m d else if s = r0 then o0Pts d (got0 m d) else if s = r1 then o1Pts d (got1 m d) else if s = r2 then o2Pts d (got2 m d) else outs (F := F) (peer d)
instance pays_storable (d : Dev nD) (s : SemLoc sig) : BI.Storable (upEmb : UEmb _ 𝕄) (pays m d s) := by
  unfold pays; (repeat' split) <;> infer_instance
theorem pays0 (d : Dev nD) : pays m d s0 = x0Pts m d := if_pos rfl
theorem pays1 (d : Dev nD) : pays m d s1 = x1Pts m d := (if_neg (csem_ne (i := 1) (j := 0) (by decide))).trans (if_pos rfl)
theorem pays2 (d : Dev nD) : pays m d s2 = x2Pts m d := (if_neg (csem_ne (i := 2) (j := 0) (by decide))).trans ((if_neg (csem_ne (i := 2) (j := 1) (by decide))).trans (if_pos rfl))
theorem pays3 (d : Dev nD) : pays m d r0 = o0Pts d (got0 m d) := (if_neg (csem_ne (i := 3) (j := 0) (by decide))).trans ((if_neg (csem_ne (i := 3) (j := 1) (by decide))).trans ((if_neg (csem_ne (i := 3) (j := 2) (by decide))).trans (if_pos rfl)))
theorem pays4 (d : Dev nD) : pays m d r1 = o1Pts d (got1 m d) := (if_neg (csem_ne (i := 4) (j := 0) (by decide))).trans ((if_neg (csem_ne (i := 4) (j := 1) (by decide))).trans ((if_neg (csem_ne (i := 4) (j := 2) (by decide))).trans ((if_neg (csem_ne (i := 4) (j := 3) (by decide))).trans (if_pos rfl))))
theorem pays5 (d : Dev nD) : pays m d r2 = o2Pts d (got2 m d) := (if_neg (csem_ne (i := 5) (j := 0) (by decide))).trans ((if_neg (csem_ne (i := 5) (j := 1) (by decide))).trans ((if_neg (csem_ne (i := 5) (j := 2) (by decide))).trans ((if_neg (csem_ne (i := 5) (j := 3) (by decide))).trans ((if_neg (csem_ne (i := 5) (j := 4) (by decide))).trans (if_pos rfl)))))
theorem pays6 (d : Dev nD) : pays m d b0 = outs (F := F) (peer d) := (if_neg (csem_ne (i := 6) (j := 0) (by decide))).trans ((if_neg (csem_ne (i := 6) (j := 1) (by decide))).trans ((if_neg (csem_ne (i := 6) (j := 2) (by decide))).trans ((if_neg (csem_ne (i := 6) (j := 3) (by decide))).trans ((if_neg (csem_ne (i := 6) (j := 4) (by decide))).trans (if_neg (csem_ne (i := 6) (j := 5) (by decide)))))))

def amt (s : SemLoc sig) : ℕ := if s = b0 then 1 else N
theorem amt_pos (s : SemLoc sig) : 0 < amt s := by
  unfold amt; split
  · exact Nat.one_pos
  · exact N_pos
def Rd : Rounds.Schedule (GSem nD τ sig) ℕ 𝕄 where
  duties g r := if r = 0 ∧ g ∈ cells then {0} else ∅
  unitless _ := False
  amount g _ _ := amt g.2
  payload g _ _ := pays m g.1.1 g.2
  amount_pos g _ _ _ := amt_pos g.2
instance Rd_storable (g : GSem nD τ sig) (r n : ℕ) : BI.Storable (upEmb : UEmb _ 𝕄) ((Rd (F := F) m).payload g r n) := pays_storable m g.1.1 g.2

theorem duties_eq {g : GSem nD τ sig} (h : g ∈ cells) : (Rd m).duties g 0 = {0} := if_pos ⟨rfl, h⟩
theorem duties_mem {g : GSem nD τ sig} (h : g ∈ cells) : 0 ∈ (Rd m).duties g 0 := by rw [duties_eq m h]; exact Finset.mem_singleton_self 0
theorem duties_later (g : GSem nD τ sig) (r : ℕ) (h : 0 + 1 ≤ r) : (Rd m).duties g r = ∅ := if_neg fun e => by omega
theorem amount_snd0 (d : Dev nD) (n : ℕ) : (Rd m).amount (snd0 d) 0 n = N := (if_neg (csem_ne (i := 0) (j := 6) (by decide)) : amt s0 = N)
theorem amount_snd1 (d : Dev nD) (n : ℕ) : (Rd m).amount (snd1 d) 0 n = N := (if_neg (csem_ne (i := 1) (j := 6) (by decide)) : amt s1 = N)
theorem amount_snd2 (d : Dev nD) (n : ℕ) : (Rd m).amount (snd2 d) 0 n = N := (if_neg (csem_ne (i := 2) (j := 6) (by decide)) : amt s2 = N)
theorem amount_rcv0 (d : Dev nD) (n : ℕ) : (Rd m).amount (rcv0 d) 0 n = N := (if_neg (csem_ne (i := 3) (j := 6) (by decide)) : amt r0 = N)
theorem amount_rcv1 (d : Dev nD) (n : ℕ) : (Rd m).amount (rcv1 d) 0 n = N := (if_neg (csem_ne (i := 4) (j := 6) (by decide)) : amt r1 = N)
theorem amount_rcv2 (d : Dev nD) (n : ℕ) : (Rd m).amount (rcv2 d) 0 n = N := (if_neg (csem_ne (i := 5) (j := 6) (by decide)) : amt r2 = N)
theorem amount_bar (d : Dev nD) (n : ℕ) : (Rd m).amount (bar d) 0 n = 1 := (if_pos rfl : amt b0 = 1)
theorem expect_eq {g : GSem nD τ sig} (h : g ∈ cells) : (Rd m).expect g 0 = (Rd m).amount g 0 0 := by
  unfold Schedule.expect Schedule.amountOf; rw [duties_eq m h, Finset.sum_singleton]
/-- What a wait for the whole round collects. -/
theorem rest_eq {g : GSem nD τ sig} (h : g ∈ cells) :
    bigSep ((Rd m).duties g 0 \ ∅) (fun s => (Rd m).payload g 0 s) = pays m g.1.1 g.2 := by
  rw [Finset.sdiff_empty, duties_eq m h, bigSep_singleton]; rfl

/-- What a device pays its peer's barrier with: its own results, to write into; -/
theorem pay_bar (d : Dev nD) : (Rd m).payload (bar (peer d)) 0 0 = outs (F := F) d := by
  refine (pays6 m (peer d)).trans ?_; rw [peer_peer]
/-- its own first cells with the arguments; -/
theorem pay_snd0 (d : Dev nD) : (Rd m).payload (snd0 d) 0 0 = x0Pts m d := pays0 m d
theorem pay_snd1 (d : Dev nD) : (Rd m).payload (snd1 d) 0 0 = x1Pts m d := pays1 m d
theorem pay_snd2 (d : Dev nD) : (Rd m).payload (snd2 d) 0 0 = x2Pts m d := pays2 m d
/-- and the peer's next with the arguments in the peer's results. -/
theorem pay_rcv0 (d : Dev nD) (f : Buf (Elt F) (o0Loc (peer d))) (h : f = (show S352x1024.Idx → Elt F .f32 from m (x0Loc d))) :
    o0Pts (peer d) f = (Rd m).payload (rcv0 (peer d)) 0 0 := by
  refine Eq.trans ?_ (pays3 m (peer d)).symm
  subst h; unfold got0; rw [peer_peer]
theorem pay_rcv1 (d : Dev nD) (f : Buf (Elt F) (o1Loc (peer d))) (h : f = (show S352x1024.Idx → Elt F .f32 from m (x1Loc d))) :
    o1Pts (peer d) f = (Rd m).payload (rcv1 (peer d)) 0 0 := by
  refine Eq.trans ?_ (pays4 m (peer d)).symm
  subst h; unfold got1; rw [peer_peer]
theorem pay_rcv2 (d : Dev nD) (f : Buf (Elt F) (o2Loc (peer d))) (h : f = (show S352x1024.Idx → Elt F .f32 from m (x2Loc d))) :
    o2Pts (peer d) f = (Rd m).payload (rcv2 (peer d)) 0 0 := by
  refine Eq.trans ?_ (pays5 m (peer d)).symm
  subst h; unfold got2; rw [peer_peer]

/-- What a device owes its peer: the barrier's unit, the copies' credit; -/
def owed (d : Dev nD) : CellTallies nD τ sig (HIx 1) := tallyAt (bar (peer d)) (some 0) 1 + (tallyAt (rcv0 (peer d)) (some 0) N + (tallyAt (rcv1 (peer d)) (some 0) N + tallyAt (rcv2 (peer d)) (some 0) N))
theorem owed_eq (d : Dev nD) (O : CellTallies nD τ sig (HIx 1)) : O + owed d = O + tallyAt (rcv2 (peer d)) (some 0) N + tallyAt (rcv1 (peer d)) (some 0) N + tallyAt (rcv0 (peer d)) (some 0) N + tallyAt (bar (peer d)) (some 0) 1 := by
  unfold owed; abel
theorem owed_pos {d : Dev nD} {g : GSem nD τ sig} {ι : HIx 1} (h : 0 < owed d g ι) :
    ι = some 0 ∧ (g = bar (peer d) ∨ g = rcv0 (peer d) ∨ g = rcv1 (peer d) ∨ g = rcv2 (peer d)) := by
  unfold owed at h
  rw [Pi.add_apply, Finsupp.add_apply, Pi.add_apply, Finsupp.add_apply, Pi.add_apply, Finsupp.add_apply, tallyAt_apply, tallyAt_apply, tallyAt_apply, tallyAt_apply] at h
  split at h
  · next e => exact ⟨e.2, .inl e.1⟩
  · split at h
    · next e => exact ⟨e.2, .inr (.inl e.1)⟩
    · split at h
      · next e => exact ⟨e.2, .inr (.inr (.inl e.1))⟩
      · split at h
        · next e => exact ⟨e.2, .inr (.inr (.inr e.1))⟩
        · exact absurd h (lt_irrefl 0)

/-- A device's share of the protocol: what all know, -/
abbrev known : sProp 𝕄 := iprop((∃ κ : GSem nD τ sig → ℕ, bigSep cells fun g => cellInv ER (Rd m) (κ g) g) ∗ bigSep cells fun g => reached ER g 0)
/-- and its own: positions, tokens, credit. -/
abbrev mine (d : Dev nD) : sProp 𝕄 :=
  iprop((atPos ER (snd0 d) 0 ∅ 0 ∗ atPos ER (snd1 d) 0 ∅ 0 ∗ atPos ER (snd2 d) 0 ∅ 0 ∗ atPos ER (rcv0 d) 0 ∅ 0 ∗ atPos ER (rcv1 d) 0 ∅ 0 ∗ atPos ER (rcv2 d) 0 ∅ 0 ∗ atPos ER (bar d) 0 ∅ 0)
    ∗ (dutyTok ER (snd0 d) 0 0 ∗ dutyTok ER (snd1 d) 0 0 ∗ dutyTok ER (snd2 d) 0 0 ∗ dutyTok ER (rcv0 (peer d)) 0 0 ∗ dutyTok ER (rcv1 (peer d)) 0 0 ∗ dutyTok ER (rcv2 (peer d)) 0 0 ∗ dutyTok ER (bar (peer d)) 0 0)
    ∗ cred (tallyAt (bar d) (some 0) 1) ∗ cred (tallyAt (rcv0 d) (some 0) N) ∗ cred (tallyAt (rcv1 d) (some 0) N) ∗ cred (tallyAt (rcv2 d) (some 0) N))
def kit (d : Dev nD) : sProp 𝕄 := iprop(known m ∗ mine d)

/-! ## What the handshakes carry -/

abbrev st (d : Dev nD) : sProp 𝕄 := iprop(x0Pts m d ∗ x1Pts m d ∗ x2Pts m d ∗ outs (F := F) d)
abbrev dn (d : Dev nD) : sProp 𝕄 := iprop(x0Pts m d ∗ x1Pts m d ∗ x2Pts m d ∗ o0Pts d (got0 m d) ∗ o1Pts d (got1 m d) ∗ o2Pts d (got2 m d) ∗ semVal (bar d) 0)

set_option backward.proofsInPublic true in
def P : (K (F := F)).Pay (nD := nD) (Val := Elt F) (Name := ℕ) (U := UU) where
  st := fun _ d _ => st m d
  dn := fun _ d _ => dn m d
  go := fun _ _ _ _ => iprop(emp)
  td := fun _ _ _ _ => iprop(emp)
  x := fun _ thr => match thr with
    | (d, .scScalar c) => if c = c₀ then kit m d else iprop(emp)
    | _ => iprop(emp)
  ox := fun _ thr => match thr with
    | (d, .scScalar c) => if c = c₀ then owed d else 0
    | _ => 0
  ox_band := by
    intro q thr g ι h
    obtain rfl : q = 0 := Subsingleton.elim _ _
    rcases thr with ⟨d, _ | c | ⟨c, i⟩⟩
    · exact absurd h (lt_irrefl 0)
    · dsimp only at h
      split at h
      · obtain ⟨rfl, rfl | rfl | rfl | rfl⟩ := owed_pos h
        · rw [lev_bar]; decide
        all_goals rw [lev_dma]; decide
      · exact absurd h (lt_irrefl 0)
    · exact absurd h (lt_irrefl 0)
  ox_tc := fun _ _ => rfl
  ox_sc := by
    intro q d c h
    obtain rfl : q = 0 := Subsingleton.elim _ _
    dsimp only at h
    split at h
    · next hc => subst hc; exact ⟨rfl, Nat.one_pos⟩
    · exact absurd rfl h
  ox_vc := fun _ _ _ _ h => absurd rfl h
  held := held
  held_vec := by
    intro q d c h
    obtain rfl : q = 0 := Subsingleton.elim _ _
    exact absurd h.1 fun e => nomatch e

instance P_storable : (P (F := F) m).IsStorable where
  st _ d _ := (inferInstance : BI.Storable (upEmb : UEmb _ 𝕄) (st m d))
  dn _ d _ := (inferInstance : BI.Storable (upEmb : UEmb _ 𝕄) (dn m d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The kernel -/

/-- The kernel on SparseCore 0. -/
abbrev kern : Prog (TpuEff nD τ sig (Elt F) Λ₀ (.scScalar c₀)) PUnit :=
  cc0_rs_l0_ffn_join L₀ x0M (Memref.isWhole_whole _) x1M (Memref.isWhole_whole _) x2M (Memref.isWhole_whole _) o0M (Memref.isWhole_whole _) o1M (Memref.isWhole_whole _) o2M (Memref.isWhole_whole _) cc0_scratch0 cc0_scratch1

/-- A wait on a copy's cell is admissible while nothing of the kernel's own is owed, -/
theorem mayWait_copy (d : Dev nD) (s : DmaSem sig) (O : CellTallies nD τ sig (HIx 1)) (hO : ∀ g ι, 0 < O g ι → 7 ≤ (K (F := F)).lev g ι) :
    (levAts (K (F := F)).L (K (F := F)).lev : sProp 𝕄) ⊢ MayWait (S d c₀) (.dma s) (some 0) O :=
  (K (F := F)).mayOwe_of_bound 5 (fun p hp => by rw [Finset.mem_singleton] at hp; subst hp; rw [lev_dma])
    fun g ι hg => lt_of_lt_of_le (by decide) (hO g ι hg)
/-- one on the barrier's while the copies are. -/
theorem mayWait_bar (d : Dev nD) (O : CellTallies nD τ sig (HIx 1)) (hO : ∀ g ι, 0 < O g ι → 7 ≤ (K (F := F)).lev g ι) :
    (levAts (K (F := F)).L (K (F := F)).lev : sProp 𝕄) ⊢ MayWait (S d c₀) (b0) (some 0) (O + tallyAt (rcv2 (peer d)) (some 0) N + tallyAt (rcv1 (peer d)) (some 0) N + tallyAt (rcv0 (peer d)) (some 0) N) :=
  (K (F := F)).mayOwe_of_bound 3 (fun p hp => by rw [Finset.mem_singleton] at hp; subst hp; rw [lev_bar])
    fun g ι hg => by
      rw [Pi.add_apply, Finsupp.add_apply, Pi.add_apply, Finsupp.add_apply, Pi.add_apply, Finsupp.add_apply, tallyAt_apply, tallyAt_apply, tallyAt_apply] at hg
      split at hg
      · next e => obtain ⟨rfl, rfl⟩ := e; rw [lev_dma]; decide
      · split at hg
        · next e => obtain ⟨rfl, rfl⟩ := e; rw [lev_dma]; decide
        · split at hg
          · next e => obtain ⟨rfl, rfl⟩ := e; rw [lev_dma]; decide
          · exact lt_of_lt_of_le (by decide) (hO g ι hg)

theorem inv_of (κ : GSem nD τ sig → ℕ) {g : GSem nD τ sig} (h : g ∈ cells) : (bigSep cells fun g => cellInv ER (Rd m) (κ g) g) ⊢ cellInv ER (Rd m) (κ g) g :=
  bigSep_elim (Φ := fun g => cellInv ER (Rd m) (κ g) g) h
theorem reached_of {g : GSem nD τ sig} (h : g ∈ cells) : (bigSep cells fun g => reached ER g 0 : sProp 𝕄) ⊢ reached ER g 0 :=
  bigSep_elim (Φ := fun g => (reached ER g 0 : sProp 𝕄)) h

/-- A copy's two ends: whole arrays. -/
theorem whole_x0 (d : Dev nD) : x0Pts m d = ((x0M).view.loc (S d c₀) ↦[(x0M).view.set]{fullShare} (m (x0Loc d))) := by
  rw [show (x0M).view.set = Finset.univ from View.set_whole _]
theorem whole_o0 (d : Dev nD) (f : Buf (Elt F) (o0Loc d)) : o0Pts d f = ((o0M).view.loc (S d c₀) ↦[(o0M).view.set]{fullShare} f) := by
  rw [show (o0M).view.set = Finset.univ from View.set_whole _]
theorem sent_snd0 (d : Dev nD) : ((x0M).view.loc (S d c₀) ↦[(x0M).view.set]{fullShare} (m (x0Loc d))) ⊢ (Rd m).payload (snd0 d) 0 0 :=
  Entails.of_eq ((whole_x0 m d).symm.trans (pay_snd0 m d).symm)
theorem sent_rcv0 (d : Dev nD) (f : Buf (Elt F) (o0Loc (peer d))) :
    ((o0M).view.loc (S (peer d) c₀) ↦[(o0M).view.set]{fullShare} ((o0M).view.write (Elt F) f ((x0M).view.read (Elt F) (m (x0Loc d))) Finset.univ)) ⊢ (Rd m).payload (rcv0 (peer d)) 0 0 :=
  Entails.of_eq ((whole_o0 (peer d) _).symm.trans (pay_rcv0 m d _ (View.write_whole_univ _ _ _)))

set_option maxHeartbeats 400000 in
/-- A copy: both arrays go into its two payloads. -/
theorem send_op0 (κ : GSem nD τ sig → ℕ) (d p : Dev nD) (hp : p = peer d) (fp : Buf (Elt F) (o0Loc (peer d))) (O : CellTallies nD τ sig (HIx 1)) (W : Waits sig (HIx 1)) {hsc} {hsrc} {hdst} {hsem}
    {cont : PUnit → Prog (TpuEff nD τ sig (Elt F) Λ₀ (.scScalar c₀)) PUnit} {Q : PUnit → sProp 𝕄} :
    iprop(cellInv ER (Rd (F := F) m) (κ (snd0 d)) (snd0 d) ∗ cellInv ER (Rd m) (κ (rcv0 (peer d))) (rcv0 (peer d))
        ∗ ((x0M).view.loc (S d c₀) ↦[(x0M).view.set]{fullShare} (m (x0Loc d))) ∗ ((o0M).view.loc (S (peer d) c₀) ↦[(o0M).view.set]{fullShare} fp)
        ∗ owes (S d c₀) (O + tallyAt (rcv0 (peer d)) (some 0) N) W
        ∗ dutyTok ER (snd0 d) 0 0 ∗ reached ER (snd0 d) 0 ∗ dutyTok ER (rcv0 (peer d)) 0 0 ∗ reached ER (rcv0 (peer d)) 0)
      ⊢ iprop(((cred (tallyAt (snd0 d) (some 0) N) ∗ owes (S d c₀) O W) -∗ wp frame (wpE (defs₀ (F := F)) 𝒱₀ (S d c₀) none) Set.univ (cont ⟨⟩) Q)
          -∗ wp frame (wpE (defs₀ (F := F)) 𝒱₀ (S d c₀) none) Set.univ (.op (.enqueueDma x0M (.remote (S p c₀) o0M s0 hsc) r0 hsrc hdst hsem) cont) Q) := by
  subst hp
  have hN : (o0M).view.amount r0 = N := N_eq0.symm
  have hr : τ.routes (S d c₀) (S (peer d) c₀) = true := by routes
  exact Rounds.wp_send_pointsTo 𝒱₀ ER (Rd (F := F) m) (S d c₀) none (c' := S (peer d) c₀) (src := x0M) (dst := o0M) (sS := s0) (sem := r0)
      (κ₁ := κ (snd0 d)) (κ₂ := κ (rcv0 (peer d)))
      (r₁ := 0) (r₂ := 0) (d₁ := 0) (d₂ := 0) (q := fullShare) (fs := m (x0Loc d)) (fd := fp)
      (duties_mem m (snd0_mem d)) (duties_mem m (rcv0_mem (peer d))) (some 0) (some 0) N hN (amount_snd0 m d 0) (amount_rcv0 m (peer d) 0) O rfl
      (sent_snd0 m d) (sent_rcv0 m d fp) hr

/-- A copy's two ends: whole arrays. -/
theorem whole_x1 (d : Dev nD) : x1Pts m d = ((x1M).view.loc (S d c₀) ↦[(x1M).view.set]{fullShare} (m (x1Loc d))) := by
  rw [show (x1M).view.set = Finset.univ from View.set_whole _]
theorem whole_o1 (d : Dev nD) (f : Buf (Elt F) (o1Loc d)) : o1Pts d f = ((o1M).view.loc (S d c₀) ↦[(o1M).view.set]{fullShare} f) := by
  rw [show (o1M).view.set = Finset.univ from View.set_whole _]
theorem sent_snd1 (d : Dev nD) : ((x1M).view.loc (S d c₀) ↦[(x1M).view.set]{fullShare} (m (x1Loc d))) ⊢ (Rd m).payload (snd1 d) 0 0 :=
  Entails.of_eq ((whole_x1 m d).symm.trans (pay_snd1 m d).symm)
theorem sent_rcv1 (d : Dev nD) (f : Buf (Elt F) (o1Loc (peer d))) :
    ((o1M).view.loc (S (peer d) c₀) ↦[(o1M).view.set]{fullShare} ((o1M).view.write (Elt F) f ((x1M).view.read (Elt F) (m (x1Loc d))) Finset.univ)) ⊢ (Rd m).payload (rcv1 (peer d)) 0 0 :=
  Entails.of_eq ((whole_o1 (peer d) _).symm.trans (pay_rcv1 m d _ (View.write_whole_univ _ _ _)))

set_option maxHeartbeats 400000 in
/-- A copy: both arrays go into its two payloads. -/
theorem send_op1 (κ : GSem nD τ sig → ℕ) (d p : Dev nD) (hp : p = peer d) (fp : Buf (Elt F) (o1Loc (peer d))) (O : CellTallies nD τ sig (HIx 1)) (W : Waits sig (HIx 1)) {hsc} {hsrc} {hdst} {hsem}
    {cont : PUnit → Prog (TpuEff nD τ sig (Elt F) Λ₀ (.scScalar c₀)) PUnit} {Q : PUnit → sProp 𝕄} :
    iprop(cellInv ER (Rd (F := F) m) (κ (snd1 d)) (snd1 d) ∗ cellInv ER (Rd m) (κ (rcv1 (peer d))) (rcv1 (peer d))
        ∗ ((x1M).view.loc (S d c₀) ↦[(x1M).view.set]{fullShare} (m (x1Loc d))) ∗ ((o1M).view.loc (S (peer d) c₀) ↦[(o1M).view.set]{fullShare} fp)
        ∗ owes (S d c₀) (O + tallyAt (rcv1 (peer d)) (some 0) N) W
        ∗ dutyTok ER (snd1 d) 0 0 ∗ reached ER (snd1 d) 0 ∗ dutyTok ER (rcv1 (peer d)) 0 0 ∗ reached ER (rcv1 (peer d)) 0)
      ⊢ iprop(((cred (tallyAt (snd1 d) (some 0) N) ∗ owes (S d c₀) O W) -∗ wp frame (wpE (defs₀ (F := F)) 𝒱₀ (S d c₀) none) Set.univ (cont ⟨⟩) Q)
          -∗ wp frame (wpE (defs₀ (F := F)) 𝒱₀ (S d c₀) none) Set.univ (.op (.enqueueDma x1M (.remote (S p c₀) o1M s1 hsc) r1 hsrc hdst hsem) cont) Q) := by
  subst hp
  have hN : (o1M).view.amount r1 = N := N_eq1.symm
  have hr : τ.routes (S d c₀) (S (peer d) c₀) = true := by routes
  exact Rounds.wp_send_pointsTo 𝒱₀ ER (Rd (F := F) m) (S d c₀) none (c' := S (peer d) c₀) (src := x1M) (dst := o1M) (sS := s1) (sem := r1)
      (κ₁ := κ (snd1 d)) (κ₂ := κ (rcv1 (peer d)))
      (r₁ := 0) (r₂ := 0) (d₁ := 0) (d₂ := 0) (q := fullShare) (fs := m (x1Loc d)) (fd := fp)
      (duties_mem m (snd1_mem d)) (duties_mem m (rcv1_mem (peer d))) (some 0) (some 0) N hN (amount_snd1 m d 0) (amount_rcv1 m (peer d) 0) O rfl
      (sent_snd1 m d) (sent_rcv1 m d fp) hr

/-- A copy's two ends: whole arrays. -/
theorem whole_x2 (d : Dev nD) : x2Pts m d = ((x2M).view.loc (S d c₀) ↦[(x2M).view.set]{fullShare} (m (x2Loc d))) := by
  rw [show (x2M).view.set = Finset.univ from View.set_whole _]
theorem whole_o2 (d : Dev nD) (f : Buf (Elt F) (o2Loc d)) : o2Pts d f = ((o2M).view.loc (S d c₀) ↦[(o2M).view.set]{fullShare} f) := by
  rw [show (o2M).view.set = Finset.univ from View.set_whole _]
theorem sent_snd2 (d : Dev nD) : ((x2M).view.loc (S d c₀) ↦[(x2M).view.set]{fullShare} (m (x2Loc d))) ⊢ (Rd m).payload (snd2 d) 0 0 :=
  Entails.of_eq ((whole_x2 m d).symm.trans (pay_snd2 m d).symm)
theorem sent_rcv2 (d : Dev nD) (f : Buf (Elt F) (o2Loc (peer d))) :
    ((o2M).view.loc (S (peer d) c₀) ↦[(o2M).view.set]{fullShare} ((o2M).view.write (Elt F) f ((x2M).view.read (Elt F) (m (x2Loc d))) Finset.univ)) ⊢ (Rd m).payload (rcv2 (peer d)) 0 0 :=
  Entails.of_eq ((whole_o2 (peer d) _).symm.trans (pay_rcv2 m d _ (View.write_whole_univ _ _ _)))

set_option maxHeartbeats 400000 in
/-- A copy: both arrays go into its two payloads. -/
theorem send_op2 (κ : GSem nD τ sig → ℕ) (d p : Dev nD) (hp : p = peer d) (fp : Buf (Elt F) (o2Loc (peer d))) (O : CellTallies nD τ sig (HIx 1)) (W : Waits sig (HIx 1)) {hsc} {hsrc} {hdst} {hsem}
    {cont : PUnit → Prog (TpuEff nD τ sig (Elt F) Λ₀ (.scScalar c₀)) PUnit} {Q : PUnit → sProp 𝕄} :
    iprop(cellInv ER (Rd (F := F) m) (κ (snd2 d)) (snd2 d) ∗ cellInv ER (Rd m) (κ (rcv2 (peer d))) (rcv2 (peer d))
        ∗ ((x2M).view.loc (S d c₀) ↦[(x2M).view.set]{fullShare} (m (x2Loc d))) ∗ ((o2M).view.loc (S (peer d) c₀) ↦[(o2M).view.set]{fullShare} fp)
        ∗ owes (S d c₀) (O + tallyAt (rcv2 (peer d)) (some 0) N) W
        ∗ dutyTok ER (snd2 d) 0 0 ∗ reached ER (snd2 d) 0 ∗ dutyTok ER (rcv2 (peer d)) 0 0 ∗ reached ER (rcv2 (peer d)) 0)
      ⊢ iprop(((cred (tallyAt (snd2 d) (some 0) N) ∗ owes (S d c₀) O W) -∗ wp frame (wpE (defs₀ (F := F)) 𝒱₀ (S d c₀) none) Set.univ (cont ⟨⟩) Q)
          -∗ wp frame (wpE (defs₀ (F := F)) 𝒱₀ (S d c₀) none) Set.univ (.op (.enqueueDma x2M (.remote (S p c₀) o2M s2 hsc) r2 hsrc hdst hsem) cont) Q) := by
  subst hp
  have hN : (o2M).view.amount r2 = N := N_eq2.symm
  have hr : τ.routes (S d c₀) (S (peer d) c₀) = true := by routes
  exact Rounds.wp_send_pointsTo 𝒱₀ ER (Rd (F := F) m) (S d c₀) none (c' := S (peer d) c₀) (src := x2M) (dst := o2M) (sS := s2) (sem := r2)
      (κ₁ := κ (snd2 d)) (κ₂ := κ (rcv2 (peer d)))
      (r₁ := 0) (r₂ := 0) (d₁ := 0) (d₂ := 0) (q := fullShare) (fs := m (x2Loc d)) (fd := fp)
      (duties_mem m (snd2_mem d)) (duties_mem m (rcv2_mem (peer d))) (some 0) (some 0) N hN (amount_snd2 m d 0) (amount_rcv2 m (peer d) 0) O rfl
      (sent_snd2 m d) (sent_rcv2 m d fp) hr

set_option maxHeartbeats 400000 in
/-- A wait for a copy, described by its two arrays, takes the round of its cell. -/
theorem wait_op (κ : GSem nD τ sig → ℕ) (d : Dev nD) (s : DmaSem sig) (hs : (S d c₀, SemLoc.dma s) ∈ cells) (hN : (Rd (F := F) m).amount (S d c₀, SemLoc.dma s) 0 0 = N)
    (src dst : Memref sig .scScalar .hbm S352x1024 .f32) (hd : dst.view.dmaCredit = N) (O : CellTallies nD τ sig (HIx 1)) (W : Waits sig (HIx 1)) {hsrc} {hdst}
    {cont : PUnit → Prog (TpuEff nD τ sig (Elt F) Λ₀ (.scScalar c₀)) PUnit} {Q : PUnit → sProp 𝕄} :
    iprop(cellInv ER (Rd (F := F) m) (κ (S d c₀, .dma s)) (S d c₀, .dma s) ∗ cred (tallyAt (S d c₀, .dma s) (some 0) N)
        ∗ owes (S d c₀) O W ∗ MayWait (S d c₀) (.dma s) (some 0) O ∗ atPos ER (S d c₀, .dma s) 0 ∅ 0)
      ⊢ iprop(((owes (S d c₀) O (insert (.dma s, some 0) W) ∗ atPos ER (S d c₀, .dma s) (0 + 1) ∅ 0 ∗ reached ER (S d c₀, .dma s) (0 + 1) ∗ pays m d (.dma s))
            -∗ wp frame (wpE (defs₀ (F := F)) 𝒱₀ (S d c₀) none) Set.univ (cont ⟨⟩) Q)
          -∗ wp frame (wpE (defs₀ (F := F)) 𝒱₀ (S d c₀) none) Set.univ (.op (.waitDma2 s src dst hsrc hdst) cont) Q) := by
  rw [← rest_eq m hs]
  exact Rounds.wp_wait_rest_token 𝒱₀ ER (Rd (F := F) m) (S d c₀) none (κ := κ (S d c₀, .dma s)) (fun K => by rw [wpE_waitDma2_eq, hd]) (Set.mem_univ _) (some 0)
    (((Nat.zero_add N).trans hN.symm).trans (expect_eq m hs).symm)

set_option maxHeartbeats 2000000 in
/-- The kernel's run: from its share and its arrays, to the peer's arguments in its results and its cells at zero. -/
theorem body (d : Dev nD) (O : CellTallies nD τ sig (HIx 1)) (W : Waits sig (HIx 1)) (hO : ∀ g ι, 0 < O g ι → 7 ≤ (K (F := F)).lev g ι) :
    iprop(levAts (K (F := F)).L (K (F := F)).lev ∗ kit m d ∗ st m d ∗ owes (S d c₀) (O + owed d) W)
      ⊢ wp frame (wpE (defs₀ (F := F)) 𝒱₀ (S d c₀) none) Set.univ (kern (F := F))
          fun _ => iprop(dn m d ∗ (semVal (snd0 d) 0 ∗ semVal (snd1 d) 0 ∗ semVal (snd2 d) 0 ∗ semVal (rcv0 d) 0 ∗ semVal (rcv1 d) 0 ∗ semVal (rcv2 d) 0)
            ∗ ∃ W', ⌜∀ p ∈ W', p ∈ W ∨ p.2 = none ∨ p.2 = some (0 : Fin 1)⌝ ∗ owes (S d c₀) O W') := by
  unfold kern
  simp only [cc0_rs_l0_ffn_join_eq_skeleton]; unfold cc0_rs_l0_ffn_join_skel
  simp only [k0_part1_eq_skeleton]; unfold k0_part1_skel
  simp only [semSignalWord, semWaitWord, Prog.lift, Prog.bind_op, Prog.bind_ret, Prog.pure_eq_ret, Prog.bind_assoc]
  unfold kit
  iintro ⟨#Hlv, ⟨⟨⟨%κ, #Hinv⟩, #Hr⟩, ⟨As0, As1, As2, Ar0, Ar1, Ar2, Ab⟩, ⟨Ts0, Ts1, Ts2, Tr0, Tr1, Tr2, Tb⟩, Cb, Cr0, Cr1, Cr2⟩, ⟨X0, X1, X2, Ho⟩, HO⟩
  simp only [wp_deviceId, dev1_eq]
  -- the word to the peer
  iapply (Rounds.wp_signal 𝒱₀ ER (Rd (F := F) m) (S d c₀) none (dst := S (peer d) c₀) (κ := κ (bar (peer d))) (r := 0) (d := 0)
    (duties_mem m (bar_mem (peer d))) (amount_bar m (peer d) 0) (some 0) (O + tallyAt (rcv2 (peer d)) (some 0) N + tallyAt (rcv1 (peer d)) (some 0) N + tallyAt (rcv0 (peer d)) (some 0) N)
    (owed_eq d O)) $$ [HO Tb Ho]
  · isplitr; · iapply (inv_of m κ (bar_mem (peer d))); iexact Hinv
    isplitl [HO]; · iexact HO
    isplitl [Tb]; · iexact Tb
    isplitl [Ho]
    · iapply (SparseCore.ent (Entails.of_eq (pay_bar m d).symm)); iexact Ho
    iapply (reached_of (bar_mem (peer d))); iexact Hr
  iintro HO
  -- the peer's
  iapply (Rounds.wp_wait_rest_token 𝒱₀ ER (Rd (F := F) m) (S d c₀) none (κ := κ (bar d)) (wpE_semWait_eq 𝒱₀ (S d c₀) none Set.univ) (Set.mem_univ _) (some 0)
    (T := ∅) (((Nat.zero_add 1).trans (amount_bar m d 0).symm).trans (expect_eq m (bar_mem d)).symm)) $$ [HO Cb Ab]
  · isplitr; · iapply (inv_of m κ (bar_mem d)); iexact Hinv
    isplitl [Cb]; · iexact Cb
    isplitl [HO]; · iexact HO
    isplitr; · iapply (mayWait_bar d O hO); iexact Hlv
    iexact Ab
  iintro ⟨HO, Ab, -, Hp⟩
  ihave Hp' := (Entails.of_eq ((rest_eq m (bar_mem d)).trans (pays6 m d))) $$ Hp
  icases Hp' with ⟨⟨%f0, P0⟩, ⟨%f1, P1⟩, ⟨%f2, P2⟩⟩
  -- copy 0
  iapply (send_op0 m κ d _ (dev2_eq d) f0 (O + tallyAt (rcv2 (peer d)) (some 0) N + tallyAt (rcv1 (peer d)) (some 0) N) _) $$ [X0 P0 HO Ts0 Tr0]
  · isplitr; · iapply (inv_of m κ (snd0_mem d)); iexact Hinv
    isplitr; · iapply (inv_of m κ (rcv0_mem (peer d))); iexact Hinv
    isplitl [X0]; · iapply (SparseCore.ent (Entails.of_eq (whole_x0 m d))); iexact X0
    isplitl [P0]; · iapply (SparseCore.ent (Entails.of_eq (whole_o0 (peer d) f0))); iexact P0
    isplitl [HO]; · iexact HO
    isplitl [Ts0]; · iexact Ts0
    isplitr; · iapply (reached_of (snd0_mem d)); iexact Hr
    isplitl [Tr0]; · iexact Tr0
    iapply (reached_of (rcv0_mem (peer d))); iexact Hr
  iintro ⟨Cs0, HO⟩
  -- copy 1
  iapply (send_op1 m κ d _ (dev3_eq d) f1 (O + tallyAt (rcv2 (peer d)) (some 0) N) _) $$ [X1 P1 HO Ts1 Tr1]
  · isplitr; · iapply (inv_of m κ (snd1_mem d)); iexact Hinv
    isplitr; · iapply (inv_of m κ (rcv1_mem (peer d))); iexact Hinv
    isplitl [X1]; · iapply (SparseCore.ent (Entails.of_eq (whole_x1 m d))); iexact X1
    isplitl [P1]; · iapply (SparseCore.ent (Entails.of_eq (whole_o1 (peer d) f1))); iexact P1
    isplitl [HO]; · iexact HO
    isplitl [Ts1]; · iexact Ts1
    isplitr; · iapply (reached_of (snd1_mem d)); iexact Hr
    isplitl [Tr1]; · iexact Tr1
    iapply (reached_of (rcv1_mem (peer d))); iexact Hr
  iintro ⟨Cs1, HO⟩
  -- copy 2
  iapply (send_op2 m κ d _ (dev4_eq d) f2 O _) $$ [X2 P2 HO Ts2 Tr2]
  · isplitr; · iapply (inv_of m κ (snd2_mem d)); iexact Hinv
    isplitr; · iapply (inv_of m κ (rcv2_mem (peer d))); iexact Hinv
    isplitl [X2]; · iapply (SparseCore.ent (Entails.of_eq (whole_x2 m d))); iexact X2
    isplitl [P2]; · iapply (SparseCore.ent (Entails.of_eq (whole_o2 (peer d) f2))); iexact P2
    isplitl [HO]; · iexact HO
    isplitl [Ts2]; · iexact Ts2
    isplitr; · iapply (reached_of (snd2_mem d)); iexact Hr
    isplitl [Tr2]; · iexact Tr2
    iapply (reached_of (rcv2_mem (peer d))); iexact Hr
  iintro ⟨Cs2, HO⟩
  iapply (wait_op m κ d (dsem0 cc0_scratch0) (snd0_mem d) (amount_snd0 m d 0) o0M x0M N_eqx0.symm O _) $$ [HO Cs0 As0]
  · isplitr; · iapply (inv_of m κ (snd0_mem d)); iexact Hinv
    isplitl [Cs0]; · iexact Cs0
    isplitl [HO]; · iexact HO
    isplitr; · iapply (mayWait_copy d _ O hO); iexact Hlv
    iexact As0
  iintro ⟨HO, As0, -, X0⟩
  ihave X0' := (Entails.of_eq (pays0 m d)) $$ X0
  iapply (wait_op m κ d (dsem0 cc0_scratch1) (rcv0_mem d) (amount_rcv0 m d 0) x0M o0M N_eq0.symm O _) $$ [HO Cr0 Ar0]
  · isplitr; · iapply (inv_of m κ (rcv0_mem d)); iexact Hinv
    isplitl [Cr0]; · iexact Cr0
    isplitl [HO]; · iexact HO
    isplitr; · iapply (mayWait_copy d _ O hO); iexact Hlv
    iexact Ar0
  iintro ⟨HO, Ar0, -, R0⟩
  ihave R0' := (Entails.of_eq (pays3 m d)) $$ R0
  iapply (wait_op m κ d (dsem1 cc0_scratch0) (snd1_mem d) (amount_snd1 m d 0) o1M x1M N_eqx1.symm O _) $$ [HO Cs1 As1]
  · isplitr; · iapply (inv_of m κ (snd1_mem d)); iexact Hinv
    isplitl [Cs1]; · iexact Cs1
    isplitl [HO]; · iexact HO
    isplitr; · iapply (mayWait_copy d _ O hO); iexact Hlv
    iexact As1
  iintro ⟨HO, As1, -, X1⟩
  ihave X1' := (Entails.of_eq (pays1 m d)) $$ X1
  iapply (wait_op m κ d (dsem1 cc0_scratch1) (rcv1_mem d) (amount_rcv1 m d 0) x1M o1M N_eq1.symm O _) $$ [HO Cr1 Ar1]
  · isplitr; · iapply (inv_of m κ (rcv1_mem d)); iexact Hinv
    isplitl [Cr1]; · iexact Cr1
    isplitl [HO]; · iexact HO
    isplitr; · iapply (mayWait_copy d _ O hO); iexact Hlv
    iexact Ar1
  iintro ⟨HO, Ar1, -, R1⟩
  ihave R1' := (Entails.of_eq (pays4 m d)) $$ R1
  iapply (wait_op m κ d (dsem2 cc0_scratch0) (snd2_mem d) (amount_snd2 m d 0) o2M x2M N_eqx2.symm O _) $$ [HO Cs2 As2]
  · isplitr; · iapply (inv_of m κ (snd2_mem d)); iexact Hinv
    isplitl [Cs2]; · iexact Cs2
    isplitl [HO]; · iexact HO
    isplitr; · iapply (mayWait_copy d _ O hO); iexact Hlv
    iexact As2
  iintro ⟨HO, As2, -, X2⟩
  ihave X2' := (Entails.of_eq (pays2 m d)) $$ X2
  iapply (wait_op m κ d (dsem2 cc0_scratch1) (rcv2_mem d) (amount_rcv2 m d 0) x2M o2M N_eq2.symm O _) $$ [HO Cr2 Ar2]
  · isplitr; · iapply (inv_of m κ (rcv2_mem d)); iexact Hinv
    isplitl [Cr2]; · iexact Cr2
    isplitl [HO]; · iexact HO
    isplitr; · iapply (mayWait_copy d _ O hO); iexact Hlv
    iexact Ar2
  iintro ⟨HO, Ar2, -, R2⟩
  ihave R2' := (Entails.of_eq (pays5 m d)) $$ R2
  -- the cells closed
  imod (Rounds.cell_close ER (Rd (F := F) m) (Set.mem_univ (κ (snd0 d))) (fun h => h) (R := 0 + 1) (duties_later m (snd0 d))) $$ [As0] with Zs0
  · isplitr; · iapply (inv_of m κ (snd0_mem d)); iexact Hinv
    iexact As0
  imod (Rounds.cell_close ER (Rd (F := F) m) (Set.mem_univ (κ (snd1 d))) (fun h => h) (R := 0 + 1) (duties_later m (snd1 d))) $$ [As1] with Zs1
  · isplitr; · iapply (inv_of m κ (snd1_mem d)); iexact Hinv
    iexact As1
  imod (Rounds.cell_close ER (Rd (F := F) m) (Set.mem_univ (κ (snd2 d))) (fun h => h) (R := 0 + 1) (duties_later m (snd2 d))) $$ [As2] with Zs2
  · isplitr; · iapply (inv_of m κ (snd2_mem d)); iexact Hinv
    iexact As2
  imod (Rounds.cell_close ER (Rd (F := F) m) (Set.mem_univ (κ (rcv0 d))) (fun h => h) (R := 0 + 1) (duties_later m (rcv0 d))) $$ [Ar0] with Zr0
  · isplitr; · iapply (inv_of m κ (rcv0_mem d)); iexact Hinv
    iexact Ar0
  imod (Rounds.cell_close ER (Rd (F := F) m) (Set.mem_univ (κ (rcv1 d))) (fun h => h) (R := 0 + 1) (duties_later m (rcv1 d))) $$ [Ar1] with Zr1
  · isplitr; · iapply (inv_of m κ (rcv1_mem d)); iexact Hinv
    iexact Ar1
  imod (Rounds.cell_close ER (Rd (F := F) m) (Set.mem_univ (κ (rcv2 d))) (fun h => h) (R := 0 + 1) (duties_later m (rcv2 d))) $$ [Ar2] with Zr2
  · isplitr; · iapply (inv_of m κ (rcv2_mem d)); iexact Hinv
    iexact Ar2
  imod (Rounds.cell_close ER (Rd (F := F) m) (Set.mem_univ (κ (bar d))) (fun h => h) (R := 0 + 1) (duties_later m (bar d))) $$ [Ab] with Zb
  · isplitr; · iapply (inv_of m κ (bar_mem d)); iexact Hinv
    iexact Ab
  simp only [wp_ret]
  imodintro
  isplitl [X0' X1' X2' R0' R1' R2' Zb]
  · isplitl [X0']; · iexact X0'
    isplitl [X1']; · iexact X1'
    isplitl [X2']; · iexact X2'
    isplitl [R0']; · iexact R0'
    isplitl [R1']; · iexact R1'
    isplitl [R2']; · iexact R2'
    iexact Zb
  isplitl [Zs0 Zs1 Zs2 Zr0 Zr1 Zr2]
  · isplitl [Zs0]; · iexact Zs0
    isplitl [Zs1]; · iexact Zs1
    isplitl [Zs2]; · iexact Zs2
    isplitl [Zr0]; · iexact Zr0
    isplitl [Zr1]; · iexact Zr1
    iexact Zr2
  iexists _; isplitr
  swap; · iexact HO
  ipureintro; intro p hp
  rcases Finset.mem_insert.mp hp with rfl | hp; · exact .inr (.inr rfl)
  rcases Finset.mem_insert.mp hp with rfl | hp; · exact .inr (.inr rfl)
  rcases Finset.mem_insert.mp hp with rfl | hp; · exact .inr (.inr rfl)
  rcases Finset.mem_insert.mp hp with rfl | hp; · exact .inr (.inr rfl)
  rcases Finset.mem_insert.mp hp with rfl | hp; · exact .inr (.inr rfl)
  rcases Finset.mem_insert.mp hp with rfl | hp; · exact .inr (.inr rfl)
  rcases Finset.mem_insert.mp hp with rfl | hp; · exact .inr (.inr rfl)
  exact .inl hp

/-! ## The launch: the cells funded, each device dealt its share -/

/-- What a sequencer holds from the launch: its six copy cells. -/
theorem own_held (d : Dev nD) : ownCells (sig := sig) (S d c₀) ∩ held = Finset.univ.image fun j : Fin 6 => cell (d, j.castSucc) := by
  ext g
  rw [Finset.mem_inter, mem_ownCells]
  unfold held
  rw [Finset.mem_image, Finset.mem_image]
  constructor
  · rintro ⟨⟨hg, -⟩, ⟨d', j⟩, -, rfl⟩
    obtain rfl : d' = d := congrArg Prod.fst (show S d' c₀ = S d c₀ from hg)
    exact ⟨j, Finset.mem_univ _, rfl⟩
  · rintro ⟨j, -, rfl⟩
    exact ⟨⟨rfl, csem_scoped j⟩, (d, j), Finset.mem_univ _, rfl⟩
theorem own_held_eq (d : Dev nD) :
    (bigSep (ownCells (sig := sig) (S d c₀) ∩ held) fun g => (semVal g 0 : sProp 𝕄)) = iprop(semVal (snd0 d) 0 ∗ semVal (snd1 d) 0 ∗ semVal (snd2 d) 0 ∗ semVal (rcv0 d) 0 ∗ semVal (rcv1 d) 0 ∗ semVal (rcv2 d) 0) := by
  rw [own_held, SparseCore.bigSep_image_of_injOn (fun a _ b _ e => Fin.castSucc_injective 6 (Prod.mk.inj (cell_inj e)).2) (fun g => (semVal g 0 : sProp 𝕄))]
  exact bigSep_six _

theorem sems_held : ((P (F := F) m).heldSems0 : sProp 𝕄) ⊢ bigSep Finset.univ fun d : Dev nD => iprop(semVal (snd0 d) 0 ∗ semVal (snd1 d) 0 ∗ semVal (snd2 d) 0 ∗ semVal (rcv0 d) 0 ∗ semVal (rcv1 d) 0 ∗ semVal (rcv2 d) 0) := by
  change (bigSep Finset.univ fun dc : Dev nD × Fin τ.nSC => bigSep (ownCells (S dc.1 dc.2) ∩ held) fun g => (semVal g 0 : sProp 𝕄)) ⊢ _
  rw [bigSep_univ_prod (fun dc : Dev nD × Fin τ.nSC => bigSep (ownCells (S dc.1 dc.2) ∩ held) fun g => (semVal g 0 : sProp 𝕄))]
  exact bigSep_mono fun d _ => (bigSep_elim (Φ := fun c : Fin τ.nSC => bigSep (ownCells (S d c) ∩ held) fun g => (semVal g 0 : sProp 𝕄)) (i := c₀)
    (Finset.mem_univ _)).trans (Entails.of_eq (own_held_eq d))
theorem sems_bar : ((K (F := F)).freeOn (· ∈ bars) : sProp 𝕄) ⊢ bigSep Finset.univ fun d : Dev nD => semVal (bar d) 0 := by
  unfold SparseCore.Cfg.freeOn
  refine sep_elim_left.trans ?_
  rw [bigSep_univ_prod (fun dc : Dev nD × Fin τ.nSC => bigSep ((((Finset.univ.filter fun sm : SemLoc sig => ¬sm.isScoped .scScalar).erase
    (.reg (K (F := F)).start)).erase (.reg (K (F := F)).taskDone)).filter fun sm => ((S dc.1 dc.2, sm) : GSem nD τ sig) ∈ bars) fun sm => (semVal (S dc.1 dc.2, sm) 0 : sProp 𝕄))]
  refine bigSep_mono fun d _ => (bigSep_elim (i := c₀) (Finset.mem_univ _)).trans ?_
  exact bigSep_elim (Φ := fun sm : SemLoc sig => (semVal (S d c₀, sm) 0 : sProp 𝕄)) (i := b0) (Finset.mem_filter.mpr
    ⟨Finset.mem_erase.mpr ⟨fun h => absurd (SemLoc.reg.inj h) (show barS ≠ sc_taskDone by decide +kernel),
      Finset.mem_erase.mpr ⟨fun h => absurd (SemLoc.reg.inj h) (show barS ≠ sc_start by decide +kernel),
        Finset.mem_filter.mpr ⟨Finset.mem_univ _, by decide +kernel⟩⟩⟩, Finset.mem_image_of_mem bar (Finset.mem_univ d)⟩)

theorem sems_all : iprop((K (F := F)).freeOn (· ∈ bars) ∗ (P (F := F) m).heldSems0) ⊢ (bigSep cells fun g => semVal g 0 : sProp 𝕄) := by
  rw [cells_eq]
  iintro ⟨Hb, Hh⟩
  ihave Hb' := (sems_bar (F := F)) $$ Hb
  ihave Hh' := (sems_held m) $$ Hh
  iapply (SparseCore.ent (show iprop((bigSep Finset.univ fun d : Dev nD => (semVal (bar d) 0 : sProp 𝕄)) ∗ bigSep Finset.univ fun d : Dev nD => iprop(semVal (snd0 d) 0 ∗ semVal (snd1 d) 0 ∗ semVal (snd2 d) 0 ∗ semVal (rcv0 d) 0 ∗ semVal (rcv1 d) 0 ∗ semVal (rcv2 d) 0))
      ⊢ (bigSep Finset.univ fun d : Dev nD => iprop(semVal (snd0 d) 0 ∗ semVal (snd1 d) 0 ∗ semVal (snd2 d) 0 ∗ semVal (rcv0 d) 0 ∗ semVal (rcv1 d) 0 ∗ semVal (rcv2 d) 0 ∗ semVal (bar d) 0) : sProp 𝕄) from by
    rw [← bigSep_sep']
    refine bigSep_mono fun d _ => ?_
    show iprop(semVal (bar d) 0 ∗ semVal (snd0 d) 0 ∗ semVal (snd1 d) 0 ∗ semVal (snd2 d) 0 ∗ semVal (rcv0 d) 0 ∗ semVal (rcv1 d) 0 ∗ semVal (rcv2 d) 0) ⊢ (iprop(semVal (snd0 d) 0 ∗ semVal (snd1 d) 0 ∗ semVal (snd2 d) 0 ∗ semVal (rcv0 d) 0 ∗ semVal (rcv1 d) 0 ∗ semVal (rcv2 d) 0 ∗ semVal (bar d) 0) : sProp 𝕄)
    · iintro ⟨H6, H0, H1, H2, H3, H4, H5⟩
      isplitl [H0]; · iexact H0
      isplitl [H1]; · iexact H1
      isplitl [H2]; · iexact H2
      isplitl [H3]; · iexact H3
      isplitl [H4]; · iexact H4
      isplitl [H5]; · iexact H5
      iexact H6))
  isplitl [Hb'] <;> iassumption

theorem invs : iprop((bigSep cells fun g => (semVal g 0 : sProp 𝕄)) ∗ bigSep cells fun g => roundState ER (Rd (F := F) m) g 0)
    ⊢ |={Set.univ}=> iprop(∃ κ : GSem nD τ sig → ℕ, bigSep cells fun g => cellInv ER (Rd m) (κ g) g) := by
  refine (Rounds.bodies_intro ER (Rd m) cells).trans ((inv_alloc_family cells (Rounds.body ER (Rd m)) ∅ (E := Set.univ)).trans ?_)
  iintro H
  imod H with ⟨%κ, -, Hinv⟩
  imodintro; iexists κ; iexact Hinv

/-- The tokens: each cell's one duty. -/
def tok (g : GSem nD τ sig) : GSem nD τ sig × ℕ × ℕ := (g, 0, 0)
def toks : Finset (GSem nD τ sig × ℕ × ℕ) := cells.image tok
theorem toks_eq : (bigSep toks fun x => (dutyTok ER x.1 x.2.1 x.2.2 : sProp 𝕄)) = bigSep cells fun g => dutyTok ER g 0 0 := by
  unfold toks
  exact SparseCore.bigSep_image_of_injOn (fun a _ b _ e => (Prod.mk.inj e).1) _

/-- The credit for what the peers owe. -/
theorem creds : ((P (F := F) m).oxCred : sProp 𝕄)
    ⊢ bigSep Finset.univ fun d : Dev nD => iprop(cred (tallyAt (bar d) (some 0) 1) ∗ cred (tallyAt (rcv0 d) (some 0) N) ∗ cred (tallyAt (rcv1 d) (some 0) N) ∗ cred (tallyAt (rcv2 d) (some 0) N)) := by
  unfold SparseCore.Cfg.Pay.oxCred
  rw [SparseCore.Cfg.bigSep_threads (fun thr : Thread nD τ => (cred ((P (F := F) m).oxFrom 0 thr) : sProp 𝕄))]
  refine sep_elim_right.trans (sep_elim_left.trans ?_)
  have hox : ∀ dc : Dev nD × Fin τ.nSC, (P (F := F) m).oxFrom 0 (S dc.1 dc.2) = if dc.2 = c₀ then owed dc.1 else 0 := fun dc => by
    rw [show (0 : ℕ) = (0 : Fin 1).val from rfl, (P m).oxFrom_step, (P m).oxFrom_end _ (n := (0 : Fin 1).val + 1) le_rfl, add_zero]; rfl
  simp only [hox]
  rw [bigSep_univ_prod (fun dc : Dev nD × Fin τ.nSC => (cred (if dc.2 = c₀ then owed dc.1 else 0) : sProp 𝕄)),
    bigSep_peer (fun d : Dev nD => iprop(cred (tallyAt (bar d) (some 0) 1) ∗ cred (tallyAt (rcv0 d) (some 0) N) ∗ cred (tallyAt (rcv1 d) (some 0) N) ∗ cred (tallyAt (rcv2 d) (some 0) N)))]
  refine bigSep_mono fun d _ => ?_
  have e : (cred (owed d) : sProp 𝕄) = iprop(cred (tallyAt (bar (peer d)) (some 0) 1) ∗ cred (tallyAt (rcv0 (peer d)) (some 0) N) ∗ cred (tallyAt (rcv1 (peer d)) (some 0) N) ∗ cred (tallyAt (rcv2 (peer d)) (some 0) N)) := by
    unfold owed; rw [SparseCore.Cfg.cred_add_eq, SparseCore.Cfg.cred_add_eq, SparseCore.Cfg.cred_add_eq]
  rw [← e]
  exact bigSep_elim (Φ := fun c : Fin τ.nSC => (cred (if c = c₀ then owed d else 0) : sProp 𝕄)) (i := c₀) (Finset.mem_univ _)

theorem Px_T (d : Dev nD) : (bigSep Finset.univ fun q : Fin 1 => (P (F := F) m).x q (SparseCore.T d)) = iprop(emp) := bigSep_univ_of_subsingleton (0 : Fin 1)
theorem Px_S (d : Dev nD) (c : Fin τ.nSC) : (bigSep Finset.univ fun q : Fin 1 => (P (F := F) m).x q (S d c)) = if c = c₀ then kit m d else iprop(emp) :=
  bigSep_univ_of_subsingleton (0 : Fin 1)
theorem Px_V (d : Dev nD) (c : Fin τ.nSC) (i : Fin τ.nSub) : (bigSep Finset.univ fun q : Fin 1 => (P (F := F) m).x q (V d c i)) = iprop(emp) :=
  bigSep_univ_of_subsingleton (0 : Fin 1)

theorem kit_of (d : Dev nD) : iprop(known m ∗ mine d) ⊢ (bigSep Finset.univ fun c : Fin τ.nSC => if c = c₀ then kit m d else (iprop(emp) : sProp 𝕄)) := by
  have h0 : ∀ c ∈ Finset.univ.erase c₀, (if c = c₀ then kit m d else (iprop(emp) : sProp 𝕄)) = iprop(emp) := fun c hc => if_neg (Finset.ne_of_mem_erase hc)
  rw [SparseCore.bigSep_erase' (Finset.mem_univ c₀), if_pos rfl, bigSep_congr h0, emps]
  unfold kit
  iintro H
  isplitl [H]; · iexact H
  iempintro
theorem kits : iprop(known m ∗ bigSep Finset.univ (mine (F := F)))
    ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, emps]
  rw [bigSep_univ_prod (fun dc : Dev nD × Fin τ.nSC => if dc.2 = c₀ then kit m dc.1 else (iprop(emp) : sProp 𝕄))]
  iintro H
  isplitr; · iempintro
  isplitl [H]
  · iapply (bigSep_with (R := known m) (Φ := mine (F := F)) fun d => kit_of m d); iexact H
  · iempintro

/-- The shares, regrouped from the cells'. -/
theorem mine_of : iprop((bigSep cells fun g => atPos ER g 0 ∅ 0) ∗ (bigSep cells fun g => dutyTok ER g 0 0)
      ∗ bigSep Finset.univ fun d : Dev nD => iprop(cred (tallyAt (bar d) (some 0) 1) ∗ cred (tallyAt (rcv0 d) (some 0) N) ∗ cred (tallyAt (rcv1 d) (some 0) N) ∗ cred (tallyAt (rcv2 d) (some 0) N)))
    ⊢ (bigSep Finset.univ (mine (F := F)) : sProp 𝕄) := by
  rw [cells_eq, cells_eq]
  change _ ⊢ bigSep Finset.univ fun d => mine (F := F) d
  simp only [mine, bigSep_sep']
  rw [bigSep_peer (fun d => (dutyTok ER (rcv0 d) 0 0 : sProp 𝕄)), bigSep_peer (fun d => (dutyTok ER (rcv1 d) 0 0 : sProp 𝕄)), bigSep_peer (fun d => (dutyTok ER (rcv2 d) 0 0 : sProp 𝕄)), bigSep_peer (fun d => (dutyTok ER (bar d) 0 0 : sProp 𝕄))]

def u₀ : UU := (initOf (K (F := F)).hsCells (K (F := F)).hsToks, initOf cells toks)

theorem hu₀ : iprop(ownU (u₀ (F := F)) ∗ (P (F := F) m).oxCred ∗ (K (F := F)).freeOn (· ∈ bars) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (F := F) m).x q thr) : sProp 𝕄) := by
  unfold u₀
  iintro ⟨Hu, Hcred, Hsems⟩
  ihave H := (ownU_split _ _) $$ Hu
  icases H with ⟨HH, HA⟩
  imod (Rounds.fund ER (Rd (F := F) m) cells toks) $$ HA with ⟨Hst, #Hr, Hat, Htok⟩
  ihave Hsems' := (sems_all m) $$ Hsems
  imod (invs m) $$ [Hsems' Hst] with ⟨%κ, #Hinv⟩
  · isplitl [Hsems'] <;> iassumption
  ihave Hcred' := (creds m) $$ Hcred
  ihave Htok' := (Entails.of_eq (toks_eq (F := F))) $$ Htok
  imodintro
  isplitl [HH]; · iexact HH
  isplitr; · rw [emps]; iempintro
  iapply (kits m)
  isplitr
  · isplitl; · iexists κ; iexact Hinv
    iexact Hr
  iapply (mine_of (F := F))
  isplitl [Hat]; · iexact Hat
  isplitl [Htok']; · iexact Htok'
  iexact Hcred'

/-! ## The call, and @main -/

set_option maxRecDepth 65536 in
theorem scalarObl : (K (F := F)).ScalarObl' (D (F := F)) 𝒱 (P m) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show ∀ c : Fin τ.nSC, defs₀ (F := F) (.scScalar c) 0 () = SparseCore.onCore hcore0 (fun c => cc0_rs_l0_ffn_join (coordsS c) x0M (Memref.isWhole_whole _) x1M (Memref.isWhole_whole _) x2M (Memref.isWhole_whole _)
    o0M (Memref.isWhole_whole _) o1M (Memref.isWhole_whole _) o2M (Memref.isWhole_whole _) cc0_scratch0 cc0_scratch1) ⟨⟩ c from fun _ => rfl]
  simp only [SparseCore.onCore, hc, ↓reduceDIte]
  have hc₀ : (K (F := F)).core 0 ⟨0, hcv⟩ = c₀ := rfl
  rw [show (P (F := F) m).x 0 (S d ((K (F := F)).core 0 ⟨0, hcv⟩)) = kit m d from (if_pos hc₀ : (if (K (F := F)).core 0 ⟨0, hcv⟩ = c₀ then kit m d else iprop(emp)) = (kit m d : sProp 𝕄)),
    show (P (F := F) m).ox 0 (S d ((K (F := F)).core 0 ⟨0, hcv⟩)) = owed d from
      (if_pos hc₀ : (if (K (F := F)).core 0 ⟨0, hcv⟩ = c₀ then owed d else (0 : CellTallies nD τ sig (HIx 1))) = owed d)]
  change iprop(levAts (K (F := F)).L (K (F := F)).lev ∗ kit m d ∗ st m d
        ∗ scopedBufs (S d c₀) ∗ ((P (F := F) m).ownSems0' (S d c₀) ∗ bigSep Finset.univ fun i : Fin τ.nSub => scopedSems0 (V d c₀ i))
        ∗ owes (S d c₀) (O + owed d) W) ⊢ wp frame (wpE (defs₀ (F := F)) 𝒱₀ (S d c₀) none) Set.univ (kern (F := F))
          fun _ => iprop(dn m d ∗ scopedBufs (S d c₀) ∗ scopedSems0 (S d c₀) ∗ ∃ W', ⌜∀ p ∈ W', p ∈ W ∨ p.2 = none ∨ p.2 = some (0 : Fin 1)⌝ ∗ owes (S d c₀) O W')
  iintro ⟨Hlv, Hkit, Hst, Hsb, ⟨Hown, Hsubs⟩, HO⟩
  iapply (wp_wand Idealize.ShloMosaic.frame (wpE (defs₀ (F := F)) 𝒱₀ (S d c₀) none) Set.univ (Q := fun _ => iprop(dn m d ∗ (semVal (snd0 d) 0 ∗ semVal (snd1 d) 0 ∗ semVal (snd2 d) 0 ∗ semVal (rcv0 d) 0 ∗ semVal (rcv1 d) 0 ∗ semVal (rcv2 d) 0)
            ∗ ∃ W', ⌜∀ p ∈ W', p ∈ W ∨ p.2 = none ∨ p.2 = some (0 : Fin 1)⌝ ∗ owes (S d c₀) O W'))) $$ [Hlv Hkit Hst HO]
  · iapply (body m d O W hOlev)
    isplitl [Hlv]; · iexact Hlv
    isplitl [Hkit]; · iexact Hkit
    isplitl [Hst]; · iexact Hst
    iexact HO
  iintro %_ ⟨Hdn, Hcells, HO⟩
  isplitl [Hdn]; · iexact Hdn
  isplitl [Hsb]; · iexact Hsb
  isplitr [HO]; swap; · iexact HO
  iapply (SparseCore.Cfg.scopedSems0_S_intro (Val := Elt F) d c₀)
  isplitl [Hown Hcells]
  · iapply (SparseCore.ent (Entails.of_eq (((P m).ownSems0_split (S d c₀)).trans (by rw [show (P (F := F) m).held = held from rfl, own_held_eq])).symm))
    isplitl [Hown]; · iexact Hown
    iexact Hcells
  · iexact Hsubs

theorem bufs_eq (d : Dev nD) (W : (b : Ref sig .tc) → Buf (Elt F) ((d.tc : Thread nD τ).loc b)) :
    (unscopedBufs d W : sProp 𝕄) = iprop((x0Loc d ↦{fullShare} W main_arg0) ∗ (x1Loc d ↦{fullShare} W main_arg1) ∗ (x2Loc d ↦{fullShare} W main_arg2) ∗ (o0Loc d ↦{fullShare} W main_v1_0) ∗ (o1Loc d ↦{fullShare} W main_v1_1) ∗ (o2Loc d ↦{fullShare} W main_v1_2)) := by
  unfold unscopedBufs
  rw [show (Finset.univ.filter fun b : Ref sig .tc => ¬ b.isScoped) = {main_arg0, main_arg1, main_arg2, main_v1_0, main_v1_1, main_v1_2} by decide,
    SparseCore.bigSep_insert' (by decide), SparseCore.bigSep_insert' (by decide), SparseCore.bigSep_insert' (by decide), SparseCore.bigSep_insert' (by decide),
    SparseCore.bigSep_insert' (by decide), bigSep_singleton]
theorem st_eq (d : Dev nD) : (bigSep Finset.univ fun c : Fin ((K (F := F)).nCore 0) => (P (F := F) m).st 0 d c) = st m d := bigSep_univ_of_subsingleton (0 : Fin 1)
theorem dn_eq (d : Dev nD) : (bigSep Finset.univ fun c : Fin ((K (F := F)).nCore 0) => (P (F := F) m).dn 0 d c) = dn m d := bigSep_univ_of_subsingleton (0 : Fin 1)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ dn m d ∗ (K (F := F)).tcEnd d) := by
  unfold SparseCore.Cfg.tcRes SparseCore.Cfg.tcEnd
  rw [bufs_eq]
  simp only [main, wp_bind, wp_pure]
  iintro ⟨#Hctx, Hst, ⟨Hb, ⟨X0, X1, X2, O0, O1, O2⟩, Hts, -⟩, -⟩
  iapply ((K (F := F)).wp_run (D (F := F)) 𝒱 (EH := EH) (P := P m) κ d 0) $$ [Hst Hb Hts X0 X1 X2 O0 O1 O2]
  isplitr; · iexact Hctx
  isplitl [Hst]; · iexact Hst
  isplitl [X0 X1 X2 O0 O1 O2]
  · rw [st_eq]
    isplitl [X0]; · iexact X0
    isplitl [X1]; · iexact X1
    isplitl [X2]; · iexact X2
    isplitl [O0]; · iexists _; iexact O0
    isplitl [O1]; · iexists _; iexact O1
    iexists _; iexact O2
  iintro ⟨Hst, Hdn⟩
  ihave Hdn' := (Entails.of_eq (dn_eq (F := F) m d)) $$ Hdn
  imodintro
  isplitl [Hst]; · iexact Hst
  isplitl [Hdn']; · iexact Hdn'
  isplitl [Hb] <;> iassumption

/-! ## The run -/

def fq (d : Dev nD) (s' : Phys nD τ sig (Elt F)) : Prop :=
  ((s'.mem.mem (x0Loc d) = m (x0Loc d) ∧ s'.mem.mem (x1Loc d) = m (x1Loc d) ∧ s'.mem.mem (x2Loc d) = m (x2Loc d)) ∧ s'.mem.mem (o0Loc d) = got0 m d ∧ s'.mem.mem (o1Loc d) = got1 m d ∧ s'.mem.mem (o2Loc d) = got2 m d) ∧ s'.mem.sem (bar d) = 0

theorem at_end (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨H, HSI⟩
  ihave h := (SI_pointsTo_agree (st := s') (ℓ := ℓ) (I := Finset.univ) (q := fullShare) (f := f)) $$ [HSI H]
  · isplitl [HSI] <;> iassumption
  icases h with %h
  ipureintro; exact Buf.eq_of_forall_mem_univ h

theorem hfin (d : Dev nD) (s' : Phys nD τ sig (Elt F)) : iprop(dn m d ∗ SI s') ⊢ (⌜fq m d s'⌝ : sProp 𝕄) := fun x hx =>
  ⟨⟨⟨(show iprop(dn m d ∗ SI s') ⊢ (⌜s'.mem.mem (x0Loc d) = m (x0Loc d)⌝ : sProp 𝕄) from (sep_mono_left (sep_elim_left)).trans (at_end s' _ _)) x hx,
    (show iprop(dn m d ∗ SI s') ⊢ (⌜s'.mem.mem (x1Loc d) = m (x1Loc d)⌝ : sProp 𝕄) from (sep_mono_left (sep_elim_right.trans (sep_elim_left))).trans (at_end s' _ _)) x hx,
    (show iprop(dn m d ∗ SI s') ⊢ (⌜s'.mem.mem (x2Loc d) = m (x2Loc d)⌝ : sProp 𝕄) from (sep_mono_left (sep_elim_right.trans (sep_elim_right.trans (sep_elim_left)))).trans (at_end s' _ _)) x hx⟩,
    (show iprop(dn m d ∗ SI s') ⊢ (⌜s'.mem.mem (o0Loc d) = got0 m d⌝ : sProp 𝕄) from (sep_mono_left (sep_elim_right.trans (sep_elim_right.trans (sep_elim_right.trans (sep_elim_left))))).trans (at_end s' _ _)) x hx,
    (show iprop(dn m d ∗ SI s') ⊢ (⌜s'.mem.mem (o1Loc d) = got1 m d⌝ : sProp 𝕄) from (sep_mono_left (sep_elim_right.trans (sep_elim_right.trans (sep_elim_right.trans (sep_elim_right.trans (sep_elim_left)))))).trans (at_end s' _ _)) x hx,
    (show iprop(dn m d ∗ SI s') ⊢ (⌜s'.mem.mem (o2Loc d) = got2 m d⌝ : sProp 𝕄) from (sep_mono_left (sep_elim_right.trans (sep_elim_right.trans (sep_elim_right.trans (sep_elim_right.trans (sep_elim_right.trans (sep_elim_left))))))).trans (at_end s' _ _)) x hx⟩,
    (show iprop(dn m d ∗ SI s') ⊢ (⌜s'.mem.sem (bar d) = 0⌝ : sProp 𝕄) from
      (sep_mono_left (sep_elim_right.trans (sep_elim_right.trans (sep_elim_right.trans (sep_elim_right.trans (sep_elim_right.trans (sep_elim_right))))))).trans (SparseCore.Cfg.semVal_zero_read _ s')) x hx⟩

theorem hA (s' : Phys nD τ sig (Elt F)) (h : ∀ d, fq m d s') (g : GSem nD τ sig) (hg : g ∈ bars) : s'.mem.sem g = 0 := by
  obtain ⟨d, -, rfl⟩ := Finset.mem_image.mp hg
  exact (h d).2

theorem held_ran (d : Dev nD) (c : Fin τ.nSC) (sm : SemLoc sig) (_ : sm.isScoped .scScalar = true) (h : ((S d c, sm) : GSem nD τ sig) ∈ (P (F := F) m).held) :
    0 < (K (F := F)).kRank c 1 := by
  have hc : c = c₀ := by
    obtain ⟨x, -, e⟩ := Finset.mem_image.mp (show ((S d c, sm) : GSem nD τ sig) ∈ held from h)
    exact (Proc.scScalar.inj (Prod.mk.inj (Prod.mk.inj e).1).2).symm
  subst hc
  exact SparseCore.Cfg.kRank_pos (q := 0) ⟨rfl, show c₀.val < (K (F := F)).nCore 0 from Nat.one_pos⟩

/-- Any run ends with each device's results at its peer's arguments, its own arguments as they were, and every semaphore at zero. -/
theorem run : θ_run (defs (F := F)) (threads (F := F)) ⟨m, fun _ => 0, ρ⟩
    (fun r => (∀ d : Dev nD, (r.2.mem (x0Loc d) = m (x0Loc d) ∧ r.2.mem (x1Loc d) = m (x1Loc d) ∧ r.2.mem (x2Loc d) = m (x2Loc d))
      ∧ r.2.mem (o0Loc d) = got0 m d ∧ r.2.mem (o1Loc d) = got1 m d ∧ r.2.mem (o2Loc d) = got2 m d) ∧ r.2.sem = fun _ => 0) :=
  SparseCore.Cfg.θ_run_sc_held_quiescent (K := K (F := F)) (D := D (F := F)) (𝒱 := 𝒱) (EH := EH) (P := P m) (hA := hA m) (hran := held_ran m) facts v₀
    (fun q _ => match q with | 0 => scalarObl m)
    (fun q hq => match q with | 0 => nomatch hq)
    (fun q hq => match q with | 0 => nomatch hq)
    m ρ main (fun _ => iprop(emp)) (dn m) (u₀ (F := F)) (hu₀ m) (hmain m ρ) (fq m) (hfin m) _ (fun _ h hz => ⟨fun d => (h d).1, hz⟩)

/-! ## The claims -/

/-- The kernel's own frame, -/
theorem frame_ideal : quiescent_SwapIdeal (hSwapIdeal := Cert.SwapIdeal.Gen.facts) := fun m g _ =>
  (θ_run (defs (F := Ideal)) _ _).mono (fun _ h => ⟨fun c => (h.1 c).1, h.2⟩) (run (F := Ideal) m g)

theorem same : quiescent_Swap (hSwap := Cert.Swap.Gen.facts)
    = ∀ (m : (ℓ : Loc nD τ sig) → Buf (Elt Bits) ℓ) (g : Dev nD → PrngReg), True →
      θ_run (defs (F := Bits)) (threads (F := Bits)) ⟨m, fun _ => 0, g⟩
        (fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) ∧ r.2.sem = fun _ => 0) := by
  sl_kernel_rfl
/-- and at bits, where the program is the same text. -/
theorem frame_bits : quiescent_Swap (hSwap := Cert.Swap.Gen.facts) :=
  same.mpr fun m g _ => (θ_run (defs (F := Bits)) _ _).mono (fun _ h => ⟨fun c => (h.1 c).1, h.2⟩) (run (F := Bits) m g)

/-- The reference keeps its arguments; it declares no counter. -/
theorem ref_frame : quiescent_SwapRefIdeal (hSwapRefIdeal := Cert.SwapRefIdeal.Gen.facts) := fun m g _ =>
  (θ_run Cert.SwapRefIdeal.defs _ _).mono (fun r h => ⟨fun c => (h c).2.2.2, sem_eq_zero_of_no_sems (by decide) r.2⟩)
    (Cert.SwapRefIdeal.Value.run (F := Ideal) m g)

/-- Block `c` of the reference's result is the other block of its argument: it joins the second half to the first. -/
theorem block_ref (x : (⟨2, ![704, 1024]⟩ : Shape).Idx → Elt Ideal .f32) (c : Dev nD) :
    Layout.block ⟨2, ![352, 1024]⟩ ⟨2, ![704, 1024]⟩ 0 2 (peer c) x
      = Layout.block ⟨2, ![352, 1024]⟩ ⟨2, ![704, 1024]⟩ 0 2 c (Cert.SwapRefIdeal.Read.val_main_v2 (F := Ideal) x) := by
  funext i
  have h0 : (i 0).val < 352 := (i 0).isLt
  unfold Layout.block Cert.SwapRefIdeal.Read.val_main_v2
  have hc : c.val = 0 ∨ c.val = 1 := by have := c.isLt; have : nD = 2 := rfl; omega
  rcases hc with hc | hc
  · refine Eq.trans ?_ (concatenate_pair_apply_left (t := Cert.SwapRefIdeal.S704x1024) (s₁ := Cert.SwapRefIdeal.S352x1024) (s₂ := Cert.SwapRefIdeal.S352x1024) 0
      (Cert.SwapRefIdeal.Read.val_main_v0 x) (Cert.SwapRefIdeal.Read.val_main_v1 x) Cert.SwapRefIdeal.Gen.concatenates_S352x1024_S352x1024_S704x1024_d0 _ rfl i fun b => ?_).symm
    · rw [Cert.SwapRefIdeal.Read.val_main_v0_apply]
      congr 1; funext b; apply Fin.ext
      match b with
      | ⟨0, _⟩ => show (1 - c.val) * 352 + (i 0).val = 352 + (i 0).val; omega
      | ⟨1, _⟩ => rfl
    · match b with
      | ⟨0, _⟩ => show (i 0).val = c.val * 352 + (i 0).val; omega
      | ⟨1, _⟩ => rfl
  · refine Eq.trans ?_ (concatenate_pair_apply_right (t := Cert.SwapRefIdeal.S704x1024) (s₁ := Cert.SwapRefIdeal.S352x1024) (s₂ := Cert.SwapRefIdeal.S352x1024) 0
      (Cert.SwapRefIdeal.Read.val_main_v0 x) (Cert.SwapRefIdeal.Read.val_main_v1 x) Cert.SwapRefIdeal.Gen.concatenates_S352x1024_S352x1024_S704x1024_d0 _ rfl rfl i (fun b hb => ?_) ?_).symm
    · rw [Cert.SwapRefIdeal.Read.val_main_v1_apply]
      congr 1; funext b; apply Fin.ext
      match b with
      | ⟨0, _⟩ => show (1 - c.val) * 352 + (i 0).val = (i 0).val; omega
      | ⟨1, _⟩ => rfl
    · match b with
      | ⟨0, _⟩ => exact absurd rfl hb
      | ⟨1, _⟩ => rfl
    · show (i 0).val + 352 = c.val * 352 + (i 0).val; omega

/-- Two devices' kernel and the whole arrays' reference leave the same arrays. -/
theorem values : algebraic_SwapIdeal_SwapRefIdeal (hSwapIdeal := Cert.SwapIdeal.Gen.facts) (hSwapRefIdeal := Cert.SwapRefIdeal.Gen.facts) := by
  intro m g m' g' _ hagree
  refine ⟨_, _, _, (θ_run (defs (F := Ideal)) _ _).mono (fun r h c => ⟨?_, ?_, ?_, (h.1 c).1⟩) (run (F := Ideal) m g),
    (θ_run Cert.SwapRefIdeal.defs _ _).mono (fun r h => h 0) (Cert.SwapRefIdeal.Value.run (F := Ideal) m' g')⟩
  · refine (h.1 c).2.1.trans (Eq.trans ?_ (block_ref (m' (((0 : Dev Cert.SwapRefIdeal.nD).tc : Thread Cert.SwapRefIdeal.nD Cert.SwapRefIdeal.τ).loc Cert.SwapRefIdeal.main_arg0)) c))
    exact (hagree (peer c)).1
  · refine (h.1 c).2.2.1.trans (Eq.trans ?_ (block_ref (m' (((0 : Dev Cert.SwapRefIdeal.nD).tc : Thread Cert.SwapRefIdeal.nD Cert.SwapRefIdeal.τ).loc Cert.SwapRefIdeal.main_arg1)) c))
    exact (hagree (peer c)).2.1
  · refine (h.1 c).2.2.2.trans (Eq.trans ?_ (block_ref (m' (((0 : Dev Cert.SwapRefIdeal.nD).tc : Thread Cert.SwapRefIdeal.nD Cert.SwapRefIdeal.τ).loc Cert.SwapRefIdeal.main_arg2)) c))
    exact (hagree (peer c)).2.2

end Cert.Proof.Swap

end
-- ==== Proof.DownGrad.lean ====
module
public import proofs.«01_k».proof.Defs
public import proofs.«01_k».proof.Proof.Gen.DownGradRefIdeal
public import proofs.«01_k».proof.Proof.InProj
public import proofs.«01_k».proof.Proof.Gen.DownGrad.Frame
public import proofs.«01_k».proof.Proof.Gen.DownGradIdeal.Frame
public import proofs.«01_k».proof.Proof.Gen.DownGradIdeal.Value
public import proofs.«01_k».proof.Proof.Gen.DownGradRefIdeal.Run
public import proofs.«01_k».proof.Proof.Gen.DownGradRefIdeal.Read
public import Idealize.ShloMosaic.Lib.StableHlo.RunRead
public import Idealize.ShloMosaic.Lib.Claim
public import Idealize.ShloMosaic.Adequacy
public import Idealize.ShloMosaic.Init

/-! The kernel of a weight's gradient, at SwiGLU's output projection, beside its reference. -/

@[expose] public section

set_option maxRecDepth 16384

noncomputable section

open Idealize.ShloMosaic Idealize.ShloMosaic.TcCoe Idealize.SL.Sem
open Idealize.ShloMosaic.Pipeline (Dat)

namespace Cert.DownGrad.Ref
open Cert.DownGradRefIdeal Cert.DownGradRefIdeal.Read Cert.Common Cert.InProj

variable (a : S2x2048x2816.Idx → EReal) (d : S2x2048x1024.Idx → EReal)

/-- One row of the hidden layer. -/
def hid (r : Fin 4096) (i : Fin 2816) : EReal := a (ix3 (ep r) (fr r) i)

/-- The gradient of the weights: a sum over every frame of both examples. -/
def grad (i : Fin 2816) (j : Fin 1024) : EReal := ∑ r : Fin 4096, hid a r i * xrow d r j

/-- What the reference returns. -/
theorem returns (o : Fin 1) (i : Fin 2816) (j : Fin 1024) : val_main_v4 (F := Ideal) a d (ix3 o i j) = grad a d i j := by
  pointwise [val_main_v4, val_main_v3, val_main_v2, val_main_v1]
  exact (sum_frames fun e s => d (ix3 e s j) * a (ix3 e s i)).trans (Finset.sum_congr rfl fun _ _ => mul_comm _ _)

end Cert.DownGrad.Ref

namespace Cert.DownGrad.Kernel
open Cert.DownGradIdeal Cert.DownGradIdeal.Gen Cert.Common Cert.InProj Cert.DownGrad.Ref

variable (m : (ℓ : Loc nD τ sig) → Buf (Elt Ideal) ℓ)

/-- Which block each window reads or writes at a grid point. -/
theorem idx_val : ∀ t : Fin cfg0.N, DownGradIdeal.win0_0.index t = ![0, 0, t.val / 2] ∧ DownGradIdeal.win0_1.index t = ![0, 0, t.val % 2]
    ∧ DownGradIdeal.win0_2.index t = ![0, t.val / 2, t.val % 2] :=
  (by decide +kernel : ∀ t : Fin grid0.N, _)

variable (a : S2x2048x2816.Idx → EReal) (d : S2x2048x1024.Idx → EReal)

/-- There are four grid points. -/
theorem lt4 (t : Fin cfg0.N) : t.val < 4 := lt_of_lt_of_eq t.isLt (show cfg0.N = 4 from N_0)

/-- The row and the column of the gradient that those of the point's block are. -/
def at_ (t : Fin cfg0.N) (i : Fin 1408) : Fin 2816 := ⟨1408 * (t.val / 2) + i.val, by have := lt4 t; omega⟩
def to_ (t : Fin cfg0.N) (j : Fin 512) : Fin 1024 := ⟨512 * (t.val % 2) + j.val, by omega⟩

theorem blk0 (c : Dev nD) (t : Fin cfg0.N) (h : m ((c : Thread nD τ).loc main_arg0) = a) (r : Fin 4096) (i : Fin 1408) :
    iblk m c 0 t (ix3 0 r i) = hid a r (at_ t i) := by
  subst h
  unfold hid
  have := lt4 t
  blk_point [iblk, V, idx_val t] <;> simp only [at_, ep, fr] <;> omega

theorem blk1 (c : Dev nD) (t : Fin cfg0.N) (h : m ((c : Thread nD τ).loc main_arg2) = d) (r : Fin 4096) (j : Fin 512) :
    iblk m c 1 t (ix3 0 r j) = xrow d r (to_ t j) := by
  subst h
  unfold xrow
  blk_point [iblk, V, idx_val t] <;> simp only [to_, ep, fr] <;> omega

/-- The block a point leaves. -/
theorem point (c : Dev nD) (ha : m ((c : Thread nD τ).loc main_arg0) = a) (hd : m ((c : Thread nD τ).loc main_arg2) = d)
    (t : Fin cfg0.N) (o : Fin 1) (i : Fin 1408) (j : Fin 512) :
    out0_2 (iblk m c 0 t) (iblk m c 1 t) (ix3 o i j) = grad a d (at_ t i) (to_ t j) := by
  have h0 := blk0 m a c t ha
  have h1 := blk1 m d c t hd
  frame_out
  generalize iblk m c 0 t = P0 at h0 ⊢
  generalize iblk m c 1 t = P1 at h1 ⊢
  pointwise [k0_pay1]
  simp only [h0, h1]
  rfl

/-- The result array after the run. -/
theorem final (c : Dev nD) (ha : m ((c : Thread nD τ).loc main_arg0) = a) (hd : m ((c : Thread nD τ).loc main_arg2) = d) :
    (dats m 0 c).arrAt 2 cfg0.N = fun y => grad a d (y 1) (y 2) := by
  refine (dats m 0 c).arrAt_eq_of_covers 2 _ (by decide +kernel) fun t hf y => ?_
  obtain ⟨o, i, j, rfl⟩ : ∃ (o : Fin 1) (i : Fin 1408) (j : Fin 512), y = ix3 o i j := ⟨y 0, y 1, y 2, eq_ix3 y⟩
  blk_simp
  rw [after0_2, point m a d c ha hd t o i j]
  congr 1 <;> apply Fin.ext <;> simp only [at_, to_] <;> blk_simp [idx_val t] <;> (try simp) <;> omega

end Cert.DownGrad.Kernel

namespace Cert.DownGrad

open Idealize.ShloMosaic.StableHlo Cert.InProj

/-- The kernel and its reference leave the same array. -/
theorem values : algebraic_DownGradIdeal_DownGradRefIdeal (hDownGradIdeal := Cert.DownGradIdeal.Gen.facts)
    (hDownGradRefIdeal := Cert.DownGradRefIdeal.Gen.facts) := by
  pair_intro
  · run_from Cert.DownGradIdeal.Value.run_blocks m g
  · run_from Cert.DownGradRefIdeal.Value.run m' g'
    · rw [Kernel.final m _ _ c rfl rfl]
      refine (Cert.DownGradRefIdeal.Read.val_main_v4_eq _ _).trans ?_
      funext y
      obtain ⟨o, i, j, rfl⟩ : ∃ o i j, y = ValueIdx.ix3 o i j := ⟨y 0, y 1, y 2, ValueIdx.eq_ix3 y⟩
      exact Ref.returns _ _ o i j

/-- The reference keeps its arguments; it declares no counter. -/
theorem ref_frame : quiescent_DownGradRefIdeal (hDownGradRefIdeal := Cert.DownGradRefIdeal.Gen.facts) := fun m g _ =>
  (θ_run Cert.DownGradRefIdeal.defs _ _).mono (fun r h => ⟨fun c => (h c).2, sem_eq_zero_of_no_sems (by decide) r.2⟩)
    (Cert.DownGradRefIdeal.Value.run (F := Ideal) m g)

end Cert.DownGrad

end

end
-- ==== Proof.OutGrad.lean ====
module
public import proofs.«01_k».proof.Defs
public import proofs.«01_k».proof.Proof.Gen.OutGradRefIdeal
public import proofs.«01_k».proof.Proof.InProj
public import proofs.«01_k».proof.Proof.Gen.OutGrad.Frame
public import proofs.«01_k».proof.Proof.Gen.OutGradIdeal.Frame
public import proofs.«01_k».proof.Proof.Gen.OutGradIdeal.Value
public import proofs.«01_k».proof.Proof.Gen.OutGradRefIdeal.Run
public import proofs.«01_k».proof.Proof.Gen.OutGradRefIdeal.Read
public import Idealize.ShloMosaic.Lib.StableHlo.RunRead
public import Idealize.ShloMosaic.Lib.Claim
public import Idealize.ShloMosaic.Adequacy
public import Idealize.ShloMosaic.Init

/-! The kernel of a projection's gradient by its input, at the convolution mixer's output, beside its reference. -/

@[expose] public section

set_option maxRecDepth 16384

noncomputable section

open Idealize.ShloMosaic Idealize.ShloMosaic.TcCoe Idealize.SL.Sem
open Idealize.ShloMosaic.Pipeline (Dat)

namespace Cert.OutGrad.Ref
open Cert.OutGradRefIdeal Cert.OutGradRefIdeal.Read Cert.Common Cert.InProj

variable (w : S1024x1024.Idx → EReal) (d : S2x2048x1024.Idx → EReal)

/-- The gradient that the projection hands to a row of its input. -/
def grad (r : Fin 4096) (j : Fin 1024) : EReal := ∑ k, xrow d r k * w (ix2 j k)

/-- What the reference returns. -/
theorem returns (r : Fin 4096) (j : Fin 1024) : val_main_v3 (F := Ideal) w d (ix2 r j) = grad w d r j := by
  pointwise [val_main_v3, val_main_v2, val_main_v1]
  rfl

end Cert.OutGrad.Ref

namespace Cert.OutGrad.Kernel
open Cert.OutGradIdeal Cert.OutGradIdeal.Gen Cert.Common Cert.InProj Cert.OutGrad.Ref

variable (m : (ℓ : Loc nD τ sig) → Buf (Elt Ideal) ℓ)

/-- Which block each window reads or writes at a grid point. -/
theorem idx_val : ∀ t : Fin cfg0.N, OutGradIdeal.win0_0.index t = ![t.val, 0] ∧ OutGradIdeal.win0_1.index t = ![0, 0]
    ∧ OutGradIdeal.win0_2.index t = ![t.val, 0] :=
  (by decide +kernel : ∀ t : Fin grid0.N, _)

variable (w : S1024x1024.Idx → EReal) (d : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

theorem blk0 (c : Dev nD) (t : Fin cfg0.N) (h : m ((c : Thread nD τ).loc main_arg2) = d) (q : Fin 512) (k : Fin 1024) :
    iblk m c 0 t (ix2 q k) = xrow d (at_ t q) k := by
  subst h
  unfold xrow
  blk_point [iblk, V, idx_val t] <;> simp only [at_, row, ep, fr] <;> omega

theorem blk1 (c : Dev nD) (t : Fin cfg0.N) (h : m ((c : Thread nD τ).loc main_arg1) = w) (k j : Fin 1024) :
    iblk m c 1 t (ix2 k j) = w (ix2 k j) := by
  subst h
  blk_point [iblk, V, idx_val t]

/-- The block a point leaves. -/
theorem point (c : Dev nD) (hw : m ((c : Thread nD τ).loc main_arg1) = w) (hd : m ((c : Thread nD τ).loc main_arg2) = d)
    (t : Fin cfg0.N) (q : Fin 512) (j : Fin 1024) :
    out0_2 (iblk m c 0 t) (iblk m c 1 t) (ix2 q j) = grad w d (at_ t q) j := by
  have h0 := blk0 m d c t hd
  have h1 := blk1 m w c t hw
  frame_out
  generalize iblk m c 0 t = P0 at h0 ⊢
  generalize iblk m c 1 t = P1 at h1 ⊢
  pointwise [k0_pay1]
  simp only [h0, h1]
  rfl

/-- The result array after the run. -/
theorem final (c : Dev nD) (hw : m ((c : Thread nD τ).loc main_arg1) = w) (hd : m ((c : Thread nD τ).loc main_arg2) = d) :
    (dats m 0 c).arrAt 2 cfg0.N = fun i => grad w d (i 0) (i 1) := by
  refine (dats m 0 c).arrAt_eq_of_covers 2 _ (by decide +kernel) fun t hf i => ?_
  obtain ⟨q, k, rfl⟩ : ∃ (q : Fin 512) (k : Fin 1024), i = ix2 q k := ⟨i 0, i 1, eq_ix2 i⟩
  blk_simp
  rw [after0_2, point m w d c hw hd t q k]
  congr 1 <;> apply Fin.ext <;> simp only [at_, row] <;> blk_simp [idx_val t] <;> (try simp) <;> omega

end Cert.OutGrad.Kernel

namespace Cert.OutGrad

open Idealize.ShloMosaic.StableHlo Cert.InProj

/-- The kernel and its reference leave the same array. -/
theorem values : algebraic_OutGradIdeal_OutGradRefIdeal (hOutGradIdeal := Cert.OutGradIdeal.Gen.facts)
    (hOutGradRefIdeal := Cert.OutGradRefIdeal.Gen.facts) := by
  pair_intro
  · run_from Cert.OutGradIdeal.Value.run_blocks m g
  · run_from Cert.OutGradRefIdeal.Value.run m' g'
    · rw [Kernel.final m _ _ c rfl rfl]
      refine (Cert.OutGradRefIdeal.Read.val_main_v3_eq _ _).trans ?_
      funext i
      obtain ⟨r, k, rfl⟩ : ∃ r k, i = ValueIdx.ix2 r k := ⟨i 0, i 1, ValueIdx.eq_ix2 i⟩
      exact Ref.returns _ _ r k

/-- The reference keeps its arguments; it declares no counter. -/
theorem ref_frame : quiescent_OutGradRefIdeal (hOutGradRefIdeal := Cert.OutGradRefIdeal.Gen.facts) := fun m g _ =>
  (θ_run Cert.OutGradRefIdeal.defs _ _).mono (fun r h => ⟨fun c => (h c).2, sem_eq_zero_of_no_sems (by decide) r.2⟩)
    (Cert.OutGradRefIdeal.Value.run (F := Ideal) m g)

end Cert.OutGrad

end

end
-- ==== Proof.OutProj.lean ====
module
public import proofs.«01_k».proof.Defs
public import proofs.«01_k».proof.Proof.Gen.OutProjRefIdeal
public import proofs.«01_k».proof.Proof.InProj
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.StableHlo.RunRead
public import Idealize.ShloMosaic.Lib.Claim
public import Idealize.ShloMosaic.Adequacy
public import Idealize.ShloMosaic.Init

/-! The kernel that projects and adds the residual stream, at the convolution mixer's output, beside its reference. -/

@[expose] public section

set_option maxRecDepth 16384

noncomputable section

open Idealize.ShloMosaic Idealize.ShloMosaic.TcCoe Idealize.SL.Sem
open Idealize.ShloMosaic.Pipeline (Dat)

namespace Cert.OutProj.Ref
open Cert.OutProjRefIdeal Cert.OutProjRefIdeal.Read Cert.Common Cert.InProj

variable (y : S2x2048x1024.Idx → EReal) (w : S1024x1024.Idx → EReal) (x : S2x2048x1024.Idx → EReal)

/-- The projection of a row, added to the row of the residual stream. -/
def res (r : Fin 4096) (j : Fin 1024) : EReal := xrow x r j + ∑ k, xrow y r k * w (ix2 k j)

/-- What the reference returns. -/
theorem returns (r : Fin 4096) (j : Fin 1024) : val_main_v2 (F := Ideal) y w x (ix2 r j) = res y w x r j := by
  pointwise [val_main_v2, val_main_v1, val_main_v0]
  rfl

end Cert.OutProj.Ref

namespace Cert.OutProj.Kernel
open Cert.OutProjIdeal Cert.OutProjIdeal.Gen Cert.Common Cert.InProj Cert.OutProj.Ref

variable (m : (ℓ : Loc nD τ sig) → Buf (Elt Ideal) ℓ)

/-- Which block each window reads or writes at a grid point. -/
theorem idx_val : ∀ t : Fin cfg0.N, OutProjIdeal.win0_0.index t = ![t.val, 0] ∧ OutProjIdeal.win0_1.index t = ![0, 0]
    ∧ OutProjIdeal.win0_2.index t = ![t.val, 0] ∧ OutProjIdeal.win0_3.index t = ![t.val, 0] :=
  (by decide +kernel : ∀ t : Fin grid0.N, _)

variable (y : S2x2048x1024.Idx → EReal) (w : S1024x1024.Idx → EReal) (x : S2x2048x1024.Idx → EReal)

/-- There are eight grid points. -/
theorem lt8 (t : Fin cfg0.N) : t.val < 8 := lt_of_lt_of_eq t.isLt (show cfg0.N = 8 from N_0)

/-- The row of the whole array that row `q` of the point's block is. -/
def at_ (t : Fin cfg0.N) (q : Fin 512) : Fin 4096 := row t.val (lt8 t) q

theorem blk0 (c : Dev nD) (t : Fin cfg0.N) (h : m ((c : Thread nD τ).loc main_arg0) = y) (q : Fin 512) (k : Fin 1024) :
    iblk m c 0 t (ix2 q k) = xrow y (at_ t q) k := by
  subst h
  unfold xrow
  blk_point [iblk, V, idx_val t] <;> simp only [at_, row, ep, fr] <;> omega

theorem blk1 (c : Dev nD) (t : Fin cfg0.N) (h : m ((c : Thread nD τ).loc main_arg1) = w) (k j : Fin 1024) :
    iblk m c 1 t (ix2 k j) = w (ix2 k j) := by
  subst h
  blk_point [iblk, V, idx_val t]

theorem blk2 (c : Dev nD) (t : Fin cfg0.N) (h : m ((c : Thread nD τ).loc main_arg2) = x) (q : Fin 512) (k : Fin 1024) :
    iblk m c 2 t (ix2 q k) = xrow x (at_ t q) k := by
  subst h
  unfold xrow
  blk_point [iblk, V, idx_val t] <;> simp only [at_, row, ep, fr] <;> omega

/-- The block a point leaves. -/
theorem point (c : Dev nD) (hy : m ((c : Thread nD τ).loc main_arg0) = y) (hw : m ((c : Thread nD τ).loc main_arg1) = w)
    (hx : m ((c : Thread nD τ).loc main_arg2) = x) (t : Fin cfg0.N) (q : Fin 512) (j : Fin 1024) :
    out0_3 (iblk m c 0 t) (iblk m c 1 t) (iblk m c 2 t) (ix2 q j) = res y w x (at_ t q) j := by
  have h0 := blk0 m y c t hy
  have h1 := blk1 m w c t hw
  have h2 := blk2 m x c t hx
  frame_out
  generalize iblk m c 0 t = P0 at h0 ⊢
  generalize iblk m c 1 t = P1 at h1 ⊢
  generalize iblk m c 2 t = P2 at h2 ⊢
  pointwise [k0_pay1]
  simp only [h0, h1, h2]
  rfl

/-- The result array after the run. -/
theorem final (c : Dev nD) (hy : m ((c : Thread nD τ).loc main_arg0) = y) (hw : m ((c : Thread nD τ).loc main_arg1) = w)
    (hx : m ((c : Thread nD τ).loc main_arg2) = x) : (dats m 0 c).arrAt 3 cfg0.N = fun i => res y w x (i 0) (i 1) := by
  refine (dats m 0 c).arrAt_eq_of_covers 3 _ (by decide +kernel) fun t hf i => ?_
  obtain ⟨q, k, rfl⟩ : ∃ (q : Fin 512) (k : Fin 1024), i = ix2 q k := ⟨i 0, i 1, eq_ix2 i⟩
  blk_simp
  rw [after0_3, point m y w x c hy hw hx t q k]
  congr 1 <;> apply Fin.ext <;> simp only [at_, row] <;> blk_simp [idx_val t] <;> (try simp) <;> omega

end Cert.OutProj.Kernel

namespace Cert.OutProj

open Idealize.ShloMosaic.StableHlo Cert.InProj

/-- The kernel and its reference leave the same array. -/
theorem values : algebraic_OutProjIdeal_OutProjRefIdeal (hOutProjIdeal := Cert.OutProjIdeal.Gen.facts)
    (hOutProjRefIdeal := Cert.OutProjRefIdeal.Gen.facts) := by
  pair_intro
  · run_from Cert.OutProjIdeal.Value.run_blocks m g
  · run_from Cert.OutProjRefIdeal.Value.run m' g'
    · rw [Kernel.final m _ _ _ c rfl rfl rfl]
      refine (Cert.OutProjRefIdeal.Read.val_main_v2_eq _ _ _).trans ?_
      funext i
      obtain ⟨r, k, rfl⟩ : ∃ r k, i = ValueIdx.ix2 r k := ⟨i 0, i 1, ValueIdx.eq_ix2 i⟩
      exact Ref.returns _ _ _ r k

/-- The reference keeps its arguments; it declares no counter. -/
theorem ref_frame : quiescent_OutProjRefIdeal (hOutProjRefIdeal := Cert.OutProjRefIdeal.Gen.facts) := fun m g _ =>
  (θ_run Cert.OutProjRefIdeal.defs _ _).mono (fun r h => ⟨fun c => (h c).2, sem_eq_zero_of_no_sems (by decide) r.2⟩)
    (Cert.OutProjRefIdeal.Value.run (F := Ideal) m g)

end Cert.OutProj

end

end
-- ==== Proof.PoolFwd.lean ====
module
public import proofs.«01_k».proof.Proof.Pool
public import proofs.«01_k».proof.Proof.Gen.Pre_pooled_finite

/-! Trailing means: the kernel's sum, built by doubling, and the reference's, a difference of two running sums. A trailing
window is read as a window of the frames taken in the opposite order. -/

@[expose] public section

set_option maxRecDepth 16384

noncomputable section

open Idealize.ShloMosaic Idealize.ShloMosaic.TcCoe

namespace Cert.PoolFwd
open Cert.Common Cert.Reals Cert.Pool

/-- The frames in the opposite order. -/
def rv (f : Fin 2048 → EReal) (u : Fin 2048) : EReal := f (Fin.rev u)

/-- Channel `k` of group `g`. -/
def ch (g : Fin 4) (k : Fin 256) : Fin 1024 := ⟨256 * g.val + k.val, by omega⟩

/-- One group of channels. -/
def part (x : (⟨3, ![2, 2048, 1024]⟩ : Shape).Idx → EReal) (g : Fin 4) : (⟨3, ![2, 2048, 256]⟩ : Shape).Idx → EReal :=
  fun i => x (ix3 (i 0) (i 1) (ch g (i 2)))

/-- The mean of the `w` frames that end at a frame, fewer at the start, less the frame itself. -/
def mean (p : (⟨3, ![2, 2048, 256]⟩ : Shape).Idx → EReal) (w : ℕ) (e : Fin 2) (t : Fin 2048) (k : Fin 256) : EReal :=
  Ideal.div (win (rv fun u => p (ix3 e u k)) w (2047 - t.val)) (cnt w t.val) - p (ix3 e t k)

theorem win_add (f : Fin 2048 → EReal) (n l t : ℕ) : win f n t + win f l (t + n) = win f (n + l) t := by
  unfold win
  rw [Finset.sum_range_add]
  simp only [add_assoc]

/-- A frame alone is a window of one. -/
theorem one (f : Fin 2048 → EReal) (t : Fin 2048) : f t = win (rv f) 1 (2047 - t.val) := by
  have h := win_one (rv f) (Fin.rev t)
  have e : (Fin.rev t).val = 2047 - t.val := by rw [Fin.val_rev]; omega
  rw [e] at h
  rw [h]
  exact congrArg f (Fin.rev_rev t).symm

/-- One of the kernel's steps: what every row holds is added to the row `n` after it, the first `n` rows being left. -/
theorem step {v : FVec Ideal (⟨2, ![2048, 256]⟩ : Shape) .f32} {f : Fin 256 → Fin 2048 → EReal} (n : ℕ) (h1 : n < 2048)
    (hv : ∀ t k, v (ix2 t k) = win (f k) n (2047 - t.val)) (c : BitVec 32) (hc : c = BitVec.ofNat 32 n) (z : EReal) (hz : z = 0) (hI) (hR)
    (t : Fin 2048) (k : Fin 256) :
    addf v (select (cmpi .sge (iota .tc (⟨2, ![2048, 256]⟩ : Shape) 32 [0] hI) (broadcast (⟨2, ![2048, 256]⟩ : Shape) c))
      (dynamicRotate 0 c none v hR) (broadcast (⟨2, ![2048, 256]⟩ : Shape) z) : FVec Ideal (⟨2, ![2048, 256]⟩ : Shape) .f32) (ix2 t k)
      = win (f k) (n + n) (2047 - t.val) := by
  subst hc; subst hz
  have hb : (BitVec.ofNat 32 n).toNat = n := by simp; omega
  have hr : dynamicRotate 0 (BitVec.ofNat 32 n) none v hR (ix2 t k) = v (ix2 ⟨(t.val + 2048 - n) % 2048, by omega⟩ k) := by
    refine dynamicRotate_apply _ _ _ _ _ _ fun b => ?_
    rw [hb]
    match b with
    | ⟨0, _⟩ =>
      show (t.val + 2048 - n) % 2048 = (t.val + 2048 - n % 2048) % 2048
      omega
    | ⟨1, _⟩ => rfl
  have hs : Scalar.select (IntOp.cmpi .sge (BitVec.ofNat 32 (0 * 2048 + t.val)) (BitVec.ofNat 32 n))
      (dynamicRotate 0 (BitVec.ofNat 32 n) none v hR (ix2 t k)) 0 = win (f k) n (2047 - t.val + n) := by
    rw [select_sge _ _ (by omega) (by omega), hr, hv]
    split_ifs with h
    · show win (f k) n (2047 - (t.val + 2048 - n) % 2048) = _
      congr 1
      omega
    · rw [win_past _ _ _ (by omega)]
  rw [← win_double, ← hs, ← hv]
  rfl

/-- The kernel's division by the number of frames in the window. -/
theorem over (w : ℕ) (hw : w < 2048) (v : FVec Ideal (⟨2, ![2048, 256]⟩ : Shape) .f32) (hI) (t : Fin 2048) (k : Fin 256) :
    divf v (sitofp .f32 (minsi (addi (iota .tc (⟨2, ![2048, 256]⟩ : Shape) 32 [0] hI) (broadcast (⟨2, ![2048, 256]⟩ : Shape) 1#32))
      (broadcast (⟨2, ![2048, 256]⟩ : Shape) (BitVec.ofNat 32 w))) : FVec Ideal (⟨2, ![2048, 256]⟩ : Shape) .f32) (ix2 t k)
      = Ideal.div (v (ix2 t k)) (cnt w t.val) := by
  rw [← cnt_int w t.val hw t.isLt]
  show Ideal.div (v (ix2 t k)) (FloatOps.sitofp (F := Ideal) .f32 (IntOp.minsi (BitVec.ofNat 32 (0 * 2048 + t.val) + 1#32) (BitVec.ofNat 32 w))) = _
  rw [Nat.zero_mul, Nat.zero_add]

/-- The reference's running sum from the first frame on, at an index. -/
theorem head_sum (x : FVec Ideal (⟨3, ![2, 2048, 256]⟩ : Shape) .f32) (z : FVec Ideal (⟨0, ![]⟩ : Shape) .f32) (hz : ∀ i, z i = 0)
    (h : (⟨3, ![2, 2048, 256]⟩ : Shape).ReduceWindows (![1, 2048, 1] : Fin 3 → ℕ) ![1, 1, 1] ![0, 2047, 0] ![0, 0, 0] (⟨3, ![2, 2048, 256]⟩ : Shape)) (hu)
    (e : Fin 2) (t : Fin 2048) (k : Fin 256) :
    Host.reduceWindowAdd (F := Ideal) (φ := .f32) ![1, 2048, 1] ![1, 1, 1] ![0, 2047, 0] ![0, 0, 0] x z h hu (ix3 e t k)
      = win (rv fun u => x (ix3 e u k)) 2048 (2047 - t.val) := by
  unfold Host.reduceWindowAdd
  rw [hz, Ideal.hostReduceWindowAdd_def]
  have fold : ∀ {N : ℕ} (g : Fin N → EReal) (l : List (Fin N)) (r : EReal), l.foldl (fun r n => r + g n) r = r + (l.map g).sum := by
    intro N g l
    induction l with
    | nil => intro r; simp
    | cons a l ih => intro r; rw [List.foldl_cons, ih, List.map_cons, List.sum_cons, add_assoc]
  unfold Ideal.hostReduceWindowAdd Host.reduceWindow
  refine (fold _ _ _).trans ?_
  rw [zero_add, ← List.ofFn_eq_map, List.sum_ofFn, ← Equiv.sum_comp (⟨3, ![1, 2048, 1]⟩ : Shape).rowMajor]
  have key : Function.Bijective fun b : Fin 2048 => (ix3 0 (Fin.rev b) 0 : (⟨3, ![1, 2048, 1]⟩ : Shape).Idx) := by
    refine Function.bijective_iff_has_inverse.mpr ⟨fun i => Fin.rev (i 1), fun b => Fin.rev_rev b, fun i => ?_⟩
    funext a
    match a with
    | ⟨0, _⟩ => exact Subsingleton.elim (α := Fin 1) _ _
    | ⟨1, _⟩ => exact Fin.rev_rev (n := 2048) _
    | ⟨2, _⟩ => exact Subsingleton.elim (α := Fin 1) _ _
  rw [← Function.Bijective.sum_comp key]
  unfold win
  rw [← Fin.sum_univ_eq_sum_range (fun i => ext (rv fun u => x (ix3 e u k)) (2047 - t.val + i))]
  refine Finset.sum_congr rfl fun b _ => ?_
  simp only [Equiv.symm_apply_apply]
  have hv : (Fin.rev b).val = 2047 - b.val := by rw [Fin.val_rev]; omega
  unfold ext
  by_cases hb : 2047 - t.val + b.val < 2048
  · rw [dif_pos hb, dif_pos]
    · refine congrArg x (funext fun a => Fin.ext ?_)
      match a with
      | ⟨0, _⟩ => show e.val * 1 + 0 - 0 = e.val; omega
      | ⟨1, _⟩ =>
        show t.val * 1 + (Fin.rev b).val - 2047 = (Fin.rev (⟨2047 - t.val + b.val, hb⟩ : Fin 2048)).val
        rw [hv, Fin.val_rev]
        show _ = 2048 - (2047 - t.val + b.val + 1)
        omega
      | ⟨2, _⟩ => show k.val * 1 + 0 - 0 = k.val; omega
    · intro a
      match a with
      | ⟨0, _⟩ => show 0 ≤ e.val * 1 + 0 ∧ e.val * 1 + 0 - 0 < 2; omega
      | ⟨1, _⟩ => show 2047 ≤ t.val * 1 + (Fin.rev b).val ∧ t.val * 1 + (Fin.rev b).val - 2047 < 2048; omega
      | ⟨2, _⟩ => show 0 ≤ k.val * 1 + 0 ∧ k.val * 1 + 0 - 0 < 256; omega
  · rw [dif_neg hb, dif_neg]
    intro hin
    have : 2047 ≤ t.val * 1 + (Fin.rev b).val := (hin (1 : Fin 3)).1
    omega

/-- Of finite frames, a running sum less the running sum `w` frames before is the sum over one window. -/
theorem sum_diff (r : Fin 2048 → ℝ) (w s : ℕ) :
    win (fun u => (r u : EReal)) 2048 s - win (fun u => (r u : EReal)) 2048 (s + w) = win (fun u => (r u : EReal)) w s := by
  have h : win (fun u => (r u : EReal)) 2048 s = win (fun u => (r u : EReal)) w s + win (fun u => (r u : EReal)) 2048 (s + w) := by
    rw [win_add, Nat.add_comm w 2048, ← win_add, win_past _ w _ (by omega), add_zero]
  rw [h, win_real r 2048 (s + w), EReal.add_sub_cancel_right]

/-- The reference's running sums shifted by `w` frames, zeros entering at the start. -/
theorem shifted (w n : ℕ) (hn : n + w = 2048) (f : Fin 2 → Fin 256 → Fin 2048 → EReal) (c : FVec Ideal (⟨3, ![2, 2048, 256]⟩ : Shape) .f32)
    (hc : ∀ e t k, c (ix3 e t k) = win (f e k) 2048 (2047 - t.val)) (zz : FVec Ideal (⟨3, ![2, w, 256]⟩ : Shape) .f32) (hzz : ∀ i, zz i = 0) (hS) (hC)
    (e : Fin 2) (t : Fin 2048) (k : Fin 256) :
    concatenate (⟨3, ![2, 2048, 256]⟩ : Shape) 1 [⟨(⟨3, ![2, w, 256]⟩ : Shape), zz⟩,
      ⟨(⟨3, ![2, n, 256]⟩ : Shape), extractStridedSlice (⟨3, ![2, n, 256]⟩ : Shape) ![0, 0, 0] c hS⟩] hC (ix3 e t k)
      = win (f e k) 2048 (2047 - t.val + w) := by
  by_cases h : t.val < w
  · rw [win_past _ _ _ (by omega), concatenate_pair_apply_left 1 zz _ hC (ix3 e t k) rfl (ix3 e ⟨t.val, h⟩ k) (fun b => by
      match b with
      | ⟨0, _⟩ => rfl
      | ⟨1, _⟩ => rfl
      | ⟨2, _⟩ => rfl)]
    exact hzz _
  · rw [concatenate_pair_apply_right 1 zz _ hC (ix3 e t k) rfl rfl (ix3 e ⟨t.val - w, by omega⟩ k) (fun b hb => by
      match b with
      | ⟨0, _⟩ => rfl
      | ⟨1, _⟩ => exact absurd rfl hb
      | ⟨2, _⟩ => rfl) (by show t.val - w + w = t.val; omega),
      extractStridedSlice_apply ![0, 0, 0] c hS (ix3 e ⟨t.val - w, by omega⟩ k) (ix3 e ⟨t.val - w, by omega⟩ k) (fun a => by
        match a with
        | ⟨0, _⟩ => show e.val = 0 + e.val; omega
        | ⟨1, _⟩ => show t.val - w = 0 + (t.val - w); omega
        | ⟨2, _⟩ => show k.val = 0 + k.val; omega), hc]
    congr 1
    show 2047 - (t.val - w) = _
    omega

/-- What the reference computes of finite frames. -/
theorem ref_mean (p : FVec Ideal (⟨3, ![2, 2048, 256]⟩ : Shape) .f32) (hp : ∀ i, max (p i) (-p i : EReal) < ⊤) (w n : ℕ) (hn : n + w = 2048)
    (z : FVec Ideal (⟨0, ![]⟩ : Shape) .f32) (hz : ∀ i, z i = 0) (zz : FVec Ideal (⟨3, ![2, w, 256]⟩ : Shape) .f32) (hzz : ∀ i, zz i = 0)
    (cn : FVec Ideal (⟨3, ![2, 2048, 256]⟩ : Shape) .f32) (hcn : ∀ e t k, cn (ix3 e t k) = cnt w t.val) (hW) (hu) (hS) (hC)
    (e : Fin 2) (t : Fin 2048) (k : Fin 256) :
    subf (Host.divf (subf (Host.reduceWindowAdd (F := Ideal) (φ := .f32) ![1, 2048, 1] ![1, 1, 1] ![0, 2047, 0] ![0, 0, 0] p z hW hu)
      (concatenate (⟨3, ![2, 2048, 256]⟩ : Shape) 1 [⟨(⟨3, ![2, w, 256]⟩ : Shape), zz⟩,
        ⟨(⟨3, ![2, n, 256]⟩ : Shape), extractStridedSlice (⟨3, ![2, n, 256]⟩ : Shape) ![0, 0, 0]
          (Host.reduceWindowAdd (F := Ideal) (φ := .f32) ![1, 2048, 1] ![1, 1, 1] ![0, 2047, 0] ![0, 0, 0] p z hW hu) hS⟩] hC)) cn) p (ix3 e t k)
      = mean p w e t k := by
  have h1 := head_sum p z hz hW hu
  have h2 := shifted w n hn (fun e k => rv fun u => p (ix3 e u k)) _ h1 zz hzz hS hC e t k
  obtain ⟨r, rfl⟩ := lift_fun hp
  unfold mean
  rw [← hcn e t k]
  refine congrArg (fun a => Ideal.div a (cn (ix3 e t k)) - ((r (ix3 e t k) : ℝ) : EReal)) ?_
  refine (congrArg₂ (fun a b : EReal => a - b) (h1 e t k) h2).trans ?_
  exact sum_diff (fun u => r (ix3 e (Fin.rev u) k)) w (2047 - t.val)

/-- What the precondition says of the frames. -/
theorem finite [Cert.Pre_pooled_finite.Facts] {x : FVec Ideal Cert.Pre_pooled_finite.S2x2048x1024 .f32}
    (h : Cert.Pre_pooled_finite.fn (F := Ideal) x = fun _ => 1#1) (g : Fin 4) : ∀ i, max (part x g i) (-part x g i : EReal) < ⊤ := by
  have h0 := congrFun h fun a : Fin 0 => a.elim0
  unfold Cert.Pre_pooled_finite.fn at h0
  dsimp only at h0
  haveI : Subsingleton Cert.Pre_pooled_finite.S_.Idx := ⟨fun a b => funext fun i => i.elim0⟩
  have h1 : ∀ i, max (x i) (-x i : EReal) < ⊤ := by
    refine Finite.all_finite h0 ?_
    exact fun _ => Finite.inf_eq
  exact fun i => h1 _

end Cert.PoolFwd

end

end
-- ==== Proof.Pool16Fwd.lean ====
module
public import proofs.«01_k».proof.Defs
public import proofs.«01_k».proof.Proof.PoolFwd
public import proofs.«01_k».proof.Proof.Gen.Pool16Fwd.Frame
public import proofs.«01_k».proof.Proof.Gen.Pool16FwdIdeal.Frame
public import proofs.«01_k».proof.Proof.Gen.Pool16FwdIdeal.Value
public import proofs.«01_k».proof.Proof.Gen.Pool16FwdRefIdeal
public import proofs.«01_k».proof.Proof.Gen.Pool16FwdRefIdeal.Run
public import proofs.«01_k».proof.Proof.Gen.Pool16FwdRefIdeal.Read
public import Idealize.ShloMosaic.Lib.StableHlo.RunRead
public import Idealize.ShloMosaic.Lib.Claim
public import Idealize.ShloMosaic.Adequacy
public import Idealize.ShloMosaic.Init

/-! What the forward kernel of the group that pools over sixteen frames leaves, beside its reference. -/

@[expose] public section

set_option maxRecDepth 16384

noncomputable section

open Idealize.ShloMosaic Idealize.ShloMosaic.TcCoe Idealize.SL.Sem
open Idealize.ShloMosaic.Pipeline (Dat)

namespace Cert.Pool16Fwd
open Cert.Common Cert.PoolFwd
open Cert.Pool (win cnt cnt_float)

section
open Cert.Pool16FwdIdeal Cert.Pool16FwdIdeal.Gen

variable (m : (ℓ : Loc nD τ sig) → Buf (Elt Ideal) ℓ)

/-- Which block each window reads or writes at a grid point. -/
theorem idx_val : ∀ t : Fin cfg0.N, Pool16FwdIdeal.win0_0.index t = ![t.val, 3] ∧ Pool16FwdIdeal.win0_1.index t = ![t.val, 0] :=
  (by decide +kernel : ∀ t : Fin grid0.N, _)

/-- The doubling, then the mean, then the frame itself taken away. -/
theorem payload (P : FVec Ideal S2048x256 .bf16) (t : Fin 2048) (k : Fin 256) :
    k0_pay1 (F := Ideal) P (ix2 t k) = Ideal.div (win (rv fun u => P (ix2 u k)) 16 (2047 - t.val)) (cnt 16 t.val) - P (ix2 t k) := by
  have h0 : ∀ (t : Fin 2048) (k : Fin 256), extf (F := Ideal) .f32 P bitsLt_bf16_f32 (ix2 t k) = win (rv fun u => P (ix2 u k)) 1 (2047 - t.val) :=
    fun t k => one (fun u => P (ix2 u k)) t
  have h1 := step (f := fun k => rv fun u => P (ix2 u k)) 1 (by omega) h0 1#32 rfl _ Ideal.ofBits_zero_f32 iota_S2048x256_d0_w32 rotates_S2048x256_d0
  have h2 := step (f := fun k => rv fun u => P (ix2 u k)) 2 (by omega) h1 2#32 rfl _ Ideal.ofBits_zero_f32 iota_S2048x256_d0_w32 rotates_S2048x256_d0
  have h3 := step (f := fun k => rv fun u => P (ix2 u k)) 4 (by omega) h2 4#32 rfl _ Ideal.ofBits_zero_f32 iota_S2048x256_d0_w32 rotates_S2048x256_d0
  have h4 := step (f := fun k => rv fun u => P (ix2 u k)) 8 (by omega) h3 8#32 rfl _ Ideal.ofBits_zero_f32 iota_S2048x256_d0_w32 rotates_S2048x256_d0
  rw [← h4 t k]
  unfold k0_pay1
  rw [shapeCast_self]
  exact congrArg (· - P (ix2 t k)) (over 16 (by omega) _ iota_S2048x256_d0_w32 t k)

/-- There are two grid points, one for each episode. -/
theorem lt2 (t : Fin cfg0.N) : t.val < 2 := lt_of_lt_of_eq t.isLt (show cfg0.N = 2 from N_0)

theorem blk0 (c : Dev nD) (t : Fin cfg0.N) (x : S2x2048x1024.Idx → EReal) (h : m ((c : Thread nD τ).loc main_arg0) = x) (u : Fin 2048) (k : Fin 256) :
    iblk m c 0 t (ix2 u k) = part x 3 (ix3 ⟨t.val, lt2 t⟩ u k) := by
  subst h
  have := lt2 t
  blk_point [iblk, V, idx_val t] <;> (try simp only [ch]) <;> (try simp) <;> (try omega)

/-- The block a point leaves. -/
theorem point (c : Dev nD) (t : Fin cfg0.N) (x : S2x2048x1024.Idx → EReal) (h : m ((c : Thread nD τ).loc main_arg0) = x) (u : Fin 2048) (k : Fin 256) :
    out0_1 (iblk m c 0 t) (ix2 u k) = mean (part x 3) 16 ⟨t.val, lt2 t⟩ u k := by
  have hb := blk0 m c t x h
  generalize iblk m c 0 t = P at hb ⊢
  frame_out
  refine (payload P u k).trans ?_
  simp only [hb]
  rfl

/-- What the kernel leaves. -/
theorem final (c : Dev nD) (x : S2x2048x1024.Idx → EReal) (h : m ((c : Thread nD τ).loc main_arg0) = x) :
    (dats m 0 c).arrAt 1 cfg0.N = fun i : S4096x256.Idx => mean (part x 3) 16 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t x h]
  congr 1 <;> apply Fin.ext <;> simp only [ep, fr] <;> blk_simp [idx_val t] <;> (try simp) <;> omega

end

section
open Cert.Pool16FwdRefIdeal Cert.Pool16FwdRefIdeal.Gen Cert.Pool16FwdRefIdeal.Read

/-- The number of frames in a window, as the reference computes it. -/
theorem ref_cnt (e : Fin 2) (u : Fin 2048) (k : Fin 256) : val_main_v12 (F := Ideal) (ix3 e u k) = cnt 16 u.val := by
  have h4 : Ideal.ofBits .f32 0x41800000#32 = (((16 : ℕ) : ℝ) : EReal) := by
    simp [Ideal.ofBits, Ideal.ieee, -EReal.coe_mul]
    norm_num
  rw [← cnt_float 16 u.val u.isLt, ← h4, ← Ideal.ofBits_one_f32, val_main_v12_apply, val_main_v11_apply, val_main_v10_apply,
    val_main_v4_apply, val_main_v3_apply, val_main_v9_apply]
  rfl

/-- The reference's group of channels. -/
theorem ref_part (x : S2x2048x1024.Idx → EReal) : val_main_v0 (F := Ideal) x = part x 3 := by
  funext i
  rw [val_main_v0_apply]
  refine congrArg x (funext fun a => Fin.ext ?_)
  match a with
  | ⟨0, _⟩ => rfl
  | ⟨1, _⟩ => rfl
  | ⟨2, _⟩ => show _ = 256 * 3 + (i 2).val; simp

/-- What the reference returns of finite frames. -/
theorem returns (x : S2x2048x1024.Idx → EReal) (hx : ∀ i, max (part x 3 i) (-part x 3 i) < ⊤) (r : Fin 4096) (k : Fin 256) :
    val_main_v16 (F := Ideal) x (ix2 r k) = mean (part x 3) 16 (ep r) (fr r) k := by
  have h := ref_mean (part x 3) hx 16 2032 rfl (val_main_call0_call0_v0 (F := Ideal))
    (fun i => (val_main_call0_call0_v0_apply i).trans Ideal.ofBits_zero_f32) (val_main_v5 (F := Ideal))
    (fun i => (val_main_v5_apply i).trans Ideal.ofBits_zero_f32) (val_main_v12 (F := Ideal)) ref_cnt
    reduceWindows_S2x2048x256_S2x2048x256_w1s1p0_0_w2048s1p2047_0_w1s1p0_0 h_S_ slices_S2x2048x256_S2x2032x256_0_0_0
    concatenates_S2x16x256_S2x2032x256_S2x2048x256_d1 (ep r) (fr r) k
  rw [← ref_part] at h
  rw [← ref_part]
  refine Eq.trans ?_ h
  rw [val_main_v16_apply]
  unfold val_main_v15
  exact shapeCast_apply _ _ (ix2 r k) (ix3 (ep r) (fr r) k) (by
    rw [Shape.rowMajor_val_three, Shape.rowMajor_val_two]
    show (r.val / 2048 * 2048 + r.val % 2048) * 256 + k.val = r.val * 256 + k.val
    omega)

end

open Idealize.ShloMosaic.StableHlo in
/-- The kernel and its reference leave the same array. -/
theorem values : algebraic_Pool16FwdIdeal_Pool16FwdRefIdeal_pre_pooled_finite (hPool16FwdIdeal := Cert.Pool16FwdIdeal.Gen.facts)
    (hPool16FwdRefIdeal := Cert.Pool16FwdRefIdeal.Gen.facts) (hPre_pooled_finite := Cert.Pre_pooled_finite.Gen.facts) := by
  pair_intro
  · run_from Cert.Pool16FwdIdeal.Value.run_blocks m g
  · run_from Cert.Pool16FwdRefIdeal.Value.run m' g'
    · rw [final m c _ rfl, ← hagree c]
      refine Eq.trans (Cert.Pool16FwdRefIdeal.Read.val_main_v16_eq (F := Ideal) _) ?_
      funext i
      obtain ⟨r, k, rfl⟩ : ∃ r k, i = ValueIdx.ix2 r k := ⟨i 0, i 1, ValueIdx.eq_ix2 i⟩
      exact returns _ (by rw [hagree c]; exact finite (hpre c) 3) r k

/-- The reference keeps its arguments; it declares no counter. -/
theorem ref_frame : quiescent_Pool16FwdRefIdeal (hPool16FwdRefIdeal := Cert.Pool16FwdRefIdeal.Gen.facts) := fun m g _ =>
  (θ_run Cert.Pool16FwdRefIdeal.defs _ _).mono (fun r h => ⟨fun c => (h c).2, sem_eq_zero_of_no_sems (by decide) r.2⟩)
    (Cert.Pool16FwdRefIdeal.Value.run (F := Ideal) m g)

end Cert.Pool16Fwd

end

end
-- ==== Proof.Pool8Fwd.lean ====
module
public import proofs.«01_k».proof.Defs
public import proofs.«01_k».proof.Proof.PoolFwd
public import proofs.«01_k».proof.Proof.Gen.Pool8Fwd.Frame
public import proofs.«01_k».proof.Proof.Gen.Pool8FwdIdeal.Frame
public import proofs.«01_k».proof.Proof.Gen.Pool8FwdIdeal.Value
public import proofs.«01_k».proof.Proof.Gen.Pool8FwdRefIdeal
public import proofs.«01_k».proof.Proof.Gen.Pool8FwdRefIdeal.Run
public import proofs.«01_k».proof.Proof.Gen.Pool8FwdRefIdeal.Read
public import Idealize.ShloMosaic.Lib.StableHlo.RunRead
public import Idealize.ShloMosaic.Lib.Claim
public import Idealize.ShloMosaic.Adequacy
public import Idealize.ShloMosaic.Init

/-! What the forward kernel of the group that pools over eight frames leaves, beside its reference. -/

@[expose] public section

set_option maxRecDepth 16384

noncomputable section

open Idealize.ShloMosaic Idealize.ShloMosaic.TcCoe Idealize.SL.Sem
open Idealize.ShloMosaic.Pipeline (Dat)

namespace Cert.Pool8Fwd
open Cert.Common Cert.PoolFwd
open Cert.Pool (win cnt cnt_float)

section
open Cert.Pool8FwdIdeal Cert.Pool8FwdIdeal.Gen

variable (m : (ℓ : Loc nD τ sig) → Buf (Elt Ideal) ℓ)

/-- Which block each window reads or writes at a grid point. -/
theorem idx_val : ∀ t : Fin cfg0.N, Pool8FwdIdeal.win0_0.index t = ![t.val, 2] ∧ Pool8FwdIdeal.win0_1.index t = ![t.val, 0] :=
  (by decide +kernel : ∀ t : Fin grid0.N, _)

/-- The doubling, then the mean, then the frame itself taken away. -/
theorem payload (P : FVec Ideal S2048x256 .bf16) (t : Fin 2048) (k : Fin 256) :
    k0_pay1 (F := Ideal) P (ix2 t k) = Ideal.div (win (rv fun u => P (ix2 u k)) 8 (2047 - t.val)) (cnt 8 t.val) - P (ix2 t k) := by
  have h0 : ∀ (t : Fin 2048) (k : Fin 256), extf (F := Ideal) .f32 P bitsLt_bf16_f32 (ix2 t k) = win (rv fun u => P (ix2 u k)) 1 (2047 - t.val) :=
    fun t k => one (fun u => P (ix2 u k)) t
  have h1 := step (f := fun k => rv fun u => P (ix2 u k)) 1 (by omega) h0 1#32 rfl _ Ideal.ofBits_zero_f32 iota_S2048x256_d0_w32 rotates_S2048x256_d0
  have h2 := step (f := fun k => rv fun u => P (ix2 u k)) 2 (by omega) h1 2#32 rfl _ Ideal.ofBits_zero_f32 iota_S2048x256_d0_w32 rotates_S2048x256_d0
  have h3 := step (f := fun k => rv fun u => P (ix2 u k)) 4 (by omega) h2 4#32 rfl _ Ideal.ofBits_zero_f32 iota_S2048x256_d0_w32 rotates_S2048x256_d0
  rw [← h3 t k]
  unfold k0_pay1
  rw [shapeCast_self]
  exact congrArg (· - P (ix2 t k)) (over 8 (by omega) _ iota_S2048x256_d0_w32 t k)

/-- There are two grid points, one for each episode. -/
theorem lt2 (t : Fin cfg0.N) : t.val < 2 := lt_of_lt_of_eq t.isLt (show cfg0.N = 2 from N_0)

theorem blk0 (c : Dev nD) (t : Fin cfg0.N) (x : S2x2048x1024.Idx → EReal) (h : m ((c : Thread nD τ).loc main_arg0) = x) (u : Fin 2048) (k : Fin 256) :
    iblk m c 0 t (ix2 u k) = part x 2 (ix3 ⟨t.val, lt2 t⟩ u k) := by
  subst h
  have := lt2 t
  blk_point [iblk, V, idx_val t] <;> (try simp only [ch]) <;> (try simp) <;> (try omega)

/-- The block a point leaves. -/
theorem point (c : Dev nD) (t : Fin cfg0.N) (x : S2x2048x1024.Idx → EReal) (h : m ((c : Thread nD τ).loc main_arg0) = x) (u : Fin 2048) (k : Fin 256) :
    out0_1 (iblk m c 0 t) (ix2 u k) = mean (part x 2) 8 ⟨t.val, lt2 t⟩ u k := by
  have hb := blk0 m c t x h
  generalize iblk m c 0 t = P at hb ⊢
  frame_out
  refine (payload P u k).trans ?_
  simp only [hb]
  rfl

/-- What the kernel leaves. -/
theorem final (c : Dev nD) (x : S2x2048x1024.Idx → EReal) (h : m ((c : Thread nD τ).loc main_arg0) = x) :
    (dats m 0 c).arrAt 1 cfg0.N = fun i : S4096x256.Idx => mean (part x 2) 8 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t x h]
  congr 1 <;> apply Fin.ext <;> simp only [ep, fr] <;> blk_simp [idx_val t] <;> (try simp) <;> omega

end

section
open Cert.Pool8FwdRefIdeal Cert.Pool8FwdRefIdeal.Gen Cert.Pool8FwdRefIdeal.Read

/-- The number of frames in a window, as the reference computes it. -/
theorem ref_cnt (e : Fin 2) (u : Fin 2048) (k : Fin 256) : val_main_v12 (F := Ideal) (ix3 e u k) = cnt 8 u.val := by
  have h4 : Ideal.ofBits .f32 0x41000000#32 = (((8 : ℕ) : ℝ) : EReal) := by
    simp [Ideal.ofBits, Ideal.ieee, -EReal.coe_mul]
    norm_num
  rw [← cnt_float 8 u.val u.isLt, ← h4, ← Ideal.ofBits_one_f32, val_main_v12_apply, val_main_v11_apply, val_main_v10_apply,
    val_main_v4_apply, val_main_v3_apply, val_main_v9_apply]
  rfl

/-- The reference's group of channels. -/
theorem ref_part (x : S2x2048x1024.Idx → EReal) : val_main_v0 (F := Ideal) x = part x 2 := by
  funext i
  rw [val_main_v0_apply]
  refine congrArg x (funext fun a => Fin.ext ?_)
  match a with
  | ⟨0, _⟩ => rfl
  | ⟨1, _⟩ => rfl
  | ⟨2, _⟩ => show _ = 256 * 2 + (i 2).val; simp

/-- What the reference returns of finite frames. -/
theorem returns (x : S2x2048x1024.Idx → EReal) (hx : ∀ i, max (part x 2 i) (-part x 2 i) < ⊤) (r : Fin 4096) (k : Fin 256) :
    val_main_v16 (F := Ideal) x (ix2 r k) = mean (part x 2) 8 (ep r) (fr r) k := by
  have h := ref_mean (part x 2) hx 8 2040 rfl (val_main_call0_call0_v0 (F := Ideal))
    (fun i => (val_main_call0_call0_v0_apply i).trans Ideal.ofBits_zero_f32) (val_main_v5 (F := Ideal))
    (fun i => (val_main_v5_apply i).trans Ideal.ofBits_zero_f32) (val_main_v12 (F := Ideal)) ref_cnt
    reduceWindows_S2x2048x256_S2x2048x256_w1s1p0_0_w2048s1p2047_0_w1s1p0_0 h_S_ slices_S2x2048x256_S2x2040x256_0_0_0
    concatenates_S2x8x256_S2x2040x256_S2x2048x256_d1 (ep r) (fr r) k
  rw [← ref_part] at h
  rw [← ref_part]
  refine Eq.trans ?_ h
  rw [val_main_v16_apply]
  unfold val_main_v15
  exact shapeCast_apply _ _ (ix2 r k) (ix3 (ep r) (fr r) k) (by
    rw [Shape.rowMajor_val_three, Shape.rowMajor_val_two]
    show (r.val / 2048 * 2048 + r.val % 2048) * 256 + k.val = r.val * 256 + k.val
    omega)

end

open Idealize.ShloMosaic.StableHlo in
/-- The kernel and its reference leave the same array. -/
theorem values : algebraic_Pool8FwdIdeal_Pool8FwdRefIdeal_pre_pooled_finite (hPool8FwdIdeal := Cert.Pool8FwdIdeal.Gen.facts)
    (hPool8FwdRefIdeal := Cert.Pool8FwdRefIdeal.Gen.facts) (hPre_pooled_finite := Cert.Pre_pooled_finite.Gen.facts) := by
  pair_intro
  · run_from Cert.Pool8FwdIdeal.Value.run_blocks m g
  · run_from Cert.Pool8FwdRefIdeal.Value.run m' g'
    · rw [final m c _ rfl, ← hagree c]
      refine Eq.trans (Cert.Pool8FwdRefIdeal.Read.val_main_v16_eq (F := Ideal) _) ?_
      funext i
      obtain ⟨r, k, rfl⟩ : ∃ r k, i = ValueIdx.ix2 r k := ⟨i 0, i 1, ValueIdx.eq_ix2 i⟩
      exact returns _ (by rw [hagree c]; exact finite (hpre c) 2) r k

/-- The reference keeps its arguments; it declares no counter. -/
theorem ref_frame : quiescent_Pool8FwdRefIdeal (hPool8FwdRefIdeal := Cert.Pool8FwdRefIdeal.Gen.facts) := fun m g _ =>
  (θ_run Cert.Pool8FwdRefIdeal.defs _ _).mono (fun r h => ⟨fun c => (h c).2, sem_eq_zero_of_no_sems (by decide) r.2⟩)
    (Cert.Pool8FwdRefIdeal.Value.run (F := Ideal) m g)

end Cert.Pool8Fwd

end

end
-- ==== Proof.Pool4Fwd.lean ====
module
public import proofs.«01_k».proof.Defs
public import proofs.«01_k».proof.Proof.PoolFwd
public import proofs.«01_k».proof.Proof.Gen.Pool4Fwd.Frame
public import proofs.«01_k».proof.Proof.Gen.Pool4FwdIdeal.Frame
public import proofs.«01_k».proof.Proof.Gen.Pool4FwdIdeal.Value
public import proofs.«01_k».proof.Proof.Gen.Pool4FwdRefIdeal
public import proofs.«01_k».proof.Proof.Gen.Pool4FwdRefIdeal.Run
public import proofs.«01_k».proof.Proof.Gen.Pool4FwdRefIdeal.Read
public import Idealize.ShloMosaic.Lib.StableHlo.RunRead
public import Idealize.ShloMosaic.Lib.Claim
public import Idealize.ShloMosaic.Adequacy
public import Idealize.ShloMosaic.Init

/-! What the forward kernel of the group that pools over four frames leaves, beside its reference. -/

@[expose] public section

set_option maxRecDepth 16384

noncomputable section

open Idealize.ShloMosaic Idealize.ShloMosaic.TcCoe Idealize.SL.Sem
open Idealize.ShloMosaic.Pipeline (Dat)

namespace Cert.Pool4Fwd
open Cert.Common Cert.PoolFwd
open Cert.Pool (win cnt cnt_float)

section
open Cert.Pool4FwdIdeal Cert.Pool4FwdIdeal.Gen

variable (m : (ℓ : Loc nD τ sig) → Buf (Elt Ideal) ℓ)

/-- Which block each window reads or writes at a grid point. -/
theorem idx_val : ∀ t : Fin cfg0.N, Pool4FwdIdeal.win0_0.index t = ![t.val, 1] ∧ Pool4FwdIdeal.win0_1.index t = ![t.val, 0] :=
  (by decide +kernel : ∀ t : Fin grid0.N, _)

/-- The doubling, then the mean, then the frame itself taken away. -/
theorem payload (P : FVec Ideal S2048x256 .bf16) (t : Fin 2048) (k : Fin 256) :
    k0_pay1 (F := Ideal) P (ix2 t k) = Ideal.div (win (rv fun u => P (ix2 u k)) 4 (2047 - t.val)) (cnt 4 t.val) - P (ix2 t k) := by
  have h0 : ∀ (t : Fin 2048) (k : Fin 256), extf (F := Ideal) .f32 P bitsLt_bf16_f32 (ix2 t k) = win (rv fun u => P (ix2 u k)) 1 (2047 - t.val) :=
    fun t k => one (fun u => P (ix2 u k)) t
  have h1 := step (f := fun k => rv fun u => P (ix2 u k)) 1 (by omega) h0 1#32 rfl _ Ideal.ofBits_zero_f32 iota_S2048x256_d0_w32 rotates_S2048x256_d0
  have h2 := step (f := fun k => rv fun u => P (ix2 u k)) 2 (by omega) h1 2#32 rfl _ Ideal.ofBits_zero_f32 iota_S2048x256_d0_w32 rotates_S2048x256_d0
  rw [← h2 t k]
  unfold k0_pay1
  rw [shapeCast_self]
  exact congrArg (· - P (ix2 t k)) (over 4 (by omega) _ iota_S2048x256_d0_w32 t k)

/-- There are two grid points, one for each episode. -/
theorem lt2 (t : Fin cfg0.N) : t.val < 2 := lt_of_lt_of_eq t.isLt (show cfg0.N = 2 from N_0)

theorem blk0 (c : Dev nD) (t : Fin cfg0.N) (x : S2x2048x1024.Idx → EReal) (h : m ((c : Thread nD τ).loc main_arg0) = x) (u : Fin 2048) (k : Fin 256) :
    iblk m c 0 t (ix2 u k) = part x 1 (ix3 ⟨t.val, lt2 t⟩ u k) := by
  subst h
  have := lt2 t
  blk_point [iblk, V, idx_val t] <;> (try simp only [ch]) <;> (try simp) <;> (try omega)

/-- The block a point leaves. -/
theorem point (c : Dev nD) (t : Fin cfg0.N) (x : S2x2048x1024.Idx → EReal) (h : m ((c : Thread nD τ).loc main_arg0) = x) (u : Fin 2048) (k : Fin 256) :
    out0_1 (iblk m c 0 t) (ix2 u k) = mean (part x 1) 4 ⟨t.val, lt2 t⟩ u k := by
  have hb := blk0 m c t x h
  generalize iblk m c 0 t = P at hb ⊢
  frame_out
  refine (payload P u k).trans ?_
  simp only [hb]
  rfl

/-- What the kernel leaves. -/
theorem final (c : Dev nD) (x : S2x2048x1024.Idx → EReal) (h : m ((c : Thread nD τ).loc main_arg0) = x) :
    (dats m 0 c).arrAt 1 cfg0.N = fun i : S4096x256.Idx => mean (part x 1) 4 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t x h]
  congr 1 <;> apply Fin.ext <;> simp only [ep, fr] <;> blk_simp [idx_val t] <;> (try simp) <;> omega

end

section
open Cert.Pool4FwdRefIdeal Cert.Pool4FwdRefIdeal.Gen Cert.Pool4FwdRefIdeal.Read

/-- The number of frames in a window, as the reference computes it. -/
theorem ref_cnt (e : Fin 2) (u : Fin 2048) (k : Fin 256) : val_main_v12 (F := Ideal) (ix3 e u k) = cnt 4 u.val := by
  have h4 : Ideal.ofBits .f32 0x40800000#32 = (((4 : ℕ) : ℝ) : EReal) := by
    simp [Ideal.ofBits, Ideal.ieee, -EReal.coe_mul]
    norm_num
  rw [← cnt_float 4 u.val u.isLt, ← h4, ← Ideal.ofBits_one_f32, val_main_v12_apply, val_main_v11_apply, val_main_v10_apply,
    val_main_v4_apply, val_main_v3_apply, val_main_v9_apply]
  rfl

/-- The reference's group of channels. -/
theorem ref_part (x : S2x2048x1024.Idx → EReal) : val_main_v0 (F := Ideal) x = part x 1 := by
  funext i
  rw [val_main_v0_apply]
  refine congrArg x (funext fun a => Fin.ext ?_)
  match a with
  | ⟨0, _⟩ => rfl
  | ⟨1, _⟩ => rfl
  | ⟨2, _⟩ => show _ = 256 * 1 + (i 2).val; simp

/-- What the reference returns of finite frames. -/
theorem returns (x : S2x2048x1024.Idx → EReal) (hx : ∀ i, max (part x 1 i) (-part x 1 i) < ⊤) (r : Fin 4096) (k : Fin 256) :
    val_main_v16 (F := Ideal) x (ix2 r k) = mean (part x 1) 4 (ep r) (fr r) k := by
  have h := ref_mean (part x 1) hx 4 2044 rfl (val_main_call0_call0_v0 (F := Ideal))
    (fun i => (val_main_call0_call0_v0_apply i).trans Ideal.ofBits_zero_f32) (val_main_v5 (F := Ideal))
    (fun i => (val_main_v5_apply i).trans Ideal.ofBits_zero_f32) (val_main_v12 (F := Ideal)) ref_cnt
    reduceWindows_S2x2048x256_S2x2048x256_w1s1p0_0_w2048s1p2047_0_w1s1p0_0 h_S_ slices_S2x2048x256_S2x2044x256_0_0_0
    concatenates_S2x4x256_S2x2044x256_S2x2048x256_d1 (ep r) (fr r) k
  rw [← ref_part] at h
  rw [← ref_part]
  refine Eq.trans ?_ h
  rw [val_main_v16_apply]
  unfold val_main_v15
  exact shapeCast_apply _ _ (ix2 r k) (ix3 (ep r) (fr r) k) (by
    rw [Shape.rowMajor_val_three, Shape.rowMajor_val_two]
    show (r.val / 2048 * 2048 + r.val % 2048) * 256 + k.val = r.val * 256 + k.val
    omega)

end

open Idealize.ShloMosaic.StableHlo in
/-- The kernel and its reference leave the same array. -/
theorem values : algebraic_Pool4FwdIdeal_Pool4FwdRefIdeal_pre_pooled_finite (hPool4FwdIdeal := Cert.Pool4FwdIdeal.Gen.facts)
    (hPool4FwdRefIdeal := Cert.Pool4FwdRefIdeal.Gen.facts) (hPre_pooled_finite := Cert.Pre_pooled_finite.Gen.facts) := by
  pair_intro
  · run_from Cert.Pool4FwdIdeal.Value.run_blocks m g
  · run_from Cert.Pool4FwdRefIdeal.Value.run m' g'
    · rw [final m c _ rfl, ← hagree c]
      refine Eq.trans (Cert.Pool4FwdRefIdeal.Read.val_main_v16_eq (F := Ideal) _) ?_
      funext i
      obtain ⟨r, k, rfl⟩ : ∃ r k, i = ValueIdx.ix2 r k := ⟨i 0, i 1, ValueIdx.eq_ix2 i⟩
      exact returns _ (by rw [hagree c]; exact finite (hpre c) 1) r k

/-- The reference keeps its arguments; it declares no counter. -/
theorem ref_frame : quiescent_Pool4FwdRefIdeal (hPool4FwdRefIdeal := Cert.Pool4FwdRefIdeal.Gen.facts) := fun m g _ =>
  (θ_run Cert.Pool4FwdRefIdeal.defs _ _).mono (fun r h => ⟨fun c => (h c).2, sem_eq_zero_of_no_sems (by decide) r.2⟩)
    (Cert.Pool4FwdRefIdeal.Value.run (F := Ideal) m g)

end Cert.Pool4Fwd

end

end
-- ==== Proof.Pool2Fwd.lean ====
module
public import proofs.«01_k».proof.Defs
public import proofs.«01_k».proof.Proof.PoolFwd
public import proofs.«01_k».proof.Proof.Gen.Pool2Fwd.Frame
public import proofs.«01_k».proof.Proof.Gen.Pool2FwdIdeal.Frame
public import proofs.«01_k».proof.Proof.Gen.Pool2FwdIdeal.Value
public import proofs.«01_k».proof.Proof.Gen.Pool2FwdRefIdeal
public import proofs.«01_k».proof.Proof.Gen.Pool2FwdRefIdeal.Run
public import proofs.«01_k».proof.Proof.Gen.Pool2FwdRefIdeal.Read
public import Idealize.ShloMosaic.Lib.StableHlo.RunRead
public import Idealize.ShloMosaic.Lib.Claim
public import Idealize.ShloMosaic.Adequacy
public import Idealize.ShloMosaic.Init

/-! What the forward kernel of the group that pools over two frames leaves, beside its reference. -/

@[expose] public section

set_option maxRecDepth 16384

noncomputable section

open Idealize.ShloMosaic Idealize.ShloMosaic.TcCoe Idealize.SL.Sem
open Idealize.ShloMosaic.Pipeline (Dat)

namespace Cert.Pool2Fwd
open Cert.Common Cert.PoolFwd
open Cert.Pool (win cnt cnt_float)

section
open Cert.Pool2FwdIdeal Cert.Pool2FwdIdeal.Gen

variable (m : (ℓ : Loc nD τ sig) → Buf (Elt Ideal) ℓ)

/-- Which block each window reads or writes at a grid point. -/
theorem idx_val : ∀ t : Fin cfg0.N, Pool2FwdIdeal.win0_0.index t = ![t.val, 0] ∧ Pool2FwdIdeal.win0_1.index t = ![t.val, 0] :=
  (by decide +kernel : ∀ t : Fin grid0.N, _)

/-- The doubling, then the mean, then the frame itself taken away. -/
theorem payload (P : FVec Ideal S2048x256 .bf16) (t : Fin 2048) (k : Fin 256) :
    k0_pay1 (F := Ideal) P (ix2 t k) = Ideal.div (win (rv fun u => P (ix2 u k)) 2 (2047 - t.val)) (cnt 2 t.val) - P (ix2 t k) := by
  have h0 : ∀ (t : Fin 2048) (k : Fin 256), extf (F := Ideal) .f32 P bitsLt_bf16_f32 (ix2 t k) = win (rv fun u => P (ix2 u k)) 1 (2047 - t.val) :=
    fun t k => one (fun u => P (ix2 u k)) t
  have h1 := step (f := fun k => rv fun u => P (ix2 u k)) 1 (by omega) h0 1#32 rfl _ Ideal.ofBits_zero_f32 iota_S2048x256_d0_w32 rotates_S2048x256_d0
  rw [← h1 t k]
  unfold k0_pay1
  rw [shapeCast_self]
  exact congrArg (· - P (ix2 t k)) (over 2 (by omega) _ iota_S2048x256_d0_w32 t k)

/-- There are two grid points, one for each episode. -/
theorem lt2 (t : Fin cfg0.N) : t.val < 2 := lt_of_lt_of_eq t.isLt (show cfg0.N = 2 from N_0)

theorem blk0 (c : Dev nD) (t : Fin cfg0.N) (x : S2x2048x1024.Idx → EReal) (h : m ((c : Thread nD τ).loc main_arg0) = x) (u : Fin 2048) (k : Fin 256) :
    iblk m c 0 t (ix2 u k) = part x 0 (ix3 ⟨t.val, lt2 t⟩ u k) := by
  subst h
  have := lt2 t
  blk_point [iblk, V, idx_val t] <;> (try simp only [ch]) <;> (try simp) <;> (try omega)

/-- The block a point leaves. -/
theorem point (c : Dev nD) (t : Fin cfg0.N) (x : S2x2048x1024.Idx → EReal) (h : m ((c : Thread nD τ).loc main_arg0) = x) (u : Fin 2048) (k : Fin 256) :
    out0_1 (iblk m c 0 t) (ix2 u k) = mean (part x 0) 2 ⟨t.val, lt2 t⟩ u k := by
  have hb := blk0 m c t x h
  generalize iblk m c 0 t = P at hb ⊢
  frame_out
  refine (payload P u k).trans ?_
  simp only [hb]
  rfl

/-- What the kernel leaves. -/
theorem final (c : Dev nD) (x : S2x2048x1024.Idx → EReal) (h : m ((c : Thread nD τ).loc main_arg0) = x) :
    (dats m 0 c).arrAt 1 cfg0.N = fun i : S4096x256.Idx => mean (part x 0) 2 (ep (i 0)) (fr (i 0)) (i 1) := by
  refine (dats m 0 c).arrAt_eq_of_covers 1 _ (by decide +kernel) fun t hf y => ?_
  obtain ⟨q, k, rfl⟩ : ∃ (q : Fin 2048) (k : Fin 256), y = ix2 q k := ⟨y 0, y 1, eq_ix2 y⟩
  have ht := lt2 t
  blk_simp
  rw [after0_1, point m c t x h]
  congr 1 <;> apply Fin.ext <;> simp only [ep, fr] <;> blk_simp [idx_val t] <;> (try simp) <;> omega

end

section
open Cert.Pool2FwdRefIdeal Cert.Pool2FwdRefIdeal.Gen Cert.Pool2FwdRefIdeal.Read

/-- The number of frames in a window, as the reference computes it. -/
theorem ref_cnt (e : Fin 2) (u : Fin 2048) (k : Fin 256) : val_main_v12 (F := Ideal) (ix3 e u k) = cnt 2 u.val := by
  have h4 : Ideal.ofBits .f32 0x40000000#32 = (((2 : ℕ) : ℝ) : EReal) := by
    simp [Ideal.ofBits, Ideal.ieee, -EReal.coe_mul]
    norm_num
  rw [← cnt_float 2 u.val u.isLt, ← h4, ← Ideal.ofBits_one_f32, val_main_v12_apply, val_main_v11_apply, val_main_v10_apply,
    val_main_v4_apply, val_main_v3_apply, val_main_v9_apply]
  rfl

/-- The reference's group of channels. -/
theorem ref_part (x : S2x2048x1024.Idx → EReal) : val_main_v0 (F := Ideal) x = part x 0 := by
  funext i
  rw [val_main_v0_apply]
  refine congrArg x (funext fun a => Fin.ext ?_)
  match a with
  | ⟨0, _⟩ => rfl
  | ⟨1, _⟩ => rfl
  | ⟨2, _⟩ => show _ = 256 * 0 + (i 2).val; simp

/-- What the reference returns of finite frames. -/
theorem returns (x : S2x2048x1024.Idx → EReal) (hx : ∀ i, max (part x 0 i) (-part x 0 i) < ⊤) (r : Fin 4096) (k : Fin 256) :
    val_main_v16 (F := Ideal) x (ix2 r k) = mean (part x 0) 2 (ep r) (fr r) k := by
  have h := ref_mean (part x 0) hx 2 2046 rfl (val_main_call0_call0_v0 (F := Ideal))
    (fun i => (val_main_call0_call0_v0_apply i).trans Ideal.ofBits_zero_f32) (val_main_v5 (F := Ideal))
    (fun i => (val_main_v5_apply i).trans Ideal.ofBits_zero_f32) (val_main_v12 (F := Ideal)) ref_cnt
    reduceWindows_S2x2048x256_S2x2048x256_w1s1p0_0_w2048s1p2047_0_w1s1p0_0 h_S_ slices_S2x2048x256_S2x2046x256_0_0_0
    concatenates_S2x2x256_S2x2046x256_S2x2048x256_d1 (ep r) (fr r) k
  rw [← ref_part] at h
  rw [← ref_part]
  refine Eq.trans ?_ h
  rw [val_main_v16_apply]
  unfold val_main_v15
  exact shapeCast_apply _ _ (ix2 r k) (ix3 (ep r) (fr r) k) (by
    rw [Shape.rowMajor_val_three, Shape.rowMajor_val_two]
    show (r.val / 2048 * 2048 + r.val % 2048) * 256 + k.val = r.val * 256 + k.val
    omega)

end

open Idealize.ShloMosaic.StableHlo in
/-- The kernel and its reference leave the same array. -/
theorem values : algebraic_Pool2FwdIdeal_Pool2FwdRefIdeal_pre_pooled_finite (hPool2FwdIdeal := Cert.Pool2FwdIdeal.Gen.facts)
    (hPool2FwdRefIdeal := Cert.Pool2FwdRefIdeal.Gen.facts) (hPre_pooled_finite := Cert.Pre_pooled_finite.Gen.facts) := by
  pair_intro
  · run_from Cert.Pool2FwdIdeal.Value.run_blocks m g
  · run_from Cert.Pool2FwdRefIdeal.Value.run m' g'
    · rw [final m c _ rfl, ← hagree c]
      refine Eq.trans (Cert.Pool2FwdRefIdeal.Read.val_main_v16_eq (F := Ideal) _) ?_
      funext i
      obtain ⟨r, k, rfl⟩ : ∃ r k, i = ValueIdx.ix2 r k := ⟨i 0, i 1, ValueIdx.eq_ix2 i⟩
      exact returns _ (by rw [hagree c]; exact finite (hpre c) 0) r k

/-- The reference keeps its arguments; it declares no counter. -/
theorem ref_frame : quiescent_Pool2FwdRefIdeal (hPool2FwdRefIdeal := Cert.Pool2FwdRefIdeal.Gen.facts) := fun m g _ =>
  (θ_run Cert.Pool2FwdRefIdeal.defs _ _).mono (fun r h => ⟨fun c => (h c).2, sem_eq_zero_of_no_sems (by decide) r.2⟩)
    (Cert.Pool2FwdRefIdeal.Value.run (F := Ideal) m g)

end Cert.Pool2Fwd

end

end
-- ==== Proof.lean ====
/- The proof of the certificate's claims: what each kernel leaves is computed in its own module under `Proof/`, what
   its reference returns beside it, and here the two are put together. -/
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Conv
public import proofs.«01_k».proof.Proof.COutPair
public import proofs.«01_k».proof.Proof.CInPair
public import proofs.«01_k».proof.Proof.BInPair
public import proofs.«01_k».proof.Proof.LossPair
public import proofs.«01_k».proof.Proof.FfnPair
public import proofs.«01_k».proof.Proof.GmlpPair
public import proofs.«01_k».proof.Proof.Pool2
public import proofs.«01_k».proof.Proof.Pool4
public import proofs.«01_k».proof.Proof.Pool8
public import proofs.«01_k».proof.Proof.Pool16
public import proofs.«01_k».proof.Proof.GmlpFwd
public import proofs.«01_k».proof.Proof.FfnFwd
public import proofs.«01_k».proof.Proof.ConvFwd
public import proofs.«01_k».proof.Proof.BInFwd
public import proofs.«01_k».proof.Proof.COutFwd
public import proofs.«01_k».proof.Proof.CInFwd
public import proofs.«01_k».proof.Proof.AdamW
public import proofs.«01_k».proof.Proof.Swap
public import proofs.«01_k».proof.Proof.DownGrad
public import proofs.«01_k».proof.Proof.OutGrad
public import proofs.«01_k».proof.Proof.OutProj
public import proofs.«01_k».proof.Proof.Pool16Fwd
public import proofs.«01_k».proof.Proof.Pool8Fwd
public import proofs.«01_k».proof.Proof.Pool4Fwd
public import proofs.«01_k».proof.Proof.Pool2Fwd
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.ValueIdx

/-- The convolution's kernel and its reference leave the same arrays. -/
theorem conv_values : algebraic_ConvBwdIdeal_ConvBwdRefIdeal (hConvBwdIdeal := Cert.ConvBwdIdeal.Gen.facts)
    (hConvBwdRefIdeal := Cert.ConvBwdRefIdeal.Gen.facts) := by
  pair_intro
  · run_from Cert.ConvBwdIdeal.Value.run_blocks m g
  · run_from Cert.ConvBwdRefIdeal.Value.run m' g'
    · rw [Cert.Conv.Kernel.final_3 m _ _ _ c rfl rfl rfl]
      refine (Cert.ConvBwdRefIdeal.Read.val_main_v74_eq m' c).trans ?_
      rw [(hagree c).1, (hagree c).2.1, (hagree c).2.2]
      funext i
      obtain ⟨j, r, k, rfl⟩ : ∃ j r k, i = ValueIdx.ix3 j r k := ⟨i 0, i 1, i 2, ValueIdx.eq_ix3 i⟩
      exact Cert.Conv.ref_dz _ _ _ j _ _ r (Nat.div_add_mod r.val 2048).symm k
    · rw [Cert.Conv.Kernel.final_4 m _ _ c rfl rfl]
      refine Eq.trans (Cert.ConvBwdRefIdeal.Read.val_main_v75_eq (F := Ideal) _ _) ?_
      funext i
      obtain ⟨r, k, rfl⟩ : ∃ r k, i = ValueIdx.ix2 r k := ⟨i 0, i 1, ValueIdx.eq_ix2 i⟩
      exact Cert.Conv.ref_dtaps _ _ r k

/-- The convolution's reference keeps its arguments; it declares no counter. -/
theorem conv_ref_frame : quiescent_ConvBwdRefIdeal (hConvBwdRefIdeal := Cert.ConvBwdRefIdeal.Gen.facts) := fun m g _ =>
  (θ_run Cert.ConvBwdRefIdeal.defs _ _).mono (fun r h => ⟨fun c => (h c).2.2, sem_eq_zero_of_no_sems (by decide) r.2⟩)
    (Cert.ConvBwdRefIdeal.Value.run (F := Ideal) m g)

/-- All the claims of this certificate. -/
theorem claim : Cert.Claim := ⟨Cert.ConvBwd.Gen.facts, Cert.ConvBwdIdeal.Gen.facts, Cert.ConvBwdRefIdeal.Gen.facts,
  Cert.COutBwd.Gen.facts, Cert.COutBwdIdeal.Gen.facts, Cert.COutBwdRefIdeal.Gen.facts,
  Cert.CInBwd.Gen.facts, Cert.CInBwdIdeal.Gen.facts, Cert.CInBwdRefIdeal.Gen.facts,
  Cert.BInBwd.Gen.facts, Cert.BInBwdIdeal.Gen.facts, Cert.BInBwdRefIdeal.Gen.facts,
  Cert.LossHead.Gen.facts, Cert.LossHeadIdeal.Gen.facts, Cert.LossHeadRefIdeal.Gen.facts,
  Cert.FfnBwd.Gen.facts, Cert.FfnBwdIdeal.Gen.facts, Cert.FfnBwdRefIdeal.Gen.facts,
  Cert.GmlpBwd.Gen.facts, Cert.GmlpBwdIdeal.Gen.facts, Cert.GmlpBwdRefIdeal.Gen.facts,
  Cert.Pool2Bwd.Gen.facts, Cert.Pool2BwdIdeal.Gen.facts, Cert.Pool2BwdRefIdeal.Gen.facts,
  Cert.Pool4Bwd.Gen.facts, Cert.Pool4BwdIdeal.Gen.facts, Cert.Pool4BwdRefIdeal.Gen.facts,
  Cert.Pool8Bwd.Gen.facts, Cert.Pool8BwdIdeal.Gen.facts, Cert.Pool8BwdRefIdeal.Gen.facts,
  Cert.Pool16Bwd.Gen.facts, Cert.Pool16BwdIdeal.Gen.facts, Cert.Pool16BwdRefIdeal.Gen.facts,
  Cert.GmlpFwd.Gen.facts, Cert.GmlpFwdIdeal.Gen.facts, Cert.GmlpFwdRefIdeal.Gen.facts,
  Cert.FfnFwd.Gen.facts, Cert.FfnFwdIdeal.Gen.facts, Cert.FfnFwdRefIdeal.Gen.facts,
  Cert.ConvFwd.Gen.facts, Cert.ConvFwdIdeal.Gen.facts, Cert.ConvFwdRefIdeal.Gen.facts,
  Cert.BInFwd.Gen.facts, Cert.BInFwdIdeal.Gen.facts, Cert.BInFwdRefIdeal.Gen.facts,
  Cert.COutFwd.Gen.facts, Cert.COutFwdIdeal.Gen.facts, Cert.COutFwdRefIdeal.Gen.facts,
  Cert.CInFwd.Gen.facts, Cert.CInFwdIdeal.Gen.facts, Cert.CInFwdRefIdeal.Gen.facts,
  Cert.Pool2Fwd.Gen.facts, Cert.Pool2FwdIdeal.Gen.facts, Cert.Pool2FwdRefIdeal.Gen.facts,
  Cert.Pool4Fwd.Gen.facts, Cert.Pool4FwdIdeal.Gen.facts, Cert.Pool4FwdRefIdeal.Gen.facts,
  Cert.Pool8Fwd.Gen.facts, Cert.Pool8FwdIdeal.Gen.facts, Cert.Pool8FwdRefIdeal.Gen.facts,
  Cert.Pool16Fwd.Gen.facts, Cert.Pool16FwdIdeal.Gen.facts, Cert.Pool16FwdRefIdeal.Gen.facts,
  Cert.OutProj.Gen.facts, Cert.OutProjIdeal.Gen.facts, Cert.OutProjRefIdeal.Gen.facts,
  Cert.OutGrad.Gen.facts, Cert.OutGradIdeal.Gen.facts, Cert.OutGradRefIdeal.Gen.facts,
  Cert.DownGrad.Gen.facts, Cert.DownGradIdeal.Gen.facts, Cert.DownGradRefIdeal.Gen.facts,
  Cert.AdamW.Gen.facts, Cert.AdamWIdeal.Gen.facts, Cert.AdamWRefIdeal.Gen.facts,
  Cert.Swap.Gen.facts, Cert.SwapIdeal.Gen.facts, Cert.SwapRefIdeal.Gen.facts,
  Cert.Pre_ffn_finite.Gen.facts, Cert.Pre_gmlp_finite.Gen.facts, Cert.Pre_pool_finite.Gen.facts, Cert.Pre_pooled_finite.Gen.facts,
  fun m ρ _ => Cert.ConvBwd.Gen.frame m ρ, fun m ρ _ => Cert.ConvBwdIdeal.Gen.frame m ρ, conv_ref_frame,
  fun m ρ _ => Cert.COutBwd.Gen.frame m ρ, fun m ρ _ => Cert.COutBwdIdeal.Gen.frame m ρ, Cert.COut.ref_frame,
  fun m ρ _ => Cert.CInBwd.Gen.frame m ρ, fun m ρ _ => Cert.CInBwdIdeal.Gen.frame m ρ, Cert.CIn.ref_frame,
  fun m ρ _ => Cert.BInBwd.Gen.frame m ρ, fun m ρ _ => Cert.BInBwdIdeal.Gen.frame m ρ, Cert.BIn.ref_frame,
  fun m ρ _ => Cert.LossHead.Gen.frame m ρ, fun m ρ _ => Cert.LossHeadIdeal.Gen.frame m ρ, Cert.Loss.ref_frame,
  fun m ρ _ => Cert.FfnBwd.Gen.frame m ρ, fun m ρ _ => Cert.FfnBwdIdeal.Gen.frame m ρ, fun m ρ _ => Cert.FfnBwdIdeal.Gen.frame m ρ,
  Cert.Ffn.ref_frame, fun m ρ _ => Cert.Ffn.ref_frame m ρ trivial,
  fun m ρ _ => Cert.GmlpBwd.Gen.frame m ρ, fun m ρ _ => Cert.GmlpBwdIdeal.Gen.frame m ρ, fun m ρ _ => Cert.GmlpBwdIdeal.Gen.frame m ρ,
  Cert.Gmlp.ref_frame, fun m ρ _ => Cert.Gmlp.ref_frame m ρ trivial,
  fun m ρ _ => Cert.Pool2Bwd.Gen.frame m ρ, fun m ρ _ => Cert.Pool2BwdIdeal.Gen.frame m ρ, fun m ρ _ => Cert.Pool2BwdIdeal.Gen.frame m ρ,
  Cert.Pool.Two.ref_frame, fun m ρ _ => Cert.Pool.Two.ref_frame m ρ trivial,
  fun m ρ _ => Cert.Pool4Bwd.Gen.frame m ρ, fun m ρ _ => Cert.Pool4BwdIdeal.Gen.frame m ρ, fun m ρ _ => Cert.Pool4BwdIdeal.Gen.frame m ρ,
  Cert.Pool.Four.ref_frame, fun m ρ _ => Cert.Pool.Four.ref_frame m ρ trivial,
  fun m ρ _ => Cert.Pool8Bwd.Gen.frame m ρ, fun m ρ _ => Cert.Pool8BwdIdeal.Gen.frame m ρ, fun m ρ _ => Cert.Pool8BwdIdeal.Gen.frame m ρ,
  Cert.Pool.Eight.ref_frame, fun m ρ _ => Cert.Pool.Eight.ref_frame m ρ trivial,
  fun m ρ _ => Cert.Pool16Bwd.Gen.frame m ρ, fun m ρ _ => Cert.Pool16BwdIdeal.Gen.frame m ρ, fun m ρ _ => Cert.Pool16BwdIdeal.Gen.frame m ρ,
  Cert.Pool.Sixteen.ref_frame, fun m ρ _ => Cert.Pool.Sixteen.ref_frame m ρ trivial,
  fun m ρ _ => Cert.GmlpFwd.Gen.frame m ρ, fun m ρ _ => Cert.GmlpFwdIdeal.Gen.frame m ρ, Cert.GmlpFwd.ref_frame,
  fun m ρ _ => Cert.FfnFwd.Gen.frame m ρ, fun m ρ _ => Cert.FfnFwdIdeal.Gen.frame m ρ, Cert.FfnFwd.ref_frame,
  fun m ρ _ => Cert.ConvFwd.Gen.frame m ρ, fun m ρ _ => Cert.ConvFwdIdeal.Gen.frame m ρ, Cert.ConvFwd.ref_frame,
  fun m ρ _ => Cert.BInFwd.Gen.frame m ρ, fun m ρ _ => Cert.BInFwdIdeal.Gen.frame m ρ, Cert.BInFwd.ref_frame,
  fun m ρ _ => Cert.COutFwd.Gen.frame m ρ, fun m ρ _ => Cert.COutFwdIdeal.Gen.frame m ρ, Cert.COutFwd.ref_frame,
  fun m ρ _ => Cert.CInFwd.Gen.frame m ρ, fun m ρ _ => Cert.CInFwdIdeal.Gen.frame m ρ, Cert.CInFwd.ref_frame,
  fun m ρ _ => Cert.Pool2Fwd.Gen.frame m ρ, fun m ρ _ => Cert.Pool2FwdIdeal.Gen.frame m ρ, fun m ρ _ => Cert.Pool2FwdIdeal.Gen.frame m ρ,
  Cert.Pool2Fwd.ref_frame, fun m ρ _ => Cert.Pool2Fwd.ref_frame m ρ trivial,
  fun m ρ _ => Cert.Pool4Fwd.Gen.frame m ρ, fun m ρ _ => Cert.Pool4FwdIdeal.Gen.frame m ρ, fun m ρ _ => Cert.Pool4FwdIdeal.Gen.frame m ρ,
  Cert.Pool4Fwd.ref_frame, fun m ρ _ => Cert.Pool4Fwd.ref_frame m ρ trivial,
  fun m ρ _ => Cert.Pool8Fwd.Gen.frame m ρ, fun m ρ _ => Cert.Pool8FwdIdeal.Gen.frame m ρ, fun m ρ _ => Cert.Pool8FwdIdeal.Gen.frame m ρ,
  Cert.Pool8Fwd.ref_frame, fun m ρ _ => Cert.Pool8Fwd.ref_frame m ρ trivial,
  fun m ρ _ => Cert.Pool16Fwd.Gen.frame m ρ, fun m ρ _ => Cert.Pool16FwdIdeal.Gen.frame m ρ, fun m ρ _ => Cert.Pool16FwdIdeal.Gen.frame m ρ,
  Cert.Pool16Fwd.ref_frame, fun m ρ _ => Cert.Pool16Fwd.ref_frame m ρ trivial,
  fun m ρ _ => Cert.OutProj.Gen.frame m ρ, fun m ρ _ => Cert.OutProjIdeal.Gen.frame m ρ, Cert.OutProj.ref_frame,
  fun m ρ _ => Cert.OutGrad.Gen.frame m ρ, fun m ρ _ => Cert.OutGradIdeal.Gen.frame m ρ, Cert.OutGrad.ref_frame,
  fun m ρ _ => Cert.DownGrad.Gen.frame m ρ, fun m ρ _ => Cert.DownGradIdeal.Gen.frame m ρ, Cert.DownGrad.ref_frame,
  fun m ρ _ => Cert.AdamW.Gen.frame m ρ, fun m ρ _ => Cert.AdamWIdeal.Gen.frame m ρ, Cert.AdamW.ref_frame,
  Cert.Proof.Swap.frame_bits, Cert.Proof.Swap.frame_ideal, Cert.Proof.Swap.ref_frame,
  trivial, conv_values, trivial, Cert.COut.values, trivial, Cert.CIn.values, trivial, Cert.BIn.values, trivial, Cert.Loss.values,
  trivial, Cert.Ffn.values,
  ⟨IdealRules.named_const.statement Cert.GmlpBwdIdeal.κ "inv_sqrt2" .f32 0x3F3504F3#32 (((Real.sqrt 2)⁻¹ : ℝ) : EReal) rfl,
    IdealRules.named_const.statement Cert.GmlpBwdIdeal.κ "inv_sqrt_2pi" .f32 0x3ECC422A#32 (((Real.sqrt (2 * Real.pi))⁻¹ : ℝ) : EReal) rfl⟩,
  Cert.Gmlp.values, trivial, Cert.Pool.Two.values, trivial, Cert.Pool.Four.values, trivial, Cert.Pool.Eight.values, trivial, Cert.Pool.Sixteen.values,
  IdealRules.named_const.statement Cert.GmlpFwdIdeal.κ "inv_sqrt2" .f32 0x3F3504F3#32 (((Real.sqrt 2)⁻¹ : ℝ) : EReal) rfl,
  Cert.GmlpFwd.values, trivial, Cert.FfnFwd.values, trivial, Cert.ConvFwd.values, trivial, Cert.BInFwd.values, trivial, Cert.COutFwd.values,
  trivial, Cert.CInFwd.values, trivial, Cert.Pool2Fwd.values, trivial, Cert.Pool4Fwd.values, trivial, Cert.Pool8Fwd.values, trivial, Cert.Pool16Fwd.values,
  trivial, Cert.OutProj.values, trivial, Cert.OutGrad.values, trivial, Cert.DownGrad.values, trivial, Cert.AdamW.values,
  trivial, Cert.Proof.Swap.values⟩

end Cert.Proof

end

end
